-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_slabs_exist6 : Cert.Pre_slabs_exist6.Facts] (m : (ℓ : Loc Cert.Kernel6.nD Cert.Kernel6.τ Cert.Kernel6.sig) → Buf (Elt Bits) ℓ) : Prop :=
  ∀ c : Dev Cert.Kernel6.nD,
    (Cert.Pre_slabs_exist6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2))) = (fun _ => 1#1)

def Pre_Kernel6Ideal [hPre_slabs_exist6 : Cert.Pre_slabs_exist6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_slabs_exist6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal [hPre_slabs_exist6 : Cert.Pre_slabs_exist6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_slabs_exist6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 [hPre_slabs_exist7 : Cert.Pre_slabs_exist7.Facts] (m : (ℓ : Loc Cert.Kernel7.nD Cert.Kernel7.τ Cert.Kernel7.sig) → Buf (Elt Bits) ℓ) : Prop :=
  ∀ c : Dev Cert.Kernel7.nD,
    (Cert.Pre_slabs_exist7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_slabs_exist7 : Cert.Pre_slabs_exist7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_slabs_exist7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal [hPre_slabs_exist7 : Cert.Pre_slabs_exist7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_slabs_exist7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 [hPre_slabs_exist8 : Cert.Pre_slabs_exist8.Facts] (m : (ℓ : Loc Cert.Kernel8.nD Cert.Kernel8.τ Cert.Kernel8.sig) → Buf (Elt Bits) ℓ) : Prop :=
  ∀ c : Dev Cert.Kernel8.nD,
    (Cert.Pre_slabs_exist8.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_slabs_exist8 : Cert.Pre_slabs_exist8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_slabs_exist8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal [hPre_slabs_exist8 : Cert.Pre_slabs_exist8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_slabs_exist8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 [hPre_slabs_exist9 : Cert.Pre_slabs_exist9.Facts] (m : (ℓ : Loc Cert.Kernel9.nD Cert.Kernel9.τ Cert.Kernel9.sig) → Buf (Elt Bits) ℓ) : Prop :=
  ∀ c : Dev Cert.Kernel9.nD,
    (Cert.Pre_slabs_exist9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4))) = (fun _ => 1#1)

def Pre_Kernel9Ideal [hPre_slabs_exist9 : Cert.Pre_slabs_exist9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_slabs_exist9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal [hPre_slabs_exist9 : Cert.Pre_slabs_exist9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_slabs_exist9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 [hPre_slabs_exist10 : Cert.Pre_slabs_exist10.Facts] (m : (ℓ : Loc Cert.Kernel10.nD Cert.Kernel10.τ Cert.Kernel10.sig) → Buf (Elt Bits) ℓ) : Prop :=
  ∀ c : Dev Cert.Kernel10.nD,
    (Cert.Pre_slabs_exist10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4))) = (fun _ => 1#1)

def Pre_Kernel10Ideal [hPre_slabs_exist10 : Cert.Pre_slabs_exist10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_slabs_exist10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal [hPre_slabs_exist10 : Cert.Pre_slabs_exist10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_slabs_exist10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 [hPre_slabs_exist11 : Cert.Pre_slabs_exist11.Facts] (m : (ℓ : Loc Cert.Kernel11.nD Cert.Kernel11.τ Cert.Kernel11.sig) → Buf (Elt Bits) ℓ) : Prop :=
  ∀ c : Dev Cert.Kernel11.nD,
    (Cert.Pre_slabs_exist11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4))) = (fun _ => 1#1)

def Pre_Kernel11Ideal [hPre_slabs_exist11 : Cert.Pre_slabs_exist11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_slabs_exist11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal [hPre_slabs_exist11 : Cert.Pre_slabs_exist11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_slabs_exist11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 [hPre_slabs_exist12 : Cert.Pre_slabs_exist12.Facts] (m : (ℓ : Loc Cert.Kernel12.nD Cert.Kernel12.τ Cert.Kernel12.sig) → Buf (Elt Bits) ℓ) : Prop :=
  ∀ c : Dev Cert.Kernel12.nD,
    (Cert.Pre_slabs_exist12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))) = (fun _ => 1#1)

def Pre_Kernel12Ideal [hPre_slabs_exist12 : Cert.Pre_slabs_exist12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_slabs_exist12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal [hPre_slabs_exist12 : Cert.Pre_slabs_exist12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_slabs_exist12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 [hPre_own_exists19 : Cert.Pre_own_exists19.Facts] (m : (ℓ : Loc Cert.Kernel19.nD Cert.Kernel19.τ Cert.Kernel19.sig) → Buf (Elt Bits) ℓ) : Prop :=
  ∀ c : Dev Cert.Kernel19.nD,
    (Cert.Pre_own_exists19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4)) (m ((c.tc : Thread Cert.Kernel19.nD Cert.Kernel19.τ).loc Cert.Kernel19.main_arg5)) (m ((c.tc : Thread Cert.Kernel19.nD Cert.Kernel19.τ).loc Cert.Kernel19.main_arg6))) = (fun _ => 1#1)

def Pre_Kernel19Ideal [hPre_own_exists19 : Cert.Pre_own_exists19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_own_exists19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6))) = (fun _ => 1#1)

def Pre_Reference19Ideal [hPre_own_exists19 : Cert.Pre_own_exists19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_own_exists19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6))) = (fun _ => 1#1)

def Pre_Kernel20 [hPre_own_exists20 : Cert.Pre_own_exists20.Facts] (m : (ℓ : Loc Cert.Kernel20.nD Cert.Kernel20.τ Cert.Kernel20.sig) → Buf (Elt Bits) ℓ) : Prop :=
  ∀ c : Dev Cert.Kernel20.nD,
    (Cert.Pre_own_exists20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4)) (m ((c.tc : Thread Cert.Kernel20.nD Cert.Kernel20.τ).loc Cert.Kernel20.main_arg5)) (m ((c.tc : Thread Cert.Kernel20.nD Cert.Kernel20.τ).loc Cert.Kernel20.main_arg6))) = (fun _ => 1#1)

def Pre_Kernel20Ideal [hPre_own_exists20 : Cert.Pre_own_exists20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_own_exists20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6))) = (fun _ => 1#1)

def Pre_Reference20Ideal [hPre_own_exists20 : Cert.Pre_own_exists20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_own_exists20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6))) = (fun _ => 1#1)

def Pre_Kernel21 [hPre_own_exists21 : Cert.Pre_own_exists21.Facts] (m : (ℓ : Loc Cert.Kernel21.nD Cert.Kernel21.τ Cert.Kernel21.sig) → Buf (Elt Bits) ℓ) : Prop :=
  ∀ c : Dev Cert.Kernel21.nD,
    (Cert.Pre_own_exists21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5)) (m ((c.tc : Thread Cert.Kernel21.nD Cert.Kernel21.τ).loc Cert.Kernel21.main_arg6))) = (fun _ => 1#1)

def Pre_Kernel21Ideal [hPre_own_exists21 : Cert.Pre_own_exists21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_own_exists21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6))) = (fun _ => 1#1)

def Pre_Reference21Ideal [hPre_own_exists21 : Cert.Pre_own_exists21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_own_exists21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6))) = (fun _ => 1#1)

def Pre_Kernel23 [hPre_others_exist23 : Cert.Pre_others_exist23.Facts] (m : (ℓ : Loc Cert.Kernel23.nD Cert.Kernel23.τ Cert.Kernel23.sig) → Buf (Elt Bits) ℓ) : Prop :=
  ∀ c : Dev Cert.Kernel23.nD,
    (Cert.Pre_others_exist23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2))) = (fun _ => 1#1)

def Pre_Kernel23Ideal [hPre_others_exist23 : Cert.Pre_others_exist23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_others_exist23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal [hPre_others_exist23 : Cert.Pre_others_exist23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_others_exist23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 [hPre_others_exist24 : Cert.Pre_others_exist24.Facts] (m : (ℓ : Loc Cert.Kernel24.nD Cert.Kernel24.τ Cert.Kernel24.sig) → Buf (Elt Bits) ℓ) : Prop :=
  ∀ c : Dev Cert.Kernel24.nD,
    (Cert.Pre_others_exist24.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2))) = (fun _ => 1#1)

def Pre_Kernel24Ideal [hPre_others_exist24 : Cert.Pre_others_exist24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_others_exist24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) = (fun _ => 1#1)

def Pre_Reference24Ideal [hPre_others_exist24 : Cert.Pre_others_exist24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_others_exist24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))) = (fun _ => 1#1)

def Pre_Kernel25 [hPre_others_exist25 : Cert.Pre_others_exist25.Facts] (m : (ℓ : Loc Cert.Kernel25.nD Cert.Kernel25.τ Cert.Kernel25.sig) → Buf (Elt Bits) ℓ) : Prop :=
  ∀ c : Dev Cert.Kernel25.nD,
    (Cert.Pre_others_exist25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2))) = (fun _ => 1#1)

def Pre_Kernel25Ideal [hPre_others_exist25 : Cert.Pre_others_exist25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_others_exist25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2))) = (fun _ => 1#1)

def Pre_Reference25Ideal [hPre_others_exist25 : Cert.Pre_others_exist25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_others_exist25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))).1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))).1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_slabs_exist6 : Cert.Pre_slabs_exist6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_slabs_exist6 : Cert.Pre_slabs_exist6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] [hPre_slabs_exist6 : Cert.Pre_slabs_exist6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_slabs_exist7 : Cert.Pre_slabs_exist7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_slabs_exist7 : Cert.Pre_slabs_exist7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] [hPre_slabs_exist7 : Cert.Pre_slabs_exist7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_slabs_exist8 : Cert.Pre_slabs_exist8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_slabs_exist8 : Cert.Pre_slabs_exist8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] [hPre_slabs_exist8 : Cert.Pre_slabs_exist8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] [hPre_slabs_exist9 : Cert.Pre_slabs_exist9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] [hPre_slabs_exist9 : Cert.Pre_slabs_exist9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] [hPre_slabs_exist9 : Cert.Pre_slabs_exist9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] [hPre_slabs_exist10 : Cert.Pre_slabs_exist10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] [hPre_slabs_exist10 : Cert.Pre_slabs_exist10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] [hPre_slabs_exist10 : Cert.Pre_slabs_exist10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] [hPre_slabs_exist11 : Cert.Pre_slabs_exist11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] [hPre_slabs_exist11 : Cert.Pre_slabs_exist11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] [hPre_slabs_exist11 : Cert.Pre_slabs_exist11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] [hPre_slabs_exist12 : Cert.Pre_slabs_exist12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] [hPre_slabs_exist12 : Cert.Pre_slabs_exist12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] [hPre_slabs_exist12 : Cert.Pre_slabs_exist12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] [hPre_own_exists19 : Cert.Pre_own_exists19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] [hPre_own_exists19 : Cert.Pre_own_exists19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] [hPre_own_exists19 : Cert.Pre_own_exists19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] [hPre_own_exists20 : Cert.Pre_own_exists20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] [hPre_own_exists20 : Cert.Pre_own_exists20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] [hPre_own_exists20 : Cert.Pre_own_exists20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] [hPre_own_exists21 : Cert.Pre_own_exists21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] [hPre_own_exists21 : Cert.Pre_own_exists21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] [hPre_own_exists21 : Cert.Pre_own_exists21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel23 [hKernel23 : Cert.Kernel23.Facts] [hPre_others_exist23 : Cert.Pre_others_exist23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] [hPre_others_exist23 : Cert.Pre_others_exist23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] [hPre_others_exist23 : Cert.Pre_others_exist23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] [hPre_others_exist24 : Cert.Pre_others_exist24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] [hPre_others_exist24 : Cert.Pre_others_exist24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] [hPre_others_exist24 : Cert.Pre_others_exist24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] [hPre_others_exist25 : Cert.Pre_others_exist25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] [hPre_others_exist25 : Cert.Pre_others_exist25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] [hPre_others_exist25 : Cert.Pre_others_exist25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  IdealRules.named_const.Statement Cert.KernelIdeal.κ "scale_log2_e" .f32 0x3E0293EE#32 (((11863283 / 134217728) * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_1) i = v0 c i)
          ∧ (∀ i : (⟨3, ![16, 4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_0) i = v1 c i)
          ∧ (∀ i : (⟨2, ![4352, 9216]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_1) i = v2 c i)
          ∧ (∀ i : (⟨3, ![4, 4352, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v1_2) i = v3 c i)
          ∧ (∀ i : (⟨3, ![4, 4352, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v1_3) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v83) i = v0 c i)
          ∧ (∀ i : (⟨3, ![16, 4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v91) i = v1 c i)
          ∧ (∀ i : (⟨2, ![4352, 9216]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v89) i = v2 c i)
          ∧ (∀ i : (⟨3, ![4, 4352, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v93) i = v3 c i)
          ∧ (∀ i : (⟨3, ![4, 4352, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v95) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_slabs_exist6 : Cert.Pre_slabs_exist6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_slabs_exist7 : Cert.Pre_slabs_exist7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] [hPre_slabs_exist8 : Cert.Pre_slabs_exist8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] [hPre_slabs_exist9 : Cert.Pre_slabs_exist9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] [hPre_slabs_exist10 : Cert.Pre_slabs_exist10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] [hPre_slabs_exist11 : Cert.Pre_slabs_exist11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] [hPre_slabs_exist12 : Cert.Pre_slabs_exist12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v45) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)) (v2 : (c : Dev Cert.Kernel15Ideal.nD) → Buf (Elt Ideal) ((c.tc : Thread Cert.Kernel15Ideal.nD Cert.Kernel15Ideal.τ).loc Cert.Kernel15Ideal.main_v6_2)) (v3 : (c : Dev Cert.Kernel15Ideal.nD) → Buf (Elt Ideal) ((c.tc : Thread Cert.Kernel15Ideal.nD Cert.Kernel15Ideal.τ).loc Cert.Kernel15Ideal.main_v6_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_v6_2) = v2 c
          ∧ r.2.mem ((c.tc : Thread Cert.Kernel15Ideal.nD Cert.Kernel15Ideal.τ).loc Cert.Kernel15Ideal.main_v6_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v26) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_v28) = v2 c
          ∧ r.2.mem ((c.tc : Thread Cert.Reference15Ideal.nD Cert.Reference15Ideal.τ).loc Cert.Reference15Ideal.main_v29) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v32) = v0 c
          ∧ r.2.mem ((c.tc : Thread Cert.Reference16Ideal.nD Cert.Reference16Ideal.τ).loc Cert.Reference16Ideal.main_v57) = v1 c
          ∧ r.2.mem ((c.tc : Thread Cert.Reference16Ideal.nD Cert.Reference16Ideal.τ).loc Cert.Reference16Ideal.main_v58) = v2 c
          ∧ r.2.mem ((c.tc : Thread Cert.Reference16Ideal.nD Cert.Reference16Ideal.τ).loc Cert.Reference16Ideal.main_v59) = v3 c
          ∧ r.2.mem ((c.tc : Thread Cert.Reference16Ideal.nD Cert.Reference16Ideal.τ).loc Cert.Reference16Ideal.main_v63) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v12) = v2 c
          ∧ r.2.mem ((c.tc : Thread Cert.Reference17Ideal.nD Cert.Reference17Ideal.τ).loc Cert.Reference17Ideal.main_v18) = v3 c
          ∧ r.2.mem ((c.tc : Thread Cert.Reference17Ideal.nD Cert.Reference17Ideal.τ).loc Cert.Reference17Ideal.main_v32) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] [hPre_own_exists19 : Cert.Pre_own_exists19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_v19) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] [hPre_own_exists20 : Cert.Pre_own_exists20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_v19) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] [hPre_own_exists21 : Cert.Pre_own_exists21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel23_Kernel23Ideal : Prop :=
  True

def algebraic_Kernel23Ideal_Reference23Ideal [hKernel23Ideal : Cert.Kernel23Ideal.Facts] [hReference23Ideal : Cert.Reference23Ideal.Facts] [hPre_others_exist23 : Cert.Pre_others_exist23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] [hPre_others_exist24 : Cert.Pre_others_exist24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] [hPre_others_exist25 : Cert.Pre_others_exist25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v12) = v2 c
          ∧ r.2.mem ((c.tc : Thread Cert.Reference22Ideal.nD Cert.Reference22Ideal.τ).loc Cert.Reference22Ideal.main_v18) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel22 : Cert.Kernel22.Facts) (hKernel22Ideal : Cert.Kernel22Ideal.Facts) (hReference22Ideal : Cert.Reference22Ideal.Facts) (hPre_finite : Cert.Pre_finite.Facts) (hPre_slabs_exist6 : Cert.Pre_slabs_exist6.Facts) (hPre_slabs_exist7 : Cert.Pre_slabs_exist7.Facts) (hPre_slabs_exist8 : Cert.Pre_slabs_exist8.Facts) (hPre_slabs_exist9 : Cert.Pre_slabs_exist9.Facts) (hPre_slabs_exist10 : Cert.Pre_slabs_exist10.Facts) (hPre_slabs_exist11 : Cert.Pre_slabs_exist11.Facts) (hPre_slabs_exist12 : Cert.Pre_slabs_exist12.Facts) (hPre_finite15 : Cert.Pre_finite15.Facts) (hPre_own_exists19 : Cert.Pre_own_exists19.Facts) (hPre_own_exists20 : Cert.Pre_own_exists20.Facts) (hPre_own_exists21 : Cert.Pre_own_exists21.Facts) (hPre_others_exist23 : Cert.Pre_others_exist23.Facts) (hPre_others_exist24 : Cert.Pre_others_exist24.Facts) (hPre_others_exist25 : Cert.Pre_others_exist25.Facts) (hPre_finite22 : Cert.Pre_finite22.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_slabs_exist6 := hPre_slabs_exist6)
    ∧ quiescent_Kernel6Ideal (hKernel6Ideal := hKernel6Ideal) (hPre_slabs_exist6 := hPre_slabs_exist6)
    ∧ quiescent_Reference6Ideal (hReference6Ideal := hReference6Ideal) (hPre_slabs_exist6 := hPre_slabs_exist6)
    ∧ quiescent_Kernel7 (hKernel7 := hKernel7) (hPre_slabs_exist7 := hPre_slabs_exist7)
    ∧ quiescent_Kernel7Ideal (hKernel7Ideal := hKernel7Ideal) (hPre_slabs_exist7 := hPre_slabs_exist7)
    ∧ quiescent_Reference7Ideal (hReference7Ideal := hReference7Ideal) (hPre_slabs_exist7 := hPre_slabs_exist7)
    ∧ quiescent_Kernel8 (hKernel8 := hKernel8) (hPre_slabs_exist8 := hPre_slabs_exist8)
    ∧ quiescent_Kernel8Ideal (hKernel8Ideal := hKernel8Ideal) (hPre_slabs_exist8 := hPre_slabs_exist8)
    ∧ quiescent_Reference8Ideal (hReference8Ideal := hReference8Ideal) (hPre_slabs_exist8 := hPre_slabs_exist8)
    ∧ quiescent_Kernel9 (hKernel9 := hKernel9) (hPre_slabs_exist9 := hPre_slabs_exist9)
    ∧ quiescent_Kernel9Ideal (hKernel9Ideal := hKernel9Ideal) (hPre_slabs_exist9 := hPre_slabs_exist9)
    ∧ quiescent_Reference9Ideal (hReference9Ideal := hReference9Ideal) (hPre_slabs_exist9 := hPre_slabs_exist9)
    ∧ quiescent_Kernel10 (hKernel10 := hKernel10) (hPre_slabs_exist10 := hPre_slabs_exist10)
    ∧ quiescent_Kernel10Ideal (hKernel10Ideal := hKernel10Ideal) (hPre_slabs_exist10 := hPre_slabs_exist10)
    ∧ quiescent_Reference10Ideal (hReference10Ideal := hReference10Ideal) (hPre_slabs_exist10 := hPre_slabs_exist10)
    ∧ quiescent_Kernel11 (hKernel11 := hKernel11) (hPre_slabs_exist11 := hPre_slabs_exist11)
    ∧ quiescent_Kernel11Ideal (hKernel11Ideal := hKernel11Ideal) (hPre_slabs_exist11 := hPre_slabs_exist11)
    ∧ quiescent_Reference11Ideal (hReference11Ideal := hReference11Ideal) (hPre_slabs_exist11 := hPre_slabs_exist11)
    ∧ quiescent_Kernel12 (hKernel12 := hKernel12) (hPre_slabs_exist12 := hPre_slabs_exist12)
    ∧ quiescent_Kernel12Ideal (hKernel12Ideal := hKernel12Ideal) (hPre_slabs_exist12 := hPre_slabs_exist12)
    ∧ quiescent_Reference12Ideal (hReference12Ideal := hReference12Ideal) (hPre_slabs_exist12 := hPre_slabs_exist12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19) (hPre_own_exists19 := hPre_own_exists19)
    ∧ quiescent_Kernel19Ideal (hKernel19Ideal := hKernel19Ideal) (hPre_own_exists19 := hPre_own_exists19)
    ∧ quiescent_Reference19Ideal (hReference19Ideal := hReference19Ideal) (hPre_own_exists19 := hPre_own_exists19)
    ∧ quiescent_Kernel20 (hKernel20 := hKernel20) (hPre_own_exists20 := hPre_own_exists20)
    ∧ quiescent_Kernel20Ideal (hKernel20Ideal := hKernel20Ideal) (hPre_own_exists20 := hPre_own_exists20)
    ∧ quiescent_Reference20Ideal (hReference20Ideal := hReference20Ideal) (hPre_own_exists20 := hPre_own_exists20)
    ∧ quiescent_Kernel21 (hKernel21 := hKernel21) (hPre_own_exists21 := hPre_own_exists21)
    ∧ quiescent_Kernel21Ideal (hKernel21Ideal := hKernel21Ideal) (hPre_own_exists21 := hPre_own_exists21)
    ∧ quiescent_Reference21Ideal (hReference21Ideal := hReference21Ideal) (hPre_own_exists21 := hPre_own_exists21)
    ∧ quiescent_Kernel23 (hKernel23 := hKernel23) (hPre_others_exist23 := hPre_others_exist23)
    ∧ quiescent_Kernel23Ideal (hKernel23Ideal := hKernel23Ideal) (hPre_others_exist23 := hPre_others_exist23)
    ∧ quiescent_Reference23Ideal (hReference23Ideal := hReference23Ideal) (hPre_others_exist23 := hPre_others_exist23)
    ∧ quiescent_Kernel24 (hKernel24 := hKernel24) (hPre_others_exist24 := hPre_others_exist24)
    ∧ quiescent_Kernel24Ideal (hKernel24Ideal := hKernel24Ideal) (hPre_others_exist24 := hPre_others_exist24)
    ∧ quiescent_Reference24Ideal (hReference24Ideal := hReference24Ideal) (hPre_others_exist24 := hPre_others_exist24)
    ∧ quiescent_Kernel25 (hKernel25 := hKernel25) (hPre_others_exist25 := hPre_others_exist25)
    ∧ quiescent_Kernel25Ideal (hKernel25Ideal := hKernel25Ideal) (hPre_others_exist25 := hPre_others_exist25)
    ∧ quiescent_Reference25Ideal (hReference25Ideal := hReference25Ideal) (hPre_others_exist25 := hPre_others_exist25)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_slabs_exist6 := hPre_slabs_exist6)
    ∧ preserves_Kernel7_Kernel7Ideal
    ∧ algebraic_Kernel7Ideal_Reference7Ideal (hKernel7Ideal := hKernel7Ideal) (hReference7Ideal := hReference7Ideal) (hPre_slabs_exist7 := hPre_slabs_exist7)
    ∧ preserves_Kernel8_Kernel8Ideal
    ∧ algebraic_Kernel8Ideal_Reference8Ideal (hKernel8Ideal := hKernel8Ideal) (hReference8Ideal := hReference8Ideal) (hPre_slabs_exist8 := hPre_slabs_exist8)
    ∧ preserves_Kernel9_Kernel9Ideal
    ∧ algebraic_Kernel9Ideal_Reference9Ideal (hKernel9Ideal := hKernel9Ideal) (hReference9Ideal := hReference9Ideal) (hPre_slabs_exist9 := hPre_slabs_exist9)
    ∧ preserves_Kernel10_Kernel10Ideal
    ∧ algebraic_Kernel10Ideal_Reference10Ideal (hKernel10Ideal := hKernel10Ideal) (hReference10Ideal := hReference10Ideal) (hPre_slabs_exist10 := hPre_slabs_exist10)
    ∧ preserves_Kernel11_Kernel11Ideal
    ∧ algebraic_Kernel11Ideal_Reference11Ideal (hKernel11Ideal := hKernel11Ideal) (hReference11Ideal := hReference11Ideal) (hPre_slabs_exist11 := hPre_slabs_exist11)
    ∧ preserves_Kernel12_Kernel12Ideal
    ∧ algebraic_Kernel12Ideal_Reference12Ideal (hKernel12Ideal := hKernel12Ideal) (hReference12Ideal := hReference12Ideal) (hPre_slabs_exist12 := hPre_slabs_exist12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal) (hPre_own_exists19 := hPre_own_exists19)
    ∧ preserves_Kernel20_Kernel20Ideal
    ∧ algebraic_Kernel20Ideal_Reference20Ideal (hKernel20Ideal := hKernel20Ideal) (hReference20Ideal := hReference20Ideal) (hPre_own_exists20 := hPre_own_exists20)
    ∧ preserves_Kernel21_Kernel21Ideal
    ∧ algebraic_Kernel21Ideal_Reference21Ideal (hKernel21Ideal := hKernel21Ideal) (hReference21Ideal := hReference21Ideal) (hPre_own_exists21 := hPre_own_exists21)
    ∧ preserves_Kernel23_Kernel23Ideal
    ∧ algebraic_Kernel23Ideal_Reference23Ideal (hKernel23Ideal := hKernel23Ideal) (hReference23Ideal := hReference23Ideal) (hPre_others_exist23 := hPre_others_exist23)
    ∧ preserves_Kernel24_Kernel24Ideal
    ∧ algebraic_Kernel24Ideal_Reference24Ideal (hKernel24Ideal := hKernel24Ideal) (hReference24Ideal := hReference24Ideal) (hPre_others_exist24 := hPre_others_exist24)
    ∧ preserves_Kernel25_Kernel25Ideal
    ∧ algebraic_Kernel25Ideal_Reference25Ideal (hKernel25Ideal := hKernel25Ideal) (hReference25Ideal := hReference25Ideal) (hPre_others_exist25 := hPre_others_exist25)
    ∧ preserves_Kernel22_Kernel22Ideal
    ∧ algebraic_Kernel22Ideal_Reference22Ideal_pre_finite22 (hKernel22Ideal := hKernel22Ideal) (hReference22Ideal := hReference22Ideal) (hPre_finite22 := hPre_finite22)
-- ==== On_written.lean ====
abbrev S16x4352x128 : Shape := ⟨3, ![16, 4352, 128]⟩
abbrev S4x4352x128 : Shape := ⟨3, ![4, 4352, 128]⟩
abbrev S4096x4096 : Shape := ⟨2, ![4096, 4096]⟩
abbrev S4352x9216 : Shape := ⟨2, ![4352, 9216]⟩
abbrev S8x128 : Shape := ⟨2, ![8, 128]⟩
abbrev S_ : Shape := ⟨0, ![]⟩
abbrev S16x4096x128 : Shape := ⟨3, ![16, 4096, 128]⟩

class Facts : Prop where
  bcast_S_S4096x4096 : S_.BroadcastsInDim S4096x4096 (![] : Fin 0 → Fin S4096x4096.rank)
  bcast_S_S16x4096x128 : S_.BroadcastsInDim S16x4096x128 (![] : Fin 0 → Fin S16x4096x128.rank)
  bcast_S_S4352x9216 : S_.BroadcastsInDim S4352x9216 (![] : Fin 0 → Fin S4352x9216.rank)
  bcast_S_S4x4352x128 : S_.BroadcastsInDim S4x4352x128 (![] : Fin 0 → Fin S4x4352x128.rank)

variable [Facts]

def fn {F : FTy → Type} [FloatOps F] (main_arg0 : FVec F S16x4352x128 .bf16) (main_arg1 : FVec F S4x4352x128 .bf16) (main_arg2 : FVec F S4x4352x128 .bf16) (main_arg3 : FVec F S4096x4096 .f32) (main_arg4 : FVec F S4352x9216 .f32) (main_arg5 : FVec F S8x128 .f32) (main_arg6 : FVec F S4352x9216 .bf16) : IVec S4096x4096 1 × IVec S16x4096x128 1 × IVec S4352x9216 1 × IVec S4x4352x128 1 × IVec S4x4352x128 1 :=
  let main_v0 : IVec S4096x4096 32 := iotaInDim S4096x4096 32 1
  let main_c : IVec S_ 32 := constantI S_ 32 2048#32
  let main_v1 : IVec S4096x4096 32 := broadcastInDim S4096x4096 ![] bcast_S_S4096x4096 main_c
  let main_v2 : IVec S4096x4096 1 := cmpi .slt main_v0 main_v1
  let main_c_0 : IVec S_ 1 := constantI S_ 1 1#1
  let main_v3 : IVec S16x4096x128 1 := broadcastInDim S16x4096x128 ![] bcast_S_S16x4096x128 main_c_0
  let main_c_1 : IVec S_ 1 := constantI S_ 1 1#1
  let main_v4 : IVec S4352x9216 1 := broadcastInDim S4352x9216 ![] bcast_S_S4352x9216 main_c_1
  let main_c_2 : IVec S_ 1 := constantI S_ 1 1#1
  let main_v5 : IVec S4x4352x128 1 := broadcastInDim S4x4352x128 ![] bcast_S_S4x4352x128 main_c_2
  let main_c_3 : IVec S_ 1 := constantI S_ 1 1#1
  let main_v6 : IVec S4x4352x128 1 := broadcastInDim S4x4352x128 ![] bcast_S_S4x4352x128 main_c_3
  (main_v2, main_v3, main_v4, main_v5, main_v6)
-- ==== Pre_finite.lean ====
abbrev S16x4352x128 : Shape := ⟨3, ![16, 4352, 128]⟩
abbrev S4x4352x128 : Shape := ⟨3, ![4, 4352, 128]⟩
abbrev S4096x4096 : Shape := ⟨2, ![4096, 4096]⟩
abbrev S4352x9216 : Shape := ⟨2, ![4352, 9216]⟩
abbrev S8x128 : Shape := ⟨2, ![8, 128]⟩
abbrev S16x4096x128 : Shape := ⟨3, ![16, 4096, 128]⟩
abbrev S_ : Shape := ⟨0, ![]⟩
abbrev S4096x2048 : Shape := ⟨2, ![4096, 2048]⟩

class Facts : Prop where
  slices_S16x4352x128_S16x4096x128_0_0_0 : S16x4352x128.Slices ![0, 0, 0] S16x4096x128
  bitsLt_bf16_f32 : FTy.bits .bf16 < FTy.bits .f32
  bcast_S_S16x4096x128 : S_.BroadcastsInDim S16x4096x128 (![] : Fin 0 → Fin S16x4096x128.rank)
  bcast_S_S4x4352x128 : S_.BroadcastsInDim S4x4352x128 (![] : Fin 0 → Fin S4x4352x128.rank)
  slices_S4096x4096_S4096x2048_0_0 : S4096x4096.Slices ![0, 0] S4096x2048
  bcast_S_S4096x2048 : S_.BroadcastsInDim S4096x2048 (![] : Fin 0 → Fin S4096x2048.rank)
  slices_S4352x9216_S4096x2048_0_3072 : S4352x9216.Slices ![0, 3072] S4096x2048

variable [Facts]

def fn_part1 {F : FTy → Type} [FloatOps F] (main_v4 : IVec S16x4096x128 1) (main_v8 : IVec S4x4352x128 1) (main_v12 : IVec S4x4352x128 1) (main_v16 : IVec S4096x2048 1) (main_v18 : FVec F S4096x2048 .f32) (main_cst_3 : FVec F S_ .f32) : IVec S16x4096x128 1 × IVec S4x4352x128 1 × IVec S4x4352x128 1 × IVec S4096x2048 1 × IVec S4096x2048 1 :=
  let main_v19 : FVec F S4096x2048 .f32 := broadcastInDim S4096x2048 ![] bcast_S_S4096x2048 main_cst_3
  let main_v20 : IVec S4096x2048 1 := cmpf .olt main_v18 main_v19
  (main_v4, main_v8, main_v12, main_v16, main_v20)

def fn {F : FTy → Type} [FloatOps F] (main_arg0 : FVec F S16x4352x128 .bf16) (main_arg1 : FVec F S4x4352x128 .bf16) (main_arg2 : FVec F S4x4352x128 .bf16) (main_arg3 : FVec F S4096x4096 .f32) (main_arg4 : FVec F S4352x9216 .f32) (main_arg5 : FVec F S8x128 .f32) (main_arg6 : FVec F S4352x9216 .bf16) : IVec S16x4096x128 1 × IVec S4x4352x128 1 × IVec S4x4352x128 1 × IVec S4096x2048 1 × IVec S4096x2048 1 :=
  let main_v0 : FVec F S16x4096x128 .bf16 := (extractStridedSlice S16x4096x128 ![0, 0, 0] · slices_S16x4352x128_S16x4096x128_0_0_0) main_arg0
  let main_v1 : FVec F S16x4096x128 .f32 := (extf .f32 · bitsLt_bf16_f32) main_v0
  let main_v2 : FVec F S16x4096x128 .f32 := Host.absf main_v1
  let main_cst : FVec F S_ .f32 := constant S_ .f32 0x7F800000#32
  let main_v3 : FVec F S16x4096x128 .f32 := broadcastInDim S16x4096x128 ![] bcast_S_S16x4096x128 main_cst
  let main_v4 : IVec S16x4096x128 1 := cmpf .olt main_v2 main_v3
  let main_v5 : FVec F S4x4352x128 .f32 := (extf .f32 · bitsLt_bf16_f32) main_arg1
  let main_v6 : FVec F S4x4352x128 .f32 := Host.absf main_v5
  let main_cst_0 : FVec F S_ .f32 := constant S_ .f32 0x7F800000#32
  let main_v7 : FVec F S4x4352x128 .f32 := broadcastInDim S4x4352x128 ![] bcast_S_S4x4352x128 main_cst_0
  let main_v8 : IVec S4x4352x128 1 := cmpf .olt main_v6 main_v7
  let main_v9 : FVec F S4x4352x128 .f32 := (extf .f32 · bitsLt_bf16_f32) main_arg2
  let main_v10 : FVec F S4x4352x128 .f32 := Host.absf main_v9
  let main_cst_1 : FVec F S_ .f32 := constant S_ .f32 0x7F800000#32
  let main_v11 : FVec F S4x4352x128 .f32 := broadcastInDim S4x4352x128 ![] bcast_S_S4x4352x128 main_cst_1
  let main_v12 : IVec S4x4352x128 1 := cmpf .olt main_v10 main_v11
  let main_v13 : FVec F S4096x2048 .f32 := (extractStridedSlice S4096x2048 ![0, 0] · slices_S4096x4096_S4096x2048_0_0) main_arg3
  let main_v14 : FVec F S4096x2048 .f32 := Host.absf main_v13
  let main_cst_2 : FVec F S_ .f32 := constant S_ .f32 0x7F800000#32
  let main_v15 : FVec F S4096x2048 .f32 := broadcastInDim S4096x2048 ![] bcast_S_S4096x2048 main_cst_2
  let main_v16 : IVec S4096x2048 1 := cmpf .olt main_v14 main_v15
  let main_v17 : FVec F S4096x2048 .f32 := (extractStridedSlice S4096x2048 ![0, 3072] · slices_S4352x9216_S4096x2048_0_3072) main_arg4
  let main_v18 : FVec F S4096x2048 .f32 := Host.absf main_v17
  let main_cst_3 : FVec F S_ .f32 := constant S_ .f32 0x7F800000#32
  fn_part1 (F := F) main_v4 main_v8 main_v12 main_v16 main_v18 main_cst_3
-- ==== Pre_finite15.lean ====
abbrev S4096x512 : Shape := ⟨2, ![4096, 512]⟩
abbrev S4096x4096 : Shape := ⟨2, ![4096, 4096]⟩
abbrev S4352x9216 : Shape := ⟨2, ![4352, 9216]⟩
abbrev S8x4x64x512 : Shape := ⟨4, ![8, 4, 64, 512]⟩
abbrev S1x2048 : Shape := ⟨2, ![1, 2048]⟩
abbrev S_ : Shape := ⟨0, ![]⟩
abbrev S8x1x64x512 : Shape := ⟨4, ![8, 1, 64, 512]⟩
abbrev S8x64x512 : Shape := ⟨3, ![8, 64, 512]⟩
abbrev S1x512 : Shape := ⟨2, ![1, 512]⟩

class Facts : Prop where
  bitsLt_bf16_f32 : FTy.bits .bf16 < FTy.bits .f32
  bcast_S_S4096x512 : S_.BroadcastsInDim S4096x512 (![] : Fin 0 → Fin S4096x512.rank)
  slices_S4096x4096_S4096x512_0_2048 : S4096x4096.Slices ![0, 2048] S4096x512
  slices_S8x4x64x512_S8x1x64x512_0_0_0_0 : S8x4x64x512.Slices ![0, 0, 0, 0] S8x1x64x512
  shapeCasts_S8x1x64x512_S8x64x512 : S8x1x64x512.ShapeCasts S8x64x512
  bcast_S_S8x64x512 : S_.BroadcastsInDim S8x64x512 (![] : Fin 0 → Fin S8x64x512.rank)
  slices_S1x2048_S1x512_0_0 : S1x2048.Slices ![0, 0] S1x512
  bcast_S_S1x512 : S_.BroadcastsInDim S1x512 (![] : Fin 0 → Fin S1x512.rank)

variable [Facts]

def fn {F : FTy → Type} [FloatOps F] (main_arg0 : FVec F S4096x512 .bf16) (main_arg1 : FVec F S4096x4096 .f32) (main_arg2 : FVec F S4352x9216 .f32) (main_arg3 : FVec F S8x4x64x512 .bf16) (main_arg4 : FVec F S1x2048 .f32) (main_arg5 : FVec F S4352x9216 .bf16) : IVec S4096x512 1 × IVec S4096x512 1 × IVec S8x64x512 1 × IVec S1x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extractStridedSlice S4096x512 ![0, 2048] · slices_S4096x4096_S4096x512_0_2048) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S8x1x64x512 .bf16 := (extractStridedSlice S8x1x64x512 ![0, 0, 0, 0] · slices_S8x4x64x512_S8x1x64x512_0_0_0_0) main_arg3
  let main_v9 : FVec F S8x64x512 .bf16 := shapeCast S8x64x512 main_v8 shapeCasts_S8x1x64x512_S8x64x512
  let main_v10 : FVec F S8x64x512 .f32 := (extf .f32 · bitsLt_bf16_f32) main_v9
  let main_v11 : FVec F S8x64x512 .f32 := Host.absf main_v10
  let main_cst_1 : FVec F S_ .f32 := constant S_ .f32 0x7F800000#32
  let main_v12 : FVec F S8x64x512 .f32 := broadcastInDim S8x64x512 ![] bcast_S_S8x64x512 main_cst_1
  let main_v13 : IVec S8x64x512 1 := cmpf .olt main_v11 main_v12
  let main_v14 : FVec F S1x512 .f32 := (extractStridedSlice S1x512 ![0, 0] · slices_S1x2048_S1x512_0_0) main_arg4
  let main_v15 : FVec F S1x512 .f32 := Host.absf main_v14
  let main_cst_2 : FVec F S_ .f32 := constant S_ .f32 0x7F800000#32
  let main_v16 : FVec F S1x512 .f32 := broadcastInDim S1x512 ![] bcast_S_S1x512 main_cst_2
  let main_v17 : IVec S1x512 1 := cmpf .olt main_v15 main_v16
  (main_v3, main_v7, main_v13, main_v17)
-- ==== Pre_finite22.lean ====
abbrev S8x216x128 : Shape := ⟨3, ![8, 216, 128]⟩
abbrev S216x128 : Shape := ⟨2, ![216, 128]⟩
abbrev S_ : Shape := ⟨0, ![]⟩

class Facts : Prop where
  bcast_S_S8x216x128 : S_.BroadcastsInDim S8x216x128 (![] : Fin 0 → Fin S8x216x128.rank)

variable [Facts]

def fn {F : FTy → Type} [FloatOps F] (main_arg0 : FVec F S8x216x128 .f32) (main_arg1 : FVec F S8x216x128 .f32) (main_arg2 : FVec F S216x128 .f32) (main_arg3 : FVec F S216x128 .f32) (main_arg4 : FVec F S216x128 .f32) (main_arg5 : FVec F S216x128 .f32) : IVec S8x216x128 1 × IVec S8x216x128 1 :=
  let main_v0 : FVec F S8x216x128 .f32 := Host.absf main_arg0
  let main_cst : FVec F S_ .f32 := constant S_ .f32 0x7F800000#32
  let main_v1 : FVec F S8x216x128 .f32 := broadcastInDim S8x216x128 ![] bcast_S_S8x216x128 main_cst
  let main_v2 : IVec S8x216x128 1 := cmpf .olt main_v0 main_v1
  let main_v3 : FVec F S8x216x128 .f32 := Host.absf main_arg1
  let main_cst_0 : FVec F S_ .f32 := constant S_ .f32 0x7F800000#32
  let main_v4 : FVec F S8x216x128 .f32 := broadcastInDim S8x216x128 ![] bcast_S_S8x216x128 main_cst_0
  let main_v5 : IVec S8x216x128 1 := cmpf .olt main_v3 main_v4
  (main_v2, main_v5)
-- ==== Pre_others_exist23.lean ====
abbrev S4 : Shape := ⟨1, ![4]⟩
abbrev S4x4096x1152 : Shape := ⟨3, ![4, 4096, 1152]⟩
abbrev S3 : Shape := ⟨1, ![3]⟩
abbrev S_ : Shape := ⟨0, ![]⟩

class Facts : Prop where
  slices_S4_S3_1 : S4.Slices ![1] S3
  bcast_S_S3 : S_.BroadcastsInDim S3 (![] : Fin 0 → Fin S3.rank)

variable [Facts]

def fn {F : FTy → Type} [FloatOps F] (main_arg0 : IVec S4 32) (main_arg1 : FVec F S4x4096x1152 .f32) (main_arg2 : FVec F S4x4096x1152 .f32) : IVec S3 1 :=
  let main_v0 : IVec S3 32 := (extractStridedSlice S3 ![1] · slices_S4_S3_1) main_arg0
  let main_c : IVec S_ 32 := constantI S_ 32 0#32
  let main_v1 : IVec S3 32 := broadcastInDim S3 ![] bcast_S_S3 main_c
  let main_v2 : IVec S3 1 := cmpi .sge main_v0 main_v1
  let main_v3 : IVec S3 32 := (extractStridedSlice S3 ![1] · slices_S4_S3_1) main_arg0
  let main_c_0 : IVec S_ 32 := constantI S_ 32 4#32
  let main_v4 : IVec S3 32 := broadcastInDim S3 ![] bcast_S_S3 main_c_0
  let main_v5 : IVec S3 1 := cmpi .slt main_v3 main_v4
  let main_v6 : IVec S3 1 := andi main_v2 main_v5
  main_v6
-- ==== Pre_others_exist24.lean ====
abbrev S4 : Shape := ⟨1, ![4]⟩
abbrev S8x512x4096 : Shape := ⟨3, ![8, 512, 4096]⟩
abbrev S4x512x4096 : Shape := ⟨3, ![4, 512, 4096]⟩
abbrev S3 : Shape := ⟨1, ![3]⟩
abbrev S_ : Shape := ⟨0, ![]⟩

class Facts : Prop where
  slices_S4_S3_1 : S4.Slices ![1] S3
  bcast_S_S3 : S_.BroadcastsInDim S3 (![] : Fin 0 → Fin S3.rank)

variable [Facts]

def fn {F : FTy → Type} [FloatOps F] (main_arg0 : IVec S4 32) (main_arg1 : FVec F S8x512x4096 .f32) (main_arg2 : FVec F S4x512x4096 .f32) : IVec S3 1 :=
  let main_v0 : IVec S3 32 := (extractStridedSlice S3 ![1] · slices_S4_S3_1) main_arg0
  let main_c : IVec S_ 32 := constantI S_ 32 0#32
  let main_v1 : IVec S3 32 := broadcastInDim S3 ![] bcast_S_S3 main_c
  let main_v2 : IVec S3 1 := cmpi .sge main_v0 main_v1
  let main_v3 : IVec S3 32 := (extractStridedSlice S3 ![1] · slices_S4_S3_1) main_arg0
  let main_c_0 : IVec S_ 32 := constantI S_ 32 8#32
  let main_v4 : IVec S3 32 := broadcastInDim S3 ![] bcast_S_S3 main_c_0
  let main_v5 : IVec S3 1 := cmpi .slt main_v3 main_v4
  let main_v6 : IVec S3 1 := andi main_v2 main_v5
  main_v6
-- ==== Pre_others_exist25.lean ====
abbrev S4 : Shape := ⟨1, ![4]⟩
abbrev S4x256x512 : Shape := ⟨3, ![4, 256, 512]⟩
abbrev S3 : Shape := ⟨1, ![3]⟩
abbrev S_ : Shape := ⟨0, ![]⟩

class Facts : Prop where
  slices_S4_S3_1 : S4.Slices ![1] S3
  bcast_S_S3 : S_.BroadcastsInDim S3 (![] : Fin 0 → Fin S3.rank)

variable [Facts]

def fn {F : FTy → Type} [FloatOps F] (main_arg0 : IVec S4 32) (main_arg1 : FVec F S4x256x512 .f32) (main_arg2 : FVec F S4x256x512 .f32) : IVec S3 1 :=
  let main_v0 : IVec S3 32 := (extractStridedSlice S3 ![1] · slices_S4_S3_1) main_arg0
  let main_c : IVec S_ 32 := constantI S_ 32 0#32
  let main_v1 : IVec S3 32 := broadcastInDim S3 ![] bcast_S_S3 main_c
  let main_v2 : IVec S3 1 := cmpi .sge main_v0 main_v1
  let main_v3 : IVec S3 32 := (extractStridedSlice S3 ![1] · slices_S4_S3_1) main_arg0
  let main_c_0 : IVec S_ 32 := constantI S_ 32 4#32
  let main_v4 : IVec S3 32 := broadcastInDim S3 ![] bcast_S_S3 main_c_0
  let main_v5 : IVec S3 1 := cmpi .slt main_v3 main_v4
  let main_v6 : IVec S3 1 := andi main_v2 main_v5
  main_v6
-- ==== Pre_own_exists19.lean ====
abbrev S4 : Shape := ⟨1, ![4]⟩
abbrev S4x4096x1152 : Shape := ⟨3, ![4, 4096, 1152]⟩
abbrev S3x4096x1152 : Shape := ⟨3, ![3, 4096, 1152]⟩
abbrev S4096x1152 : Shape := ⟨2, ![4096, 1152]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S4x4096x1152 .f32) (main_arg2 : FVec F S4x4096x1152 .f32) (main_arg3 : FVec F S3x4096x1152 .bf16) (main_arg4 : FVec F S4096x1152 .f32) (main_arg5 : FVec F S4096x1152 .f32) (main_arg6 : FVec F S4096x1152 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S4_S1_0) main_arg0
  let main_c_0 : IVec S_ 32 := constantI S_ 32 4#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_own_exists20.lean ====
abbrev S4 : Shape := ⟨1, ![4]⟩
abbrev S8x512x4096 : Shape := ⟨3, ![8, 512, 4096]⟩
abbrev S4x512x4096 : Shape := ⟨3, ![4, 512, 4096]⟩
abbrev S3x512x4096 : Shape := ⟨3, ![3, 512, 4096]⟩
abbrev S512x4096 : Shape := ⟨2, ![512, 4096]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x512x4096 .f32) (main_arg2 : FVec F S4x512x4096 .f32) (main_arg3 : FVec F S3x512x4096 .bf16) (main_arg4 : FVec F S512x4096 .f32) (main_arg5 : FVec F S512x4096 .f32) (main_arg6 : FVec F S512x4096 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S4_S1_0) main_arg0
  let main_c_0 : IVec S_ 32 := constantI S_ 32 8#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_own_exists21.lean ====
abbrev S4 : Shape := ⟨1, ![4]⟩
abbrev S4x256x512 : Shape := ⟨3, ![4, 256, 512]⟩
abbrev S3x256x512 : Shape := ⟨3, ![3, 256, 512]⟩
abbrev S256x512 : Shape := ⟨2, ![256, 512]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S4x256x512 .f32) (main_arg2 : FVec F S4x256x512 .f32) (main_arg3 : FVec F S3x256x512 .bf16) (main_arg4 : FVec F S256x512 .f32) (main_arg5 : FVec F S256x512 .f32) (main_arg6 : FVec F S256x512 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S4_S1_0) main_arg0
  let main_c_0 : IVec S_ 32 := constantI S_ 32 4#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_slabs_exist10.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S2 : Shape := ⟨1, ![2]⟩
abbrev S_ : Shape := ⟨0, ![]⟩

class Facts : Prop where
  slices_S8_S2_3 : S8.Slices ![3] S2
  bcast_S_S2 : S_.BroadcastsInDim S2 (![] : Fin 0 → Fin S2.rank)

variable [Facts]

def fn {F : FTy → Type} [FloatOps F] (main_arg0 : FVec F S4352x4096 .bf16) (main_arg1 : FVec F S4096x9216 .bf16) (main_arg2 : FVec F S4352x9216 .f32) (main_arg3 : IVec S8 32) (main_arg4 : FVec F S8x128 .f32) : IVec S2 1 :=
  let main_v0 : IVec S2 32 := (extractStridedSlice S2 ![3] · slices_S8_S2_3) main_arg3
  let main_c : IVec S_ 32 := constantI S_ 32 0#32
  let main_v1 : IVec S2 32 := broadcastInDim S2 ![] bcast_S_S2 main_c
  let main_v2 : IVec S2 1 := cmpi .sge main_v0 main_v1
  let main_c_0 : IVec S_ 32 := constantI S_ 32 8#32
  let main_v3 : IVec S2 32 := broadcastInDim S2 ![] bcast_S_S2 main_c_0
  let main_v4 : IVec S2 1 := cmpi .slt main_v0 main_v3
  let main_v5 : IVec S2 1 := andi main_v2 main_v4
  main_v5
-- ==== Pre_slabs_exist11.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S2 : Shape := ⟨1, ![2]⟩
abbrev S_ : Shape := ⟨0, ![]⟩

class Facts : Prop where
  slices_S8_S2_5 : S8.Slices ![5] S2
  bcast_S_S2 : S_.BroadcastsInDim S2 (![] : Fin 0 → Fin S2.rank)

variable [Facts]

def fn {F : FTy → Type} [FloatOps F] (main_arg0 : FVec F S4352x4096 .bf16) (main_arg1 : FVec F S4096x9216 .bf16) (main_arg2 : FVec F S4352x9216 .f32) (main_arg3 : IVec S8 32) (main_arg4 : FVec F S8x128 .f32) : IVec S2 1 :=
  let main_v0 : IVec S2 32 := (extractStridedSlice S2 ![5] · slices_S8_S2_5) main_arg3
  let main_c : IVec S_ 32 := constantI S_ 32 0#32
  let main_v1 : IVec S2 32 := broadcastInDim S2 ![] bcast_S_S2 main_c
  let main_v2 : IVec S2 1 := cmpi .sge main_v0 main_v1
  let main_c_0 : IVec S_ 32 := constantI S_ 32 8#32
  let main_v3 : IVec S2 32 := broadcastInDim S2 ![] bcast_S_S2 main_c_0
  let main_v4 : IVec S2 1 := cmpi .slt main_v0 main_v3
  let main_v5 : IVec S2 1 := andi main_v2 main_v4
  main_v5
-- ==== Pre_slabs_exist12.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

class Facts : Prop where
  slices_S8_S1_7 : S8.Slices ![7] S1
  bcast_S_S1 : S_.BroadcastsInDim S1 (![] : Fin 0 → Fin S1.rank)

variable [Facts]

def fn {F : FTy → Type} [FloatOps F] (main_arg0 : FVec F S4352x4096 .bf16) (main_arg1 : FVec F S4096x9216 .bf16) (main_arg2 : FVec F S4352x9216 .f32) (main_arg3 : IVec S8 32) (main_arg4 : FVec F S8x128 .f32) : IVec S1 1 :=
  let main_v0 : IVec S1 32 := (extractStridedSlice S1 ![7] · slices_S8_S1_7) main_arg3
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_slabs_exist6.lean ====
abbrev S4352x4096 : Shape := ⟨2, ![4352, 4096]⟩
abbrev S4352x9216 : Shape := ⟨2, ![4352, 9216]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4352x4096 .bf16) (main_arg1 : FVec F S4352x9216 .bf16) (main_arg2 : IVec S4 32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 8#32
  let main_v2 : IVec S4 32 := broadcastInDim S4 ![] bcast_S_S4 main_c_0
  let main_v3 : IVec S4 1 := cmpi .slt main_arg2 main_v2
  let main_v4 : IVec S4 1 := andi main_v1 main_v3
  main_v4
-- ==== Pre_slabs_exist7.lean ====
abbrev S4352x4096 : Shape := ⟨2, ![4352, 4096]⟩
abbrev S4352x9216 : Shape := ⟨2, ![4352, 9216]⟩
abbrev S4 : Shape := ⟨1, ![4]⟩
abbrev S8x128 : Shape := ⟨2, ![8, 128]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4352x4096 .bf16) (main_arg1 : FVec F S4352x9216 .bf16) (main_arg2 : IVec S4 32) (main_arg3 : FVec F S8x128 .f32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 8#32
  let main_v2 : IVec S4 32 := broadcastInDim S4 ![] bcast_S_S4 main_c_0
  let main_v3 : IVec S4 1 := cmpi .slt main_arg2 main_v2
  let main_v4 : IVec S4 1 := andi main_v1 main_v3
  main_v4
-- ==== Pre_slabs_exist8.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

class Facts : Prop where
  slices_S8_S1_0 : S8.Slices ![0] S1
  bcast_S_S1 : S_.BroadcastsInDim S1 (![] : Fin 0 → Fin S1.rank)

variable [Facts]

def fn {F : FTy → Type} [FloatOps F] (main_arg0 : FVec F S4352x4096 .bf16) (main_arg1 : FVec F S4096x9216 .bf16) (main_arg2 : FVec F S4352x9216 .f32) (main_arg3 : IVec S8 32) (main_arg4 : FVec F S8x128 .f32) : IVec S1 1 :=
  let main_v0 : IVec S1 32 := (extractStridedSlice S1 ![0] · slices_S8_S1_0) main_arg3
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_slabs_exist9.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S2 : Shape := ⟨1, ![2]⟩
abbrev S_ : Shape := ⟨0, ![]⟩

class Facts : Prop where
  slices_S8_S2_1 : S8.Slices ![1] S2
  bcast_S_S2 : S_.BroadcastsInDim S2 (![] : Fin 0 → Fin S2.rank)

variable [Facts]

def fn {F : FTy → Type} [FloatOps F] (main_arg0 : FVec F S4352x4096 .bf16) (main_arg1 : FVec F S4096x9216 .bf16) (main_arg2 : FVec F S4352x9216 .f32) (main_arg3 : IVec S8 32) (main_arg4 : FVec F S8x128 .f32) : IVec S2 1 :=
  let main_v0 : IVec S2 32 := (extractStridedSlice S2 ![1] · slices_S8_S2_1) main_arg3
  let main_c : IVec S_ 32 := constantI S_ 32 0#32
  let main_v1 : IVec S2 32 := broadcastInDim S2 ![] bcast_S_S2 main_c
  let main_v2 : IVec S2 1 := cmpi .sge main_v0 main_v1
  let main_c_0 : IVec S_ 32 := constantI S_ 32 8#32
  let main_v3 : IVec S2 32 := broadcastInDim S2 ![] bcast_S_S2 main_c_0
  let main_v4 : IVec S2 1 := cmpi .slt main_v0 main_v3
  let main_v5 : IVec S2 1 := andi main_v2 main_v4
  main_v5
-- ==== Kernel.lean ====
abbrev S16x4352x128 : Shape := ⟨3, ![16, 4352, 128]⟩
abbrev S4x4352x128 : Shape := ⟨3, ![4, 4352, 128]⟩
abbrev S4096x4096 : Shape := ⟨2, ![4096, 4096]⟩
abbrev S4352x9216 : Shape := ⟨2, ![4352, 9216]⟩
abbrev S8x128 : Shape := ⟨2, ![8, 128]⟩
abbrev S4096x2048 : Shape := ⟨2, ![4096, 2048]⟩
abbrev S4x4096x128 : Shape := ⟨3, ![4, 4096, 128]⟩
abbrev S4x256x128 : Shape := ⟨3, ![4, 256, 128]⟩
abbrev S1x4352x128 : Shape := ⟨3, ![1, 4352, 128]⟩
abbrev S256x512 : Shape := ⟨2, ![256, 512]⟩
abbrev S1x256x128 : Shape := ⟨3, ![1, 256, 128]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S16x4096x128 : Shape := ⟨3, ![16, 4096, 128]⟩
abbrev S4x128x128 : Shape := ⟨3, ![4, 128, 128]⟩
abbrev S128x512 : Shape := ⟨2, ![128, 512]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x2176x128 : Shape := ⟨3, ![1, 2176, 128]⟩
abbrev S2176x128 : Shape := ⟨2, ![2176, 128]⟩
abbrev S128x2176 : Shape := ⟨2, ![128, 2176]⟩

abbrev nBuf : Space → Nat
  | .hbm => 14
  | .vmem => 37
  | .smem => 0
  | _ => 0

abbrev bufTy : (tb : Table) → Fin (tcTables nBuf tb) → BufTy
  | .hbm, ⟨0, _⟩ => ⟨S16x4352x128, .bf16⟩
  | .hbm, ⟨1, _⟩ => ⟨S4x4352x128, .bf16⟩
  | .hbm, ⟨2, _⟩ => ⟨S4x4352x128, .bf16⟩
  | .hbm, ⟨3, _⟩ => ⟨S4096x4096, .f32⟩
  | .hbm, ⟨4, _⟩ => ⟨S4352x9216, .f32⟩
  | .hbm, ⟨5, _⟩ => ⟨S8x128, .f32⟩
  | .hbm, ⟨6, _⟩ => ⟨S4352x9216, .bf16⟩
  | .hbm, ⟨7, _⟩ => ⟨S4096x2048, .f32⟩
  | .hbm, ⟨8, _⟩ => ⟨S4096x4096, .bf16⟩
  | .hbm, ⟨9, _⟩ => ⟨S4x4096x128, .f32⟩
  | .hbm, ⟨10, _⟩ => ⟨S16x4096x128, .f32⟩
  | .hbm, ⟨11, _⟩ => ⟨S4352x9216, .bf16⟩
  | .hbm, ⟨12, _⟩ => ⟨S4x4352x128, .f32⟩
  | .hbm, ⟨13, _⟩ => ⟨S4x4352x128, .f32⟩
  | .local _ .vmem, ⟨0, _⟩ => ⟨S4x256x128, .bf16⟩
  | .local _ .vmem, ⟨1, _⟩ => ⟨S4x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S1x256x128, .f32⟩
  | .local _ .vmem, ⟨13, _⟩ => ⟨S1x256x128, .f32⟩
  | .local _ .vmem, ⟨14, _⟩ => ⟨S4x128x128, .bf16⟩
  | .local _ .vmem, ⟨15, _⟩ => ⟨S4x128x128, .bf16⟩
  | .local _ .vmem, ⟨16, _⟩ => ⟨S1x4352x128, .bf16⟩
  | .local _ .vmem, ⟨17, _⟩ => ⟨S1x4352x128, .bf16⟩
  | .local _ .vmem, ⟨18, _⟩ => ⟨S1x4352x128, .bf16⟩
  | .local _ .vmem, ⟨19, _⟩ => ⟨S1x4352x128, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S1x128x128, .f32⟩
  | .local _ .vmem, ⟨27, _⟩ => ⟨S1x128x128, .f32⟩
  | .local _ .vmem, ⟨28, _⟩ => ⟨S8x128, .f32⟩
  | .local _ .vmem, ⟨29, _⟩ => ⟨S4x128x128, .f32⟩
  | .local _ .vmem, ⟨30, _⟩ => ⟨S4x128x128, .f32⟩
  | .local _ .vmem, ⟨31, _⟩ => ⟨S128x512, .bf16⟩
  | .local _ .vmem, ⟨32, _⟩ => ⟨S128x512, .bf16⟩
  | .local _ .vmem, ⟨33, _⟩ => ⟨S1x4352x128, .f32⟩
  | .local _ .vmem, ⟨34, _⟩ => ⟨S1x4352x128, .f32⟩
  | .local _ .vmem, ⟨35, _⟩ => ⟨S1x4352x128, .f32⟩
  | .local _ .vmem, ⟨36, _⟩ => ⟨S1x4352x128, .f32⟩
  | _, _ => ⟨S16x4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4352x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S4x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x4352x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x4352x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== KernelIdeal.lean ====
variable {F : FTy → Type} [FloatOps F] [Named F]
def κ : String → Option EReal := fun
  | "log2_e" => some (((Real.log 2)⁻¹ : ℝ) : EReal)
  | "scale_log2_e" => some (((11863283 / 134217728) * (Real.log 2)⁻¹ : ℝ) : EReal)
  | _ => none
-- ==== ReferenceIdeal.lean ====
abbrev S16x4352x128 : Shape := ⟨3, ![16, 4352, 128]⟩
abbrev S4x4352x128 : Shape := ⟨3, ![4, 4352, 128]⟩
abbrev S4096x4096 : Shape := ⟨2, ![4096, 4096]⟩
abbrev S4352x9216 : Shape := ⟨2, ![4352, 9216]⟩
abbrev S8x128 : Shape := ⟨2, ![8, 128]⟩
abbrev S4096x2048 : Shape := ⟨2, ![4096, 2048]⟩
abbrev S1x4096x2048 : Shape := ⟨3, ![1, 4096, 2048]⟩
abbrev S4352x16x128 : Shape := ⟨3, ![4352, 16, 128]⟩
abbrev S1x4352x16x128 : Shape := ⟨4, ![1, 4352, 16, 128]⟩
abbrev S1x4096x16x128 : Shape := ⟨4, ![1, 4096, 16, 128]⟩
abbrev S4352x4x128 : Shape := ⟨3, ![4352, 4, 128]⟩
abbrev S1x4352x4x128 : Shape := ⟨4, ![1, 4352, 4, 128]⟩
abbrev S1x4096x4x4x128 : Shape := ⟨5, ![1, 4096, 4, 4, 128]⟩
abbrev S1x4x4352x4096x4 : Shape := ⟨5, ![1, 4, 4352, 4096, 4]⟩
abbrev S1x4x4x4096x4352 : Shape := ⟨5, ![1, 4, 4, 4096, 4352]⟩
abbrev S_ : Shape := ⟨0, ![]⟩
abbrev S1x4x4x4096 : Shape := ⟨4, ![1, 4, 4, 4096]⟩
abbrev S1x4x4x4096x1 : Shape := ⟨5, ![1, 4, 4, 4096, 1]⟩
abbrev S1x4x128x4x4096 : Shape := ⟨5, ![1, 4, 128, 4, 4096]⟩
abbrev S1x4x128x4352 : Shape := ⟨4, ![1, 4, 128, 4352]⟩
abbrev S4x4x4096 : Shape := ⟨3, ![4, 4, 4096]⟩
abbrev S1x4x4096x4x128 : Shape := ⟨5, ![1, 4, 4096, 4, 128]⟩
abbrev S1x4x4352x128 : Shape := ⟨4, ![1, 4, 4352, 128]⟩
abbrev S1 : Shape := ⟨1, ![1]⟩
abbrev S2 : Shape := ⟨1, ![2]⟩
abbrev S4096x16x128 : Shape := ⟨3, ![4096, 16, 128]⟩
abbrev S16x4096x128 : Shape := ⟨3, ![16, 4096, 128]⟩

abbrev nBuf : Space → Nat
  | .hbm => 136
  | .vmem => 0
  | .smem => 0
  | _ => 0

abbrev hbmTy0_0 (i : Nat) : BufTy := match i % 128 with
  | 0 => ⟨S16x4352x128, .bf16⟩
  | 1 => ⟨S4x4352x128, .bf16⟩
  | 2 => ⟨S4x4352x128, .bf16⟩
  | 3 => ⟨S4096x4096, .f32⟩
  | 4 => ⟨S4352x9216, .f32⟩
  | 5 => ⟨S8x128, .f32⟩
  | 6 => ⟨S4352x9216, .bf16⟩
  | 7 => ⟨S4096x2048, .f32⟩
  | 8 => ⟨S1x4096x2048, .f32⟩
  | 9 => ⟨S4096x2048, .f32⟩
  | 10 => ⟨S1x4096x2048, .f32⟩
  | 11 => ⟨S16x4352x128, .f32⟩
  | 12 => ⟨S4352x16x128, .f32⟩
  | 13 => ⟨S1x4352x16x128, .f32⟩
  | 14 => ⟨S1x4096x16x128, .f32⟩
  | 15 => ⟨S4x4352x128, .f32⟩
  | 16 => ⟨S4352x4x128, .f32⟩
  | 17 => ⟨S1x4352x4x128, .f32⟩
  | 18 => ⟨S4x4352x128, .f32⟩
  | 19 => ⟨S4352x4x128, .f32⟩
  | 20 => ⟨S1x4352x4x128, .f32⟩
  | 21 => ⟨S1x4096x4x4x128, .f32⟩
  | 22 => ⟨S1x4x4352x4096x4, .f32⟩
  | 23 => ⟨S1x4x4x4096x4352, .f32⟩
  | 24 => ⟨S_, .f32⟩
  | 25 => ⟨S1x4x4x4096x4352, .f32⟩
  | 26 => ⟨S1x4x4x4096x4352, .f32⟩
  | 27 => ⟨S_, .f32⟩
  | 28 => ⟨S1x4x4x4096, .f32⟩
  | 29 => ⟨S1x4x4x4096x1, .f32⟩
  | 30 => ⟨S1x4x4x4096x4352, .f32⟩
  | 31 => ⟨S1x4x4x4096x4352, .i1⟩
  | 32 => ⟨S1x4x4x4096x4352, .f32⟩
  | 33 => ⟨S_, .f32⟩
  | 34 => ⟨S1x4x4x4096, .f32⟩
  | 35 => ⟨S_, .f32⟩
  | 36 => ⟨S1x4x4x4096, .f32⟩
  | 37 => ⟨S1x4x4x4096, .f32⟩
  | 38 => ⟨S_, .f32⟩
  | 39 => ⟨S1x4x4x4096, .f32⟩
  | 40 => ⟨S1x4x4x4096, .i1⟩
  | 41 => ⟨S_, .f32⟩
  | 42 => ⟨S1x4x4x4096, .f32⟩
  | 43 => ⟨S1x4x4x4096, .i1⟩
  | 44 => ⟨S_, .f32⟩
  | 45 => ⟨S1x4x4x4096, .f32⟩
  | 46 => ⟨S_, .f32⟩
  | 47 => ⟨S1x4x4x4096, .f32⟩
  | 48 => ⟨S_, .f32⟩
  | 49 => ⟨S1x4x4x4096, .f32⟩
  | 50 => ⟨S1x4x4x4096, .f32⟩
  | 51 => ⟨S1x4x4x4096, .f32⟩
  | 52 => ⟨S1x4x4x4096x1, .f32⟩
  | 53 => ⟨S1x4x4x4096x4352, .f32⟩
  | 54 => ⟨S1x4x4x4096x4352, .f32⟩
  | 55 => ⟨S1x4x4x4096x4352, .f32⟩
  | 56 => ⟨S_, .f32⟩
  | 57 => ⟨S1x4x4x4096, .f32⟩
  | 58 => ⟨S1x4x4x4096x1, .f32⟩
  | 59 => ⟨S1x4x4x4096x4352, .f32⟩
  | 60 => ⟨S1x4x4x4096x4352, .f32⟩
  | 61 => ⟨S1x4x4x4096x1, .f32⟩
  | 62 => ⟨S_, .f32⟩
  | 63 => ⟨S1x4x4x4096x1, .f32⟩
  | 64 => ⟨S1x4x4x4096x1, .f32⟩
  | 65 => ⟨S1x4x128x4x4096, .f32⟩
  | 66 => ⟨S1x4096x4x4x128, .f32⟩
  | 67 => ⟨S1x4096x2048, .f32⟩
  | 68 => ⟨S1x4096x2048, .f32⟩
  | 69 => ⟨S1x4096x2048, .f32⟩
  | 70 => ⟨S_, .f32⟩
  | 71 => ⟨S1x4096x2048, .f32⟩
  | 72 => ⟨S1x4096x2048, .f32⟩
  | 73 => ⟨S_, .f32⟩
  | 74 => ⟨S1x4096x2048, .f32⟩
  | 75 => ⟨S1x4096x2048, .f32⟩
  | 76 => ⟨S_, .f32⟩
  | 77 => ⟨S1x4096x2048, .f32⟩
  | 78 => ⟨S1x4096x2048, .f32⟩
  | 79 => ⟨S1x4096x2048, .f32⟩
  | 80 => ⟨S1x4096x2048, .f32⟩
  | 81 => ⟨S1x4096x2048, .f32⟩
  | 82 => ⟨S1x4096x2048, .f32⟩
  | 83 => ⟨S1x4096x2048, .f32⟩
  | 84 => ⟨S1x4096x2048, .f32⟩
  | 85 => ⟨S1x4096x2048, .f32⟩
  | 86 => ⟨S1x4096x2048, .f32⟩
  | 87 => ⟨S1x4096x2048, .f32⟩
  | 88 => ⟨S1x4096x4x4x128, .f32⟩
  | 89 => ⟨S1x4x128x4x4096, .f32⟩
  | 90 => ⟨S1x4x4x4096x4352, .f32⟩
  | 91 => ⟨S1x4x128x4352, .f32⟩
  | 92 => ⟨S1x4352x4x128, .f32⟩
  | 93 => ⟨S1x4x4x4096x4352, .f32⟩
  | 94 => ⟨S1x4x4x4096x4352, .f32⟩
  | 95 => ⟨S1x4x4x4096x4352, .f32⟩
  | 96 => ⟨S_, .f32⟩
  | 97 => ⟨S1x4x4x4096, .f32⟩
  | 98 => ⟨S1x4x4x4096x1, .f32⟩
  | 99 => ⟨S1x4x4x4096x1, .f32⟩
  | 100 => ⟨S1x4x4x4096x4352, .f32⟩
  | 101 => ⟨S1x4x4x4096x4352, .f32⟩
  | 102 => ⟨S_, .f32⟩
  | 103 => ⟨S4x4x4096, .f32⟩
  | 104 => ⟨S1x4x4x4096, .f32⟩
  | 105 => ⟨S1x4x4x4096x4352, .f32⟩
  | 106 => ⟨S1x4x4x4096x4352, .f32⟩
  | 107 => ⟨S1x4x4x4096x4352, .f32⟩
  | 108 => ⟨S_, .f32⟩
  | 109 => ⟨S1x4x4x4096x4352, .f32⟩
  | 110 => ⟨S1x4x4x4096x4352, .f32⟩
  | 111 => ⟨S1x4x4352x4096x4, .f32⟩
  | 112 => ⟨S1x4x4096x4x128, .f32⟩
  | 113 => ⟨S1x4096x4x4x128, .f32⟩
  | 114 => ⟨S1x4x4352x128, .f32⟩
  | 115 => ⟨S1x4352x4x128, .f32⟩
  | 116 => ⟨S1x4096x16x128, .f32⟩
  | 117 => ⟨S4096x2048, .f32⟩
  | 118 => ⟨S4096x2048, .bf16⟩
  | 119 => ⟨S_, .i32⟩
  | 120 => ⟨S_, .bf16⟩
  | 121 => ⟨S4096x4096, .bf16⟩
  | 122 => ⟨S4096x2048, .f32⟩
  | 123 => ⟨S4096x2048, .bf16⟩
  | 124 => ⟨S_, .i32⟩
  | 125 => ⟨S1, .i32⟩
  | 126 => ⟨S_, .i32⟩
  | 127 => ⟨S1, .i32⟩
  | _ => ⟨S16x4352x128, .bf16⟩

abbrev hbmTy0_1 (i : Nat) : BufTy := match i % 128 with
  | 0 => ⟨S2, .i32⟩
  | 1 => ⟨S4352x9216, .bf16⟩
  | 2 => ⟨S4096x16x128, .f32⟩
  | 3 => ⟨S16x4096x128, .f32⟩
  | 4 => ⟨S4352x4x128, .f32⟩
  | 5 => ⟨S4x4352x128, .f32⟩
  | 6 => ⟨S4352x4x128, .f32⟩
  | 7 => ⟨S4x4352x128, .f32⟩
  | _ => ⟨S16x4352x128, .bf16⟩

abbrev hbmTy (i : Nat) : BufTy := match i / 128 with
  | 0 => hbmTy0_0 i
  | 1 => hbmTy0_1 i
  | _ => ⟨S16x4352x128, .bf16⟩

abbrev bufTy : (tb : Table) → Fin (tcTables nBuf tb) → BufTy
  | .hbm, ⟨i, _⟩ => hbmTy i
  | _, _ => ⟨S16x4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v50_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v50_1 : Ref sig .tc := ⟨.hbm, 79, rfl⟩
abbrev main_v50_0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c : Ref sig .tc := ⟨.hbm, 119, rfl⟩
abbrev main_call2_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_13 : Ref sig .tc := ⟨.hbm, 124, rfl⟩
abbrev main_v86 : Ref sig .tc := ⟨.hbm, 125, rfl⟩
abbrev main_c_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Kernel2.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x4096 : Shape := ⟨2, ![4096, 4096]⟩
abbrev S8x128 : Shape := ⟨2, ![8, 128]⟩
abbrev S1024x4096 : Shape := ⟨2, ![1024, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x4096 : Shape := ⟨2, ![4096, 4096]⟩
abbrev S8x128 : Shape := ⟨2, ![8, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4352x9216 : Shape := ⟨2, ![4352, 9216]⟩
abbrev S4096x9216 : Shape := ⟨2, ![4096, 9216]⟩
abbrev S8x128 : Shape := ⟨2, ![8, 128]⟩
abbrev S4352x4096 : Shape := ⟨2, ![4352, 4096]⟩
abbrev S1088x3072 : Shape := ⟨2, ![1088, 3072]⟩
abbrev S1024x3072 : Shape := ⟨2, ![1024, 3072]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x9216, .bf16⟩
  | .hbm, ⟨1, _⟩ => ⟨S4096x9216, .bf16⟩
  | .hbm, ⟨2, _⟩ => ⟨S8x128, .f32⟩
  | .hbm, ⟨3, _⟩ => ⟨S4352x4096, .f32⟩
  | .local _ .vmem, ⟨0, _⟩ => ⟨S1088x3072, .bf16⟩
  | .local _ .vmem, ⟨1, _⟩ => ⟨S1088x3072, .bf16⟩
  | .local _ .vmem, ⟨2, _⟩ => ⟨S1024x3072, .bf16⟩
  | .local _ .vmem, ⟨3, _⟩ => ⟨S1024x3072, .bf16⟩
  | .local _ .vmem, ⟨4, _⟩ => ⟨S8x128, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4352x9216 : Shape := ⟨2, ![4352, 9216]⟩
abbrev S4096x9216 : Shape := ⟨2, ![4096, 9216]⟩
abbrev S8x128 : Shape := ⟨2, ![8, 128]⟩
abbrev S_ : Shape := ⟨0, ![]⟩
abbrev S4352x4096 : Shape := ⟨2, ![4352, 4096]⟩
abbrev S9216x4096 : Shape := ⟨2, ![9216, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4352x9216, .bf16⟩
  | .hbm, ⟨1, _⟩ => ⟨S4096x9216, .bf16⟩
  | .hbm, ⟨2, _⟩ => ⟨S8x128, .f32⟩
  | .hbm, ⟨3, _⟩ => ⟨S_, .f32⟩
  | .hbm, ⟨4, _⟩ => ⟨S4352x4096, .f32⟩
  | .hbm, ⟨5, _⟩ => ⟨S4096x9216, .f32⟩
  | .hbm, ⟨6, _⟩ => ⟨S4352x9216, .f32⟩
  | .hbm, ⟨7, _⟩ => ⟨S4352x9216, .f32⟩
  | .hbm, ⟨8, _⟩ => ⟨S9216x4096, .f32⟩
  | .hbm, ⟨9, _⟩ => ⟨S4096x9216, .f32⟩
  | .hbm, ⟨10, _⟩ => ⟨S4352x4096, .f32⟩
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S4352x4096 : Shape := ⟨2, ![4352, 4096]⟩
abbrev S4352x9216 : Shape := ⟨2, ![4352, 9216]⟩
abbrev S4 : Shape := ⟨1, ![4]⟩
abbrev S4x4096x1152 : Shape := ⟨3, ![4, 4096, 1152]⟩
abbrev S4352x1024 : Shape := ⟨2, ![4352, 1024]⟩
abbrev S4352x1152 : Shape := ⟨2, ![4352, 1152]⟩
abbrev S1 : Shape := ⟨1, ![1]⟩
abbrev S1x1024x1152 : Shape := ⟨3, ![1, 1024, 1152]⟩
abbrev S1024x1152 : Shape := ⟨2, ![1024, 1152]⟩

abbrev nBuf : Space → Nat
  | .hbm => 3
  | .vmem => 6
  | .smem => 1
  | _ => 0

abbrev bufTy : (tb : Table) → Fin (tcTables nBuf tb) → BufTy
  | .hbm, ⟨0, _⟩ => ⟨S4352x4096, .bf16⟩
  | .hbm, ⟨1, _⟩ => ⟨S4352x9216, .bf16⟩
  | .hbm, ⟨2, _⟩ => ⟨S4x4096x1152, .f32⟩
  | .local _ .vmem, ⟨0, _⟩ => ⟨S4352x1024, .bf16⟩
  | .local _ .vmem, ⟨1, _⟩ => ⟨S4352x1024, .bf16⟩
  | .local _ .vmem, ⟨2, _⟩ => ⟨S4352x1152, .bf16⟩
  | .local _ .vmem, ⟨3, _⟩ => ⟨S4352x1152, .bf16⟩
  | .local _ .vmem, ⟨4, _⟩ => ⟨S1x1024x1152, .f32⟩
  | .local _ .vmem, ⟨5, _⟩ => ⟨S1x1024x1152, .f32⟩
  | .local _ .smem, ⟨0, _⟩ => ⟨S4, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4352x4096 : Shape := ⟨2, ![4352, 4096]⟩
abbrev S4352x9216 : Shape := ⟨2, ![4352, 9216]⟩
abbrev S4 : Shape := ⟨1, ![4]⟩
abbrev S_ : Shape := ⟨0, ![]⟩
abbrev S4096x9216 : Shape := ⟨2, ![4096, 9216]⟩
abbrev S9216x4096 : Shape := ⟨2, ![9216, 4096]⟩
abbrev S4096x8x1152 : Shape := ⟨3, ![4096, 8, 1152]⟩
abbrev S4x1 : Shape := ⟨2, ![4, 1]⟩
abbrev S4096x4x1152 : Shape := ⟨3, ![4096, 4, 1152]⟩
abbrev S4x4096x1152 : Shape := ⟨3, ![4, 4096, 1152]⟩

abbrev nBuf : Space → Nat
  | .hbm => 15
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x9216, .bf16⟩
  | .hbm, ⟨2, _⟩ => ⟨S4, .i32⟩
  | .hbm, ⟨3, _⟩ => ⟨S_, .f32⟩
  | .hbm, ⟨4, _⟩ => ⟨S4096x9216, .f32⟩
  | .hbm, ⟨5, _⟩ => ⟨S4352x4096, .f32⟩
  | .hbm, ⟨6, _⟩ => ⟨S4352x9216, .f32⟩
  | .hbm, ⟨7, _⟩ => ⟨S4352x9216, .f32⟩
  | .hbm, ⟨8, _⟩ => ⟨S9216x4096, .f32⟩
  | .hbm, ⟨9, _⟩ => ⟨S4096x9216, .f32⟩
  | .hbm, ⟨10, _⟩ => ⟨S4352x4096, .f32⟩
  | .hbm, ⟨11, _⟩ => ⟨S4096x8x1152, .f32⟩
  | .hbm, ⟨12, _⟩ => ⟨S4x1, .i32⟩
  | .hbm, ⟨13, _⟩ => ⟨S4096x4x1152, .f32⟩
  | .hbm, ⟨14, _⟩ => ⟨S4x4096x1152, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S4352x4096 : Shape := ⟨2, ![4352, 4096]⟩
abbrev S4352x9216 : Shape := ⟨2, ![4352, 9216]⟩
abbrev S4 : Shape := ⟨1, ![4]⟩
abbrev S8x128 : Shape := ⟨2, ![8, 128]⟩
abbrev S4x4096x1152 : Shape := ⟨3, ![4, 4096, 1152]⟩
abbrev S4352x1024 : Shape := ⟨2, ![4352, 1024]⟩
abbrev S4352x1152 : Shape := ⟨2, ![4352, 1152]⟩
abbrev S1 : Shape := ⟨1, ![1]⟩
abbrev S1x1024x1152 : Shape := ⟨3, ![1, 1024, 1152]⟩
abbrev S1024x1152 : Shape := ⟨2, ![1024, 1152]⟩

abbrev nBuf : Space → Nat
  | .hbm => 4
  | .vmem => 7
  | .smem => 1
  | _ => 0

abbrev bufTy : (tb : Table) → Fin (tcTables nBuf tb) → BufTy
  | .hbm, ⟨0, _⟩ => ⟨S4352x4096, .bf16⟩
  | .hbm, ⟨1, _⟩ => ⟨S4352x9216, .bf16⟩
  | .hbm, ⟨2, _⟩ => ⟨S8x128, .f32⟩
  | .hbm, ⟨3, _⟩ => ⟨S4x4096x1152, .f32⟩
  | .local _ .vmem, ⟨0, _⟩ => ⟨S4352x1024, .bf16⟩
  | .local _ .vmem, ⟨1, _⟩ => ⟨S4352x1024, .bf16⟩
  | .local _ .vmem, ⟨2, _⟩ => ⟨S4352x1152, .bf16⟩
  | .local _ .vmem, ⟨3, _⟩ => ⟨S4352x1152, .bf16⟩
  | .local _ .vmem, ⟨4, _⟩ => ⟨S8x128, .f32⟩
  | .local _ .vmem, ⟨5, _⟩ => ⟨S1x1024x1152, .f32⟩
  | .local _ .vmem, ⟨6, _⟩ => ⟨S1x1024x1152, .f32⟩
  | .local _ .smem, ⟨0, _⟩ => ⟨S4, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4352x4096 : Shape := ⟨2, ![4352, 4096]⟩
abbrev S4352x9216 : Shape := ⟨2, ![4352, 9216]⟩
abbrev S4 : Shape := ⟨1, ![4]⟩
abbrev S8x128 : Shape := ⟨2, ![8, 128]⟩
abbrev S_ : Shape := ⟨0, ![]⟩
abbrev S4096x9216 : Shape := ⟨2, ![4096, 9216]⟩
abbrev S9216x4096 : Shape := ⟨2, ![9216, 4096]⟩
abbrev S4096x8x1152 : Shape := ⟨3, ![4096, 8, 1152]⟩
abbrev S4x1 : Shape := ⟨2, ![4, 1]⟩
abbrev S4096x4x1152 : Shape := ⟨3, ![4096, 4, 1152]⟩
abbrev S4x4096x1152 : Shape := ⟨3, ![4, 4096, 1152]⟩

abbrev nBuf : Space → Nat
  | .hbm => 16
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x9216, .bf16⟩
  | .hbm, ⟨2, _⟩ => ⟨S4, .i32⟩
  | .hbm, ⟨3, _⟩ => ⟨S8x128, .f32⟩
  | .hbm, ⟨4, _⟩ => ⟨S_, .f32⟩
  | .hbm, ⟨5, _⟩ => ⟨S4096x9216, .f32⟩
  | .hbm, ⟨6, _⟩ => ⟨S4352x4096, .f32⟩
  | .hbm, ⟨7, _⟩ => ⟨S4352x9216, .f32⟩
  | .hbm, ⟨8, _⟩ => ⟨S4352x9216, .f32⟩
  | .hbm, ⟨9, _⟩ => ⟨S9216x4096, .f32⟩
  | .hbm, ⟨10, _⟩ => ⟨S4096x9216, .f32⟩
  | .hbm, ⟨11, _⟩ => ⟨S4352x4096, .f32⟩
  | .hbm, ⟨12, _⟩ => ⟨S4096x8x1152, .f32⟩
  | .hbm, ⟨13, _⟩ => ⟨S4x1, .i32⟩
  | .hbm, ⟨14, _⟩ => ⟨S4096x4x1152, .f32⟩
  | .hbm, ⟨15, _⟩ => ⟨S4x4096x1152, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel8.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1088x4096 : Shape := ⟨2, ![1088, 4096]⟩
abbrev S4096x1152 : Shape := ⟨2, ![4096, 1152]⟩
abbrev S1 : Shape := ⟨1, ![1]⟩
abbrev S1088x1152 : Shape := ⟨2, ![1088, 1152]⟩

abbrev nBuf : Space → Nat
  | .hbm => 5
  | .vmem => 6
  | .smem => 1
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8x128, .f32⟩
  | .hbm, ⟨4, _⟩ => ⟨S4352x9216, .f32⟩
  | .local _ .vmem, ⟨0, _⟩ => ⟨S1088x4096, .bf16⟩
  | .local _ .vmem, ⟨1, _⟩ => ⟨S1088x4096, .bf16⟩
  | .local _ .vmem, ⟨2, _⟩ => ⟨S4096x1152, .bf16⟩
  | .local _ .vmem, ⟨3, _⟩ => ⟨S8x128, .f32⟩
  | .local _ .vmem, ⟨4, _⟩ => ⟨S1088x1152, .f32⟩
  | .local _ .vmem, ⟨5, _⟩ => ⟨S1088x1152, .f32⟩
  | .local _ .smem, ⟨0, _⟩ => ⟨S8, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c0_i32 : BitVec 32 := 0#32
  let arg0 : BitVec 32 := BitVec.ofNat 32 (i 0).val
  let v0 : BitVec 32 := Scalar.addi c0_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast v0
  let v2 : BitVec 32 := pf.at 0 (Rect.unit (s := S8) ![v1.toNat] S1.size (k0_off1_inb i)) numel1_S1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast v0
  let v2 : BitVec 32 := pf.at 0 (Rect.unit (s := S8) ![v1.toNat] S1.size (k0_off1_inb i)) numel1_S1
  let c0_i32_0 : BitVec 32 := 0#32
  ![arg1.toNat, v2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8, .i32⟩
  | .hbm, ⟨4, _⟩ => ⟨S8x128, .f32⟩
  | .hbm, ⟨5, _⟩ => ⟨S1, .i32⟩
  | .hbm, ⟨6, _⟩ => ⟨S_, .i32⟩
  | .hbm, ⟨7, _⟩ => ⟨S4352x4096, .f32⟩
  | .hbm, ⟨8, _⟩ => ⟨S4096x9216, .f32⟩
  | .hbm, ⟨9, _⟩ => ⟨S4352x9216, .f32⟩
  | .hbm, ⟨10, _⟩ => ⟨S4352x9216, .i32⟩
  | .hbm, ⟨11, _⟩ => ⟨S_, .i32⟩
  | .hbm, ⟨12, _⟩ => ⟨S_, .i32⟩
  | .hbm, ⟨13, _⟩ => ⟨S4352x9216, .i32⟩
  | .hbm, ⟨14, _⟩ => ⟨S4352x9216, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4352x9216, .i32⟩
  | .hbm, ⟨20, _⟩ => ⟨S4352x9216, .i1⟩
  | .hbm, ⟨21, _⟩ => ⟨S4352x9216, .i1⟩
  | .hbm, ⟨22, _⟩ => ⟨S4352x9216, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel9.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1088x4096 : Shape := ⟨2, ![1088, 4096]⟩
abbrev S4096x1152 : Shape := ⟨2, ![4096, 1152]⟩
abbrev S1 : Shape := ⟨1, ![1]⟩
abbrev S1088x1152 : Shape := ⟨2, ![1088, 1152]⟩

abbrev nBuf : Space → Nat
  | .hbm => 5
  | .vmem => 7
  | .smem => 1
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8x128, .f32⟩
  | .hbm, ⟨4, _⟩ => ⟨S4352x9216, .f32⟩
  | .local _ .vmem, ⟨0, _⟩ => ⟨S1088x4096, .bf16⟩
  | .local _ .vmem, ⟨1, _⟩ => ⟨S1088x4096, .bf16⟩
  | .local _ .vmem, ⟨2, _⟩ => ⟨S4096x1152, .bf16⟩
  | .local _ .vmem, ⟨3, _⟩ => ⟨S4096x1152, .bf16⟩
  | .local _ .vmem, ⟨4, _⟩ => ⟨S8x128, .f32⟩
  | .local _ .vmem, ⟨5, _⟩ => ⟨S1088x1152, .f32⟩
  | .local _ .vmem, ⟨6, _⟩ => ⟨S1088x1152, .f32⟩
  | .local _ .smem, ⟨0, _⟩ => ⟨S8, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S8) ![v1.toNat] S1.size (k0_off1_inb i)) numel1_S1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S8) ![v1.toNat] S1.size (k0_off1_inb i)) numel1_S1
  let c0_i32 : BitVec 32 := 0#32
  ![arg1.toNat, v2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8, .i32⟩
  | .hbm, ⟨4, _⟩ => ⟨S8x128, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S4352x4096, .f32⟩
  | .hbm, ⟨10, _⟩ => ⟨S4096x9216, .f32⟩
  | .hbm, ⟨11, _⟩ => ⟨S4352x9216, .f32⟩
  | .hbm, ⟨12, _⟩ => ⟨S4352x9216, .i32⟩
  | .hbm, ⟨13, _⟩ => ⟨S_, .i32⟩
  | .hbm, ⟨14, _⟩ => ⟨S_, .i32⟩
  | .hbm, ⟨15, _⟩ => ⟨S4352x9216, .i32⟩
  | .hbm, ⟨16, _⟩ => ⟨S4352x9216, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4352x9216, .i32⟩
  | .hbm, ⟨22, _⟩ => ⟨S4352x9216, .i1⟩
  | .hbm, ⟨23, _⟩ => ⟨S4352x9216, .i1⟩
  | .hbm, ⟨24, _⟩ => ⟨S4352x9216, .f32⟩
  | .hbm, ⟨25, _⟩ => ⟨S_, .i32⟩
  | .hbm, ⟨26, _⟩ => ⟨S_, .i32⟩
  | .hbm, ⟨27, _⟩ => ⟨S4352x9216, .i32⟩
  | .hbm, ⟨28, _⟩ => ⟨S4352x9216, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4352x9216, .i32⟩
  | .hbm, ⟨34, _⟩ => ⟨S4352x9216, .i1⟩
  | .hbm, ⟨35, _⟩ => ⟨S4352x9216, .i1⟩
  | .hbm, ⟨36, _⟩ => ⟨S4352x9216, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel10.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1088x4096 : Shape := ⟨2, ![1088, 4096]⟩
abbrev S4096x1152 : Shape := ⟨2, ![4096, 1152]⟩
abbrev S1 : Shape := ⟨1, ![1]⟩
abbrev S1088x1152 : Shape := ⟨2, ![1088, 1152]⟩

abbrev nBuf : Space → Nat
  | .hbm => 5
  | .vmem => 7
  | .smem => 1
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8x128, .f32⟩
  | .hbm, ⟨4, _⟩ => ⟨S4352x9216, .f32⟩
  | .local _ .vmem, ⟨0, _⟩ => ⟨S1088x4096, .bf16⟩
  | .local _ .vmem, ⟨1, _⟩ => ⟨S1088x4096, .bf16⟩
  | .local _ .vmem, ⟨2, _⟩ => ⟨S4096x1152, .bf16⟩
  | .local _ .vmem, ⟨3, _⟩ => ⟨S4096x1152, .bf16⟩
  | .local _ .vmem, ⟨4, _⟩ => ⟨S8x128, .f32⟩
  | .local _ .vmem, ⟨5, _⟩ => ⟨S1088x1152, .f32⟩
  | .local _ .vmem, ⟨6, _⟩ => ⟨S1088x1152, .f32⟩
  | .local _ .smem, ⟨0, _⟩ => ⟨S8, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c3_i32 : BitVec 32 := 3#32
  let arg0 : BitVec 32 := BitVec.ofNat 32 (i 0).val
  let v0 : BitVec 32 := Scalar.addi c3_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let v1 : Index := Scalar.indexCast v0
  let v2 : BitVec 32 := pf.at 0 (Rect.unit (s := S8) ![v1.toNat] S1.size (k0_off1_inb i)) numel1_S1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let v1 : Index := Scalar.indexCast v0
  let v2 : BitVec 32 := pf.at 0 (Rect.unit (s := S8) ![v1.toNat] S1.size (k0_off1_inb i)) numel1_S1
  let c0_i32 : BitVec 32 := 0#32
  ![arg1.toNat, v2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8, .i32⟩
  | .hbm, ⟨4, _⟩ => ⟨S8x128, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S4352x4096, .f32⟩
  | .hbm, ⟨10, _⟩ => ⟨S4096x9216, .f32⟩
  | .hbm, ⟨11, _⟩ => ⟨S4352x9216, .f32⟩
  | .hbm, ⟨12, _⟩ => ⟨S4352x9216, .i32⟩
  | .hbm, ⟨13, _⟩ => ⟨S_, .i32⟩
  | .hbm, ⟨14, _⟩ => ⟨S_, .i32⟩
  | .hbm, ⟨15, _⟩ => ⟨S4352x9216, .i32⟩
  | .hbm, ⟨16, _⟩ => ⟨S4352x9216, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4352x9216, .i32⟩
  | .hbm, ⟨22, _⟩ => ⟨S4352x9216, .i1⟩
  | .hbm, ⟨23, _⟩ => ⟨S4352x9216, .i1⟩
  | .hbm, ⟨24, _⟩ => ⟨S4352x9216, .f32⟩
  | .hbm, ⟨25, _⟩ => ⟨S_, .i32⟩
  | .hbm, ⟨26, _⟩ => ⟨S_, .i32⟩
  | .hbm, ⟨27, _⟩ => ⟨S4352x9216, .i32⟩
  | .hbm, ⟨28, _⟩ => ⟨S4352x9216, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4352x9216, .i32⟩
  | .hbm, ⟨34, _⟩ => ⟨S4352x9216, .i1⟩
  | .hbm, ⟨35, _⟩ => ⟨S4352x9216, .i1⟩
  | .hbm, ⟨36, _⟩ => ⟨S4352x9216, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel11.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1088x4096 : Shape := ⟨2, ![1088, 4096]⟩
abbrev S4096x1152 : Shape := ⟨2, ![4096, 1152]⟩
abbrev S1 : Shape := ⟨1, ![1]⟩
abbrev S1088x1152 : Shape := ⟨2, ![1088, 1152]⟩

abbrev nBuf : Space → Nat
  | .hbm => 5
  | .vmem => 7
  | .smem => 1
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8x128, .f32⟩
  | .hbm, ⟨4, _⟩ => ⟨S4352x9216, .f32⟩
  | .local _ .vmem, ⟨0, _⟩ => ⟨S1088x4096, .bf16⟩
  | .local _ .vmem, ⟨1, _⟩ => ⟨S1088x4096, .bf16⟩
  | .local _ .vmem, ⟨2, _⟩ => ⟨S4096x1152, .bf16⟩
  | .local _ .vmem, ⟨3, _⟩ => ⟨S4096x1152, .bf16⟩
  | .local _ .vmem, ⟨4, _⟩ => ⟨S8x128, .f32⟩
  | .local _ .vmem, ⟨5, _⟩ => ⟨S1088x1152, .f32⟩
  | .local _ .vmem, ⟨6, _⟩ => ⟨S1088x1152, .f32⟩
  | .local _ .smem, ⟨0, _⟩ => ⟨S8, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c5_i32 : BitVec 32 := 5#32
  let arg0 : BitVec 32 := BitVec.ofNat 32 (i 0).val
  let v0 : BitVec 32 := Scalar.addi c5_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let v1 : Index := Scalar.indexCast v0
  let v2 : BitVec 32 := pf.at 0 (Rect.unit (s := S8) ![v1.toNat] S1.size (k0_off1_inb i)) numel1_S1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let v1 : Index := Scalar.indexCast v0
  let v2 : BitVec 32 := pf.at 0 (Rect.unit (s := S8) ![v1.toNat] S1.size (k0_off1_inb i)) numel1_S1
  let c0_i32 : BitVec 32 := 0#32
  ![arg1.toNat, v2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8, .i32⟩
  | .hbm, ⟨4, _⟩ => ⟨S8x128, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S4352x4096, .f32⟩
  | .hbm, ⟨10, _⟩ => ⟨S4096x9216, .f32⟩
  | .hbm, ⟨11, _⟩ => ⟨S4352x9216, .f32⟩
  | .hbm, ⟨12, _⟩ => ⟨S4352x9216, .i32⟩
  | .hbm, ⟨13, _⟩ => ⟨S_, .i32⟩
  | .hbm, ⟨14, _⟩ => ⟨S_, .i32⟩
  | .hbm, ⟨15, _⟩ => ⟨S4352x9216, .i32⟩
  | .hbm, ⟨16, _⟩ => ⟨S4352x9216, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4352x9216, .i32⟩
  | .hbm, ⟨22, _⟩ => ⟨S4352x9216, .i1⟩
  | .hbm, ⟨23, _⟩ => ⟨S4352x9216, .i1⟩
  | .hbm, ⟨24, _⟩ => ⟨S4352x9216, .f32⟩
  | .hbm, ⟨25, _⟩ => ⟨S_, .i32⟩
  | .hbm, ⟨26, _⟩ => ⟨S_, .i32⟩
  | .hbm, ⟨27, _⟩ => ⟨S4352x9216, .i32⟩
  | .hbm, ⟨28, _⟩ => ⟨S4352x9216, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4352x9216, .i32⟩
  | .hbm, ⟨34, _⟩ => ⟨S4352x9216, .i1⟩
  | .hbm, ⟨35, _⟩ => ⟨S4352x9216, .i1⟩
  | .hbm, ⟨36, _⟩ => ⟨S4352x9216, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel12.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1088x4096 : Shape := ⟨2, ![1088, 4096]⟩
abbrev S4096x1152 : Shape := ⟨2, ![4096, 1152]⟩
abbrev S1 : Shape := ⟨1, ![1]⟩
abbrev S1088x1152 : Shape := ⟨2, ![1088, 1152]⟩

abbrev nBuf : Space → Nat
  | .hbm => 5
  | .vmem => 6
  | .smem => 1
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8x128, .f32⟩
  | .hbm, ⟨4, _⟩ => ⟨S4352x9216, .f32⟩
  | .local _ .vmem, ⟨0, _⟩ => ⟨S1088x4096, .bf16⟩
  | .local _ .vmem, ⟨1, _⟩ => ⟨S1088x4096, .bf16⟩
  | .local _ .vmem, ⟨2, _⟩ => ⟨S4096x1152, .bf16⟩
  | .local _ .vmem, ⟨3, _⟩ => ⟨S8x128, .f32⟩
  | .local _ .vmem, ⟨4, _⟩ => ⟨S1088x1152, .f32⟩
  | .local _ .vmem, ⟨5, _⟩ => ⟨S1088x1152, .f32⟩
  | .local _ .smem, ⟨0, _⟩ => ⟨S8, .i32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c7_i32 : BitVec 32 := 7#32
  let arg0 : BitVec 32 := BitVec.ofNat 32 (i 0).val
  let v0 : BitVec 32 := Scalar.addi c7_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let v1 : Index := Scalar.indexCast v0
  let v2 : BitVec 32 := pf.at 0 (Rect.unit (s := S8) ![v1.toNat] S1.size (k0_off1_inb i)) numel1_S1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let v1 : Index := Scalar.indexCast v0
  let v2 : BitVec 32 := pf.at 0 (Rect.unit (s := S8) ![v1.toNat] S1.size (k0_off1_inb i)) numel1_S1
  let c0_i32 : BitVec 32 := 0#32
  ![arg1.toNat, v2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4352x4096 : Shape := ⟨2, ![4352, 4096]⟩
abbrev S4096x9216 : Shape := ⟨2, ![4096, 9216]⟩
abbrev S4352x9216 : Shape := ⟨2, ![4352, 9216]⟩
abbrev S8 : Shape := ⟨1, ![8]⟩
abbrev S8x128 : Shape := ⟨2, ![8, 128]⟩
abbrev S1 : Shape := ⟨1, ![1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x9216, .bf16⟩
  | .hbm, ⟨2, _⟩ => ⟨S4352x9216, .f32⟩
  | .hbm, ⟨3, _⟩ => ⟨S8, .i32⟩
  | .hbm, ⟨4, _⟩ => ⟨S8x128, .f32⟩
  | .hbm, ⟨5, _⟩ => ⟨S1, .i32⟩
  | .hbm, ⟨6, _⟩ => ⟨S_, .i32⟩
  | .hbm, ⟨7, _⟩ => ⟨S4352x4096, .f32⟩
  | .hbm, ⟨8, _⟩ => ⟨S4096x9216, .f32⟩
  | .hbm, ⟨9, _⟩ => ⟨S4352x9216, .f32⟩
  | .hbm, ⟨10, _⟩ => ⟨S4352x9216, .i32⟩
  | .hbm, ⟨11, _⟩ => ⟨S_, .i32⟩
  | .hbm, ⟨12, _⟩ => ⟨S_, .i32⟩
  | .hbm, ⟨13, _⟩ => ⟨S4352x9216, .i32⟩
  | .hbm, ⟨14, _⟩ => ⟨S4352x9216, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4352x9216, .i32⟩
  | .hbm, ⟨20, _⟩ => ⟨S4352x9216, .i1⟩
  | .hbm, ⟨21, _⟩ => ⟨S4352x9216, .i1⟩
  | .hbm, ⟨22, _⟩ => ⟨S4352x9216, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel13.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S256x4096 : Shape := ⟨2, ![256, 4096]⟩
abbrev S4096x4096 : Shape := ⟨2, ![4096, 4096]⟩
abbrev S1x4096 : Shape := ⟨2, ![1, 4096]⟩
abbrev S2x8x4096 : Shape := ⟨3, ![2, 8, 4096]⟩
abbrev S4352x4096 : Shape := ⟨2, ![4352, 4096]⟩
abbrev S1x8x4096 : Shape := ⟨3, ![1, 8, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S1x4096, .f32⟩
  | .hbm, ⟨3, _⟩ => ⟨S2x8x4096, .f32⟩
  | .hbm, ⟨4, _⟩ => ⟨S4352x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x8x4096, .f32⟩
  | .local _ .vmem, ⟨6, _⟩ => ⟨S1x8x4096, .f32⟩
  | .local _ .vmem, ⟨7, _⟩ => ⟨S256x4096, .bf16⟩
  | .local _ .vmem, ⟨8, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S256x4096 : Shape := ⟨2, ![256, 4096]⟩
abbrev S4096x4096 : Shape := ⟨2, ![4096, 4096]⟩
abbrev S1x4096 : Shape := ⟨2, ![1, 4096]⟩
abbrev S2x8x4096 : Shape := ⟨3, ![2, 8, 4096]⟩
abbrev S1x1x4096 : Shape := ⟨3, ![1, 1, 4096]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x4096 : Shape := ⟨2, ![4352, 4096]⟩

abbrev nBuf : Space → Nat
  | .hbm => 58
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S1x4096, .f32⟩
  | .hbm, ⟨3, _⟩ => ⟨S2x8x4096, .f32⟩
  | .hbm, ⟨4, _⟩ => ⟨S1x1x4096, .f32⟩
  | .hbm, ⟨5, _⟩ => ⟨S1x4096, .f32⟩
  | .hbm, ⟨6, _⟩ => ⟨S1x1x4096, .f32⟩
  | .hbm, ⟨7, _⟩ => ⟨S1x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x1x4096, .f32⟩
  | .hbm, ⟨31, _⟩ => ⟨S1x4096, .f32⟩
  | .hbm, ⟨32, _⟩ => ⟨S1x1x4096, .f32⟩
  | .hbm, ⟨33, _⟩ => ⟨S1x4096, .f32⟩
  | .hbm, ⟨34, _⟩ => ⟨S256x4096, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x4096, .f32⟩
  | .hbm, ⟨46, _⟩ => ⟨S256x4096, .f32⟩
  | .hbm, ⟨47, _⟩ => ⟨S256x4096, .f32⟩
  | .hbm, ⟨48, _⟩ => ⟨S256x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S256x4096, .f32⟩
  | .hbm, ⟨53, _⟩ => ⟨S256x4096, .f32⟩
  | .hbm, ⟨54, _⟩ => ⟨S256x4096, .f32⟩
  | .hbm, ⟨55, _⟩ => ⟨S256x4096, .f32⟩
  | .hbm, ⟨56, _⟩ => ⟨S4352x4096, .f32⟩
  | .hbm, ⟨57, _⟩ => ⟨S4352x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel15.lean ====
abbrev S4096x512 : Shape := ⟨2, ![4096, 512]⟩
abbrev S4096x4096 : Shape := ⟨2, ![4096, 4096]⟩
abbrev S4352x9216 : Shape := ⟨2, ![4352, 9216]⟩
abbrev S8x4x64x512 : Shape := ⟨4, ![8, 4, 64, 512]⟩
abbrev S1x2048 : Shape := ⟨2, ![1, 2048]⟩
abbrev S8x1x64x512 : Shape := ⟨4, ![8, 1, 64, 512]⟩
abbrev S8x64x512 : Shape := ⟨3, ![8, 64, 512]⟩
abbrev S512x512 : Shape := ⟨2, ![512, 512]⟩
abbrev S8x512 : Shape := ⟨2, ![8, 512]⟩
abbrev S2048x512 : Shape := ⟨2, ![2048, 512]⟩
abbrev S1x512 : Shape := ⟨2, ![1, 512]⟩
abbrev S512 : Shape := ⟨1, ![512]⟩

abbrev nBuf : Space → Nat
  | .hbm => 16
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x4096, .f32⟩
  | .hbm, ⟨2, _⟩ => ⟨S4352x9216, .f32⟩
  | .hbm, ⟨3, _⟩ => ⟨S8x4x64x512, .bf16⟩
  | .hbm, ⟨4, _⟩ => ⟨S1x2048, .f32⟩
  | .hbm, ⟨5, _⟩ => ⟨S4352x9216, .bf16⟩
  | .hbm, ⟨6, _⟩ => ⟨S4096x512, .f32⟩
  | .hbm, ⟨7, _⟩ => ⟨S8x1x64x512, .bf16⟩
  | .hbm, ⟨8, _⟩ => ⟨S8x64x512, .bf16⟩
  | .hbm, ⟨9, _⟩ => ⟨S512x512, .bf16⟩
  | .hbm, ⟨10, _⟩ => ⟨S512x512, .f32⟩
  | .hbm, ⟨11, _⟩ => ⟨S4096x512, .f32⟩
  | .hbm, ⟨12, _⟩ => ⟨S4352x9216, .bf16⟩
  | .hbm, ⟨13, _⟩ => ⟨S4096x512, .bf16⟩
  | .hbm, ⟨14, _⟩ => ⟨S4096x512, .f32⟩
  | .hbm, ⟨15, _⟩ => ⟨S8x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S8x1x64x512, .bf16⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | .local _ .vmem, ⟨13, _⟩ => ⟨S2048x512, .f32⟩
  | .local _ .vmem, ⟨14, _⟩ => ⟨S8x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference15Ideal.lean ====
abbrev S4096x512 : Shape := ⟨2, ![4096, 512]⟩
abbrev S4096x4096 : Shape := ⟨2, ![4096, 4096]⟩
abbrev S4352x9216 : Shape := ⟨2, ![4352, 9216]⟩
abbrev S8x4x64x512 : Shape := ⟨4, ![8, 4, 64, 512]⟩
abbrev S1x2048 : Shape := ⟨2, ![1, 2048]⟩
abbrev S8x1x64x512 : Shape := ⟨4, ![8, 1, 64, 512]⟩
abbrev S8x64x512 : Shape := ⟨3, ![8, 64, 512]⟩
abbrev S512x512 : Shape := ⟨2, ![512, 512]⟩
abbrev S1x512 : Shape := ⟨2, ![1, 512]⟩
abbrev S_ : Shape := ⟨0, ![]⟩
abbrev S512 : Shape := ⟨1, ![512]⟩
abbrev S1 : Shape := ⟨1, ![1]⟩
abbrev S2 : Shape := ⟨1, ![2]⟩
abbrev S8x512 : Shape := ⟨2, ![8, 512]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .f32⟩
  | .hbm, ⟨2, _⟩ => ⟨S4352x9216, .f32⟩
  | .hbm, ⟨3, _⟩ => ⟨S8x4x64x512, .bf16⟩
  | .hbm, ⟨4, _⟩ => ⟨S1x2048, .f32⟩
  | .hbm, ⟨5, _⟩ => ⟨S4352x9216, .bf16⟩
  | .hbm, ⟨6, _⟩ => ⟨S4096x512, .f32⟩
  | .hbm, ⟨7, _⟩ => ⟨S8x1x64x512, .bf16⟩
  | .hbm, ⟨8, _⟩ => ⟨S8x64x512, .bf16⟩
  | .hbm, ⟨9, _⟩ => ⟨S512x512, .bf16⟩
  | .hbm, ⟨10, _⟩ => ⟨S512x512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S4096x512, .f32⟩
  | .hbm, ⟨42, _⟩ => ⟨S4096x512, .f32⟩
  | .hbm, ⟨43, _⟩ => ⟨S4096x512, .bf16⟩
  | .hbm, ⟨44, _⟩ => ⟨S4096x512, .bf16⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S4352x9216, .bf16⟩
  | .hbm, ⟨51, _⟩ => ⟨S4096x512, .f32⟩
  | .hbm, ⟨52, _⟩ => ⟨S4096x512, .f32⟩
  | .hbm, ⟨53, _⟩ => ⟨S_, .i32⟩
  | .hbm, ⟨54, _⟩ => ⟨S_, .f32⟩
  | .hbm, ⟨55, _⟩ => ⟨S8x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v10_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v10_1 : Ref sig .tc := ⟨.hbm, 27, rfl⟩
abbrev main_v10_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_c_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_1 : Ref sig .tc := ⟨.hbm, 53, rfl⟩
abbrev main_call2_v0 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel16.lean ====
abbrev S4096x4096 : Shape := ⟨2, ![4096, 4096]⟩
abbrev S1x4096 : Shape := ⟨2, ![1, 4096]⟩
abbrev S8x4096 : Shape := ⟨2, ![8, 4096]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩
abbrev S1x256x4096 : Shape := ⟨3, ![1, 256, 4096]⟩
abbrev S1 : Shape := ⟨1, ![1]⟩
abbrev S1x1x1 : Shape := ⟨3, ![1, 1, 1]⟩
abbrev S4096 : Shape := ⟨1, ![4096]⟩

abbrev nBuf : Space → Nat
  | .hbm => 10
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8x4096, .f32⟩
  | .hbm, ⟨8, _⟩ => ⟨S8x4096, .f32⟩
  | .hbm, ⟨9, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S8x4096, .f32⟩
  | .local _ .vmem, ⟨13, _⟩ => ⟨S8x4096, .f32⟩
  | .local _ .vmem, ⟨14, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S8x128 : Shape := ⟨2, ![8, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x4096, .f32⟩
  | .hbm, ⟨67, _⟩ => ⟨S4096x4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .bf16⟩
  | .hbm, ⟨80, _⟩ => ⟨S_, .i32⟩
  | .hbm, ⟨81, _⟩ => ⟨S_, .f32⟩
  | .hbm, ⟨82, _⟩ => ⟨S8x4096, .f32⟩
  | .hbm, ⟨83, _⟩ => ⟨S_, .i32⟩
  | .hbm, ⟨84, _⟩ => ⟨S_, .f32⟩
  | .hbm, ⟨85, _⟩ => ⟨S8x4096, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S_, .f32⟩
  | .hbm, ⟨90, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_call0_v0 : Ref sig .tc := ⟨.hbm, 81, rfl⟩
abbrev main_v58 : Ref sig .tc := ⟨.hbm, 82, rfl⟩
abbrev main_c_16 : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel17.lean ====
abbrev S16x4096 : Shape := ⟨2, ![16, 4096]⟩
abbrev S16x1536 : Shape := ⟨2, ![16, 1536]⟩
abbrev S4096x1536 : Shape := ⟨2, ![4096, 1536]⟩
abbrev S8x4096 : Shape := ⟨2, ![8, 4096]⟩
abbrev S16x256 : Shape := ⟨2, ![16, 256]⟩
abbrev S256x1536 : Shape := ⟨2, ![256, 1536]⟩
abbrev S8x256 : Shape := ⟨2, ![8, 256]⟩
abbrev S256 : Shape := ⟨1, ![256]⟩
abbrev S1x256 : Shape := ⟨2, ![1, 256]⟩

abbrev nBuf : Space → Nat
  | .hbm => 10
  | .vmem => 19
  | .smem => 0
  | _ => 0

abbrev bufTy : (tb : Table) → Fin (tcTables nBuf tb) → BufTy
  | .hbm, ⟨0, _⟩ => ⟨S16x4096, .f32⟩
  | .hbm, ⟨1, _⟩ => ⟨S16x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S8x4096, .f32⟩
  | .local _ .vmem, ⟨0, _⟩ => ⟨S16x256, .f32⟩
  | .local _ .vmem, ⟨1, _⟩ => ⟨S16x256, .f32⟩
  | .local _ .vmem, ⟨2, _⟩ => ⟨S16x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S8x256, .f32⟩
  | .local _ .vmem, ⟨18, _⟩ => ⟨S8x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference17Ideal.lean ====
abbrev S16x4096 : Shape := ⟨2, ![16, 4096]⟩
abbrev S16x1536 : Shape := ⟨2, ![16, 1536]⟩
abbrev S4096x1536 : Shape := ⟨2, ![4096, 1536]⟩
abbrev S_ : Shape := ⟨0, ![]⟩
abbrev S1536x4096 : Shape := ⟨2, ![1536, 4096]⟩
abbrev S8x4096 : Shape := ⟨2, ![8, 4096]⟩
abbrev S4096 : Shape := ⟨1, ![4096]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16x4096, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x1536, .f32⟩
  | .hbm, ⟨15, _⟩ => ⟨S1536x4096, .f32⟩
  | .hbm, ⟨16, _⟩ => ⟨S4096x1536, .f32⟩
  | .hbm, ⟨17, _⟩ => ⟨S16x4096, .f32⟩
  | .hbm, ⟨18, _⟩ => ⟨S8x4096, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S_, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S_, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S_, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S_, .f32⟩
  | .hbm, ⟨53, _⟩ => ⟨S4096x1536, .f32⟩
  | .hbm, ⟨54, _⟩ => ⟨S4096x1536, .f32⟩
  | .hbm, ⟨55, _⟩ => ⟨S8x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel18.lean ====
abbrev S16x4096 : Shape := ⟨2, ![16, 4096]⟩
abbrev S4096x1536 : Shape := ⟨2, ![4096, 1536]⟩
abbrev S16x1536 : Shape := ⟨2, ![16, 1536]⟩
abbrev S16x512 : Shape := ⟨2, ![16, 512]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S4096x1536, .f32⟩
  | .hbm, ⟨2, _⟩ => ⟨S16x1536, .f32⟩
  | .local _ .vmem, ⟨0, _⟩ => ⟨S16x512, .f32⟩
  | .local _ .vmem, ⟨1, _⟩ => ⟨S16x512, .f32⟩
  | .local _ .vmem, ⟨2, _⟩ => ⟨S512x1536, .f32⟩
  | .local _ .vmem, ⟨3, _⟩ => ⟨S512x1536, .f32⟩
  | .local _ .vmem, ⟨4, _⟩ => ⟨S16x1536, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference18Ideal.lean ====
abbrev S16x4096 : Shape := ⟨2, ![16, 4096]⟩
abbrev S4096x1536 : Shape := ⟨2, ![4096, 1536]⟩
abbrev S_ : Shape := ⟨0, ![]⟩
abbrev S16x1536 : Shape := ⟨2, ![16, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x1536, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16x4096, .f32⟩
  | .hbm, ⟨9, _⟩ => ⟨S16x4096, .f32⟩
  | .hbm, ⟨10, _⟩ => ⟨S16x4096, .f32⟩
  | .hbm, ⟨11, _⟩ => ⟨S16x1536, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Kernel19.lean ====
abbrev S4 : Shape := ⟨1, ![4]⟩
abbrev S4x4096x1152 : Shape := ⟨3, ![4, 4096, 1152]⟩
abbrev S3x4096x1152 : Shape := ⟨3, ![3, 4096, 1152]⟩
abbrev S4096x1152 : Shape := ⟨2, ![4096, 1152]⟩
abbrev S1x128x1152 : Shape := ⟨3, ![1, 128, 1152]⟩
abbrev S1 : Shape := ⟨1, ![1]⟩
abbrev S3x128x1152 : Shape := ⟨3, ![3, 128, 1152]⟩
abbrev S128x1152 : Shape := ⟨2, ![128, 1152]⟩

abbrev nBuf : Space → Nat
  | .hbm => 10
  | .vmem => 20
  | .smem => 1
  | _ => 0

abbrev bufTy : (tb : Table) → Fin (tcTables nBuf tb) → BufTy
  | .hbm, ⟨0, _⟩ => ⟨S4x4096x1152, .f32⟩
  | .hbm, ⟨1, _⟩ => ⟨S4x4096x1152, .f32⟩
  | .hbm, ⟨2, _⟩ => ⟨S3x4096x1152, .bf16⟩
  | .hbm, ⟨3, _⟩ => ⟨S4096x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .hbm, ⟨9, _⟩ => ⟨S4096x1152, .f32⟩
  | .local _ .vmem, ⟨0, _⟩ => ⟨S1x128x1152, .f32⟩
  | .local _ .vmem, ⟨1, _⟩ => ⟨S1x128x1152, .f32⟩
  | .local _ .vmem, ⟨2, _⟩ => ⟨S1x128x1152, .f32⟩
  | .local _ .vmem, ⟨3, _⟩ => ⟨S1x128x1152, .f32⟩
  | .local _ .vmem, ⟨4, _⟩ => ⟨S3x128x1152, .bf16⟩
  | .local _ .vmem, ⟨5, _⟩ => ⟨S3x128x1152, .bf16⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | .local _ .vmem, ⟨16, _⟩ => ⟨S128x1152, .f32⟩
  | .local _ .vmem, ⟨17, _⟩ => ⟨S128x1152, .f32⟩
  | .local _ .vmem, ⟨18, _⟩ => ⟨S128x1152, .f32⟩
  | .local _ .vmem, ⟨19, _⟩ => ⟨S128x1152, .f32⟩
  | .local _ .smem, ⟨0, _⟩ => ⟨S4, .i32⟩
  | _, _ => ⟨S4x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference19Ideal.lean ====
abbrev S4 : Shape := ⟨1, ![4]⟩
abbrev S4x4096x1152 : Shape := ⟨3, ![4, 4096, 1152]⟩
abbrev S3x4096x1152 : Shape := ⟨3, ![3, 4096, 1152]⟩
abbrev S4096x1152 : Shape := ⟨2, ![4096, 1152]⟩
abbrev S1 : Shape := ⟨1, ![1]⟩
abbrev S1x1 : Shape := ⟨2, ![1, 1]⟩
abbrev S1x4096x1152 : Shape := ⟨3, ![1, 4096, 1152]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x4096x1152, .f32⟩
  | .hbm, ⟨2, _⟩ => ⟨S4x4096x1152, .f32⟩
  | .hbm, ⟨3, _⟩ => ⟨S3x4096x1152, .bf16⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S1, .i32⟩
  | .hbm, ⟨8, _⟩ => ⟨S1x1, .i32⟩
  | .hbm, ⟨9, _⟩ => ⟨S1x4096x1152, .f32⟩
  | .hbm, ⟨10, _⟩ => ⟨S4096x1152, .f32⟩
  | .hbm, ⟨11, _⟩ => ⟨S1x4096x1152, .f32⟩
  | .hbm, ⟨12, _⟩ => ⟨S4096x1152, .f32⟩
  | .hbm, ⟨13, _⟩ => ⟨S4096x1152, .f32⟩
  | .hbm, ⟨14, _⟩ => ⟨S3x4096x1152, .f32⟩
  | .hbm, ⟨15, _⟩ => ⟨S_, .f32⟩
  | .hbm, ⟨16, _⟩ => ⟨S4096x1152, .f32⟩
  | .hbm, ⟨17, _⟩ => ⟨S4096x1152, .f32⟩
  | .hbm, ⟨18, _⟩ => ⟨S_, .f32⟩
  | .hbm, ⟨19, _⟩ => ⟨S4096x1152, .f32⟩
  | .hbm, ⟨20, _⟩ => ⟨S4096x1152, .f32⟩
  | .hbm, ⟨21, _⟩ => ⟨S_, .f32⟩
  | .hbm, ⟨22, _⟩ => ⟨S4096x1152, .f32⟩
  | .hbm, ⟨23, _⟩ => ⟨S4096x1152, .f32⟩
  | .hbm, ⟨24, _⟩ => ⟨S4096x1152, .f32⟩
  | .hbm, ⟨25, _⟩ => ⟨S_, .f32⟩
  | .hbm, ⟨26, _⟩ => ⟨S4096x1152, .f32⟩
  | .hbm, ⟨27, _⟩ => ⟨S4096x1152, .f32⟩
  | .hbm, ⟨28, _⟩ => ⟨S4096x1152, .f32⟩
  | .hbm, ⟨29, _⟩ => ⟨S_, .f32⟩
  | .hbm, ⟨30, _⟩ => ⟨S4096x1152, .f32⟩
  | .hbm, ⟨31, _⟩ => ⟨S4096x1152, .f32⟩
  | .hbm, ⟨32, _⟩ => ⟨S4096x1152, .f32⟩
  | .hbm, ⟨33, _⟩ => ⟨S_, .f32⟩
  | .hbm, ⟨34, _⟩ => ⟨S4096x1152, .f32⟩
  | .hbm, ⟨35, _⟩ => ⟨S4096x1152, .f32⟩
  | .hbm, ⟨36, _⟩ => ⟨S_, .f32⟩
  | .hbm, ⟨37, _⟩ => ⟨S4096x1152, .f32⟩
  | .hbm, ⟨38, _⟩ => ⟨S4096x1152, .f32⟩
  | .hbm, ⟨39, _⟩ => ⟨S4096x1152, .f32⟩
  | .hbm, ⟨40, _⟩ => ⟨S_, .f32⟩
  | .hbm, ⟨41, _⟩ => ⟨S4096x1152, .f32⟩
  | .hbm, ⟨42, _⟩ => ⟨S4096x1152, .f32⟩
  | .hbm, ⟨43, _⟩ => ⟨S4096x1152, .f32⟩
  | .hbm, ⟨44, _⟩ => ⟨S_, .f32⟩
  | .hbm, ⟨45, _⟩ => ⟨S4096x1152, .f32⟩
  | .hbm, ⟨46, _⟩ => ⟨S4096x1152, .f32⟩
  | .hbm, ⟨47, _⟩ => ⟨S4096x1152, .f32⟩
  | .hbm, ⟨48, _⟩ => ⟨S_, .f32⟩
  | .hbm, ⟨49, _⟩ => ⟨S4096x1152, .f32⟩
  | .hbm, ⟨50, _⟩ => ⟨S4096x1152, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel20.lean ====
abbrev S4 : Shape := ⟨1, ![4]⟩
abbrev S8x512x4096 : Shape := ⟨3, ![8, 512, 4096]⟩
abbrev S4x512x4096 : Shape := ⟨3, ![4, 512, 4096]⟩
abbrev S3x512x4096 : Shape := ⟨3, ![3, 512, 4096]⟩
abbrev S512x4096 : Shape := ⟨2, ![512, 4096]⟩
abbrev S1x64x4096 : Shape := ⟨3, ![1, 64, 4096]⟩
abbrev S1 : Shape := ⟨1, ![1]⟩
abbrev S3x64x4096 : Shape := ⟨3, ![3, 64, 4096]⟩
abbrev S64x4096 : Shape := ⟨2, ![64, 4096]⟩

abbrev nBuf : Space → Nat
  | .hbm => 10
  | .vmem => 20
  | .smem => 1
  | _ => 0

abbrev bufTy : (tb : Table) → Fin (tcTables nBuf tb) → BufTy
  | .hbm, ⟨0, _⟩ => ⟨S8x512x4096, .f32⟩
  | .hbm, ⟨1, _⟩ => ⟨S4x512x4096, .f32⟩
  | .hbm, ⟨2, _⟩ => ⟨S3x512x4096, .bf16⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S3x64x4096, .bf16⟩
  | .local _ .vmem, ⟨5, _⟩ => ⟨S3x64x4096, .bf16⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .smem, ⟨0, _⟩ => ⟨S4, .i32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference20Ideal.lean ====
abbrev S4 : Shape := ⟨1, ![4]⟩
abbrev S8x512x4096 : Shape := ⟨3, ![8, 512, 4096]⟩
abbrev S4x512x4096 : Shape := ⟨3, ![4, 512, 4096]⟩
abbrev S3x512x4096 : Shape := ⟨3, ![3, 512, 4096]⟩
abbrev S512x4096 : Shape := ⟨2, ![512, 4096]⟩
abbrev S1 : Shape := ⟨1, ![1]⟩
abbrev S1x1 : Shape := ⟨2, ![1, 1]⟩
abbrev S1x512x4096 : Shape := ⟨3, ![1, 512, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x512x4096, .f32⟩
  | .hbm, ⟨2, _⟩ => ⟨S4x512x4096, .f32⟩
  | .hbm, ⟨3, _⟩ => ⟨S3x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S1, .i32⟩
  | .hbm, ⟨8, _⟩ => ⟨S1x1, .i32⟩
  | .hbm, ⟨9, _⟩ => ⟨S1x512x4096, .f32⟩
  | .hbm, ⟨10, _⟩ => ⟨S512x4096, .f32⟩
  | .hbm, ⟨11, _⟩ => ⟨S1x512x4096, .f32⟩
  | .hbm, ⟨12, _⟩ => ⟨S512x4096, .f32⟩
  | .hbm, ⟨13, _⟩ => ⟨S512x4096, .f32⟩
  | .hbm, ⟨14, _⟩ => ⟨S3x512x4096, .f32⟩
  | .hbm, ⟨15, _⟩ => ⟨S_, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S_, .f32⟩
  | .hbm, ⟨41, _⟩ => ⟨S512x4096, .f32⟩
  | .hbm, ⟨42, _⟩ => ⟨S512x4096, .f32⟩
  | .hbm, ⟨43, _⟩ => ⟨S512x4096, .f32⟩
  | .hbm, ⟨44, _⟩ => ⟨S_, .f32⟩
  | .hbm, ⟨45, _⟩ => ⟨S512x4096, .f32⟩
  | .hbm, ⟨46, _⟩ => ⟨S512x4096, .f32⟩
  | .hbm, ⟨47, _⟩ => ⟨S512x4096, .f32⟩
  | .hbm, ⟨48, _⟩ => ⟨S_, .f32⟩
  | .hbm, ⟨49, _⟩ => ⟨S512x4096, .f32⟩
  | .hbm, ⟨50, _⟩ => ⟨S512x4096, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel21.lean ====
abbrev S4 : Shape := ⟨1, ![4]⟩
abbrev S4x256x512 : Shape := ⟨3, ![4, 256, 512]⟩
abbrev S3x256x512 : Shape := ⟨3, ![3, 256, 512]⟩
abbrev S256x512 : Shape := ⟨2, ![256, 512]⟩
abbrev S1x256x512 : Shape := ⟨3, ![1, 256, 512]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S3x256x512, .bf16⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .local _ .vmem, ⟨0, _⟩ => ⟨S1x256x512, .f32⟩
  | .local _ .vmem, ⟨1, _⟩ => ⟨S1x256x512, .f32⟩
  | .local _ .vmem, ⟨2, _⟩ => ⟨S3x256x512, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .smem, ⟨0, _⟩ => ⟨S4, .i32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference21Ideal.lean ====
abbrev S4 : Shape := ⟨1, ![4]⟩
abbrev S4x256x512 : Shape := ⟨3, ![4, 256, 512]⟩
abbrev S3x256x512 : Shape := ⟨3, ![3, 256, 512]⟩
abbrev S256x512 : Shape := ⟨2, ![256, 512]⟩
abbrev S1 : Shape := ⟨1, ![1]⟩
abbrev S1x1 : Shape := ⟨2, ![1, 1]⟩
abbrev S1x256x512 : Shape := ⟨3, ![1, 256, 512]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x256x512, .f32⟩
  | .hbm, ⟨2, _⟩ => ⟨S4x256x512, .f32⟩
  | .hbm, ⟨3, _⟩ => ⟨S3x256x512, .bf16⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S1, .i32⟩
  | .hbm, ⟨8, _⟩ => ⟨S1x1, .i32⟩
  | .hbm, ⟨9, _⟩ => ⟨S1x256x512, .f32⟩
  | .hbm, ⟨10, _⟩ => ⟨S256x512, .f32⟩
  | .hbm, ⟨11, _⟩ => ⟨S1x256x512, .f32⟩
  | .hbm, ⟨12, _⟩ => ⟨S256x512, .f32⟩
  | .hbm, ⟨13, _⟩ => ⟨S256x512, .f32⟩
  | .hbm, ⟨14, _⟩ => ⟨S3x256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S_, .f32⟩
  | .hbm, ⟨41, _⟩ => ⟨S256x512, .f32⟩
  | .hbm, ⟨42, _⟩ => ⟨S256x512, .f32⟩
  | .hbm, ⟨43, _⟩ => ⟨S256x512, .f32⟩
  | .hbm, ⟨44, _⟩ => ⟨S_, .f32⟩
  | .hbm, ⟨45, _⟩ => ⟨S256x512, .f32⟩
  | .hbm, ⟨46, _⟩ => ⟨S256x512, .f32⟩
  | .hbm, ⟨47, _⟩ => ⟨S256x512, .f32⟩
  | .hbm, ⟨48, _⟩ => ⟨S_, .f32⟩
  | .hbm, ⟨49, _⟩ => ⟨S256x512, .f32⟩
  | .hbm, ⟨50, _⟩ => ⟨S256x512, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel23.lean ====
abbrev S4 : Shape := ⟨1, ![4]⟩
abbrev S4x4096x1152 : Shape := ⟨3, ![4, 4096, 1152]⟩
abbrev S3x4096x1152 : Shape := ⟨3, ![3, 4096, 1152]⟩
abbrev S1x256x1152 : Shape := ⟨3, ![1, 256, 1152]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S4x4096x1152, .f32⟩
  | .hbm, ⟨1, _⟩ => ⟨S4x4096x1152, .f32⟩
  | .hbm, ⟨2, _⟩ => ⟨S3x4096x1152, .bf16⟩
  | .local _ .vmem, ⟨0, _⟩ => ⟨S1x256x1152, .f32⟩
  | .local _ .vmem, ⟨1, _⟩ => ⟨S1x256x1152, .f32⟩
  | .local _ .vmem, ⟨2, _⟩ => ⟨S1x256x1152, .f32⟩
  | .local _ .vmem, ⟨3, _⟩ => ⟨S1x256x1152, .f32⟩
  | .local _ .vmem, ⟨4, _⟩ => ⟨S1x256x1152, .bf16⟩
  | .local _ .vmem, ⟨5, _⟩ => ⟨S1x256x1152, .bf16⟩
  | .local _ .smem, ⟨0, _⟩ => ⟨S4, .i32⟩
  | _, _ => ⟨S4x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let v1 : Index := Scalar.indexCast v0
  ![v1.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4 : Shape := ⟨1, ![4]⟩
abbrev S4x4096x1152 : Shape := ⟨3, ![4, 4096, 1152]⟩
abbrev S3 : Shape := ⟨1, ![3]⟩
abbrev S3x1 : Shape := ⟨2, ![3, 1]⟩
abbrev S3x4096x1152 : Shape := ⟨3, ![3, 4096, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x4096x1152, .f32⟩
  | .hbm, ⟨2, _⟩ => ⟨S4x4096x1152, .f32⟩
  | .hbm, ⟨3, _⟩ => ⟨S3, .i32⟩
  | .hbm, ⟨4, _⟩ => ⟨S3x1, .i32⟩
  | .hbm, ⟨5, _⟩ => ⟨S3x4096x1152, .f32⟩
  | .hbm, ⟨6, _⟩ => ⟨S3x4096x1152, .f32⟩
  | .hbm, ⟨7, _⟩ => ⟨S3x4096x1152, .f32⟩
  | .hbm, ⟨8, _⟩ => ⟨S3x4096x1152, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel24.lean ====
abbrev S4 : Shape := ⟨1, ![4]⟩
abbrev S8x512x4096 : Shape := ⟨3, ![8, 512, 4096]⟩
abbrev S4x512x4096 : Shape := ⟨3, ![4, 512, 4096]⟩
abbrev S3x512x4096 : Shape := ⟨3, ![3, 512, 4096]⟩
abbrev S1x128x4096 : Shape := ⟨3, ![1, 128, 4096]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S8x512x4096, .f32⟩
  | .hbm, ⟨1, _⟩ => ⟨S4x512x4096, .f32⟩
  | .hbm, ⟨2, _⟩ => ⟨S3x512x4096, .bf16⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .bf16⟩
  | .local _ .vmem, ⟨5, _⟩ => ⟨S1x128x4096, .bf16⟩
  | .local _ .smem, ⟨0, _⟩ => ⟨S4, .i32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let v1 : Index := Scalar.indexCast v0
  ![v1.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4 : Shape := ⟨1, ![4]⟩
abbrev S8x512x4096 : Shape := ⟨3, ![8, 512, 4096]⟩
abbrev S4x512x4096 : Shape := ⟨3, ![4, 512, 4096]⟩
abbrev S3 : Shape := ⟨1, ![3]⟩
abbrev S3x1 : Shape := ⟨2, ![3, 1]⟩
abbrev S3x512x4096 : Shape := ⟨3, ![3, 512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x512x4096, .f32⟩
  | .hbm, ⟨2, _⟩ => ⟨S4x512x4096, .f32⟩
  | .hbm, ⟨3, _⟩ => ⟨S3, .i32⟩
  | .hbm, ⟨4, _⟩ => ⟨S3x1, .i32⟩
  | .hbm, ⟨5, _⟩ => ⟨S3x512x4096, .f32⟩
  | .hbm, ⟨6, _⟩ => ⟨S3x512x4096, .f32⟩
  | .hbm, ⟨7, _⟩ => ⟨S3x512x4096, .f32⟩
  | .hbm, ⟨8, _⟩ => ⟨S3x512x4096, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel25.lean ====
abbrev S4 : Shape := ⟨1, ![4]⟩
abbrev S4x256x512 : Shape := ⟨3, ![4, 256, 512]⟩
abbrev S3x256x512 : Shape := ⟨3, ![3, 256, 512]⟩
abbrev S1x256x512 : Shape := ⟨3, ![1, 256, 512]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S3x256x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .bf16⟩
  | .local _ .vmem, ⟨5, _⟩ => ⟨S1x256x512, .bf16⟩
  | .local _ .smem, ⟨0, _⟩ => ⟨S4, .i32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let v1 : Index := Scalar.indexCast v0
  ![v1.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4 : Shape := ⟨1, ![4]⟩
abbrev S4x256x512 : Shape := ⟨3, ![4, 256, 512]⟩
abbrev S3 : Shape := ⟨1, ![3]⟩
abbrev S3x1 : Shape := ⟨2, ![3, 1]⟩
abbrev S3x256x512 : Shape := ⟨3, ![3, 256, 512]⟩

abbrev nBuf : Space → Nat
  | .hbm => 9
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x256x512, .f32⟩
  | .hbm, ⟨2, _⟩ => ⟨S4x256x512, .f32⟩
  | .hbm, ⟨3, _⟩ => ⟨S3, .i32⟩
  | .hbm, ⟨4, _⟩ => ⟨S3x1, .i32⟩
  | .hbm, ⟨5, _⟩ => ⟨S3x256x512, .f32⟩
  | .hbm, ⟨6, _⟩ => ⟨S3x256x512, .f32⟩
  | .hbm, ⟨7, _⟩ => ⟨S3x256x512, .f32⟩
  | .hbm, ⟨8, _⟩ => ⟨S3x256x512, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel22.lean ====
abbrev S8x216x128 : Shape := ⟨3, ![8, 216, 128]⟩
abbrev S216x128 : Shape := ⟨2, ![216, 128]⟩
abbrev S1x216x128 : Shape := ⟨3, ![1, 216, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x216x128, .f32⟩
  | .hbm, ⟨1, _⟩ => ⟨S8x216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S216x128, .f32⟩
  | .hbm, ⟨7, _⟩ => ⟨S216x128, .f32⟩
  | .hbm, ⟨8, _⟩ => ⟨S216x128, .f32⟩
  | .hbm, ⟨9, _⟩ => ⟨S216x128, .f32⟩
  | .local _ .vmem, ⟨0, _⟩ => ⟨S8x216x128, .f32⟩
  | .local _ .vmem, ⟨1, _⟩ => ⟨S8x216x128, .f32⟩
  | .local _ .vmem, ⟨2, _⟩ => ⟨S216x128, .f32⟩
  | .local _ .vmem, ⟨3, _⟩ => ⟨S216x128, .f32⟩
  | .local _ .vmem, ⟨4, _⟩ => ⟨S216x128, .f32⟩
  | .local _ .vmem, ⟨5, _⟩ => ⟨S216x128, .f32⟩
  | .local _ .vmem, ⟨6, _⟩ => ⟨S216x128, .f32⟩
  | .local _ .vmem, ⟨7, _⟩ => ⟨S216x128, .f32⟩
  | .local _ .vmem, ⟨8, _⟩ => ⟨S216x128, .f32⟩
  | .local _ .vmem, ⟨9, _⟩ => ⟨S216x128, .f32⟩
  | _, _ => ⟨S8x216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S216x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S216x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference22Ideal.lean ====
abbrev S8x216x128 : Shape := ⟨3, ![8, 216, 128]⟩
abbrev S216x128 : Shape := ⟨2, ![216, 128]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8x216x128, .f32⟩
  | .hbm, ⟨1, _⟩ => ⟨S8x216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S_, .f32⟩
  | .hbm, ⟨7, _⟩ => ⟨S216x128, .f32⟩
  | .hbm, ⟨8, _⟩ => ⟨S_, .f32⟩
  | .hbm, ⟨9, _⟩ => ⟨S216x128, .f32⟩
  | .hbm, ⟨10, _⟩ => ⟨S216x128, .f32⟩
  | .hbm, ⟨11, _⟩ => ⟨S_, .f32⟩
  | .hbm, ⟨12, _⟩ => ⟨S216x128, .f32⟩
  | .hbm, ⟨13, _⟩ => ⟨S216x128, .i1⟩
  | .hbm, ⟨14, _⟩ => ⟨S216x128, .f32⟩
  | .hbm, ⟨15, _⟩ => ⟨S216x128, .f32⟩
  | .hbm, ⟨16, _⟩ => ⟨S_, .f32⟩
  | .hbm, ⟨17, _⟩ => ⟨S216x128, .f32⟩
  | .hbm, ⟨18, _⟩ => ⟨S216x128, .f32⟩
  | .hbm, ⟨19, _⟩ => ⟨S_, .f32⟩
  | .hbm, ⟨20, _⟩ => ⟨S216x128, .f32⟩
  | .hbm, ⟨21, _⟩ => ⟨S216x128, .f32⟩
  | .hbm, ⟨22, _⟩ => ⟨S_, .f32⟩
  | .hbm, ⟨23, _⟩ => ⟨S216x128, .f32⟩
  | .hbm, ⟨24, _⟩ => ⟨S216x128, .f32⟩
  | .hbm, ⟨25, _⟩ => ⟨S216x128, .f32⟩
  | .hbm, ⟨26, _⟩ => ⟨S216x128, .f32⟩
  | .hbm, ⟨27, _⟩ => ⟨S216x128, .f32⟩
  | .hbm, ⟨28, _⟩ => ⟨S216x128, .f32⟩
  | .hbm, ⟨29, _⟩ => ⟨S216x128, .f32⟩
  | .hbm, ⟨30, _⟩ => ⟨S216x128, .f32⟩
  | .hbm, ⟨31, _⟩ => ⟨S216x128, .f32⟩
  | .hbm, ⟨32, _⟩ => ⟨S_, .f32⟩
  | .hbm, ⟨33, _⟩ => ⟨S216x128, .f32⟩
  | .hbm, ⟨34, _⟩ => ⟨S216x128, .f32⟩
  | .hbm, ⟨35, _⟩ => ⟨S_, .f32⟩
  | .hbm, ⟨36, _⟩ => ⟨S216x128, .f32⟩
  | .hbm, ⟨37, _⟩ => ⟨S216x128, .f32⟩
  | .hbm, ⟨38, _⟩ => ⟨S216x128, .f32⟩
  | .hbm, ⟨39, _⟩ => ⟨S_, .f32⟩
  | .hbm, ⟨40, _⟩ => ⟨S216x128, .f32⟩
  | .hbm, ⟨41, _⟩ => ⟨S216x128, .f32⟩
  | .hbm, ⟨42, _⟩ => ⟨S216x128, .f32⟩
  | .hbm, ⟨43, _⟩ => ⟨S_, .f32⟩
  | .hbm, ⟨44, _⟩ => ⟨S216x128, .f32⟩
  | .hbm, ⟨45, _⟩ => ⟨S216x128, .f32⟩
  | .hbm, ⟨46, _⟩ => ⟨S216x128, .f32⟩
  | .hbm, ⟨47, _⟩ => ⟨S_, .f32⟩
  | .hbm, ⟨48, _⟩ => ⟨S216x128, .f32⟩
  | .hbm, ⟨49, _⟩ => ⟨S216x128, .f32⟩
  | .hbm, ⟨50, _⟩ => ⟨S_, .f32⟩
  | .hbm, ⟨51, _⟩ => ⟨S216x128, .f32⟩
  | .hbm, ⟨52, _⟩ => ⟨S216x128, .f32⟩
  | .hbm, ⟨53, _⟩ => ⟨S216x128, .f32⟩
  | .hbm, ⟨54, _⟩ => ⟨S_, .f32⟩
  | .hbm, ⟨55, _⟩ => ⟨S216x128, .f32⟩
  | .hbm, ⟨56, _⟩ => ⟨S216x128, .f32⟩
  | .hbm, ⟨57, _⟩ => ⟨S216x128, .f32⟩
  | .hbm, ⟨58, _⟩ => ⟨S_, .f32⟩
  | .hbm, ⟨59, _⟩ => ⟨S216x128, .f32⟩
  | .hbm, ⟨60, _⟩ => ⟨S216x128, .f32⟩
  | .hbm, ⟨61, _⟩ => ⟨S216x128, .f32⟩
  | .hbm, ⟨62, _⟩ => ⟨S_, .f32⟩
  | .hbm, ⟨63, _⟩ => ⟨S216x128, .f32⟩
  | .hbm, ⟨64, _⟩ => ⟨S216x128, .f32⟩
  | _, _ => ⟨S8x216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_cst_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_6 : Ref sig .tc := ⟨.hbm, 47, rfl⟩
abbrev main_v19 : Ref sig .tc := ⟨.hbm, 48, rfl⟩
abbrev main_v20 : Ref sig .tc := ⟨.hbm, 49, rfl⟩
abbrev main_cst_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_8 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_9 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_10 : Ref sig .tc := ⟨.hbm, 62, rfl⟩
abbrev main_v30 : Ref sig .tc := ⟨.hbm, 63, rfl⟩
abbrev main_v31 : Ref sig .tc := ⟨.hbm, 64, rfl⟩

abbrev nD : Nat := 1
abbrev τ : Topo := Topo.v7x

variable {F : FTy → Type} [FloatOps F]
-- ==== Proof.KernelRun.lean ====
module

public import proofs.«01_k».proof.Proof.Gen.KernelIdeal.Frame

/-!
  The run of the two calls, one after the other, with its results: every fair run of the program ends with each result array at
  what the calls' write-backs leave, and with the arguments as they were.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unification, which has to unfold plain definitions in types
set_option backward.isDefEq.respectTransparency.types false in
/-- Every fair run ends with the result arrays at the contents of the last segment boundary and the arguments unchanged. -/
theorem results : θ_run defs (onTc (τ := τ) (main (F := F))) ⟨m, fun _ => 0, ρ⟩ (fun r => ∀ c : Dev nD,
      r.2.mem ((c.tc : Thread nD τ).loc main_v0_1) = W3 m ρ c (Proc.devRef .tc main_v0_1)
      ∧ r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v0_1 (by decide)),
       h c _ (mem_uc main_v1_0 (by decide)),
       h c _ (mem_uc main_v1_1 (by decide)),
       h c _ (mem_uc main_v1_2 (by decide)),
       h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The gated output at the end: what the first call's write-backs leave. -/
theorem end_y (c : Dev nD) : W3 m ρ c (Proc.devRef .tc main_v0_1) = (dat0 (V0 m ρ) c).arrAt 5 cfg0.N :=
  ((W3_of_ne m ρ c main_v0_1 (by decide)).trans (W2_of m ρ c main_v0_1 (by decide))).trans (W1_arr m ρ c 5)
/-- The gradient of the queries at the end. -/
theorem end_dq (c : Dev nD) : W3 m ρ c (Proc.devRef .tc main_v1_0) = (dat1 (V2 m ρ) c).arrAt 8 cfg1.N := W3_arr m ρ c 8
/-- The projection's gradient at the end. -/
theorem end_dg (c : Dev nD) : W3 m ρ c (Proc.devRef .tc main_v1_1) = (dat1 (V2 m ρ) c).arrAt 9 cfg1.N := W3_arr m ρ c 9
/-- The gradient of the keys at the end. -/
theorem end_dk (c : Dev nD) : W3 m ρ c (Proc.devRef .tc main_v1_2) = (dat1 (V2 m ρ) c).arrAt 10 cfg1.N := W3_arr m ρ c 10
/-- The gradient of the values at the end. -/
theorem end_dv (c : Dev nD) : W3 m ρ c (Proc.devRef .tc main_v1_3) = (dat1 (V2 m ρ) c).arrAt 11 cfg1.N := W3_arr m ρ c 11
/-- The second call reads the attention output the first one left. -/
theorem mid_o (c : Dev nD) : V2 m ρ c main_v0_0 = (dat0 (V0 m ρ) c).arrAt 4 cfg0.N :=
  (W2_of m ρ c main_v0_0 (by decide)).trans (W1_arr m ρ c 4)
/-- The second call reads the row log-sums the first one left. -/
theorem mid_lse (c : Dev nD) : V2 m ρ c main_v0_2 = (dat0 (V0 m ρ) c).arrAt 6 cfg0.N :=
  (W2_of m ρ c main_v0_2 (by decide)).trans (W1_arr m ρ c 6)
/-- The second call updates a copy of the projection's gradient. -/
theorem mid_dproj (c : Dev nD) : V2 m ρ c main_v1_1 = m ((c : Thread nD τ).loc main_arg6) := by
  have h : W2 m ρ c (Proc.devRef .tc main_v1_1) = W1 m ρ c (Proc.devRef .tc main_arg6) := by
    unfold W2 hostOps1
    after_results_simp
    try rfl
  exact h.trans (W1_args m ρ c main_arg6 (by decide))

end Cert.KernelIdeal.Gen

end
-- ==== Proof.RealMath.lean ====
module

public import Idealize.ShloMosaic.PureOps.Ideal
public import Mathlib.Analysis.SpecialFunctions.Pow.Real

/-!
  Attention over the real numbers, one query row of one head at a time, and the facts that carry it to the extended reals:
  finite sums and maxima of real numbers stay real, and a softmax does not depend on the number subtracted in its exponents.
-/

@[expose] public section
noncomputable section
open Idealize.ShloMosaic
namespace Cert.Att

/-- A finite sum of real numbers, taken over the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same, for summands known to be real numbers. -/
theorem sum_eq_coe {ι : Type*} (s : Finset ι) {f : ι → EReal} {g : ι → ℝ} (h : ∀ i, f i = (g i : EReal)) :
    ∑ i ∈ s, f i = ((∑ i ∈ s, g i : ℝ) : EReal) := by
  rw [coe_sum]; exact Finset.sum_congr rfl fun i _ => h i

/-- A product sum of real numbers. -/
theorem dot_coe {n : ℕ} {a b : Fin n → EReal} {x y : Fin n → ℝ} (ha : ∀ i, a i = (x i : EReal)) (hb : ∀ i, b i = (y i : EReal)) :
    ∑ i, a i * b i = ((∑ i, x i * y i : ℝ) : EReal) :=
  sum_eq_coe _ fun i => by rw [ha, hb, EReal.coe_mul]

/-- The largest of finitely many real numbers (at least one) is a real number. -/
theorem fold_max_coe {ι : Type*} (s : Finset ι) (hs : s.Nonempty) {f : ι → EReal} {g : ι → ℝ} (h : ∀ i, f i = (g i : EReal)) :
    ∃ M : ℝ, s.fold max ⊥ f = (M : EReal) := by
  classical
  induction hs using Finset.Nonempty.cons_induction with
  | singleton a => exact ⟨g a, by rw [Finset.fold_singleton, h a]; exact max_eq_left bot_le⟩
  | cons a s ha _ ih =>
    obtain ⟨M, hM⟩ := ih
    exact ⟨max (g a) M, by rw [Finset.fold_cons, hM, h a]; exact (EReal.coe_strictMono.monotone.map_max).symm⟩

/-- The attention scale: the f32 value nearest `1 / √128`. -/
def s : ℝ := 11863283 / 134217728
/-- The logistic function. -/
def sgm (x : ℝ) : ℝ := (1 + Real.exp (-x))⁻¹

section
variable (q : Fin 128 → ℝ) (k v : Fin 4352 → Fin 128 → ℝ) (D : Fin 128 → ℝ)

/-- A row's unscaled score against key `j`. -/
def raw (j : Fin 4352) : ℝ := ∑ d : Fin 128, q d * k j d
/-- The sum of the exponentials of a row's scaled scores. -/
def den : ℝ := ∑ j : Fin 4352, Real.exp (s * raw q k j)
/-- The attention probabilities of a row. -/
def prob (j : Fin 4352) : ℝ := Real.exp (s * raw q k j) / den q k
/-- The attention output of a row. -/
def out (d : Fin 128) : ℝ := ∑ j : Fin 4352, prob q k j * v j d
/-- The gradient of a row's scaled scores, `D` being the gradient of its output. -/
def ds (j : Fin 4352) : ℝ := prob q k j * ((∑ d : Fin 128, D d * v j d) - ∑ d : Fin 128, D d * out q k v d)

theorem den_pos : 0 < den q k := Finset.sum_pos (fun _ _ => Real.exp_pos _) ⟨0, Finset.mem_univ _⟩

/-- The sum over the keys of probability times the output gradient's product with the value is the row sum of output
    gradient times output. -/
theorem sum_prob_mul : ∑ j : Fin 4352, prob q k j * (∑ d : Fin 128, D d * v j d) = ∑ d : Fin 128, D d * out q k v d := by
  simp only [out, Finset.mul_sum]
  rw [Finset.sum_comm]
  exact Finset.sum_congr rfl fun d _ => Finset.sum_congr rfl fun j _ => by ring

/-- A number `M` subtracted from the scores before the exponential leaves a factor. -/
theorem exp_shift (M : ℝ) (j : Fin 4352) : Real.exp (s * raw q k j - M) = Real.exp (s * raw q k j) * Real.exp (-M) := by
  rw [← Real.exp_add]; ring_nf

theorem sum_exp_shift (M : ℝ) : ∑ j : Fin 4352, Real.exp (s * raw q k j - M) = den q k * Real.exp (-M) := by
  simp only [exp_shift, den, Finset.sum_mul]

/-- The probabilities from the shifted exponentials. -/
theorem prob_shift (M : ℝ) (j : Fin 4352) :
    Real.exp (s * raw q k j - M) / (∑ j' : Fin 4352, Real.exp (s * raw q k j' - M)) = prob q k j := by
  rw [sum_exp_shift, exp_shift, prob, mul_div_mul_right _ _ (Real.exp_ne_zero _)]

/-- The output from the shifted exponentials, the division after the sum. -/
theorem out_shift (M : ℝ) (d : Fin 128) :
    (∑ j : Fin 4352, Real.exp (s * raw q k j - M) * v j d) / (∑ j' : Fin 4352, Real.exp (s * raw q k j' - M)) = out q k v d := by
  rw [Finset.sum_div]
  exact Finset.sum_congr rfl fun j _ => by rw [← prob_shift q k M j]; ring

/-- The row's log-sum from the shifted exponentials. -/
theorem lse_shift (M : ℝ) : M + Real.log (∑ j : Fin 4352, Real.exp (s * raw q k j - M)) = Real.log (den q k) := by
  rw [sum_exp_shift, Real.log_mul (den_pos q k).ne' (Real.exp_ne_zero _), Real.log_exp]; ring

/-- The probabilities from the row's log-sum. -/
theorem prob_lse (j : Fin 4352) : Real.exp (s * raw q k j - Real.log (den q k)) = prob q k j := by
  rw [Real.exp_sub, Real.exp_log (den_pos q k), prob]

end

/-- A power of two with `1 / ln 2` in the exponent is an exponential. -/
theorem two_rpow (x : ℝ) : Real.rpow 2 (x * (Real.log 2)⁻¹) = Real.exp x := by
  have h : (2 : ℝ) ^ (x * (Real.log 2)⁻¹) = Real.exp x := by
    rw [Real.rpow_def_of_pos (by norm_num)]
    congr 1
    have : Real.log 2 ≠ 0 := (Real.log_pos (by norm_num)).ne'
    field_simp
  exact h

/-- A real number divided by a nonzero one. -/
theorem div_real (x y : ℝ) (h : y ≠ 0) : Ideal.div (x : EReal) (y : EReal) = ((x / y : ℝ) : EReal) := by
  rw [Ideal.div_coe h, ← EReal.coe_mul, mul_one_div]

/-- A real number times its logistic value. -/
theorem silu_real (x : ℝ) : (x : EReal) * Ideal.logistic (x : EReal) = ((x * sgm x : ℝ) : EReal) := by
  rw [Ideal.logistic_coe, ← EReal.coe_mul]; rfl

end Cert.Att
-- ==== Proof.BwdStage.lean ====
module

public import proofs.«01_k».proof.Defs
public import proofs.«01_k».proof.Proof.Gen.KernelIdeal.Skeleton
public import Idealize.ShloMosaic.Lib.Pointwise
public import Idealize.ShloMosaic.Lib.Pipeline.Value

/-!
  What ONE grid point of the backward attention call computes, written as formulas over the extended reals, and the
  stages of its body read as those formulas.

  A grid point holds 128 query rows of the four query heads that share one key/value head. The body goes through the four
  heads and, for each, through the two halves of the 4352 keys. Below, `x0` is the block of queries, `x1` and `x2` the keys
  and values, `x3` the attention output, `x4` the gradient of the gated output, `x5` the gate, and `x6` the row log-sums
  (lane `h` for head `h`).
-/

@[expose] public section
noncomputable section
open Idealize.ShloMosaic Idealize.ShloMosaic.TcCoe Idealize.SL.Sem
namespace Cert.KernelIdeal.Bwd
open Cert.KernelIdeal Cert.KernelIdeal.Gen

/-- The attention scale: the f32 value nearest `1 / √128`. -/
def sc : EReal := ((11863283 / 134217728 : ℝ) : EReal)
/-- `1 / ln 2`. -/
def l2e : EReal := (((Real.log 2)⁻¹ : ℝ) : EReal)
/-- The product of the two: the scale of base-two exponents. -/
def sl2e : EReal := (((11863283 / 134217728) * (Real.log 2)⁻¹ : ℝ) : EReal)

/-- The word of the attention scale. -/
theorem word_sc : Ideal.ofBits .f32 0x3DB504F3#32 = sc := by
  unfold sc
  simp [Ideal.ofBits, Ideal.ieee, -EReal.coe_mul]; norm_num
/-- The named constant "log2_e" denotes `1 / ln 2`. -/
theorem named_l2e : Named.named (F := Ideal) κ "log2_e" (φ := .f32) 0x3FB8AA3B#32 = l2e :=
  IdealRules.named_const.ideal_named_scalar _ _ _ _ rfl
/-- The named constant "scale_log2_e" denotes the product of the two. -/
theorem named_sl2e : Named.named (F := Ideal) κ "scale_log2_e" (φ := .f32) 0x3E0293EE#32 = sl2e :=
  IdealRules.named_const.ideal_named_scalar _ _ _ _ rfl

/-- Column `d` of head `h` among the 512 columns that four heads of width 128 fill. -/
def col (h : Fin 4) (d : Fin 128) : Fin 512 := ⟨128 * h.val + d.val, by omega⟩
/-- The lane of head `h` in the row of log-sums. -/
def lane (h : Fin 4) : Fin 128 := ⟨h.val, by omega⟩
/-- Key `j` of the first half. -/
def lo (j : Fin 2176) : Fin 4352 := ⟨j.val, by omega⟩
/-- Key `j` of the second half. -/
def hi (j : Fin 2176) : Fin 4352 := ⟨2176 + j.val, by omega⟩

section
variable (x0 : Vec Ideal S4x128x128 .bf16) (x1 x2 : Vec Ideal S1x4352x128 .bf16) (x3 x4 x5 : Vec Ideal S128x512 .f32)
  (x6 : Vec Ideal S1x128x128 .f32)

/-- The gradient of the attention output: the gated gradient times `g · σ(g)`. -/
def dogB (h : Fin 4) (r : Fin 128) (d : Fin 128) : EReal :=
  x4 (ix2 r (col h d)) * (x5 (ix2 r (col h d)) * Ideal.logistic (x5 (ix2 r (col h d))))
/-- The row sum of that gradient times the output. -/
def deltaB (h : Fin 4) (r : Fin 128) : EReal := ∑ d : Fin 128, dogB x4 x5 h r d * x3 (ix2 r (col h d))
/-- The probabilities, recomputed from the row log-sum. -/
def pB (h : Fin 4) (r : Fin 128) (j : Fin 4352) : EReal :=
  Ideal.exp2 ((∑ d : Fin 128, x0 (ix3 h r d) * x1 (ix3 0 j d)) * sl2e - x6 (ix3 0 r (lane h)) * l2e)
/-- The gradient of the scores. -/
def dsB (h : Fin 4) (r : Fin 128) (j : Fin 4352) : EReal :=
  pB x0 x1 x6 h r j * ((∑ d : Fin 128, dogB x4 x5 h r d * x2 (ix3 0 j d)) - deltaB x3 x4 x5 h r)
/-- The gradient of the queries, the keys' two halves added. -/
def dqB (h : Fin 4) (r : Fin 128) (d : Fin 128) : EReal :=
  sc * ((0 + ∑ j : Fin 2176, dsB x0 x1 x2 x3 x4 x5 x6 h r (lo j) * x1 (ix3 0 (lo j) d))
    + ∑ j : Fin 2176, dsB x0 x1 x2 x3 x4 x5 x6 h r (hi j) * x1 (ix3 0 (hi j) d))
/-- What the 128 rows of head `h` add to the gradient of the keys. -/
def dkB (h : Fin 4) (j : Fin 4352) (d : Fin 128) : EReal :=
  sc * ∑ r : Fin 128, dsB x0 x1 x2 x3 x4 x5 x6 h r j * x0 (ix3 h r d)
/-- What the 128 rows of head `h` add to the gradient of the values. -/
def dvB (h : Fin 4) (j : Fin 4352) (d : Fin 128) : EReal :=
  ∑ r : Fin 128, pB x0 x1 x6 h r j * dogB x4 x5 h r d
/-- The gradient of the gate. -/
def dgB (r : Fin 128) (e : Fin 512) : EReal :=
  x4 (ix2 r e) * x3 (ix2 r e) * (Ideal.logistic (x5 (ix2 r e)) * (1 + x5 (ix2 r e) * (1 - Ideal.logistic (x5 (ix2 r e)))))

variable (h : Fin 4) (e : Fin 2176 → Fin 4352)
  (Q : Vec Ideal S1x128x128 .bf16) (G O Y : Vec Ideal S128x128 .f32) (L : FVec Ideal S128x1 .f32)
  (K V : Vec Ideal S1x2176x128 .bf16)
  (hQ : ∀ r d, Q (ix3 0 r d) = x0 (ix3 h r d)) (hG : ∀ r d, G (ix2 r d) = x5 (ix2 r (col h d)))
  (hO : ∀ r d, O (ix2 r d) = x3 (ix2 r (col h d))) (hY : ∀ r d, Y (ix2 r d) = x4 (ix2 r (col h d)))
  (hL : ∀ r, L (ix2 r 0) = x6 (ix3 0 r (lane h)) * l2e)
  (hK : ∀ j d, K (ix3 0 j d) = x1 (ix3 0 (e j) d)) (hV : ∀ j d, V (ix3 0 j d) = x2 (ix3 0 (e j) d))

include hQ hL hK in
/-- One half of the keys: the probabilities. -/
theorem p_stage (r : Fin 128) (j : Fin 2176) :
    k1_pay14 (k1_pay5 Q) L K (ix2 r j) = pB x0 x1 x6 h r (e j) := by
  pointwise [k1_pay14, k1_pay13, k1_pay5]
  simp only [named_sl2e, hQ, hL, hK]
  rfl

include hQ hG hO hY hL hK hV in
/-- One half of the keys: the gradient of the scores. -/
theorem ds_stage (r : Fin 128) (j : Fin 2176) :
    k1_pay15 (k1_pay5 Q) (k1_pay9 G O Y) (k1_pay10 G Y) L K V (ix2 r j) = dsB x0 x1 x2 x3 x4 x5 x6 h r (e j) := by
  have hp := p_stage x0 x1 x6 h e Q L K hQ hL hK r j
  pointwise [k1_pay15, k1_pay9, k1_pay10, k1_pay7, k1_pay6]
  simp only [hp, hG, hO, hY, hV]
  rfl

include hQ hG hO hY hL hK hV in
/-- One half of the keys, added to the gradient of the queries. -/
theorem dq_stage (acc : FVec Ideal S128x128 .f32) (r : Fin 128) (d : Fin 128) :
    k1_pay16 (k1_pay5 Q) (k1_pay9 G O Y) (k1_pay10 G Y) L acc K V (ix2 r d)
      = acc (ix2 r d) + ∑ j : Fin 2176, dsB x0 x1 x2 x3 x4 x5 x6 h r (e j) * x1 (ix3 0 (e j) d) := by
  have hs := ds_stage x0 x1 x2 x3 x4 x5 x6 h e Q G O Y L K V hQ hG hO hY hL hK hV
  pointwise [k1_pay16, k1_pay13]
  simp only [hs, hK]

include hQ hG hO hY hL hK hV in
/-- One half of the keys: the head's addition to the gradient of the keys. -/
theorem dk_stage (old : Vec Ideal S1x2176x128 .f32) (j : Fin 2176) (d : Fin 128) :
    k1_pay17 (k1_pay5 Q) (k1_pay9 G O Y) (k1_pay10 G Y) L K V old (ix3 0 j d)
      = old (ix3 0 j d) + dkB x0 x1 x2 x3 x4 x5 x6 h (e j) d := by
  have hs := ds_stage x0 x1 x2 x3 x4 x5 x6 h e Q G O Y L K V hQ hG hO hY hL hK hV
  pointwise [k1_pay17, k1_pay5]
  simp only [k1_pay5] at hs
  simp only [hs, hQ, word_sc]
  rfl

include hQ hG hY hL hK in
/-- One half of the keys: the head's addition to the gradient of the values. -/
theorem dv_stage (old : Vec Ideal S1x2176x128 .f32) (j : Fin 2176) (d : Fin 128) :
    k1_pay18 (k1_pay5 Q) (k1_pay10 G Y) L K old (ix3 0 j d)
      = old (ix3 0 j d) + dvB x0 x1 x4 x5 x6 h (e j) d := by
  have hp := p_stage x0 x1 x6 h e Q L K hQ hL hK
  pointwise [k1_pay18, k1_pay10, k1_pay7]
  simp only [hp, hG, hY]
  rfl

include hG hO hY in
/-- The gradient of the gate of one head. -/
theorem dg_stage (r : Fin 128) (d : Fin 128) :
    k1_pay8 G O Y (ix2 r d) = dgB x3 x4 x5 r (col h d) := by
  pointwise [k1_pay8, k1_pay6]
  simp only [hG, hO, hY]
  rfl

end

/-- The scaled gradient of the queries. -/
theorem dq_scale (acc : FVec Ideal S128x128 .f32) (r d : Fin 128) :
    k1_pay25 acc (ix3 0 r d) = sc * acc (ix2 r d) := by
  pointwise [k1_pay25]
  rw [word_sc]

/-- The lane of head 0 in base two. -/
theorem lane0 (L : Vec Ideal S1x128x128 .f32) (r : Fin 128) : k1_pay11 L (ix2 r 0) = L (ix3 0 r 0) * l2e := by
  pointwise [k1_pay11, k1_pay4]
  rw [named_l2e]
/-- The lane of head 1 in base two. -/
theorem lane1 (L : Vec Ideal S1x128x128 .f32) (r : Fin 128) : k1_pay32 (k1_pay4 L) (ix2 r 0) = L (ix3 0 r 1) * l2e := by
  pointwise [k1_pay32, k1_pay4]
  rw [named_l2e]
/-- The lane of head 2 in base two. -/
theorem lane2 (L : Vec Ideal S1x128x128 .f32) (r : Fin 128) : k1_pay52 (k1_pay4 L) (ix2 r 0) = L (ix3 0 r 2) * l2e := by
  pointwise [k1_pay52, k1_pay4]
  rw [named_l2e]
/-- The lane of head 3 in base two. -/
theorem lane3 (L : Vec Ideal S1x128x128 .f32) (r : Fin 128) : k1_pay73 (k1_pay4 L) (ix2 r 0) = L (ix3 0 r 3) * l2e := by
  pointwise [k1_pay73, k1_pay4]
  rw [named_l2e]

end Cert.KernelIdeal.Bwd
end
-- ==== Proof.BwdLoads.lean ====
module

public import proofs.«01_k».proof.Proof.BwdStage

/-!
  The reads and writes of the backward attention call's body: what each slice of a block holds, that the payloads of the four
  heads and of the two halves of the keys are one set of functions, and where a block stored in pieces is read.
-/

@[expose] public section
noncomputable section
open Idealize.ShloMosaic Idealize.ShloMosaic.TcCoe Idealize.SL.Sem
namespace Cert.KernelIdeal.Bwd
open Cert.KernelIdeal Cert.KernelIdeal.Gen

/-! ## Indices inside rectangles -/

/-- A head's rectangle of the query block. -/
theorem emb_head (h : Fin 4) (n : ℕ) (hn : n = h.val) (inb) (r d : Fin 128) :
    (Rect.unit (s := S4x128x128) ![n, 0, 0] S1x128x128.size inb).emb (ix3 0 r d) = ix3 h r d := by
  subst hn
  funext a; apply Fin.ext
  fin_cases a
  · show h.val + 1 * 0 = h.val; omega
  · show 0 + 1 * r.val = r.val; omega
  · show 0 + 1 * d.val = d.val; omega

/-- A head's rectangle of a block of 512 columns. -/
theorem emb_col (h : Fin 4) (n : ℕ) (hn : n = 128 * h.val) (inb) (r d : Fin 128) :
    (Rect.unit (s := S128x512) ![0, n] S128x128.size inb).emb (ix2 r d) = ix2 r (col h d) := by
  subst hn
  funext a; apply Fin.ext
  fin_cases a
  · show 0 + 1 * r.val = r.val; omega
  · show 128 * h.val + 1 * d.val = 128 * h.val + d.val; omega

/-- The first half of the keys. -/
theorem emb_lo (inb) (j : Fin 2176) (d : Fin 128) :
    (Rect.unit (s := S1x4352x128) ![0, 0, 0] S1x2176x128.size inb).emb (ix3 0 j d) = ix3 0 (lo j) d := by
  funext a; apply Fin.ext
  fin_cases a
  · rfl
  · show 0 + 1 * j.val = j.val; omega
  · show 0 + 1 * d.val = d.val; omega

/-- The second half of the keys. -/
theorem emb_hi (inb) (j : Fin 2176) (d : Fin 128) :
    (Rect.unit (s := S1x4352x128) ![0, 2176, 0] S1x2176x128.size inb).emb (ix3 0 j d) = ix3 0 (hi j) d := by
  funext a; apply Fin.ext
  fin_cases a
  · rfl
  · show 2176 + 1 * j.val = 2176 + j.val; omega
  · show 0 + 1 * d.val = d.val; omega

/-- Every key lies in one of the halves. -/
theorem key_cases (j : Fin 4352) : (∃ j' : Fin 2176, j = lo j') ∨ (∃ j' : Fin 2176, j = hi j') := by
  by_cases h : j.val < 2176
  · exact .inl ⟨⟨j.val, h⟩, rfl⟩
  · refine .inr ⟨⟨j.val - 2176, by omega⟩, Fin.ext ?_⟩
    show j.val = 2176 + (j.val - 2176); omega

/-- Every column lies in one head. -/
theorem col_cases (e : Fin 512) : ∃ (h : Fin 4) (d : Fin 128), e = col h d := by
  refine ⟨⟨e.val / 128, by omega⟩, ⟨e.val % 128, by omega⟩, Fin.ext ?_⟩
  show e.val = 128 * (e.val / 128) + e.val % 128; omega

/-- There are four heads. -/
theorem head_cases (h : Fin 4) : h = 0 ∨ h = 1 ∨ h = 2 ∨ h = 3 := by revert h; decide

/-! ## Loads -/

section
variable {e : EltTy}

/-- The queries of head 0. -/
theorem ld_head0 (X : Vec Ideal S4x128x128 e) (inb) (r d : Fin 128) :
    View.ld X (Rect.unit (s := S4x128x128) ![0, 0, 0] S1x128x128.size inb) (ix3 0 r d) = X (ix3 0 r d) :=
  congrArg X (emb_head 0 0 rfl inb r d)
/-- The columns of head 0. -/
theorem ld_col0 (X : Vec Ideal S128x512 e) (inb) (r d : Fin 128) :
    View.ld X (Rect.unit (s := S128x512) ![0, 0] S128x128.size inb) (ix2 r d) = X (ix2 r (col 0 d)) :=
  congrArg X (emb_col 0 0 rfl inb r d)

/-- The queries of head 1. -/
theorem ld_head1 (X : Vec Ideal S4x128x128 e) (inb) (r d : Fin 128) :
    View.ld X (Rect.unit (s := S4x128x128) ![1, 0, 0] S1x128x128.size inb) (ix3 0 r d) = X (ix3 1 r d) :=
  congrArg X (emb_head 1 1 rfl inb r d)
/-- The columns of head 1. -/
theorem ld_col1 (X : Vec Ideal S128x512 e) (inb) (r d : Fin 128) :
    View.ld X (Rect.unit (s := S128x512) ![0, 128] S128x128.size inb) (ix2 r d) = X (ix2 r (col 1 d)) :=
  congrArg X (emb_col 1 128 rfl inb r d)

/-- The queries of head 2. -/
theorem ld_head2 (X : Vec Ideal S4x128x128 e) (inb) (r d : Fin 128) :
    View.ld X (Rect.unit (s := S4x128x128) ![2, 0, 0] S1x128x128.size inb) (ix3 0 r d) = X (ix3 2 r d) :=
  congrArg X (emb_head 2 2 rfl inb r d)
/-- The columns of head 2. -/
theorem ld_col2 (X : Vec Ideal S128x512 e) (inb) (r d : Fin 128) :
    View.ld X (Rect.unit (s := S128x512) ![0, 256] S128x128.size inb) (ix2 r d) = X (ix2 r (col 2 d)) :=
  congrArg X (emb_col 2 256 rfl inb r d)

/-- The queries of head 3. -/
theorem ld_head3 (X : Vec Ideal S4x128x128 e) (inb) (r d : Fin 128) :
    View.ld X (Rect.unit (s := S4x128x128) ![3, 0, 0] S1x128x128.size inb) (ix3 0 r d) = X (ix3 3 r d) :=
  congrArg X (emb_head 3 3 rfl inb r d)
/-- The columns of head 3. -/
theorem ld_col3 (X : Vec Ideal S128x512 e) (inb) (r d : Fin 128) :
    View.ld X (Rect.unit (s := S128x512) ![0, 384] S128x128.size inb) (ix2 r d) = X (ix2 r (col 3 d)) :=
  congrArg X (emb_col 3 384 rfl inb r d)

/-- The first half of the keys. -/
theorem ld_lo (X : Vec Ideal S1x4352x128 e) (inb) (j : Fin 2176) (d : Fin 128) :
    View.ld X (Rect.unit (s := S1x4352x128) ![0, 0, 0] S1x2176x128.size inb) (ix3 0 j d) = X (ix3 0 (lo j) d) :=
  congrArg X (emb_lo inb j d)
/-- The second half of the keys. -/
theorem ld_hi (X : Vec Ideal S1x4352x128 e) (inb) (j : Fin 2176) (d : Fin 128) :
    View.ld X (Rect.unit (s := S1x4352x128) ![0, 2176, 0] S1x2176x128.size inb) (ix3 0 j d) = X (ix3 0 (hi j) d) :=
  congrArg X (emb_hi inb j d)
end

/-- The log-sums of head 0. -/
theorem ld_lane0 (X : Vec Ideal S1x128x128 .f32) (inb) (r : Fin 128) :
    k1_pay11 (View.ld X (Rect.unit (s := S1x128x128) ![0, 0, 0] S1x128x128.size inb)) (ix2 r 0) = X (ix3 0 r (lane 0)) * l2e := by
  rw [lane0, View.ld_unit_zero (by decide : (![0, 0, 0] : Fin 3 → ℕ) = fun _ => 0)]
  rfl

/-- The log-sums of head 1. -/
theorem ld_lane1 (X : Vec Ideal S1x128x128 .f32) (inb) (r : Fin 128) :
    k1_pay32 (k1_pay4 (View.ld X (Rect.unit (s := S1x128x128) ![0, 0, 0] S1x128x128.size inb))) (ix2 r 0) = X (ix3 0 r (lane 1)) * l2e := by
  rw [lane1, View.ld_unit_zero (by decide : (![0, 0, 0] : Fin 3 → ℕ) = fun _ => 0)]
  rfl

/-- The log-sums of head 2. -/
theorem ld_lane2 (X : Vec Ideal S1x128x128 .f32) (inb) (r : Fin 128) :
    k1_pay52 (k1_pay4 (View.ld X (Rect.unit (s := S1x128x128) ![0, 0, 0] S1x128x128.size inb))) (ix2 r 0) = X (ix3 0 r (lane 2)) * l2e := by
  rw [lane2, View.ld_unit_zero (by decide : (![0, 0, 0] : Fin 3 → ℕ) = fun _ => 0)]
  rfl

/-- The log-sums of head 3. -/
theorem ld_lane3 (X : Vec Ideal S1x128x128 .f32) (inb) (r : Fin 128) :
    k1_pay73 (k1_pay4 (View.ld X (Rect.unit (s := S1x128x128) ![0, 0, 0] S1x128x128.size inb))) (ix2 r 0) = X (ix3 0 r (lane 3)) * l2e := by
  rw [lane3, View.ld_unit_zero (by decide : (![0, 0, 0] : Fin 3 → ℕ) = fun _ => 0)]
  rfl

/-! ## Blocks stored in pieces -/

section
variable {e : EltTy} (L : List (View.Piece (Elt Ideal) S1x4352x128 e)) (a b : S1x2176x128.Idx → Elt Ideal e) (inb inb')

/-- The last two stores fill the two halves of the keys: the first half. -/
theorem canon_lo (j : Fin 2176) (d : Fin 128) :
    View.canon (⟨Rect.unit (s := S1x4352x128) ![0, 2176, 0] S1x2176x128.size inb, a⟩
      :: ⟨Rect.unit (s := S1x4352x128) ![0, 0, 0] S1x2176x128.size inb', b⟩ :: L) (ix3 0 (lo j) d) = b (ix3 0 j d) := by
  rw [View.canon_cons_of_not_mem, ← emb_lo inb' j d]
  · exact View.canon_cons_emb (Rect.unit (s := S1x4352x128) ![0, 0, 0] S1x2176x128.size inb') b L (ix3 0 j d)
  · intro hm
    obtain ⟨x, hx⟩ := LoadRect.exists_idx_of_mem _ hm
    have := congrArg (fun f => (f 1).val) hx
    have h2 : 2176 + 1 * (x 1).val = j.val := this
    omega

/-- The last two stores fill the two halves of the keys: the second half. -/
theorem canon_hi (j : Fin 2176) (d : Fin 128) :
    View.canon (⟨Rect.unit (s := S1x4352x128) ![0, 2176, 0] S1x2176x128.size inb, a⟩ :: L) (ix3 0 (hi j) d) = a (ix3 0 j d) := by
  rw [← emb_hi inb j d]
  exact View.canon_cons_emb (Rect.unit (s := S1x4352x128) ![0, 2176, 0] S1x2176x128.size inb) a L (ix3 0 j d)
end

section
variable {e : EltTy}

/-- A store into another head's rectangle leaves a head as it was. -/
theorem canon_head_skip (L : List (View.Piece (Elt Ideal) S4x128x128 e)) (n : ℕ) (inb) (a : S1x128x128.Idx → Elt Ideal e)
    (h : Fin 4) (hn : n ≠ h.val) (r d : Fin 128) :
    View.canon (⟨Rect.unit (s := S4x128x128) ![n, 0, 0] S1x128x128.size inb, a⟩ :: L) (ix3 h r d) = View.canon L (ix3 h r d) := by
  rw [View.canon_cons_of_not_mem]
  intro hm
  obtain ⟨x, hx⟩ := LoadRect.exists_idx_of_mem _ hm
  have h2 : n + 1 * (x 0).val = h.val := congrArg (fun f => (f 0).val) hx
  have h3 : (x 0).val < 1 := (x 0).isLt
  omega

/-- A store into a head's rectangle is what the head holds. -/
theorem canon_head (L : List (View.Piece (Elt Ideal) S4x128x128 e)) (n : ℕ) (inb) (a : S1x128x128.Idx → Elt Ideal e)
    (h : Fin 4) (hn : n = h.val) (r d : Fin 128) :
    View.canon (⟨Rect.unit (s := S4x128x128) ![n, 0, 0] S1x128x128.size inb, a⟩ :: L) (ix3 h r d) = a (ix3 0 r d) := by
  rw [← emb_head h n hn inb r d]
  exact View.canon_cons_emb (Rect.unit (s := S4x128x128) ![n, 0, 0] S1x128x128.size inb) a L (ix3 0 r d)

/-- A store into another head's columns leaves a head as it was. -/
theorem canon_col_skip (L : List (View.Piece (Elt Ideal) S128x512 e)) (n : ℕ) (inb) (a : S128x128.Idx → Elt Ideal e)
    (h : Fin 4) (hn : n + 128 ≤ 128 * h.val ∨ 128 * h.val + 128 ≤ n) (r d : Fin 128) :
    View.canon (⟨Rect.unit (s := S128x512) ![0, n] S128x128.size inb, a⟩ :: L) (ix2 r (col h d)) = View.canon L (ix2 r (col h d)) := by
  rw [View.canon_cons_of_not_mem]
  intro hm
  obtain ⟨x, hx⟩ := LoadRect.exists_idx_of_mem _ hm
  have h2 : n + 1 * (x 1).val = 128 * h.val + d.val := congrArg (fun f => (f 1).val) hx
  have h3 : (x 1).val < 128 := (x 1).isLt
  omega

/-- A store into a head's columns is what the head holds. -/
theorem canon_col (L : List (View.Piece (Elt Ideal) S128x512 e)) (n : ℕ) (inb) (a : S128x128.Idx → Elt Ideal e)
    (h : Fin 4) (hn : n = 128 * h.val) (r d : Fin 128) :
    View.canon (⟨Rect.unit (s := S128x512) ![0, n] S128x128.size inb, a⟩ :: L) (ix2 r (col h d)) = a (ix2 r d) := by
  rw [← emb_col h n hn inb r d]
  exact View.canon_cons_emb (Rect.unit (s := S128x512) ![0, n] S128x128.size inb) a L (ix2 r d)
end

/-! ## The payloads of every head and half are those of the first -/

section
variable (q5 : Vec Ideal S1x128x128 .bf16) (q : FVec Ideal S128x128 .bf16) (dl : FVec Ideal S128x1 .f32) (dg : FVec Ideal S128x128 .bf16) (l : FVec Ideal S128x1 .f32)
  (acc : FVec Ideal S128x128 .f32) (k v : Vec Ideal S1x2176x128 .bf16) (old : Vec Ideal S1x2176x128 .f32) (g o y : Vec Ideal S128x128 .f32)
/-- Payload 22 is the first head's. -/
theorem same22 : k1_pay22 q dl dg l acc k v = k1_pay16 q dl dg l acc k v := rfl
/-- Payload 23 is the first head's. -/
theorem same23 : k1_pay23 q dl dg l k v old = k1_pay17 q dl dg l k v old := rfl
/-- Payload 24 is the first head's. -/
theorem same24 : k1_pay24 q dg l k old = k1_pay18 q dg l k old := rfl
/-- Payload 26 is the first head's. -/
theorem same26 : k1_pay26 q5 = k1_pay5 q5 := rfl
/-- Payload 46 is the first head's. -/
theorem same46 : k1_pay46 q5 = k1_pay5 q5 := rfl
/-- Payload 67 is the first head's. -/
theorem same67 : k1_pay67 q5 = k1_pay5 q5 := rfl
/-- Payload 29 is the first head's. -/
theorem same29 : k1_pay29 g o y = k1_pay8 g o y := rfl
/-- Payload 49 is the first head's. -/
theorem same49 : k1_pay49 g o y = k1_pay8 g o y := rfl
/-- Payload 70 is the first head's. -/
theorem same70 : k1_pay70 g o y = k1_pay8 g o y := rfl
/-- Payload 30 is the first head's. -/
theorem same30 : k1_pay30 g o y = k1_pay9 g o y := rfl
/-- Payload 50 is the first head's. -/
theorem same50 : k1_pay50 g o y = k1_pay9 g o y := rfl
/-- Payload 71 is the first head's. -/
theorem same71 : k1_pay71 g o y = k1_pay9 g o y := rfl
/-- Payload 31 is the first head's. -/
theorem same31 : k1_pay31 g y = k1_pay10 g y := rfl
/-- Payload 51 is the first head's. -/
theorem same51 : k1_pay51 g y = k1_pay10 g y := rfl
/-- Payload 72 is the first head's. -/
theorem same72 : k1_pay72 g y = k1_pay10 g y := rfl
/-- Payload 33 is the first head's. -/
theorem same33 : k1_pay33 (F := Ideal) = k1_pay12 := rfl
/-- Payload 53 is the first head's. -/
theorem same53 : k1_pay53 (F := Ideal) = k1_pay12 := rfl
/-- Payload 74 is the first head's. -/
theorem same74 : k1_pay74 (F := Ideal) = k1_pay12 := rfl
/-- Payload 37 is the first head's. -/
theorem same37 : k1_pay37 q dl dg l acc (k1_pay34 k) v = k1_pay16 q dl dg l acc k v := rfl
/-- Payload 38 is the first head's. -/
theorem same38 : k1_pay38 q dl dg l (k1_pay34 k) v old = k1_pay17 q dl dg l k v old := rfl
/-- Payload 39 is the first head's. -/
theorem same39 : k1_pay39 q dg l (k1_pay34 k) old = k1_pay18 q dg l k old := rfl
/-- Payload 43 is the first head's. -/
theorem same43 : k1_pay43 q dl dg l (k1_pay40 k) v old = k1_pay17 q dl dg l k v old := rfl
/-- Payload 44 is the first head's. -/
theorem same44 : k1_pay44 q dg l (k1_pay40 k) old = k1_pay18 q dg l k old := rfl
/-- Payload 45 is the first head's. -/
theorem same45 : k1_pay45 q dl dg l acc (k1_pay40 k) v = k1_pay25 (k1_pay16 q dl dg l acc k v) := rfl
/-- Payload 58 is the first head's. -/
theorem same58 : k1_pay58 q dl dg l acc (k1_pay54 k) (k1_pay55 v) = k1_pay16 q dl dg l acc k v := rfl
/-- Payload 59 is the first head's. -/
theorem same59 : k1_pay59 q dl dg l (k1_pay54 k) (k1_pay55 v) old = k1_pay17 q dl dg l k v old := rfl
/-- Payload 60 is the first head's. -/
theorem same60 : k1_pay60 q dg l (k1_pay54 k) old = k1_pay18 q dg l k old := rfl
/-- Payload 64 is the first head's. -/
theorem same64 : k1_pay64 q dl dg l (k1_pay61 k) v old = k1_pay17 q dl dg l k v old := rfl
/-- Payload 65 is the first head's. -/
theorem same65 : k1_pay65 q dg l (k1_pay61 k) old = k1_pay18 q dg l k old := rfl
/-- Payload 66 is the first head's. -/
theorem same66 : k1_pay66 q dl dg l acc (k1_pay61 k) v = k1_pay25 (k1_pay16 q dl dg l acc k v) := rfl
/-- Payload 81 is the first head's. -/
theorem same81 : k1_pay81 dl dg l acc (k1_pay75 k) (k1_pay76 v) (k1_pay77 q5 k) k1_pay78 = k1_pay16 (k1_pay5 q5) dl dg l acc k v := rfl
/-- Payload 82 is the first head's. -/
theorem same82 : k1_pay82 (k1_pay5 q5) dl dg l (k1_pay76 v) (k1_pay77 q5 k) k1_pay78 old = k1_pay17 (k1_pay5 q5) dl dg l k v old := rfl
/-- Payload 83 is the first head's. -/
theorem same83 : k1_pay83 dg l (k1_pay77 q5 k) k1_pay78 old = k1_pay18 (k1_pay5 q5) dg l k old := rfl
/-- Payload 89 is the first head's. -/
theorem same89 : k1_pay89 dl dg l acc (k1_pay84 k) (k1_pay85 v) (k1_pay86 q k) (Named.named κ "scale_log2_e" 0x3E0293EE#32) = k1_pay16 q dl dg l acc k v := rfl
/-- Payload 90 is the first head's. -/
theorem same90 : k1_pay90 q dl dg l (k1_pay85 v) (k1_pay86 q k) (Named.named κ "scale_log2_e" 0x3E0293EE#32) old = k1_pay17 q dl dg l k v old := rfl
/-- Payload 91 is the first head's. -/
theorem same91 : k1_pay91 dg l (k1_pay86 q k) (Named.named κ "scale_log2_e" 0x3E0293EE#32) old = k1_pay18 q dg l k old := rfl
/-- Payload 1 is the first head's. -/
theorem same1 : k1_pay1 acc (Scalar.ofBits .f32 0x3DB504F3#32) = k1_pay25 acc := rfl
end

end Cert.KernelIdeal.Bwd
end
-- ==== Proof.FwdStage.lean ====
module

public import proofs.«01_k».proof.Proof.BwdLoads
public import proofs.«01_k».proof.Proof.Gen.KernelIdeal.Frame
public import Idealize.ShloMosaic.Lib.Tactic

/-!
  What ONE grid point of the forward attention call computes: the output, the gated output and the row log-sums of 256 query
  rows of the four query heads that share a key/value head, as formulas over the extended reals. Below, `y0` is the block of
  queries, `y1` and `y2` the keys and values, `y3` the gate.
-/

@[expose] public section
noncomputable section
open Idealize.ShloMosaic Idealize.ShloMosaic.TcCoe Idealize.SL.Sem
namespace Cert.KernelIdeal.Fwd
open Cert.KernelIdeal Cert.KernelIdeal.Gen Cert.KernelIdeal.Bwd

section
variable (y0 : Vec Ideal S4x256x128 .bf16) (y1 y2 : Vec Ideal S1x4352x128 .bf16) (y3 : Vec Ideal S256x512 .f32)

/-- The unscaled scores. -/
def rawF (h : Fin 4) (r : Fin 256) (j : Fin 4352) : EReal := ∑ d : Fin 128, y0 (ix3 h r d) * y1 (ix3 0 j d)
/-- A row's largest score. -/
def mF (h : Fin 4) (r : Fin 256) : EReal := Finset.univ.fold max ⊥ fun j : Fin 4352 => rawF y0 y1 h r j
/-- The exponentials, relative to the row's largest score. -/
def eF (h : Fin 4) (r : Fin 256) (j : Fin 4352) : EReal := Ideal.exp2 ((rawF y0 y1 h r j - mF y0 y1 h r) * sl2e)
/-- Their sum. -/
def zF (h : Fin 4) (r : Fin 256) : EReal := ∑ j : Fin 4352, eF y0 y1 h r j
/-- The attention output. -/
def oF (h : Fin 4) (r : Fin 256) (d : Fin 128) : EReal :=
  Ideal.div (∑ j : Fin 4352, eF y0 y1 h r j * y2 (ix3 0 j d)) (zF y0 y1 h r)
/-- The row log-sum of the scaled scores. -/
def lseF (h : Fin 4) (r : Fin 256) : EReal := mF y0 y1 h r * sc + Ideal.log (zF y0 y1 h r)
/-- The gated output. -/
def yF (h : Fin 4) (r : Fin 256) (d : Fin 128) : EReal :=
  oF y0 y1 y2 h r d * (y3 (ix2 r (col h d)) * Ideal.logistic (y3 (ix2 r (col h d))))

variable (h : Fin 4) (Q : Vec Ideal S1x256x128 .bf16) (hQ : ∀ r d, Q (ix3 0 r d) = y0 (ix3 h r d))

include hQ in
/-- The scores of a head. -/
theorem raw_stage (r : Fin 256) (j : Fin 4352) : k0_pay4 Q y1 (ix2 r j) = rawF y0 y1 h r j := by
  pointwise [k0_pay4]
  simp only [hQ]
  rfl

include hQ in
/-- The largest score of a row. -/
theorem m_stage (r : Fin 256) : k0_pay13 (k0_pay4 Q y1) (ix2 r 0) = mF y0 y1 h r := by
  have hr := raw_stage y0 y1 h Q hQ
  pointwise [k0_pay13]
  simp only [hr]
  rfl

include hQ in
/-- The exponentials of a row. -/
theorem e_stage (r : Fin 256) (j : Fin 4352) : k0_pay14 (k0_pay4 Q y1) (ix2 r j) = eF y0 y1 h r j := by
  have hr := raw_stage y0 y1 h Q hQ
  have hm := m_stage y0 y1 h Q hQ
  pointwise [k0_pay14]
  simp only [hr, hm, named_sl2e]
  rfl

include hQ in
/-- The sum of a row. -/
theorem z_stage (r : Fin 256) : k0_pay15 (k0_pay4 Q y1) (ix2 r 0) = zF y0 y1 h r := by
  have he := e_stage y0 y1 h Q hQ
  pointwise [k0_pay15]
  simp only [he]
  rfl

include hQ in
/-- The output of a head. -/
theorem o_stage (r : Fin 256) (d : Fin 128) : k0_pay16 (k0_pay4 Q y1) y2 (ix2 r d) = oF y0 y1 y2 h r d := by
  have he := e_stage y0 y1 h Q hQ
  have hz := z_stage y0 y1 h Q hQ
  pointwise [k0_pay16]
  simp only [he, hz]
  rfl

include hQ in
/-- The row log-sum of a head. -/
theorem lse_stage (r : Fin 256) : k0_pay17 (k0_pay4 Q y1) (ix2 r 0) = lseF y0 y1 h r := by
  have hm := m_stage y0 y1 h Q hQ
  have hz := z_stage y0 y1 h Q hQ
  pointwise [k0_pay17]
  simp only [hm, hz, word_sc]
  rfl

include hQ in
/-- The gated output of a head. -/
theorem y_stage (G : Vec Ideal S256x128 .f32) (hG : ∀ r d, G (ix2 r d) = y3 (ix2 r (col h d))) (r : Fin 256) (d : Fin 128) :
    k0_pay18 (k0_pay16 (k0_pay4 Q y1) y2) G (ix2 r d) = yF y0 y1 y2 y3 h r d := by
  have ho := o_stage y0 y1 y2 h Q hQ
  pointwise [k0_pay18]
  simp only [ho, hG]
  rfl
end

/-! ## The payloads of every head are those of the second -/

section
variable (q : Vec Ideal S1x256x128 .bf16) (k v : Vec Ideal S1x4352x128 .bf16) (s : FVec Ideal S256x4352 .f32)
  (o : FVec Ideal S256x128 .f32) (g : Vec Ideal S256x128 .f32)
/-- Payload 8 is the second head's. -/
theorem fsame8 : k0_pay8 q k v = k0_pay16 (k0_pay4 q k) v := rfl
/-- Payload 9 is the second head's. -/
theorem fsame9 : k0_pay9 q k = k0_pay17 (k0_pay4 q k) := rfl
/-- Payload 10 is the second head's. -/
theorem fsame10 : k0_pay10 o g = k0_pay18 o g := rfl
/-- Payload 12 is the second head's. -/
theorem fsame12 : k0_pay12 q k = k0_pay4 q k := rfl
/-- Payload 20 is the second head's. -/
theorem fsame20 : k0_pay20 q k = k0_pay4 q k := rfl
/-- Payload 24 is the second head's. -/
theorem fsame24 : k0_pay24 s v = k0_pay16 s v := rfl
/-- Payload 25 is the second head's. -/
theorem fsame25 : k0_pay25 s = k0_pay17 s := rfl
/-- Payload 26 is the second head's. -/
theorem fsame26 : k0_pay26 o g = k0_pay18 o g := rfl
/-- Payload 31 is the second head's. -/
theorem fsame31 : k0_pay31 s v = k0_pay16 s v := rfl
/-- Payload 32 is the second head's. -/
theorem fsame32 : k0_pay32 s = k0_pay17 s := rfl
/-- Payload 33 is the second head's. -/
theorem fsame33 : k0_pay33 s v g = k0_pay18 (k0_pay16 s v) g := rfl
end

/-! ## Slices and pieces -/

/-- A head's rectangle of the query block. -/
theorem emb_head (h : Fin 4) (n : ℕ) (hn : n = h.val) (inb) (r : Fin 256) (d : Fin 128) :
    (Rect.unit (s := S4x256x128) ![n, 0, 0] S1x256x128.size inb).emb (ix3 0 r d) = ix3 h r d := by
  subst hn
  funext a; apply Fin.ext
  fin_cases a
  · show h.val + 1 * 0 = h.val; omega
  · show 0 + 1 * r.val = r.val; omega
  · show 0 + 1 * d.val = d.val; omega

/-- A head's rectangle of a block of 512 columns. -/
theorem emb_col (h : Fin 4) (n : ℕ) (hn : n = 128 * h.val) (inb) (r : Fin 256) (d : Fin 128) :
    (Rect.unit (s := S256x512) ![0, n] S256x128.size inb).emb (ix2 r d) = ix2 r (col h d) := by
  subst hn
  funext a; apply Fin.ext
  fin_cases a
  · show 0 + 1 * r.val = r.val; omega
  · show 128 * h.val + 1 * d.val = 128 * h.val + d.val; omega

section
variable {e : EltTy}

/-- The queries of a head. -/
theorem ld_head (X : Vec Ideal S4x256x128 e) (h : Fin 4) (n : ℕ) (hn : n = h.val) (inb) (r : Fin 256) (d : Fin 128) :
    View.ld X (Rect.unit (s := S4x256x128) ![n, 0, 0] S1x256x128.size inb) (ix3 0 r d) = X (ix3 h r d) :=
  congrArg X (emb_head h n hn inb r d)
/-- The columns of a head. -/
theorem ld_col (X : Vec Ideal S256x512 e) (h : Fin 4) (n : ℕ) (hn : n = 128 * h.val) (inb) (r : Fin 256) (d : Fin 128) :
    View.ld X (Rect.unit (s := S256x512) ![0, n] S256x128.size inb) (ix2 r d) = X (ix2 r (col h d)) :=
  congrArg X (emb_col h n hn inb r d)
/-- All keys. -/
theorem ld_keys (X : Vec Ideal S1x4352x128 e) : View.ld X r0_1 = X :=
  View.ld_unit_zero (by decide : (![0, 0, 0] : Fin 3 → ℕ) = fun _ => 0) _ X

/-- A store into another head's columns leaves a head as it was. -/
theorem canon_col_skip (L : List (View.Piece (Elt Ideal) S256x512 e)) (n : ℕ) (inb) (a : S256x128.Idx → Elt Ideal e)
    (h : Fin 4) (hn : n + 128 ≤ 128 * h.val ∨ 128 * h.val + 128 ≤ n) (r : Fin 256) (d : Fin 128) :
    View.canon (⟨Rect.unit (s := S256x512) ![0, n] S256x128.size inb, a⟩ :: L) (ix2 r (col h d)) = View.canon L (ix2 r (col h d)) := by
  rw [View.canon_cons_of_not_mem]
  intro hm
  obtain ⟨x, hx⟩ := LoadRect.exists_idx_of_mem _ hm
  have h2 : n + 1 * (x 1).val = 128 * h.val + d.val := congrArg (fun f => (f 1).val) hx
  have h3 : (x 1).val < 128 := (x 1).isLt
  omega

/-- A store into a head's columns is what the head holds. -/
theorem canon_col (L : List (View.Piece (Elt Ideal) S256x512 e)) (n : ℕ) (inb) (a : S256x128.Idx → Elt Ideal e)
    (h : Fin 4) (hn : n = 128 * h.val) (r : Fin 256) (d : Fin 128) :
    View.canon (⟨Rect.unit (s := S256x512) ![0, n] S256x128.size inb, a⟩ :: L) (ix2 r (col h d)) = a (ix2 r d) := by
  rw [← emb_col h n hn inb r d]
  exact View.canon_cons_emb (Rect.unit (s := S256x512) ![0, n] S256x128.size inb) a L (ix2 r d)
end

/-! ## The three output blocks -/

section
variable (y0 : Vec Ideal S4x256x128 .bf16) (y1 y2 : Vec Ideal S1x4352x128 .bf16) (y3 : Vec Ideal S256x512 .f32)

/-- The attention output block. -/
theorem out_4 (h : Fin 4) (r : Fin 256) (d : Fin 128) : out0_4 y0 y1 y2 y3 (ix2 r (col h d)) = oF y0 y1 y2 h r d := by
  unfold_out out0_4
  simp only [fsame8, fsame9, fsame10, fsame12, fsame20, fsame24, fsame25, fsame26, fsame31, fsame32, fsame33, ld_keys]
  obtain rfl | rfl | rfl | rfl := head_cases h
  · rw [canon_col_skip _ 384 _ _ 0 (by decide)]; rw [canon_col_skip _ 256 _ _ 0 (by decide)]; rw [canon_col_skip _ 128 _ _ 0 (by decide)]; rw [canon_col _ 0 _ _ 0 rfl, o_stage y0 y1 y2 0 _ (ld_head y0 0 0 rfl _)]
  · rw [canon_col_skip _ 384 _ _ 1 (by decide)]; rw [canon_col_skip _ 256 _ _ 1 (by decide)]; rw [canon_col _ 128 _ _ 1 rfl, o_stage y0 y1 y2 1 _ (ld_head y0 1 1 rfl _)]
  · rw [canon_col_skip _ 384 _ _ 2 (by decide)]; rw [canon_col _ 256 _ _ 2 rfl, o_stage y0 y1 y2 2 _ (ld_head y0 2 2 rfl _)]
  · rw [canon_col _ 384 _ _ 3 rfl, o_stage y0 y1 y2 3 _ (ld_head y0 3 3 rfl _)]

/-- The gated output block. -/
theorem out_5 (h : Fin 4) (r : Fin 256) (d : Fin 128) : out0_5 y0 y1 y2 y3 (ix2 r (col h d)) = yF y0 y1 y2 y3 h r d := by
  unfold_out out0_5
  simp only [fsame8, fsame9, fsame10, fsame12, fsame20, fsame24, fsame25, fsame26, fsame31, fsame32, fsame33, ld_keys]
  obtain rfl | rfl | rfl | rfl := head_cases h
  · rw [canon_col_skip _ 384 _ _ 0 (by decide)]; rw [canon_col_skip _ 256 _ _ 0 (by decide)]; rw [canon_col_skip _ 128 _ _ 0 (by decide)]; rw [canon_col _ 0 _ _ 0 rfl, y_stage y0 y1 y2 y3 0 _ (ld_head y0 0 0 rfl _) _ (ld_col y3 0 0 rfl _)]
  · rw [canon_col_skip _ 384 _ _ 1 (by decide)]; rw [canon_col_skip _ 256 _ _ 1 (by decide)]; rw [canon_col _ 128 _ _ 1 rfl, y_stage y0 y1 y2 y3 1 _ (ld_head y0 1 1 rfl _) _ (ld_col y3 1 128 rfl _)]
  · rw [canon_col_skip _ 384 _ _ 2 (by decide)]; rw [canon_col _ 256 _ _ 2 rfl, y_stage y0 y1 y2 y3 2 _ (ld_head y0 2 2 rfl _) _ (ld_col y3 2 256 rfl _)]
  · rw [canon_col _ 384 _ _ 3 rfl, y_stage y0 y1 y2 y3 3 _ (ld_head y0 3 3 rfl _) _ (ld_col y3 3 384 rfl _)]

/-- The block of row log-sums, at the four lanes that hold one. -/
theorem out_6 (h : Fin 4) (r : Fin 256) : out0_6 y0 y1 y2 y3 (ix3 0 r (lane h)) = lseF y0 y1 h r := by
  unfold_out out0_6
  simp only [fsame8, fsame9, fsame10, fsame12, fsame20, fsame24, fsame25, fsame26, fsame31, fsame32, fsame33, ld_keys]
  rw [View.canon_unit_zero (by decide : (![0, 0, 0] : Fin 3 → ℕ) = fun _ => 0)]
  have l0 := lse_stage y0 y1 0 _ (ld_head y0 0 0 rfl inb_S4x256x128_S1x256x128_0_0_0)
  have l1 := lse_stage y0 y1 1 _ (ld_head y0 1 1 rfl inb_S4x256x128_S1x256x128_1_0_0)
  have l2 := lse_stage y0 y1 2 _ (ld_head y0 2 2 rfl inb_S4x256x128_S1x256x128_2_0_0)
  have l3 := lse_stage y0 y1 3 _ (ld_head y0 3 3 rfl inb_S4x256x128_S1x256x128_3_0_0)
  pointwise [k0_pay1, k0_pay27, k0_pay19, k0_pay11]
  obtain rfl | rfl | rfl | rfl := head_cases h
  · exact l0 r
  · exact l1 r
  · exact l2 r
  · exact l3 r
end

end Cert.KernelIdeal.Fwd
end
-- ==== Proof.BlockReal.lean ====
module

public import proofs.«01_k».proof.Proof.RealMath
public import proofs.«01_k».proof.Proof.FwdStage
public import proofs.«01_k».proof.Proof.BwdStage

/-!
  The formulas of one grid point, on blocks that hold real numbers: they are the real attention of `RealMath`.
-/

@[expose] public section
noncomputable section
open Idealize.ShloMosaic Idealize.ShloMosaic.TcCoe Idealize.SL.Sem
open Cert.KernelIdeal Cert.KernelIdeal.Gen Cert.KernelIdeal.Bwd Cert.KernelIdeal.Fwd

namespace Cert.Att

section Forward
variable {y0 : Vec Ideal S4x256x128 .bf16} {y1 y2 : Vec Ideal S1x4352x128 .bf16} {y3 : Vec Ideal S256x512 .f32}
  {q : Fin 4 → Fin 256 → Fin 128 → ℝ} {k v : Fin 4352 → Fin 128 → ℝ} {g : Fin 256 → Fin 512 → ℝ}
  (h0 : ∀ h r d, y0 (ix3 h r d) = ((q h r d : ℝ) : EReal)) (h1 : ∀ j d, y1 (ix3 0 j d) = ((k j d : ℝ) : EReal))
  (h2 : ∀ j d, y2 (ix3 0 j d) = ((v j d : ℝ) : EReal)) (h3 : ∀ r e, y3 (ix2 r e) = ((g r e : ℝ) : EReal))

include h0 h1 in
theorem rawF_real (h : Fin 4) (r : Fin 256) (j : Fin 4352) : rawF y0 y1 h r j = ((raw (q h r) k j : ℝ) : EReal) :=
  dot_coe (fun d => h0 h r d) (fun d => h1 j d)

include h0 h1 in
/-- A row's exponentials are those of its scaled scores, up to a real number subtracted. -/
theorem eF_real (h : Fin 4) (r : Fin 256) : ∃ M : ℝ, mF y0 y1 h r = (M : EReal) ∧
    ∀ j, eF y0 y1 h r j = ((Real.exp (s * raw (q h r) k j - M * s) : ℝ) : EReal) := by
  obtain ⟨M, hM⟩ := fold_max_coe Finset.univ ⟨0, Finset.mem_univ _⟩ (fun j => rawF_real h0 h1 h r j)
  refine ⟨M, hM, fun j => ?_⟩
  unfold eF sl2e
  rw [rawF_real h0 h1, show mF y0 y1 h r = (M : EReal) from hM, ← EReal.coe_sub, ← EReal.coe_mul, Ideal.exp2_coe,
    ← mul_assoc, two_rpow]
  congr 2
  unfold s; ring

include h0 h1 h2 in
/-- The forward call's output is the attention output. -/
theorem oF_real (h : Fin 4) (r : Fin 256) (d : Fin 128) : oF y0 y1 y2 h r d = ((out (q h r) k v d : ℝ) : EReal) := by
  obtain ⟨M, -, hE⟩ := eF_real h0 h1 h r
  unfold oF zF
  rw [dot_coe hE (fun j => h2 j d), sum_eq_coe _ hE, div_real _ _ (by
    rw [sum_exp_shift]; exact mul_ne_zero (den_pos _ _).ne' (Real.exp_ne_zero _)), out_shift]

include h0 h1 in
/-- The forward call's row log-sum is the logarithm of the softmax denominator. -/
theorem lseF_real (h : Fin 4) (r : Fin 256) : lseF y0 y1 h r = ((Real.log (den (q h r) k) : ℝ) : EReal) := by
  obtain ⟨M, hM, hE⟩ := eF_real h0 h1 h r
  unfold lseF zF
  rw [hM, sum_eq_coe _ hE, Ideal.log_coe, if_neg (by
    rw [sum_exp_shift]; exact not_le.mpr (mul_pos (den_pos _ _) (Real.exp_pos _)))]
  rw [← lse_shift (q h r) k (M * s), EReal.coe_add, EReal.coe_mul]; rfl

include h0 h1 h2 h3 in
/-- The forward call's gated output. -/
theorem yF_real (h : Fin 4) (r : Fin 256) (d : Fin 128) :
    yF y0 y1 y2 y3 h r d = ((out (q h r) k v d * (g r (col h d) * sgm (g r (col h d))) : ℝ) : EReal) := by
  unfold yF
  rw [oF_real h0 h1 h2, h3, silu_real, ← EReal.coe_mul]

end Forward

section Backward
variable {x0 : Vec Ideal S4x128x128 .bf16} {x1 x2 : Vec Ideal S1x4352x128 .bf16} {x3 x4 x5 : Vec Ideal S128x512 .f32}
  {x6 : Vec Ideal S1x128x128 .f32}
  {q : Fin 4 → Fin 128 → Fin 128 → ℝ} {k v : Fin 4352 → Fin 128 → ℝ} {y g : Fin 128 → Fin 512 → ℝ}
  (h0 : ∀ h r d, x0 (ix3 h r d) = ((q h r d : ℝ) : EReal)) (h1 : ∀ j d, x1 (ix3 0 j d) = ((k j d : ℝ) : EReal))
  (h2 : ∀ j d, x2 (ix3 0 j d) = ((v j d : ℝ) : EReal))
  (h3 : ∀ h r d, x3 (ix2 r (col h d)) = ((out (q h r) k v d : ℝ) : EReal))
  (h4 : ∀ r e, x4 (ix2 r e) = ((y r e : ℝ) : EReal)) (h5 : ∀ r e, x5 (ix2 r e) = ((g r e : ℝ) : EReal))
  (h6 : ∀ h r, x6 (ix3 0 r (lane h)) = ((Real.log (den (q h r) k) : ℝ) : EReal))

/-- The gradient of the attention output in head `h`, row `r`: the gated gradient times `g · σ(g)`. -/
def dogR (y g : Fin 128 → Fin 512 → ℝ) (h : Fin 4) (r : Fin 128) (d : Fin 128) : ℝ :=
  y r (col h d) * (g r (col h d) * sgm (g r (col h d)))

include h4 h5 in
theorem dogB_real (h : Fin 4) (r d : Fin 128) : dogB x4 x5 h r d = ((dogR y g h r d : ℝ) : EReal) := by
  unfold dogB dogR; rw [h4, h5, silu_real, ← EReal.coe_mul]

include h0 h1 h6 in
theorem pB_real (h : Fin 4) (r : Fin 128) (j : Fin 4352) : pB x0 x1 x6 h r j = ((prob (q h r) k j : ℝ) : EReal) := by
  unfold pB sl2e l2e
  rw [dot_coe (fun d => h0 h r d) (fun d => h1 j d), h6, ← EReal.coe_mul, ← EReal.coe_mul, ← EReal.coe_sub, Ideal.exp2_coe,
    ← mul_assoc, ← sub_mul, two_rpow, ← prob_lse]
  congr 2
  unfold s raw; ring

include h0 h1 h2 h3 h4 h5 h6 in
theorem dsB_real (h : Fin 4) (r : Fin 128) (j : Fin 4352) :
    dsB x0 x1 x2 x3 x4 x5 x6 h r j = ((ds (q h r) k v (dogR y g h r) j : ℝ) : EReal) := by
  unfold dsB deltaB
  rw [pB_real h0 h1 h6, dot_coe (fun d => dogB_real h4 h5 h r d) (fun d => h2 j d),
    dot_coe (fun d => dogB_real h4 h5 h r d) (fun d => h3 h r d), ← EReal.coe_sub, ← EReal.coe_mul]
  rfl

/-- The 4352 keys are their two halves. -/
theorem sum_halves (f : Fin 4352 → ℝ) : (∑ j : Fin 2176, f (lo j)) + ∑ j : Fin 2176, f (hi j) = ∑ j, f j :=
  (Fin.sum_univ_add (a := 2176) (b := 2176) f).symm

include h0 h1 h2 h3 h4 h5 h6 in
/-- The backward call's gradient of the queries. -/
theorem dqB_real (h : Fin 4) (r d : Fin 128) :
    dqB x0 x1 x2 x3 x4 x5 x6 h r d = ((s * ∑ j, ds (q h r) k v (dogR y g h r) j * k j d : ℝ) : EReal) := by
  unfold dqB
  rw [dot_coe (fun j => dsB_real h0 h1 h2 h3 h4 h5 h6 h r (lo j)) (fun j => h1 (lo j) d),
    dot_coe (fun j => dsB_real h0 h1 h2 h3 h4 h5 h6 h r (hi j)) (fun j => h1 (hi j) d), zero_add, ← EReal.coe_add,
    sum_halves fun j => ds (q h r) k v (dogR y g h r) j * k j d, EReal.coe_mul]
  rfl

include h0 h1 h2 h3 h4 h5 h6 in
/-- What a head's 128 rows add to the gradient of the keys. -/
theorem dkB_real (h : Fin 4) (j : Fin 4352) (d : Fin 128) :
    dkB x0 x1 x2 x3 x4 x5 x6 h j d = ((s * ∑ r : Fin 128, ds (q h r) k v (dogR y g h r) j * q h r d : ℝ) : EReal) := by
  unfold dkB
  rw [dot_coe (fun r => dsB_real h0 h1 h2 h3 h4 h5 h6 h r j) (fun r => h0 h r d), EReal.coe_mul]
  rfl

include h0 h1 h4 h5 h6 in
/-- What a head's 128 rows add to the gradient of the values. -/
theorem dvB_real (h : Fin 4) (j : Fin 4352) (d : Fin 128) :
    dvB x0 x1 x4 x5 x6 h j d = ((∑ r : Fin 128, prob (q h r) k j * dogR y g h r d : ℝ) : EReal) := by
  unfold dvB
  exact dot_coe (fun r => pB_real h0 h1 h6 h r j) (fun r => dogB_real h4 h5 h r d)

include h3 h4 h5 in
/-- The backward call's gradient of the gate. -/
theorem dgB_real (h : Fin 4) (r d : Fin 128) :
    dgB x3 x4 x5 r (col h d) = ((y r (col h d) * out (q h r) k v d
      * (sgm (g r (col h d)) * (1 + g r (col h d) * (1 - sgm (g r (col h d))))) : ℝ) : EReal) := by
  unfold dgB
  rw [h3, h4, h5, Ideal.logistic_coe]
  push_cast
  rfl

end Backward
end Cert.Att
-- ==== Proof.Data.lean ====
module

public import proofs.«01_k».proof.Proof.RealMath

/-!
  Attention and its gradients over the real numbers, for all rows and heads: sixteen query heads, four to a key/value head,
  4096 query rows against 4352 keys, head width 128. These are the numbers both programs are shown to return.
-/

@[expose] public section
noncomputable section
namespace Cert.Att

/-- The real inputs: queries, keys and values by head, row and lane; the gradient of the gated output and the gate by row and
    column (column `128 * head + lane`). -/
structure Data where
  Q : ℕ → ℕ → ℕ → ℝ
  K : ℕ → ℕ → ℕ → ℝ
  V : ℕ → ℕ → ℕ → ℝ
  Y : ℕ → ℕ → ℝ
  G : ℕ → ℕ → ℝ

namespace Data
variable (D : Data)

/-- Row `i` of head `h`. -/
def q (h i : ℕ) : Fin 128 → ℝ := fun d => D.Q h i d
/-- The keys that head `h` reads. -/
def k (h : ℕ) : Fin 4352 → Fin 128 → ℝ := fun j d => D.K (h / 4) j d
/-- The values that head `h` reads. -/
def v (h : ℕ) : Fin 4352 → Fin 128 → ℝ := fun j d => D.V (h / 4) j d
/-- The gate's factor `g · σ(g)`. -/
def silu (i e : ℕ) : ℝ := D.G i e * sgm (D.G i e)
/-- The gradient of the attention output. -/
def dog (h i : ℕ) : Fin 128 → ℝ := fun d => D.Y i (128 * h + d) * D.silu i (128 * h + d)
/-- The attention output. -/
def o (h i : ℕ) (d : Fin 128) : ℝ := out (D.q h i) (D.k h) (D.v h) d
/-- The row log-sums. -/
def lse (h i : ℕ) : ℝ := Real.log (den (D.q h i) (D.k h))
/-- The probabilities. -/
def p (h i : ℕ) (j : Fin 4352) : ℝ := prob (D.q h i) (D.k h) j
/-- The gradient of the scaled scores. -/
def dsc (h i : ℕ) (j : Fin 4352) : ℝ := ds (D.q h i) (D.k h) (D.v h) (D.dog h i) j
/-- The gradient of the queries. -/
def dq (h i : ℕ) (d : Fin 128) : ℝ := s * ∑ j : Fin 4352, D.dsc h i j * D.k h j d
/-- What head `h` adds to the gradient of its keys in rows `128 * n` to `128 * n + 127`. -/
def dkTile (h n : ℕ) (j : Fin 4352) (d : Fin 128) : ℝ := s * ∑ r : Fin 128, D.dsc h (128 * n + r) j * D.q h (128 * n + r) d
/-- What head `h` adds to the gradient of its values in rows `128 * n` to `128 * n + 127`. -/
def dvTile (h n : ℕ) (j : Fin 4352) (d : Fin 128) : ℝ := ∑ r : Fin 128, D.p h (128 * n + r) j * D.dog h (128 * n + r) d
/-- The gradient of the keys: over the four query heads that read them and all rows. -/
def dk (g : ℕ) (j : Fin 4352) (d : Fin 128) : ℝ :=
  s * ∑ a : Fin 4, ∑ i : Fin 4096, D.dsc (4 * g + a) i j * D.q (4 * g + a) i d
/-- The gradient of the values. -/
def dv (g : ℕ) (j : Fin 4352) (d : Fin 128) : ℝ :=
  ∑ a : Fin 4, ∑ i : Fin 4096, D.p (4 * g + a) i j * D.dog (4 * g + a) i d
/-- The lane of column `e`. -/
def laneOf (e : ℕ) : Fin 128 := ⟨e % 128, Nat.mod_lt _ (by norm_num)⟩
/-- The gated output. -/
def y (i e : ℕ) : ℝ := D.o (e / 128) i (laneOf e) * D.silu i e
/-- The gradient of the gate. -/
def dg (i e : ℕ) : ℝ :=
  D.Y i e * D.o (e / 128) i (laneOf e) * (sgm (D.G i e) * (1 + D.G i e * (1 - sgm (D.G i e))))

end Data

/-- The keys that the four heads of a group read are the group's. -/
theorem Data.k_of (D : Data) (g : ℕ) (a : Fin 4) : D.k (4 * g + a) = fun (j : Fin 4352) (d : Fin 128) => D.K g j d := by
  funext j d; show D.K ((4 * g + a.val) / 4) j d = D.K g j d; rw [show (4 * g + a.val) / 4 = g by omega]
/-- The values that the four heads of a group read are the group's. -/
theorem Data.v_of (D : Data) (g : ℕ) (a : Fin 4) : D.v (4 * g + a) = fun (j : Fin 4352) (d : Fin 128) => D.V g j d := by
  funext j d; show D.V ((4 * g + a.val) / 4) j d = D.V g j d; rw [show (4 * g + a.val) / 4 = g by omega]

/-- The 4096 rows are 32 tiles of 128. -/
theorem sum_rows (f : ℕ → ℝ) : ∑ n ∈ Finset.range 32, ∑ r : Fin 128, f (128 * n + r) = ∑ i : Fin 4096, f i := by
  rw [Fin.sum_univ_eq_sum_range f 4096]
  have h : ∀ N : ℕ, ∑ n ∈ Finset.range N, ∑ r : Fin 128, f (128 * n + r) = ∑ i ∈ Finset.range (128 * N), f i := by
    intro N
    induction N with
    | zero => simp
    | succ N ih =>
      rw [Finset.sum_range_succ, ih, show 128 * (N + 1) = 128 * N + 128 by ring, Finset.sum_range_add,
        Fin.sum_univ_eq_sum_range (fun r => f (128 * N + r)) 128]
  exact h 32

/-- The tiles' contributions to the gradient of the keys make it up. -/
theorem Data.sum_dk (D : Data) (g : ℕ) (j : Fin 4352) (d : Fin 128) :
    ∑ n ∈ Finset.range 32, ∑ a : Fin 4, D.dkTile (4 * g + a) n j d = D.dk g j d := by
  rw [Finset.sum_comm]
  unfold Data.dk Data.dkTile
  rw [Finset.mul_sum]
  refine Finset.sum_congr rfl fun a _ => ?_
  rw [← Finset.mul_sum, ← sum_rows fun i => D.dsc (4 * g + a) i j * D.q (4 * g + a) i d]

/-- The tiles' contributions to the gradient of the values make it up. -/
theorem Data.sum_dv (D : Data) (g : ℕ) (j : Fin 4352) (d : Fin 128) :
    ∑ n ∈ Finset.range 32, ∑ a : Fin 4, D.dvTile (4 * g + a) n j d = D.dv g j d := by
  rw [Finset.sum_comm]
  unfold Data.dv Data.dvTile
  refine Finset.sum_congr rfl fun a _ => ?_
  rw [← sum_rows fun i => D.p (4 * g + a) i j * D.dog (4 * g + a) i d]

theorem div_col (h : ℕ) (d : Fin 128) : (128 * h + d.val) / 128 = h := by omega
theorem laneOf_col (h : ℕ) (d : Fin 128) : Data.laneOf (128 * h + d.val) = d := Fin.ext (by show (128 * h + d.val) % 128 = d.val; omega)

end Cert.Att
-- ==== Proof.FwdArray.lean ====
module

public import proofs.«01_k».proof.Proof.BlockReal
public import proofs.«01_k».proof.Proof.Data
public import Idealize.ShloMosaic.Lib.Pipeline.ValueKit

/-!
  The arrays the forward attention call leaves: the attention output, the gated output and the row log-sums.
-/

@[expose] public section
noncomputable section
open Idealize.ShloMosaic Idealize.ShloMosaic.TcCoe Idealize.SL.Sem
open Cert.KernelIdeal Cert.KernelIdeal.Gen Cert.KernelIdeal.Bwd Cert.KernelIdeal.Fwd

namespace Cert.Att

/-- The blocks the forward call's windows hold at point `t`: key/value head `t / 16`, row tile `t % 16`. -/
theorem fwd_idx : ∀ t : Fin cfg0.N, win0_0.index t = ![t.val / 16, t.val % 16, 0] ∧ win0_1.index t = ![t.val / 16, 0, 0]
    ∧ win0_2.index t = ![t.val / 16, 0, 0] ∧ win0_3.index t = ![t.val % 16, 6 + t.val / 16]
    ∧ win0_4.index t = ![t.val % 16, t.val / 16] ∧ win0_5.index t = ![t.val % 16, t.val / 16]
    ∧ win0_6.index t = ![t.val / 16, t.val % 16, 0] := (by decide +kernel : ∀ t : Fin grid0.N, _)

theorem fwd_lt (t : Fin cfg0.N) : t.val < 64 := t.isLt

section
variable (V : (c : Dev nD) → (b : Ref sig .tc) → Buf (Elt Ideal) ((c.tc : Thread nD τ).loc b)) (c : Dev nD) (D : Data)
  (hQ : ∀ (h : Fin 16) (i : Fin 4352) (d : Fin 128), i.val < 4096 → V c main_arg0 (ix3 h i d) = ((D.Q h i d : ℝ) : EReal))
  (hK : ∀ (h : Fin 4) (j : Fin 4352) (d : Fin 128), V c main_arg1 (ix3 h j d) = ((D.K h j d : ℝ) : EReal))
  (hV : ∀ (h : Fin 4) (j : Fin 4352) (d : Fin 128), V c main_arg2 (ix3 h j d) = ((D.V h j d : ℝ) : EReal))
  (hG : ∀ (i : Fin 4352) (e : Fin 9216), i.val < 4096 → 3072 ≤ e.val → e.val < 5120 →
    V c main_arg4 (ix2 i e) = ((D.G i (e - 3072) : ℝ) : EReal))

include hQ in
theorem fwd_q (t : Fin cfg0.N) (h : Fin 4) (r : Fin 256) (d : Fin 128) :
    iblk0 V c 0 t (ix3 h r d) = ((D.Q (4 * (t.val / 16) + h) (256 * (t.val % 16) + r) d : ℝ) : EReal) := by
  have ht := fwd_lt t
  obtain ⟨e0, e1, e2, e3, e4, e5, e6⟩ := fwd_idx t
  rw [← hQ ⟨4 * (t.val / 16) + h, by omega⟩ ⟨256 * (t.val % 16) + r, by omega⟩ d (by show 256 * (t.val % 16) + r.val < 4096; omega)]
  blk_ext [iblk0, e0]

include hK in
theorem fwd_k (t : Fin cfg0.N) (j : Fin 4352) (d : Fin 128) :
    iblk0 V c 1 t (ix3 0 j d) = ((D.K (t.val / 16) j d : ℝ) : EReal) := by
  have ht := fwd_lt t
  obtain ⟨e0, e1, e2, e3, e4, e5, e6⟩ := fwd_idx t
  rw [← hK ⟨t.val / 16, by omega⟩ j d]
  blk_ext [iblk0, e1]

include hV in
theorem fwd_v (t : Fin cfg0.N) (j : Fin 4352) (d : Fin 128) :
    iblk0 V c 2 t (ix3 0 j d) = ((D.V (t.val / 16) j d : ℝ) : EReal) := by
  have ht := fwd_lt t
  obtain ⟨e0, e1, e2, e3, e4, e5, e6⟩ := fwd_idx t
  rw [← hV ⟨t.val / 16, by omega⟩ j d]
  blk_ext [iblk0, e2]

include hG in
theorem fwd_g (t : Fin cfg0.N) (r : Fin 256) (e : Fin 512) :
    iblk0 V c 3 t (ix2 r e) = ((D.G (256 * (t.val % 16) + r) (512 * (t.val / 16) + e) : ℝ) : EReal) := by
  have ht := fwd_lt t
  obtain ⟨e0, e1, e2, e3, e4, e5, e6⟩ := fwd_idx t
  have hG' := hG ⟨256 * (t.val % 16) + r, by omega⟩ ⟨3072 + (512 * (t.val / 16) + e), by omega⟩
    (by show 256 * (t.val % 16) + r.val < 4096; omega) (by show 3072 ≤ 3072 + (512 * (t.val / 16) + e.val); omega)
    (by show 3072 + (512 * (t.val / 16) + e.val) < 5120; omega)
  rw [show ((⟨3072 + (512 * (t.val / 16) + e), by omega⟩ : Fin 9216).val - 3072) = 512 * (t.val / 16) + e.val by
    show 3072 + (512 * (t.val / 16) + e.val) - 3072 = _; omega] at hG'
  rw [← hG']
  blk_ext [iblk0, e3]

/-- Splitting a column into its head and lane. -/
theorem col_split (e : Fin 512) : ∃ h d, e = col h d :=
  ⟨⟨e.val / 128, by omega⟩, ⟨e.val % 128, by omega⟩, Fin.ext (by show e.val = 128 * (e.val / 128) + e.val % 128; omega)⟩

/-- The attention output at a block's place. -/
theorem o_at (g a i : ℕ) (ha : a < 4) (d : Fin 128) (I J : ℕ) (hI : I = i) (hJ : J = 512 * g + (128 * a + d.val)) :
    D.o (J / 128) I (Data.laneOf J) = out (fun d => D.Q (4 * g + a) i d) (fun j d => D.K g j d) (fun j d => D.V g j d) d := by
  obtain rfl := hI
  obtain rfl : J = 128 * (4 * g + a) + d.val := by omega
  rw [div_col, laneOf_col]
  unfold Data.o
  rw [D.k_of g ⟨a, ha⟩, D.v_of g ⟨a, ha⟩]
  rfl

include hQ hK hV in
/-- The attention output array. -/
theorem fwd_o : (dat0 V c).arrAt 4 cfg0.N
    = fun i : (⟨2, ![4096, 2048]⟩ : Shape).Idx => ((D.o ((i 1).val / 128) (i 0) (Data.laneOf (i 1)) : ℝ) : EReal) := by
  refine (dat0 V c).arrAt_eq_of_covers 4 _ (by decide +kernel) fun t hf y => ?_
  obtain ⟨e0, e1, e2, e3, e4, e5, e6⟩ := fwd_idx t
  obtain ⟨r, e, rfl⟩ : ∃ (r : Fin 256) (e : Fin 512), y = ix2 r e := ⟨y 0, y 1, by ext a; fin_cases a <;> rfl⟩
  obtain ⟨h, d, rfl⟩ := col_split e
  blk_simp
  rw [after0_4, out_4, oF_real (fun h r d => fwd_q V c D hQ t h r d) (fun j d => fwd_k V c D hK t j d)
    (fun j d => fwd_v V c D hV t j d)]
  refine congrArg _ (o_at D (t.val / 16) h (256 * (t.val % 16) + r) h.isLt d _ _ ?_ ?_).symm
  · blk_simp [e4, ix2]; simp; omega
  · blk_simp [e4, ix2]; simp [col]; omega

include hQ hK in
/-- The row log-sums: lane `a` of key/value head `g` holds the log-sum of query head `4 g + a`. -/
theorem fwd_lse (i : (⟨3, ![4, 4096, 128]⟩ : Shape).Idx) (hi : (i 2).val < 4) :
    (dat0 V c).arrAt 6 cfg0.N i = ((D.lse (4 * (i 0).val + (i 2).val) (i 1) : ℝ) : EReal) := by
  have key := (dat0 V c).arrAt_forall_of_covers 6 (fun (i : (⟨3, ![4, 4096, 128]⟩ : Shape).Idx) v =>
    (i 2).val < 4 → v = ((D.lse (4 * (i 0).val + (i 2).val) (i 1) : ℝ) : EReal)) (by decide +kernel) (fun t hf y => ?_) i
  · exact key hi
  obtain ⟨e0, e1, e2, e3, e4, e5, e6⟩ := fwd_idx t
  obtain ⟨u, r, l, rfl⟩ : ∃ (u : Fin 1) (r : Fin 256) (l : Fin 128), y = ix3 u r l :=
    ⟨y 0, y 1, y 2, by ext a; fin_cases a <;> rfl⟩
  obtain rfl : u = 0 := Subsingleton.elim _ _
  blk_simp [e6]
  intro hl
  obtain ⟨a, rfl⟩ : ∃ a : Fin 4, l = lane a := ⟨⟨l.val, by simpa [ix3] using hl⟩, rfl⟩
  rw [after0_6, out_6, lseF_real (fun h r d => fwd_q V c D hQ t h r d) (fun j d => fwd_k V c D hK t j d)]
  unfold Data.lse
  rw [show 4 * (t.val / 16 + ((0 : Fin 1) : ℕ)) + ((lane a : Fin 128) : ℕ) = 4 * (t.val / 16) + a.val from rfl, D.k_of,
    Nat.mul_comm (t.val % 16) 256]
  rfl

include hQ hK hV hG in
/-- The gated output, in the columns the call writes. -/
theorem fwd_y (i : (⟨2, ![4096, 4096]⟩ : Shape).Idx) (hi : (i 1).val < 2048) :
    (dat0 V c).arrAt 5 cfg0.N i = ((D.y (i 0) (i 1) : ℝ) : EReal) := by
  have key := (dat0 V c).arrAt_apply_of_coversWhere 5
    (fun i : (⟨2, ![4096, 4096]⟩ : Shape).Idx => ((D.y (i 0) (i 1) : ℝ) : EReal))
    (P := fun i : (⟨2, ![4096, 4096]⟩ : Shape).Idx => (i 1).val < 2048)
    (fun β => β 1 < 4) (by decide +kernel) (fun t hf y => ?_) (fun j => by blk_simp [Pipeline.Window.cell_apply]; omega) i
  · exact key.trans (if_pos hi)
  obtain ⟨e0, e1, e2, e3, e4, e5, e6⟩ := fwd_idx t
  obtain ⟨r, e, rfl⟩ : ∃ (r : Fin 256) (e : Fin 512), y = ix2 r e := ⟨y 0, y 1, by ext a; fin_cases a <;> rfl⟩
  obtain ⟨h, d, rfl⟩ := col_split e
  blk_simp [e5]
  rw [after0_5, out_5, yF_real (fun h r d => fwd_q V c D hQ t h r d) (fun j d => fwd_k V c D hK t j d)
    (fun j d => fwd_v V c D hV t j d) (fun r e => fwd_g V c D hG t r e)]
  have hc : ((col h d : Fin 512) : ℕ) = 128 * h.val + d.val := rfl
  rw [Nat.mul_comm (t.val % 16) 256, show t.val / 16 * 512 + ((col h d : Fin 512) : ℕ) = 128 * (4 * (t.val / 16) + h.val) + d.val by omega,
    show 512 * (t.val / 16) + ((col h d : Fin 512) : ℕ) = 128 * (4 * (t.val / 16) + h.val) + d.val by omega]
  unfold Data.y Data.o
  rw [div_col, laneOf_col, D.k_of, D.v_of]
  rfl

end
end Cert.Att
-- ==== Proof.BwdOpen.lean ====
module

public import proofs.«01_k».proof.Proof.BwdLoads
public import proofs.«01_k».proof.Proof.Gen.KernelIdeal.Frame
public import Idealize.ShloMosaic.Lib.Pipeline.ReadBack
public import Idealize.ShloMosaic.Lib.Tactic

/-!
  What the body of the backward attention call leaves in its four output blocks, at an index: case A is the first block of
  queries of a key/value head (the gradients of the keys and values are zeroed first), case B every later one.
-/

@[expose] public section
noncomputable section
open Idealize.ShloMosaic Idealize.ShloMosaic.TcCoe Idealize.SL.Sem
namespace Cert.KernelIdeal.Bwd
open Cert.KernelIdeal Cert.KernelIdeal.Gen

/-- The zero block the first grid point stores into the gradient of the keys. -/
theorem zero10 (n : ℕ) (inb : ∀ a, (![0, n, 0] : Fin 3 → ℕ) a + S1x2176x128.size a ≤ S1x4352x128.size a) (j : Fin 2176) (d : Fin 128) :
    View.ld (Val := Elt Ideal) (e' := .f32) (k1_pay2 (F := Ideal)) (Rect.unit (s := S1x4352x128) ![0, n, 0] S1x2176x128.size inb) (ix3 0 j d) = 0 := by
  show Ideal.ofBits .f32 0x00000000#32 = 0
  simp
/-- The zero block the first grid point stores into the gradient of the values. -/
theorem zero11 (n : ℕ) (inb : ∀ a, (![0, n, 0] : Fin 3 → ℕ) a + S1x2176x128.size a ≤ S1x4352x128.size a) (j : Fin 2176) (d : Fin 128) :
    View.ld (Val := Elt Ideal) (e' := .f32) (k1_pay3 (F := Ideal)) (Rect.unit (s := S1x4352x128) ![0, n, 0] S1x2176x128.size inb) (ix3 0 j d) = 0 := by
  show Ideal.ofBits .f32 0x00000000#32 = 0
  simp
/-- The gradient of the queries starts from zero. -/
theorem zero12 (r d : Fin 128) : k1_pay12 (F := Ideal) (ix2 r d) = 0 := by
  show Ideal.ofBits .f32 0x00000000#32 = 0
  simp

section
variable (c : Dev nD) (i : grid1.Coords) (arg2 : Memref sig .tc .vmem S4x128x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x128x128 .f32) (harg8 : arg8.IsWhole) (arg9 : Memref sig .tc .vmem S8x128 .f32) (harg9 : arg9.IsWhole) (arg11 : Memref sig .tc .vmem S4x128x128 .f32) (harg11 : arg11.IsWhole) (arg12 : Memref sig .tc .vmem S128x512 .bf16) (harg12 : arg12.IsWhole) (arg13 : Memref sig .tc .vmem S1x4352x128 .f32) (harg13 : arg13.IsWhole) (arg14 : Memref sig .tc .vmem S1x4352x128 .f32) (harg14 : arg14.IsWhole) (hc0 : cond1_0 i)
  (x0 : Vec Ideal S4x128x128 .bf16) (x1 : Vec Ideal S1x4352x128 .bf16) (x2 : Vec Ideal S1x4352x128 .bf16) (x3 : Vec Ideal S128x512 .f32) (x4 : Vec Ideal S128x512 .f32) (x5 : Vec Ideal S128x512 .f32) (x6 : Vec Ideal S1x128x128 .f32) (x7 : Vec Ideal S8x128 .f32)

/-- The gradient of the queries (first block). -/
theorem out_A_8 (h : Fin 4) (r d : Fin 128) :
    out1_A_8 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 (ix3 h r d) = dqB x0 x1 x2 x3 x4 x5 x6 h r d := by
  unfold out1_A_8
  rw [View.read_writes_eq_canon _ _ _ (cover1_A_8 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7)]
  unfold kernelRun1_A
  dsimp only
  sl_unfold_words
  simp only [View.readAt_eq_ld, harg2.read_unread, harg3.read_unread, harg4.read_unread, harg5.read_unread, harg6.read_unread, harg7.read_unread, harg8.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain rfl | rfl | rfl | rfl := head_cases h
  · rw [canon_head_skip _ 3 _ _ 0 (by decide)]; rw [canon_head_skip _ 2 _ _ 0 (by decide)]; rw [canon_head_skip _ 1 _ _ 0 (by decide)]; rw [canon_head _ 0 _ _ 0 rfl, dq_scale,
      dq_stage x0 x1 x2 x3 x4 x5 x6 0 hi _ _ _ _ _ _ _ (ld_head0 x0 _) (ld_col0 x5 _) (ld_col0 x3 _) (ld_col0 x4 _) (ld_lane0 x6 _) (ld_hi x1 _) (ld_hi x2 _),
      dq_stage x0 x1 x2 x3 x4 x5 x6 0 lo _ _ _ _ _ _ _ (ld_head0 x0 _) (ld_col0 x5 _) (ld_col0 x3 _) (ld_col0 x4 _) (ld_lane0 x6 _) (ld_lo x1 _) (ld_lo x2 _), zero12]
    rfl
  · rw [canon_head_skip _ 3 _ _ 1 (by decide)]; rw [canon_head_skip _ 2 _ _ 1 (by decide)]; rw [canon_head _ 1 _ _ 1 rfl, dq_scale,
      dq_stage x0 x1 x2 x3 x4 x5 x6 1 hi _ _ _ _ _ _ _ (ld_head1 x0 _) (ld_col1 x5 _) (ld_col1 x3 _) (ld_col1 x4 _) (ld_lane1 x6 _) (ld_hi x1 _) (ld_hi x2 _),
      dq_stage x0 x1 x2 x3 x4 x5 x6 1 lo _ _ _ _ _ _ _ (ld_head1 x0 _) (ld_col1 x5 _) (ld_col1 x3 _) (ld_col1 x4 _) (ld_lane1 x6 _) (ld_lo x1 _) (ld_lo x2 _), zero12]
    rfl
  · rw [canon_head_skip _ 3 _ _ 2 (by decide)]; rw [canon_head _ 2 _ _ 2 rfl, dq_scale,
      dq_stage x0 x1 x2 x3 x4 x5 x6 2 hi _ _ _ _ _ _ _ (ld_head2 x0 _) (ld_col2 x5 _) (ld_col2 x3 _) (ld_col2 x4 _) (ld_lane2 x6 _) (ld_hi x1 _) (ld_hi x2 _),
      dq_stage x0 x1 x2 x3 x4 x5 x6 2 lo _ _ _ _ _ _ _ (ld_head2 x0 _) (ld_col2 x5 _) (ld_col2 x3 _) (ld_col2 x4 _) (ld_lane2 x6 _) (ld_lo x1 _) (ld_lo x2 _), zero12]
    rfl
  · rw [canon_head _ 3 _ _ 3 rfl, dq_scale,
      dq_stage x0 x1 x2 x3 x4 x5 x6 3 hi _ _ _ _ _ _ _ (ld_head3 x0 _) (ld_col3 x5 _) (ld_col3 x3 _) (ld_col3 x4 _) (ld_lane3 x6 _) (ld_hi x1 _) (ld_hi x2 _),
      dq_stage x0 x1 x2 x3 x4 x5 x6 3 lo _ _ _ _ _ _ _ (ld_head3 x0 _) (ld_col3 x5 _) (ld_col3 x3 _) (ld_col3 x4 _) (ld_lane3 x6 _) (ld_lo x1 _) (ld_lo x2 _), zero12]
    rfl

/-- The gradient of the gate (first block). -/
theorem out_A_9 (r : Fin 128) (e : Fin 512) :
    out1_A_9 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 (ix2 r e) = dgB x3 x4 x5 r e := by
  unfold out1_A_9
  rw [View.read_writes_eq_canon _ _ _ (cover1_A_9 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7)]
  unfold kernelRun1_A
  dsimp only
  sl_unfold_words
  simp only [View.readAt_eq_ld, harg2.read_unread, harg3.read_unread, harg4.read_unread, harg5.read_unread, harg6.read_unread, harg7.read_unread, harg8.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨h, d, rfl⟩ := col_cases e
  obtain rfl | rfl | rfl | rfl := head_cases h
  · rw [canon_col_skip _ 384 _ _ 0 (by decide)]; rw [canon_col_skip _ 256 _ _ 0 (by decide)]; rw [canon_col_skip _ 128 _ _ 0 (by decide)]; rw [canon_col _ 0 _ _ 0 rfl, dg_stage x3 x4 x5 0 _ _ _ (ld_col0 x5 _) (ld_col0 x3 _) (ld_col0 x4 _)]
  · rw [canon_col_skip _ 384 _ _ 1 (by decide)]; rw [canon_col_skip _ 256 _ _ 1 (by decide)]; rw [canon_col _ 128 _ _ 1 rfl, dg_stage x3 x4 x5 1 _ _ _ (ld_col1 x5 _) (ld_col1 x3 _) (ld_col1 x4 _)]
  · rw [canon_col_skip _ 384 _ _ 2 (by decide)]; rw [canon_col _ 256 _ _ 2 rfl, dg_stage x3 x4 x5 2 _ _ _ (ld_col2 x5 _) (ld_col2 x3 _) (ld_col2 x4 _)]
  · rw [canon_col _ 384 _ _ 3 rfl, dg_stage x3 x4 x5 3 _ _ _ (ld_col3 x5 _) (ld_col3 x3 _) (ld_col3 x4 _)]

/-- The gradient of the keys (first block): the four heads' additions. -/
theorem out_A_10 (j : Fin 4352) (d : Fin 128) :
    out1_A_10 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 (ix3 0 j d) = 0 + dkB x0 x1 x2 x3 x4 x5 x6 0 j d + dkB x0 x1 x2 x3 x4 x5 x6 1 j d + dkB x0 x1 x2 x3 x4 x5 x6 2 j d + dkB x0 x1 x2 x3 x4 x5 x6 3 j d := by
  unfold out1_A_10
  rw [View.read_writes_eq_canon _ _ _ (cover1_A_10 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7)]
  unfold kernelRun1_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg8.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨j, rfl⟩ | ⟨j, rfl⟩ := key_cases j
  · rw [canon_lo,
      dk_stage x0 x1 x2 x3 x4 x5 x6 3 lo _ _ _ _ _ _ _ (ld_head3 x0 _) (ld_col3 x5 _) (ld_col3 x3 _) (ld_col3 x4 _) (ld_lane3 x6 _) (ld_lo x1 _) (ld_lo x2 _),
      dk_stage x0 x1 x2 x3 x4 x5 x6 2 lo _ _ _ _ _ _ _ (ld_head2 x0 _) (ld_col2 x5 _) (ld_col2 x3 _) (ld_col2 x4 _) (ld_lane2 x6 _) (ld_lo x1 _) (ld_lo x2 _),
      dk_stage x0 x1 x2 x3 x4 x5 x6 1 lo _ _ _ _ _ _ _ (ld_head1 x0 _) (ld_col1 x5 _) (ld_col1 x3 _) (ld_col1 x4 _) (ld_lane1 x6 _) (ld_lo x1 _) (ld_lo x2 _),
      dk_stage x0 x1 x2 x3 x4 x5 x6 0 lo _ _ _ _ _ _ _ (ld_head0 x0 _) (ld_col0 x5 _) (ld_col0 x3 _) (ld_col0 x4 _) (ld_lane0 x6 _) (ld_lo x1 _) (ld_lo x2 _), zero10]
  · rw [canon_hi,
      dk_stage x0 x1 x2 x3 x4 x5 x6 3 hi _ _ _ _ _ _ _ (ld_head3 x0 _) (ld_col3 x5 _) (ld_col3 x3 _) (ld_col3 x4 _) (ld_lane3 x6 _) (ld_hi x1 _) (ld_hi x2 _),
      dk_stage x0 x1 x2 x3 x4 x5 x6 2 hi _ _ _ _ _ _ _ (ld_head2 x0 _) (ld_col2 x5 _) (ld_col2 x3 _) (ld_col2 x4 _) (ld_lane2 x6 _) (ld_hi x1 _) (ld_hi x2 _),
      dk_stage x0 x1 x2 x3 x4 x5 x6 1 hi _ _ _ _ _ _ _ (ld_head1 x0 _) (ld_col1 x5 _) (ld_col1 x3 _) (ld_col1 x4 _) (ld_lane1 x6 _) (ld_hi x1 _) (ld_hi x2 _),
      dk_stage x0 x1 x2 x3 x4 x5 x6 0 hi _ _ _ _ _ _ _ (ld_head0 x0 _) (ld_col0 x5 _) (ld_col0 x3 _) (ld_col0 x4 _) (ld_lane0 x6 _) (ld_hi x1 _) (ld_hi x2 _), zero10]

/-- The gradient of the values (first block): the four heads' additions. -/
theorem out_A_11 (j : Fin 4352) (d : Fin 128) :
    out1_A_11 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 (ix3 0 j d) = 0 + dvB x0 x1 x4 x5 x6 0 j d + dvB x0 x1 x4 x5 x6 1 j d + dvB x0 x1 x4 x5 x6 2 j d + dvB x0 x1 x4 x5 x6 3 j d := by
  unfold out1_A_11
  rw [View.read_writes_eq_canon _ _ _ (cover1_A_11 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7)]
  unfold kernelRun1_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg8.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨j, rfl⟩ | ⟨j, rfl⟩ := key_cases j
  · rw [canon_lo,
      dv_stage x0 x1 x4 x5 x6 3 lo _ _ _ _ _ (ld_head3 x0 _) (ld_col3 x5 _) (ld_col3 x4 _) (ld_lane3 x6 _) (ld_lo x1 _),
      dv_stage x0 x1 x4 x5 x6 2 lo _ _ _ _ _ (ld_head2 x0 _) (ld_col2 x5 _) (ld_col2 x4 _) (ld_lane2 x6 _) (ld_lo x1 _),
      dv_stage x0 x1 x4 x5 x6 1 lo _ _ _ _ _ (ld_head1 x0 _) (ld_col1 x5 _) (ld_col1 x4 _) (ld_lane1 x6 _) (ld_lo x1 _),
      dv_stage x0 x1 x4 x5 x6 0 lo _ _ _ _ _ (ld_head0 x0 _) (ld_col0 x5 _) (ld_col0 x4 _) (ld_lane0 x6 _) (ld_lo x1 _), zero11]
  · rw [canon_hi,
      dv_stage x0 x1 x4 x5 x6 3 hi _ _ _ _ _ (ld_head3 x0 _) (ld_col3 x5 _) (ld_col3 x4 _) (ld_lane3 x6 _) (ld_hi x1 _),
      dv_stage x0 x1 x4 x5 x6 2 hi _ _ _ _ _ (ld_head2 x0 _) (ld_col2 x5 _) (ld_col2 x4 _) (ld_lane2 x6 _) (ld_hi x1 _),
      dv_stage x0 x1 x4 x5 x6 1 hi _ _ _ _ _ (ld_head1 x0 _) (ld_col1 x5 _) (ld_col1 x4 _) (ld_lane1 x6 _) (ld_hi x1 _),
      dv_stage x0 x1 x4 x5 x6 0 hi _ _ _ _ _ (ld_head0 x0 _) (ld_col0 x5 _) (ld_col0 x4 _) (ld_lane0 x6 _) (ld_hi x1 _), zero11]
end

section
variable (c : Dev nD) (i : grid1.Coords) (arg2 : Memref sig .tc .vmem S4x128x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x128x128 .f32) (harg8 : arg8.IsWhole) (arg9 : Memref sig .tc .vmem S8x128 .f32) (harg9 : arg9.IsWhole) (arg11 : Memref sig .tc .vmem S4x128x128 .f32) (harg11 : arg11.IsWhole) (arg12 : Memref sig .tc .vmem S128x512 .bf16) (harg12 : arg12.IsWhole) (arg13 : Memref sig .tc .vmem S1x4352x128 .f32) (harg13 : arg13.IsWhole) (arg14 : Memref sig .tc .vmem S1x4352x128 .f32) (harg14 : arg14.IsWhole) (hc0 : ¬cond1_0 i)
  (x0 : Vec Ideal S4x128x128 .bf16) (x1 : Vec Ideal S1x4352x128 .bf16) (x2 : Vec Ideal S1x4352x128 .bf16) (x3 : Vec Ideal S128x512 .f32) (x4 : Vec Ideal S128x512 .f32) (x5 : Vec Ideal S128x512 .f32) (x6 : Vec Ideal S1x128x128 .f32) (x7 : Vec Ideal S8x128 .f32) (xo10 xo11 : Vec Ideal S1x4352x128 .f32)

/-- The gradient of the queries (later block). -/
theorem out_B_8 (h : Fin 4) (r d : Fin 128) :
    out1_B_8 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11 (ix3 h r d) = dqB x0 x1 x2 x3 x4 x5 x6 h r d := by
  unfold out1_B_8
  rw [View.read_writes_eq_canon _ _ _ (cover1_B_8 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11)]
  unfold kernelRun1_B
  dsimp only
  sl_unfold_words
  simp only [View.readAt_eq_ld, harg2.read_unread, harg3.read_unread, harg4.read_unread, harg5.read_unread, harg6.read_unread, harg7.read_unread, harg8.read_unread, harg13.read_unread, harg14.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain rfl | rfl | rfl | rfl := head_cases h
  · rw [canon_head_skip _ 3 _ _ 0 (by decide)]; rw [canon_head_skip _ 2 _ _ 0 (by decide)]; rw [canon_head_skip _ 1 _ _ 0 (by decide)]; rw [canon_head _ 0 _ _ 0 rfl, dq_scale,
      dq_stage x0 x1 x2 x3 x4 x5 x6 0 hi _ _ _ _ _ _ _ (ld_head0 x0 _) (ld_col0 x5 _) (ld_col0 x3 _) (ld_col0 x4 _) (ld_lane0 x6 _) (ld_hi x1 _) (ld_hi x2 _),
      dq_stage x0 x1 x2 x3 x4 x5 x6 0 lo _ _ _ _ _ _ _ (ld_head0 x0 _) (ld_col0 x5 _) (ld_col0 x3 _) (ld_col0 x4 _) (ld_lane0 x6 _) (ld_lo x1 _) (ld_lo x2 _), zero12]
    rfl
  · rw [canon_head_skip _ 3 _ _ 1 (by decide)]; rw [canon_head_skip _ 2 _ _ 1 (by decide)]; rw [canon_head _ 1 _ _ 1 rfl, dq_scale,
      dq_stage x0 x1 x2 x3 x4 x5 x6 1 hi _ _ _ _ _ _ _ (ld_head1 x0 _) (ld_col1 x5 _) (ld_col1 x3 _) (ld_col1 x4 _) (ld_lane1 x6 _) (ld_hi x1 _) (ld_hi x2 _),
      dq_stage x0 x1 x2 x3 x4 x5 x6 1 lo _ _ _ _ _ _ _ (ld_head1 x0 _) (ld_col1 x5 _) (ld_col1 x3 _) (ld_col1 x4 _) (ld_lane1 x6 _) (ld_lo x1 _) (ld_lo x2 _), zero12]
    rfl
  · rw [canon_head_skip _ 3 _ _ 2 (by decide)]; rw [canon_head _ 2 _ _ 2 rfl, dq_scale,
      dq_stage x0 x1 x2 x3 x4 x5 x6 2 hi _ _ _ _ _ _ _ (ld_head2 x0 _) (ld_col2 x5 _) (ld_col2 x3 _) (ld_col2 x4 _) (ld_lane2 x6 _) (ld_hi x1 _) (ld_hi x2 _),
      dq_stage x0 x1 x2 x3 x4 x5 x6 2 lo _ _ _ _ _ _ _ (ld_head2 x0 _) (ld_col2 x5 _) (ld_col2 x3 _) (ld_col2 x4 _) (ld_lane2 x6 _) (ld_lo x1 _) (ld_lo x2 _), zero12]
    rfl
  · rw [canon_head _ 3 _ _ 3 rfl, dq_scale,
      dq_stage x0 x1 x2 x3 x4 x5 x6 3 hi _ _ _ _ _ _ _ (ld_head3 x0 _) (ld_col3 x5 _) (ld_col3 x3 _) (ld_col3 x4 _) (ld_lane3 x6 _) (ld_hi x1 _) (ld_hi x2 _),
      dq_stage x0 x1 x2 x3 x4 x5 x6 3 lo _ _ _ _ _ _ _ (ld_head3 x0 _) (ld_col3 x5 _) (ld_col3 x3 _) (ld_col3 x4 _) (ld_lane3 x6 _) (ld_lo x1 _) (ld_lo x2 _), zero12]
    rfl

/-- The gradient of the gate (later block). -/
theorem out_B_9 (r : Fin 128) (e : Fin 512) :
    out1_B_9 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11 (ix2 r e) = dgB x3 x4 x5 r e := by
  unfold out1_B_9
  rw [View.read_writes_eq_canon _ _ _ (cover1_B_9 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11)]
  unfold kernelRun1_B
  dsimp only
  sl_unfold_words
  simp only [View.readAt_eq_ld, harg2.read_unread, harg3.read_unread, harg4.read_unread, harg5.read_unread, harg6.read_unread, harg7.read_unread, harg8.read_unread, harg13.read_unread, harg14.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨h, d, rfl⟩ := col_cases e
  obtain rfl | rfl | rfl | rfl := head_cases h
  · rw [canon_col_skip _ 384 _ _ 0 (by decide)]; rw [canon_col_skip _ 256 _ _ 0 (by decide)]; rw [canon_col_skip _ 128 _ _ 0 (by decide)]; rw [canon_col _ 0 _ _ 0 rfl, dg_stage x3 x4 x5 0 _ _ _ (ld_col0 x5 _) (ld_col0 x3 _) (ld_col0 x4 _)]
  · rw [canon_col_skip _ 384 _ _ 1 (by decide)]; rw [canon_col_skip _ 256 _ _ 1 (by decide)]; rw [canon_col _ 128 _ _ 1 rfl, dg_stage x3 x4 x5 1 _ _ _ (ld_col1 x5 _) (ld_col1 x3 _) (ld_col1 x4 _)]
  · rw [canon_col_skip _ 384 _ _ 2 (by decide)]; rw [canon_col _ 256 _ _ 2 rfl, dg_stage x3 x4 x5 2 _ _ _ (ld_col2 x5 _) (ld_col2 x3 _) (ld_col2 x4 _)]
  · rw [canon_col _ 384 _ _ 3 rfl, dg_stage x3 x4 x5 3 _ _ _ (ld_col3 x5 _) (ld_col3 x3 _) (ld_col3 x4 _)]

/-- The gradient of the keys (later block): the four heads' additions. -/
theorem out_B_10 (j : Fin 4352) (d : Fin 128) :
    out1_B_10 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11 (ix3 0 j d) = xo10 (ix3 0 j d) + dkB x0 x1 x2 x3 x4 x5 x6 0 j d + dkB x0 x1 x2 x3 x4 x5 x6 1 j d + dkB x0 x1 x2 x3 x4 x5 x6 2 j d + dkB x0 x1 x2 x3 x4 x5 x6 3 j d := by
  unfold out1_B_10
  rw [View.read_writes_eq_canon _ _ _ (cover1_B_10 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11)]
  unfold kernelRun1_B
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg8.read_unread, harg13.read_unread, harg14.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨j, rfl⟩ | ⟨j, rfl⟩ := key_cases j
  · rw [canon_lo,
      dk_stage x0 x1 x2 x3 x4 x5 x6 3 lo _ _ _ _ _ _ _ (ld_head3 x0 _) (ld_col3 x5 _) (ld_col3 x3 _) (ld_col3 x4 _) (ld_lane3 x6 _) (ld_lo x1 _) (ld_lo x2 _),
      dk_stage x0 x1 x2 x3 x4 x5 x6 2 lo _ _ _ _ _ _ _ (ld_head2 x0 _) (ld_col2 x5 _) (ld_col2 x3 _) (ld_col2 x4 _) (ld_lane2 x6 _) (ld_lo x1 _) (ld_lo x2 _),
      dk_stage x0 x1 x2 x3 x4 x5 x6 1 lo _ _ _ _ _ _ _ (ld_head1 x0 _) (ld_col1 x5 _) (ld_col1 x3 _) (ld_col1 x4 _) (ld_lane1 x6 _) (ld_lo x1 _) (ld_lo x2 _),
      dk_stage x0 x1 x2 x3 x4 x5 x6 0 lo _ _ _ _ _ _ _ (ld_head0 x0 _) (ld_col0 x5 _) (ld_col0 x3 _) (ld_col0 x4 _) (ld_lane0 x6 _) (ld_lo x1 _) (ld_lo x2 _), ld_lo]
  · rw [canon_hi,
      dk_stage x0 x1 x2 x3 x4 x5 x6 3 hi _ _ _ _ _ _ _ (ld_head3 x0 _) (ld_col3 x5 _) (ld_col3 x3 _) (ld_col3 x4 _) (ld_lane3 x6 _) (ld_hi x1 _) (ld_hi x2 _),
      dk_stage x0 x1 x2 x3 x4 x5 x6 2 hi _ _ _ _ _ _ _ (ld_head2 x0 _) (ld_col2 x5 _) (ld_col2 x3 _) (ld_col2 x4 _) (ld_lane2 x6 _) (ld_hi x1 _) (ld_hi x2 _),
      dk_stage x0 x1 x2 x3 x4 x5 x6 1 hi _ _ _ _ _ _ _ (ld_head1 x0 _) (ld_col1 x5 _) (ld_col1 x3 _) (ld_col1 x4 _) (ld_lane1 x6 _) (ld_hi x1 _) (ld_hi x2 _),
      dk_stage x0 x1 x2 x3 x4 x5 x6 0 hi _ _ _ _ _ _ _ (ld_head0 x0 _) (ld_col0 x5 _) (ld_col0 x3 _) (ld_col0 x4 _) (ld_lane0 x6 _) (ld_hi x1 _) (ld_hi x2 _), ld_hi]

/-- The gradient of the values (later block): the four heads' additions. -/
theorem out_B_11 (j : Fin 4352) (d : Fin 128) :
    out1_B_11 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11 (ix3 0 j d) = xo11 (ix3 0 j d) + dvB x0 x1 x4 x5 x6 0 j d + dvB x0 x1 x4 x5 x6 1 j d + dvB x0 x1 x4 x5 x6 2 j d + dvB x0 x1 x4 x5 x6 3 j d := by
  unfold out1_B_11
  rw [View.read_writes_eq_canon _ _ _ (cover1_B_11 c i arg2 harg2 arg3 harg3 arg4 harg4 arg5 harg5 arg6 harg6 arg7 harg7 arg8 harg8 arg9 harg9 arg11 harg11 arg12 harg12 arg13 harg13 arg14 harg14 hc0 x0 x1 x2 x3 x4 x5 x6 x7 xo10 xo11)]
  unfold kernelRun1_B
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg8.read_unread, harg13.read_unread, harg14.read_unread]
  simp only [same22, same23, same24, same26, same46, same67, same29, same49, same70, same30, same50, same71, same31, same51, same72, same33, same53, same74, same37, same38, same39, same43, same44, same45, same58, same59, same60, same64, same65, same66, same81, same82, same83, same89, same90, same91, same1]
  obtain ⟨j, rfl⟩ | ⟨j, rfl⟩ := key_cases j
  · rw [canon_lo,
      dv_stage x0 x1 x4 x5 x6 3 lo _ _ _ _ _ (ld_head3 x0 _) (ld_col3 x5 _) (ld_col3 x4 _) (ld_lane3 x6 _) (ld_lo x1 _),
      dv_stage x0 x1 x4 x5 x6 2 lo _ _ _ _ _ (ld_head2 x0 _) (ld_col2 x5 _) (ld_col2 x4 _) (ld_lane2 x6 _) (ld_lo x1 _),
      dv_stage x0 x1 x4 x5 x6 1 lo _ _ _ _ _ (ld_head1 x0 _) (ld_col1 x5 _) (ld_col1 x4 _) (ld_lane1 x6 _) (ld_lo x1 _),
      dv_stage x0 x1 x4 x5 x6 0 lo _ _ _ _ _ (ld_head0 x0 _) (ld_col0 x5 _) (ld_col0 x4 _) (ld_lane0 x6 _) (ld_lo x1 _), ld_lo]
  · rw [canon_hi,
      dv_stage x0 x1 x4 x5 x6 3 hi _ _ _ _ _ (ld_head3 x0 _) (ld_col3 x5 _) (ld_col3 x4 _) (ld_lane3 x6 _) (ld_hi x1 _),
      dv_stage x0 x1 x4 x5 x6 2 hi _ _ _ _ _ (ld_head2 x0 _) (ld_col2 x5 _) (ld_col2 x4 _) (ld_lane2 x6 _) (ld_hi x1 _),
      dv_stage x0 x1 x4 x5 x6 1 hi _ _ _ _ _ (ld_head1 x0 _) (ld_col1 x5 _) (ld_col1 x4 _) (ld_lane1 x6 _) (ld_hi x1 _),
      dv_stage x0 x1 x4 x5 x6 0 hi _ _ _ _ _ (ld_head0 x0 _) (ld_col0 x5 _) (ld_col0 x4 _) (ld_lane0 x6 _) (ld_hi x1 _), ld_hi]
end

end Cert.KernelIdeal.Bwd
end
-- ==== Proof.BwdArray.lean ====
module

public import proofs.«01_k».proof.Proof.BlockReal
public import proofs.«01_k».proof.Proof.BwdOpen
public import proofs.«01_k».proof.Proof.Data
public import Idealize.ShloMosaic.Lib.Pipeline.ValueKit

/-!
  The arrays the backward attention call leaves: the gradients of the queries, the gate columns, the keys and the values.
-/

@[expose] public section
noncomputable section
open Idealize.ShloMosaic Idealize.ShloMosaic.TcCoe Idealize.SL.Sem
open Cert.KernelIdeal Cert.KernelIdeal.Gen Cert.KernelIdeal.Bwd

namespace Cert.Att

/-- The blocks the backward call's windows hold at point `t`: key/value head `t / 32`, row tile `t % 32`. -/
theorem bwd_idx : ∀ t : Fin cfg1.N, win1_0.index t = ![t.val / 32, t.val % 32, 0] ∧ win1_1.index t = ![t.val / 32, 0, 0]
    ∧ win1_2.index t = ![t.val / 32, 0, 0] ∧ win1_3.index t = ![t.val % 32, t.val / 32]
    ∧ win1_4.index t = ![t.val % 32, t.val / 32] ∧ win1_5.index t = ![t.val % 32, 6 + t.val / 32]
    ∧ win1_6.index t = ![t.val / 32, t.val % 32, 0] ∧ win1_8.index t = ![t.val / 32, t.val % 32, 0]
    ∧ win1_9.index t = ![t.val % 32, 6 + t.val / 32] ∧ win1_10.index t = ![t.val / 32, 0, 0]
    ∧ win1_11.index t = ![t.val / 32, 0, 0] := (by decide +kernel : ∀ t : Fin grid1.N, _)

theorem bwd_lt (t : Fin cfg1.N) : t.val < 128 := t.isLt

section
variable (V : (c : Dev nD) → (b : Ref sig .tc) → Buf (Elt Ideal) ((c.tc : Thread nD τ).loc b)) (c : Dev nD) (D : Data)
  (hQ : ∀ (h : Fin 16) (i : Fin 4352) (d : Fin 128), i.val < 4096 → V c main_arg0 (ix3 h i d) = ((D.Q h i d : ℝ) : EReal))
  (hK : ∀ (h : Fin 4) (j : Fin 4352) (d : Fin 128), V c main_arg1 (ix3 h j d) = ((D.K h j d : ℝ) : EReal))
  (hV : ∀ (h : Fin 4) (j : Fin 4352) (d : Fin 128), V c main_arg2 (ix3 h j d) = ((D.V h j d : ℝ) : EReal))
  (hY : ∀ (i : Fin 4096) (e : Fin 4096), e.val < 2048 → V c main_arg3 (ix2 i e) = ((D.Y i e : ℝ) : EReal))
  (hG : ∀ (i : Fin 4352) (e : Fin 9216), i.val < 4096 → 3072 ≤ e.val → e.val < 5120 →
    V c main_arg4 (ix2 i e) = ((D.G i (e - 3072) : ℝ) : EReal))
  (hO : ∀ (i : Fin 4096) (e : Fin 2048), V c main_v0_0 (ix2 i e) = ((D.o (e.val / 128) i (Data.laneOf e) : ℝ) : EReal))
  (hL : ∀ (g : Fin 4) (i : Fin 4096) (l : Fin 128), l.val < 4 → V c main_v0_2 (ix3 g i l) = ((D.lse (4 * g + l) i : ℝ) : EReal))

/-- The query rows of the block at point `t`. -/
abbrev qb (t : ℕ) (h : Fin 4) (r : Fin 128) : Fin 128 → ℝ := D.q (4 * (t / 32) + h) (128 * (t % 32) + r)
/-- The keys of the block. -/
abbrev kb (t : ℕ) : Fin 4352 → Fin 128 → ℝ := fun j d => D.K (t / 32) j d
/-- The values of the block. -/
abbrev vb (t : ℕ) : Fin 4352 → Fin 128 → ℝ := fun j d => D.V (t / 32) j d
/-- The gated output's gradient in the block. -/
abbrev yb (t : ℕ) : Fin 128 → Fin 512 → ℝ := fun r e => D.Y (128 * (t % 32) + r) (512 * (t / 32) + e)
/-- The gate in the block. -/
abbrev gb (t : ℕ) : Fin 128 → Fin 512 → ℝ := fun r e => D.G (128 * (t % 32) + r) (512 * (t / 32) + e)

/-- A column of the block, as a column of the array. -/
theorem col_at (t : ℕ) (h : Fin 4) (d : Fin 128) :
    512 * (t / 32) + ((col h d : Fin 512) : ℕ) = 128 * (4 * (t / 32) + h.val) + d.val := by
  have hc : ((col h d : Fin 512) : ℕ) = 128 * h.val + d.val := rfl
  omega

theorem dogR_at (t : ℕ) (h : Fin 4) (r : Fin 128) :
    dogR (yb D t) (gb D t) h r = D.dog (4 * (t / 32) + h) (128 * (t % 32) + r) := by
  funext d
  unfold dogR yb gb
  simp only [col_at]
  rfl

include hQ in
theorem bwd_q (t : Fin cfg1.N) (h : Fin 4) (r d : Fin 128) : iblk1 V c 0 t (ix3 h r d) = ((qb D t h r d : ℝ) : EReal) := by
  have ht := bwd_lt t
  obtain ⟨e0, e1, e2, e3, e4, e5, e6, e8, e9, e10, e11⟩ := bwd_idx t
  have hQ' := hQ ⟨4 * (t.val / 32) + h, by omega⟩ ⟨128 * (t.val % 32) + r, by omega⟩ d (by show 128 * (t.val % 32) + r.val < 4096; omega)
  refine Eq.trans ?_ hQ'
  blk_ext [iblk1, e0]

include hK in
theorem bwd_k (t : Fin cfg1.N) (j : Fin 4352) (d : Fin 128) : iblk1 V c 1 t (ix3 0 j d) = ((kb D t j d : ℝ) : EReal) := by
  have ht := bwd_lt t
  obtain ⟨e0, e1, e2, e3, e4, e5, e6, e8, e9, e10, e11⟩ := bwd_idx t
  refine Eq.trans ?_ (hK ⟨t.val / 32, by omega⟩ j d)
  blk_ext [iblk1, e1]

include hV in
theorem bwd_v (t : Fin cfg1.N) (j : Fin 4352) (d : Fin 128) : iblk1 V c 2 t (ix3 0 j d) = ((vb D t j d : ℝ) : EReal) := by
  have ht := bwd_lt t
  obtain ⟨e0, e1, e2, e3, e4, e5, e6, e8, e9, e10, e11⟩ := bwd_idx t
  refine Eq.trans ?_ (hV ⟨t.val / 32, by omega⟩ j d)
  blk_ext [iblk1, e2]

include hO in
theorem bwd_o (t : Fin cfg1.N) (h : Fin 4) (r d : Fin 128) :
    iblk1 V c 3 t (ix2 r (col h d)) = ((out (qb D t h r) (kb D t) (vb D t) d : ℝ) : EReal) := by
  have ht := bwd_lt t
  obtain ⟨e0, e1, e2, e3, e4, e5, e6, e8, e9, e10, e11⟩ := bwd_idx t
  have hc := col_at t h d
  have hO' := hO ⟨128 * (t.val % 32) + r, by omega⟩ ⟨128 * (4 * (t.val / 32) + h.val) + d.val, by omega⟩
  rw [show ((⟨128 * (4 * (t.val / 32) + h.val) + d.val, by omega⟩ : Fin 2048) : ℕ) = 128 * (4 * (t.val / 32) + h.val) + d.val from rfl,
    div_col, laneOf_col] at hO'
  unfold Data.o at hO'
  rw [D.k_of, D.v_of] at hO'
  refine Eq.trans ?_ hO'
  blk_ext [iblk1, e3, hc]

include hY in
theorem bwd_y (t : Fin cfg1.N) (r : Fin 128) (e : Fin 512) : iblk1 V c 4 t (ix2 r e) = ((yb D t r e : ℝ) : EReal) := by
  have ht := bwd_lt t
  obtain ⟨e0, e1, e2, e3, e4, e5, e6, e8, e9, e10, e11⟩ := bwd_idx t
  refine Eq.trans ?_ (hY ⟨128 * (t.val % 32) + r, by omega⟩ ⟨512 * (t.val / 32) + e, by omega⟩
    (by show 512 * (t.val / 32) + e.val < 2048; omega))
  blk_ext [iblk1, e4]

include hG in
theorem bwd_g (t : Fin cfg1.N) (r : Fin 128) (e : Fin 512) : iblk1 V c 5 t (ix2 r e) = ((gb D t r e : ℝ) : EReal) := by
  have ht := bwd_lt t
  obtain ⟨e0, e1, e2, e3, e4, e5, e6, e8, e9, e10, e11⟩ := bwd_idx t
  have hG' := hG ⟨128 * (t.val % 32) + r, by omega⟩ ⟨3072 + (512 * (t.val / 32) + e), by omega⟩
    (by show 128 * (t.val % 32) + r.val < 4096; omega) (by show 3072 ≤ 3072 + (512 * (t.val / 32) + e.val); omega)
    (by show 3072 + (512 * (t.val / 32) + e.val) < 5120; omega)
  rw [show ((⟨3072 + (512 * (t.val / 32) + e), by omega⟩ : Fin 9216).val - 3072) = 512 * (t.val / 32) + e.val by
    show 3072 + (512 * (t.val / 32) + e.val) - 3072 = _; omega] at hG'
  refine Eq.trans ?_ hG'
  blk_ext [iblk1, e5]

include hL in
theorem bwd_l (t : Fin cfg1.N) (h : Fin 4) (r : Fin 128) :
    iblk1 V c 6 t (ix3 0 r (lane h)) = ((Real.log (den (qb D t h r) (kb D t)) : ℝ) : EReal) := by
  have ht := bwd_lt t
  obtain ⟨e0, e1, e2, e3, e4, e5, e6, e8, e9, e10, e11⟩ := bwd_idx t
  have hL' := hL ⟨t.val / 32, by omega⟩ ⟨128 * (t.val % 32) + r, by omega⟩ (lane h) (by show h.val < 4; omega)
  unfold Data.lse at hL'
  rw [show 4 * ((⟨t.val / 32, by omega⟩ : Fin 4) : ℕ) + ((lane h : Fin 128) : ℕ) = 4 * (t.val / 32) + h.val from rfl, D.k_of] at hL'
  refine Eq.trans ?_ hL'
  blk_ext [iblk1, e6]

include hQ hK hV hY hG hO hL

/-- What point `t` adds to the gradient of the keys, head `h` of the block. -/
theorem bwd_dk (t : Fin cfg1.N) (h : Fin 4) (j : Fin 4352) (d : Fin 128) :
    dkB (iblk1 V c 0 t) (iblk1 V c 1 t) (iblk1 V c 2 t) (iblk1 V c 3 t) (iblk1 V c 4 t) (iblk1 V c 5 t) (iblk1 V c 6 t) h j d
      = ((D.dkTile (4 * (t.val / 32) + h) (t.val % 32) j d : ℝ) : EReal) := by
  rw [dkB_real (q := qb D t) (k := kb D t) (v := vb D t) (y := yb D t) (g := gb D t) (bwd_q V c D hQ t) (bwd_k V c D hK t)
    (bwd_v V c D hV t) (bwd_o V c D hO t) (bwd_y V c D hY t) (bwd_g V c D hG t) (bwd_l V c D hL t)]
  unfold Data.dkTile Data.dsc
  simp only [dogR_at, D.k_of, D.v_of]

/-- What point `t` adds to the gradient of the values, head `h` of the block. -/
theorem bwd_dv (t : Fin cfg1.N) (h : Fin 4) (j : Fin 4352) (d : Fin 128) :
    dvB (iblk1 V c 0 t) (iblk1 V c 1 t) (iblk1 V c 4 t) (iblk1 V c 5 t) (iblk1 V c 6 t) h j d
      = ((D.dvTile (4 * (t.val / 32) + h) (t.val % 32) j d : ℝ) : EReal) := by
  rw [dvB_real (q := qb D t) (k := kb D t) (y := yb D t) (g := gb D t) (bwd_q V c D hQ t) (bwd_k V c D hK t)
    (bwd_y V c D hY t) (bwd_g V c D hG t) (bwd_l V c D hL t)]
  unfold Data.dvTile Data.p
  simp only [dogR_at, D.k_of]

/-- The block of the queries' gradient that point `t` leaves. -/
theorem bwd_dq (t : Fin cfg1.N) (h : Fin 4) (r d : Fin 128) :
    (outsAt1 V c t.val t.isLt).1 (ix3 h r d) = ((D.dq (4 * (t.val / 32) + h) (128 * (t.val % 32) + r) d : ℝ) : EReal) := by
  have key : (outsAt1 V c t.val t.isLt).1 (ix3 h r d) = dqB (iblk1 V c 0 t) (iblk1 V c 1 t) (iblk1 V c 2 t) (iblk1 V c 3 t)
      (iblk1 V c 4 t) (iblk1 V c 5 t) (iblk1 V c 6 t) h r d := by
    by_cases h0 : t.val % 32 = 0
    · rw [outsAt1_A V c t h0]; dsimp only; rw [out_A_8]
    · rw [outsAt1_B V c t h0]; dsimp only; rw [out_B_8]
  rw [key, dqB_real (q := qb D t) (k := kb D t) (v := vb D t) (y := yb D t) (g := gb D t) (bwd_q V c D hQ t) (bwd_k V c D hK t)
    (bwd_v V c D hV t) (bwd_o V c D hO t) (bwd_y V c D hY t) (bwd_g V c D hG t) (bwd_l V c D hL t)]
  unfold Data.dq Data.dsc
  simp only [dogR_at, D.k_of, D.v_of]

/-- The block of the gate's gradient that point `t` leaves. -/
theorem bwd_dg (t : Fin cfg1.N) (h : Fin 4) (r d : Fin 128) :
    (outsAt1 V c t.val t.isLt).2.1 (ix2 r (col h d))
      = ((D.dg (128 * (t.val % 32) + r) (128 * (4 * (t.val / 32) + h) + d) : ℝ) : EReal) := by
  have key : (outsAt1 V c t.val t.isLt).2.1 (ix2 r (col h d))
      = dgB (iblk1 V c 3 t) (iblk1 V c 4 t) (iblk1 V c 5 t) r (col h d) := by
    by_cases h0 : t.val % 32 = 0
    · rw [outsAt1_A V c t h0]; dsimp only; rw [out_A_9]
    · rw [outsAt1_B V c t h0]; dsimp only; rw [out_B_9]
  rw [key, dgB_real (q := qb D t) (k := kb D t) (v := vb D t) (y := yb D t) (g := gb D t) (bwd_o V c D hO t) (bwd_y V c D hY t)
    (bwd_g V c D hG t)]
  unfold Data.dg Data.o yb gb
  simp only [col_at, div_col, laneOf_col, D.k_of, D.v_of]

/-- The accumulated gradient of the keys after the last point of a run. -/
theorem bwd_dk_run (t : Fin cfg1.N) (ht : t.val % 32 = 31) (j : Fin 4352) (d : Fin 128) :
    (outsAt1 V c t.val t.isLt).2.2.1 (ix3 0 j d) = ((∑ n ∈ Finset.range 32, ∑ a : Fin 4, D.dkTile (4 * (t.val / 32) + a) n j d : ℝ) : EReal) := by
  have h := Pipeline.eq_sum_of_reset_step_of_mod (M := EReal) (fun n hn => (outsAt1 V c n hn).2.2.1 (ix3 0 j d)) 32 0
    (fun n => ((∑ a : Fin 4, D.dkTile (4 * (n / 32) + a) (n % 32) j d : ℝ) : EReal))
    (fun t h0 => by
      rw [outsAt1_A V c t h0]; dsimp only
      rw [out_A_10]
      simp only [bwd_dk V c D hQ hK hV hY hG hO hL t, Fin.sum_univ_four, EReal.coe_add, add_assoc])
    (fun t h0 => by
      rw [outsAt1_B V c t h0]; dsimp only
      rw [out_B_10]
      simp only [bwd_dk V c D hQ hK hV hY hG hO hL t, Fin.sum_univ_four, EReal.coe_add, add_assoc])
    t ht
  refine h.trans ?_
  rw [zero_add, coe_sum]
  refine Finset.sum_congr rfl fun n hn => ?_
  have hn' := Finset.mem_range.mp hn
  rw [show (32 * (t.val / 32) + n) / 32 = t.val / 32 by omega, show (32 * (t.val / 32) + n) % 32 = n by omega]

/-- The accumulated gradient of the values after the last point of a run. -/
theorem bwd_dv_run (t : Fin cfg1.N) (ht : t.val % 32 = 31) (j : Fin 4352) (d : Fin 128) :
    (outsAt1 V c t.val t.isLt).2.2.2 (ix3 0 j d) = ((∑ n ∈ Finset.range 32, ∑ a : Fin 4, D.dvTile (4 * (t.val / 32) + a) n j d : ℝ) : EReal) := by
  have h := Pipeline.eq_sum_of_reset_step_of_mod (M := EReal) (fun n hn => (outsAt1 V c n hn).2.2.2 (ix3 0 j d)) 32 0
    (fun n => ((∑ a : Fin 4, D.dvTile (4 * (n / 32) + a) (n % 32) j d : ℝ) : EReal))
    (fun t h0 => by
      rw [outsAt1_A V c t h0]; dsimp only
      rw [out_A_11]
      simp only [bwd_dv V c D hQ hK hV hY hG hO hL t, Fin.sum_univ_four, EReal.coe_add, add_assoc])
    (fun t h0 => by
      rw [outsAt1_B V c t h0]; dsimp only
      rw [out_B_11]
      simp only [bwd_dv V c D hQ hK hV hY hG hO hL t, Fin.sum_univ_four, EReal.coe_add, add_assoc])
    t ht
  refine h.trans ?_
  rw [zero_add, coe_sum]
  refine Finset.sum_congr rfl fun n hn => ?_
  have hn' := Finset.mem_range.mp hn
  rw [show (32 * (t.val / 32) + n) / 32 = t.val / 32 by omega, show (32 * (t.val / 32) + n) % 32 = n by omega]

/-- The gradient of the queries. -/
theorem arr_dq : (dat1 V c).arrAt 8 cfg1.N
    = fun i : (⟨3, ![16, 4096, 128]⟩ : Shape).Idx => ((D.dq (i 0) (i 1) (i 2) : ℝ) : EReal) := by
  refine (dat1 V c).arrAt_eq_of_covers 8 _ (by decide +kernel) fun t hf y => ?_
  obtain ⟨e0, e1, e2, e3, e4, e5, e6, e8, e9, e10, e11⟩ := bwd_idx t
  obtain ⟨h, r, d, rfl⟩ : ∃ (h : Fin 4) (r d : Fin 128), y = ix3 h r d := ⟨y 0, y 1, y 2, by ext a; fin_cases a <;> rfl⟩
  blk_simp [e8]
  rw [after1_8, bwd_dq V c D hQ hK hV hY hG hO hL]
  have h2 : (win1_8.blk t).view.emb (ix3 h r d) 2 = d := Fin.ext (by blk_simp [e8])
  rw [Nat.mul_comm (t.val / 32) 4, Nat.mul_comm (t.val % 32) 128, h2]

/-- The rows and columns of the projection's gradient that the call writes hold the gradient of the gate; the others are
    as they were. -/
theorem arr_dg (i : (⟨2, ![4352, 9216]⟩ : Shape).Idx) : (dat1 V c).arrAt 9 cfg1.N i
    = if (i 0).val < 4096 ∧ 3072 ≤ (i 1).val ∧ (i 1).val < 5120 then ((D.dg (i 0) ((i 1).val - 3072) : ℝ) : EReal)
      else V c main_v1_1 i := by
  have key := (dat1 V c).arrAt_apply_of_coversWhere 9
    (fun i : (⟨2, ![4352, 9216]⟩ : Shape).Idx => ((D.dg (i 0) ((i 1).val - 3072) : ℝ) : EReal))
    (P := fun i : (⟨2, ![4352, 9216]⟩ : Shape).Idx => (i 0).val < 4096 ∧ 3072 ≤ (i 1).val ∧ (i 1).val < 5120)
    (fun β => β 0 < 32 ∧ 6 ≤ β 1 ∧ β 1 < 10) (by decide +kernel) (fun t hf y => ?_)
    (fun j => by blk_simp [Pipeline.Window.cell_apply]; omega) i
  · exact key
  obtain ⟨e0, e1, e2, e3, e4, e5, e6, e8, e9, e10, e11⟩ := bwd_idx t
  obtain ⟨r, e, rfl⟩ : ∃ (r : Fin 128) (e : Fin 512), y = ix2 r e := ⟨y 0, y 1, by ext a; fin_cases a <;> rfl⟩
  obtain ⟨h, d, rfl⟩ := col_cases e
  blk_simp [e9]
  rw [after1_9, bwd_dg V c D hQ hK hV hY hG hO hL]
  rw [Nat.mul_comm (t.val % 32) 128, show (6 + t.val / 32) * 512 + ((col h d : Fin 512) : ℕ) - 3072
    = 512 * (t.val / 32) + ((col h d : Fin 512) : ℕ) by omega, col_at]

/-- The gradient of the keys. -/
theorem arr_dk : (dat1 V c).arrAt 10 cfg1.N
    = fun i : (⟨3, ![4, 4352, 128]⟩ : Shape).Idx => ((D.dk (i 0) (i 1) (i 2) : ℝ) : EReal) := by
  refine (dat1 V c).arrAt_eq_of_covers 10 _ (by decide +kernel) fun t hf y => ?_
  obtain ⟨e0, e1, e2, e3, e4, e5, e6, e8, e9, e10, e11⟩ := bwd_idx t
  obtain ⟨u, j, d, rfl⟩ : ∃ (u : Fin 1) (j : Fin 4352) (d : Fin 128), y = ix3 u j d :=
    ⟨y 0, y 1, y 2, by ext a; fin_cases a <;> rfl⟩
  obtain rfl : u = 0 := Subsingleton.elim _ _
  blk_simp [e10]
  rw [after1_10, bwd_dk_run V c D hQ hK hV hY hG hO hL t ((flush1_10 t).mp hf), D.sum_dk]
  have h1 : (win1_10.blk t).view.emb (ix3 0 j d) 1 = j := Fin.ext (by blk_simp [e10])
  have h2 : (win1_10.blk t).view.emb (ix3 0 j d) 2 = d := Fin.ext (by blk_simp [e10])
  rw [h1, h2]
  rfl

/-- The gradient of the values. -/
theorem arr_dv : (dat1 V c).arrAt 11 cfg1.N
    = fun i : (⟨3, ![4, 4352, 128]⟩ : Shape).Idx => ((D.dv (i 0) (i 1) (i 2) : ℝ) : EReal) := by
  refine (dat1 V c).arrAt_eq_of_covers 11 _ (by decide +kernel) fun t hf y => ?_
  obtain ⟨e0, e1, e2, e3, e4, e5, e6, e8, e9, e10, e11⟩ := bwd_idx t
  obtain ⟨u, j, d, rfl⟩ : ∃ (u : Fin 1) (j : Fin 4352) (d : Fin 128), y = ix3 u j d :=
    ⟨y 0, y 1, y 2, by ext a; fin_cases a <;> rfl⟩
  obtain rfl : u = 0 := Subsingleton.elim _ _
  blk_simp [e11]
  rw [after1_11, bwd_dv_run V c D hQ hK hV hY hG hO hL t ((flush1_11 t).mp hf), D.sum_dv]
  have h1 : (win1_11.blk t).view.emb (ix3 0 j d) 1 = j := Fin.ext (by blk_simp [e11])
  have h2 : (win1_11.blk t).view.emb (ix3 0 j d) 2 = d := Fin.ext (by blk_simp [e11])
  rw [h1, h2]
  rfl

end
end Cert.Att
-- ==== Proof.Reads.lean ====
module

public import proofs.«01_k».proof.Proof.Data
public import proofs.«01_k».proof.Pre_finite
public import Idealize.ShloMosaic.Lib.Pointwise
public import Idealize.ShloMosaic.Lib.StableHlo

/-!
  The real numbers that finite arguments hold.
-/

@[expose] public section
noncomputable section
open Idealize.ShloMosaic
namespace Cert.Att

/-- The arguments hold the real numbers of `D`, in the rows and columns that attention reads. -/
structure Reads (D : Data) (a0 : (⟨3, ![16, 4352, 128]⟩ : Shape).Idx → EReal) (a1 a2 : (⟨3, ![4, 4352, 128]⟩ : Shape).Idx → EReal)
    (a3 : (⟨2, ![4096, 4096]⟩ : Shape).Idx → EReal) (a4 : (⟨2, ![4352, 9216]⟩ : Shape).Idx → EReal) : Prop where
  q : ∀ (h : Fin 16) (i : Fin 4352) (d : Fin 128), i.val < 4096 → a0 (ix3 h i d) = ((D.Q h i d : ℝ) : EReal)
  k : ∀ (h : Fin 4) (j : Fin 4352) (d : Fin 128), a1 (ix3 h j d) = ((D.K h j d : ℝ) : EReal)
  v : ∀ (h : Fin 4) (j : Fin 4352) (d : Fin 128), a2 (ix3 h j d) = ((D.V h j d : ℝ) : EReal)
  y : ∀ (i : Fin 4096) (e : Fin 4096), e.val < 2048 → a3 (ix2 i e) = ((D.Y i e : ℝ) : EReal)
  g : ∀ (i : Fin 4352) (e : Fin 9216), i.val < 4096 → 3072 ≤ e.val → e.val < 5120 → a4 (ix2 i e) = ((D.G i (e - 3072) : ℝ) : EReal)

/-- The entry of a three-axis array at natural numbers, as a real number. -/
def num3 {A B C : ℕ} (a : (⟨3, ![A, B, C]⟩ : Shape).Idx → EReal) (x y z : ℕ) : ℝ :=
  if h : x < A ∧ y < B ∧ z < C then (a (ix3 ⟨x, h.1⟩ ⟨y, h.2.1⟩ ⟨z, h.2.2⟩)).toReal else 0
/-- The entry of a two-axis array at natural numbers, as a real number. -/
def num2 {A B : ℕ} (a : (⟨2, ![A, B]⟩ : Shape).Idx → EReal) (x y : ℕ) : ℝ :=
  if h : x < A ∧ y < B then (a (ix2 ⟨x, h.1⟩ ⟨y, h.2⟩)).toReal else 0

theorem num3_coe {A B C : ℕ} (a : (⟨3, ![A, B, C]⟩ : Shape).Idx → EReal) (x : Fin A) (y : Fin B) (z : Fin C)
    (h : a (ix3 x y z) ≠ ⊤ ∧ a (ix3 x y z) ≠ ⊥) : a (ix3 x y z) = ((num3 a x y z : ℝ) : EReal) := by
  unfold num3
  rw [dif_pos ⟨x.isLt, y.isLt, z.isLt⟩]
  exact (EReal.coe_toReal h.1 h.2).symm

theorem num2_coe {A B : ℕ} (a : (⟨2, ![A, B]⟩ : Shape).Idx → EReal) (x : Fin A) (y : Fin B)
    (h : a (ix2 x y) ≠ ⊤ ∧ a (ix2 x y) ≠ ⊥) : a (ix2 x y) = ((num2 a x y : ℝ) : EReal) := by
  unfold num2
  rw [dif_pos ⟨x.isLt, y.isLt⟩]
  exact (EReal.coe_toReal h.1 h.2).symm

section
variable [Cert.Pre_finite.Facts]
  (a0 : FVec Ideal Cert.Pre_finite.S16x4352x128 .bf16) (a1 a2 : FVec Ideal Cert.Pre_finite.S4x4352x128 .bf16)
  (a3 : FVec Ideal Cert.Pre_finite.S4096x4096 .f32) (a4 : FVec Ideal Cert.Pre_finite.S4352x9216 .f32)
  (a5 : FVec Ideal Cert.Pre_finite.S8x128 .f32) (a6 : FVec Ideal Cert.Pre_finite.S4352x9216 .bf16)

/-- The real numbers that the arguments hold. -/
def data : Data where
  Q := num3 (A := 16) (B := 4352) (C := 128) a0
  K := num3 (A := 4) (B := 4352) (C := 128) a1
  V := num3 (A := 4) (B := 4352) (C := 128) a2
  Y := num2 (A := 4096) (B := 4096) a3
  G i e := num2 (A := 4352) (B := 9216) a4 i (e + 3072)

/-- The word of `+∞`. -/
theorem inf_word : Ideal.ofBits FTy.f32 2139095040#32 = (⊤ : EReal) := by
  rfl

/-- An entry whose absolute value compares below `+∞` is neither infinity. -/
theorem finite_of (x : EReal) (h : BitVec.ofBool (decide (max x (-x) < Ideal.ofBits FTy.f32 2139095040#32)) = 1#1) :
    x ≠ ⊤ ∧ x ≠ ⊥ := by
  rw [inf_word] at h
  have h' : max x (-x) < ⊤ := by
    by_contra hc
    rw [decide_eq_false hc] at h
    exact absurd h (by decide)
  constructor
  · rintro rfl; simp at h'
  · rintro rfl; simp at h'

/-- Arguments that meet the precondition hold real numbers. -/
theorem reads
    (h : (Cert.Pre_finite.fn (F := Ideal) a0 a1 a2 a3 a4 a5 a6).1 = (fun _ => 1#1)
      ∧ (Cert.Pre_finite.fn (F := Ideal) a0 a1 a2 a3 a4 a5 a6).2.1 = (fun _ => 1#1)
      ∧ (Cert.Pre_finite.fn (F := Ideal) a0 a1 a2 a3 a4 a5 a6).2.2.1 = (fun _ => 1#1)
      ∧ (Cert.Pre_finite.fn (F := Ideal) a0 a1 a2 a3 a4 a5 a6).2.2.2.1 = (fun _ => 1#1)
      ∧ (Cert.Pre_finite.fn (F := Ideal) a0 a1 a2 a3 a4 a5 a6).2.2.2.2 = (fun _ => 1#1)) :
    Reads (data a0 a1 a2 a3 a4) a0 a1 a2 a3 a4 := by
  obtain ⟨hq, hk, hv, hy, hg⟩ := h
  constructor
  · intro x i d hi
    have p := congrFun hq (ix3 x (⟨i.val, hi⟩ : Fin 4096) d)
    unfold Cert.Pre_finite.fn Cert.Pre_finite.fn_part1 at p
    dsimp only at p
    pointwise at p
    exact num3_coe _ x i d (finite_of _ p)
  · intro x i d
    have p := congrFun hk (ix3 x i d)
    unfold Cert.Pre_finite.fn Cert.Pre_finite.fn_part1 at p
    dsimp only at p
    pointwise at p
    exact num3_coe _ x i d (finite_of _ p)
  · intro x i d
    have p := congrFun hv (ix3 x i d)
    unfold Cert.Pre_finite.fn Cert.Pre_finite.fn_part1 at p
    dsimp only at p
    pointwise at p
    exact num3_coe _ x i d (finite_of _ p)
  · intro i e he
    have p := congrFun hy (ix2 i (⟨e.val, he⟩ : Fin 2048))
    unfold Cert.Pre_finite.fn Cert.Pre_finite.fn_part1 at p
    dsimp only at p
    pointwise at p
    exact num2_coe _ i e (finite_of _ p)
  · intro i e hi he he'
    have p := congrFun hg (ix2 (⟨i.val, hi⟩ : Fin 4096) (⟨e.val - 3072, by omega⟩ : Fin 2048))
    unfold Cert.Pre_finite.fn Cert.Pre_finite.fn_part1 at p
    dsimp only at p
    obtain ⟨b, rfl⟩ : ∃ b : Fin 2048, e = (⟨3072 + b.val, lt_of_lt_of_le (Nat.add_lt_add_left b.isLt 3072) (by norm_num)⟩ : Fin 9216) :=
      ⟨⟨e.val - 3072, by omega⟩, Fin.ext (show e.val = 3072 + (e.val - 3072) by omega)⟩
    have h5 := num2_coe a4 i (⟨3072 + b.val, lt_of_lt_of_le (Nat.add_lt_add_left b.isLt 3072) (by norm_num)⟩ : Fin 9216) (finite_of _ ?_)
    · rw [h5]
      show _ = ((num2 (A := 4352) (B := 9216) a4 i (3072 + b.val - 3072 + 3072) : ℝ) : EReal)
      rw [show 3072 + b.val - 3072 + 3072 = 3072 + b.val by omega]
    · have hb : (⟨(⟨3072 + b.val, lt_of_lt_of_le (Nat.add_lt_add_left b.isLt 3072) (by norm_num)⟩ : Fin 9216).val - 3072, by omega⟩ : Fin 2048) = b := Fin.ext (show 3072 + b.val - 3072 = b.val by omega)
      rw [hb] at p
      pointwise at p
      exact p
end
end Cert.Att
-- ==== Proof.KernelValue.lean ====
module

public import proofs.«01_k».proof.Proof.KernelRun
public import proofs.«01_k».proof.Proof.FwdArray
public import proofs.«01_k».proof.Proof.BwdArray
public import proofs.«01_k».proof.Proof.Reads

/-!
  The results of the two calls over arguments that hold real numbers: the gated output, and the gradients of the queries, the
  gate columns, the keys and the values.
-/

@[expose] public section
noncomputable section
open Idealize.ShloMosaic Idealize.ShloMosaic.TcCoe Idealize.SL.Sem
open Cert.KernelIdeal Cert.KernelIdeal.Gen

namespace Cert.Att

variable (m : (ℓ : Loc nD τ sig) → Buf (Elt Ideal) ℓ) (ρ : Dev nD → PrngReg) (c : Dev nD) (D : Data)

/-- The first call reads argument `a` as it was. -/
theorem first_arg (a : Ref sig .tc) (h : a ∈ argRefs) : V0 m ρ c a = m ((c.tc : Thread nD τ).loc a) := W0_args m ρ c a h
/-- The second call reads argument `a` as it was. -/
theorem second_arg (a : Ref sig .tc) (h : a ∈ argRefs) : V2 m ρ c a = m ((c.tc : Thread nD τ).loc a) := W2_args m ρ c a h

variable (hR : Reads D (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)))

/-- What the first call reads. -/
theorem first_reads (hR : Reads D (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) :
    Reads D (V0 m ρ c main_arg0) (V0 m ρ c main_arg1) (V0 m ρ c main_arg2) (V0 m ρ c main_arg3) (V0 m ρ c main_arg4) := hR

/-- What the second call reads of the arguments. -/
theorem second_reads (hR : Reads D (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) :
    Reads D (V2 m ρ c main_arg0) (V2 m ρ c main_arg1) (V2 m ρ c main_arg2) (V2 m ρ c main_arg3) (V2 m ρ c main_arg4) := by
  rw [second_arg m ρ c main_arg0 (by decide), second_arg m ρ c main_arg1 (by decide), second_arg m ρ c main_arg2 (by decide),
    second_arg m ρ c main_arg3 (by decide), second_arg m ρ c main_arg4 (by decide)]
  exact hR

include hR

/-- The second call reads the attention output. -/
theorem second_o (i : Fin 4096) (e : Fin 2048) :
    V2 m ρ c main_v0_0 (ix2 i e) = ((D.o (e.val / 128) i (Data.laneOf e) : ℝ) : EReal) := by
  have h := first_reads m ρ c D hR
  exact congrFun ((mid_o m ρ c).trans (fwd_o (V0 m ρ) c D h.q h.k h.v)) (ix2 i e)

/-- The second call reads the row log-sums, head `4g + l` in lane `l` of row block `g`. -/
theorem second_lse (g : Fin 4) (i : Fin 4096) (l : Fin 128) (hl : l.val < 4) :
    V2 m ρ c main_v0_2 (ix3 g i l) = ((D.lse (4 * g.val + l.val) i : ℝ) : EReal) := by
  have h := first_reads m ρ c D hR
  exact (congrFun (mid_lse m ρ c) (ix3 g i l)).trans (fwd_lse (V0 m ρ) c D h.q h.k (ix3 g i l) hl)

/-- The gated output, in the columns attention writes. -/
theorem kernel_y (i : (⟨2, ![4096, 4096]⟩ : Shape).Idx) (hi : (i 1).val < 2048) :
    W3 m ρ c (Proc.devRef .tc main_v0_1) i = ((D.y (i 0) (i 1) : ℝ) : EReal) := by
  have h := first_reads m ρ c D hR
  exact (congrFun (end_y m ρ c) i).trans (fwd_y (V0 m ρ) c D h.q h.k h.v h.g i hi)

/-- The gradient of the queries. -/
theorem kernel_dq : W3 m ρ c (Proc.devRef .tc main_v1_0)
    = fun i : (⟨3, ![16, 4096, 128]⟩ : Shape).Idx => ((D.dq (i 0) (i 1) (i 2) : ℝ) : EReal) := by
  have h := second_reads m ρ c D hR
  exact (end_dq m ρ c).trans (arr_dq (V2 m ρ) c D h.q h.k h.v h.y h.g (second_o m ρ c D hR) (second_lse m ρ c D hR))

/-- The projection's gradient: the gate columns of the latent rows hold the gate's gradient, all else is as it was. -/
theorem kernel_dg (i : (⟨2, ![4352, 9216]⟩ : Shape).Idx) : W3 m ρ c (Proc.devRef .tc main_v1_1) i
    = if (i 0).val < 4096 ∧ 3072 ≤ (i 1).val ∧ (i 1).val < 5120 then ((D.dg (i 0) ((i 1).val - 3072) : ℝ) : EReal)
      else m ((c.tc : Thread nD τ).loc main_arg6) i := by
  have h := second_reads m ρ c D hR
  rw [← mid_dproj m ρ c]
  exact (congrFun (end_dg m ρ c) i).trans
    (arr_dg (V2 m ρ) c D h.q h.k h.v h.y h.g (second_o m ρ c D hR) (second_lse m ρ c D hR) i)

/-- The gradient of the keys. -/
theorem kernel_dk : W3 m ρ c (Proc.devRef .tc main_v1_2)
    = fun i : (⟨3, ![4, 4352, 128]⟩ : Shape).Idx => ((D.dk (i 0) (i 1) (i 2) : ℝ) : EReal) := by
  have h := second_reads m ρ c D hR
  exact (end_dk m ρ c).trans (arr_dk (V2 m ρ) c D h.q h.k h.v h.y h.g (second_o m ρ c D hR) (second_lse m ρ c D hR))

/-- The gradient of the values. -/
theorem kernel_dv : W3 m ρ c (Proc.devRef .tc main_v1_3)
    = fun i : (⟨3, ![4, 4352, 128]⟩ : Shape).Idx => ((D.dv (i 0) (i 1) (i 2) : ℝ) : EReal) := by
  have h := second_reads m ρ c D hR
  exact (end_dv m ρ c).trans (arr_dv (V2 m ρ) c D h.q h.k h.v h.y h.g (second_o m ρ c D hR) (second_lse m ρ c D hR))

end Cert.Att
-- ==== Proof.RefScores.lean ====
module

public import proofs.«01_k».proof.Proof.Gen.ReferenceIdeal.Read
public import proofs.«01_k».proof.Proof.Reads
public import Idealize.ShloMosaic.Lib.ValueIdx

/-!
  The reference's forward rows over arguments that hold real numbers: its scores, their exponentials, the row sums, the
  probabilities and the attention output.
-/

@[expose] public section
noncomputable section
open Idealize.ShloMosaic Cert.ReferenceIdeal Cert.ReferenceIdeal.Read
namespace Cert.Att

variable (D : Data) (x0 : (⟨S16x4352x128, .bf16⟩ : BufTy).Contents (Elt Ideal)) (x1 x2 : (⟨S4x4352x128, .bf16⟩ : BufTy).Contents (Elt Ideal))
  (x3 : (⟨S4096x4096, .f32⟩ : BufTy).Contents (Elt Ideal)) (x4 : (⟨S4352x9216, .f32⟩ : BufTy).Contents (Elt Ideal))
  (hR : Reads D x0 x1 x2 x3 x4)

/-- Head `a` of the four that read key/value head `g`. -/
def hd (g a : Fin 4) : ℕ := 4 * g.val + a.val

theorem hd_eq (g a : Fin 4) : g.val * 4 + a.val = hd g a := by unfold hd; omega
theorem hd_lt (g a : Fin 4) : hd g a < 16 := by unfold hd; omega
theorem hd_div (g a : Fin 4) : hd g a / 4 = g := by unfold hd; omega

include hR in
/-- The query rows. -/
theorem ref_q (i : Fin 4096) (g a : Fin 4) (d : Fin 128) :
    val_main_v14 (F := Ideal) x0 (ix5 0 i g a d) = ((D.q (hd g a) i d : ℝ) : EReal) := by
  unfold val_main_v14 val_main_v7 val_main_v6 val_main_v5 val_main_v4
  pointwise
  refine (hR.q _ _ d i.isLt).trans ?_
  show ((D.Q (g.val * 4 + a.val) i d : ℝ) : EReal) = _
  rw [hd_eq]; rfl

include hR in
/-- The keys. -/
theorem ref_k (j : Fin 4352) (g a : Fin 4) (d : Fin 128) :
    val_main_v10 (F := Ideal) x1 (ix4 0 j g d) = ((D.k (hd g a) j d : ℝ) : EReal) := by
  unfold val_main_v10 val_main_v9 val_main_v8
  pointwise
  refine (hR.k g j d).trans ?_
  show _ = ((D.K (hd g a / 4) j d : ℝ) : EReal)
  rw [hd_div]

include hR in
/-- The values. -/
theorem ref_v (j : Fin 4352) (g a : Fin 4) (d : Fin 128) :
    val_main_v13 (F := Ideal) x2 (ix4 0 j g d) = ((D.v (hd g a) j d : ℝ) : EReal) := by
  unfold val_main_v13 val_main_v12 val_main_v11
  pointwise
  refine (hR.v g j d).trans ?_
  show _ = ((D.V (hd g a / 4) j d : ℝ) : EReal)
  rw [hd_div]

/-- The reference's scale constant. -/
theorem ref_scale : Ideal.ofBits .f32 0x3DB504F3#32 = ((s : ℝ) : EReal) := by
  unfold s
  simp [Ideal.ofBits, Ideal.ieee, -EReal.coe_mul]; norm_num

include hR in
/-- The scaled scores. -/
theorem ref_score (g a : Fin 4) (i : Fin 4096) (j : Fin 4352) :
    val_main_v18 (F := Ideal) x0 x1 (ix5 0 g a i j) = ((s * raw (D.q (hd g a) i) (D.k (hd g a)) j : ℝ) : EReal) := by
  have h : val_main_v15 (F := Ideal) x0 x1 (ix5 0 g j i a) = ((raw (D.q (hd g a) i) (D.k (hd g a)) j : ℝ) : EReal) := by
    unfold val_main_v15
    pointwise
    rw [dot_coe (fun d => ref_k D x0 x1 x2 x3 x4 hR j g a d) (fun d => ref_q D x0 x1 x2 x3 x4 hR i g a d)]
    unfold raw
    rw [Finset.sum_congr rfl fun d _ => mul_comm (D.k (hd g a) j d) (D.q (hd g a) i d)]
  unfold val_main_v18 val_main_v17 val_main_cst val_main_v16
  pointwise
  rw [h, ref_scale, ← EReal.coe_mul, mul_comm]

/-- The word of `-∞`. -/
theorem neg_inf_word : Ideal.ofBits .f32 0xFF800000#32 = (⊥ : EReal) := by simp [Ideal.ofBits, Ideal.ieee]

theorem fold_bot {a b : EReal} {f : Fin 4352 → EReal} {M : ℝ} (ha : a = ⊥) (hb : b = ⊥) (hM : Finset.univ.fold max ⊥ f = (M : EReal)) :
    max a (Finset.univ.fold max b f) = (M : EReal) := by
  rw [ha, hb, hM]; exact max_eq_right bot_le

/-- The row maxima, given the row's largest score. -/
theorem ref_max (g a : Fin 4) (i : Fin 4096) (M : ℝ)
    (hM : Finset.univ.fold max ⊥ (fun j : Fin 4352 => val_main_v18 (F := Ideal) x0 x1 (ix5 0 g a i j)) = (M : EReal)) :
    val_main_v26 (F := Ideal) x0 x1 (ix4 0 g a i) = (M : EReal) := by
  have h : val_main_v19 (F := Ideal) x0 x1 (ix4 0 g a i) = Finset.univ.fold max (val_main_cst_0 (F := Ideal) (Shape.Idx.first Gen.h_S_))
      (fun j : Fin 4352 => val_main_v18 (F := Ideal) x0 x1 (ix5 0 g a i j)) := by
    unfold val_main_v19
    pointwise
  rw [val_main_v26_apply, val_main_v25_apply, h]
  exact fold_bot neg_inf_word neg_inf_word hM

include hR in
/-- The exponentials, up to a real number subtracted from the scores of the row. -/
theorem ref_exp (g a : Fin 4) (i : Fin 4096) : ∃ M : ℝ, ∀ j : Fin 4352, val_main_v39 (F := Ideal) x0 x1 (ix5 0 g a i j)
      = ((Real.exp (s * raw (D.q (hd g a) i) (D.k (hd g a)) j - M) : ℝ) : EReal) := by
  obtain ⟨M, hM⟩ := fold_max_coe Finset.univ ⟨0, Finset.mem_univ _⟩ (fun j => ref_score D x0 x1 x2 x3 x4 hR g a i j)
  have h26 := ref_max x0 x1 g a i M hM
  refine ⟨M, fun j => ?_⟩
  unfold val_main_v39 val_main_v38 val_main_v37 val_main_v36
  pointwise
  rw [ref_score D x0 x1 x2 x3 x4 hR, h26, ← EReal.coe_sub, Ideal.exp_coe]

/-- A row of exponentials, the number `M` subtracted from its scores. -/
def ev (D : Data) (g a : Fin 4) (i : Fin 4096) (M : ℝ) (j : Fin 4352) : ℝ :=
  Real.exp (s * raw (D.q (hd g a) i) (D.k (hd g a)) j - M)
/-- Its sum. -/
def ez (D : Data) (g a : Fin 4) (i : Fin 4096) (M : ℝ) : ℝ := ∑ j : Fin 4352, ev D g a i M j

theorem ez_pos (g a : Fin 4) (i : Fin 4096) (M : ℝ) : ez D g a i M ≠ 0 :=
  (Finset.sum_pos (fun _ _ => Real.exp_pos _) ⟨0, Finset.mem_univ _⟩ : 0 < ez D g a i M).ne'

theorem ev_div (g a : Fin 4) (i : Fin 4096) (M : ℝ) (j : Fin 4352) : ev D g a i M j / ez D g a i M = D.p (hd g a) i j :=
  prob_shift (D.q (hd g a) i) (D.k (hd g a)) M j

section
variable {D x0 x1 x2 x3 x4} {g a : Fin 4} {i : Fin 4096} {M : ℝ}
  (hM : ∀ j : Fin 4352, val_main_v39 (F := Ideal) x0 x1 (ix5 0 g a i j) = ((ev D g a i M j : ℝ) : EReal))
include hM

/-- The row sums of the exponentials. -/
theorem ref_den : val_main_v40 (F := Ideal) x0 x1 (ix4 0 g a i) = ((ez D g a i M : ℝ) : EReal) := by
  unfold val_main_v40 val_main_cst_8
  pointwise
  rw [sum_eq_coe _ hM]; rfl

/-- The probabilities. -/
theorem ref_p (j : Fin 4352) : val_main_v43 (F := Ideal) x0 x1 (ix5 0 g a i j) = ((D.p (hd g a) i j : ℝ) : EReal) := by
  unfold val_main_v43 val_main_v42 val_main_v41
  pointwise
  rw [hM, ref_den hM, div_real _ _ (ez_pos D g a i M), ev_div]
end

include hR in
/-- The attention output. -/
theorem ref_o (g a : Fin 4) (i : Fin 4096) (d : Fin 128) :
    val_main_v47 (F := Ideal) x0 x1 x2 (ix5 0 g d a i) = ((D.o (hd g a) i d : ℝ) : EReal) := by
  obtain ⟨M, hM⟩ := ref_exp D x0 x1 x2 x3 x4 hR g a i
  unfold val_main_v47
  pointwise
  rw [dot_coe (fun j => ref_v D x0 x1 x2 x3 x4 hR j g a d) (fun j => ref_p hM j)]
  unfold Data.o out
  rw [Finset.sum_congr rfl fun j _ => mul_comm (D.v (hd g a) j d) (D.p (hd g a) i j)]
  rfl

end Cert.Att
-- ==== Proof.RefGrad.lean ====
module

public import proofs.«01_k».proof.Proof.RefScores

/-!
  The reference's results over arguments that hold real numbers: the gated output and the four gradients.
-/

@[expose] public section
noncomputable section
open Idealize.ShloMosaic Cert.ReferenceIdeal Cert.ReferenceIdeal.Read
namespace Cert.Att

variable (D : Data) (x0 : (⟨S16x4352x128, .bf16⟩ : BufTy).Contents (Elt Ideal)) (x1 x2 : (⟨S4x4352x128, .bf16⟩ : BufTy).Contents (Elt Ideal))
  (x3 : (⟨S4096x4096, .f32⟩ : BufTy).Contents (Elt Ideal)) (x4 : (⟨S4352x9216, .f32⟩ : BufTy).Contents (Elt Ideal))
  (hR : Reads D x0 x1 x2 x3 x4)

/-- The columns of head `hd g a`, lane `d`. -/
theorem col_lt (g a : Fin 4) (d : Fin 128) : g.val * 512 + a.val * 128 + d.val < 2048 := by omega
theorem col_eq (g a : Fin 4) (d : Fin 128) : g.val * 512 + a.val * 128 + d.val = 128 * hd g a + d.val := by unfold hd; omega
theorem hd_col (e : Fin 2048) : hd ⟨e.val / 512, by omega⟩ ⟨e.val / 128 % 4, by omega⟩ = e.val / 128 := by unfold hd; dsimp only; omega
theorem hd_head (h : Fin 16) : hd ⟨h.val / 4, by omega⟩ ⟨h.val % 4, by omega⟩ = h.val := by unfold hd; dsimp only; omega

include hR in
/-- The gate. -/
theorem ref_g (i : Fin 4096) (e : Fin 2048) : val_main_v1 (F := Ideal) x4 (ix3 0 i e) = ((D.G i e : ℝ) : EReal) := by
  unfold val_main_v1 val_main_v0
  pointwise
  refine (hR.g _ _ i.isLt (Nat.le_add_right _ _) (by show 3072 + e.val < 5120; omega)).trans ?_
  show ((D.G i (3072 + e.val - 3072) : ℝ) : EReal) = _
  rw [Nat.add_sub_cancel_left]

include hR in
/-- The logistic values of the gate. -/
theorem ref_sgm (i : Fin 4096) (e : Fin 2048) : val_main_v50_2 (F := Ideal) x4 (ix3 0 i e) = ((sgm (D.G i e) : ℝ) : EReal) := by
  unfold val_main_v50_2 val_main_call0_v4 val_main_call0_v3 val_main_call0_v2 val_main_call0_v1 val_main_call0_v0 val_main_call0_cst
    val_main_call0_cst_0
  pointwise
  rw [ref_g D x0 x1 x2 x3 x4 hR, ← EReal.coe_neg, Ideal.exp_coe, ← EReal.coe_one, ← EReal.coe_add,
    div_real _ _ (add_pos one_pos (Real.exp_pos _)).ne', one_div]
  rfl

include hR in
/-- The gate's factor. -/
theorem ref_silu (i : Fin 4096) (e : Fin 2048) : val_main_v50_0 (F := Ideal) x4 (ix3 0 i e) = ((D.silu i e : ℝ) : EReal) := by
  rw [val_main_v50_0_apply, ref_g D x0 x1 x2 x3 x4 hR, ref_sgm D x0 x1 x2 x3 x4 hR]
  exact (EReal.coe_mul _ _).symm

include hR in
/-- The gradient of the gated output. -/
theorem ref_dy (i : Fin 4096) (e : Fin 2048) : val_main_v3 (F := Ideal) x3 (ix3 0 i e) = ((D.Y i e : ℝ) : EReal) := by
  unfold val_main_v3 val_main_v2
  pointwise
  exact hR.y i ⟨e.val, by omega⟩ e.isLt

include hR in
/-- The attention output, heads side by side. -/
theorem ref_oc (i : Fin 4096) (e : Fin 2048) :
    val_main_v49 (F := Ideal) x0 x1 x2 (ix3 0 i e) = ((D.o (e.val / 128) i (Data.laneOf e) : ℝ) : EReal) := by
  unfold val_main_v49 val_main_v48
  pointwise
  refine (ref_o D x0 x1 x2 x3 x4 hR _ _ i _).trans ?_
  rw [hd_col]; rfl

include hR in
/-- The gated output. -/
theorem ref_y (i : Fin 4096) (e : Fin 2048) : val_main_v51 (F := Ideal) x0 x1 x2 x4 (ix3 0 i e) = ((D.y i e : ℝ) : EReal) := by
  rw [val_main_v51_apply, ref_oc D x0 x1 x2 x3 x4 hR, ref_silu D x0 x1 x2 x3 x4 hR]
  exact (EReal.coe_mul _ _).symm

include hR in
/-- The gate's gradient. -/
theorem ref_dg (i : Fin 4096) (e : Fin 2048) :
    val_main_v54 (F := Ideal) x0 x1 x2 x3 x4 (ix3 0 i e) = ((D.dg i e : ℝ) : EReal) := by
  unfold val_main_v54 val_main_call1_v1 val_main_call1_v2 val_main_call1_v0 val_main_v50_1 val_main_v52 val_main_call0_v7
    val_main_call0_v6 val_main_call0_cst_1
  pointwise
  rw [ref_oc D x0 x1 x2 x3 x4 hR, ref_sgm D x0 x1 x2 x3 x4 hR, ref_g D x0 x1 x2 x3 x4 hR, ref_dy D x0 x1 x2 x3 x4 hR, ← EReal.coe_one]
  simp only [← EReal.coe_sub, ← EReal.coe_mul, ← EReal.coe_add]
  congr 1
  unfold Data.dg; ring

include hR in
/-- The gradient of the attention output. -/
theorem ref_do (g a : Fin 4) (i : Fin 4096) (d : Fin 128) :
    val_main_v56 (F := Ideal) x3 x4 (ix5 0 g d a i) = ((D.dog (hd g a) i d : ℝ) : EReal) := by
  have h : ∀ e : Fin 2048, val_main_v53 (F := Ideal) x3 x4 (ix3 0 i e) = ((D.Y i e * D.silu i e : ℝ) : EReal) := fun e => by
    rw [val_main_v53_apply, ref_dy D x0 x1 x2 x3 x4 hR, ref_silu D x0 x1 x2 x3 x4 hR]
    exact (EReal.coe_mul _ _).symm
  unfold val_main_v56 val_main_v55
  pointwise
  refine (h _).trans ?_
  show ((D.Y i (g.val * 512 + a.val * 128 + d.val) * D.silu i (g.val * 512 + a.val * 128 + d.val) : ℝ) : EReal) = _
  rw [col_eq]; rfl

/-- The gradient of the probabilities. -/
def dpr (D : Data) (g a : Fin 4) (i : Fin 4096) (j : Fin 4352) : ℝ := ∑ d : Fin 128, D.dog (hd g a) i d * D.v (hd g a) j d

include hR in
/-- The gradient of the probabilities. -/
theorem ref_dp (g a : Fin 4) (i : Fin 4096) (j : Fin 4352) :
    val_main_v57 (F := Ideal) x2 x3 x4 (ix5 0 g a i j) = ((dpr D g a i j : ℝ) : EReal) := by
  unfold val_main_v57
  pointwise
  exact dot_coe (fun d => ref_do D x0 x1 x2 x3 x4 hR g a i d) (fun d => ref_v D x0 x1 x2 x3 x4 hR j g a d)

/-- The reduction over two axes of extent one adds nothing up. -/
theorem ref_row (g a : Fin 4) (i : Fin 4096) :
    val_main_v68 (F := Ideal) x0 x1 x2 x3 x4 (ix3 g a i) = val_main_v65 (F := Ideal) x0 x1 x2 x3 x4 (ix5 0 g a i 0) := by
  unfold val_main_v68 val_main_cst_11
  generalize val_main_v65 (F := Ideal) x0 x1 x2 x3 x4 = y
  pointwise
  unfold Ideal.hostReduceAdd
  have hset : Finset.univ.filter (fun k : S1x4x4x4096x1.Idx => Gen.reducesTo_S1x4x4x4096x1_S4x4x4096_d0_4.drop k = ix3 g a i)
      = {(ix5 0 g a i 0 : S1x4x4x4096x1.Idx)} := by
    ext k
    rw [Finset.mem_filter, Finset.mem_singleton]
    have e0 := Shape.ReducesTo.drop_apply_val_of_eq Gen.reducesTo_S1x4x4x4096x1_S4x4x4096_d0_4 k 0 1
    have e1 := Shape.ReducesTo.drop_apply_val_of_eq Gen.reducesTo_S1x4x4x4096x1_S4x4x4096_d0_4 k 1 2
    have e2 := Shape.ReducesTo.drop_apply_val_of_eq Gen.reducesTo_S1x4x4x4096x1_S4x4x4096_d0_4 k 2 3
    constructor
    · rintro ⟨-, hk⟩
      rw [hk] at e0 e1 e2
      funext b
      match b with
      | ⟨0, _⟩ => exact Subsingleton.elim (α := Fin 1) _ _
      | ⟨1, _⟩ => exact Fin.ext e0.symm
      | ⟨2, _⟩ => exact Fin.ext e1.symm
      | ⟨3, _⟩ => exact Fin.ext e2.symm
      | ⟨4, _⟩ => exact Subsingleton.elim (α := Fin 1) _ _
    · rintro rfl
      refine ⟨Finset.mem_univ _, ?_⟩
      funext b
      match b with
      | ⟨0, _⟩ => exact Fin.ext e0
      | ⟨1, _⟩ => exact Fin.ext e1
      | ⟨2, _⟩ => exact Fin.ext e2
  rw [hset, Finset.sum_singleton]
  exact zero_add _

include hR in
/-- The gradient of the scaled scores, times the scale. -/
theorem ref_ds (g a : Fin 4) (i : Fin 4096) (j : Fin 4352) :
    val_main_v74 (F := Ideal) x0 x1 x2 x3 x4 (ix5 0 g a i j) = ((D.dsc (hd g a) i j * s : ℝ) : EReal) := by
  obtain ⟨M, hM⟩ := ref_exp D x0 x1 x2 x3 x4 hR g a i
  have hE : ∀ j, val_main_v39 (F := Ideal) x0 x1 (ix5 0 g a i j) = ((ev D g a i M j : ℝ) : EReal) := hM
  have h65 : val_main_v65 (F := Ideal) x0 x1 x2 x3 x4 (ix5 0 g a i 0)
      = ((-∑ j : Fin 4352, dpr D g a i j * (1 / (ez D g a i M * ez D g a i M)) * ev D g a i M j : ℝ) : EReal) := by
    unfold val_main_v65 val_main_v64 val_main_v63 val_main_v62 val_main_v61 val_main_v60 val_main_v46 val_main_v44 val_main_v45
      val_main_v41 val_main_cst_10 val_main_cst_9
    pointwise
    rw [ref_den hE, ← EReal.coe_mul, ← EReal.coe_one, div_real _ _ (mul_ne_zero (ez_pos D g a i M) (ez_pos D g a i M)), EReal.coe_neg]
    congr 1
    refine sum_eq_coe _ fun j => ?_
    rw [ref_dp D x0 x1 x2 x3 x4 hR, hE, EReal.coe_mul, EReal.coe_mul]
  unfold val_main_v74 val_main_v73 val_main_v72 val_main_v71 val_main_v70 val_main_v69 val_main_v67 val_main_v66 val_main_v41 val_main_cst_12
  pointwise
  rw [ref_row, h65, ref_dp D x0 x1 x2 x3 x4 hR, ref_den hE, hE, ref_scale, div_real _ _ (ez_pos D g a i M), ← EReal.coe_add, ← EReal.coe_mul,
    ← EReal.coe_mul]
  congr 2
  have hs : ∑ j : Fin 4352, dpr D g a i j * (1 / (ez D g a i M * ez D g a i M)) * ev D g a i M j
      = (∑ d : Fin 128, D.dog (hd g a) i d * D.o (hd g a) i d) / ez D g a i M := by
    rw [show (∑ d : Fin 128, D.dog (hd g a) i d * D.o (hd g a) i d) = ∑ j : Fin 4352, D.p (hd g a) i j * dpr D g a i j from
      (sum_prob_mul (D.q (hd g a) i) (D.k (hd g a)) (D.v (hd g a)) (D.dog (hd g a) i)).symm, Finset.sum_div]
    refine Finset.sum_congr rfl fun j _ => ?_
    rw [← ev_div D g a i M j]
    have := ez_pos D g a i M
    field_simp
  have hp := ev_div D g a i M j
  show (dpr D g a i j / ez D g a i M + -_) * ev D g a i M j = D.p (hd g a) i j * (dpr D g a i j - ∑ d : Fin 128, D.dog (hd g a) i d * D.o (hd g a) i d)
  rw [hs, ← hp]
  have := ez_pos D g a i M
  field_simp
  ring

include hR in
/-- The gradient of the queries. -/
theorem ref_dq (h : Fin 16) (i : Fin 4096) (d : Fin 128) :
    val_main_v91 (F := Ideal) x0 x1 x2 x3 x4 (ix3 h i d) = ((D.dq h i d : ℝ) : EReal) := by
  unfold val_main_v91 val_main_v90 val_main_v80 val_main_v77 val_main_v76 val_main_v75
  pointwise
  refine (dot_coe (fun j => ref_ds D x0 x1 x2 x3 x4 hR ⟨h.val / 4, by omega⟩ ⟨h.val % 4, by omega⟩ i j)
    (fun j => ref_k D x0 x1 x2 x3 x4 hR j ⟨h.val / 4, by omega⟩ ⟨h.val % 4, by omega⟩ d)).trans ?_
  rw [hd_head]
  congr 1
  unfold Data.dq
  rw [Finset.mul_sum]
  exact Finset.sum_congr rfl fun j _ => by ring

include hR in
/-- The gradient of the keys. -/
theorem ref_dk (g : Fin 4) (j : Fin 4352) (d : Fin 128) :
    val_main_v93 (F := Ideal) x0 x1 x2 x3 x4 (ix3 g j d) = ((D.dk g j d : ℝ) : EReal) := by
  unfold val_main_v93 val_main_v92 val_main_v79 val_main_v78 val_main_v75
  pointwise
  refine (sum_eq_coe _ fun i => dot_coe (fun a => ref_ds D x0 x1 x2 x3 x4 hR g a i j)
    (fun a => ref_q D x0 x1 x2 x3 x4 hR i g a d)).trans ?_
  congr 1
  unfold Data.dk
  rw [Finset.sum_comm, Finset.mul_sum]
  refine Finset.sum_congr rfl fun a _ => ?_
  rw [Finset.mul_sum]
  exact Finset.sum_congr rfl fun i _ => by unfold hd; ring

include hR in
/-- The gradient of the values. -/
theorem ref_dv (g : Fin 4) (j : Fin 4352) (d : Fin 128) :
    val_main_v95 (F := Ideal) x0 x1 x3 x4 (ix3 g j d) = ((D.dv g j d : ℝ) : EReal) := by
  unfold val_main_v95 val_main_v94 val_main_v59 val_main_v58
  pointwise
  refine (sum_eq_coe _ fun a => sum_eq_coe _ fun i => ?_).trans (?_ : ((∑ a : Fin 4, ∑ i : Fin 4096, D.dog (hd g a) i d * D.p (hd g a) i j : ℝ) : EReal) = _)
  · obtain ⟨M, hM⟩ := ref_exp D x0 x1 x2 x3 x4 hR g a i
    rw [ref_do D x0 x1 x2 x3 x4 hR, ref_p hM, EReal.coe_mul]
  · congr 1
    unfold Data.dv
    exact Finset.sum_congr rfl fun a _ => Finset.sum_congr rfl fun i _ => mul_comm _ _

end Cert.Att
-- ==== Proof.RefOut.lean ====
module

public import proofs.«01_k».proof.Proof.RefGrad
public import Idealize.ShloMosaic.Lib.Routing.OpsSet
public import Idealize.ShloMosaic.Lib.Routing.OpsPair

/-!
  The reference's two padded results: the gated output beside zeros, and the projection's gradient, whose gate columns are set.
-/

@[expose] public section
noncomputable section
open Idealize.ShloMosaic Cert.ReferenceIdeal Cert.ReferenceIdeal.Read
namespace Cert.Att

variable (D : Data) (x0 : (⟨S16x4352x128, .bf16⟩ : BufTy).Contents (Elt Ideal)) (x1 x2 : (⟨S4x4352x128, .bf16⟩ : BufTy).Contents (Elt Ideal))
  (x3 : (⟨S4096x4096, .f32⟩ : BufTy).Contents (Elt Ideal)) (x4 : (⟨S4352x9216, .f32⟩ : BufTy).Contents (Elt Ideal))
  (hR : Reads D x0 x1 x2 x3 x4)

include hR in
/-- The gated output in its columns. -/
theorem ref_ypad (i e : Fin 4096) (he : e.val < 2048) : val_main_v83 (F := Ideal) x0 x1 x2 x4 (ix2 i e) = ((D.y i e : ℝ) : EReal) := by
  have h : val_main_v82 (F := Ideal) x0 x1 x2 x4 (ix2 i (⟨e.val, he⟩ : Fin 2048)) = ((D.y i e : ℝ) : EReal) := by
    unfold val_main_v82 val_main_v81
    pointwise
    exact ref_y D x0 x1 x2 x3 x4 hR i ⟨e.val, he⟩
  unfold val_main_v83
  pointwise
  rw [dif_pos he]
  exact h

/-- The two scatter indices. -/
theorem ref_at : (∀ i : S2.Idx, (i 0).val = 0 → val_main_v88 (F := Ideal) i = 0#32)
    ∧ (∀ i : S2.Idx, (i 0).val = 1 → val_main_v88 (F := Ideal) i = 3072#32) := by
  have key : ∀ k : Fin 2, val_main_v88 (F := Ideal) (ix1 k) = if k.val < 1 then 0#32 else 3072#32 := fun k => by
    unfold val_main_v88 val_main_v86 val_main_v87 val_main_c_13 val_main_c_14
    pointwise
    split <;> rfl
  have e : ∀ i : S2.Idx, i = ix1 (i 0) := fun i => by funext a; fin_cases a; rfl
  refine ⟨fun i hi => ?_, fun i hi => ?_⟩
  · exact (congrArg val_main_v88 (e i)).trans ((key (i 0)).trans (if_pos (by rw [hi]; decide)))
  · exact (congrArg val_main_v88 (e i)).trans ((key (i 0)).trans (if_neg (by rw [hi]; decide)))

/-- Update `k` lands at row `k 0`, column `3072 + k 1`. -/
theorem ref_lands (k : S4096x2048.Idx) (r : Fin 4352) (c : Fin 9216) :
    scatter_S4352x9216_S2_S4096x2048_01_n_01_0.resultIdx? k (val_main_v88 (F := Ideal)) = some (ix2 r c)
      ↔ (k 0).val = r.val ∧ 3072 + (k 1).val = c.val := by
  refine (Routing.resultIdx?_eq_some _ _ _ _).trans ?_
  have w0 : scatter_S4352x9216_S2_S4096x2048_01_n_01_0.window k 0 = (k 0).val := rfl
  have w1 : scatter_S4352x9216_S2_S4096x2048_01_n_01_0.window k 1 = (k 1).val := rfl
  have s0 : scatter_S4352x9216_S2_S4096x2048_01_n_01_0.start k (val_main_v88 (F := Ideal)) 0 = 0 := by
    have h := ref_at.1 (scatter_S4352x9216_S2_S4096x2048_01_n_01_0.siIdx k ⟨0, by decide⟩) rfl
    show (val_main_v88 (F := Ideal) (scatter_S4352x9216_S2_S4096x2048_01_n_01_0.siIdx k ⟨0, by decide⟩)).toInt = 0
    rw [h]; rfl
  have s1 : scatter_S4352x9216_S2_S4096x2048_01_n_01_0.start k (val_main_v88 (F := Ideal)) 1 = 3072 := by
    have h := ref_at.2 (scatter_S4352x9216_S2_S4096x2048_01_n_01_0.siIdx k ⟨1, by decide⟩) rfl
    show (val_main_v88 (F := Ideal) (scatter_S4352x9216_S2_S4096x2048_01_n_01_0.siIdx k ⟨1, by decide⟩)).toInt = 3072
    rw [h]; rfl
  refine ⟨fun h => ?_, fun h a => ?_⟩
  · have h0 := h 0
    have h1 := h 1
    rw [s0, w0] at h0
    rw [s1, w1] at h1
    exact ⟨by exact_mod_cast (zero_add _).symm.trans h0, by exact_mod_cast h1⟩
  · fin_cases a
    · exact (congrArg₂ (· + ·) s0 (congrArg Int.ofNat w0)).trans ((zero_add _).trans (congrArg Int.ofNat h.1))
    · exact (congrArg₂ (· + ·) s1 (congrArg Int.ofNat w1)).trans (congrArg Int.ofNat h.2)

include hR in
/-- The projection's gradient: the gate's gradient in its columns, all else as it was. -/
theorem ref_dproj (x6 : (⟨S4352x9216, .bf16⟩ : BufTy).Contents (Elt Ideal)) (r : Fin 4352) (c : Fin 9216) :
    val_main_v89 (F := Ideal) x0 x1 x2 x3 x4 x6 (ix2 r c)
      = if r.val < 4096 ∧ 3072 ≤ c.val ∧ c.val < 5120 then ((D.dg r (c.val - 3072) : ℝ) : EReal) else x6 (ix2 r c) := by
  have h : ∀ (i : Fin 4096) (e : Fin 2048), val_main_v85 (F := Ideal) x0 x1 x2 x3 x4 (ix2 i e) = ((D.dg i e : ℝ) : EReal) := fun i e => by
    unfold val_main_v85 val_main_v84
    pointwise
    exact ref_dg D x0 x1 x2 x3 x4 hR i e
  unfold val_main_v89
  split
  · next hc =>
    refine Routing.scatter_set_hit _ _ _ _ _ _ (fun k hk => ?_) (ix2 (⟨r.val, hc.1⟩ : Fin 4096) (⟨c.val - 3072, by omega⟩ : Fin 2048)) ?_
    · have hk' := (ref_lands k r c).1 hk
      rw [show k = ix2 (k 0 : Fin 4096) (k 1 : Fin 2048) from by funext a; fin_cases a <;> rfl]
      refine (h (k 0) (k 1)).trans ?_
      rw [hk'.1, ← hk'.2, Nat.add_sub_cancel_left]
    · refine (ref_lands _ r c).2 ⟨rfl, ?_⟩
      show 3072 + (c.val - 3072) = c.val
      omega
  · next hc =>
    refine Routing.scatter_set_miss _ _ _ _ _ (fun k hk => hc ?_)
    have hk' := (ref_lands k r c).1 hk
    have h0 : (k 0).val < 4096 := (k 0).isLt
    have h1 : (k 1).val < 2048 := (k 1).isLt
    omega

end Cert.Att
-- ==== Proof.Agree.lean ====
module

public import proofs.«01_k».proof.Defs
public import proofs.«01_k».proof.Proof.KernelValue
public import proofs.«01_k».proof.Proof.RefOut

/-!
  The kernel's results and the reference's, from memories that agree on the arguments, are the same numbers.
-/

@[expose] public section
noncomputable section
open Idealize.ShloMosaic Idealize.SL.Sem Cert.ReferenceIdeal.Read
namespace Cert.Att

/-- The mask's first array is set only in the columns that attention writes. -/
theorem mask_col [Cert.On_written.Facts] (a0 : FVec Ideal Cert.On_written.S16x4352x128 .bf16) (a1 a2 : FVec Ideal Cert.On_written.S4x4352x128 .bf16)
    (a3 : FVec Ideal Cert.On_written.S4096x4096 .f32) (a4 : FVec Ideal Cert.On_written.S4352x9216 .f32)
    (a5 : FVec Ideal Cert.On_written.S8x128 .f32) (a6 : FVec Ideal Cert.On_written.S4352x9216 .bf16)
    (i : (⟨2, ![4096, 4096]⟩ : Shape).Idx) (h : (Cert.On_written.fn (F := Ideal) a0 a1 a2 a3 a4 a5 a6).1 i = 1#1) : (i 1).val < 2048 := by
  have e : i = ix2 (i 0 : Fin 4096) (i 1 : Fin 4096) := by funext a; fin_cases a <;> rfl
  have h' := (congrArg (Cert.On_written.fn (F := Ideal) a0 a1 a2 a3 a4 a5 a6).1 e).symm.trans h
  have hlt : (i 1).val < 4096 := (i 1).isLt
  unfold Cert.On_written.fn at h'
  dsimp only at h'
  pointwise at h'
  by_contra hc
  have hs : (BitVec.ofNat 32 (i 1).val).slt 2048#32 = false := by
    rw [BitVec.slt, decide_eq_false_iff_not, BitVec.toInt_eq_toNat_of_lt (by rw [BitVec.toNat_ofNat]; omega), BitVec.toNat_ofNat]
    rw [show (2048#32).toInt = 2048 from rfl]
    omega
  have h2 : BitVec.ofBool ((BitVec.ofNat 32 (i 1).val).slt 2048#32) = 1#1 := h'
  rw [hs] at h2
  exact absurd h2 (by decide)

section
variable (D : Data) (x0 : (⟨Cert.ReferenceIdeal.S16x4352x128, .bf16⟩ : BufTy).Contents (Elt Ideal)) (x1 x2 : (⟨Cert.ReferenceIdeal.S4x4352x128, .bf16⟩ : BufTy).Contents (Elt Ideal))
  (x3 : (⟨Cert.ReferenceIdeal.S4096x4096, .f32⟩ : BufTy).Contents (Elt Ideal)) (x4 : (⟨Cert.ReferenceIdeal.S4352x9216, .f32⟩ : BufTy).Contents (Elt Ideal))
  (hR : Reads D x0 x1 x2 x3 x4)
include hR

/-- The reference's gradient of the queries, at any index. -/
theorem ref_dq_at (i : (⟨3, ![16, 4096, 128]⟩ : Shape).Idx) :
    val_main_v91 (F := Ideal) x0 x1 x2 x3 x4 i = ((D.dq (i 0) (i 1) (i 2) : ℝ) : EReal) :=
  (congrArg (val_main_v91 (F := Ideal) x0 x1 x2 x3 x4) (show i = ix3 (i 0 : Fin 16) (i 1 : Fin 4096) (i 2 : Fin 128) by
    funext a; fin_cases a <;> rfl)).trans (ref_dq D x0 x1 x2 x3 x4 hR (i 0) (i 1) (i 2))

/-- The reference's gradient of the keys, at any index. -/
theorem ref_dk_at (i : (⟨3, ![4, 4352, 128]⟩ : Shape).Idx) :
    val_main_v93 (F := Ideal) x0 x1 x2 x3 x4 i = ((D.dk (i 0) (i 1) (i 2) : ℝ) : EReal) :=
  (congrArg (val_main_v93 (F := Ideal) x0 x1 x2 x3 x4) (show i = ix3 (i 0 : Fin 4) (i 1 : Fin 4352) (i 2 : Fin 128) by
    funext a; fin_cases a <;> rfl)).trans (ref_dk D x0 x1 x2 x3 x4 hR (i 0) (i 1) (i 2))

/-- The reference's gradient of the values, at any index. -/
theorem ref_dv_at (i : (⟨3, ![4, 4352, 128]⟩ : Shape).Idx) :
    val_main_v95 (F := Ideal) x0 x1 x3 x4 i = ((D.dv (i 0) (i 1) (i 2) : ℝ) : EReal) :=
  (congrArg (val_main_v95 (F := Ideal) x0 x1 x3 x4) (show i = ix3 (i 0 : Fin 4) (i 1 : Fin 4352) (i 2 : Fin 128) by
    funext a; fin_cases a <;> rfl)).trans (ref_dv D x0 x1 x2 x3 x4 hR (i 0) (i 1) (i 2))

/-- The reference's gated output, at any index in its columns. -/
theorem ref_y_at (i : (⟨2, ![4096, 4096]⟩ : Shape).Idx) (hi : (i 1).val < 2048) :
    val_main_v83 (F := Ideal) x0 x1 x2 x4 i = ((D.y (i 0) (i 1) : ℝ) : EReal) :=
  (congrArg (val_main_v83 (F := Ideal) x0 x1 x2 x4) (show i = ix2 (i 0 : Fin 4096) (i 1 : Fin 4096) by
    funext a; fin_cases a <;> rfl)).trans (ref_ypad D x0 x1 x2 x3 x4 hR (i 0) (i 1) hi)

/-- The reference's gradient of the projection, at any index. -/
theorem ref_dproj_at (x6 : (⟨Cert.ReferenceIdeal.S4352x9216, .bf16⟩ : BufTy).Contents (Elt Ideal)) (i : (⟨2, ![4352, 9216]⟩ : Shape).Idx) :
    val_main_v89 (F := Ideal) x0 x1 x2 x3 x4 x6 i
      = if (i 0).val < 4096 ∧ 3072 ≤ (i 1).val ∧ (i 1).val < 5120 then ((D.dg (i 0) ((i 1).val - 3072) : ℝ) : EReal) else x6 i := by
  have e : i = ix2 (i 0 : Fin 4352) (i 1 : Fin 9216) := by funext a; fin_cases a <;> rfl
  refine (congrArg (val_main_v89 (F := Ideal) x0 x1 x2 x3 x4 x6) e).trans ((ref_dproj D x0 x1 x2 x3 x4 hR x6 (i 0) (i 1)).trans ?_)
  exact congrArg (fun z => if (i 0).val < 4096 ∧ 3072 ≤ (i 1).val ∧ (i 1).val < 5120 then ((D.dg (i 0) ((i 1).val - 3072) : ℝ) : EReal) else z)
    (congrArg x6 e.symm)
end

/-- The algebraic claim: over real arguments, the two calls and the plain attention with its backward pass end with the same results. -/
theorem algebraic [Cert.Pre_finite.Facts] [Cert.On_written.Facts] :
    Cert.algebraic_KernelIdeal_ReferenceIdeal_on_written_pre_finite (hKernelIdeal := Cert.KernelIdeal.Gen.facts)
      (hReferenceIdeal := Cert.ReferenceIdeal.Gen.facts) := by
  intro m g m' g' hpre hag
  have hR := fun c => reads _ _ _ _ _ _ _ (hpre c)
  refine ⟨fun c => Cert.KernelIdeal.Gen.W3 m g c (Proc.devRef .tc Cert.KernelIdeal.main_v0_1), fun c => Cert.KernelIdeal.Gen.W3 m g c (Proc.devRef .tc Cert.KernelIdeal.main_v1_0),
    fun c => Cert.KernelIdeal.Gen.W3 m g c (Proc.devRef .tc Cert.KernelIdeal.main_v1_1), fun c => Cert.KernelIdeal.Gen.W3 m g c (Proc.devRef .tc Cert.KernelIdeal.main_v1_2),
    fun c => Cert.KernelIdeal.Gen.W3 m g c (Proc.devRef .tc Cert.KernelIdeal.main_v1_3), ?_, ?_⟩
  · refine (θ_run _ _ _).mono (fun r h c => ?_) (Cert.KernelIdeal.Gen.results m g)
    obtain ⟨h0, h1, h2, h3, h4, ha⟩ := h c
    exact ⟨fun i _ => congrFun h0 i, fun i _ => congrFun h1 i, fun i _ => congrFun h2 i, fun i _ => congrFun h3 i,
      fun i _ => congrFun h4 i, ha⟩
  · refine (θ_run _ _ _).mono (fun r h c => ?_) (Cert.ReferenceIdeal.Value.run (F := Ideal) m' g')
    obtain ⟨h0, h1, h2, h3, h4, ha⟩ := h c
    obtain ⟨e0, e1, e2, e3, e4, _, e6⟩ := hag c
    rw [val_main_v83_eq, e0, e1, e2, e4] at h0
    rw [val_main_v91_eq, e0, e1, e2, e3, e4] at h1
    rw [val_main_v89_eq, e0, e1, e2, e3, e4, e6] at h2
    rw [val_main_v93_eq, e0, e1, e2, e3, e4] at h3
    rw [val_main_v95_eq, e0, e1, e3, e4] at h4
    refine ⟨fun i hi => ?_, fun i _ => ?_, fun i _ => ?_, fun i _ => ?_, fun i _ => ?_, ha⟩
    · have hc := mask_col _ _ _ _ _ _ _ i hi
      exact (congrFun h0 i).trans ((ref_y_at _ _ _ _ _ _ (hR c) i hc).trans (kernel_y m g c _ (hR c) i hc).symm)
    · exact (congrFun h1 i).trans ((ref_dq_at _ _ _ _ _ _ (hR c) i).trans (congrFun (kernel_dq m g c _ (hR c)) i).symm)
    · exact (congrFun h2 i).trans ((ref_dproj_at _ _ _ _ _ _ (hR c) _ i).trans (kernel_dg m g c _ (hR c) i).symm)
    · exact (congrFun h3 i).trans ((ref_dk_at _ _ _ _ _ _ (hR c) i).trans (congrFun (kernel_dk m g c _ (hR c)) i).symm)
    · exact (congrFun h4 i).trans ((ref_dv_at _ _ _ _ _ _ (hR c) i).trans (congrFun (kernel_dv m g c _ (hR c)) i).symm)

end Cert.Att
-- ==== Proof.Products.lean ====
module

public import Idealize.ShloMosaic.Lib.ValueIdx
public import Idealize.ShloMosaic.PureOps.Ideal.Laws
public import Idealize.ShloMosaic.Lib.Pointwise

/-!
  Three products of matrices of extended reals, by what they sum over.
-/

@[expose] public section
noncomputable section
open Idealize.ShloMosaic
namespace Cert.Products

/-- Matrices of extended reals. -/
abbrev Mat (a b : ℕ) := (⟨2, ![a, b]⟩ : Shape).Idx → EReal

/-- The plain product. -/
def nn {a n b : ℕ} (x : Mat a n) (y : Mat n b) : Mat a b := fun i => ∑ k : Fin n, x (ix2 (i 0) k) * y (ix2 k (i 1))
/-- The product with the first factor transposed. -/
def tn {a n b : ℕ} (x : Mat n a) (y : Mat n b) : Mat a b := fun i => ∑ k : Fin n, x (ix2 k (i 0)) * y (ix2 k (i 1))
/-- The product with the second factor transposed. -/
def nt {a n b : ℕ} (x : Mat a n) (y : Mat b n) : Mat a b := fun i => ∑ k : Fin n, x (ix2 (i 0) k) * y (ix2 (i 1) k)

/-- Sums of products with equal factors are equal. -/
theorem sum_mul {n : ℕ} {f g f' g' : Fin n → EReal} (hf : ∀ k, f k = f' k) (hg : ∀ k, g k = g' k) : ∑ k, f k * g k = ∑ k, f' k * g' k :=
  Finset.sum_congr rfl fun k _ => by rw [hf k, hg k]

/-- A sum of products, the factors the other way round. -/
theorem sum_comm {n : ℕ} (f g : Fin n → EReal) : ∑ k, f k * g k = ∑ k, g k * f k := Finset.sum_congr rfl fun k _ => mul_comm _ _

/-- An index of a matrix by its row and column. -/
theorem idx2 {a b : ℕ} (i : (⟨2, ![a, b]⟩ : Shape).Idx) : ∃ (r : Fin a) (e : Fin b), i = ix2 r e := ⟨i 0, i 1, by ext x; fin_cases x <;> rfl⟩

end Cert.Products
-- ==== Proof.OutProj.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Pointwise

/-!
  The output projection's call: its array is the product of the merged branches with the output weights.
-/

@[expose] public section
noncomputable section
open Idealize.ShloMosaic Idealize.ShloMosaic.TcCoe Idealize.SL.Sem
open Cert.Kernel2Ideal Cert.Kernel2Ideal.Gen

namespace Cert.OutProj

/-- The blocks at point `t`: row tile `t / 4`, column tile `t % 4`. -/
theorem idx : ∀ t : Fin cfg0.N, win0_0.index t = ![t.val / 4, 0] ∧ win0_1.index t = ![0, t.val % 4]
    ∧ win0_2.index t = ![t.val / 4, t.val % 4] := (by decide +kernel : ∀ t : Fin grid0.N, _)

/-- One block's product. -/
theorem block (x0 : Vec Ideal S1024x4096 .bf16) (x1 : Vec Ideal S4096x1024 .bf16) (r e : Fin 1024) :
    out0_2 (F := Ideal) x0 x1 (ix2 r e) = ∑ k : Fin 4096, x0 (ix2 r k) * x1 (ix2 k e) := by
  unfold out0_2
  rw [View.canon_unit_zero (by funext a; fin_cases a <;> rfl), View.ld_unit_zero (by funext a; fin_cases a <;> rfl), View.ld_unit_zero (by funext a; fin_cases a <;> rfl)]
  unfold k0_pay1
  pointwise

section
variable (m : (ℓ : Loc nD τ sig) → Buf (Elt Ideal) ℓ) (c : Dev nD)

/-- The call's array: the whole product. -/
theorem array : (dats m 0 c).arrAt 2 cfg0.N
    = Products.nn (a := 4096) (n := 4096) (b := 4096) (m ((c.tc : Thread nD τ).loc main_arg0)) (m ((c.tc : Thread nD τ).loc main_arg1)) := by
  refine (dats m 0 c).arrAt_eq_of_covers 2 _ (by decide +kernel) fun t hf y => ?_
  obtain ⟨e0, e1, e2⟩ := idx t
  obtain ⟨r, e, rfl⟩ : ∃ (r : Fin 1024) (e : Fin 1024), y = ix2 r e := Products.idx2 y
  blk_simp
  rw [after0_2]
  refine (block _ _ r e).trans (Products.sum_mul (fun k => ?_) (fun k => ?_))
  · blk_ext [iblk, e0, e2]
  · blk_ext [iblk, e1, e2]
end

/-- The call and the plain product end with the same array. -/
theorem algebraic : Cert.algebraic_Kernel2Ideal_Reference2Ideal (hKernel2Ideal := Cert.Kernel2Ideal.Gen.facts)
      (hReference2Ideal := Cert.Reference2Ideal.Gen.facts) := by
  intro m g m' g' _ hag
  refine ⟨fun c => (dats m 0 c).arrAt 2 cfg0.N, Cert.Kernel2Ideal.Value.run_blocks m g, ?_⟩
  refine (θ_run _ _ _).mono (fun r h c => ?_) (Cert.Reference2Ideal.Value.run (F := Ideal) m' g')
  obtain ⟨h0, ha⟩ := h c
  obtain ⟨e0, e1⟩ := hag c
  refine ⟨h0.trans ?_, ha⟩
  rw [Cert.Reference2Ideal.Read.val_main_v2_eq, e0, e1]
  refine Eq.trans ?_ (array m c).symm
  funext i
  obtain ⟨r, e, rfl⟩ : ∃ (r : Fin 4096) (e : Fin 4096), i = ix2 r e := Products.idx2 i
  unfold Cert.Reference2Ideal.Read.val_main_v2 Cert.Reference2Ideal.Read.val_main_v1 Cert.Reference2Ideal.Read.val_main_v0
  pointwise
  rfl

end Cert.OutProj
-- ==== Proof.Frames.lean ====
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame

/-!
  The frames of the four products' programs over machine floats. Each program has the text of its ideal form, so the frame proved
  over any float values holds for it; the tables of kernel bodies are equal label by label.
-/

@[expose] public section
noncomputable section
open Idealize.ShloMosaic Idealize.ShloMosaic.TcCoe Idealize.SL.Sem
namespace Cert.Frames

/-- The bodies of the call for the output projection are those of its ideal form. -/
theorem bodies2 : (Cert.Kernel2.defs₀ : Defs _ _ _ (Elt Bits) _) = (Cert.Kernel2Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the output projection. -/
theorem frame2 : Cert.quiescent_Kernel2 (hKernel2 := Cert.Kernel2.Gen.facts) := fun m ρ _ => by
  have h := Cert.Kernel2Ideal.Gen.frame (F := Bits) m ρ
  rw [show (Cert.Kernel2Ideal.defs : Defs _ _ _ (Elt Bits) _) = Cert.Kernel2.defs from congrArg (Pipeline.defs Cert.Kernel2Ideal.pcfgs) bodies2.symm] at h
  exact h

/-- The bodies of the call for the gradient of the output weights are those of its ideal form. -/
theorem bodies3 : (Cert.Kernel3.defs₀ : Defs _ _ _ (Elt Bits) _) = (Cert.Kernel3Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the gradient of the output weights. -/
theorem frame3 : Cert.quiescent_Kernel3 (hKernel3 := Cert.Kernel3.Gen.facts) := fun m ρ _ => by
  have h := Cert.Kernel3Ideal.Gen.frame (F := Bits) m ρ
  rw [show (Cert.Kernel3Ideal.defs : Defs _ _ _ (Elt Bits) _) = Cert.Kernel3.defs from congrArg (Pipeline.defs Cert.Kernel3Ideal.pcfgs) bodies3.symm] at h
  exact h

/-- The bodies of the call for the gradient of the merged branches are those of its ideal form. -/
theorem bodies4 : (Cert.Kernel4.defs₀ : Defs _ _ _ (Elt Bits) _) = (Cert.Kernel4Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the gradient of the merged branches. -/
theorem frame4 : Cert.quiescent_Kernel4 (hKernel4 := Cert.Kernel4.Gen.facts) := fun m ρ _ => by
  have h := Cert.Kernel4Ideal.Gen.frame (F := Bits) m ρ
  rw [show (Cert.Kernel4Ideal.defs : Defs _ _ _ (Elt Bits) _) = Cert.Kernel4.defs from congrArg (Pipeline.defs Cert.Kernel4Ideal.pcfgs) bodies4.symm] at h
  exact h

/-- The bodies of the call for the gradient of the projection's input are those of its ideal form. -/
theorem bodies5 : (Cert.Kernel5.defs₀ : Defs _ _ _ (Elt Bits) _) = (Cert.Kernel5Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the gradient of the projection's input. -/
theorem frame5 : Cert.quiescent_Kernel5 (hKernel5 := Cert.Kernel5.Gen.facts) := fun m ρ _ => by
  have h := Cert.Kernel5Ideal.Gen.frame (F := Bits) m ρ
  rw [show (Cert.Kernel5Ideal.defs : Defs _ _ _ (Elt Bits) _) = Cert.Kernel5.defs from congrArg (Pipeline.defs Cert.Kernel5Ideal.pcfgs) bodies5.symm] at h
  exact h

end Cert.Frames
-- ==== Proof.GradWOut.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Pointwise

/-!
  The call for the gradient of the output weights: its array is the product of the transposed merged branches with the output's gradient.
-/

@[expose] public section
noncomputable section
open Idealize.ShloMosaic Idealize.ShloMosaic.TcCoe Idealize.SL.Sem
open Cert.Kernel3Ideal Cert.Kernel3Ideal.Gen

namespace Cert.GradWOut

/-- The blocks at point `t`: row tile `t / 4`, column tile `t % 4`. -/
theorem idx : ∀ t : Fin cfg0.N, win0_0.index t = ![0, t.val / 4] ∧ win0_1.index t = ![0, t.val % 4]
    ∧ win0_2.index t = ![t.val / 4, t.val % 4] := (by decide +kernel : ∀ t : Fin grid0.N, _)

/-- One block's product. -/
theorem block (x0 : Vec Ideal S4096x1024 .bf16) (x1 : Vec Ideal S4096x1024 .bf16) (r e : Fin 1024) :
    out0_2 (F := Ideal) x0 x1 (ix2 r e) = ∑ k : Fin 4096, x0 (ix2 k r) * x1 (ix2 k e) := by
  unfold out0_2
  rw [View.canon_unit_zero (by funext a; fin_cases a <;> rfl), View.ld_unit_zero (by funext a; fin_cases a <;> rfl), View.ld_unit_zero (by funext a; fin_cases a <;> rfl)]
  unfold k0_pay1
  pointwise

section
variable (m : (ℓ : Loc nD τ sig) → Buf (Elt Ideal) ℓ) (c : Dev nD)

/-- The call's array: the whole product. -/
theorem array : (dats m 0 c).arrAt 2 cfg0.N
    = Products.tn (a := 4096) (n := 4096) (b := 4096) (m ((c.tc : Thread nD τ).loc main_arg0)) (m ((c.tc : Thread nD τ).loc main_arg1)) := by
  refine (dats m 0 c).arrAt_eq_of_covers 2 _ (by decide +kernel) fun t hf y => ?_
  obtain ⟨e0, e1, e2⟩ := idx t
  obtain ⟨r, e, rfl⟩ : ∃ (r : Fin 1024) (e : Fin 1024), y = ix2 r e := Products.idx2 y
  blk_simp
  rw [after0_2]
  refine (block _ _ r e).trans (Products.sum_mul (fun k => ?_) (fun k => ?_))
  · blk_ext [iblk, e0, e2]
  · blk_ext [iblk, e1, e2]
end

/-- The call and the plain product end with the same array. -/
theorem algebraic : Cert.algebraic_Kernel3Ideal_Reference3Ideal (hKernel3Ideal := Cert.Kernel3Ideal.Gen.facts)
      (hReference3Ideal := Cert.Reference3Ideal.Gen.facts) := by
  intro m g m' g' _ hag
  refine ⟨fun c => (dats m 0 c).arrAt 2 cfg0.N, Cert.Kernel3Ideal.Value.run_blocks m g, ?_⟩
  refine (θ_run _ _ _).mono (fun r h c => ?_) (Cert.Reference3Ideal.Value.run (F := Ideal) m' g')
  obtain ⟨h0, ha⟩ := h c
  obtain ⟨e0, e1⟩ := hag c
  refine ⟨h0.trans ?_, ha⟩
  rw [Cert.Reference3Ideal.Read.val_main_v5_eq, e0, e1]
  refine Eq.trans ?_ (array m c).symm
  funext i
  obtain ⟨r, e, rfl⟩ : ∃ (r : Fin 4096) (e : Fin 4096), i = ix2 r e := Products.idx2 i
  unfold Cert.Reference3Ideal.Read.val_main_v5 Cert.Reference3Ideal.Read.val_main_v4 Cert.Reference3Ideal.Read.val_main_v3 Cert.Reference3Ideal.Read.val_main_v1
  pointwise
  exact Products.sum_comm _ _

end Cert.GradWOut
-- ==== Proof.DY.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Pointwise

/-!
  The call for the gradient of the merged branches: its array is the product of the output's gradient with the transposed output weights.
-/

@[expose] public section
noncomputable section
open Idealize.ShloMosaic Idealize.ShloMosaic.TcCoe Idealize.SL.Sem
open Cert.Kernel4Ideal Cert.Kernel4Ideal.Gen

namespace Cert.DY

/-- The blocks at point `t`: row tile `t / 4`, column tile `t % 4`. -/
theorem idx : ∀ t : Fin cfg0.N, win0_0.index t = ![t.val / 4, 0] ∧ win0_1.index t = ![t.val % 4, 0]
    ∧ win0_3.index t = ![t.val / 4, t.val % 4] := (by decide +kernel : ∀ t : Fin grid0.N, _)

/-- One block's product. -/
theorem block (x0 : Vec Ideal S1024x4096 .bf16) (x1 : Vec Ideal S1024x4096 .bf16) (x2 : Vec Ideal S8x128 .f32) (r e : Fin 1024) :
    out0_3 (F := Ideal) x0 x1 x2 (ix2 r e) = ∑ k : Fin 4096, x0 (ix2 r k) * x1 (ix2 e k) := by
  unfold out0_3
  rw [View.canon_unit_zero (by funext a; fin_cases a <;> rfl), View.ld_unit_zero (by funext a; fin_cases a <;> rfl), View.ld_unit_zero (by funext a; fin_cases a <;> rfl)]
  unfold k0_pay1
  pointwise

section
variable (m : (ℓ : Loc nD τ sig) → Buf (Elt Ideal) ℓ) (c : Dev nD)

/-- The call's array: the whole product. -/
theorem array : (dats m 0 c).arrAt 3 cfg0.N
    = Products.nt (a := 4096) (n := 4096) (b := 4096) (m ((c.tc : Thread nD τ).loc main_arg0)) (m ((c.tc : Thread nD τ).loc main_arg1)) := by
  refine (dats m 0 c).arrAt_eq_of_covers 3 _ (by decide +kernel) fun t hf y => ?_
  obtain ⟨e0, e1, e2⟩ := idx t
  obtain ⟨r, e, rfl⟩ : ∃ (r : Fin 1024) (e : Fin 1024), y = ix2 r e := Products.idx2 y
  blk_simp
  rw [after0_3]
  refine (block _ _ _ r e).trans (Products.sum_mul (fun k => ?_) (fun k => ?_))
  · blk_ext [iblk, e0, e2]
  · blk_ext [iblk, e1, e2]
end

/-- The call and the plain product end with the same array. -/
theorem algebraic : Cert.algebraic_Kernel4Ideal_Reference4Ideal (hKernel4Ideal := Cert.Kernel4Ideal.Gen.facts)
      (hReference4Ideal := Cert.Reference4Ideal.Gen.facts) := by
  intro m g m' g' _ hag
  refine ⟨fun c => (dats m 0 c).arrAt 3 cfg0.N, Cert.Kernel4Ideal.Value.run_blocks m g, ?_⟩
  refine (θ_run _ _ _).mono (fun r h c => ?_) (Cert.Reference4Ideal.Value.run (F := Ideal) m' g')
  obtain ⟨h0, ha⟩ := h c
  obtain ⟨e0, e1, _⟩ := hag c
  refine ⟨h0.trans ?_, ha⟩
  rw [Cert.Reference4Ideal.Read.val_main_v6_eq, e0, e1]
  refine Eq.trans ?_ (array m c).symm
  funext i
  obtain ⟨r, e, rfl⟩ : ∃ (r : Fin 4096) (e : Fin 4096), i = ix2 r e := Products.idx2 i
  unfold Cert.Reference4Ideal.Read.val_main_v6 Cert.Reference4Ideal.Read.val_main_v3 Cert.Reference4Ideal.Read.val_main_v1
  pointwise
  rfl

end Cert.DY
-- ==== Proof.DH.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Tactic
public import Idealize.ShloMosaic.Lib.Pointwise

/-!
  The call for the gradient of the projection's input: the sum over the projected columns runs in three parts, kept in a
  scratch buffer between grid points; its array is the product with the transposed input weights.
-/

@[expose] public section
noncomputable section
open Idealize.ShloMosaic Idealize.ShloMosaic.TcCoe Idealize.SL.Sem
open Cert.Kernel5Ideal Cert.Kernel5Ideal.Gen

namespace Cert.DH

/-- The blocks at point `t`: row tile `t / 12`, column tile `t / 3 % 4`, part `t % 3` of the sum. -/
theorem idx : ∀ t : Fin cfg0.N, win0_0.index t = ![t.val / 12, t.val % 3] ∧ win0_1.index t = ![t.val / 3 % 4, t.val % 3]
    ∧ win0_3.index t = ![t.val / 12, t.val / 3 % 4] := (by decide +kernel : ∀ t : Fin grid0.N, _)

/-- The part of an entry's sum that one grid point adds. -/
def part (x0 : Vec Ideal S1088x3072 .bf16) (x1 : Vec Ideal S1024x3072 .bf16) (r : Fin 1088) (e : Fin 1024) : EReal :=
  ∑ k : Fin 3072, x0 (ix2 r k) * x1 (ix2 e k)

/-- A term of an entry's whole sum. -/
def term (x : Products.Mat 4352 9216) (y : Products.Mat 4096 9216) (r : Fin 4352) (e : Fin 4096) (k : Fin 9216) : EReal := x (ix2 r k) * y (ix2 e k)

/-- The accumulator's next value, at an entry. -/
theorem step (acc : Vec Ideal S1088x1024 .f32) (x0 : Vec Ideal S1088x3072 .bf16) (x1 : Vec Ideal S1024x3072 .bf16) (r : Fin 1088) (e : Fin 1024) :
    k0_pay2 (F := Ideal) acc x0 x1 (ix2 r e) = (acc (ix2 r e) : EReal) + part x0 x1 r e := by
  unfold k0_pay2 part
  pointwise

/-- The accumulator starts from zero. -/
theorem zero (r : Fin 1088) (e : Fin 1024) : k0_pay1 (F := Ideal) (ix2 r e) = (0 : EReal) := by
  show Ideal.ofBits .f32 0x00000000#32 = 0
  simp

section
variable (c : Dev nD) (i : grid0.Coords) (arg3 : Memref sig .tc .vmem S1088x3072 .bf16) (harg3 : arg3.IsWhole) (arg4 : Memref sig .tc .vmem S1024x3072 .bf16) (harg4 : arg4.IsWhole) (arg5 : Memref sig .tc .vmem S8x128 .f32) (harg5 : arg5.IsWhole) (arg6 : Memref sig .tc .vmem S1088x1024 .f32) (harg6 : arg6.IsWhole) (arg7 : Memref sig .tc .vmem S1088x1024 .f32) (harg7 : arg7.IsWhole)
  (x0 : Vec Ideal S1088x3072 .bf16) (x1 : Vec Ideal S1024x3072 .bf16) (x2 : Vec Ideal S8x128 .f32) (xs : Vec Ideal S1088x1024 .f32)

/-- The first part: the accumulator is zeroed and the part added. -/
theorem first (hc0 : cond0_0 i) (hc1 : ¬cond0_1 i) (r : Fin 1088) (e : Fin 1024) :
    sout0_A_0 c i arg3 harg3 arg4 harg4 arg5 harg5 arg6 harg6 arg7 harg7 hc0 hc1 x0 x1 x2 (ix2 r e) = 0 + part x0 x1 r e := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (by funext a; fin_cases a <;> rfl), View.readCov_unit_zero _ (by funext a; fin_cases a <;> rfl)]
  simp only [View.readAt_eq_ld, harg3.read_unread, harg4.read_unread]
  rw [View.ld_unit_zero (by funext a; fin_cases a <;> rfl), View.ld_unit_zero (by funext a; fin_cases a <;> rfl)]
  rw [step, zero]

/-- The second part is added to what the first left. -/
theorem second (hc0 : ¬cond0_0 i) (hc1 : ¬cond0_1 i) (r : Fin 1088) (e : Fin 1024) :
    sout0_B_0 c i arg3 harg3 arg4 harg4 arg5 harg5 arg6 harg6 arg7 harg7 hc0 hc1 x0 x1 x2 xs (ix2 r e) = (xs (ix2 r e) : EReal) + part x0 x1 r e := by
  unfold sout0_B_0
  rw [View.read_writes_eq_canon _ _ _ (scover0_B_0 c i arg3 harg3 arg4 harg4 arg5 harg5 arg6 harg6 arg7 harg7 hc0 hc1 x0 x1 x2 xs)]
  unfold kernelRun0_B
  dsimp only
  sl_unfold_words
  rw [View.canon_unit_zero (by funext a; fin_cases a <;> rfl)]
  simp only [View.readAt_eq_ld, harg3.read_unread, harg4.read_unread, harg7.read_unread]
  rw [View.ld_unit_zero (by funext a; fin_cases a <;> rfl), View.ld_unit_zero (by funext a; fin_cases a <;> rfl), View.ld_unit_zero (by funext a; fin_cases a <;> rfl)]
  exact step _ _ _ r e

/-- The third part: the block written out is the accumulator's last value. -/
theorem third (hc0 : ¬cond0_0 i) (hc1 : cond0_1 i) (r : Fin 1088) (e : Fin 1024) :
    out0_C_3 c i arg3 harg3 arg4 harg4 arg5 harg5 arg6 harg6 arg7 harg7 hc0 hc1 x0 x1 x2 xs (ix2 r e) = (xs (ix2 r e) : EReal) + part x0 x1 r e := by
  unfold out0_C_3
  rw [View.read_writes_eq_canon _ _ _ (cover0_C_3 c i arg3 harg3 arg4 harg4 arg5 harg5 arg6 harg6 arg7 harg7 hc0 hc1 x0 x1 x2 xs)]
  unfold kernelRun0_C
  dsimp only
  sl_unfold_words
  rw [View.canon_unit_zero (by funext a; fin_cases a <;> rfl), View.readCov_unit_zero _ (by funext a; fin_cases a <;> rfl)]
  simp only [View.readAt_eq_ld, harg3.read_unread, harg4.read_unread, harg7.read_unread]
  rw [View.ld_unit_zero (by funext a; fin_cases a <;> rfl), View.ld_unit_zero (by funext a; fin_cases a <;> rfl), View.ld_unit_zero (by funext a; fin_cases a <;> rfl)]
  exact step _ _ _ r e
end

/-- A sum cut in two. -/
theorem cut {n : ℕ} (a b : ℕ) (h : n = a + b) (f : Fin n → EReal) : ∑ k, f k = (∑ k : Fin a, f ⟨k.val, by omega⟩) + ∑ k : Fin b, f ⟨a + k.val, by omega⟩ := by
  subst h
  exact Fin.sum_univ_add f

/-- A sum over the projected columns, in three parts. -/
theorem three (f : Fin 9216 → EReal) : ∑ k, f k = 0 + (∑ k : Fin 3072, f ⟨k.val, by omega⟩) + (∑ k : Fin 3072, f ⟨3072 + k.val, by omega⟩) + ∑ k : Fin 3072, f ⟨6144 + k.val, by omega⟩ := by
  rw [cut 6144 3072 (by norm_num) f, cut 3072 3072 (by norm_num) fun k : Fin 6144 => f ⟨k.val, by omega⟩, zero_add]

section
variable (m : (ℓ : Loc nD τ sig) → Buf (Elt Ideal) ℓ) (c : Dev nD)

/-- The block written at the last point of a group of three: the three parts, added in order from zero. -/
theorem last (n : ℕ) (hn : n + 2 < cfg0.N) (h2 : n % 3 = 0) (r : Fin 1088) (e : Fin 1024) :
    ((outsAt0 m c (n + 2) hn).1 (ix2 r e) : EReal) = 0 + part (iblk m c 0 ⟨n, by omega⟩) (iblk m c 1 ⟨n, by omega⟩) r e
      + part (iblk m c 0 ⟨n + 1, by omega⟩) (iblk m c 1 ⟨n + 1, by omega⟩) r e + part (iblk m c 0 ⟨n + 2, hn⟩) (iblk m c 1 ⟨n + 2, hn⟩) r e := by
  have hA := outsAt0_A m c ⟨n, by omega⟩ (by dsimp only; omega) (by dsimp only; omega)
  have hB := outsAt0_B m c ⟨n + 1, by omega⟩ (by dsimp only; omega) (by dsimp only; omega)
  have hC := outsAt0_C m c ⟨n + 2, hn⟩ (by dsimp only; omega) (by dsimp only; omega)
  dsimp only at hA hB hC
  simp only [show n + 1 - 1 = n from rfl, show n + 2 - 1 = n + 1 from rfl] at hB hC
  rw [hC]
  dsimp only
  rw [third, hB]
  dsimp only
  rw [second, hA]
  dsimp only
  rw [first]

/-- One part, as a part of the whole sum: the columns from `o` on. -/
theorem part_eq (t : Fin cfg0.N) (r : Fin 1088) (e : Fin 1024) (o : ℕ) (ho : o = t.val % 3 * 3072) (h : t.val < 48) :
    part (iblk m c 0 t) (iblk m c 1 t) r e = ∑ k : Fin 3072, term (m ((c.tc : Thread nD τ).loc main_arg0)) (m ((c.tc : Thread nD τ).loc main_arg1)) ⟨t.val / 12 * 1088 + r.val, by omega⟩
      ⟨t.val / 3 % 4 * 1024 + e.val, by omega⟩ ⟨o + k.val, by omega⟩ := by
  subst ho
  obtain ⟨e0, e1, -⟩ := idx t
  refine Products.sum_mul (fun k => ?_) (fun k => ?_)
  · blk_ext [iblk, e0]
  · blk_ext [iblk, e1]

/-- The call's array: the whole product. -/
theorem array : (dats m 0 c).arrAt 3 cfg0.N
    = Products.nt (a := 4352) (n := 9216) (b := 4096) (m ((c.tc : Thread nD τ).loc main_arg0)) (m ((c.tc : Thread nD τ).loc main_arg1)) := by
  refine (dats m 0 c).arrAt_eq_of_covers 3 _ (by decide +kernel) fun t hf y => ?_
  have h2 : t.val % 3 = 2 := (flush0_3 t).mp hf
  have hN : t.val < 48 := lt_of_lt_of_eq t.isLt (show cfg0.N = 48 from N_0)
  obtain ⟨n, hn⟩ := t
  obtain ⟨n, rfl⟩ : ∃ k, n = k + 2 := ⟨n - 2, by dsimp only at h2; omega⟩
  dsimp only at h2 hN
  obtain ⟨-, -, e2⟩ := idx ⟨n + 2, hn⟩
  obtain ⟨r, e, rfl⟩ : ∃ (r : Fin 1088) (e : Fin 1024), y = ix2 r e := Products.idx2 y
  blk_simp
  rw [after0_3]
  refine (last m c n hn (by omega) r e).trans ?_
  rw [part_eq m c _ r e 0 (by dsimp only; omega) (by dsimp only; omega), part_eq m c _ r e 3072 (by dsimp only; omega) (by dsimp only; omega), part_eq m c _ r e 6144 (by dsimp only; omega) (by dsimp only; omega)]
  refine Eq.trans ?_ (three _).symm
  refine congrArg₂ (· + ·) (congrArg₂ (· + ·) (congrArg (0 + ·) ?_) ?_) ?_
  · refine Products.sum_mul (fun k => ?_) (fun k => ?_) <;> blk_ext [e2]
  · refine Products.sum_mul (fun k => ?_) (fun k => ?_) <;> blk_ext [e2]
  · refine Products.sum_mul (fun k => ?_) (fun k => ?_) <;> blk_ext [e2]
end

/-- The call and the plain product end with the same array. -/
theorem algebraic : Cert.algebraic_Kernel5Ideal_Reference5Ideal (hKernel5Ideal := Cert.Kernel5Ideal.Gen.facts)
      (hReference5Ideal := Cert.Reference5Ideal.Gen.facts) := by
  intro m g m' g' _ hag
  refine ⟨fun c => Cert.Kernel5Ideal.Value.G3 m c, Cert.Kernel5Ideal.Value.run m g, ?_⟩
  refine (θ_run _ _ _).mono (fun r h c => ?_) (Cert.Reference5Ideal.Value.run (F := Ideal) m' g')
  obtain ⟨h0, ha⟩ := h c
  obtain ⟨e0, e1, _⟩ := hag c
  refine ⟨h0.trans ?_, ha⟩
  rw [Cert.Reference5Ideal.Read.val_main_v6_eq, e0, e1]
  refine Eq.trans ?_ ((Cert.Kernel5Ideal.Value.final3 m c).symm.trans (array m c)).symm
  funext i
  obtain ⟨r, e, rfl⟩ : ∃ (r : Fin 4352) (e : Fin 4096), i = ix2 r e := Products.idx2 i
  unfold Cert.Reference5Ideal.Read.val_main_v6 Cert.Reference5Ideal.Read.val_main_v3 Cert.Reference5Ideal.Read.val_main_v1
  pointwise
  rfl

end Cert.DH
-- ==== Proof.Slabs.lean ====
module

public import proofs.«01_k».proof.Proof.Gen.Pre_slabs_exist6
public import proofs.«01_k».proof.Proof.Gen.Pre_slabs_exist7
public import proofs.«01_k».proof.Proof.Gen.Pre_slabs_exist8
public import proofs.«01_k».proof.Proof.Gen.Pre_slabs_exist9
public import proofs.«01_k».proof.Proof.Gen.Pre_slabs_exist10
public import proofs.«01_k».proof.Proof.Gen.Pre_slabs_exist11
public import proofs.«01_k».proof.Proof.Gen.Pre_slabs_exist12
public import proofs.«01_k».proof.Proof.Products
public import Idealize.ShloMosaic.Lib.Pointwise
public import Idealize.ShloMosaic.Lib.ValueIdx

/-!
  Slab numbers: what the preconditions say of them, and the gather that takes the named slabs of a matrix's columns.
-/

@[expose] public section
noncomputable section
open Idealize.ShloMosaic
namespace Cert.Slabs

/-- Two bits whose conjunction is set are both set. -/
theorem and_one (a b : BitVec 1) : IntOp.andi a b = 1#1 ↔ a = 1#1 ∧ b = 1#1 := by revert a b; decide

/-- A bit that is set is true. -/
theorem ofBool_one (b : Bool) : BitVec.ofBool b = 1#1 → b = true := by revert b; decide

/-- A truth value as a bit. -/
theorem one_iff (b : Bool) : BitVec.ofBool b = 1#1 ↔ b = true := by revert b; decide

/-- A word that is at least 0 and below 8, compared signed, is one of 0, …, 7. -/
theorem in_range (w : BitVec 32) (h : IntOp.andi (IntOp.cmpi .sge w 0#32) (IntOp.cmpi .slt w 8#32) = 1#1) : w.toNat < 8 := by
  obtain ⟨h0, h1⟩ := (and_one _ _).mp h
  have h0 : (0#32).sle w = true := ofBool_one _ h0
  have h1 : w.slt 8#32 = true := ofBool_one _ h1
  have e0 : (0#32).toInt = 0 := rfl
  have e8 : (8#32).toInt = 8 := rfl
  rw [BitVec.sle, decide_eq_true_eq, e0] at h0
  rw [BitVec.slt, decide_eq_true_eq, e8] at h1
  rw [BitVec.toInt_eq_toNat_cond] at h0 h1
  split at h0 <;> split at h1 <;> omega

/-- Such a word read as a signed integer. -/
theorem toInt_of_lt (w : BitVec 32) (h : w.toNat < 8) : w.toInt.toNat = w.toNat := by
  rw [BitVec.toInt_eq_toNat_cond, if_pos (by omega)]
  rfl

section
variable {F : FTy → Type} [FloatOps F]

/-- The precondition on the sibling chip's slab numbers holds of them one by one. -/
theorem below6 (a : FVec F ⟨2, ![4352, 4096]⟩ .bf16) (b : FVec F ⟨2, ![4352, 9216]⟩ .bf16) (ids : IVec ⟨1, ![4]⟩ 32)
    (h : Cert.Pre_slabs_exist6.fn a b ids = fun _ => 1#1) (j : Fin 4) : (ids (ix1 j)).toNat < 8 := in_range _ (congrFun h (ix1 j))

/-- The precondition on the own chip's slab numbers holds of them one by one. -/
theorem below7 (a : FVec F ⟨2, ![4352, 4096]⟩ .bf16) (b : FVec F ⟨2, ![4352, 9216]⟩ .bf16) (ids : IVec ⟨1, ![4]⟩ 32) (z : FVec F ⟨2, ![8, 128]⟩ .f32)
    (h : Cert.Pre_slabs_exist7.fn a b ids z = fun _ => 1#1) (j : Fin 4) : (ids (ix1 j)).toNat < 8 := in_range _ (congrFun h (ix1 j))

/-- The precondition on the slab number of the first forward call holds of it. -/
theorem below8 (a : FVec F ⟨2, ![4352, 4096]⟩ .bf16) (b : FVec F ⟨2, ![4096, 9216]⟩ .bf16) (p : FVec F ⟨2, ![4352, 9216]⟩ .f32) (ids : IVec ⟨1, ![8]⟩ 32) (z : FVec F ⟨2, ![8, 128]⟩ .f32)
    (h : Cert.Pre_slabs_exist8.fn a b p ids z = fun _ => 1#1) (k : Fin 1) : (ids (ix1 ⟨0 + k.val, by omega⟩)).toNat < 8 := by
  have e := in_range _ (congrFun h (ix1 k))
  exact lt_of_eq_of_lt (congrArg BitVec.toNat (extractStridedSlice_apply ![0] ids Cert.Pre_slabs_exist8.Facts.slices_S8_S1_0 (ix1 k) (ix1 ⟨0 + k.val, by omega⟩) (fun a => match a with | ⟨0, _⟩ => rfl)).symm) e

/-- The precondition on the slab numbers of the second forward call holds of them one by one. -/
theorem below9 (a : FVec F ⟨2, ![4352, 4096]⟩ .bf16) (b : FVec F ⟨2, ![4096, 9216]⟩ .bf16) (p : FVec F ⟨2, ![4352, 9216]⟩ .f32) (ids : IVec ⟨1, ![8]⟩ 32) (z : FVec F ⟨2, ![8, 128]⟩ .f32)
    (h : Cert.Pre_slabs_exist9.fn a b p ids z = fun _ => 1#1) (k : Fin 2) : (ids (ix1 ⟨1 + k.val, by omega⟩)).toNat < 8 := by
  have e := in_range _ (congrFun h (ix1 k))
  exact lt_of_eq_of_lt (congrArg BitVec.toNat (extractStridedSlice_apply ![1] ids Cert.Pre_slabs_exist9.Facts.slices_S8_S2_1 (ix1 k) (ix1 ⟨1 + k.val, by omega⟩) (fun a => match a with | ⟨0, _⟩ => rfl)).symm) e

/-- The precondition on the slab numbers of the third forward call holds of them one by one. -/
theorem below10 (a : FVec F ⟨2, ![4352, 4096]⟩ .bf16) (b : FVec F ⟨2, ![4096, 9216]⟩ .bf16) (p : FVec F ⟨2, ![4352, 9216]⟩ .f32) (ids : IVec ⟨1, ![8]⟩ 32) (z : FVec F ⟨2, ![8, 128]⟩ .f32)
    (h : Cert.Pre_slabs_exist10.fn a b p ids z = fun _ => 1#1) (k : Fin 2) : (ids (ix1 ⟨3 + k.val, by omega⟩)).toNat < 8 := by
  have e := in_range _ (congrFun h (ix1 k))
  exact lt_of_eq_of_lt (congrArg BitVec.toNat (extractStridedSlice_apply ![3] ids Cert.Pre_slabs_exist10.Facts.slices_S8_S2_3 (ix1 k) (ix1 ⟨3 + k.val, by omega⟩) (fun a => match a with | ⟨0, _⟩ => rfl)).symm) e

/-- The precondition on the slab numbers of the fourth forward call holds of them one by one. -/
theorem below11 (a : FVec F ⟨2, ![4352, 4096]⟩ .bf16) (b : FVec F ⟨2, ![4096, 9216]⟩ .bf16) (p : FVec F ⟨2, ![4352, 9216]⟩ .f32) (ids : IVec ⟨1, ![8]⟩ 32) (z : FVec F ⟨2, ![8, 128]⟩ .f32)
    (h : Cert.Pre_slabs_exist11.fn a b p ids z = fun _ => 1#1) (k : Fin 2) : (ids (ix1 ⟨5 + k.val, by omega⟩)).toNat < 8 := by
  have e := in_range _ (congrFun h (ix1 k))
  exact lt_of_eq_of_lt (congrArg BitVec.toNat (extractStridedSlice_apply ![5] ids Cert.Pre_slabs_exist11.Facts.slices_S8_S2_5 (ix1 k) (ix1 ⟨5 + k.val, by omega⟩) (fun a => match a with | ⟨0, _⟩ => rfl)).symm) e

/-- The precondition on the slab number of the last forward call holds of it. -/
theorem below12 (a : FVec F ⟨2, ![4352, 4096]⟩ .bf16) (b : FVec F ⟨2, ![4096, 9216]⟩ .bf16) (p : FVec F ⟨2, ![4352, 9216]⟩ .f32) (ids : IVec ⟨1, ![8]⟩ 32) (z : FVec F ⟨2, ![8, 128]⟩ .f32)
    (h : Cert.Pre_slabs_exist12.fn a b p ids z = fun _ => 1#1) (k : Fin 1) : (ids (ix1 ⟨7 + k.val, by omega⟩)).toNat < 8 := by
  have e := in_range _ (congrFun h (ix1 k))
  exact lt_of_eq_of_lt (congrArg BitVec.toNat (extractStridedSlice_apply ![7] ids Cert.Pre_slabs_exist12.Facts.slices_S8_S1_7 (ix1 k) (ix1 ⟨7 + k.val, by omega⟩) (fun a => match a with | ⟨0, _⟩ => rfl)).symm) e
end

/-- A column is in the slab with number `w` when it is at least `w` slab widths and below one more, compared signed. -/
theorem in_slab (w : BitVec 32) (h : w.toNat < 8) (c : ℕ) (hc : c < 9216) :
    IntOp.andi (IntOp.cmpi .sge (BitVec.ofNat 32 c) (IntOp.muli w 1152#32)) (IntOp.cmpi .slt (BitVec.ofNat 32 c) (IntOp.muli (IntOp.addi w 1#32) 1152#32)) = 1#1
      ↔ w.toNat = c / 1152 := by
  obtain ⟨v, rfl⟩ : ∃ v, w = BitVec.ofNat 32 v := ⟨w.toNat, by simp⟩
  have hv : v % 2 ^ 32 < 8 := by rw [BitVec.toNat_ofNat] at h; exact h
  obtain ⟨u, hu⟩ : ∃ u, u = v % 2 ^ 32 := ⟨_, rfl⟩
  have e : BitVec.ofNat 32 v = BitVec.ofNat 32 u := by
    apply BitVec.eq_of_toNat_eq
    rw [BitVec.toNat_ofNat, BitVec.toNat_ofNat]
    omega
  rw [e]
  have hu8 : u < 8 := by omega
  have e0 : IntOp.muli (BitVec.ofNat 32 u) 1152#32 = BitVec.ofNat 32 (u * 1152) := by
    apply BitVec.eq_of_toNat_eq
    simp [IntOp.muli]
  have e1 : IntOp.muli (IntOp.addi (BitVec.ofNat 32 u) 1#32) 1152#32 = BitVec.ofNat 32 ((u + 1) * 1152) := by
    apply BitVec.eq_of_toNat_eq
    simp [IntOp.muli, IntOp.addi]
  have ei : ∀ n, n < 2 ^ 31 → (BitVec.ofNat 32 n).toInt = n := fun n hn => by
    rw [BitVec.toInt_eq_toNat_cond, BitVec.toNat_ofNat, if_pos (by omega)]
    omega
  rw [and_one, e0, e1]
  have hl : IntOp.cmpi .sge (BitVec.ofNat 32 c) (BitVec.ofNat 32 (u * 1152)) = 1#1 ↔ u * 1152 ≤ c := by
    show BitVec.ofBool ((BitVec.ofNat 32 (u * 1152)).sle (BitVec.ofNat 32 c)) = 1#1 ↔ _
    rw [BitVec.sle, ei _ (by omega), ei _ (by omega), one_iff, decide_eq_true_eq]
    omega
  have hg : IntOp.cmpi .slt (BitVec.ofNat 32 c) (BitVec.ofNat 32 ((u + 1) * 1152)) = 1#1 ↔ c < (u + 1) * 1152 := by
    show BitVec.ofBool ((BitVec.ofNat 32 c).slt (BitVec.ofNat 32 ((u + 1) * 1152))) = 1#1 ↔ _
    rw [BitVec.slt, ei _ (by omega), ei _ (by omega), one_iff, decide_eq_true_eq]
    omega
  rw [hl, hg, BitVec.toNat_ofNat]
  omega

/-- The choice by such a column: of two values, the first in the slab, the second elsewhere. -/
theorem select_slab {α : Type} (w : BitVec 32) (h : w.toNat < 8) (c : ℕ) (hc : c < 9216) (x y : α) :
    Scalar.select (IntOp.andi (IntOp.cmpi .sge (BitVec.ofNat 32 c) (IntOp.muli w 1152#32)) (IntOp.cmpi .slt (BitVec.ofNat 32 c) (IntOp.muli (IntOp.addi w 1#32) 1152#32))) x y
      = if w.toNat = c / 1152 then x else y := by
  exact if_congr (in_slab w h c hc) rfl rfl

open Classical in
/-- The matrix `p` with some of its slabs, those whose numbers `s` lists, replaced by the slabs of the product `x y`. -/
def withSlabs {n : ℕ} (s : Fin n → ℕ) (x : Products.Mat 4352 4096) (y : Products.Mat 4096 9216) (p : Products.Mat 4352 9216) : Products.Mat 4352 9216 :=
  fun i => if ∃ k, s k = (i 1).val / 1152 then Products.nn x y i else p i

section
variable {α : Type}

/-- The dimension numbers of the gather that takes slabs, for an operand `[A, N, B]` and `C` slab numbers. -/
abbrev slabDims (A N B C : Nat)
    (wf : GatherDims.WF ⟨3, ![A, N, B]⟩ ⟨2, ![C, 1]⟩ ⟨3, ![A, C, B]⟩ [0, 2] [1] [] [1] [] 1 ![A, 1, B]) :
    GatherDims ⟨3, ![A, N, B]⟩ ⟨2, ![C, 1]⟩ ⟨3, ![A, C, B]⟩ where
  offsetDims := [0, 2]
  collapsedSliceDims := [1]
  operandBatchingDims := []
  startIndicesBatchingDims := []
  startIndexMap := [1]
  indexVectorDim := 1
  sliceSizes := ![A, 1, B]
  wf := wf

/-- The gather at an index: the operand at the slab whose number the index's slab has, read signed and clamped. -/
theorem gather_apply {A N B C : Nat} (hN : 0 < N)
    (wf : GatherDims.WF ⟨3, ![A, N, B]⟩ ⟨2, ![C, 1]⟩ ⟨3, ![A, C, B]⟩ [0, 2] [1] [] [1] [] 1 ![A, 1, B])
    (x : (⟨3, ![A, N, B]⟩ : Shape).Idx → α) (ids : IVec ⟨2, ![C, 1]⟩ 32) (r : Fin A) (j : Fin C) (e : Fin B) :
    Host.gather (slabDims A N B C wf) x ids (ix3 r j e) = x (ix3 r ⟨min (ids (ix2 j 0)).toInt.toNat (N - 1), by omega⟩ e) := by
  unfold Host.gather
  congr 1
  funext a
  refine Fin.ext ?_
  show (slabDims A N B C wf).start (ix3 r j e) ids a + (slabDims A N B C wf).batchCoord (ix3 r j e) a + (slabDims A N B C wf).offCoord (ix3 r j e) a = _
  have hb : ∀ a, (slabDims A N B C wf).batchCoord (ix3 r j e) a = 0 := fun a => GatherDims.batchCoord_eq_zero _ _ _ List.not_mem_nil
  rw [hb]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show (0 : Fin 3) ∉ ([1] : List (Fin 3)) by decide),
      dif_pos ((GatherDims.mem_sKept _ _).mpr ⟨(by decide : (0 : Fin 3) ∉ ([1] : List (Fin 3))), List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (slabDims A N B C wf).startIndexMap from List.mem_singleton.mpr rfl)]
    have hsi : (slabDims A N B C wf).siIdx (ix3 r j e) ⟨List.idxOf (1 : Fin 3) (slabDims A N B C wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · unfold GatherDims.start GatherDims.offCoord
    rw [dif_neg (show (2 : Fin 3) ∉ ([1] : List (Fin 3)) by decide),
      dif_pos ((GatherDims.mem_sKept _ _).mpr ⟨(by decide : (2 : Fin 3) ∉ ([1] : List (Fin 3))), List.not_mem_nil⟩)]
    simp only [Nat.zero_add]
    rfl

/-- The gather at an index whose slab has the number `v`. -/
theorem gather_eq {A N B C : Nat} (wf : GatherDims.WF ⟨3, ![A, N, B]⟩ ⟨2, ![C, 1]⟩ ⟨3, ![A, C, B]⟩ [0, 2] [1] [] [1] [] 1 ![A, 1, B])
    (x : (⟨3, ![A, N, B]⟩ : Shape).Idx → α) (ids : IVec ⟨2, ![C, 1]⟩ 32) (r : Fin A) (j : Fin C) (e : Fin B) (v : Fin N)
    (hv : (ids (ix2 j 0)).toInt.toNat = v.val) : Host.gather (slabDims A N B C wf) x ids (ix3 r j e) = x (ix3 r v e) := by
  have := v.isLt
  refine (gather_apply (by omega) wf x ids r j e).trans (congrArg (fun w => x (ix3 r w e)) (Fin.ext ?_))
  show min _ _ = _
  rw [hv]
  omega
end

end Cert.Slabs
-- ==== Proof.GradWInSibling.lean ====
module

public import proofs.«01_k».proof.Proof.Gen.Kernel6Ideal.Frame
public import proofs.«01_k».proof.Proof.Gen.Reference6Ideal.Run
public import proofs.«01_k».proof.Proof.Gen.Reference6Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The call for the sibling chip's slabs of the gradient of the input weights: its array is, slab by slab, the product of the
  transposed prenormed tokens with the named slab of the projection's gradient.
-/

@[expose] public section
set_option maxRecDepth 16384
noncomputable section
open Idealize.ShloMosaic Idealize.ShloMosaic.TcCoe Idealize.SL.Sem
open Cert.Kernel6Ideal Cert.Kernel6Ideal.Gen

namespace Cert.GradWInSibling

section
variable {F : FTy → Type} [FloatOps F] (m : (ℓ : Loc nD τ sig) → Buf (Elt F) ℓ)

/-- The number of the `j`th slab. -/
def slab (j : Fin 4) : ℕ := BitVec.toNat (m (((0 : Dev nD) : Thread nD τ).loc main_arg2) (ix1 j))

/-- The block of the gradient that a grid point reads: the column block that its slab number names. -/
theorem column (i : grid0.Coords) : cc0_transform_1 Facts₀.k0_off1_inb Facts₀.numel1_S1 (tbl m) i = ![0, slab m (i 1)] := by
  unfold cc0_transform_1 slab
  funext a
  fin_cases a
  · rfl
  · show BitVec.toNat (m (((0 : Dev nD) : Thread nD τ).loc main_arg2) _) = BitVec.toNat (m (((0 : Dev nD) : Thread nD τ).loc main_arg2) (ix1 (i 1)))
    congr 2
    funext b
    fin_cases b
    apply Fin.ext
    have h : (i 1).val < 4 := (i 1).isLt
    show (BitVec.ofNat 32 (i 1).val).toNat + 1 * 0 = (i 1).val
    rw [BitVec.toNat_ofNat]
    omega

/-- Every block lies in its array when every slab number is below 8. -/
theorem ok (h : ∀ j, slab m j < 8) : Ok m := by
  intro i
  rw [column m i]
  generalize hv : slab m (i 1) = v
  have hlt : v < 8 := hv ▸ h _
  refine ⟨fun a => ?_, ?_⟩
  · fin_cases a
    · show (0 + 1) * 4352 ≤ 4352
      omega
    · show (v + 1) * 1152 ≤ 9216
      omega
  · exact Or.inr (Or.inr ⟨by decide, rfl, rfl, rfl⟩)

/-- The blocks at point `t`: row tile `t / 4` of the weights, slab `t % 4`. -/
theorem idx (hO : Ok m) (t : Fin (cfgM m hO).N) : ((cfgM m hO).win 0).index t = ![0, t.val / 4]
    ∧ ((cfgM m hO).win 1).index t = ![0, slab m ⟨t.val % 4, by omega⟩] ∧ ((cfgM m hO).win 2).index t = ![t.val % 4, t.val / 4, 0] := by
  have h : ∀ t : Fin grid0.N, cc0_transform_0 (grid0.coords t) = ![0, t.val / 4] ∧ (grid0.coords t 1).val = t.val % 4
      ∧ cc0_transform_2 (grid0.coords t) = ![t.val % 4, t.val / 4, 0] := by decide +kernel
  obtain ⟨h0, h1, h2⟩ := h t
  refine ⟨h0, (column m (grid0.coords t)).trans ?_, h2⟩
  rw [show grid0.coords t 1 = (⟨t.val % 4, by omega⟩ : Fin 4) from Fin.ext h1]
end

/-- An index of a block by its row and column. -/
theorem idx3 {a b : ℕ} (y : (⟨3, ![1, a, b]⟩ : Shape).Idx) : ∃ (r : Fin a) (e : Fin b), y = ix3 0 r e :=
  ⟨y 1, y 2, by funext x; fin_cases x <;> [exact Subsingleton.elim (α := Fin 1) _ _; rfl; rfl]⟩

/-- One block's product. -/
theorem block (c : Dev nD) (i : grid0.Coords) (arg3 : Memref sig .tc .vmem S4352x1024 .bf16) (harg3 : arg3.IsWhole) (arg4 : Memref sig .tc .vmem S4352x1152 .bf16) (harg4 : arg4.IsWhole)
    (arg5 : Memref sig .tc .vmem S1x1024x1152 .f32) (harg5 : arg5.IsWhole) (x0 : Vec Ideal S4352x1024 .bf16) (x1 : Vec Ideal S4352x1152 .bf16) (xt0 : TbBuf0 (F := Ideal) c tbM0_0)
    (r : Fin 1024) (e : Fin 1152) :
    out0_A_2 c i arg3 harg3 arg4 harg4 arg5 harg5 x0 x1 xt0 (ix3 0 r e) = ∑ k : Fin 4352, x0 (ix2 k r) * x1 (ix2 k e) := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The named slabs of the transposed product, stacked. -/
def stack (h : ∀ j, slab m j < 8) (x : Products.Mat 4352 4096) (y : Products.Mat 4352 9216) : S4x4096x1152.Idx → EReal :=
  fun i => Products.tn x y (ix2 (i 1) ⟨slab m (i 0) * 1152 + (i 2).val, by have := h (i 0); have : (i 2).val < 1152 := (i 2).isLt; omega⟩)

/-- The call's array: the named slabs of the transposed product, stacked. -/
theorem array (h : ∀ j, slab m j < 8) (c : Dev nD) : (dats m (ok m h) 0 c).arrAt 2 (cfgM m (ok m h)).N
    = stack m h (m ((c.tc : Thread nD τ).loc main_arg0)) (m ((c.tc : Thread nD τ).loc main_arg1)) := by
  refine (dats m (ok m h) 0 c).arrAt_eq_of_covers 2 _ ?_ fun t hf y => ?_
  · refine Pipeline.Window.covers_of_index_surj _ rfl (by decide : ∀ a : Fin 3, 0 < S1x1024x1152.size a) fun β => ?_
    have b0 : (β (0 : Fin 3)).val < 4 := lt_of_lt_of_eq (β (0 : Fin 3)).isLt (by decide : (S4x4096x1152.size 0 + S1x1024x1152.size 0 - 1) / S1x1024x1152.size 0 = 4)
    have b1 : (β (1 : Fin 3)).val < 4 := lt_of_lt_of_eq (β (1 : Fin 3)).isLt (by decide : (S4x4096x1152.size 1 + S1x1024x1152.size 1 - 1) / S1x1024x1152.size 1 = 4)
    have b2 : (β (2 : Fin 3)).val < 1 := lt_of_lt_of_eq (β (2 : Fin 3)).isLt (by decide : (S4x4096x1152.size 2 + S1x1024x1152.size 2 - 1) / S1x1024x1152.size 2 = 1)
    refine ⟨⟨(β (1 : Fin 3)).val * 4 + (β (0 : Fin 3)).val, ?_⟩, fun a => ?_⟩
    · show _ < 16
      omega
    · rw [(idx m (ok m h) _).2.2]
      fin_cases a
      · show ((β (1 : Fin 3)).val * 4 + (β (0 : Fin 3)).val) % 4 = (β (0 : Fin 3)).val
        omega
      · show ((β (1 : Fin 3)).val * 4 + (β (0 : Fin 3)).val) / 4 = (β (1 : Fin 3)).val
        omega
      · show 0 = (β (2 : Fin 3)).val
        omega
  · obtain ⟨e0, e1, e2⟩ := idx m (ok m h) t
    obtain ⟨r, e, rfl⟩ := idx3 y
    blk_simp
    rw [after0_2]
    unfold outsAt0
    refine (block _ _ _ _ _ _ _ _ _ _ _ r e).trans ?_
    have he : (((cfgM m (ok m h)).win 2).blk t).view.emb (ix3 0 r e)
        = ix3 ⟨t.val % 4, by omega⟩ ⟨t.val / 4 * 1024 + r.val, by have : t.val < 16 := t.isLt; omega⟩ e := by
      blk_ext [e2]
    rw [he]
    unfold stack Products.tn
    refine (Products.sum_mul (fun k => ?_) (fun k => ?_))
    · blk_ext [iblk, e0, e2]
    · blk_ext [iblk, e1, e2]
      rfl
end

/-- The reference's stack, read at an index. -/
theorem read (x0 : Products.Mat 4352 4096) (x1 : Products.Mat 4352 9216) (x2 : IVec ⟨1, ![4]⟩ 32) (h : ∀ j : Fin 4, (x2 (ix1 j)).toNat < 8)
    (j : Fin 4) (r : Fin 4096) (e : Fin 1152) :
    Cert.Reference6Ideal.Read.val_main_v9 (F := Ideal) x0 x1 x2 (ix3 j r e)
      = ∑ k : Fin 4352, x0 (ix2 k r) * x1 (ix2 k ⟨(x2 (ix1 j)).toNat * 1152 + e.val, by have := h j; omega⟩) := by
  have hj := h j
  have he := e.isLt
  rw [Cert.Reference6Ideal.Read.val_main_v9_apply]
  rw [show Cert.Reference6Ideal.Read.idx_main_v9 (ix3 j r e) = ix3 r j e from by funext a; fin_cases a <;> rfl]
  refine (Slabs.gather_eq _ _ _ r j e ⟨(x2 (ix1 j)).toNat, hj⟩ ?_).trans ?_
  · rw [Cert.Reference6Ideal.Read.val_main_call0_v0_apply]
    rw [show Cert.Reference6Ideal.Read.idx_main_call0_v0 (ix2 j 0) = ix1 j from by funext a; fin_cases a; rfl]
    exact Slabs.toInt_of_lt _ hj
  rw [Cert.Reference6Ideal.Read.val_main_v7_apply, Cert.Reference6Ideal.Read.val_main_v5_apply, Cert.Reference6Ideal.Read.val_main_v4_apply]
  rw [Products.sum_comm]
  have hr := r.isLt
  refine Products.sum_mul (fun k => ?_) (fun k => ?_)
  · refine congrArg x0 (funext fun a => Fin.ext ?_)
    fin_cases a
    · rfl
    · show ((r.val * 8 + (x2 (ix1 j)).toNat) * 1152 + e.val) / 9216 = r.val
      omega
  · refine congrArg x1 (funext fun a => Fin.ext ?_)
    fin_cases a
    · rfl
    · show ((r.val * 8 + (x2 (ix1 j)).toNat) * 1152 + e.val) % 9216 = (x2 (ix1 j)).toNat * 1152 + e.val
      omega

/-- The call and the reference end with the same stack. -/
theorem algebraic : Cert.algebraic_Kernel6Ideal_Reference6Ideal (hKernel6Ideal := Cert.Kernel6Ideal.Gen.facts)
      (hReference6Ideal := Cert.Reference6Ideal.Gen.facts) (hPre_slabs_exist6 := Cert.Pre_slabs_exist6.Gen.facts) := by
  intro m g m' g' hpre hag
  have h : ∀ j, slab m j < 8 := Slabs.below6 _ _ _ (hpre 0)
  refine ⟨fun c => (dats m (ok m h) 0 c).arrAt 2 (cfgM m (ok m h)).N, ?_, ?_⟩
  · refine (θ_run _ _ _).mono (fun r hr c => ⟨(hr c).1 2, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c)⟩
  · refine (θ_run _ _ _).mono (fun r hr c => ?_) (Cert.Reference6Ideal.Value.run (F := Ideal) m' g')
    obtain ⟨h0, ha⟩ := hr c
    obtain ⟨e0, e1, e2⟩ := hag c
    obtain rfl : c = 0 := Subsingleton.elim _ _
    refine ⟨h0.trans ?_, ha⟩
    rw [Cert.Reference6Ideal.Read.val_main_v9_eq, e0, e1, e2]
    refine Eq.trans ?_ (array m h 0).symm
    funext i
    obtain ⟨j, r, e, rfl⟩ : ∃ (j : Fin 4) (r : Fin 4096) (e : Fin 1152), i = ix3 j r e := ⟨i 0, i 1, i 2, by funext x; fin_cases x <;> rfl⟩
    exact read _ _ _ h j r e

end Cert.GradWInSibling
-- ==== Proof.GradWInOwn.lean ====
module

public import proofs.«01_k».proof.Proof.Gen.Kernel7Ideal.Frame
public import proofs.«01_k».proof.Proof.Gen.Reference7Ideal.Run
public import proofs.«01_k».proof.Proof.Gen.Reference7Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The call for the own chip's slabs of the gradient of the input weights: its array is, slab by slab, the product of the
  transposed prenormed tokens with the named slab of the projection's gradient.
-/

@[expose] public section
set_option maxRecDepth 16384
noncomputable section
open Idealize.ShloMosaic Idealize.ShloMosaic.TcCoe Idealize.SL.Sem
open Cert.Kernel7Ideal Cert.Kernel7Ideal.Gen

namespace Cert.GradWInOwn

section
variable {F : FTy → Type} [FloatOps F] (m : (ℓ : Loc nD τ sig) → Buf (Elt F) ℓ)

/-- The number of the `j`th slab. -/
def slab (j : Fin 4) : ℕ := BitVec.toNat (m (((0 : Dev nD) : Thread nD τ).loc main_arg2) (ix1 j))

/-- The block of the gradient that a grid point reads: the column block that its slab number names. -/
theorem column (i : grid0.Coords) : cc0_transform_1 Facts₀.k0_off1_inb Facts₀.numel1_S1 (tbl m) i = ![0, slab m (i 1)] := by
  unfold cc0_transform_1 slab
  funext a
  fin_cases a
  · rfl
  · show BitVec.toNat (m (((0 : Dev nD) : Thread nD τ).loc main_arg2) _) = BitVec.toNat (m (((0 : Dev nD) : Thread nD τ).loc main_arg2) (ix1 (i 1)))
    congr 2
    funext b
    fin_cases b
    apply Fin.ext
    have h : (i 1).val < 4 := (i 1).isLt
    show (BitVec.ofNat 32 (i 1).val).toNat + 1 * 0 = (i 1).val
    rw [BitVec.toNat_ofNat]
    omega

/-- Every block lies in its array when every slab number is below 8. -/
theorem ok (h : ∀ j, slab m j < 8) : Ok m := by
  intro i
  rw [column m i]
  generalize hv : slab m (i 1) = v
  have hlt : v < 8 := hv ▸ h _
  refine ⟨fun a => ?_, ?_⟩
  · fin_cases a
    · show (0 + 1) * 4352 ≤ 4352
      omega
    · show (v + 1) * 1152 ≤ 9216
      omega
  · exact Or.inr (Or.inr ⟨by decide, rfl, rfl, rfl⟩)

/-- The blocks at point `t`: row tile `t / 4` of the weights, slab `t % 4`. -/
theorem idx (hO : Ok m) (t : Fin (cfgM m hO).N) : ((cfgM m hO).win 0).index t = ![0, t.val / 4]
    ∧ ((cfgM m hO).win 1).index t = ![0, slab m ⟨t.val % 4, by omega⟩] ∧ ((cfgM m hO).win 3).index t = ![t.val % 4, t.val / 4, 0] := by
  have h : ∀ t : Fin grid0.N, cc0_transform_0 (grid0.coords t) = ![0, t.val / 4] ∧ (grid0.coords t 1).val = t.val % 4
      ∧ cc0_transform_3 (grid0.coords t) = ![t.val % 4, t.val / 4, 0] := by decide +kernel
  obtain ⟨h0, h1, h2⟩ := h t
  refine ⟨h0, (column m (grid0.coords t)).trans ?_, h2⟩
  rw [show grid0.coords t 1 = (⟨t.val % 4, by omega⟩ : Fin 4) from Fin.ext h1]
end

/-- An index of a block by its row and column. -/
theorem idx3 {a b : ℕ} (y : (⟨3, ![1, a, b]⟩ : Shape).Idx) : ∃ (r : Fin a) (e : Fin b), y = ix3 0 r e :=
  ⟨y 1, y 2, by funext x; fin_cases x <;> [exact Subsingleton.elim (α := Fin 1) _ _; rfl; rfl]⟩

/-- One block's product. -/
theorem block (c : Dev nD) (i : grid0.Coords) (arg3 : Memref sig .tc .vmem S4352x1024 .bf16) (harg3 : arg3.IsWhole) (arg4 : Memref sig .tc .vmem S4352x1152 .bf16) (harg4 : arg4.IsWhole)
    (arg5 : Memref sig .tc .vmem S8x128 .f32) (harg5 : arg5.IsWhole) (arg6 : Memref sig .tc .vmem S1x1024x1152 .f32) (harg6 : arg6.IsWhole) (x0 : Vec Ideal S4352x1024 .bf16) (x1 : Vec Ideal S4352x1152 .bf16) (x2 : Vec Ideal S8x128 .f32) (xt0 : TbBuf0 (F := Ideal) c tbM0_0)
    (r : Fin 1024) (e : Fin 1152) :
    out0_A_3 c i arg3 harg3 arg4 harg4 arg5 harg5 arg6 harg6 x0 x1 x2 xt0 (ix3 0 r e) = ∑ k : Fin 4352, x0 (ix2 k r) * x1 (ix2 k e) := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The named slabs of the transposed product, stacked. -/
def stack (h : ∀ j, slab m j < 8) (x : Products.Mat 4352 4096) (y : Products.Mat 4352 9216) : S4x4096x1152.Idx → EReal :=
  fun i => Products.tn x y (ix2 (i 1) ⟨slab m (i 0) * 1152 + (i 2).val, by have := h (i 0); have : (i 2).val < 1152 := (i 2).isLt; omega⟩)

/-- The call's array: the named slabs of the transposed product, stacked. -/
theorem array (h : ∀ j, slab m j < 8) (c : Dev nD) : (dats m (ok m h) 0 c).arrAt 3 (cfgM m (ok m h)).N
    = stack m h (m ((c.tc : Thread nD τ).loc main_arg0)) (m ((c.tc : Thread nD τ).loc main_arg1)) := by
  refine (dats m (ok m h) 0 c).arrAt_eq_of_covers 3 _ ?_ fun t hf y => ?_
  · refine Pipeline.Window.covers_of_index_surj _ rfl (by decide : ∀ a : Fin 3, 0 < S1x1024x1152.size a) fun β => ?_
    have b0 : (β (0 : Fin 3)).val < 4 := lt_of_lt_of_eq (β (0 : Fin 3)).isLt (by decide : (S4x4096x1152.size 0 + S1x1024x1152.size 0 - 1) / S1x1024x1152.size 0 = 4)
    have b1 : (β (1 : Fin 3)).val < 4 := lt_of_lt_of_eq (β (1 : Fin 3)).isLt (by decide : (S4x4096x1152.size 1 + S1x1024x1152.size 1 - 1) / S1x1024x1152.size 1 = 4)
    have b2 : (β (2 : Fin 3)).val < 1 := lt_of_lt_of_eq (β (2 : Fin 3)).isLt (by decide : (S4x4096x1152.size 2 + S1x1024x1152.size 2 - 1) / S1x1024x1152.size 2 = 1)
    refine ⟨⟨(β (1 : Fin 3)).val * 4 + (β (0 : Fin 3)).val, ?_⟩, fun a => ?_⟩
    · show _ < 16
      omega
    · rw [(idx m (ok m h) _).2.2]
      fin_cases a
      · show ((β (1 : Fin 3)).val * 4 + (β (0 : Fin 3)).val) % 4 = (β (0 : Fin 3)).val
        omega
      · show ((β (1 : Fin 3)).val * 4 + (β (0 : Fin 3)).val) / 4 = (β (1 : Fin 3)).val
        omega
      · show 0 = (β (2 : Fin 3)).val
        omega
  · obtain ⟨e0, e1, e2⟩ := idx m (ok m h) t
    obtain ⟨r, e, rfl⟩ := idx3 y
    blk_simp
    rw [after0_3]
    unfold outsAt0
    refine (block _ _ _ _ _ _ _ _ _ _ _ _ _ _ r e).trans ?_
    have he : (((cfgM m (ok m h)).win 3).blk t).view.emb (ix3 0 r e)
        = ix3 ⟨t.val % 4, by omega⟩ ⟨t.val / 4 * 1024 + r.val, by have : t.val < 16 := t.isLt; omega⟩ e := by
      blk_ext [e2]
    rw [he]
    unfold stack Products.tn
    refine (Products.sum_mul (fun k => ?_) (fun k => ?_))
    · blk_ext [iblk, e0, e2]
    · blk_ext [iblk, e1, e2]
      rfl
end

/-- The reference's stack, read at an index. -/
theorem read (x0 : Products.Mat 4352 4096) (x1 : Products.Mat 4352 9216) (x2 : IVec ⟨1, ![4]⟩ 32) (h : ∀ j : Fin 4, (x2 (ix1 j)).toNat < 8)
    (j : Fin 4) (r : Fin 4096) (e : Fin 1152) :
    Cert.Reference7Ideal.Read.val_main_v9 (F := Ideal) x0 x1 x2 (ix3 j r e)
      = ∑ k : Fin 4352, x0 (ix2 k r) * x1 (ix2 k ⟨(x2 (ix1 j)).toNat * 1152 + e.val, by have := h j; omega⟩) := by
  have hj := h j
  have he := e.isLt
  rw [Cert.Reference7Ideal.Read.val_main_v9_apply]
  rw [show Cert.Reference7Ideal.Read.idx_main_v9 (ix3 j r e) = ix3 r j e from by funext a; fin_cases a <;> rfl]
  refine (Slabs.gather_eq _ _ _ r j e ⟨(x2 (ix1 j)).toNat, hj⟩ ?_).trans ?_
  · rw [Cert.Reference7Ideal.Read.val_main_call0_v0_apply]
    rw [show Cert.Reference7Ideal.Read.idx_main_call0_v0 (ix2 j 0) = ix1 j from by funext a; fin_cases a; rfl]
    exact Slabs.toInt_of_lt _ hj
  rw [Cert.Reference7Ideal.Read.val_main_v7_apply, Cert.Reference7Ideal.Read.val_main_v5_apply, Cert.Reference7Ideal.Read.val_main_v4_apply]
  rw [Products.sum_comm]
  have hr := r.isLt
  refine Products.sum_mul (fun k => ?_) (fun k => ?_)
  · refine congrArg x0 (funext fun a => Fin.ext ?_)
    fin_cases a
    · rfl
    · show ((r.val * 8 + (x2 (ix1 j)).toNat) * 1152 + e.val) / 9216 = r.val
      omega
  · refine congrArg x1 (funext fun a => Fin.ext ?_)
    fin_cases a
    · rfl
    · show ((r.val * 8 + (x2 (ix1 j)).toNat) * 1152 + e.val) % 9216 = (x2 (ix1 j)).toNat * 1152 + e.val
      omega

/-- The call and the reference end with the same stack. -/
theorem algebraic : Cert.algebraic_Kernel7Ideal_Reference7Ideal (hKernel7Ideal := Cert.Kernel7Ideal.Gen.facts)
      (hReference7Ideal := Cert.Reference7Ideal.Gen.facts) (hPre_slabs_exist7 := Cert.Pre_slabs_exist7.Gen.facts) := by
  intro m g m' g' hpre hag
  have h : ∀ j, slab m j < 8 := Slabs.below7 _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).1 2).trans (((dats m (ok m h) 0 c).arrAt_in 2 rfl _).trans ((A_eq m (ok m h) c 2).trans (V_main_arg3 m c)))⟩
  · refine (θ_run _ _ _).mono (fun r hr c => ?_) (Cert.Reference7Ideal.Value.run (F := Ideal) m' g')
    obtain ⟨h0, ha⟩ := hr c
    obtain ⟨e0, e1, e2, -⟩ := hag c
    obtain rfl : c = 0 := Subsingleton.elim _ _
    refine ⟨h0.trans ?_, ha⟩
    rw [Cert.Reference7Ideal.Read.val_main_v9_eq, e0, e1, e2]
    refine Eq.trans ?_ (array m h 0).symm
    funext i
    obtain ⟨j, r, e, rfl⟩ : ∃ (j : Fin 4) (r : Fin 4096) (e : Fin 1152), i = ix3 j r e := ⟨i 0, i 1, i 2, by funext x; fin_cases x <;> rfl⟩
    exact read _ _ _ h j r e

end Cert.GradWInOwn
-- ==== Proof.Proj0.lean ====
module

public import proofs.«01_k».proof.Proof.Gen.Kernel8Ideal.Frame
public import proofs.«01_k».proof.Proof.Gen.Reference8Ideal.Run
public import proofs.«01_k».proof.Proof.Gen.Reference8Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The forward call for the first slab of the projection: its array is the projection so far, with the slab that it names replaced by
  that of the product of the prenormed tokens and the gathered weights.
-/

@[expose] public section
set_option maxRecDepth 16384
noncomputable section
open Idealize.ShloMosaic Idealize.ShloMosaic.TcCoe Idealize.SL.Sem
open Cert.Kernel8Ideal Cert.Kernel8Ideal.Gen

namespace Cert.Proj0

section
variable {F : FTy → Type} [FloatOps F] (m : (ℓ : Loc nD τ sig) → Buf (Elt F) ℓ)

/-- The place in the order of the slab that this call computes. -/
def place (k : Fin 1) : Fin 8 := ⟨0 + k.val, by omega⟩

/-- The number of the slab that this call computes. -/
def slab (k : Fin 1) : ℕ := BitVec.toNat (m (((0 : Dev nD) : Thread nD τ).loc main_arg3) (ix1 (place k)))

/-- The block of the weights that a grid point reads: the column block that its slab number names. -/
theorem column (i : grid0.Coords) : cc0_transform_1 Facts₀.k0_off1_inb Facts₀.numel1_S1 (tbl m) i = ![0, slab m (i 0)] := by
  have ht : tbl m 0 = m (((0 : Dev nD) : Thread nD τ).loc main_arg3) := V_main_arg3 m 0
  unfold slab
  rw [← ht]
  generalize tbl m = pf
  unfold cc0_transform_1
  funext a
  fin_cases a
  · rfl
  · show BitVec.toNat (pf 0 _) = BitVec.toNat (pf 0 (ix1 (place (i 0))))
    congr 2
    funext b
    fin_cases b
    apply Fin.ext
    have h : (i 0).val < 1 := (i 0).isLt
    show (BitVec.ofNat 32 0 + BitVec.ofNat 32 (i 0).val).toNat + 1 * 0 = 0 + (i 0).val
    rw [BitVec.toNat_add, BitVec.toNat_ofNat, BitVec.toNat_ofNat]
    omega

/-- The block of the result that a grid point writes: a row tile of the same column block. -/
theorem target (i : grid0.Coords) : cc0_transform_4 Facts₀.k0_off1_inb Facts₀.numel1_S1 (tbl m) i = ![(i 1).val, slab m (i 0)] := by
  refine Eq.trans ?_ (congrArg (fun f : Fin 2 → ℕ => ![(i 1).val, f 1]) (column m i))
  have h : (i 1).val < 4 := (i 1).isLt
  funext a
  fin_cases a
  · show (BitVec.ofNat 32 (i 1).val).toNat = (i 1).val
    rw [BitVec.toNat_ofNat]
    omega
  · rfl

/-- Every block lies in its array when every slab number is below 8. -/
theorem ok (h : ∀ k, slab m k < 8) : Ok m := by
  refine ⟨fun i => ?_, fun i => ?_⟩
  · rw [column m i]
    generalize hv : slab m (i 0) = v
    have hlt : v < 8 := hv ▸ h _
    refine ⟨fun a => ?_, ?_⟩
    · fin_cases a
      · show (0 + 1) * 4096 ≤ 4096
        omega
      · show (v + 1) * 1152 ≤ 9216
        omega
    · exact Or.inr (Or.inr ⟨by decide, rfl, rfl, rfl⟩)
  · rw [target m i]
    generalize hv : slab m (i 0) = v
    have hlt : v < 8 := hv ▸ h _
    have hi : (i 1).val < 4 := (i 1).isLt
    refine ⟨fun a => ?_, ?_⟩
    · fin_cases a
      · show ((i 1).val + 1) * 1088 ≤ 4352
        omega
      · show (v + 1) * 1152 ≤ 9216
        omega
    · exact Or.inl rfl

/-- The blocks at point `t`: row tile `t % 4`, slab `t / 4`. -/
theorem idx (hO : Ok m) (t : Fin (cfgM m hO).N) : ((cfgM m hO).win 0).index t = ![t.val % 4, 0]
    ∧ ((cfgM m hO).win 1).index t = ![0, slab m ⟨t.val / 4, by have : t.val < 4 := t.isLt; omega⟩]
    ∧ ((cfgM m hO).win 3).index t = ![t.val % 4, slab m ⟨t.val / 4, by have : t.val < 4 := t.isLt; omega⟩] := by
  have h : ∀ t : Fin grid0.N, cc0_transform_0 (grid0.coords t) = ![t.val % 4, 0] ∧ (grid0.coords t 0).val = t.val / 4
      ∧ (grid0.coords t 1).val = t.val % 4 := by decide +kernel
  obtain ⟨h0, h1, h2⟩ := h t
  have ht : t.val < 4 := t.isLt
  have e : grid0.coords t 0 = (⟨t.val / 4, by omega⟩ : Fin 1) := Fin.ext h1
  refine ⟨h0, (column m (grid0.coords t)).trans ?_, (target m (grid0.coords t)).trans ?_⟩
  · rw [e]
  · rw [e, h2]

/-- What the call's result holds when it starts: the projection so far. -/
theorem start (c : Dev nD) : V m c main_v0 = m ((c.tc : Thread nD τ).loc main_arg2) := by
  entry_read
  rfl
end

/-- One block's product. -/
theorem block (c : Dev nD) (i : grid0.Coords) (arg3 : Memref sig .tc .vmem S1088x4096 .bf16) (harg3 : arg3.IsWhole) (arg4 : Memref sig .tc .vmem S4096x1152 .bf16) (harg4 : arg4.IsWhole)
    (arg5 : Memref sig .tc .vmem S8x128 .f32) (harg5 : arg5.IsWhole) (arg7 : Memref sig .tc .vmem S1088x1152 .f32) (harg7 : arg7.IsWhole) (x0 : Vec Ideal S1088x4096 .bf16) (x1 : Vec Ideal S4096x1152 .bf16) (x2 : Vec Ideal S8x128 .f32) (xt0 : TbBuf0 (F := Ideal) c tbM0_0)
    (r : Fin 1088) (e : Fin 1152) :
    out0_A_3 c i arg3 harg3 arg4 harg4 arg5 harg5 arg7 harg7 x0 x1 x2 xt0 (ix2 r e) = ∑ k : Fin 4096, x0 (ix2 r k) * x1 (ix2 k e) := by
  unfold out0_A_3
  rw [View.read_writes_eq_canon _ _ _ (cover0_A_3 c i arg3 harg3 arg4 harg4 arg5 harg5 arg7 harg7 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The call's array: the projection so far with this call's slab computed. -/
theorem array (h : ∀ k, slab m k < 8) (c : Dev nD) : (dats m (ok m h) 0 c).arrAt 3 (cfgM m (ok m h)).N
    = Slabs.withSlabs (slab m) (m ((c.tc : Thread nD τ).loc main_arg0)) (m ((c.tc : Thread nD τ).loc main_arg1)) (m ((c.tc : Thread nD τ).loc main_arg2)) := by
  refine (dats m (ok m h) 0 c).arrAt_eq_of_coversWhere_of_agree 3 _ (Q := fun β => ∃ k, slab m k = β (1 : Fin 2)) ⟨(by decide : ∀ a : Fin 2, 0 < S1088x1152.size a), ?_, ?_⟩ (fun t hf y => ?_) (fun j hj => ?_)
  · intro t hf
    refine ⟨⟨⟨t.val / 4, by have : t.val < 4 := t.isLt; omega⟩, ?_⟩, fun a => Pipeline.Window.xsize_eq_or_end _ rfl _ a⟩
    rw [(idx m (ok m h) t).2.2]
    rfl
  · intro β hβ
    obtain ⟨k, hk⟩ := hβ
    have b0 : (β (0 : Fin 2)).val < 4 := lt_of_lt_of_eq (β (0 : Fin 2)).isLt (by decide : (S4352x9216.size 0 + S1088x1152.size 0 - 1) / S1088x1152.size 0 = 4)
    obtain ⟨t, -, hf, ht⟩ := Pipeline.Window.exists_flush_same_index ((cfgM m (ok m h)).win 3) rfl ⟨k.val * 4 + (β (0 : Fin 2)).val, by show _ < 4; omega⟩
    refine ⟨t, fun a => ?_, hf⟩
    rw [ht, (idx m (ok m h) _).2.2]
    fin_cases a
    · show (k.val * 4 + (β (0 : Fin 2)).val) % 4 = (β (0 : Fin 2)).val
      omega
    · refine Eq.trans (congrArg (slab m) (Fin.ext ?_)) hk
      show (k.val * 4 + (β (0 : Fin 2)).val) / 4 = k.val
      omega
  · obtain ⟨e0, e1, e2⟩ := idx m (ok m h) t
    obtain ⟨r, e, rfl⟩ := Products.idx2 y
    have ht : t.val < 4 := t.isLt
    have hs := h ⟨t.val / 4, by omega⟩
    blk_simp
    rw [after0_3]
    unfold outsAt0
    refine (block _ _ _ _ _ _ _ _ _ _ _ _ _ _ r e).trans ?_
    have he : (((cfgM m (ok m h)).win 3).blk t).view.emb (ix2 r e)
        = ix2 ⟨t.val % 4 * 1088 + r.val, by omega⟩ ⟨slab m ⟨t.val / 4, by omega⟩ * 1152 + e.val, by omega⟩ := by
      blk_ext [e2]
    rw [he]
    unfold Slabs.withSlabs Products.nn
    rw [if_pos ⟨⟨t.val / 4, by omega⟩, by show _ = (_ * 1152 + e.val) / 1152; omega⟩]
    refine (Products.sum_mul (fun k => ?_) (fun k => ?_))
    · blk_ext [iblk, V_main_arg0, e0]
    · blk_ext [iblk, V_main_arg1, e1]
  · show V m c main_v0 _ = _
    rw [start]
    unfold Slabs.withSlabs
    rw [if_neg]
    intro hk
    exact hj hk
end

/-- The word that the reference compares the columns with. -/
theorem word (x3 : IVec ⟨1, ![8]⟩ 32) (i : Cert.Reference8Ideal.S_.Idx) : Cert.Reference8Ideal.Read.val_main_v1 (F := Ideal) x3 i = x3 (ix1 (place 0)) := by
  show Cert.Reference8Ideal.Read.val_main_v0 (F := Ideal) x3 _ = _
  rw [Cert.Reference8Ideal.Read.val_main_v0_apply]
  refine congrArg x3 (funext fun a => Fin.ext ?_)
  fin_cases a
  exact Nat.lt_one_iff.mp (Fin.isLt (n := 1) _)

/-- The reference's product, read at an index. -/
theorem whole (x0 : Products.Mat 4352 4096) (x1 : Products.Mat 4096 9216) (r : Fin 4352) (e : Fin 9216) :
    Cert.Reference8Ideal.Read.val_main_v4 (F := Ideal) x0 x1 (ix2 r e) = Products.nn x0 x1 (ix2 r e) := by
  unfold Cert.Reference8Ideal.Read.val_main_v4 Cert.Reference8Ideal.Read.val_main_v3 Cert.Reference8Ideal.Read.val_main_v2 Products.nn
  pointwise

/-- The reference's choice: the columns of the slab. -/
theorem choice (x3 : IVec ⟨1, ![8]⟩ 32) (h : ∀ k, (x3 (ix1 (place k))).toNat < 8) (r : Fin 4352) (e : Fin 9216) (x y : EReal) :
    Scalar.select (Cert.Reference8Ideal.Read.val_main_v13 (F := Ideal) x3 (ix2 r e)) x y = if (x3 (ix1 (place 0))).toNat = e.val / 1152 then x else y := by
  rw [Cert.Reference8Ideal.Read.val_main_v13_apply, Cert.Reference8Ideal.Read.val_main_v8_apply, Cert.Reference8Ideal.Read.val_main_v12_apply,
    Cert.Reference8Ideal.Read.val_main_v7_apply, Cert.Reference8Ideal.Read.val_main_v6_apply, word,
    Cert.Reference8Ideal.Read.val_main_v11_apply, Cert.Reference8Ideal.Read.val_main_v10_apply, Cert.Reference8Ideal.Read.val_main_v9_apply, word]
  exact Slabs.select_slab _ (h _) e.val e.isLt x y

/-- The reference's array: the projection so far with the named slab computed. -/
theorem read (x0 : Products.Mat 4352 4096) (x1 : Products.Mat 4096 9216) (x2 : Products.Mat 4352 9216) (x3 : IVec ⟨1, ![8]⟩ 32) (h : ∀ k, (x3 (ix1 (place k))).toNat < 8) :
    Cert.Reference8Ideal.Read.val_main_v14 (F := Ideal) x0 x1 x2 x3 = Slabs.withSlabs (fun k => (x3 (ix1 (place k))).toNat) x0 x1 x2 := by
  funext i
  obtain ⟨r, e, rfl⟩ := Products.idx2 i
  rw [Cert.Reference8Ideal.Read.val_main_v14_apply, choice x3 h, whole]
  unfold Slabs.withSlabs
  by_cases h0 : (x3 (ix1 (place 0))).toNat = e.val / 1152
  · rw [if_pos h0, if_pos ⟨0, h0⟩]
  · rw [if_neg h0, if_neg]
    rintro ⟨k, hk⟩
    obtain rfl : k = 0 := Subsingleton.elim _ _
    exact h0 hk

/-- The call and the reference end with the same array. -/
theorem algebraic : Cert.algebraic_Kernel8Ideal_Reference8Ideal (hKernel8Ideal := Cert.Kernel8Ideal.Gen.facts)
      (hReference8Ideal := Cert.Reference8Ideal.Gen.facts) (hPre_slabs_exist8 := Cert.Pre_slabs_exist8.Gen.facts) := by
  intro m g m' g' hpre hag
  have h : ∀ k, slab m k < 8 := Slabs.below8 _ _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).1 2).trans (((dats m (ok m h) 0 c).arrAt_in 2 rfl _).trans ((A_eq m (ok m h) c 2).trans (V_main_arg4 m c)))⟩
  · refine (θ_run _ _ _).mono (fun r hr c => ?_) (Cert.Reference8Ideal.Value.run (F := Ideal) m' g')
    obtain ⟨h0, ha⟩ := hr c
    obtain ⟨e0, e1, e2, e3, -⟩ := hag c
    obtain rfl : c = 0 := Subsingleton.elim _ _
    refine ⟨h0.trans ?_, ha⟩
    rw [Cert.Reference8Ideal.Read.val_main_v14_eq, e0, e1, e2, e3]
    exact (read _ _ _ _ h).trans (array m h 0).symm

end Cert.Proj0
-- ==== Proof.Proj1.lean ====
module

public import proofs.«01_k».proof.Proof.Gen.Kernel9Ideal.Frame
public import proofs.«01_k».proof.Proof.Gen.Reference9Ideal.Run
public import proofs.«01_k».proof.Proof.Gen.Reference9Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The forward call for the second and third slabs of the projection: its array is the projection so far, with the slabs that it names replaced by
  those of the product of the prenormed tokens and the gathered weights.
-/

@[expose] public section
set_option maxRecDepth 16384
noncomputable section
open Idealize.ShloMosaic Idealize.ShloMosaic.TcCoe Idealize.SL.Sem
open Cert.Kernel9Ideal Cert.Kernel9Ideal.Gen

namespace Cert.Proj1

section
variable {F : FTy → Type} [FloatOps F] (m : (ℓ : Loc nD τ sig) → Buf (Elt F) ℓ)

/-- The place in the order of the `k`th slab this call computes. -/
def place (k : Fin 2) : Fin 8 := ⟨1 + k.val, by omega⟩

/-- The number of the `k`th slab this call computes. -/
def slab (k : Fin 2) : ℕ := BitVec.toNat (m (((0 : Dev nD) : Thread nD τ).loc main_arg3) (ix1 (place k)))

/-- The block of the weights that a grid point reads: the column block that its slab number names. -/
theorem column (i : grid0.Coords) : cc0_transform_1 Facts₀.k0_off1_inb Facts₀.numel1_S1 (tbl m) i = ![0, slab m (i 0)] := by
  have ht : tbl m 0 = m (((0 : Dev nD) : Thread nD τ).loc main_arg3) := V_main_arg3 m 0
  unfold slab
  rw [← ht]
  generalize tbl m = pf
  unfold cc0_transform_1
  funext a
  fin_cases a
  · rfl
  · show BitVec.toNat (pf 0 _) = BitVec.toNat (pf 0 (ix1 (place (i 0))))
    congr 2
    funext b
    fin_cases b
    apply Fin.ext
    have h : (i 0).val < 2 := (i 0).isLt
    show (BitVec.ofNat 32 1 + BitVec.ofNat 32 (i 0).val).toNat + 1 * 0 = 1 + (i 0).val
    rw [BitVec.toNat_add, BitVec.toNat_ofNat, BitVec.toNat_ofNat]
    omega

/-- The block of the result that a grid point writes: a row tile of the same column block. -/
theorem target (i : grid0.Coords) : cc0_transform_4 Facts₀.k0_off1_inb Facts₀.numel1_S1 (tbl m) i = ![(i 1).val, slab m (i 0)] := by
  refine Eq.trans ?_ (congrArg (fun f : Fin 2 → ℕ => ![(i 1).val, f 1]) (column m i))
  have h : (i 1).val < 4 := (i 1).isLt
  funext a
  fin_cases a
  · show (BitVec.ofNat 32 (i 1).val).toNat = (i 1).val
    rw [BitVec.toNat_ofNat]
    omega
  · rfl

/-- Every block lies in its array when every slab number is below 8. -/
theorem ok (h : ∀ k, slab m k < 8) : Ok m := by
  refine ⟨fun i => ?_, fun i => ?_⟩
  · rw [column m i]
    generalize hv : slab m (i 0) = v
    have hlt : v < 8 := hv ▸ h _
    refine ⟨fun a => ?_, ?_⟩
    · fin_cases a
      · show (0 + 1) * 4096 ≤ 4096
        omega
      · show (v + 1) * 1152 ≤ 9216
        omega
    · exact Or.inr (Or.inr ⟨by decide, rfl, rfl, rfl⟩)
  · rw [target m i]
    generalize hv : slab m (i 0) = v
    have hlt : v < 8 := hv ▸ h _
    have hi : (i 1).val < 4 := (i 1).isLt
    refine ⟨fun a => ?_, ?_⟩
    · fin_cases a
      · show ((i 1).val + 1) * 1088 ≤ 4352
        omega
      · show (v + 1) * 1152 ≤ 9216
        omega
    · exact Or.inl rfl

/-- The blocks at point `t`: row tile `t % 4`, slab `t / 4`. -/
theorem idx (hO : Ok m) (t : Fin (cfgM m hO).N) : ((cfgM m hO).win 0).index t = ![t.val % 4, 0]
    ∧ ((cfgM m hO).win 1).index t = ![0, slab m ⟨t.val / 4, by have : t.val < 8 := t.isLt; omega⟩]
    ∧ ((cfgM m hO).win 3).index t = ![t.val % 4, slab m ⟨t.val / 4, by have : t.val < 8 := t.isLt; omega⟩] := by
  have h : ∀ t : Fin grid0.N, cc0_transform_0 (grid0.coords t) = ![t.val % 4, 0] ∧ (grid0.coords t 0).val = t.val / 4
      ∧ (grid0.coords t 1).val = t.val % 4 := by decide +kernel
  obtain ⟨h0, h1, h2⟩ := h t
  have ht : t.val < 8 := t.isLt
  have e : grid0.coords t 0 = (⟨t.val / 4, by omega⟩ : Fin 2) := Fin.ext h1
  refine ⟨h0, (column m (grid0.coords t)).trans ?_, (target m (grid0.coords t)).trans ?_⟩
  · rw [e]
  · rw [e, h2]

/-- What the call's result holds when it starts: the projection so far. -/
theorem start (c : Dev nD) : V m c main_v0 = m ((c.tc : Thread nD τ).loc main_arg2) := by
  entry_read
  rfl
end

/-- One block's product. -/
theorem block (c : Dev nD) (i : grid0.Coords) (arg3 : Memref sig .tc .vmem S1088x4096 .bf16) (harg3 : arg3.IsWhole) (arg4 : Memref sig .tc .vmem S4096x1152 .bf16) (harg4 : arg4.IsWhole)
    (arg5 : Memref sig .tc .vmem S8x128 .f32) (harg5 : arg5.IsWhole) (arg7 : Memref sig .tc .vmem S1088x1152 .f32) (harg7 : arg7.IsWhole) (x0 : Vec Ideal S1088x4096 .bf16) (x1 : Vec Ideal S4096x1152 .bf16) (x2 : Vec Ideal S8x128 .f32) (xt0 : TbBuf0 (F := Ideal) c tbM0_0)
    (r : Fin 1088) (e : Fin 1152) :
    out0_A_3 c i arg3 harg3 arg4 harg4 arg5 harg5 arg7 harg7 x0 x1 x2 xt0 (ix2 r e) = ∑ k : Fin 4096, x0 (ix2 r k) * x1 (ix2 k e) := by
  unfold out0_A_3
  rw [View.read_writes_eq_canon _ _ _ (cover0_A_3 c i arg3 harg3 arg4 harg4 arg5 harg5 arg7 harg7 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The call's array: the projection so far with this call's slabs computed. -/
theorem array (h : ∀ k, slab m k < 8) (c : Dev nD) : (dats m (ok m h) 0 c).arrAt 3 (cfgM m (ok m h)).N
    = Slabs.withSlabs (slab m) (m ((c.tc : Thread nD τ).loc main_arg0)) (m ((c.tc : Thread nD τ).loc main_arg1)) (m ((c.tc : Thread nD τ).loc main_arg2)) := by
  refine (dats m (ok m h) 0 c).arrAt_eq_of_coversWhere_of_agree 3 _ (Q := fun β => ∃ k, slab m k = β (1 : Fin 2)) ⟨(by decide : ∀ a : Fin 2, 0 < S1088x1152.size a), ?_, ?_⟩ (fun t hf y => ?_) (fun j hj => ?_)
  · intro t hf
    refine ⟨⟨⟨t.val / 4, by have : t.val < 8 := t.isLt; omega⟩, ?_⟩, fun a => Pipeline.Window.xsize_eq_or_end _ rfl _ a⟩
    rw [(idx m (ok m h) t).2.2]
    rfl
  · intro β hβ
    obtain ⟨k, hk⟩ := hβ
    have b0 : (β (0 : Fin 2)).val < 4 := lt_of_lt_of_eq (β (0 : Fin 2)).isLt (by decide : (S4352x9216.size 0 + S1088x1152.size 0 - 1) / S1088x1152.size 0 = 4)
    obtain ⟨t, -, hf, ht⟩ := Pipeline.Window.exists_flush_same_index ((cfgM m (ok m h)).win 3) rfl ⟨k.val * 4 + (β (0 : Fin 2)).val, by show _ < 8; omega⟩
    refine ⟨t, fun a => ?_, hf⟩
    rw [ht, (idx m (ok m h) _).2.2]
    fin_cases a
    · show (k.val * 4 + (β (0 : Fin 2)).val) % 4 = (β (0 : Fin 2)).val
      omega
    · refine Eq.trans (congrArg (slab m) (Fin.ext ?_)) hk
      show (k.val * 4 + (β (0 : Fin 2)).val) / 4 = k.val
      omega
  · obtain ⟨e0, e1, e2⟩ := idx m (ok m h) t
    obtain ⟨r, e, rfl⟩ := Products.idx2 y
    have ht : t.val < 8 := t.isLt
    have hs := h ⟨t.val / 4, by omega⟩
    blk_simp
    rw [after0_3]
    unfold outsAt0
    refine (block _ _ _ _ _ _ _ _ _ _ _ _ _ _ r e).trans ?_
    have he : (((cfgM m (ok m h)).win 3).blk t).view.emb (ix2 r e)
        = ix2 ⟨t.val % 4 * 1088 + r.val, by omega⟩ ⟨slab m ⟨t.val / 4, by omega⟩ * 1152 + e.val, by omega⟩ := by
      blk_ext [e2]
    rw [he]
    unfold Slabs.withSlabs Products.nn
    rw [if_pos ⟨⟨t.val / 4, by omega⟩, by show _ = (_ * 1152 + e.val) / 1152; omega⟩]
    refine (Products.sum_mul (fun k => ?_) (fun k => ?_))
    · blk_ext [iblk, V_main_arg0, e0]
    · blk_ext [iblk, V_main_arg1, e1]
  · show V m c main_v0 _ = _
    rw [start]
    unfold Slabs.withSlabs
    rw [if_neg]
    intro hk
    exact hj hk
end

/-- The first word that the reference compares the columns with. -/
theorem word1 (x3 : IVec ⟨1, ![8]⟩ 32) (i : Cert.Reference9Ideal.S_.Idx) : Cert.Reference9Ideal.Read.val_main_v1 (F := Ideal) x3 i = x3 (ix1 (place 0)) := by
  show Cert.Reference9Ideal.Read.val_main_v0 (F := Ideal) x3 _ = _
  rw [Cert.Reference9Ideal.Read.val_main_v0_apply]
  refine congrArg x3 (funext fun a => Fin.ext ?_)
  fin_cases a
  exact congrArg (1 + ·) (Nat.lt_one_iff.mp (Fin.isLt _))

/-- The second such word. -/
theorem word2 (x3 : IVec ⟨1, ![8]⟩ 32) (i : Cert.Reference9Ideal.S_.Idx) : Cert.Reference9Ideal.Read.val_main_v3 (F := Ideal) x3 i = x3 (ix1 (place 1)) := by
  show Cert.Reference9Ideal.Read.val_main_v2 (F := Ideal) x3 _ = _
  rw [Cert.Reference9Ideal.Read.val_main_v2_apply]
  refine congrArg x3 (funext fun a => Fin.ext ?_)
  fin_cases a
  exact congrArg (2 + ·) (Nat.lt_one_iff.mp (Fin.isLt _))

/-- The reference's product, read at an index. -/
theorem whole (x0 : Products.Mat 4352 4096) (x1 : Products.Mat 4096 9216) (r : Fin 4352) (e : Fin 9216) :
    Cert.Reference9Ideal.Read.val_main_v6 (F := Ideal) x0 x1 (ix2 r e) = Products.nn x0 x1 (ix2 r e) := by
  unfold Cert.Reference9Ideal.Read.val_main_v6 Cert.Reference9Ideal.Read.val_main_v5 Cert.Reference9Ideal.Read.val_main_v4 Products.nn
  pointwise

/-- The reference's first choice: the columns of the first slab. -/
theorem choice1 (x3 : IVec ⟨1, ![8]⟩ 32) (h : ∀ k, (x3 (ix1 (place k))).toNat < 8) (r : Fin 4352) (e : Fin 9216) (x y : EReal) :
    Scalar.select (Cert.Reference9Ideal.Read.val_main_v15 (F := Ideal) x3 (ix2 r e)) x y = if (x3 (ix1 (place 0))).toNat = e.val / 1152 then x else y := by
  rw [Cert.Reference9Ideal.Read.val_main_v15_apply, Cert.Reference9Ideal.Read.val_main_v10_apply, Cert.Reference9Ideal.Read.val_main_v14_apply,
    Cert.Reference9Ideal.Read.val_main_v9_apply, Cert.Reference9Ideal.Read.val_main_v8_apply, word1,
    Cert.Reference9Ideal.Read.val_main_v13_apply, Cert.Reference9Ideal.Read.val_main_v12_apply, Cert.Reference9Ideal.Read.val_main_v11_apply, word1]
  exact Slabs.select_slab _ (h _) e.val e.isLt x y

/-- The reference's second choice: the columns of the second slab. -/
theorem choice2 (x3 : IVec ⟨1, ![8]⟩ 32) (h : ∀ k, (x3 (ix1 (place k))).toNat < 8) (r : Fin 4352) (e : Fin 9216) (x y : EReal) :
    Scalar.select (Cert.Reference9Ideal.Read.val_main_v24 (F := Ideal) x3 (ix2 r e)) x y = if (x3 (ix1 (place 1))).toNat = e.val / 1152 then x else y := by
  rw [Cert.Reference9Ideal.Read.val_main_v24_apply, Cert.Reference9Ideal.Read.val_main_v19_apply, Cert.Reference9Ideal.Read.val_main_v23_apply,
    Cert.Reference9Ideal.Read.val_main_v18_apply, Cert.Reference9Ideal.Read.val_main_v17_apply, word2,
    Cert.Reference9Ideal.Read.val_main_v22_apply, Cert.Reference9Ideal.Read.val_main_v21_apply, Cert.Reference9Ideal.Read.val_main_v20_apply, word2]
  exact Slabs.select_slab _ (h _) e.val e.isLt x y

/-- The reference's array: the projection so far with the two named slabs computed. -/
theorem read (x0 : Products.Mat 4352 4096) (x1 : Products.Mat 4096 9216) (x2 : Products.Mat 4352 9216) (x3 : IVec ⟨1, ![8]⟩ 32) (h : ∀ k, (x3 (ix1 (place k))).toNat < 8) :
    Cert.Reference9Ideal.Read.val_main_v25 (F := Ideal) x0 x1 x2 x3 = Slabs.withSlabs (fun k => (x3 (ix1 (place k))).toNat) x0 x1 x2 := by
  funext i
  obtain ⟨r, e, rfl⟩ := Products.idx2 i
  rw [Cert.Reference9Ideal.Read.val_main_v25_apply, choice2 x3 h, Cert.Reference9Ideal.Read.val_main_v16_apply, choice1 x3 h, whole]
  unfold Slabs.withSlabs
  by_cases h1 : (x3 (ix1 (place 1))).toNat = e.val / 1152
  · rw [if_pos h1, if_pos ⟨1, h1⟩]
  · rw [if_neg h1]
    by_cases h0 : (x3 (ix1 (place 0))).toNat = e.val / 1152
    · rw [if_pos h0, if_pos ⟨0, h0⟩]
    · rw [if_neg h0, if_neg]
      rintro ⟨k, hk⟩
      fin_cases k
      · exact h0 hk
      · exact h1 hk

/-- The call and the reference end with the same array. -/
theorem algebraic : Cert.algebraic_Kernel9Ideal_Reference9Ideal (hKernel9Ideal := Cert.Kernel9Ideal.Gen.facts)
      (hReference9Ideal := Cert.Reference9Ideal.Gen.facts) (hPre_slabs_exist9 := Cert.Pre_slabs_exist9.Gen.facts) := by
  intro m g m' g' hpre hag
  have h : ∀ k, slab m k < 8 := Slabs.below9 _ _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).1 2).trans (((dats m (ok m h) 0 c).arrAt_in 2 rfl _).trans ((A_eq m (ok m h) c 2).trans (V_main_arg4 m c)))⟩
  · refine (θ_run _ _ _).mono (fun r hr c => ?_) (Cert.Reference9Ideal.Value.run (F := Ideal) m' g')
    obtain ⟨h0, ha⟩ := hr c
    obtain ⟨e0, e1, e2, e3, -⟩ := hag c
    obtain rfl : c = 0 := Subsingleton.elim _ _
    refine ⟨h0.trans ?_, ha⟩
    rw [Cert.Reference9Ideal.Read.val_main_v25_eq, e0, e1, e2, e3]
    exact (read _ _ _ _ h).trans (array m h 0).symm

end Cert.Proj1
-- ==== Proof.Proj2.lean ====
module

public import proofs.«01_k».proof.Proof.Gen.Kernel10Ideal.Frame
public import proofs.«01_k».proof.Proof.Gen.Reference10Ideal.Run
public import proofs.«01_k».proof.Proof.Gen.Reference10Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The forward call for the fourth and fifth slabs of the projection: its array is the projection so far, with the slabs that it names replaced by
  those of the product of the prenormed tokens and the gathered weights.
-/

@[expose] public section
set_option maxRecDepth 16384
noncomputable section
open Idealize.ShloMosaic Idealize.ShloMosaic.TcCoe Idealize.SL.Sem
open Cert.Kernel10Ideal Cert.Kernel10Ideal.Gen

namespace Cert.Proj2

section
variable {F : FTy → Type} [FloatOps F] (m : (ℓ : Loc nD τ sig) → Buf (Elt F) ℓ)

/-- The place in the order of the `k`th slab this call computes. -/
def place (k : Fin 2) : Fin 8 := ⟨3 + k.val, by omega⟩

/-- The number of the `k`th slab this call computes. -/
def slab (k : Fin 2) : ℕ := BitVec.toNat (m (((0 : Dev nD) : Thread nD τ).loc main_arg3) (ix1 (place k)))

/-- The block of the weights that a grid point reads: the column block that its slab number names. -/
theorem column (i : grid0.Coords) : cc0_transform_1 Facts₀.k0_off1_inb Facts₀.numel1_S1 (tbl m) i = ![0, slab m (i 0)] := by
  have ht : tbl m 0 = m (((0 : Dev nD) : Thread nD τ).loc main_arg3) := V_main_arg3 m 0
  unfold slab
  rw [← ht]
  generalize tbl m = pf
  unfold cc0_transform_1
  funext a
  fin_cases a
  · rfl
  · show BitVec.toNat (pf 0 _) = BitVec.toNat (pf 0 (ix1 (place (i 0))))
    congr 2
    funext b
    fin_cases b
    apply Fin.ext
    have h : (i 0).val < 2 := (i 0).isLt
    show (BitVec.ofNat 32 3 + BitVec.ofNat 32 (i 0).val).toNat + 1 * 0 = 3 + (i 0).val
    rw [BitVec.toNat_add, BitVec.toNat_ofNat, BitVec.toNat_ofNat]
    omega

/-- The block of the result that a grid point writes: a row tile of the same column block. -/
theorem target (i : grid0.Coords) : cc0_transform_4 Facts₀.k0_off1_inb Facts₀.numel1_S1 (tbl m) i = ![(i 1).val, slab m (i 0)] := by
  refine Eq.trans ?_ (congrArg (fun f : Fin 2 → ℕ => ![(i 1).val, f 1]) (column m i))
  have h : (i 1).val < 4 := (i 1).isLt
  funext a
  fin_cases a
  · show (BitVec.ofNat 32 (i 1).val).toNat = (i 1).val
    rw [BitVec.toNat_ofNat]
    omega
  · rfl

/-- Every block lies in its array when every slab number is below 8. -/
theorem ok (h : ∀ k, slab m k < 8) : Ok m := by
  refine ⟨fun i => ?_, fun i => ?_⟩
  · rw [column m i]
    generalize hv : slab m (i 0) = v
    have hlt : v < 8 := hv ▸ h _
    refine ⟨fun a => ?_, ?_⟩
    · fin_cases a
      · show (0 + 1) * 4096 ≤ 4096
        omega
      · show (v + 1) * 1152 ≤ 9216
        omega
    · exact Or.inr (Or.inr ⟨by decide, rfl, rfl, rfl⟩)
  · rw [target m i]
    generalize hv : slab m (i 0) = v
    have hlt : v < 8 := hv ▸ h _
    have hi : (i 1).val < 4 := (i 1).isLt
    refine ⟨fun a => ?_, ?_⟩
    · fin_cases a
      · show ((i 1).val + 1) * 1088 ≤ 4352
        omega
      · show (v + 1) * 1152 ≤ 9216
        omega
    · exact Or.inl rfl

/-- The blocks at point `t`: row tile `t % 4`, slab `t / 4`. -/
theorem idx (hO : Ok m) (t : Fin (cfgM m hO).N) : ((cfgM m hO).win 0).index t = ![t.val % 4, 0]
    ∧ ((cfgM m hO).win 1).index t = ![0, slab m ⟨t.val / 4, by have : t.val < 8 := t.isLt; omega⟩]
    ∧ ((cfgM m hO).win 3).index t = ![t.val % 4, slab m ⟨t.val / 4, by have : t.val < 8 := t.isLt; omega⟩] := by
  have h : ∀ t : Fin grid0.N, cc0_transform_0 (grid0.coords t) = ![t.val % 4, 0] ∧ (grid0.coords t 0).val = t.val / 4
      ∧ (grid0.coords t 1).val = t.val % 4 := by decide +kernel
  obtain ⟨h0, h1, h2⟩ := h t
  have ht : t.val < 8 := t.isLt
  have e : grid0.coords t 0 = (⟨t.val / 4, by omega⟩ : Fin 2) := Fin.ext h1
  refine ⟨h0, (column m (grid0.coords t)).trans ?_, (target m (grid0.coords t)).trans ?_⟩
  · rw [e]
  · rw [e, h2]

/-- What the call's result holds when it starts: the projection so far. -/
theorem start (c : Dev nD) : V m c main_v0 = m ((c.tc : Thread nD τ).loc main_arg2) := by
  entry_read
  rfl
end

/-- One block's product. -/
theorem block (c : Dev nD) (i : grid0.Coords) (arg3 : Memref sig .tc .vmem S1088x4096 .bf16) (harg3 : arg3.IsWhole) (arg4 : Memref sig .tc .vmem S4096x1152 .bf16) (harg4 : arg4.IsWhole)
    (arg5 : Memref sig .tc .vmem S8x128 .f32) (harg5 : arg5.IsWhole) (arg7 : Memref sig .tc .vmem S1088x1152 .f32) (harg7 : arg7.IsWhole) (x0 : Vec Ideal S1088x4096 .bf16) (x1 : Vec Ideal S4096x1152 .bf16) (x2 : Vec Ideal S8x128 .f32) (xt0 : TbBuf0 (F := Ideal) c tbM0_0)
    (r : Fin 1088) (e : Fin 1152) :
    out0_A_3 c i arg3 harg3 arg4 harg4 arg5 harg5 arg7 harg7 x0 x1 x2 xt0 (ix2 r e) = ∑ k : Fin 4096, x0 (ix2 r k) * x1 (ix2 k e) := by
  unfold out0_A_3
  rw [View.read_writes_eq_canon _ _ _ (cover0_A_3 c i arg3 harg3 arg4 harg4 arg5 harg5 arg7 harg7 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The call's array: the projection so far with this call's slabs computed. -/
theorem array (h : ∀ k, slab m k < 8) (c : Dev nD) : (dats m (ok m h) 0 c).arrAt 3 (cfgM m (ok m h)).N
    = Slabs.withSlabs (slab m) (m ((c.tc : Thread nD τ).loc main_arg0)) (m ((c.tc : Thread nD τ).loc main_arg1)) (m ((c.tc : Thread nD τ).loc main_arg2)) := by
  refine (dats m (ok m h) 0 c).arrAt_eq_of_coversWhere_of_agree 3 _ (Q := fun β => ∃ k, slab m k = β (1 : Fin 2)) ⟨(by decide : ∀ a : Fin 2, 0 < S1088x1152.size a), ?_, ?_⟩ (fun t hf y => ?_) (fun j hj => ?_)
  · intro t hf
    refine ⟨⟨⟨t.val / 4, by have : t.val < 8 := t.isLt; omega⟩, ?_⟩, fun a => Pipeline.Window.xsize_eq_or_end _ rfl _ a⟩
    rw [(idx m (ok m h) t).2.2]
    rfl
  · intro β hβ
    obtain ⟨k, hk⟩ := hβ
    have b0 : (β (0 : Fin 2)).val < 4 := lt_of_lt_of_eq (β (0 : Fin 2)).isLt (by decide : (S4352x9216.size 0 + S1088x1152.size 0 - 1) / S1088x1152.size 0 = 4)
    obtain ⟨t, -, hf, ht⟩ := Pipeline.Window.exists_flush_same_index ((cfgM m (ok m h)).win 3) rfl ⟨k.val * 4 + (β (0 : Fin 2)).val, by show _ < 8; omega⟩
    refine ⟨t, fun a => ?_, hf⟩
    rw [ht, (idx m (ok m h) _).2.2]
    fin_cases a
    · show (k.val * 4 + (β (0 : Fin 2)).val) % 4 = (β (0 : Fin 2)).val
      omega
    · refine Eq.trans (congrArg (slab m) (Fin.ext ?_)) hk
      show (k.val * 4 + (β (0 : Fin 2)).val) / 4 = k.val
      omega
  · obtain ⟨e0, e1, e2⟩ := idx m (ok m h) t
    obtain ⟨r, e, rfl⟩ := Products.idx2 y
    have ht : t.val < 8 := t.isLt
    have hs := h ⟨t.val / 4, by omega⟩
    blk_simp
    rw [after0_3]
    unfold outsAt0
    refine (block _ _ _ _ _ _ _ _ _ _ _ _ _ _ r e).trans ?_
    have he : (((cfgM m (ok m h)).win 3).blk t).view.emb (ix2 r e)
        = ix2 ⟨t.val % 4 * 1088 + r.val, by omega⟩ ⟨slab m ⟨t.val / 4, by omega⟩ * 1152 + e.val, by omega⟩ := by
      blk_ext [e2]
    rw [he]
    unfold Slabs.withSlabs Products.nn
    rw [if_pos ⟨⟨t.val / 4, by omega⟩, by show _ = (_ * 1152 + e.val) / 1152; omega⟩]
    refine (Products.sum_mul (fun k => ?_) (fun k => ?_))
    · blk_ext [iblk, V_main_arg0, e0]
    · blk_ext [iblk, V_main_arg1, e1]
  · show V m c main_v0 _ = _
    rw [start]
    unfold Slabs.withSlabs
    rw [if_neg]
    intro hk
    exact hj hk
end

/-- The first word that the reference compares the columns with. -/
theorem word1 (x3 : IVec ⟨1, ![8]⟩ 32) (i : Cert.Reference10Ideal.S_.Idx) : Cert.Reference10Ideal.Read.val_main_v1 (F := Ideal) x3 i = x3 (ix1 (place 0)) := by
  show Cert.Reference10Ideal.Read.val_main_v0 (F := Ideal) x3 _ = _
  rw [Cert.Reference10Ideal.Read.val_main_v0_apply]
  refine congrArg x3 (funext fun a => Fin.ext ?_)
  fin_cases a
  exact congrArg (3 + ·) (Nat.lt_one_iff.mp (Fin.isLt _))

/-- The second such word. -/
theorem word2 (x3 : IVec ⟨1, ![8]⟩ 32) (i : Cert.Reference10Ideal.S_.Idx) : Cert.Reference10Ideal.Read.val_main_v3 (F := Ideal) x3 i = x3 (ix1 (place 1)) := by
  show Cert.Reference10Ideal.Read.val_main_v2 (F := Ideal) x3 _ = _
  rw [Cert.Reference10Ideal.Read.val_main_v2_apply]
  refine congrArg x3 (funext fun a => Fin.ext ?_)
  fin_cases a
  exact congrArg (4 + ·) (Nat.lt_one_iff.mp (Fin.isLt _))

/-- The reference's product, read at an index. -/
theorem whole (x0 : Products.Mat 4352 4096) (x1 : Products.Mat 4096 9216) (r : Fin 4352) (e : Fin 9216) :
    Cert.Reference10Ideal.Read.val_main_v6 (F := Ideal) x0 x1 (ix2 r e) = Products.nn x0 x1 (ix2 r e) := by
  unfold Cert.Reference10Ideal.Read.val_main_v6 Cert.Reference10Ideal.Read.val_main_v5 Cert.Reference10Ideal.Read.val_main_v4 Products.nn
  pointwise

/-- The reference's first choice: the columns of the first slab. -/
theorem choice1 (x3 : IVec ⟨1, ![8]⟩ 32) (h : ∀ k, (x3 (ix1 (place k))).toNat < 8) (r : Fin 4352) (e : Fin 9216) (x y : EReal) :
    Scalar.select (Cert.Reference10Ideal.Read.val_main_v15 (F := Ideal) x3 (ix2 r e)) x y = if (x3 (ix1 (place 0))).toNat = e.val / 1152 then x else y := by
  rw [Cert.Reference10Ideal.Read.val_main_v15_apply, Cert.Reference10Ideal.Read.val_main_v10_apply, Cert.Reference10Ideal.Read.val_main_v14_apply,
    Cert.Reference10Ideal.Read.val_main_v9_apply, Cert.Reference10Ideal.Read.val_main_v8_apply, word1,
    Cert.Reference10Ideal.Read.val_main_v13_apply, Cert.Reference10Ideal.Read.val_main_v12_apply, Cert.Reference10Ideal.Read.val_main_v11_apply, word1]
  exact Slabs.select_slab _ (h _) e.val e.isLt x y

/-- The reference's second choice: the columns of the second slab. -/
theorem choice2 (x3 : IVec ⟨1, ![8]⟩ 32) (h : ∀ k, (x3 (ix1 (place k))).toNat < 8) (r : Fin 4352) (e : Fin 9216) (x y : EReal) :
    Scalar.select (Cert.Reference10Ideal.Read.val_main_v24 (F := Ideal) x3 (ix2 r e)) x y = if (x3 (ix1 (place 1))).toNat = e.val / 1152 then x else y := by
  rw [Cert.Reference10Ideal.Read.val_main_v24_apply, Cert.Reference10Ideal.Read.val_main_v19_apply, Cert.Reference10Ideal.Read.val_main_v23_apply,
    Cert.Reference10Ideal.Read.val_main_v18_apply, Cert.Reference10Ideal.Read.val_main_v17_apply, word2,
    Cert.Reference10Ideal.Read.val_main_v22_apply, Cert.Reference10Ideal.Read.val_main_v21_apply, Cert.Reference10Ideal.Read.val_main_v20_apply, word2]
  exact Slabs.select_slab _ (h _) e.val e.isLt x y

/-- The reference's array: the projection so far with the two named slabs computed. -/
theorem read (x0 : Products.Mat 4352 4096) (x1 : Products.Mat 4096 9216) (x2 : Products.Mat 4352 9216) (x3 : IVec ⟨1, ![8]⟩ 32) (h : ∀ k, (x3 (ix1 (place k))).toNat < 8) :
    Cert.Reference10Ideal.Read.val_main_v25 (F := Ideal) x0 x1 x2 x3 = Slabs.withSlabs (fun k => (x3 (ix1 (place k))).toNat) x0 x1 x2 := by
  funext i
  obtain ⟨r, e, rfl⟩ := Products.idx2 i
  rw [Cert.Reference10Ideal.Read.val_main_v25_apply, choice2 x3 h, Cert.Reference10Ideal.Read.val_main_v16_apply, choice1 x3 h, whole]
  unfold Slabs.withSlabs
  by_cases h1 : (x3 (ix1 (place 1))).toNat = e.val / 1152
  · rw [if_pos h1, if_pos ⟨1, h1⟩]
  · rw [if_neg h1]
    by_cases h0 : (x3 (ix1 (place 0))).toNat = e.val / 1152
    · rw [if_pos h0, if_pos ⟨0, h0⟩]
    · rw [if_neg h0, if_neg]
      rintro ⟨k, hk⟩
      fin_cases k
      · exact h0 hk
      · exact h1 hk

/-- The call and the reference end with the same array. -/
theorem algebraic : Cert.algebraic_Kernel10Ideal_Reference10Ideal (hKernel10Ideal := Cert.Kernel10Ideal.Gen.facts)
      (hReference10Ideal := Cert.Reference10Ideal.Gen.facts) (hPre_slabs_exist10 := Cert.Pre_slabs_exist10.Gen.facts) := by
  intro m g m' g' hpre hag
  have h : ∀ k, slab m k < 8 := Slabs.below10 _ _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).1 2).trans (((dats m (ok m h) 0 c).arrAt_in 2 rfl _).trans ((A_eq m (ok m h) c 2).trans (V_main_arg4 m c)))⟩
  · refine (θ_run _ _ _).mono (fun r hr c => ?_) (Cert.Reference10Ideal.Value.run (F := Ideal) m' g')
    obtain ⟨h0, ha⟩ := hr c
    obtain ⟨e0, e1, e2, e3, -⟩ := hag c
    obtain rfl : c = 0 := Subsingleton.elim _ _
    refine ⟨h0.trans ?_, ha⟩
    rw [Cert.Reference10Ideal.Read.val_main_v25_eq, e0, e1, e2, e3]
    exact (read _ _ _ _ h).trans (array m h 0).symm

end Cert.Proj2
-- ==== Proof.Proj3.lean ====
module

public import proofs.«01_k».proof.Proof.Gen.Kernel11Ideal.Frame
public import proofs.«01_k».proof.Proof.Gen.Reference11Ideal.Run
public import proofs.«01_k».proof.Proof.Gen.Reference11Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The forward call for the sixth and seventh slabs of the projection: its array is the projection so far, with the slabs that it names replaced by
  those of the product of the prenormed tokens and the gathered weights.
-/

@[expose] public section
set_option maxRecDepth 16384
noncomputable section
open Idealize.ShloMosaic Idealize.ShloMosaic.TcCoe Idealize.SL.Sem
open Cert.Kernel11Ideal Cert.Kernel11Ideal.Gen

namespace Cert.Proj3

section
variable {F : FTy → Type} [FloatOps F] (m : (ℓ : Loc nD τ sig) → Buf (Elt F) ℓ)

/-- The place in the order of the `k`th slab this call computes. -/
def place (k : Fin 2) : Fin 8 := ⟨5 + k.val, by omega⟩

/-- The number of the `k`th slab this call computes. -/
def slab (k : Fin 2) : ℕ := BitVec.toNat (m (((0 : Dev nD) : Thread nD τ).loc main_arg3) (ix1 (place k)))

/-- The block of the weights that a grid point reads: the column block that its slab number names. -/
theorem column (i : grid0.Coords) : cc0_transform_1 Facts₀.k0_off1_inb Facts₀.numel1_S1 (tbl m) i = ![0, slab m (i 0)] := by
  have ht : tbl m 0 = m (((0 : Dev nD) : Thread nD τ).loc main_arg3) := V_main_arg3 m 0
  unfold slab
  rw [← ht]
  generalize tbl m = pf
  unfold cc0_transform_1
  funext a
  fin_cases a
  · rfl
  · show BitVec.toNat (pf 0 _) = BitVec.toNat (pf 0 (ix1 (place (i 0))))
    congr 2
    funext b
    fin_cases b
    apply Fin.ext
    have h : (i 0).val < 2 := (i 0).isLt
    show (BitVec.ofNat 32 5 + BitVec.ofNat 32 (i 0).val).toNat + 1 * 0 = 5 + (i 0).val
    rw [BitVec.toNat_add, BitVec.toNat_ofNat, BitVec.toNat_ofNat]
    omega

/-- The block of the result that a grid point writes: a row tile of the same column block. -/
theorem target (i : grid0.Coords) : cc0_transform_4 Facts₀.k0_off1_inb Facts₀.numel1_S1 (tbl m) i = ![(i 1).val, slab m (i 0)] := by
  refine Eq.trans ?_ (congrArg (fun f : Fin 2 → ℕ => ![(i 1).val, f 1]) (column m i))
  have h : (i 1).val < 4 := (i 1).isLt
  funext a
  fin_cases a
  · show (BitVec.ofNat 32 (i 1).val).toNat = (i 1).val
    rw [BitVec.toNat_ofNat]
    omega
  · rfl

/-- Every block lies in its array when every slab number is below 8. -/
theorem ok (h : ∀ k, slab m k < 8) : Ok m := by
  refine ⟨fun i => ?_, fun i => ?_⟩
  · rw [column m i]
    generalize hv : slab m (i 0) = v
    have hlt : v < 8 := hv ▸ h _
    refine ⟨fun a => ?_, ?_⟩
    · fin_cases a
      · show (0 + 1) * 4096 ≤ 4096
        omega
      · show (v + 1) * 1152 ≤ 9216
        omega
    · exact Or.inr (Or.inr ⟨by decide, rfl, rfl, rfl⟩)
  · rw [target m i]
    generalize hv : slab m (i 0) = v
    have hlt : v < 8 := hv ▸ h _
    have hi : (i 1).val < 4 := (i 1).isLt
    refine ⟨fun a => ?_, ?_⟩
    · fin_cases a
      · show ((i 1).val + 1) * 1088 ≤ 4352
        omega
      · show (v + 1) * 1152 ≤ 9216
        omega
    · exact Or.inl rfl

/-- The blocks at point `t`: row tile `t % 4`, slab `t / 4`. -/
theorem idx (hO : Ok m) (t : Fin (cfgM m hO).N) : ((cfgM m hO).win 0).index t = ![t.val % 4, 0]
    ∧ ((cfgM m hO).win 1).index t = ![0, slab m ⟨t.val / 4, by have : t.val < 8 := t.isLt; omega⟩]
    ∧ ((cfgM m hO).win 3).index t = ![t.val % 4, slab m ⟨t.val / 4, by have : t.val < 8 := t.isLt; omega⟩] := by
  have h : ∀ t : Fin grid0.N, cc0_transform_0 (grid0.coords t) = ![t.val % 4, 0] ∧ (grid0.coords t 0).val = t.val / 4
      ∧ (grid0.coords t 1).val = t.val % 4 := by decide +kernel
  obtain ⟨h0, h1, h2⟩ := h t
  have ht : t.val < 8 := t.isLt
  have e : grid0.coords t 0 = (⟨t.val / 4, by omega⟩ : Fin 2) := Fin.ext h1
  refine ⟨h0, (column m (grid0.coords t)).trans ?_, (target m (grid0.coords t)).trans ?_⟩
  · rw [e]
  · rw [e, h2]

/-- What the call's result holds when it starts: the projection so far. -/
theorem start (c : Dev nD) : V m c main_v0 = m ((c.tc : Thread nD τ).loc main_arg2) := by
  entry_read
  rfl
end

/-- One block's product. -/
theorem block (c : Dev nD) (i : grid0.Coords) (arg3 : Memref sig .tc .vmem S1088x4096 .bf16) (harg3 : arg3.IsWhole) (arg4 : Memref sig .tc .vmem S4096x1152 .bf16) (harg4 : arg4.IsWhole)
    (arg5 : Memref sig .tc .vmem S8x128 .f32) (harg5 : arg5.IsWhole) (arg7 : Memref sig .tc .vmem S1088x1152 .f32) (harg7 : arg7.IsWhole) (x0 : Vec Ideal S1088x4096 .bf16) (x1 : Vec Ideal S4096x1152 .bf16) (x2 : Vec Ideal S8x128 .f32) (xt0 : TbBuf0 (F := Ideal) c tbM0_0)
    (r : Fin 1088) (e : Fin 1152) :
    out0_A_3 c i arg3 harg3 arg4 harg4 arg5 harg5 arg7 harg7 x0 x1 x2 xt0 (ix2 r e) = ∑ k : Fin 4096, x0 (ix2 r k) * x1 (ix2 k e) := by
  unfold out0_A_3
  rw [View.read_writes_eq_canon _ _ _ (cover0_A_3 c i arg3 harg3 arg4 harg4 arg5 harg5 arg7 harg7 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The call's array: the projection so far with this call's slabs computed. -/
theorem array (h : ∀ k, slab m k < 8) (c : Dev nD) : (dats m (ok m h) 0 c).arrAt 3 (cfgM m (ok m h)).N
    = Slabs.withSlabs (slab m) (m ((c.tc : Thread nD τ).loc main_arg0)) (m ((c.tc : Thread nD τ).loc main_arg1)) (m ((c.tc : Thread nD τ).loc main_arg2)) := by
  refine (dats m (ok m h) 0 c).arrAt_eq_of_coversWhere_of_agree 3 _ (Q := fun β => ∃ k, slab m k = β (1 : Fin 2)) ⟨(by decide : ∀ a : Fin 2, 0 < S1088x1152.size a), ?_, ?_⟩ (fun t hf y => ?_) (fun j hj => ?_)
  · intro t hf
    refine ⟨⟨⟨t.val / 4, by have : t.val < 8 := t.isLt; omega⟩, ?_⟩, fun a => Pipeline.Window.xsize_eq_or_end _ rfl _ a⟩
    rw [(idx m (ok m h) t).2.2]
    rfl
  · intro β hβ
    obtain ⟨k, hk⟩ := hβ
    have b0 : (β (0 : Fin 2)).val < 4 := lt_of_lt_of_eq (β (0 : Fin 2)).isLt (by decide : (S4352x9216.size 0 + S1088x1152.size 0 - 1) / S1088x1152.size 0 = 4)
    obtain ⟨t, -, hf, ht⟩ := Pipeline.Window.exists_flush_same_index ((cfgM m (ok m h)).win 3) rfl ⟨k.val * 4 + (β (0 : Fin 2)).val, by show _ < 8; omega⟩
    refine ⟨t, fun a => ?_, hf⟩
    rw [ht, (idx m (ok m h) _).2.2]
    fin_cases a
    · show (k.val * 4 + (β (0 : Fin 2)).val) % 4 = (β (0 : Fin 2)).val
      omega
    · refine Eq.trans (congrArg (slab m) (Fin.ext ?_)) hk
      show (k.val * 4 + (β (0 : Fin 2)).val) / 4 = k.val
      omega
  · obtain ⟨e0, e1, e2⟩ := idx m (ok m h) t
    obtain ⟨r, e, rfl⟩ := Products.idx2 y
    have ht : t.val < 8 := t.isLt
    have hs := h ⟨t.val / 4, by omega⟩
    blk_simp
    rw [after0_3]
    unfold outsAt0
    refine (block _ _ _ _ _ _ _ _ _ _ _ _ _ _ r e).trans ?_
    have he : (((cfgM m (ok m h)).win 3).blk t).view.emb (ix2 r e)
        = ix2 ⟨t.val % 4 * 1088 + r.val, by omega⟩ ⟨slab m ⟨t.val / 4, by omega⟩ * 1152 + e.val, by omega⟩ := by
      blk_ext [e2]
    rw [he]
    unfold Slabs.withSlabs Products.nn
    rw [if_pos ⟨⟨t.val / 4, by omega⟩, by show _ = (_ * 1152 + e.val) / 1152; omega⟩]
    refine (Products.sum_mul (fun k => ?_) (fun k => ?_))
    · blk_ext [iblk, V_main_arg0, e0]
    · blk_ext [iblk, V_main_arg1, e1]
  · show V m c main_v0 _ = _
    rw [start]
    unfold Slabs.withSlabs
    rw [if_neg]
    intro hk
    exact hj hk
end

/-- The first word that the reference compares the columns with. -/
theorem word1 (x3 : IVec ⟨1, ![8]⟩ 32) (i : Cert.Reference11Ideal.S_.Idx) : Cert.Reference11Ideal.Read.val_main_v1 (F := Ideal) x3 i = x3 (ix1 (place 0)) := by
  show Cert.Reference11Ideal.Read.val_main_v0 (F := Ideal) x3 _ = _
  rw [Cert.Reference11Ideal.Read.val_main_v0_apply]
  refine congrArg x3 (funext fun a => Fin.ext ?_)
  fin_cases a
  exact congrArg (5 + ·) (Nat.lt_one_iff.mp (Fin.isLt _))

/-- The second such word. -/
theorem word2 (x3 : IVec ⟨1, ![8]⟩ 32) (i : Cert.Reference11Ideal.S_.Idx) : Cert.Reference11Ideal.Read.val_main_v3 (F := Ideal) x3 i = x3 (ix1 (place 1)) := by
  show Cert.Reference11Ideal.Read.val_main_v2 (F := Ideal) x3 _ = _
  rw [Cert.Reference11Ideal.Read.val_main_v2_apply]
  refine congrArg x3 (funext fun a => Fin.ext ?_)
  fin_cases a
  exact congrArg (6 + ·) (Nat.lt_one_iff.mp (Fin.isLt _))

/-- The reference's product, read at an index. -/
theorem whole (x0 : Products.Mat 4352 4096) (x1 : Products.Mat 4096 9216) (r : Fin 4352) (e : Fin 9216) :
    Cert.Reference11Ideal.Read.val_main_v6 (F := Ideal) x0 x1 (ix2 r e) = Products.nn x0 x1 (ix2 r e) := by
  unfold Cert.Reference11Ideal.Read.val_main_v6 Cert.Reference11Ideal.Read.val_main_v5 Cert.Reference11Ideal.Read.val_main_v4 Products.nn
  pointwise

/-- The reference's first choice: the columns of the first slab. -/
theorem choice1 (x3 : IVec ⟨1, ![8]⟩ 32) (h : ∀ k, (x3 (ix1 (place k))).toNat < 8) (r : Fin 4352) (e : Fin 9216) (x y : EReal) :
    Scalar.select (Cert.Reference11Ideal.Read.val_main_v15 (F := Ideal) x3 (ix2 r e)) x y = if (x3 (ix1 (place 0))).toNat = e.val / 1152 then x else y := by
  rw [Cert.Reference11Ideal.Read.val_main_v15_apply, Cert.Reference11Ideal.Read.val_main_v10_apply, Cert.Reference11Ideal.Read.val_main_v14_apply,
    Cert.Reference11Ideal.Read.val_main_v9_apply, Cert.Reference11Ideal.Read.val_main_v8_apply, word1,
    Cert.Reference11Ideal.Read.val_main_v13_apply, Cert.Reference11Ideal.Read.val_main_v12_apply, Cert.Reference11Ideal.Read.val_main_v11_apply, word1]
  exact Slabs.select_slab _ (h _) e.val e.isLt x y

/-- The reference's second choice: the columns of the second slab. -/
theorem choice2 (x3 : IVec ⟨1, ![8]⟩ 32) (h : ∀ k, (x3 (ix1 (place k))).toNat < 8) (r : Fin 4352) (e : Fin 9216) (x y : EReal) :
    Scalar.select (Cert.Reference11Ideal.Read.val_main_v24 (F := Ideal) x3 (ix2 r e)) x y = if (x3 (ix1 (place 1))).toNat = e.val / 1152 then x else y := by
  rw [Cert.Reference11Ideal.Read.val_main_v24_apply, Cert.Reference11Ideal.Read.val_main_v19_apply, Cert.Reference11Ideal.Read.val_main_v23_apply,
    Cert.Reference11Ideal.Read.val_main_v18_apply, Cert.Reference11Ideal.Read.val_main_v17_apply, word2,
    Cert.Reference11Ideal.Read.val_main_v22_apply, Cert.Reference11Ideal.Read.val_main_v21_apply, Cert.Reference11Ideal.Read.val_main_v20_apply, word2]
  exact Slabs.select_slab _ (h _) e.val e.isLt x y

/-- The reference's array: the projection so far with the two named slabs computed. -/
theorem read (x0 : Products.Mat 4352 4096) (x1 : Products.Mat 4096 9216) (x2 : Products.Mat 4352 9216) (x3 : IVec ⟨1, ![8]⟩ 32) (h : ∀ k, (x3 (ix1 (place k))).toNat < 8) :
    Cert.Reference11Ideal.Read.val_main_v25 (F := Ideal) x0 x1 x2 x3 = Slabs.withSlabs (fun k => (x3 (ix1 (place k))).toNat) x0 x1 x2 := by
  funext i
  obtain ⟨r, e, rfl⟩ := Products.idx2 i
  rw [Cert.Reference11Ideal.Read.val_main_v25_apply, choice2 x3 h, Cert.Reference11Ideal.Read.val_main_v16_apply, choice1 x3 h, whole]
  unfold Slabs.withSlabs
  by_cases h1 : (x3 (ix1 (place 1))).toNat = e.val / 1152
  · rw [if_pos h1, if_pos ⟨1, h1⟩]
  · rw [if_neg h1]
    by_cases h0 : (x3 (ix1 (place 0))).toNat = e.val / 1152
    · rw [if_pos h0, if_pos ⟨0, h0⟩]
    · rw [if_neg h0, if_neg]
      rintro ⟨k, hk⟩
      fin_cases k
      · exact h0 hk
      · exact h1 hk

/-- The call and the reference end with the same array. -/
theorem algebraic : Cert.algebraic_Kernel11Ideal_Reference11Ideal (hKernel11Ideal := Cert.Kernel11Ideal.Gen.facts)
      (hReference11Ideal := Cert.Reference11Ideal.Gen.facts) (hPre_slabs_exist11 := Cert.Pre_slabs_exist11.Gen.facts) := by
  intro m g m' g' hpre hag
  have h : ∀ k, slab m k < 8 := Slabs.below11 _ _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).1 2).trans (((dats m (ok m h) 0 c).arrAt_in 2 rfl _).trans ((A_eq m (ok m h) c 2).trans (V_main_arg4 m c)))⟩
  · refine (θ_run _ _ _).mono (fun r hr c => ?_) (Cert.Reference11Ideal.Value.run (F := Ideal) m' g')
    obtain ⟨h0, ha⟩ := hr c
    obtain ⟨e0, e1, e2, e3, -⟩ := hag c
    obtain rfl : c = 0 := Subsingleton.elim _ _
    refine ⟨h0.trans ?_, ha⟩
    rw [Cert.Reference11Ideal.Read.val_main_v25_eq, e0, e1, e2, e3]
    exact (read _ _ _ _ h).trans (array m h 0).symm

end Cert.Proj3
-- ==== Proof.Proj4.lean ====
module

public import proofs.«01_k».proof.Proof.Gen.Kernel12Ideal.Frame
public import proofs.«01_k».proof.Proof.Gen.Reference12Ideal.Run
public import proofs.«01_k».proof.Proof.Gen.Reference12Ideal.Read
public import proofs.«01_k».proof.Defs
public import proofs.«01_k».proof.Proof.Products
public import proofs.«01_k».proof.Proof.Slabs
public import Idealize.ShloMosaic.Lib.Pipeline.ValueKit
public import Idealize.ShloMosaic.Lib.Pipeline.ReadBack
public import Idealize.ShloMosaic.Lib.Pipeline.Covers
public import Idealize.ShloMosaic.Lib.Pointwise

/-!
  The forward call for the last slab of the projection: its array is the projection so far, with the slab that it names replaced by
  that of the product of the prenormed tokens and the gathered weights.
-/

@[expose] public section
set_option maxRecDepth 16384
noncomputable section
open Idealize.ShloMosaic Idealize.ShloMosaic.TcCoe Idealize.SL.Sem
open Cert.Kernel12Ideal Cert.Kernel12Ideal.Gen

namespace Cert.Proj4

section
variable {F : FTy → Type} [FloatOps F] (m : (ℓ : Loc nD τ sig) → Buf (Elt F) ℓ)

/-- The place in the order of the slab that this call computes. -/
def place (k : Fin 1) : Fin 8 := ⟨7 + k.val, by omega⟩

/-- The number of the slab that this call computes. -/
def slab (k : Fin 1) : ℕ := BitVec.toNat (m (((0 : Dev nD) : Thread nD τ).loc main_arg3) (ix1 (place k)))

/-- The block of the weights that a grid point reads: the column block that its slab number names. -/
theorem column (i : grid0.Coords) : cc0_transform_1 Facts₀.k0_off1_inb Facts₀.numel1_S1 (tbl m) i = ![0, slab m (i 0)] := by
  have ht : tbl m 0 = m (((0 : Dev nD) : Thread nD τ).loc main_arg3) := V_main_arg3 m 0
  unfold slab
  rw [← ht]
  generalize tbl m = pf
  unfold cc0_transform_1
  funext a
  fin_cases a
  · rfl
  · show BitVec.toNat (pf 0 _) = BitVec.toNat (pf 0 (ix1 (place (i 0))))
    congr 2
    funext b
    fin_cases b
    apply Fin.ext
    have h : (i 0).val < 1 := (i 0).isLt
    show (BitVec.ofNat 32 7 + BitVec.ofNat 32 (i 0).val).toNat + 1 * 0 = 7 + (i 0).val
    rw [BitVec.toNat_add, BitVec.toNat_ofNat, BitVec.toNat_ofNat]
    omega

/-- The block of the result that a grid point writes: a row tile of the same column block. -/
theorem target (i : grid0.Coords) : cc0_transform_4 Facts₀.k0_off1_inb Facts₀.numel1_S1 (tbl m) i = ![(i 1).val, slab m (i 0)] := by
  refine Eq.trans ?_ (congrArg (fun f : Fin 2 → ℕ => ![(i 1).val, f 1]) (column m i))
  have h : (i 1).val < 4 := (i 1).isLt
  funext a
  fin_cases a
  · show (BitVec.ofNat 32 (i 1).val).toNat = (i 1).val
    rw [BitVec.toNat_ofNat]
    omega
  · rfl

/-- Every block lies in its array when every slab number is below 8. -/
theorem ok (h : ∀ k, slab m k < 8) : Ok m := by
  refine ⟨fun i => ?_, fun i => ?_⟩
  · rw [column m i]
    generalize hv : slab m (i 0) = v
    have hlt : v < 8 := hv ▸ h _
    refine ⟨fun a => ?_, ?_⟩
    · fin_cases a
      · show (0 + 1) * 4096 ≤ 4096
        omega
      · show (v + 1) * 1152 ≤ 9216
        omega
    · exact Or.inr (Or.inr ⟨by decide, rfl, rfl, rfl⟩)
  · rw [target m i]
    generalize hv : slab m (i 0) = v
    have hlt : v < 8 := hv ▸ h _
    have hi : (i 1).val < 4 := (i 1).isLt
    refine ⟨fun a => ?_, ?_⟩
    · fin_cases a
      · show ((i 1).val + 1) * 1088 ≤ 4352
        omega
      · show (v + 1) * 1152 ≤ 9216
        omega
    · exact Or.inl rfl

/-- The blocks at point `t`: row tile `t % 4`, slab `t / 4`. -/
theorem idx (hO : Ok m) (t : Fin (cfgM m hO).N) : ((cfgM m hO).win 0).index t = ![t.val % 4, 0]
    ∧ ((cfgM m hO).win 1).index t = ![0, slab m ⟨t.val / 4, by have : t.val < 4 := t.isLt; omega⟩]
    ∧ ((cfgM m hO).win 3).index t = ![t.val % 4, slab m ⟨t.val / 4, by have : t.val < 4 := t.isLt; omega⟩] := by
  have h : ∀ t : Fin grid0.N, cc0_transform_0 (grid0.coords t) = ![t.val % 4, 0] ∧ (grid0.coords t 0).val = t.val / 4
      ∧ (grid0.coords t 1).val = t.val % 4 := by decide +kernel
  obtain ⟨h0, h1, h2⟩ := h t
  have ht : t.val < 4 := t.isLt
  have e : grid0.coords t 0 = (⟨t.val / 4, by omega⟩ : Fin 1) := Fin.ext h1
  refine ⟨h0, (column m (grid0.coords t)).trans ?_, (target m (grid0.coords t)).trans ?_⟩
  · rw [e]
  · rw [e, h2]

/-- What the call's result holds when it starts: the projection so far. -/
theorem start (c : Dev nD) : V m c main_v0 = m ((c.tc : Thread nD τ).loc main_arg2) := by
  entry_read
  rfl
end

/-- One block's product. -/
theorem block (c : Dev nD) (i : grid0.Coords) (arg3 : Memref sig .tc .vmem S1088x4096 .bf16) (harg3 : arg3.IsWhole) (arg4 : Memref sig .tc .vmem S4096x1152 .bf16) (harg4 : arg4.IsWhole)
    (arg5 : Memref sig .tc .vmem S8x128 .f32) (harg5 : arg5.IsWhole) (arg7 : Memref sig .tc .vmem S1088x1152 .f32) (harg7 : arg7.IsWhole) (x0 : Vec Ideal S1088x4096 .bf16) (x1 : Vec Ideal S4096x1152 .bf16) (x2 : Vec Ideal S8x128 .f32) (xt0 : TbBuf0 (F := Ideal) c tbM0_0)
    (r : Fin 1088) (e : Fin 1152) :
    out0_A_3 c i arg3 harg3 arg4 harg4 arg5 harg5 arg7 harg7 x0 x1 x2 xt0 (ix2 r e) = ∑ k : Fin 4096, x0 (ix2 r k) * x1 (ix2 k e) := by
  unfold out0_A_3
  rw [View.read_writes_eq_canon _ _ _ (cover0_A_3 c i arg3 harg3 arg4 harg4 arg5 harg5 arg7 harg7 x0 x1 x2 xt0)]
  unfold kernelRun0_A
  dsimp only
  sl_unfold_words
  rw [View.canon_unit_zero (by funext a; fin_cases a <;> rfl)]
  simp only [View.readAt_eq_ld, harg3.read_unread, harg4.read_unread]
  rw [View.ld_unit_zero (by funext a; fin_cases a <;> rfl), View.ld_unit_zero (by funext a; fin_cases a <;> rfl)]
  unfold k0_pay1
  pointwise

section
variable (m : (ℓ : Loc nD τ sig) → Buf (Elt Ideal) ℓ)

/-- The call's array: the projection so far with this call's slab computed. -/
theorem array (h : ∀ k, slab m k < 8) (c : Dev nD) : (dats m (ok m h) 0 c).arrAt 3 (cfgM m (ok m h)).N
    = Slabs.withSlabs (slab m) (m ((c.tc : Thread nD τ).loc main_arg0)) (m ((c.tc : Thread nD τ).loc main_arg1)) (m ((c.tc : Thread nD τ).loc main_arg2)) := by
  refine (dats m (ok m h) 0 c).arrAt_eq_of_coversWhere_of_agree 3 _ (Q := fun β => ∃ k, slab m k = β (1 : Fin 2)) ⟨(by decide : ∀ a : Fin 2, 0 < S1088x1152.size a), ?_, ?_⟩ (fun t hf y => ?_) (fun j hj => ?_)
  · intro t hf
    refine ⟨⟨⟨t.val / 4, by have : t.val < 4 := t.isLt; omega⟩, ?_⟩, fun a => Pipeline.Window.xsize_eq_or_end _ rfl _ a⟩
    rw [(idx m (ok m h) t).2.2]
    rfl
  · intro β hβ
    obtain ⟨k, hk⟩ := hβ
    have b0 : (β (0 : Fin 2)).val < 4 := lt_of_lt_of_eq (β (0 : Fin 2)).isLt (by decide : (S4352x9216.size 0 + S1088x1152.size 0 - 1) / S1088x1152.size 0 = 4)
    obtain ⟨t, -, hf, ht⟩ := Pipeline.Window.exists_flush_same_index ((cfgM m (ok m h)).win 3) rfl ⟨k.val * 4 + (β (0 : Fin 2)).val, by show _ < 4; omega⟩
    refine ⟨t, fun a => ?_, hf⟩
    rw [ht, (idx m (ok m h) _).2.2]
    fin_cases a
    · show (k.val * 4 + (β (0 : Fin 2)).val) % 4 = (β (0 : Fin 2)).val
      omega
    · refine Eq.trans (congrArg (slab m) (Fin.ext ?_)) hk
      show (k.val * 4 + (β (0 : Fin 2)).val) / 4 = k.val
      omega
  · obtain ⟨e0, e1, e2⟩ := idx m (ok m h) t
    obtain ⟨r, e, rfl⟩ := Products.idx2 y
    have ht : t.val < 4 := t.isLt
    have hs := h ⟨t.val / 4, by omega⟩
    blk_simp
    rw [after0_3]
    unfold outsAt0
    refine (block _ _ _ _ _ _ _ _ _ _ _ _ _ _ r e).trans ?_
    have he : (((cfgM m (ok m h)).win 3).blk t).view.emb (ix2 r e)
        = ix2 ⟨t.val % 4 * 1088 + r.val, by omega⟩ ⟨slab m ⟨t.val / 4, by omega⟩ * 1152 + e.val, by omega⟩ := by
      blk_ext [e2]
    rw [he]
    unfold Slabs.withSlabs Products.nn
    rw [if_pos ⟨⟨t.val / 4, by omega⟩, by show _ = (_ * 1152 + e.val) / 1152; omega⟩]
    refine (Products.sum_mul (fun k => ?_) (fun k => ?_))
    · blk_ext [iblk, V_main_arg0, e0]
    · blk_ext [iblk, V_main_arg1, e1]
  · show V m c main_v0 _ = _
    rw [start]
    unfold Slabs.withSlabs
    rw [if_neg]
    intro hk
    exact hj hk
end

/-- The word that the reference compares the columns with. -/
theorem word (x3 : IVec ⟨1, ![8]⟩ 32) (i : Cert.Reference12Ideal.S_.Idx) : Cert.Reference12Ideal.Read.val_main_v1 (F := Ideal) x3 i = x3 (ix1 (place 0)) := by
  show Cert.Reference12Ideal.Read.val_main_v0 (F := Ideal) x3 _ = _
  rw [Cert.Reference12Ideal.Read.val_main_v0_apply]
  refine congrArg x3 (funext fun a => Fin.ext ?_)
  fin_cases a
  exact congrArg (7 + ·) (Nat.lt_one_iff.mp (Fin.isLt _))

/-- The reference's product, read at an index. -/
theorem whole (x0 : Products.Mat 4352 4096) (x1 : Products.Mat 4096 9216) (r : Fin 4352) (e : Fin 9216) :
    Cert.Reference12Ideal.Read.val_main_v4 (F := Ideal) x0 x1 (ix2 r e) = Products.nn x0 x1 (ix2 r e) := by
  unfold Cert.Reference12Ideal.Read.val_main_v4 Cert.Reference12Ideal.Read.val_main_v3 Cert.Reference12Ideal.Read.val_main_v2 Products.nn
  pointwise

/-- The reference's choice: the columns of the slab. -/
theorem choice (x3 : IVec ⟨1, ![8]⟩ 32) (h : ∀ k, (x3 (ix1 (place k))).toNat < 8) (r : Fin 4352) (e : Fin 9216) (x y : EReal) :
    Scalar.select (Cert.Reference12Ideal.Read.val_main_v13 (F := Ideal) x3 (ix2 r e)) x y = if (x3 (ix1 (place 0))).toNat = e.val / 1152 then x else y := by
  rw [Cert.Reference12Ideal.Read.val_main_v13_apply, Cert.Reference12Ideal.Read.val_main_v8_apply, Cert.Reference12Ideal.Read.val_main_v12_apply,
    Cert.Reference12Ideal.Read.val_main_v7_apply, Cert.Reference12Ideal.Read.val_main_v6_apply, word,
    Cert.Reference12Ideal.Read.val_main_v11_apply, Cert.Reference12Ideal.Read.val_main_v10_apply, Cert.Reference12Ideal.Read.val_main_v9_apply, word]
  exact Slabs.select_slab _ (h _) e.val e.isLt x y

/-- The reference's array: the projection so far with the named slab computed. -/
theorem read (x0 : Products.Mat 4352 4096) (x1 : Products.Mat 4096 9216) (x2 : Products.Mat 4352 9216) (x3 : IVec ⟨1, ![8]⟩ 32) (h : ∀ k, (x3 (ix1 (place k))).toNat < 8) :
    Cert.Reference12Ideal.Read.val_main_v14 (F := Ideal) x0 x1 x2 x3 = Slabs.withSlabs (fun k => (x3 (ix1 (place k))).toNat) x0 x1 x2 := by
  funext i
  obtain ⟨r, e, rfl⟩ := Products.idx2 i
  rw [Cert.Reference12Ideal.Read.val_main_v14_apply, choice x3 h, whole]
  unfold Slabs.withSlabs
  by_cases h0 : (x3 (ix1 (place 0))).toNat = e.val / 1152
  · rw [if_pos h0, if_pos ⟨0, h0⟩]
  · rw [if_neg h0, if_neg]
    rintro ⟨k, hk⟩
    obtain rfl : k = 0 := Subsingleton.elim _ _
    exact h0 hk

/-- The call and the reference end with the same array. -/
theorem algebraic : Cert.algebraic_Kernel12Ideal_Reference12Ideal (hKernel12Ideal := Cert.Kernel12Ideal.Gen.facts)
      (hReference12Ideal := Cert.Reference12Ideal.Gen.facts) (hPre_slabs_exist12 := Cert.Pre_slabs_exist12.Gen.facts) := by
  intro m g m' g' hpre hag
  have h : ∀ k, slab m k < 8 := Slabs.below12 _ _ _ _ _ (hpre 0)
  refine ⟨fun c => (dats m (ok m h) 0 c).arrAt 3 (cfgM m (ok m h)).N, ?_, ?_⟩
  · refine (θ_run _ _ _).mono (fun r hr c => ⟨(hr c).1 3, ?_⟩) (run_main m g (ok m h))
    exact ⟨((hr c).1 0).trans (((dats m (ok m h) 0 c).arrAt_in 0 rfl _).trans ((A_eq m (ok m h) c 0).trans (V_main_arg0 m c))),
      ((hr c).1 1).trans (((dats m (ok m h) 0 c).arrAt_in 1 rfl _).trans ((A_eq m (ok m h) c 1).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).1 2).trans (((dats m (ok m h) 0 c).arrAt_in 2 rfl _).trans ((A_eq m (ok m h) c 2).trans (V_main_arg4 m c)))⟩
  · refine (θ_run _ _ _).mono (fun r hr c => ?_) (Cert.Reference12Ideal.Value.run (F := Ideal) m' g')
    obtain ⟨h0, ha⟩ := hr c
    obtain ⟨e0, e1, e2, e3, -⟩ := hag c
    obtain rfl : c = 0 := Subsingleton.elim _ _
    refine ⟨h0.trans ?_, ha⟩
    rw [Cert.Reference12Ideal.Read.val_main_v14_eq, e0, e1, e2, e3]
    exact (read _ _ _ _ h).trans (array m h 0).symm

end Cert.Proj4
-- ==== Proof.FramesSlabs.lean ====
module

public import proofs.«01_k».proof.Defs
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel10
public import proofs.«01_k».proof.Proof.Gen.Kernel11
public import proofs.«01_k».proof.Proof.Gen.Kernel12
public import proofs.«01_k».proof.Proof.GradWInSibling
public import proofs.«01_k».proof.Proof.GradWInOwn
public import proofs.«01_k».proof.Proof.Proj0
public import proofs.«01_k».proof.Proof.Proj1
public import proofs.«01_k».proof.Proof.Proj2
public import proofs.«01_k».proof.Proof.Proj3
public import proofs.«01_k».proof.Proof.Proj4

/-!
  The frames of the calls that take slab numbers: over machine floats, over the ideal ones, and of their references. The slab
  numbers are below 8 by the precondition, so every block lies in its array. Each program over machine floats has the text of its
  ideal form, so the frame proved over any float values holds for it; the tables of kernel bodies are equal label by label.
-/

@[expose] public section
noncomputable section
open Idealize.ShloMosaic Idealize.ShloMosaic.TcCoe Idealize.SL.Sem
namespace Cert.FramesSlabs

/-- The bodies of the call for the sibling chip's slabs of the gradient of the input weights are those of its ideal form. -/
theorem bodies6 : (Cert.Kernel6.defs₀ : Defs _ _ _ (Elt Bits) _) = (Cert.Kernel6Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the sibling chip's slabs of the gradient of the input weights, over machine floats. -/
theorem frame6 : Cert.quiescent_Kernel6 (hKernel6 := Cert.Kernel6.Gen.facts) (hPre_slabs_exist6 := Cert.Pre_slabs_exist6.Gen.facts) := fun m ρ hpre => by
  have h := Cert.Kernel6Ideal.Gen.frame (F := Bits) m ρ (Cert.GradWInSibling.ok m (Cert.Slabs.below6 _ _ _ (hpre 0)))
  rw [show (Cert.Kernel6Ideal.defs : Defs _ _ _ (Elt Bits) _) = Cert.Kernel6.defs from congrArg (Pipeline.defs Cert.Kernel6Ideal.pcfgs) bodies6.symm] at h
  exact h

/-- The frame of the call for the sibling chip's slabs of the gradient of the input weights, over the ideal floats. -/
theorem ideal6 : Cert.quiescent_Kernel6Ideal (hKernel6Ideal := Cert.Kernel6Ideal.Gen.facts) (hPre_slabs_exist6 := Cert.Pre_slabs_exist6.Gen.facts) := fun m ρ hpre =>
  Cert.Kernel6Ideal.Gen.frame m ρ (Cert.GradWInSibling.ok m (Cert.Slabs.below6 _ _ _ (hpre 0)))

/-- The frame of the reference of the call for the sibling chip's slabs of the gradient of the input weights. -/
theorem reference6 : Cert.quiescent_Reference6Ideal (hReference6Ideal := Cert.Reference6Ideal.Gen.facts) (hPre_slabs_exist6 := Cert.Pre_slabs_exist6.Gen.facts) := fun m g _ =>
  (θ_run (Cert.Reference6Ideal.defs (F := Ideal)) _ _).mono
    (fun r h => ⟨fun c => (h c).2, sem_eq_zero_of_no_sems rfl r.2⟩)
    (Cert.Reference6Ideal.Value.run (F := Ideal) m g)

/-- The bodies of the call for the own chip's slabs of the gradient of the input weights are those of its ideal form. -/
theorem bodies7 : (Cert.Kernel7.defs₀ : Defs _ _ _ (Elt Bits) _) = (Cert.Kernel7Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the own chip's slabs of the gradient of the input weights, over machine floats. -/
theorem frame7 : Cert.quiescent_Kernel7 (hKernel7 := Cert.Kernel7.Gen.facts) (hPre_slabs_exist7 := Cert.Pre_slabs_exist7.Gen.facts) := fun m ρ hpre => by
  have h := Cert.Kernel7Ideal.Gen.frame (F := Bits) m ρ (Cert.GradWInOwn.ok m (Cert.Slabs.below7 _ _ _ _ (hpre 0)))
  rw [show (Cert.Kernel7Ideal.defs : Defs _ _ _ (Elt Bits) _) = Cert.Kernel7.defs from congrArg (Pipeline.defs Cert.Kernel7Ideal.pcfgs) bodies7.symm] at h
  exact h

/-- The frame of the call for the own chip's slabs of the gradient of the input weights, over the ideal floats. -/
theorem ideal7 : Cert.quiescent_Kernel7Ideal (hKernel7Ideal := Cert.Kernel7Ideal.Gen.facts) (hPre_slabs_exist7 := Cert.Pre_slabs_exist7.Gen.facts) := fun m ρ hpre =>
  Cert.Kernel7Ideal.Gen.frame m ρ (Cert.GradWInOwn.ok m (Cert.Slabs.below7 _ _ _ _ (hpre 0)))

/-- The frame of the reference of the call for the own chip's slabs of the gradient of the input weights. -/
theorem reference7 : Cert.quiescent_Reference7Ideal (hReference7Ideal := Cert.Reference7Ideal.Gen.facts) (hPre_slabs_exist7 := Cert.Pre_slabs_exist7.Gen.facts) := fun m g _ =>
  (θ_run (Cert.Reference7Ideal.defs (F := Ideal)) _ _).mono
    (fun r h => ⟨fun c => (h c).2, sem_eq_zero_of_no_sems rfl r.2⟩)
    (Cert.Reference7Ideal.Value.run (F := Ideal) m g)

/-- The bodies of the forward call for the first slab of the projection are those of its ideal form. -/
theorem bodies8 : (Cert.Kernel8.defs₀ : Defs _ _ _ (Elt Bits) _) = (Cert.Kernel8Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the forward call for the first slab of the projection, over machine floats. -/
theorem frame8 : Cert.quiescent_Kernel8 (hKernel8 := Cert.Kernel8.Gen.facts) (hPre_slabs_exist8 := Cert.Pre_slabs_exist8.Gen.facts) := fun m ρ hpre => by
  have h := Cert.Kernel8Ideal.Gen.frame (F := Bits) m ρ (Cert.Proj0.ok m (Cert.Slabs.below8 _ _ _ _ _ (hpre 0)))
  rw [show (Cert.Kernel8Ideal.defs : Defs _ _ _ (Elt Bits) _) = Cert.Kernel8.defs from congrArg (Pipeline.defs Cert.Kernel8Ideal.pcfgs) bodies8.symm] at h
  exact h

/-- The frame of the forward call for the first slab of the projection, over the ideal floats. -/
theorem ideal8 : Cert.quiescent_Kernel8Ideal (hKernel8Ideal := Cert.Kernel8Ideal.Gen.facts) (hPre_slabs_exist8 := Cert.Pre_slabs_exist8.Gen.facts) := fun m ρ hpre =>
  Cert.Kernel8Ideal.Gen.frame m ρ (Cert.Proj0.ok m (Cert.Slabs.below8 _ _ _ _ _ (hpre 0)))

/-- The frame of the reference of the forward call for the first slab of the projection. -/
theorem reference8 : Cert.quiescent_Reference8Ideal (hReference8Ideal := Cert.Reference8Ideal.Gen.facts) (hPre_slabs_exist8 := Cert.Pre_slabs_exist8.Gen.facts) := fun m g _ =>
  (θ_run (Cert.Reference8Ideal.defs (F := Ideal)) _ _).mono
    (fun r h => ⟨fun c => (h c).2, sem_eq_zero_of_no_sems rfl r.2⟩)
    (Cert.Reference8Ideal.Value.run (F := Ideal) m g)

/-- The bodies of the forward call for the second and third slabs of the projection are those of its ideal form. -/
theorem bodies9 : (Cert.Kernel9.defs₀ : Defs _ _ _ (Elt Bits) _) = (Cert.Kernel9Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the forward call for the second and third slabs of the projection, over machine floats. -/
theorem frame9 : Cert.quiescent_Kernel9 (hKernel9 := Cert.Kernel9.Gen.facts) (hPre_slabs_exist9 := Cert.Pre_slabs_exist9.Gen.facts) := fun m ρ hpre => by
  have h := Cert.Kernel9Ideal.Gen.frame (F := Bits) m ρ (Cert.Proj1.ok m (Cert.Slabs.below9 _ _ _ _ _ (hpre 0)))
  rw [show (Cert.Kernel9Ideal.defs : Defs _ _ _ (Elt Bits) _) = Cert.Kernel9.defs from congrArg (Pipeline.defs Cert.Kernel9Ideal.pcfgs) bodies9.symm] at h
  exact h

/-- The frame of the forward call for the second and third slabs of the projection, over the ideal floats. -/
theorem ideal9 : Cert.quiescent_Kernel9Ideal (hKernel9Ideal := Cert.Kernel9Ideal.Gen.facts) (hPre_slabs_exist9 := Cert.Pre_slabs_exist9.Gen.facts) := fun m ρ hpre =>
  Cert.Kernel9Ideal.Gen.frame m ρ (Cert.Proj1.ok m (Cert.Slabs.below9 _ _ _ _ _ (hpre 0)))

/-- The frame of the reference of the forward call for the second and third slabs of the projection. -/
theorem reference9 : Cert.quiescent_Reference9Ideal (hReference9Ideal := Cert.Reference9Ideal.Gen.facts) (hPre_slabs_exist9 := Cert.Pre_slabs_exist9.Gen.facts) := fun m g _ =>
  (θ_run (Cert.Reference9Ideal.defs (F := Ideal)) _ _).mono
    (fun r h => ⟨fun c => (h c).2, sem_eq_zero_of_no_sems rfl r.2⟩)
    (Cert.Reference9Ideal.Value.run (F := Ideal) m g)

/-- The bodies of the forward call for the fourth and fifth slabs of the projection are those of its ideal form. -/
theorem bodies10 : (Cert.Kernel10.defs₀ : Defs _ _ _ (Elt Bits) _) = (Cert.Kernel10Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the forward call for the fourth and fifth slabs of the projection, over machine floats. -/
theorem frame10 : Cert.quiescent_Kernel10 (hKernel10 := Cert.Kernel10.Gen.facts) (hPre_slabs_exist10 := Cert.Pre_slabs_exist10.Gen.facts) := fun m ρ hpre => by
  have h := Cert.Kernel10Ideal.Gen.frame (F := Bits) m ρ (Cert.Proj2.ok m (Cert.Slabs.below10 _ _ _ _ _ (hpre 0)))
  rw [show (Cert.Kernel10Ideal.defs : Defs _ _ _ (Elt Bits) _) = Cert.Kernel10.defs from congrArg (Pipeline.defs Cert.Kernel10Ideal.pcfgs) bodies10.symm] at h
  exact h

/-- The frame of the forward call for the fourth and fifth slabs of the projection, over the ideal floats. -/
theorem ideal10 : Cert.quiescent_Kernel10Ideal (hKernel10Ideal := Cert.Kernel10Ideal.Gen.facts) (hPre_slabs_exist10 := Cert.Pre_slabs_exist10.Gen.facts) := fun m ρ hpre =>
  Cert.Kernel10Ideal.Gen.frame m ρ (Cert.Proj2.ok m (Cert.Slabs.below10 _ _ _ _ _ (hpre 0)))

/-- The frame of the reference of the forward call for the fourth and fifth slabs of the projection. -/
theorem reference10 : Cert.quiescent_Reference10Ideal (hReference10Ideal := Cert.Reference10Ideal.Gen.facts) (hPre_slabs_exist10 := Cert.Pre_slabs_exist10.Gen.facts) := fun m g _ =>
  (θ_run (Cert.Reference10Ideal.defs (F := Ideal)) _ _).mono
    (fun r h => ⟨fun c => (h c).2, sem_eq_zero_of_no_sems rfl r.2⟩)
    (Cert.Reference10Ideal.Value.run (F := Ideal) m g)

/-- The bodies of the forward call for the sixth and seventh slabs of the projection are those of its ideal form. -/
theorem bodies11 : (Cert.Kernel11.defs₀ : Defs _ _ _ (Elt Bits) _) = (Cert.Kernel11Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the forward call for the sixth and seventh slabs of the projection, over machine floats. -/
theorem frame11 : Cert.quiescent_Kernel11 (hKernel11 := Cert.Kernel11.Gen.facts) (hPre_slabs_exist11 := Cert.Pre_slabs_exist11.Gen.facts) := fun m ρ hpre => by
  have h := Cert.Kernel11Ideal.Gen.frame (F := Bits) m ρ (Cert.Proj3.ok m (Cert.Slabs.below11 _ _ _ _ _ (hpre 0)))
  rw [show (Cert.Kernel11Ideal.defs : Defs _ _ _ (Elt Bits) _) = Cert.Kernel11.defs from congrArg (Pipeline.defs Cert.Kernel11Ideal.pcfgs) bodies11.symm] at h
  exact h

/-- The frame of the forward call for the sixth and seventh slabs of the projection, over the ideal floats. -/
theorem ideal11 : Cert.quiescent_Kernel11Ideal (hKernel11Ideal := Cert.Kernel11Ideal.Gen.facts) (hPre_slabs_exist11 := Cert.Pre_slabs_exist11.Gen.facts) := fun m ρ hpre =>
  Cert.Kernel11Ideal.Gen.frame m ρ (Cert.Proj3.ok m (Cert.Slabs.below11 _ _ _ _ _ (hpre 0)))

/-- The frame of the reference of the forward call for the sixth and seventh slabs of the projection. -/
theorem reference11 : Cert.quiescent_Reference11Ideal (hReference11Ideal := Cert.Reference11Ideal.Gen.facts) (hPre_slabs_exist11 := Cert.Pre_slabs_exist11.Gen.facts) := fun m g _ =>
  (θ_run (Cert.Reference11Ideal.defs (F := Ideal)) _ _).mono
    (fun r h => ⟨fun c => (h c).2, sem_eq_zero_of_no_sems rfl r.2⟩)
    (Cert.Reference11Ideal.Value.run (F := Ideal) m g)

/-- The bodies of the forward call for the last slab of the projection are those of its ideal form. -/
theorem bodies12 : (Cert.Kernel12.defs₀ : Defs _ _ _ (Elt Bits) _) = (Cert.Kernel12Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the forward call for the last slab of the projection, over machine floats. -/
theorem frame12 : Cert.quiescent_Kernel12 (hKernel12 := Cert.Kernel12.Gen.facts) (hPre_slabs_exist12 := Cert.Pre_slabs_exist12.Gen.facts) := fun m ρ hpre => by
  have h := Cert.Kernel12Ideal.Gen.frame (F := Bits) m ρ (Cert.Proj4.ok m (Cert.Slabs.below12 _ _ _ _ _ (hpre 0)))
  rw [show (Cert.Kernel12Ideal.defs : Defs _ _ _ (Elt Bits) _) = Cert.Kernel12.defs from congrArg (Pipeline.defs Cert.Kernel12Ideal.pcfgs) bodies12.symm] at h
  exact h

/-- The frame of the forward call for the last slab of the projection, over the ideal floats. -/
theorem ideal12 : Cert.quiescent_Kernel12Ideal (hKernel12Ideal := Cert.Kernel12Ideal.Gen.facts) (hPre_slabs_exist12 := Cert.Pre_slabs_exist12.Gen.facts) := fun m ρ hpre =>
  Cert.Kernel12Ideal.Gen.frame m ρ (Cert.Proj4.ok m (Cert.Slabs.below12 _ _ _ _ _ (hpre 0)))

/-- The frame of the reference of the forward call for the last slab of the projection. -/
theorem reference12 : Cert.quiescent_Reference12Ideal (hReference12Ideal := Cert.Reference12Ideal.Gen.facts) (hPre_slabs_exist12 := Cert.Pre_slabs_exist12.Gen.facts) := fun m g _ =>
  (θ_run (Cert.Reference12Ideal.defs (F := Ideal)) _ _).mono
    (fun r h => ⟨fun c => (h c).2, sem_eq_zero_of_no_sems rfl r.2⟩)
    (Cert.Reference12Ideal.Value.run (F := Ideal) m g)

end Cert.FramesSlabs
-- ==== Proof.FramesRest.lean ====
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run
public import Idealize.ShloMosaic.Lib.Quiescent
public import Idealize.ShloMosaic.Adequacy
public import Idealize.ShloMosaic.Init

/-!
  The frames of the calls around the projections and of the pooling mixer's gradients: over machine floats and of their references.
  Each program over machine floats has the text of its ideal form, so the frame proved over any float values holds for it; the tables
  of kernel bodies are equal label by label.
-/

@[expose] public section
noncomputable section
open Idealize.ShloMosaic Idealize.ShloMosaic.TcCoe Idealize.SL.Sem
namespace Cert.FramesRest

/-- The bodies of the call for the gradient of a pooling weight are those of its ideal form. -/
theorem bodies13 : (Cert.Kernel13.defs₀ : Defs _ _ _ (Elt Bits) _) = (Cert.Kernel13Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call for the gradient of a pooling weight. -/
theorem frame13 : Cert.quiescent_Kernel13 (hKernel13 := Cert.Kernel13.Gen.facts) := fun m ρ _ => by
  have h := Cert.Kernel13Ideal.Gen.frame (F := Bits) m ρ
  rw [show (Cert.Kernel13Ideal.defs : Defs _ _ _ (Elt Bits) _) = Cert.Kernel13.defs from congrArg (Pipeline.defs Cert.Kernel13Ideal.pcfgs) bodies13.symm] at h
  exact h

/-- The frame of the reference of the call for the gradient of a pooling weight. -/
theorem reference13 (m : (ℓ : Loc Cert.Reference13Ideal.nD Cert.Reference13Ideal.τ Cert.Reference13Ideal.sig) → Buf (Elt Ideal) ℓ)
    (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩
      (fun r => (∀ c : Dev Cert.Reference13Ideal.nD,
        r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
        ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
        ∧ r.2.sem = fun _ => 0) :=
  (θ_run (Cert.Reference13Ideal.defs (F := Ideal)) _ _).mono
    (fun r h => ⟨fun c => (h c).2, sem_eq_zero_of_no_sems rfl r.2⟩)
    (Cert.Reference13Ideal.Value.run (F := Ideal) m g)

/-- The bodies of the call in front of the input projection are those of its ideal form. -/
theorem bodies14 : (Cert.Kernel14.defs₀ : Defs _ _ _ (Elt Bits) _) = (Cert.Kernel14Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call in front of the input projection. -/
theorem frame14 : Cert.quiescent_Kernel14 (hKernel14 := Cert.Kernel14.Gen.facts) := fun m ρ _ => by
  have h := Cert.Kernel14Ideal.Gen.frame (F := Bits) m ρ
  rw [show (Cert.Kernel14Ideal.defs : Defs _ _ _ (Elt Bits) _) = Cert.Kernel14.defs from congrArg (Pipeline.defs Cert.Kernel14Ideal.pcfgs) bodies14.symm] at h
  exact h

/-- The frame of the reference of the call in front of the input projection. -/
theorem reference14 (m : (ℓ : Loc Cert.Reference14Ideal.nD Cert.Reference14Ideal.τ Cert.Reference14Ideal.sig) → Buf (Elt Ideal) ℓ)
    (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩
      (fun r => (∀ c : Dev Cert.Reference14Ideal.nD,
        r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
        ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
        ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
        ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
        ∧ r.2.sem = fun _ => 0) :=
  (θ_run (Cert.Reference14Ideal.defs (F := Ideal)) _ _).mono
    (fun r h => ⟨fun c => (h c).2, sem_eq_zero_of_no_sems rfl r.2⟩)
    (Cert.Reference14Ideal.Value.run (F := Ideal) m g)

/-- The bodies of the pooling mixer's gate call are those of its ideal form. -/
theorem bodies15 : (Cert.Kernel15.defs₀ : Defs _ _ _ (Elt Bits) _) = (Cert.Kernel15Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the pooling mixer's gate call. -/
theorem frame15 : Cert.quiescent_Kernel15 (hKernel15 := Cert.Kernel15.Gen.facts) := fun m ρ _ => by
  have h := Cert.Kernel15Ideal.Gen.frame (F := Bits) m ρ
  rw [show (Cert.Kernel15Ideal.defs : Defs _ _ _ (Elt Bits) _) = Cert.Kernel15.defs from congrArg (Pipeline.defs Cert.Kernel15Ideal.pcfgs) bodies15.symm] at h
  exact h

/-- The frame of the reference of the pooling mixer's gate call. -/
theorem reference15 (m : (ℓ : Loc Cert.Reference15Ideal.nD Cert.Reference15Ideal.τ Cert.Reference15Ideal.sig) → Buf (Elt Ideal) ℓ)
    (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩
      (fun r => (∀ c : Dev Cert.Reference15Ideal.nD,
        r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
        ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
        ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
        ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
        ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
        ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
        ∧ r.2.sem = fun _ => 0) :=
  (θ_run (Cert.Reference15Ideal.defs (F := Ideal)) _ _).mono
    (fun r h => ⟨fun c => (h c).2.2.2.2, sem_eq_zero_of_no_sems rfl r.2⟩)
    (Cert.Reference15Ideal.Value.run (F := Ideal) m g)

/-- The bodies of the call behind the output projection are those of its ideal form. -/
theorem bodies16 : (Cert.Kernel16.defs₀ : Defs _ _ _ (Elt Bits) _) = (Cert.Kernel16Ideal.defs₀ : Defs _ _ _ (Elt Bits) _) := by
  refine congrArg Defs.onTc ?_
  funext l a
  obtain ⟨l, hl⟩ := l
  cases l with
  | zero => obtain ⟨t, s⟩ := a; rfl
  | succ n => exact absurd hl (by omega)

/-- The frame of the call behind the output projection. -/
theorem frame16 : Cert.quiescent_Kernel16 (hKernel16 := Cert.Kernel16.Gen.facts) := fun m ρ _ => by
  have h := Cert.Kernel16Ideal.Gen.frame (F := Bits) m ρ
  rw [show (Cert.Kernel16Ideal.defs : Defs _ _ _ (Elt Bits) _) = Cert.Kernel16.defs from congrArg (Pipeline.defs Cert.Kernel16Ideal.pcfgs) bodies16.symm] at h
  exact h

/-- The frame of the reference of the call behind the output projection. -/
theorem reference16 (m : (ℓ : Loc Cert.Reference16Ideal.nD Cert.Reference16Ideal.τ Cert.Reference16Ideal.sig) → Buf (Elt Ideal) ℓ)
    (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩
      (fun r => (∀ c : Dev Cert.Reference16Ideal.nD,
        r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
        ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
        ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
        ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
        ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
        ∧ r.2.sem = fun _ => 0) :=
  (θ_run (Cert.Reference16Ideal.defs (F := Ideal)) _ _).mono
    (fun r h => ⟨fun c => (h c).2.2.2.2.2, sem_eq_zero_of_no_sems rfl r.2⟩)
    (Cert.Reference16Ideal.Value.run (F := Ideal) m g)

end Cert.FramesRest
-- ==== Proof.GradPoolW.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Pointwise

/-!
  The call for the gradient of one pooling weight: its array is the product of the transposed pooled keys with the gradient behind them.
-/

@[expose] public section
noncomputable section
open Idealize.ShloMosaic Idealize.ShloMosaic.TcCoe Idealize.SL.Sem
open Cert.Kernel13Ideal Cert.Kernel13Ideal.Gen

namespace Cert.GradPoolW

/-- The one point takes the whole arrays. -/
theorem idx : ∀ t : Fin cfg0.N, win0_0.index t = ![0, 0] ∧ win0_1.index t = ![0, 0]
    ∧ win0_2.index t = ![0, 0] := (by decide +kernel : ∀ t : Fin grid0.N, _)

/-- One block's product. -/
theorem block (x0 : Vec Ideal S4096x512 .bf16) (x1 : Vec Ideal S4096x512 .bf16) (r e : Fin 512) :
    out0_2 (F := Ideal) x0 x1 (ix2 r e) = ∑ k : Fin 4096, x0 (ix2 k r) * x1 (ix2 k e) := by
  unfold out0_2
  rw [View.canon_unit_zero (by funext a; fin_cases a <;> rfl), View.ld_unit_zero (by funext a; fin_cases a <;> rfl), View.ld_unit_zero (by funext a; fin_cases a <;> rfl)]
  unfold k0_pay1
  pointwise

section
variable (m : (ℓ : Loc nD τ sig) → Buf (Elt Ideal) ℓ) (c : Dev nD)

/-- The call's array: the whole product. -/
theorem array : (dats m 0 c).arrAt 2 cfg0.N
    = Products.tn (a := 512) (n := 4096) (b := 512) (m ((c.tc : Thread nD τ).loc main_arg0)) (m ((c.tc : Thread nD τ).loc main_arg1)) := by
  refine (dats m 0 c).arrAt_eq_of_covers 2 _ (by decide +kernel) fun t hf y => ?_
  obtain ⟨e0, e1, e2⟩ := idx t
  obtain ⟨r, e, rfl⟩ : ∃ (r : Fin 512) (e : Fin 512), y = ix2 r e := Products.idx2 y
  blk_simp
  rw [after0_2]
  refine (block _ _ r e).trans (Products.sum_mul (fun k => ?_) (fun k => ?_))
  · blk_ext [iblk, e0, e2]
  · blk_ext [iblk, e1, e2]
end

/-- The call and the plain product end with the same array. -/
theorem algebraic : Cert.algebraic_Kernel13Ideal_Reference13Ideal (hKernel13Ideal := Cert.Kernel13Ideal.Gen.facts)
      (hReference13Ideal := Cert.Reference13Ideal.Gen.facts) := by
  intro m g m' g' _ hag
  refine ⟨fun c => (dats m 0 c).arrAt 2 cfg0.N, Cert.Kernel13Ideal.Value.run_blocks m g, ?_⟩
  refine (θ_run _ _ _).mono (fun r h c => ?_) (Cert.Reference13Ideal.Value.run (F := Ideal) m' g')
  obtain ⟨h0, ha⟩ := h c
  obtain ⟨e0, e1⟩ := hag c
  refine ⟨h0.trans ?_, ha⟩
  rw [Cert.Reference13Ideal.Read.val_main_v5_eq, e0, e1]
  refine Eq.trans ?_ (array m c).symm
  funext i
  obtain ⟨r, e, rfl⟩ : ∃ (r : Fin 512) (e : Fin 512), i = ix2 r e := Products.idx2 i
  unfold Cert.Reference13Ideal.Read.val_main_v5 Cert.Reference13Ideal.Read.val_main_v4 Cert.Reference13Ideal.Read.val_main_v3 Cert.Reference13Ideal.Read.val_main_v1
  pointwise
  exact Products.sum_comm _ _

end Cert.GradPoolW
-- ==== Proof.Prenorm.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Defs
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Tactic

/-!
  The call in front of the input projection: every row divided by its root mean square, times a gain, modulated by a scale
  and a shift. The first 16 blocks of 256 rows are latent tokens, the last block is the context; each has its own scale and shift.
-/

@[expose] public section
noncomputable section
open Idealize.ShloMosaic Idealize.ShloMosaic.TcCoe Idealize.SL.Sem
open Cert.Kernel14Ideal Cert.Kernel14Ideal.Gen

namespace Cert.Prenorm

/-- The blocks at point `t`. -/
theorem idx : ∀ t : Fin cfg0.N, win0_0.index t = ![t.val - 16, 0] ∧ win0_1.index t = ![min t.val 15, 0]
    ∧ win0_2.index t = ![0, 0] ∧ win0_3.index t = ![if t.val < 16 then 1 else 0, 0, 0] ∧ win0_4.index t = ![t.val, 0] :=
  (by decide +kernel : ∀ t : Fin grid0.N, _)

/-- One row `x`: over its root mean square, times the gain `g`, times one plus the scale `s`, plus the shift `b`. -/
def row (x g s b : Fin 4096 → EReal) (e : Fin 4096) : EReal :=
  x e * Ideal.rsqrt (Ideal.div (∑ k, x k * x k) (Ideal.ofBits .f32 1166016512#32) + Ideal.ofBits .f32 897988541#32) * g e * (1 + s e) + b e

/-- What the body stores at a latent block. -/
theorem pay1 (x : Vec Ideal S256x4096 .f32) (g : Vec Ideal S1x4096 .f32) (s b : Vec Ideal S1x1x4096 .f32) (r : Fin 256) (e : Fin 4096) :
    k0_pay1 (F := Ideal) x g s b (ix2 r e) = row (fun k => x (ix2 r k)) (fun k => g (ix2 0 k)) (fun k => s (ix3 0 0 k)) (fun k => b (ix3 0 0 k)) e := by
  unfold k0_pay1 row
  pointwise

/-- What the body stores at the context's block. -/
theorem pay2 (x : Vec Ideal S256x4096 .f32) (g : Vec Ideal S1x4096 .f32) (s b : Vec Ideal S1x1x4096 .f32) (r : Fin 256) (e : Fin 4096) :
    k0_pay2 (F := Ideal) x g s b (ix2 r e) = row (fun k => x (ix2 r k)) (fun k => g (ix2 0 k)) (fun k => s (ix3 0 0 k)) (fun k => b (ix3 0 0 k)) e := by
  unfold k0_pay2 row
  pointwise

/-- The scale is row 0 of the modulation. -/
theorem ld0 (x : Vec Ideal S1x8x4096 .f32) (inb) :
    (fun k : Fin 4096 => View.ld (Val := Elt Ideal) (e' := .f32) x (Rect.unit (s := S1x8x4096) ![0, 0, 0] S1x1x4096.size inb) (ix3 0 0 k)) = fun k => x (ix3 0 0 k) := by
  funext k
  exact congrArg x (by ext a; fin_cases a <;> simp [ix3])
/-- The shift is row 1 of the modulation. -/
theorem ld1 (x : Vec Ideal S1x8x4096 .f32) (inb) :
    (fun k : Fin 4096 => View.ld (Val := Elt Ideal) (e' := .f32) x (Rect.unit (s := S1x8x4096) ![0, 1, 0] S1x1x4096.size inb) (ix3 0 0 k)) = fun k => x (ix3 0 1 k) := by
  funext k
  exact congrArg x (by ext a; fin_cases a <;> simp [ix3])

/-- What the body leaves at a latent block. -/
theorem out_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x8x4096 .f32) (harg4 : arg4.IsWhole) (arg5 : Memref sig .tc .vmem S256x4096 .bf16) (harg5 : arg5.IsWhole) (hc0 : cond0_0 i) (hc1 : ¬cond0_1 i)
    (x0 x1 : Vec Ideal S256x4096 .f32) (x2 : Vec Ideal S1x4096 .f32) (x3 : Vec Ideal S1x8x4096 .f32) (r : Fin 256) (e : Fin 4096) :
    out0_A_4 c i arg1 harg1 arg2 harg2 arg3 harg3 arg4 harg4 arg5 harg5 hc0 hc1 x0 x1 x2 x3 (ix2 r e)
      = row (fun k => x1 (ix2 r k)) (fun k => x2 (ix2 0 k)) (fun k => x3 (ix3 0 0 k)) (fun k => x3 (ix3 0 1 k)) e := by
  unfold out0_A_4
  rw [View.read_writes_eq_canon _ _ _ (cover0_A_4 c i arg1 harg1 arg2 harg2 arg3 harg3 arg4 harg4 arg5 harg5 hc0 hc1 x0 x1 x2 x3)]
  unfold kernelRun0_A
  dsimp only
  sl_unfold_words
  simp only [View.readAt_eq_ld, harg1.read_unread, harg2.read_unread, harg3.read_unread, harg4.read_unread]
  rw [View.canon_unit_zero (by funext a; fin_cases a <;> rfl), View.ld_unit_zero (by funext a; fin_cases a <;> rfl), View.ld_unit_zero (by funext a; fin_cases a <;> rfl)]
  refine (pay1 _ _ _ _ r e).trans ?_
  rw [ld0, ld1]

/-- What the body leaves at a context block. -/
theorem out_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x8x4096 .f32) (harg4 : arg4.IsWhole) (arg5 : Memref sig .tc .vmem S256x4096 .bf16) (harg5 : arg5.IsWhole) (hc0 : ¬cond0_0 i) (hc1 : cond0_1 i)
    (x0 x1 : Vec Ideal S256x4096 .f32) (x2 : Vec Ideal S1x4096 .f32) (x3 : Vec Ideal S1x8x4096 .f32) (r : Fin 256) (e : Fin 4096) :
    out0_B_4 c i arg1 harg1 arg2 harg2 arg3 harg3 arg4 harg4 arg5 harg5 hc0 hc1 x0 x1 x2 x3 (ix2 r e)
      = row (fun k => x0 (ix2 r k)) (fun k => x2 (ix2 0 k)) (fun k => x3 (ix3 0 0 k)) (fun k => x3 (ix3 0 1 k)) e := by
  unfold out0_B_4
  rw [View.read_writes_eq_canon _ _ _ (cover0_B_4 c i arg1 harg1 arg2 harg2 arg3 harg3 arg4 harg4 arg5 harg5 hc0 hc1 x0 x1 x2 x3)]
  unfold kernelRun0_B
  dsimp only
  sl_unfold_words
  simp only [View.readAt_eq_ld, harg1.read_unread, harg2.read_unread, harg3.read_unread, harg4.read_unread]
  rw [View.canon_unit_zero (by funext a; fin_cases a <;> rfl), View.ld_unit_zero (by funext a; fin_cases a <;> rfl), View.ld_unit_zero (by funext a; fin_cases a <;> rfl)]
  refine (pay2 _ _ _ _ r e).trans ?_
  rw [ld0, ld1]

/-- The call's array: latent rows, then context rows, each with its own modulation. -/
def whole (ctx : Products.Mat 256 4096) (x : Products.Mat 4096 4096) (g : Products.Mat 1 4096) (md : (⟨3, ![2, 8, 4096]⟩ : Shape).Idx → EReal) : Products.Mat 4352 4096 := fun i =>
  if h : (i 0).val < 4096 then row (fun k => x (ix2 ⟨(i 0).val, h⟩ k)) (fun k => g (ix2 0 k)) (fun k => md (ix3 1 0 k)) (fun k => md (ix3 1 1 k)) (i 1)
  else row (fun k => ctx (ix2 ⟨(i 0).val - 4096, by have : (i 0).val < 4352 := (i 0).isLt; omega⟩ k)) (fun k => g (ix2 0 k)) (fun k => md (ix3 0 0 k)) (fun k => md (ix3 0 1 k)) (i 1)

/-- Its latent rows. -/
theorem whole_latent (ctx x g md) (r : Fin 4352) (h : r.val < 4096) (e : Fin 4096) : whole ctx x g md (ix2 r e)
    = row (fun k => x (ix2 ⟨r.val, h⟩ k)) (fun k => g (ix2 0 k)) (fun k => md (ix3 1 0 k)) (fun k => md (ix3 1 1 k)) e := dif_pos h
/-- Its context rows. -/
theorem whole_context (ctx x g md) (r : Fin 4352) (h : ¬ r.val < 4096) (e : Fin 4096) : whole ctx x g md (ix2 r e)
    = row (fun k => ctx (ix2 ⟨r.val - 4096, by omega⟩ k)) (fun k => g (ix2 0 k)) (fun k => md (ix3 0 0 k)) (fun k => md (ix3 0 1 k)) e := dif_neg h

/-- Rows with equal parts are equal. -/
theorem row_congr {x g s b x' g' s' b' : Fin 4096 → EReal} (hx : ∀ k, x k = x' k) (hg : ∀ k, g k = g' k) (hs : ∀ k, s k = s' k) (hb : ∀ k, b k = b' k) (e : Fin 4096) :
    row x g s b e = row x' g' s' b' e := by
  rw [funext hx, funext hg, funext hs, funext hb]

section
variable (m : (ℓ : Loc nD τ sig) → Buf (Elt Ideal) ℓ) (c : Dev nD)

/-- What the call leaves. -/
theorem array : (dats m 0 c).arrAt 4 cfg0.N
    = whole (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨r, e, rfl⟩ : ∃ (r : Fin 256) (e : Fin 4096), y = ix2 r e := Products.idx2 y
  have ht : t.val < 17 := t.isLt
  blk_simp
  obtain ⟨e0, e1, e2, e3, e4⟩ := idx t
  rw [after0_4]
  have eo : (win0_4.blk t).view.emb (ix2 r e) = ix2 ⟨t.val * 256 + r.val, by omega⟩ e := by
    clear e0 e1 e2 e3
    blk_ext [e4]
  rw [eo]
  by_cases h : t.val < 16
  · rw [outsAt0_A m c t h (by omega), out_A]
    rw [whole_latent _ _ _ _ _ (show t.val * 256 + r.val < 4096 by omega)]
    rw [if_pos h] at e3
    have e1' : win0_1.index t = ![t.val, 0] := by rw [e1, min_eq_left (by omega)]
    refine row_congr (fun k => ?_) (fun k => ?_) (fun k => ?_) (fun k => ?_) e
    · blk_ext [iblk, e1']
    · blk_ext [iblk, e2]
    · blk_ext [iblk, e3]
    · blk_ext [iblk, e3]
  · rw [outsAt0_B m c t h (by omega), out_B]
    rw [whole_context _ _ _ _ _ (show ¬ t.val * 256 + r.val < 4096 by omega)]
    rw [if_neg h] at e3
    have e0' : win0_0.index t = ![0, 0] := by rw [e0, Nat.sub_eq_zero_of_le (by omega)]
    have ht' : t.val = 16 := by omega
    refine row_congr (fun k => ?_) (fun k => ?_) (fun k => ?_) (fun k => ?_) e
    · blk_ext [iblk, e0', ht']
    · blk_ext [iblk, e2]
    · blk_ext [iblk, e3]
    · blk_ext [iblk, e3]
end

/-- The reference's latent rows. -/
theorem ref_latent (x1 x2 x3) (q e : Fin 4096) : Cert.Reference14Ideal.Read.val_main_v21 (F := Ideal) x1 x2 x3 (ix2 q e)
    = row (fun k => x1 (ix2 q k)) (fun k => x2 (ix2 0 k)) (fun k => x3 (ix3 1 0 k)) (fun k => x3 (ix3 1 1 k)) e := by
  unfold Cert.Reference14Ideal.Read.val_main_v21 Cert.Reference14Ideal.Read.val_main_v20 Cert.Reference14Ideal.Read.val_main_v19 Cert.Reference14Ideal.Read.val_main_v18 Cert.Reference14Ideal.Read.val_main_v17 Cert.Reference14Ideal.Read.val_main_v16 Cert.Reference14Ideal.Read.val_main_v15 Cert.Reference14Ideal.Read.val_main_v14 Cert.Reference14Ideal.Read.val_main_v13 Cert.Reference14Ideal.Read.val_main_v12 Cert.Reference14Ideal.Read.val_main_v11 Cert.Reference14Ideal.Read.val_main_v10 Cert.Reference14Ideal.Read.val_main_v9 Cert.Reference14Ideal.Read.val_main_v8 Cert.Reference14Ideal.Read.val_main_v7 Cert.Reference14Ideal.Read.val_main_v6 Cert.Reference14Ideal.Read.val_main_v5 Cert.Reference14Ideal.Read.val_main_v4 Cert.Reference14Ideal.Read.val_main_v3 Cert.Reference14Ideal.Read.val_main_v2 Cert.Reference14Ideal.Read.val_main_v1 Cert.Reference14Ideal.Read.val_main_v0 Cert.Reference14Ideal.Read.val_main_cst Cert.Reference14Ideal.Read.val_main_cst_0 Cert.Reference14Ideal.Read.val_main_cst_1 Cert.Reference14Ideal.Read.val_main_cst_2
  unfold row
  pointwise

/-- The reference's context rows. -/
theorem ref_context (x0 x2 x3) (q : Fin 256) (e : Fin 4096) : Cert.Reference14Ideal.Read.val_main_v43 (F := Ideal) x0 x2 x3 (ix2 q e)
    = row (fun k => x0 (ix2 q k)) (fun k => x2 (ix2 0 k)) (fun k => x3 (ix3 0 0 k)) (fun k => x3 (ix3 0 1 k)) e := by
  unfold Cert.Reference14Ideal.Read.val_main_v43 Cert.Reference14Ideal.Read.val_main_v42 Cert.Reference14Ideal.Read.val_main_v41 Cert.Reference14Ideal.Read.val_main_v40 Cert.Reference14Ideal.Read.val_main_v39 Cert.Reference14Ideal.Read.val_main_v38 Cert.Reference14Ideal.Read.val_main_v37 Cert.Reference14Ideal.Read.val_main_v36 Cert.Reference14Ideal.Read.val_main_v35 Cert.Reference14Ideal.Read.val_main_v34 Cert.Reference14Ideal.Read.val_main_v33 Cert.Reference14Ideal.Read.val_main_v32 Cert.Reference14Ideal.Read.val_main_v31 Cert.Reference14Ideal.Read.val_main_v30 Cert.Reference14Ideal.Read.val_main_v29 Cert.Reference14Ideal.Read.val_main_v28 Cert.Reference14Ideal.Read.val_main_v27 Cert.Reference14Ideal.Read.val_main_v26 Cert.Reference14Ideal.Read.val_main_v25 Cert.Reference14Ideal.Read.val_main_v24 Cert.Reference14Ideal.Read.val_main_v23 Cert.Reference14Ideal.Read.val_main_v22 Cert.Reference14Ideal.Read.val_main_cst_3 Cert.Reference14Ideal.Read.val_main_cst_4 Cert.Reference14Ideal.Read.val_main_cst_5 Cert.Reference14Ideal.Read.val_main_cst_6
  unfold row
  pointwise

/-- The reference's array. -/
theorem ref (x0 x1 x2 x3) : Cert.Reference14Ideal.Read.val_main_v45 (F := Ideal) x0 x1 x2 x3 = whole x0 x1 x2 x3 := by
  funext i
  obtain ⟨r, e, rfl⟩ : ∃ (r : Fin 4352) (e : Fin 4096), i = ix2 r e := Products.idx2 i
  unfold Cert.Reference14Ideal.Read.val_main_v45 Cert.Reference14Ideal.Read.val_main_v44 whole
  pointwise
  simp only [ref_latent, ref_context]

/-- The call and the plain formula end with the same array. -/
theorem algebraic : Cert.algebraic_Kernel14Ideal_Reference14Ideal (hKernel14Ideal := Cert.Kernel14Ideal.Gen.facts)
      (hReference14Ideal := Cert.Reference14Ideal.Gen.facts) := by
  intro m g m' g' _ hag
  refine ⟨fun c => (dats m 0 c).arrAt 4 cfg0.N, Cert.Kernel14Ideal.Value.run_blocks m g, ?_⟩
  refine (θ_run _ _ _).mono (fun r h c => ?_) (Cert.Reference14Ideal.Value.run (F := Ideal) m' g')
  obtain ⟨h0, ha⟩ := h c
  obtain ⟨e0, e1, e2, e3⟩ := hag c
  refine ⟨h0.trans ?_, ha⟩
  rw [Cert.Reference14Ideal.Read.val_main_v45_eq, e0, e1, e2, e3, ref]
  exact (array m c).symm

end Cert.Prenorm
-- ==== Proof.PoolGateBlock.lean ====
module

public import proofs.«01_k».proof.Proof.Gen.Kernel15Ideal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Tactic

/-!
  What the body of the pooling mixer's first backward call leaves in its four output blocks, at an index. Case A is the first
  block of rows (the gradient of the scale is zeroed first), case B the second.
-/

@[expose] public section
noncomputable section
open Idealize.ShloMosaic Idealize.ShloMosaic.TcCoe Idealize.SL.Sem
open Cert.Kernel15Ideal Cert.Kernel15Ideal.Gen

namespace Cert.PoolGate

/-- The gate's gradient from the gate `g`, the mixed value `r`, the output's gradient `y` and the scale `s`. -/
def dgate (g r y s : EReal) : EReal := y * (r * s) * (Ideal.logistic g * (1 + g * (1 - Ideal.logistic g)))
/-- The gradient behind the gate. -/
def dval (g y : EReal) : EReal := y * (g * Ideal.logistic g)

/-- The stored gate gradient. -/
theorem pay5 (g r y : Vec Ideal S2048x512 .f32) (s : Vec Ideal S1x512 .f32) (q : Fin 2048) (e : Fin 512) :
    k0_pay5 (F := Ideal) g r y s (ix2 q e) = dgate (g (ix2 q e)) (r (ix2 q e)) (y (ix2 q e)) (s (ix2 0 e)) := by
  unfold k0_pay5 k0_pay3 dgate
  pointwise

/-- The stored gradient of the mixed value. -/
theorem pay7 (g y : Vec Ideal S2048x512 .f32) (s : Vec Ideal S1x512 .f32) (q : Fin 2048) (e : Fin 512) :
    k0_pay7 (F := Ideal) g y s (ix2 q e) = dval (g (ix2 q e)) (y (ix2 q e)) * s (ix2 0 e) := by
  unfold k0_pay7 k0_pay4 dval
  pointwise

/-- Its product with the pooling weights. -/
theorem pay1 (d : FVec Ideal S2048x512 .bf16) (w : Vec Ideal S8x1x64x512 .bf16) (q : Fin 2048) (e : Fin 512) :
    k0_pay1 (F := Ideal) d w (ix2 q e)
      = ∑ k : Fin 512, d (ix2 q k) * w (ix4 ⟨e.val / 64, by omega⟩ 0 ⟨e.val % 64, by omega⟩ k) := by
  unfold k0_pay1
  pointwise

/-- The row added to the gradient of the scale. -/
theorem pay6 (g r y : Vec Ideal S2048x512 .f32) (s : Vec Ideal S1x512 .f32) (e : Fin 512) :
    k0_pay6 (F := Ideal) g r y s (ix2 0 e) = s (ix2 0 e) + ∑ q : Fin 2048, dval (g (ix2 q e)) (y (ix2 q e)) * r (ix2 q e) := by
  unfold k0_pay6 k0_pay4 k0_pay3 dval
  pointwise

/-- A load of a whole block of rows reads it. -/
theorem ldR (x : Vec Ideal S2048x512 .f32) (inb) : View.ld (Val := Elt Ideal) (e' := .f32) x (Rect.unit (s := S2048x512) ![0, 0] ![2048, 512] inb) = x :=
  View.ld_unit_zero (by funext a; fin_cases a <;> rfl) inb x
/-- A load of the whole weights reads them. -/
theorem ldW (x : Vec Ideal S8x1x64x512 .bf16) (inb) : View.ld (Val := Elt Ideal) (e' := .bf16) x (Rect.unit (s := S8x1x64x512) ![0, 0, 0, 0] ![8, 1, 64, 512] inb) = x :=
  View.ld_unit_zero (by funext a; fin_cases a <;> rfl) inb x
/-- A load of the whole scale reads it. -/
theorem ldS (x : Vec Ideal S1x512 .f32) (inb) : View.ld (Val := Elt Ideal) (e' := .f32) x (Rect.unit (s := S1x512) ![0, 0] ![1, 512] inb) = x :=
  View.ld_unit_zero (by funext a; fin_cases a <;> rfl) inb x

/-- A store of row 0 is read back at row 0. -/
theorem row_hit {V : EltTy → Type} {el : EltTy} {sp : Space} (v : View sig .tc sp S8x512 el) (f : v.ty.Contents V) (inb) (w : S1x512.Idx → V el) (L : List (View.Piece V S8x512 el)) (e : Fin 512) :
    v.read V (v.writes V f ((⟨Rect.unit (s := S8x512) ![0, 0] S1x512.size inb, w⟩ : View.Piece V S8x512 el) :: L)) (ix2 0 e) = w (ix2 0 e) :=
  View.read_writes_cons_unit_of_mem v f inb w L _ (ix2 0 e) rfl (by intro a; fin_cases a <;> simp [ix2])
/-- A store of row 0 leaves the other rows. -/
theorem row_miss {V : EltTy → Type} {el : EltTy} {sp : Space} (v : View sig .tc sp S8x512 el) (f : v.ty.Contents V) (inb) (w : S1x512.Idx → V el) (L : List (View.Piece V S8x512 el)) (r : Fin 8) (h : r ≠ 0) (e : Fin 512) :
    v.read V (v.writes V f ((⟨Rect.unit (s := S8x512) ![0, 0] S1x512.size inb, w⟩ : View.Piece V S8x512 el) :: L)) (ix2 r e) = v.read V (v.writes V f L) (ix2 r e) :=
  View.read_writes_cons_unit_of_not_mem v f inb w L _ rfl 0 (Or.inr (show 0 + 1 ≤ r.val from by
    have := Fin.val_ne_of_ne h
    have : r.val ≠ 0 := this
    omega))

section
variable (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S8x1x64x512 .bf16) (harg4 : arg4.IsWhole) (arg5 : Memref sig .tc .vmem S1x512 .f32) (harg5 : arg5.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S8x512 .f32) (harg10 : arg10.IsWhole) (hc0 : cond0_0 i)
  (x0 x1 x2 : Vec Ideal S2048x512 .f32) (x3 : Vec Ideal S8x1x64x512 .bf16) (x4 : Vec Ideal S1x512 .f32)

/-- The gate's gradient (first block). -/
theorem out_A_5 (q : Fin 2048) (e : Fin 512) :
    out0_A_5 c i arg1 harg1 arg2 harg2 arg3 harg3 arg4 harg4 arg5 harg5 arg7 harg7 arg8 harg8 arg9 harg9 arg10 harg10 hc0 x0 x1 x2 x3 x4 (ix2 q e) = dgate (x1 (ix2 q e)) (x2 (ix2 q e)) (x0 (ix2 q e)) (x4 (ix2 0 e)) := by
  unfold out0_A_5
  rw [View.read_writes_eq_canon _ _ _ (cover0_A_5 c i arg1 harg1 arg2 harg2 arg3 harg3 arg4 harg4 arg5 harg5 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (by funext a; fin_cases a <;> rfl)]
  simp only [ldR, ldW, ldS]
  exact pay5 _ _ _ _ q e

/-- The mixed value's gradient (first block). -/
theorem out_A_6 (q : Fin 2048) (e : Fin 512) :
    out0_A_6 c i arg1 harg1 arg2 harg2 arg3 harg3 arg4 harg4 arg5 harg5 arg7 harg7 arg8 harg8 arg9 harg9 arg10 harg10 hc0 x0 x1 x2 x3 x4 (ix2 q e) = dval (x1 (ix2 q e)) (x0 (ix2 q e)) * x4 (ix2 0 e) := by
  unfold out0_A_6
  rw [View.read_writes_eq_canon _ _ _ (cover0_A_6 c i arg1 harg1 arg2 harg2 arg3 harg3 arg4 harg4 arg5 harg5 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (by funext a; fin_cases a <;> rfl)]
  simp only [ldR, ldW, ldS]
  exact pay7 _ _ _ q e

/-- Its product with the weights (first block). -/
theorem out_A_7 (q : Fin 2048) (e : Fin 512) :
    out0_A_7 c i arg1 harg1 arg2 harg2 arg3 harg3 arg4 harg4 arg5 harg5 arg7 harg7 arg8 harg8 arg9 harg9 arg10 harg10 hc0 x0 x1 x2 x3 x4 (ix2 q e) = ∑ k : Fin 512, dval (x1 (ix2 q k)) (x0 (ix2 q k)) * x4 (ix2 0 k) * x3 (ix4 ⟨e.val / 64, by omega⟩ 0 ⟨e.val % 64, by omega⟩ k) := by
  unfold out0_A_7
  rw [View.read_writes_eq_canon _ _ _ (cover0_A_7 c i arg1 harg1 arg2 harg2 arg3 harg3 arg4 harg4 arg5 harg5 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (by funext a; fin_cases a <;> rfl)]
  simp only [ldR, ldW, ldS]
  refine (pay1 _ _ q e).trans ?_
  simp only [pay7]

/-- The gradient of the scale (first block): its row. -/
theorem out_A_8 (e : Fin 512) :
    out0_A_8 c i arg1 harg1 arg2 harg2 arg3 harg3 arg4 harg4 arg5 harg5 arg7 harg7 arg8 harg8 arg9 harg9 arg10 harg10 hc0 x0 x1 x2 x3 x4 (ix2 0 e) = 0 + ∑ q : Fin 2048, dval (x1 (ix2 q e)) (x0 (ix2 q e)) * x2 (ix2 q e) := by
  unfold out0_A_8
  unfold kernelRun0_A
  dsimp only
  sl_unfold_words
  simp only [View.readAt_eq_ld, harg1.read_unread, harg2.read_unread, harg3.read_unread, harg4.read_unread, harg5.read_unread]
  rw [row_hit]
  simp only [ldR, ldW, ldS]
  refine (pay6 _ _ _ _ e).trans ?_
  congr 1
  rw [View.readCov_fill _ _ _ _ _ (by intro a; fin_cases a <;> rfl)]
  show Ideal.ofBits .f32 0x00000000#32 = 0
  simp

/-- The gradient of the scale (first block): below its row, zeros. -/
theorem out_A_8_below (r : Fin 8) (h : r ≠ 0) (e : Fin 512) : out0_A_8 c i arg1 harg1 arg2 harg2 arg3 harg3 arg4 harg4 arg5 harg5 arg7 harg7 arg8 harg8 arg9 harg9 arg10 harg10 hc0 x0 x1 x2 x3 x4 (ix2 r e) = 0 := by
  unfold out0_A_8
  unfold kernelRun0_A
  dsimp only
  sl_unfold_words
  rw [row_miss _ _ _ _ _ r h]
  refine (View.read_writes_cons_unit_of_mem _ _ _ _ _ _ (ix2 r e) rfl (by intro a; fin_cases a <;> simp)).trans ?_
  show Ideal.ofBits .f32 0x00000000#32 = 0
  simp

end

section
variable (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S8x1x64x512 .bf16) (harg4 : arg4.IsWhole) (arg5 : Memref sig .tc .vmem S1x512 .f32) (harg5 : arg5.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S8x512 .f32) (harg10 : arg10.IsWhole) (hc0 : ¬cond0_0 i)
  (x0 x1 x2 : Vec Ideal S2048x512 .f32) (x3 : Vec Ideal S8x1x64x512 .bf16) (x4 : Vec Ideal S1x512 .f32) (xo8 : Vec Ideal S8x512 .f32)

/-- The gate's gradient (second block). -/
theorem out_B_5 (q : Fin 2048) (e : Fin 512) :
    out0_B_5 c i arg1 harg1 arg2 harg2 arg3 harg3 arg4 harg4 arg5 harg5 arg7 harg7 arg8 harg8 arg9 harg9 arg10 harg10 hc0 x0 x1 x2 x3 x4 xo8 (ix2 q e) = dgate (x1 (ix2 q e)) (x2 (ix2 q e)) (x0 (ix2 q e)) (x4 (ix2 0 e)) := by
  unfold out0_B_5
  rw [View.read_writes_eq_canon _ _ _ (cover0_B_5 c i arg1 harg1 arg2 harg2 arg3 harg3 arg4 harg4 arg5 harg5 arg7 harg7 arg8 harg8 arg9 harg9 arg10 harg10 hc0 x0 x1 x2 x3 x4 xo8)]
  unfold kernelRun0_B
  dsimp only
  sl_unfold_words
  simp only [View.readAt_eq_ld, harg1.read_unread, harg2.read_unread, harg3.read_unread, harg4.read_unread, harg5.read_unread, harg10.read_unread]
  rw [View.canon_unit_zero (by funext a; fin_cases a <;> rfl)]
  simp only [ldR, ldW, ldS]
  exact pay5 _ _ _ _ q e

/-- The mixed value's gradient (second block). -/
theorem out_B_6 (q : Fin 2048) (e : Fin 512) :
    out0_B_6 c i arg1 harg1 arg2 harg2 arg3 harg3 arg4 harg4 arg5 harg5 arg7 harg7 arg8 harg8 arg9 harg9 arg10 harg10 hc0 x0 x1 x2 x3 x4 xo8 (ix2 q e) = dval (x1 (ix2 q e)) (x0 (ix2 q e)) * x4 (ix2 0 e) := by
  unfold out0_B_6
  rw [View.read_writes_eq_canon _ _ _ (cover0_B_6 c i arg1 harg1 arg2 harg2 arg3 harg3 arg4 harg4 arg5 harg5 arg7 harg7 arg8 harg8 arg9 harg9 arg10 harg10 hc0 x0 x1 x2 x3 x4 xo8)]
  unfold kernelRun0_B
  dsimp only
  sl_unfold_words
  simp only [View.readAt_eq_ld, harg1.read_unread, harg2.read_unread, harg3.read_unread, harg4.read_unread, harg5.read_unread, harg10.read_unread]
  rw [View.canon_unit_zero (by funext a; fin_cases a <;> rfl)]
  simp only [ldR, ldW, ldS]
  exact pay7 _ _ _ q e

/-- Its product with the weights (second block). -/
theorem out_B_7 (q : Fin 2048) (e : Fin 512) :
    out0_B_7 c i arg1 harg1 arg2 harg2 arg3 harg3 arg4 harg4 arg5 harg5 arg7 harg7 arg8 harg8 arg9 harg9 arg10 harg10 hc0 x0 x1 x2 x3 x4 xo8 (ix2 q e) = ∑ k : Fin 512, dval (x1 (ix2 q k)) (x0 (ix2 q k)) * x4 (ix2 0 k) * x3 (ix4 ⟨e.val / 64, by omega⟩ 0 ⟨e.val % 64, by omega⟩ k) := by
  unfold out0_B_7
  rw [View.read_writes_eq_canon _ _ _ (cover0_B_7 c i arg1 harg1 arg2 harg2 arg3 harg3 arg4 harg4 arg5 harg5 arg7 harg7 arg8 harg8 arg9 harg9 arg10 harg10 hc0 x0 x1 x2 x3 x4 xo8)]
  unfold kernelRun0_B
  dsimp only
  sl_unfold_words
  simp only [View.readAt_eq_ld, harg1.read_unread, harg2.read_unread, harg3.read_unread, harg4.read_unread, harg5.read_unread, harg10.read_unread]
  rw [View.canon_unit_zero (by funext a; fin_cases a <;> rfl)]
  simp only [ldR, ldW, ldS]
  refine (pay1 _ _ q e).trans ?_
  simp only [pay7]

/-- The gradient of the scale (second block): its row. -/
theorem out_B_8 (e : Fin 512) :
    out0_B_8 c i arg1 harg1 arg2 harg2 arg3 harg3 arg4 harg4 arg5 harg5 arg7 harg7 arg8 harg8 arg9 harg9 arg10 harg10 hc0 x0 x1 x2 x3 x4 xo8 (ix2 0 e) = xo8 (ix2 0 e) + ∑ q : Fin 2048, dval (x1 (ix2 q e)) (x0 (ix2 q e)) * x2 (ix2 q e) := by
  unfold out0_B_8
  unfold kernelRun0_B
  dsimp only
  sl_unfold_words
  simp only [View.readAt_eq_ld, harg1.read_unread, harg2.read_unread, harg3.read_unread, harg4.read_unread, harg5.read_unread, harg10.read_unread]
  rw [row_hit]
  simp only [ldR, ldW, ldS]
  refine (pay6 _ _ _ _ e).trans ?_
  congr 1
  exact congrArg xo8 (by ext a; fin_cases a <;> simp [ix2])

/-- The gradient of the scale (second block): below its row, what was there. -/
theorem out_B_8_below (r : Fin 8) (h : r ≠ 0) (e : Fin 512) : out0_B_8 c i arg1 harg1 arg2 harg2 arg3 harg3 arg4 harg4 arg5 harg5 arg7 harg7 arg8 harg8 arg9 harg9 arg10 harg10 hc0 x0 x1 x2 x3 x4 xo8 (ix2 r e) = xo8 (ix2 r e) := by
  unfold out0_B_8
  unfold kernelRun0_B
  dsimp only
  sl_unfold_words
  rw [row_miss _ _ _ _ _ r h]
  exact congrFun (harg10.read_unread xo8) (ix2 r e)

end

end Cert.PoolGate
-- ==== Proof.Finite.lean ====
module

public import Idealize.ShloMosaic.Lib.Pointwise
public import Idealize.ShloMosaic.Lib.StableHlo

/-!
  A number that passes the preconditions' comparison is real.
-/

@[expose] public section
noncomputable section
open Idealize.ShloMosaic
namespace Cert

/-- A number whose absolute value compares below `+∞` is real. -/
theorem real_of {x : EReal} (h : BitVec.ofBool (decide (max x (-x) < Ideal.ofBits FTy.f32 2139095040#32)) = 1#1) : ∃ a : ℝ, x = a := by
  rw [show Ideal.ofBits FTy.f32 2139095040#32 = (⊤ : EReal) from rfl] at h
  have h' : max x (-x) < ⊤ := by
    by_contra hc
    rw [decide_eq_false hc] at h
    exact absurd h (by decide)
  refine ⟨x.toReal, (EReal.coe_toReal ?_ ?_).symm⟩
  · rintro rfl; simp at h'
  · rintro rfl; simp at h'

end Cert
-- ==== Proof.RefPoolGate.lean ====
module

public import proofs.«01_k».proof.Proof.PoolGateBlock
public import proofs.«01_k».proof.Proof.Gen.Reference15Ideal.Read
public import proofs.«01_k».proof.Pre_finite15
public import proofs.«01_k».proof.Proof.Finite
public import proofs.«01_k».proof.Proof.RealMath
public import Idealize.ShloMosaic.Lib.Routing.OpsSet
public import Idealize.ShloMosaic.Lib.Routing.OpsPair

/-!
  The reference of the pooling mixer's first backward call, read at an index.
-/

@[expose] public section
noncomputable section
open Idealize.ShloMosaic Cert.Reference15Ideal Cert.Reference15Ideal.Read
namespace Cert.PoolGate

variable (x0 : (⟨S4096x512, .bf16⟩ : BufTy).Contents (Elt Ideal)) (x1 : (⟨S4096x4096, .f32⟩ : BufTy).Contents (Elt Ideal)) (x2 : (⟨S4352x9216, .f32⟩ : BufTy).Contents (Elt Ideal))
  (x3 : (⟨S8x4x64x512, .bf16⟩ : BufTy).Contents (Elt Ideal)) (x4 : (⟨S1x2048, .f32⟩ : BufTy).Contents (Elt Ideal))

/-- The gate's column of the projection. -/
abbrev gateCol (e : Fin 512) : Fin 9216 := ⟨7168 + e.val, by omega⟩
/-- The mixer's column of the output's gradient. -/
abbrev outCol (e : Fin 512) : Fin 4096 := ⟨2048 + e.val, by omega⟩
/-- A row of tokens, as a row of the projection. -/
abbrev row (q : Fin 4096) : Fin 4352 := ⟨q.val, by omega⟩
/-- A column of the first of four groups. -/
abbrev col0 (e : Fin 512) : Fin 2048 := ⟨e.val, by omega⟩

/-- The gate. -/
theorem ref_gate (q : Fin 4096) (e : Fin 512) : val_main_v7 (F := Ideal) x2 (ix2 q e) = x2 (ix2 (row q) (gateCol e)) := by
  unfold val_main_v7
  pointwise

/-- The gradient behind the gate. -/
theorem ref_dval (q : Fin 4096) (e : Fin 512) : val_main_v14 (F := Ideal) x1 x2 (ix2 q e) = dval (x2 (ix2 (row q) (gateCol e))) (x1 (ix2 q (outCol e))) := by
  unfold val_main_v14 val_main_v12 val_main_v10_0 val_main_v10_2 val_main_call0_v4 val_main_call0_v3 val_main_call0_v2 val_main_call0_v1 val_main_call0_v0 val_main_call0_cst val_main_call0_cst_0 dval Ideal.logistic
  pointwise
  simp only [ref_gate]

/-- The gradient of the mixed value. -/
theorem ref_draw (q : Fin 4096) (e : Fin 512) : val_main_v21 (F := Ideal) x1 x2 x4 (ix2 q e)
    = dval (x2 (ix2 (row q) (gateCol e))) (x1 (ix2 q (outCol e))) * x4 (ix2 0 (col0 e)) := by
  rw [← ref_dval x1 x2 q e]
  unfold val_main_v21 val_main_v20 val_main_v19 val_main_v6
  pointwise

/-- Its product with the pooling weights. -/
theorem ref_dd (q : Fin 4096) (e : Fin 512) : val_main_v28 (F := Ideal) x1 x2 x3 x4 (ix2 q e)
    = ∑ k : Fin 512, dval (x2 (ix2 (row q) (gateCol k))) (x1 (ix2 q (outCol k))) * x4 (ix2 0 (col0 k)) * x3 (ix4 ⟨e.val / 64, by omega⟩ 0 ⟨e.val % 64, by omega⟩ k) := by
  unfold val_main_v28 val_main_v27 val_main_v4 val_main_v3 val_main_v2 val_main_v1
  pointwise
  simp only [ref_draw]

/-- The gradient of the scale: its row. -/
theorem ref_dscale (e : Fin 512) : val_main_v29 (F := Ideal) x0 x1 x2 x3 (ix2 0 e)
    = ∑ q : Fin 4096, dval (x2 (ix2 (row q) (gateCol e))) (x1 (ix2 q (outCol e))) * val_main_v5 (F := Ideal) x0 x3 (ix2 q e) := by
  simp only [← ref_dval]
  unfold val_main_v29 val_main_v18 val_main_v17 val_main_v16 val_main_cst
  pointwise
  exact Finset.sum_congr rfl fun k _ => mul_comm _ _

/-- The gradient of the scale: below its row, zeros. -/
theorem ref_dscale_below (r : Fin 8) (h : r ≠ 0) (e : Fin 512) : val_main_v29 (F := Ideal) x0 x1 x2 x3 (ix2 r e) = 0 := by
  unfold val_main_v29 val_main_call2_v0
  pointwise
  rw [dif_neg (by have := Fin.val_ne_of_ne h; have : r.val ≠ 0 := this; omega)]
  show (((0#32 : BitVec 32).toInt : ℝ) : EReal) = 0
  simp

/-- The reference's form of the gate's gradient is the kernel's, on real numbers and any gate. -/
theorem dgate_real (g : EReal) (r y s : ℝ) :
    ((r : EReal) * s * y) * Ideal.logistic g + g * (r * s * y) * (Ideal.logistic g * (1 - Ideal.logistic g)) = dgate g r y s := by
  unfold dgate
  have hx : (y : EReal) * (r * s) = r * s * y := mul_comm _ _
  have h1 : (1 : EReal) - 1 = 0 := by rw [← EReal.coe_one, ← EReal.coe_sub, sub_self, EReal.coe_zero]
  induction g with
  | bot =>
    have ht : (1 : EReal) + ⊤ = ⊤ := by rw [← EReal.coe_one, EReal.coe_add_top]
    have h : Ideal.logistic ⊥ = 0 := by simp [Ideal.logistic, Ideal.div, ht]
    simp only [h, zero_mul, mul_zero, add_zero]
  | top =>
    have h : Ideal.logistic ⊤ = 1 := by simp [Ideal.logistic, Ideal.div]
    simp only [h, h1, hx, mul_zero, add_zero, mul_one]
  | coe g =>
    rw [Ideal.logistic_coe]
    simp only [← EReal.coe_mul, ← EReal.coe_add, ← EReal.coe_sub, ← EReal.coe_one]
    congr 1
    ring

/-- The entries the call reads are real numbers. -/
structure Real : Prop where
  d : ∀ (q : Fin 4096) (e : Fin 512), ∃ a : ℝ, x0 (ix2 q e) = a
  y : ∀ (q : Fin 4096) (e : Fin 512), ∃ a : ℝ, x1 (ix2 q (outCol e)) = a
  w : ∀ (i : Fin 8) (j : Fin 64) (k : Fin 512), ∃ a : ℝ, x3 (ix4 i 0 j k) = a
  s : ∀ e : Fin 512, ∃ a : ℝ, x4 (ix2 0 (col0 e)) = a

/-- Arguments that meet the precondition hold real numbers where the call reads them. -/
theorem real_of_finite [Cert.Pre_finite15.Facts] (x5 : (⟨S4352x9216, .bf16⟩ : BufTy).Contents (Elt Ideal))
    (h : (Cert.Pre_finite15.fn (F := Ideal) x0 x1 x2 x3 x4 x5).1 = (fun _ => 1#1)
      ∧ (Cert.Pre_finite15.fn (F := Ideal) x0 x1 x2 x3 x4 x5).2.1 = (fun _ => 1#1)
      ∧ (Cert.Pre_finite15.fn (F := Ideal) x0 x1 x2 x3 x4 x5).2.2.1 = (fun _ => 1#1)
      ∧ (Cert.Pre_finite15.fn (F := Ideal) x0 x1 x2 x3 x4 x5).2.2.2 = (fun _ => 1#1)) : Real x0 x1 x3 x4 := by
  obtain ⟨hd, hy, hw, hs⟩ := h
  constructor
  · intro q e
    have p := congrFun hd (ix2 q e)
    unfold Cert.Pre_finite15.fn at p
    dsimp only at p
    pointwise at p
    exact real_of p
  · intro q e
    have p := congrFun hy (ix2 q e)
    unfold Cert.Pre_finite15.fn at p
    dsimp only at p
    pointwise at p
    exact real_of p
  · intro i j k
    have p := congrFun hw (ix3 i j k)
    unfold Cert.Pre_finite15.fn at p
    dsimp only at p
    pointwise at p
    exact real_of p
  · intro e
    have p := congrFun hs (ix2 0 e)
    unfold Cert.Pre_finite15.fn at p
    dsimp only at p
    pointwise at p
    exact real_of p

variable (hR : Real x0 x1 x3 x4)

include hR in
/-- The mixed value is a real number. -/
theorem ref_raw (q : Fin 4096) (e : Fin 512) : ∃ a : ℝ, val_main_v5 (F := Ideal) x0 x3 (ix2 q e) = a := by
  choose d hd using hR.d
  choose w hw using hR.w
  have h : val_main_v5 (F := Ideal) x0 x3 (ix2 q e) = ∑ k : Fin 512, x0 (ix2 q k) * x3 (ix4 ⟨k.val / 64, by omega⟩ 0 ⟨k.val % 64, by omega⟩ e) := by
    unfold val_main_v5 val_main_v4 val_main_v3 val_main_v2 val_main_v1 val_main_v0
    pointwise
  exact ⟨_, h.trans (Cert.Att.dot_coe (fun k => hd q k) (fun k => hw _ _ e))⟩

include hR in
/-- The gate's gradient. -/
theorem ref_dgate (q : Fin 4096) (e : Fin 512) : val_main_v22 (F := Ideal) x0 x1 x2 x3 x4 (ix2 q e)
    = dgate (x2 (ix2 (row q) (gateCol e))) (val_main_v5 (F := Ideal) x0 x3 (ix2 q e)) (x1 (ix2 q (outCol e))) (x4 (ix2 0 (col0 e))) := by
  have h : val_main_v22 (F := Ideal) x0 x1 x2 x3 x4 (ix2 q e)
      = (val_main_v5 (F := Ideal) x0 x3 (ix2 q e) * x4 (ix2 0 (col0 e)) * x1 (ix2 q (outCol e))) * Ideal.logistic (x2 (ix2 (row q) (gateCol e)))
        + x2 (ix2 (row q) (gateCol e)) * (val_main_v5 (F := Ideal) x0 x3 (ix2 q e) * x4 (ix2 0 (col0 e)) * x1 (ix2 q (outCol e)))
          * (Ideal.logistic (x2 (ix2 (row q) (gateCol e))) * (1 - Ideal.logistic (x2 (ix2 (row q) (gateCol e))))) := by
    rw [← ref_gate x2 q e]
    unfold val_main_v22 val_main_v15 val_main_call1_v2 val_main_call1_v1 val_main_call1_v0 val_main_v13 val_main_v12 val_main_v9 val_main_v8 val_main_v6 val_main_v10_1 val_main_v10_2 val_main_call0_v7 val_main_call0_v6 val_main_call0_cst_1 val_main_v10_2 val_main_call0_v4 val_main_call0_v3 val_main_call0_v2 val_main_call0_v1 val_main_call0_v0 val_main_call0_cst val_main_call0_cst_0 Ideal.logistic
    pointwise
  obtain ⟨r, hr⟩ := ref_raw x0 x1 x3 x4 hR q e
  obtain ⟨y, hy⟩ := hR.y q e
  obtain ⟨s, hs⟩ := hR.s e
  rw [h, hr, hy, hs]
  exact dgate_real _ r y s

/-- The two scatter indices. -/
theorem ref_at : (∀ i : S2.Idx, (i 0).val = 0 → val_main_v25 (F := Ideal) i = 0#32)
    ∧ (∀ i : S2.Idx, (i 0).val = 1 → val_main_v25 (F := Ideal) i = 7168#32) := by
  have key : ∀ k : Fin 2, val_main_v25 (F := Ideal) (ix1 k) = if k.val < 1 then 0#32 else 7168#32 := fun k => by
    unfold val_main_v25 val_main_v23 val_main_v24 val_main_c val_main_c_0
    pointwise
    split <;> rfl
  have e : ∀ i : S2.Idx, i = ix1 (i 0) := fun i => by funext a; fin_cases a; rfl
  refine ⟨fun i hi => ?_, fun i hi => ?_⟩
  · exact (congrArg val_main_v25 (e i)).trans ((key (i 0)).trans (if_pos (by rw [hi]; decide)))
  · exact (congrArg val_main_v25 (e i)).trans ((key (i 0)).trans (if_neg (by rw [hi]; decide)))

/-- Update `k` lands at row `k 0`, column `7168 + k 1`. -/
theorem ref_lands (k : S4096x512.Idx) (r : Fin 4352) (c : Fin 9216) :
    scatter_S4352x9216_S2_S4096x512_01_n_01_0.resultIdx? k (val_main_v25 (F := Ideal)) = some (ix2 r c)
      ↔ (k 0).val = r.val ∧ 7168 + (k 1).val = c.val := by
  refine (Routing.resultIdx?_eq_some _ _ _ _).trans ?_
  have w0 : scatter_S4352x9216_S2_S4096x512_01_n_01_0.window k 0 = (k 0).val := rfl
  have w1 : scatter_S4352x9216_S2_S4096x512_01_n_01_0.window k 1 = (k 1).val := rfl
  have s0 : scatter_S4352x9216_S2_S4096x512_01_n_01_0.start k (val_main_v25 (F := Ideal)) 0 = 0 := by
    have h := ref_at.1 (scatter_S4352x9216_S2_S4096x512_01_n_01_0.siIdx k ⟨0, by decide⟩) rfl
    show (val_main_v25 (F := Ideal) (scatter_S4352x9216_S2_S4096x512_01_n_01_0.siIdx k ⟨0, by decide⟩)).toInt = 0
    rw [h]; rfl
  have s1 : scatter_S4352x9216_S2_S4096x512_01_n_01_0.start k (val_main_v25 (F := Ideal)) 1 = 7168 := by
    have h := ref_at.2 (scatter_S4352x9216_S2_S4096x512_01_n_01_0.siIdx k ⟨1, by decide⟩) rfl
    show (val_main_v25 (F := Ideal) (scatter_S4352x9216_S2_S4096x512_01_n_01_0.siIdx k ⟨1, by decide⟩)).toInt = 7168
    rw [h]; rfl
  refine ⟨fun h => ?_, fun h a => ?_⟩
  · have h0 := h 0
    have h1 := h 1
    rw [s0, w0] at h0
    rw [s1, w1] at h1
    exact ⟨by exact_mod_cast (zero_add _).symm.trans h0, by exact_mod_cast h1⟩
  · fin_cases a
    · exact (congrArg₂ (· + ·) s0 (congrArg Int.ofNat w0)).trans ((zero_add _).trans (congrArg Int.ofNat h.1))
    · exact (congrArg₂ (· + ·) s1 (congrArg Int.ofNat w1)).trans (congrArg Int.ofNat h.2)

/-- The projection's gradient, where the gate's gradient is set. -/
theorem ref_hit (x5 : (⟨S4352x9216, .bf16⟩ : BufTy).Contents (Elt Ideal)) (q : Fin 4096) (e : Fin 512) :
    val_main_v26 (F := Ideal) x0 x1 x2 x3 x4 x5 (ix2 (row q) (gateCol e)) = val_main_v22 (F := Ideal) x0 x1 x2 x3 x4 (ix2 q e) := by
  unfold val_main_v26
  refine Routing.scatter_set_hit _ _ _ _ _ _ (fun k hk => ?_) (ix2 q e) ((ref_lands _ _ _).2 ⟨rfl, rfl⟩)
  have hk' := (ref_lands k (row q) (gateCol e)).1 hk
  have h0 : (k 0 : Fin 4096) = q := Fin.ext hk'.1
  have h1 : (k 1 : Fin 512) = e := Fin.ext (Nat.add_left_cancel (show 7168 + (k 1).val = 7168 + e.val from hk'.2))
  exact congrArg (val_main_v22 (F := Ideal) x0 x1 x2 x3 x4) ((eq_ix2 k).trans (congrArg₂ ix2 h0 h1))

/-- The projection's gradient elsewhere is as it was. -/
theorem ref_miss (x5 : (⟨S4352x9216, .bf16⟩ : BufTy).Contents (Elt Ideal)) (r : Fin 4352) (c : Fin 9216) (h : ¬(r.val < 4096 ∧ 7168 ≤ c.val ∧ c.val < 7680)) :
    val_main_v26 (F := Ideal) x0 x1 x2 x3 x4 x5 (ix2 r c) = x5 (ix2 r c) := by
  unfold val_main_v26
  refine Routing.scatter_set_miss _ _ _ _ _ (fun k hk => h ?_)
  have hk' := (ref_lands k r c).1 hk
  have h0 : (k 0).val < 4096 := (k 0).isLt
  have h1 : (k 1).val < 512 := (k 1).isLt
  omega

end Cert.PoolGate
-- ==== Proof.PoolGate.lean ====
module

public import proofs.«01_k».proof.Proof.RefPoolGate
public import proofs.«01_k».proof.Proof.Gen.Kernel15Ideal.Value
public import proofs.«01_k».proof.Proof.Gen.Reference15Ideal.Run
public import proofs.«01_k».proof.Defs
public import Idealize.ShloMosaic.Lib.Claim
public import Idealize.ShloMosaic.Lib.Pipeline.ValueKit
public import Idealize.ShloMosaic.Lib.Tactic

/-!
  The pooling mixer's first backward call: the gradient of its gate (written into the projection's gradient), of the mixed
  value, of the value before the mixing, and of the scale. Two blocks of 2048 rows; the gradient of the scale is added up.
-/

@[expose] public section
noncomputable section
open Idealize.ShloMosaic Idealize.ShloMosaic.TcCoe Idealize.SL.Sem
open Cert.Kernel15Ideal Cert.Kernel15Ideal.Gen

namespace Cert.PoolGate

/-- The blocks at point `t`. -/
theorem idx : ∀ t : Fin cfg0.N, win0_0.index t = ![t.val, 4] ∧ win0_1.index t = ![t.val, 14] ∧ win0_2.index t = ![t.val, 0]
    ∧ win0_3.index t = ![0, 0, 0, 0] ∧ win0_4.index t = ![0, 0] ∧ win0_5.index t = ![t.val, 14] ∧ win0_6.index t = ![t.val, 0]
    ∧ win0_7.index t = ![t.val, 0] ∧ win0_8.index t = ![0, 0] :=
  (by decide +kernel : ∀ t : Fin grid0.N, _)

theorem two (t : Fin cfg0.N) : t.val < 2 := t.isLt

section
variable (m : (ℓ : Loc nD τ sig) → Buf (Elt Ideal) ℓ) (c : Dev nD)

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-- The mixed value the call is given is the reference's. -/
theorem raw_eq : V m c main_v5 = Cert.Reference15Ideal.Read.val_main_v5 (F := Ideal) (a0 m c) (a3 m c) := by
  entry_read
  rfl
/-- The projection's gradient the call is given. -/
theorem start : V m c main_v6_0 = a5 m c := by
  entry_read
  rfl

/-- A row of the block at point `t`. -/
abbrev at_ (t : Fin cfg0.N) (q : Fin 2048) : Fin 4096 := ⟨t.val * 2048 + q.val, by have := two t; omega⟩

theorem b0 (t : Fin cfg0.N) (q : Fin 2048) (e : Fin 512) : iblk m c 0 t (ix2 q e) = a1 m c (ix2 (at_ t q) (outCol e)) := by
  obtain ⟨e0, e1, e2, e3, e4, e5, e6, e7, e8⟩ := idx t
  blk_ext [iblk, e0]
theorem b1 (t : Fin cfg0.N) (q : Fin 2048) (e : Fin 512) : X0_1 m c t (ix2 q e) = a2 m c (ix2 (row (at_ t q)) (gateCol e)) := by
  obtain ⟨e0, e1, e2, e3, e4, e5, e6, e7, e8⟩ := idx t
  unfold X0_1 Pipeline.Window.fill
  rw [dif_pos (moved0_1 t _)]
  blk_ext [iblk, e1]
theorem b2 (t : Fin cfg0.N) (q : Fin 2048) (e : Fin 512) : iblk m c 2 t (ix2 q e) = Cert.Reference15Ideal.Read.val_main_v5 (F := Ideal) (a0 m c) (a3 m c) (ix2 (at_ t q) e) := by
  obtain ⟨e0, e1, e2, e3, e4, e5, e6, e7, e8⟩ := idx t
  rw [← raw_eq]
  blk_ext [iblk, e2]
theorem b3 (t : Fin cfg0.N) (i : Fin 8) (j : Fin 64) (k : Fin 512) : iblk m c 3 t (ix4 i 0 j k) = a3 m c (ix4 i 0 j k) := by
  obtain ⟨e0, e1, e2, e3, e4, e5, e6, e7, e8⟩ := idx t
  blk_ext [iblk, e3]
theorem b4 (t : Fin cfg0.N) (e : Fin 512) : iblk m c 4 t (ix2 0 e) = a4 m c (ix2 0 (col0 e)) := by
  obtain ⟨e0, e1, e2, e3, e4, e5, e6, e7, e8⟩ := idx t
  blk_ext [iblk, e4]

/-- No block of the projection's gradient is cut. -/
theorem whole5 : ∀ t : Fin cfg0.N, ((cfg0.win 5).xblock (cfg0.grid.coords t)).size = ![2048, 512] := by decide +kernel

/-- An index within such a block. -/
theorem lt5 (t : Fin cfg0.N) (y : ((cfg0.win 5).xblock (cfg0.grid.coords t)).Idx) (a : Fin 2) : (y a).val < (![2048, 512] : Fin 2 → ℕ) a :=
  lt_of_lt_of_eq (y a).isLt (congrFun (whole5 t) a)

/-- The mixed value's gradient. -/
theorem arr6 : (dats m 0 c).arrAt 6 cfg0.N = Cert.Reference15Ideal.Read.val_main_v21 (F := Ideal) (a1 m c) (a2 m c) (a4 m c) := by
  refine (dats m 0 c).arrAt_eq_of_covers 6 _ (by decide +kernel) fun t hf y => ?_
  obtain ⟨q, e, rfl⟩ : ∃ (q : Fin 2048) (e : Fin 512), y = ix2 q e := ⟨y 0, y 1, eq_ix2 y⟩
  blk_simp
  obtain ⟨e0, e1, e2, e3, e4, e5, e6, e7, e8⟩ := idx t
  rw [after0_6]
  have eo : (win0_6.blk t).view.emb (ix2 q e) = ix2 (at_ t q) e := by
    blk_ext [e6]
  rw [eo, ref_draw, ← b0, ← b1, ← b4]
  by_cases h : t.val % 2 = 0
  · rw [outsAt0_A m c t h]; dsimp only; rw [out_A_6]
  · rw [outsAt0_B m c t h]; dsimp only; rw [out_B_6]

/-- The gradient before the mixing. -/
theorem arr7 : (dats m 0 c).arrAt 7 cfg0.N = Cert.Reference15Ideal.Read.val_main_v28 (F := Ideal) (a1 m c) (a2 m c) (a3 m c) (a4 m c) := by
  refine (dats m 0 c).arrAt_eq_of_covers 7 _ (by decide +kernel) fun t hf y => ?_
  obtain ⟨q, e, rfl⟩ : ∃ (q : Fin 2048) (e : Fin 512), y = ix2 q e := ⟨y 0, y 1, eq_ix2 y⟩
  blk_simp
  obtain ⟨e0, e1, e2, e3, e4, e5, e6, e7, e8⟩ := idx t
  rw [after0_7]
  have eo : (win0_7.blk t).view.emb (ix2 q e) = ix2 (at_ t q) e := by
    blk_ext [e7]
  rw [eo, ref_dd]
  simp only [← b0 m c t, ← b1 m c t, ← b4 m c t, ← b3 m c t]
  by_cases h : t.val % 2 = 0
  · rw [outsAt0_A m c t h]; dsimp only; rw [out_A_7]
  · rw [outsAt0_B m c t h]; dsimp only; rw [out_B_7]

/-- What point `t` adds to the gradient of the scale. -/
def part (n : ℕ) (e : Fin 512) : EReal :=
  ∑ q : Fin 2048, if h : n * 2048 + q.val < 4096 then
    dval (a2 m c (ix2 (row ⟨n * 2048 + q.val, h⟩) (gateCol e))) (a1 m c (ix2 ⟨n * 2048 + q.val, h⟩ (outCol e)))
      * Cert.Reference15Ideal.Read.val_main_v5 (F := Ideal) (a0 m c) (a3 m c) (ix2 ⟨n * 2048 + q.val, h⟩ e) else 0

theorem part_eq (t : Fin cfg0.N) (e : Fin 512) :
    ∑ q : Fin 2048, dval (X0_1 m c t (ix2 q e)) (iblk m c 0 t (ix2 q e)) * iblk m c 2 t (ix2 q e) = part m c t.val e := by
  have ht := two t
  unfold part
  refine Finset.sum_congr rfl fun q _ => ?_
  rw [dif_pos (by omega), b0, b1, b2]

/-- The accumulated row after the last point. -/
theorem run_row (t : Fin cfg0.N) (ht : t.val % 2 = 1) (e : Fin 512) :
    (outsAt0 m c t.val t.isLt).2.2.2 (ix2 0 e) = part m c 0 e + part m c 1 e := by
  have h := Pipeline.eq_sum_of_reset_step_of_mod (M := EReal) (fun n hn => (outsAt0 m c n hn).2.2.2 (ix2 0 e)) 2 0
    (fun n => part m c n e)
    (fun t h0 => by
      rw [outsAt0_A m c t h0]; dsimp only
      rw [out_A_8, part_eq])
    (fun t h0 => by
      rw [outsAt0_B m c t h0]; dsimp only
      rw [out_B_8, part_eq])
    t ht
  have ht2 := two t
  refine h.trans ?_
  rw [zero_add, show t.val / 2 = 0 by omega, Finset.sum_range_succ, Finset.sum_range_one]

/-- The rows below stay zero. -/
theorem run_below (t : Fin cfg0.N) (ht : t.val % 2 = 1) (r : Fin 8) (hr : r ≠ 0) (e : Fin 512) :
    (outsAt0 m c t.val t.isLt).2.2.2 (ix2 r e) = 0 := by
  have h := Pipeline.eq_sum_of_reset_step_of_mod (M := EReal) (fun n hn => (outsAt0 m c n hn).2.2.2 (ix2 r e)) 2 0
    (fun n => 0)
    (fun t h0 => by
      rw [outsAt0_A m c t h0]; dsimp only
      rw [out_A_8_below _ _ _ _ _ _ _ _ _ _ _ _ _ _ _ _ _ _ _ _ _ _ _ _ _ _ r hr, zero_add])
    (fun t h0 => by
      rw [outsAt0_B m c t h0]; dsimp only
      rw [out_B_8_below _ _ _ _ _ _ _ _ _ _ _ _ _ _ _ _ _ _ _ _ _ _ _ _ _ _ _ r hr, add_zero])
    t ht
  refine h.trans ?_
  simp

/-- The two blocks' rows are all the rows. -/
theorem part_sum (e : Fin 512) : part m c 0 e + part m c 1 e = Cert.Reference15Ideal.Read.val_main_v29 (F := Ideal) (a0 m c) (a1 m c) (a2 m c) (a3 m c) (ix2 0 e) := by
  rw [ref_dscale]
  refine Eq.trans ?_ (Fin.sum_univ_add (M := EReal) (a := 2048) (b := 2048) (fun q : Fin (2048 + 2048) =>
    dval (a2 m c (ix2 (row (q : Fin 4096)) (gateCol e))) (a1 m c (ix2 (q : Fin 4096) (outCol e)))
      * Cert.Reference15Ideal.Read.val_main_v5 (F := Ideal) (a0 m c) (a3 m c) (ix2 (q : Fin 4096) e))).symm
  unfold part
  congr 1

/-- The gradient of the scale. -/
theorem arr8 : (dats m 0 c).arrAt 8 cfg0.N = Cert.Reference15Ideal.Read.val_main_v29 (F := Ideal) (a0 m c) (a1 m c) (a2 m c) (a3 m c) := by
  refine (dats m 0 c).arrAt_eq_of_covers 8 _ (by decide +kernel) fun t hf y => ?_
  obtain ⟨r, e, rfl⟩ : ∃ (r : Fin 8) (e : Fin 512), y = ix2 r e := ⟨y 0, y 1, eq_ix2 y⟩
  blk_simp
  obtain ⟨e0, e1, e2, e3, e4, e5, e6, e7, e8⟩ := idx t
  rw [after0_8]
  have hl : t.val % 2 = 1 := (flush0_8 t).mp hf
  have eo : (win0_8.blk t).view.emb (ix2 r e) = ix2 r e := by
    blk_ext [e8]
  rw [eo]
  by_cases hr : r = 0
  · subst hr
    rw [run_row m c t hl, part_sum]
  · rw [run_below m c t hl r hr, ref_dscale_below _ _ _ _ r hr]

variable (hR : Real (a0 m c) (a1 m c) (a3 m c) (a4 m c))
include hR

/-- The projection's gradient: the gate's gradient in its rows and columns, all else as it was. -/
theorem arr5 : (dats m 0 c).arrAt 5 cfg0.N = Cert.Reference15Ideal.Read.val_main_v26 (F := Ideal) (a0 m c) (a1 m c) (a2 m c) (a3 m c) (a4 m c) (a5 m c) := by
  refine (dats m 0 c).arrAt_eq_of_coversWhere_of_agree 5 _ (fun β => β 0 < 2 ∧ β 1 = 14) (by decide +kernel) (fun t hf y => ?_) (fun j hj => ?_)
  · obtain ⟨q, hq⟩ : ∃ q : Fin 2048, q.val = (y (0 : Fin 2)).val :=
      ⟨⟨(y (0 : Fin 2)).val, lt5 t y 0⟩, rfl⟩
    obtain ⟨e, he⟩ : ∃ e : Fin 512, e.val = (y (1 : Fin 2)).val :=
      ⟨⟨(y (1 : Fin 2)).val, lt5 t y 1⟩, rfl⟩
    have hy : (cfg0.win 5).xinj (cfg0.grid.coords t) y = ix2 q e := by
      funext a
      fin_cases a
      · exact Fin.ext hq.symm
      · exact Fin.ext he.symm
    rw [hy]
    obtain ⟨e0, e1, e2, e3, e4, e5, e6, e7, e8⟩ := idx t
    rw [after0_5]
    have eo : (((cfg0.win 5).blk t).view.emb y : S4352x9216.Idx) = ix2 (row (at_ t q)) (gateCol e) := by
      refine (eq_ix2 _).trans (congrArg₂ ix2 (Fin.ext ?_) (Fin.ext ?_))
      · blk_simp [e5]
        rw [← hq]
      · refine (ValueKit.view_emb_slice_whole_unit_val _ _ _ _ _ _).trans ?_
        show win0_5.index t (1 : Fin 2) * 512 + (y (1 : Fin 2)).val = 7168 + e.val
        rw [e5, ← he]
        show 14 * 512 + e.val = 7168 + e.val
        omega
    rw [eo, ref_hit, ref_dgate _ _ _ _ _ hR, ← b0, ← b1, ← b4 m c t, ← b2]
    by_cases h : t.val % 2 = 0
    · rw [outsAt0_A m c t h]; dsimp only; rw [out_A_5]; rfl
    · rw [outsAt0_B m c t h]; dsimp only; rw [out_B_5]; rfl
  · blk_simp [Pipeline.Window.cell_apply] at hj
    rw [A_eq]
    rw [show V m c (Pipeline.arrRef spec0 5) = a5 m c from start m c]
    obtain ⟨r, k, hk⟩ : ∃ (r : Fin 4352) (k : Fin 9216), j = ix2 r k := ⟨j 0, j 1, eq_ix2 j⟩
    subst hk
    refine (ref_miss _ _ _ _ _ _ r k fun h => hj ⟨?_, ?_⟩).symm
    · show r.val / 2048 < 2
      omega
    · show k.val / 512 = 14
      omega
end

/-- The call and the plain formulas end with the same arrays. -/
theorem algebraic [Cert.Pre_finite15.Facts] : Cert.algebraic_Kernel15Ideal_Reference15Ideal_pre_finite15 (hKernel15Ideal := Cert.Kernel15Ideal.Gen.facts)
      (hReference15Ideal := Cert.Reference15Ideal.Gen.facts) := by
  intro m g m' g' hpre hag
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel15Ideal.Value.run_blocks m g, ?_⟩
  refine (θ_run _ _ _).mono (fun r h c => ?_) (Cert.Reference15Ideal.Value.run (F := Ideal) m' g')
  obtain ⟨h0, h1, h2, h3, ha⟩ := h c
  obtain ⟨e0, e1, e2, e3, e4, e5⟩ := hag c
  have hR := real_of_finite _ _ _ _ _ _ (hpre c)
  refine ⟨h0.trans ?_, h1.trans ?_, h2.trans ?_, h3.trans ?_, ha⟩
  · refine (Cert.Reference15Ideal.Read.val_main_v26_eq _ _ _ _ _ _).trans ?_
    rw [e0, e1, e2, e3, e4, e5]
    exact (arr5 m c hR).symm
  · refine (Cert.Reference15Ideal.Read.val_main_v21_eq _ _ _).trans ?_
    rw [e1, e2, e4]
    exact (arr6 m c).symm
  · refine (Cert.Reference15Ideal.Read.val_main_v28_eq _ _ _ _).trans ?_
    rw [e1, e2, e3, e4]
    exact (arr7 m c).symm
  · refine (Cert.Reference15Ideal.Read.val_main_v29_eq _ _ _ _).trans ?_
    rw [e0, e1, e2, e3]
    exact (arr8 m c).symm

end Cert.PoolGate
-- ==== Proof.PostBlock.lean ====
module

public import proofs.«01_k».proof.Proof.Gen.Kernel16Ideal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Tactic

/-!
  What the body of the call behind the output projection leaves in its five output blocks, at an index. Case A is the first
  block of 256 rows (the accumulators are zeroed first), case B every later block.
-/

@[expose] public section
noncomputable section
open Idealize.ShloMosaic Idealize.ShloMosaic.TcCoe Idealize.SL.Sem
open Cert.Kernel16Ideal Cert.Kernel16Ideal.Gen

namespace Cert.Post

section
variable (o x t a g : Fin 4096 → EReal)

/-- One over the root mean square of the row `o`. -/
def rinv : EReal := Ideal.rsqrt (Ideal.div (∑ k, o k * o k) (Ideal.ofBits .f32 1166016512#32) + Ideal.ofBits .f32 897988541#32)
/-- The row over its root mean square. -/
def over (e : Fin 4096) : EReal := o e * rinv o
/-- The new residual `x + a * (over o * g)`, less the target `t`. -/
def err (e : Fin 4096) : EReal := x e + a e * (over o e * g e) - t e
/-- The loss's gradient for the residual. -/
def dres (e : Fin 4096) : EReal := Ideal.div (err o x t a g e) (Ideal.ofBits .f32 1166016512#32)
/-- The gradient of the normed row. -/
def dover (e : Fin 4096) : EReal := dres o x t a g e * a e * g e
/-- The gradient of the row itself. -/
def dout (e : Fin 4096) : EReal :=
  rinv o * (dover o x t a g e - over o e * Ideal.div (∑ k, dover o x t a g k * over o k) (Ideal.ofBits .f32 1166016512#32))
end

/-- The computed one over the root mean square. -/
theorem pay8 (o : Vec Ideal S256x4096 .f32) (q : Fin 256) : k0_pay8 (F := Ideal) o (ix2 q 0) = rinv fun k => o (ix2 q k) := by
  unfold k0_pay8 rinv
  pointwise
/-- The computed row over it. -/
theorem pay9 (o : Vec Ideal S256x4096 .f32) (q : Fin 256) (e : Fin 4096) : k0_pay9 (F := Ideal) o (ix2 q e) = over (fun k => o (ix2 q k)) e := by
  unfold k0_pay9 over
  pointwise
  rw [pay8]
/-- The computed residual less the target. -/
theorem pay11 (o x t : Vec Ideal S256x4096 .f32) (a g : Vec Ideal S1x4096 .f32) (q : Fin 256) (e : Fin 4096) : k0_pay11 (F := Ideal) o g x a t (ix2 q e) = err (fun k => o (ix2 q k)) (fun k => x (ix2 q k)) (fun k => t (ix2 q k)) (fun k => a (ix2 0 k)) (fun k => g (ix2 0 k)) e := by
  unfold k0_pay11 k0_pay10 err
  pointwise
  rw [pay9]
/-- The computed gradient for the residual. -/
theorem pay13 (o x t : Vec Ideal S256x4096 .f32) (a g : Vec Ideal S1x4096 .f32) (q : Fin 256) (e : Fin 4096) : k0_pay13 (F := Ideal) o g x a t (ix2 q e) = dres (fun k => o (ix2 q k)) (fun k => x (ix2 q k)) (fun k => t (ix2 q k)) (fun k => a (ix2 0 k)) (fun k => g (ix2 0 k)) e := by
  unfold k0_pay13 dres
  pointwise
  rw [pay11]
/-- What is added to the gate's gradient. -/
theorem pay1 (o x t : Vec Ideal S256x4096 .f32) (a g : Vec Ideal S1x4096 .f32) (w : Vec Ideal S1x4096 .f32) (e : Fin 4096) : k0_pay1 (F := Ideal) (k0_pay10 o g) (k0_pay13 o g x a t) w (ix2 0 e)
      = w (ix2 0 e) + ∑ q : Fin 256, dres (fun k => o (ix2 q k)) (fun k => x (ix2 q k)) (fun k => t (ix2 q k)) (fun k => a (ix2 0 k)) (fun k => g (ix2 0 k)) e * (over (fun k => o (ix2 q k)) e * g (ix2 0 e)) := by
  unfold k0_pay1 k0_pay10
  pointwise
  simp only [pay13, pay9]
/-- What is added to the gain's gradient. -/
theorem pay3 (o x t : Vec Ideal S256x4096 .f32) (a g : Vec Ideal S1x4096 .f32) (w : Vec Ideal S1x4096 .f32) (e : Fin 4096) : k0_pay3 (F := Ideal) (k0_pay9 o) (k0_pay13 o g x a t) a w (ix2 0 e)
      = w (ix2 0 e) + ∑ q : Fin 256, dres (fun k => o (ix2 q k)) (fun k => x (ix2 q k)) (fun k => t (ix2 q k)) (fun k => a (ix2 0 k)) (fun k => g (ix2 0 k)) e * a (ix2 0 e) * over (fun k => o (ix2 q k)) e := by
  unfold k0_pay3 k0_pay2
  pointwise
  simp only [pay13, pay9]
/-- The computed gradient of the rows. -/
theorem pay4 (o x t : Vec Ideal S256x4096 .f32) (a g : Vec Ideal S1x4096 .f32) (q : Fin 256) (e : Fin 4096) : k0_pay4 (F := Ideal) (k0_pay8 o) (k0_pay9 o) (k0_pay13 o g x a t) a g (ix2 q e) = dout (fun k => o (ix2 q k)) (fun k => x (ix2 q k)) (fun k => t (ix2 q k)) (fun k => a (ix2 0 k)) (fun k => g (ix2 0 k)) e := by
  unfold k0_pay4 k0_pay2 dout dover
  pointwise
  simp only [pay13, pay9, pay8]
/-- What is added to the loss. -/
theorem pay12 (o x t : Vec Ideal S256x4096 .f32) (a g : Vec Ideal S1x4096 .f32) (w : Vec Ideal S8x128 .f32) (r : Fin 8) (l : Fin 128) : k0_pay12 (F := Ideal) o g x a t w (ix2 r l)
      = w (ix2 r l) + ∑ q : Fin 256, ∑ k : Fin 4096, err (fun k => o (ix2 q k)) (fun k => x (ix2 q k)) (fun k => t (ix2 q k)) (fun k => a (ix2 0 k)) (fun k => g (ix2 0 k)) k * err (fun k => o (ix2 q k)) (fun k => x (ix2 q k)) (fun k => t (ix2 q k)) (fun k => a (ix2 0 k)) (fun k => g (ix2 0 k)) k := by
  unfold k0_pay12
  pointwise
  simp only [pay11]

/-- A load of a whole block of rows reads it. -/
theorem ldR (x : Vec Ideal S256x4096 .f32) (inb) : View.ld (Val := Elt Ideal) (e' := .f32) x (Rect.unit (s := S256x4096) ![0, 0] ![256, 4096] inb) = x :=
  View.ld_unit_zero (by funext a; fin_cases a <;> rfl) inb x
/-- A load of a whole row reads it. -/
theorem ldS (x : Vec Ideal S1x4096 .f32) (inb) : View.ld (Val := Elt Ideal) (e' := .f32) x (Rect.unit (s := S1x4096) ![0, 0] ![1, 4096] inb) = x :=
  View.ld_unit_zero (by funext a; fin_cases a <;> rfl) inb x
/-- A load of the whole loss reads it. -/
theorem ldL (x : Vec Ideal S8x128 .f32) (inb) : View.ld (Val := Elt Ideal) (e' := .f32) x (Rect.unit (s := S8x128) ![0, 0] ![8, 128] inb) = x :=
  View.ld_unit_zero (by funext a; fin_cases a <;> rfl) inb x

/-- A store of row 0 is read back at row 0. -/
theorem row_hit {V : EltTy → Type} {el : EltTy} {sp : Space} (v : View sig .tc sp S8x4096 el) (f : v.ty.Contents V) (inb) (w : S1x4096.Idx → V el) (L : List (View.Piece V S8x4096 el)) (e : Fin 4096) :
    v.read V (v.writes V f ((⟨Rect.unit (s := S8x4096) ![0, 0] S1x4096.size inb, w⟩ : View.Piece V S8x4096 el) :: L)) (ix2 0 e) = w (ix2 0 e) :=
  View.read_writes_cons_unit_of_mem v f inb w L _ (ix2 0 e) rfl (by intro a; fin_cases a <;> simp [ix2])
/-- A store of row 0 leaves the other rows. -/
theorem row_miss {V : EltTy → Type} {el : EltTy} {sp : Space} (v : View sig .tc sp S8x4096 el) (f : v.ty.Contents V) (inb) (w : S1x4096.Idx → V el) (L : List (View.Piece V S8x4096 el)) (r : Fin 8) (h : r ≠ 0) (e : Fin 4096) :
    v.read V (v.writes V f ((⟨Rect.unit (s := S8x4096) ![0, 0] S1x4096.size inb, w⟩ : View.Piece V S8x4096 el) :: L)) (ix2 r e) = v.read V (v.writes V f L) (ix2 r e) :=
  View.read_writes_cons_unit_of_not_mem v f inb w L _ rfl 0 (Or.inr (show 0 + 1 ≤ r.val from by
    have := Fin.val_ne_of_ne h
    have : r.val ≠ 0 := this
    omega))

section
variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x128 .f32) (harg10 : arg10.IsWhole) (hc0 : cond0_0 i)
  (x0 x1 x2 : Vec Ideal S256x4096 .f32) (x3 x4 : Vec Ideal S1x4096 .f32)

/-- The residual's gradient (first block). -/
theorem out_A_5 (q : Fin 256) (e : Fin 4096) :
    out0_A_5 c i arg1 harg1 arg2 harg2 arg3 harg3 arg4 harg4 arg5 harg5 arg6 harg6 arg7 harg7 arg8 harg8 arg9 harg9 arg10 harg10 hc0 x0 x1 x2 x3 x4 (ix2 q e) = dres (fun k => x0 (ix2 q k)) (fun k => x1 (ix2 q k)) (fun k => x2 (ix2 q k)) (fun k => x3 (ix2 0 k)) (fun k => x4 (ix2 0 k)) e := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (by funext a; fin_cases a <;> rfl)]
  simp only [ldR, ldS]
  exact pay13 _ _ _ _ _ q e

/-- The gradient of the rows (first block). -/
theorem out_A_6 (q : Fin 256) (e : Fin 4096) :
    out0_A_6 c i arg1 harg1 arg2 harg2 arg3 harg3 arg4 harg4 arg5 harg5 arg6 harg6 arg7 harg7 arg8 harg8 arg9 harg9 arg10 harg10 hc0 x0 x1 x2 x3 x4 (ix2 q e) = dout (fun k => x0 (ix2 q k)) (fun k => x1 (ix2 q k)) (fun k => x2 (ix2 q k)) (fun k => x3 (ix2 0 k)) (fun k => x4 (ix2 0 k)) e := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (by funext a; fin_cases a <;> rfl)]
  simp only [ldR, ldS]
  exact pay4 _ _ _ _ _ q e

/-- The gate's gradient (first block): its row. -/
theorem out_A_7 (e : Fin 4096) : out0_A_7 c i arg1 harg1 arg2 harg2 arg3 harg3 arg4 harg4 arg5 harg5 arg6 harg6 arg7 harg7 arg8 harg8 arg9 harg9 arg10 harg10 hc0 x0 x1 x2 x3 x4 (ix2 0 e) = 0 + ∑ q : Fin 256, dres (fun k => x0 (ix2 q k)) (fun k => x1 (ix2 q k)) (fun k => x2 (ix2 q k)) (fun k => x3 (ix2 0 k)) (fun k => x4 (ix2 0 k)) e * (over (fun k => x0 (ix2 q k)) e * x4 (ix2 0 e)) := by
  unfold out0_A_7
  unfold kernelRun0_A
  dsimp only
  sl_unfold_words
  simp only [View.readAt_eq_ld, harg1.read_unread, harg2.read_unread, harg3.read_unread, harg4.read_unread, harg5.read_unread]
  rw [row_hit]
  simp only [ldR, ldS]
  refine (pay1 _ _ _ _ _ _ e).trans ?_
  congr 1
  rw [View.readCov_fill _ _ _ _ _ (by intro a; fin_cases a <;> rfl)]
  show Ideal.ofBits .f32 0x00000000#32 = 0
  simp

/-- The gate's gradient (first block): below its row, zeros. -/
theorem out_A_7_below (r : Fin 8) (h : r ≠ 0) (e : Fin 4096) : out0_A_7 c i arg1 harg1 arg2 harg2 arg3 harg3 arg4 harg4 arg5 harg5 arg6 harg6 arg7 harg7 arg8 harg8 arg9 harg9 arg10 harg10 hc0 x0 x1 x2 x3 x4 (ix2 r e) = 0 := by
  unfold out0_A_7
  unfold kernelRun0_A
  dsimp only
  sl_unfold_words
  rw [row_miss _ _ _ _ _ r h]
  refine (View.read_writes_cons_unit_of_mem _ _ _ _ _ _ (ix2 r e) rfl (by intro a; fin_cases a <;> simp)).trans ?_
  show Ideal.ofBits .f32 0x00000000#32 = 0
  simp

/-- The gain's gradient (first block): its row. -/
theorem out_A_8 (e : Fin 4096) : out0_A_8 c i arg1 harg1 arg2 harg2 arg3 harg3 arg4 harg4 arg5 harg5 arg6 harg6 arg7 harg7 arg8 harg8 arg9 harg9 arg10 harg10 hc0 x0 x1 x2 x3 x4 (ix2 0 e) = 0 + ∑ q : Fin 256, dres (fun k => x0 (ix2 q k)) (fun k => x1 (ix2 q k)) (fun k => x2 (ix2 q k)) (fun k => x3 (ix2 0 k)) (fun k => x4 (ix2 0 k)) e * x3 (ix2 0 e) * over (fun k => x0 (ix2 q k)) e := by
  unfold out0_A_8
  unfold kernelRun0_A
  dsimp only
  sl_unfold_words
  simp only [View.readAt_eq_ld, harg1.read_unread, harg2.read_unread, harg3.read_unread, harg4.read_unread, harg5.read_unread]
  rw [row_hit]
  simp only [ldR, ldS]
  refine (pay3 _ _ _ _ _ _ e).trans ?_
  congr 1
  rw [View.readCov_fill _ _ _ _ _ (by intro a; fin_cases a <;> rfl)]
  show Ideal.ofBits .f32 0x00000000#32 = 0
  simp

/-- The gain's gradient (first block): below its row, zeros. -/
theorem out_A_8_below (r : Fin 8) (h : r ≠ 0) (e : Fin 4096) : out0_A_8 c i arg1 harg1 arg2 harg2 arg3 harg3 arg4 harg4 arg5 harg5 arg6 harg6 arg7 harg7 arg8 harg8 arg9 harg9 arg10 harg10 hc0 x0 x1 x2 x3 x4 (ix2 r e) = 0 := by
  unfold out0_A_8
  unfold kernelRun0_A
  dsimp only
  sl_unfold_words
  rw [row_miss _ _ _ _ _ r h]
  refine (View.read_writes_cons_unit_of_mem _ _ _ _ _ _ (ix2 r e) rfl (by intro a; fin_cases a <;> simp)).trans ?_
  show Ideal.ofBits .f32 0x00000000#32 = 0
  simp

/-- The loss (first block). -/
theorem out_A_9 (r : Fin 8) (l : Fin 128) : out0_A_9 c i arg1 harg1 arg2 harg2 arg3 harg3 arg4 harg4 arg5 harg5 arg6 harg6 arg7 harg7 arg8 harg8 arg9 harg9 arg10 harg10 hc0 x0 x1 x2 x3 x4 (ix2 r l) = 0 + ∑ q : Fin 256, ∑ k : Fin 4096, err (fun k => x0 (ix2 q k)) (fun k => x1 (ix2 q k)) (fun k => x2 (ix2 q k)) (fun k => x3 (ix2 0 k)) (fun k => x4 (ix2 0 k)) k * err (fun k => x0 (ix2 q k)) (fun k => x1 (ix2 q k)) (fun k => x2 (ix2 q k)) (fun k => x3 (ix2 0 k)) (fun k => x4 (ix2 0 k)) k := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  rw [View.canon_cons_unit_lit _ _ _ (by intro a; fin_cases a <;> rfl)]
  simp only [ldR, ldS, ldL]
  refine (pay12 _ _ _ _ _ _ r l).trans ?_
  congr 1
  rw [View.readCov_fill _ _ _ _ _ (by intro a; fin_cases a <;> rfl)]
  show Ideal.ofBits .f32 0x00000000#32 = 0
  simp
end

section
variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x128 .f32) (harg10 : arg10.IsWhole) (hc0 : ¬cond0_0 i)
  (x0 x1 x2 : Vec Ideal S256x4096 .f32) (x3 x4 : Vec Ideal S1x4096 .f32) (xo7 xo8 : Vec Ideal S8x4096 .f32) (xo9 : Vec Ideal S8x128 .f32)

/-- The residual's gradient (later block). -/
theorem out_B_5 (q : Fin 256) (e : Fin 4096) :
    out0_B_5 c i arg1 harg1 arg2 harg2 arg3 harg3 arg4 harg4 arg5 harg5 arg6 harg6 arg7 harg7 arg8 harg8 arg9 harg9 arg10 harg10 hc0 x0 x1 x2 x3 x4 xo7 xo8 xo9 (ix2 q e) = dres (fun k => x0 (ix2 q k)) (fun k => x1 (ix2 q k)) (fun k => x2 (ix2 q k)) (fun k => x3 (ix2 0 k)) (fun k => x4 (ix2 0 k)) e := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  sl_unfold_words
  simp only [View.readAt_eq_ld, harg1.read_unread, harg2.read_unread, harg3.read_unread, harg4.read_unread, harg5.read_unread, harg8.read_unread, harg9.read_unread, harg10.read_unread]
  rw [View.canon_unit_zero (by funext a; fin_cases a <;> rfl)]
  simp only [ldR, ldS]
  exact pay13 _ _ _ _ _ q e

/-- The gradient of the rows (later block). -/
theorem out_B_6 (q : Fin 256) (e : Fin 4096) :
    out0_B_6 c i arg1 harg1 arg2 harg2 arg3 harg3 arg4 harg4 arg5 harg5 arg6 harg6 arg7 harg7 arg8 harg8 arg9 harg9 arg10 harg10 hc0 x0 x1 x2 x3 x4 xo7 xo8 xo9 (ix2 q e) = dout (fun k => x0 (ix2 q k)) (fun k => x1 (ix2 q k)) (fun k => x2 (ix2 q k)) (fun k => x3 (ix2 0 k)) (fun k => x4 (ix2 0 k)) e := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  sl_unfold_words
  simp only [View.readAt_eq_ld, harg1.read_unread, harg2.read_unread, harg3.read_unread, harg4.read_unread, harg5.read_unread, harg8.read_unread, harg9.read_unread, harg10.read_unread]
  rw [View.canon_unit_zero (by funext a; fin_cases a <;> rfl)]
  simp only [ldR, ldS]
  exact pay4 _ _ _ _ _ q e

/-- The gate's gradient (later block): its row. -/
theorem out_B_7 (e : Fin 4096) : out0_B_7 c i arg1 harg1 arg2 harg2 arg3 harg3 arg4 harg4 arg5 harg5 arg6 harg6 arg7 harg7 arg8 harg8 arg9 harg9 arg10 harg10 hc0 x0 x1 x2 x3 x4 xo7 xo8 xo9 (ix2 0 e) = xo7 (ix2 0 e) + ∑ q : Fin 256, dres (fun k => x0 (ix2 q k)) (fun k => x1 (ix2 q k)) (fun k => x2 (ix2 q k)) (fun k => x3 (ix2 0 k)) (fun k => x4 (ix2 0 k)) e * (over (fun k => x0 (ix2 q k)) e * x4 (ix2 0 e)) := by
  unfold out0_B_7
  unfold kernelRun0_B
  dsimp only
  sl_unfold_words
  simp only [View.readAt_eq_ld, harg1.read_unread, harg2.read_unread, harg3.read_unread, harg4.read_unread, harg5.read_unread, harg8.read_unread, harg9.read_unread, harg10.read_unread]
  rw [row_hit]
  simp only [ldR, ldS]
  refine (pay1 _ _ _ _ _ _ e).trans ?_
  congr 1
  exact congrArg xo7 (by ext a; fin_cases a <;> simp [ix2])

/-- The gate's gradient (later block): below its row, as before. -/
theorem out_B_7_below (r : Fin 8) (h : r ≠ 0) (e : Fin 4096) : out0_B_7 c i arg1 harg1 arg2 harg2 arg3 harg3 arg4 harg4 arg5 harg5 arg6 harg6 arg7 harg7 arg8 harg8 arg9 harg9 arg10 harg10 hc0 x0 x1 x2 x3 x4 xo7 xo8 xo9 (ix2 r e) = xo7 (ix2 r e) := by
  unfold out0_B_7
  unfold kernelRun0_B
  dsimp only
  sl_unfold_words
  rw [row_miss _ _ _ _ _ r h]
  exact congrFun (harg8.read_unread xo7) (ix2 r e)

/-- The gain's gradient (later block): its row. -/
theorem out_B_8 (e : Fin 4096) : out0_B_8 c i arg1 harg1 arg2 harg2 arg3 harg3 arg4 harg4 arg5 harg5 arg6 harg6 arg7 harg7 arg8 harg8 arg9 harg9 arg10 harg10 hc0 x0 x1 x2 x3 x4 xo7 xo8 xo9 (ix2 0 e) = xo8 (ix2 0 e) + ∑ q : Fin 256, dres (fun k => x0 (ix2 q k)) (fun k => x1 (ix2 q k)) (fun k => x2 (ix2 q k)) (fun k => x3 (ix2 0 k)) (fun k => x4 (ix2 0 k)) e * x3 (ix2 0 e) * over (fun k => x0 (ix2 q k)) e := by
  unfold out0_B_8
  unfold kernelRun0_B
  dsimp only
  sl_unfold_words
  simp only [View.readAt_eq_ld, harg1.read_unread, harg2.read_unread, harg3.read_unread, harg4.read_unread, harg5.read_unread, harg8.read_unread, harg9.read_unread, harg10.read_unread]
  rw [row_hit]
  simp only [ldR, ldS]
  refine (pay3 _ _ _ _ _ _ e).trans ?_
  congr 1
  exact congrArg xo8 (by ext a; fin_cases a <;> simp [ix2])

/-- The gain's gradient (later block): below its row, as before. -/
theorem out_B_8_below (r : Fin 8) (h : r ≠ 0) (e : Fin 4096) : out0_B_8 c i arg1 harg1 arg2 harg2 arg3 harg3 arg4 harg4 arg5 harg5 arg6 harg6 arg7 harg7 arg8 harg8 arg9 harg9 arg10 harg10 hc0 x0 x1 x2 x3 x4 xo7 xo8 xo9 (ix2 r e) = xo8 (ix2 r e) := by
  unfold out0_B_8
  unfold kernelRun0_B
  dsimp only
  sl_unfold_words
  rw [row_miss _ _ _ _ _ r h]
  exact congrFun (harg9.read_unread xo8) (ix2 r e)

/-- The loss (later block). -/
theorem out_B_9 (r : Fin 8) (l : Fin 128) : out0_B_9 c i arg1 harg1 arg2 harg2 arg3 harg3 arg4 harg4 arg5 harg5 arg6 harg6 arg7 harg7 arg8 harg8 arg9 harg9 arg10 harg10 hc0 x0 x1 x2 x3 x4 xo7 xo8 xo9 (ix2 r l) = xo9 (ix2 r l) + ∑ q : Fin 256, ∑ k : Fin 4096, err (fun k => x0 (ix2 q k)) (fun k => x1 (ix2 q k)) (fun k => x2 (ix2 q k)) (fun k => x3 (ix2 0 k)) (fun k => x4 (ix2 0 k)) k * err (fun k => x0 (ix2 q k)) (fun k => x1 (ix2 q k)) (fun k => x2 (ix2 q k)) (fun k => x3 (ix2 0 k)) (fun k => x4 (ix2 0 k)) k := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  sl_unfold_words
  simp only [View.readAt_eq_ld, harg1.read_unread, harg2.read_unread, harg3.read_unread, harg4.read_unread, harg5.read_unread, harg8.read_unread, harg9.read_unread, harg10.read_unread]
  rw [View.canon_cons_unit_lit _ _ _ (by intro a; fin_cases a <;> rfl)]
  simp only [ldR, ldS, ldL]
  refine (pay12 _ _ _ _ _ _ r l).trans ?_
  rfl
end

end Cert.Post
-- ==== Proof.RefPost.lean ====
module

public import proofs.«01_k».proof.Proof.PostBlock
public import proofs.«01_k».proof.Proof.Gen.Reference16Ideal.Read
public import proofs.«01_k».proof.Proof.RealMath

/-!
  The reference of the call behind the output projection, read at an index.
-/

@[expose] public section
noncomputable section
open Idealize.ShloMosaic Cert.Reference16Ideal Cert.Reference16Ideal.Read
namespace Cert.Post

variable (x0 x1 x2 : (⟨S4096x4096, .f32⟩ : BufTy).Contents (Elt Ideal)) (x3 x4 : (⟨S1x4096, .f32⟩ : BufTy).Contents (Elt Ideal))

/-- Row `q` of an array. -/
abbrev rowOf (x : (⟨S4096x4096, .f32⟩ : BufTy).Contents (Elt Ideal)) (q : Fin 4096) : Fin 4096 → EReal := fun k => x (ix2 q k)
/-- The one row of an array. -/
abbrev only (x : (⟨S1x4096, .f32⟩ : BufTy).Contents (Elt Ideal)) : Fin 4096 → EReal := fun k => x (ix2 0 k)

/-- One over the root mean square. -/
theorem ref_rinv (q : Fin 4096) : val_main_v7 (F := Ideal) x0 (ix2 q 0) = rinv (rowOf x0 q) := by
  unfold val_main_v7 val_main_v6 val_main_v5 val_main_v4 val_main_v3 val_main_v2 val_main_v1 val_main_v0 val_main_cst val_main_cst_0 val_main_cst_1 rinv
  pointwise
/-- The rows over it. -/
theorem ref_over (q e : Fin 4096) : val_main_v12 (F := Ideal) x0 (ix2 q e) = over (rowOf x0 q) e := by
  unfold val_main_v12 val_main_v11 over
  pointwise
  rw [ref_rinv]
/-- Those times the gain. -/
theorem ref_normed (q e : Fin 4096) : val_main_v14 (F := Ideal) x0 x4 (ix2 q e) = over (rowOf x0 q) e * x4 (ix2 0 e) := by
  unfold val_main_v14 val_main_v13
  pointwise
  rw [ref_over]
/-- The residual less the target. -/
theorem ref_err (q e : Fin 4096) : val_main_v18 (F := Ideal) x0 x1 x2 x3 x4 (ix2 q e) = err (rowOf x0 q) (rowOf x1 q) (rowOf x2 q) (only x3) (only x4) e := by
  unfold val_main_v18 val_main_v17 val_main_v16 val_main_v15 err
  pointwise
  rw [ref_normed]
/-- The loss. -/
theorem ref_loss (r : Fin 8) (l : Fin 128) : val_main_v63 (F := Ideal) x0 x1 x2 x3 x4 (ix2 r l)
    = ∑ q : Fin 4096, ∑ e : Fin 4096, err (rowOf x0 q) (rowOf x1 q) (rowOf x2 q) (only x3) (only x4) e * err (rowOf x0 q) (rowOf x1 q) (rowOf x2 q) (only x3) (only x4) e := by
  simp only [← ref_err]
  unfold val_main_v63 val_main_v62 val_main_v61 val_main_v60 val_main_v18 val_main_cst_17
  pointwise
/-- A half. -/
theorem half_eq : Ideal.ofBits .f32 1056964608#32 = (((1 / 2 : ℝ) : ℝ) : EReal) := by
  simp [Ideal.ofBits, Ideal.ieee, -EReal.coe_mul]; norm_num
/-- Two. -/
theorem two_eq : Ideal.ofBits .f32 1073741824#32 = ((2 : ℝ) : EReal) := by
  simp [Ideal.ofBits, Ideal.ieee, -EReal.coe_mul]; norm_num
/-- Minus a half. -/
theorem neg_half_eq : Ideal.ofBits .f32 3204448256#32 = ((-(1 / 2) : ℝ) : EReal) := by
  simp [Ideal.ofBits, Ideal.ieee, -EReal.coe_mul]; norm_num
/-- The width of a row. -/
theorem width_eq : Ideal.ofBits .f32 1166016512#32 = ((4096 : ℝ) : EReal) := by
  simp [Ideal.ofBits, Ideal.ieee, -EReal.coe_mul]; norm_num
/-- The number added under the root. -/
theorem eps_eq : Ideal.ofBits .f32 897988541#32 = ((8796093 / 2 ^ 43 : ℝ) : EReal) := by
  simp [Ideal.ofBits, Ideal.ieee, -EReal.coe_mul]; norm_num
/-- The residual's gradient. -/
theorem ref_dres (q e : Fin 4096) : val_main_v32 (F := Ideal) x0 x1 x2 x3 x4 (ix2 q e) = dres (rowOf x0 q) (rowOf x1 q) (rowOf x2 q) (only x3) (only x4) e := by
  unfold val_main_v32 val_main_v31 val_main_v30 val_main_v29 val_main_v28 val_main_v27 val_main_v21 val_main_v20 val_main_cst_3 val_main_cst_8 val_main_cst_9 val_main_cst_10
  pointwise
  rw [ref_err, half_eq, two_eq]
  unfold dres
  rw [width_eq, Ideal.div_coe (by norm_num), Ideal.div_coe (by norm_num), ← mul_assoc, ← EReal.coe_mul, ← EReal.coe_mul, mul_comm]
  congr 2
  norm_num
/-- The gate's gradient: its row. -/
theorem ref_dgate (e : Fin 4096) : val_main_v58 (F := Ideal) x0 x1 x2 x3 x4 (ix2 0 e)
    = ∑ q : Fin 4096, dres (rowOf x0 q) (rowOf x1 q) (rowOf x2 q) (only x3) (only x4) e * (over (rowOf x0 q) e * x4 (ix2 0 e)) := by
  unfold val_main_v58 val_main_v37 val_main_v36 val_main_v35 val_main_cst_11
  pointwise
  simp only [ref_dres, ref_normed]
/-- The gate's gradient: below its row, zeros. -/
theorem ref_dgate_below (r : Fin 8) (h : r ≠ 0) (e : Fin 4096) : val_main_v58 (F := Ideal) x0 x1 x2 x3 x4 (ix2 r e) = 0 := by
  unfold val_main_v58 val_main_call0_v0
  pointwise
  rw [dif_neg (by have := Fin.val_ne_of_ne h; have : r.val ≠ 0 := this; omega)]
  show (((0#32 : BitVec 32).toInt : ℝ) : EReal) = 0
  simp
/-- The gradient behind the gate. -/
theorem ref_behind (q e : Fin 4096) : val_main_v34 (F := Ideal) x0 x1 x2 x3 x4 (ix2 q e)
    = dres (rowOf x0 q) (rowOf x1 q) (rowOf x2 q) (only x3) (only x4) e * x3 (ix2 0 e) := by
  unfold val_main_v34 val_main_v33
  pointwise
  rw [ref_dres, mul_comm]
/-- The gain's gradient: its row. -/
theorem ref_dgain (e : Fin 4096) : val_main_v59 (F := Ideal) x0 x1 x2 x3 x4 (ix2 0 e)
    = ∑ q : Fin 4096, dres (rowOf x0 q) (rowOf x1 q) (rowOf x2 q) (only x3) (only x4) e * x3 (ix2 0 e) * over (rowOf x0 q) e := by
  unfold val_main_v59 val_main_v40 val_main_v39 val_main_v38 val_main_cst_12
  pointwise
  simp only [ref_behind, ref_over]
  exact Finset.sum_congr rfl fun k _ => mul_comm _ _
/-- The gain's gradient: below its row, zeros. -/
theorem ref_dgain_below (r : Fin 8) (h : r ≠ 0) (e : Fin 4096) : val_main_v59 (F := Ideal) x0 x1 x2 x3 x4 (ix2 r e) = 0 := by
  unfold val_main_v59 val_main_call1_v0
  pointwise
  rw [dif_neg (by have := Fin.val_ne_of_ne h; have : r.val ≠ 0 := this; omega)]
  show (((0#32 : BitVec 32).toInt : ℝ) : EReal) = 0
  simp
/-- The gradient of the normed rows. -/
theorem ref_dover (q e : Fin 4096) : val_main_v42 (F := Ideal) x0 x1 x2 x3 x4 (ix2 q e) = dover (rowOf x0 q) (rowOf x1 q) (rowOf x2 q) (only x3) (only x4) e := by
  unfold val_main_v42 val_main_v41 dover
  pointwise
  rw [ref_behind]
/-- The mean square, with the small number added. -/
theorem ref_msq (q : Fin 4096) : val_main_v6 (F := Ideal) x0 (ix2 q 0)
    = Ideal.div (∑ k, rowOf x0 q k * rowOf x0 q k) (Ideal.ofBits .f32 1166016512#32) + Ideal.ofBits .f32 897988541#32 := by
  unfold val_main_v6 val_main_v5 val_main_v4 val_main_v3 val_main_v2 val_main_v1 val_main_v0 val_main_cst val_main_cst_0 val_main_cst_1
  pointwise

/-- The mean square of real numbers, with the small number added. -/
def ms (O : Fin 4096 → ℝ) : ℝ := (∑ k, O k * O k) / 4096 + 8796093 / 2 ^ 43
theorem ms_pos (O : Fin 4096 → ℝ) : 0 < ms O :=
  add_pos_of_nonneg_of_pos (div_nonneg (Finset.sum_nonneg fun k _ => mul_self_nonneg _) (by norm_num)) (by norm_num)
theorem ms_eq (O : Fin 4096 → ℝ) : Ideal.div (∑ k, (O k : EReal) * O k) (Ideal.ofBits .f32 1166016512#32) + Ideal.ofBits .f32 897988541#32 = (ms O : EReal) := by
  rw [width_eq, eps_eq, Cert.Att.dot_coe (fun _ => rfl) (fun _ => rfl), Cert.Att.div_real _ _ (by norm_num), ← EReal.coe_add]
  rfl
/-- One over its root. -/
theorem rinv_real (O : Fin 4096 → ℝ) : rinv (fun k => (O k : EReal)) = (((√(ms O))⁻¹ : ℝ) : EReal) := by
  unfold rinv
  rw [ms_eq, Ideal.rsqrt_coe, if_neg (not_lt.mpr (ms_pos O).le), if_neg (ms_pos O).ne']

/-- A row with an infinite entry has an infinite mean square. -/
theorem ms_top {o : Fin 4096 → EReal} {k : Fin 4096} (hk : ¬∃ a : ℝ, o k = a) :
    Ideal.div (∑ k, o k * o k) (Ideal.ofBits .f32 1166016512#32) + Ideal.ofBits .f32 897988541#32 = ⊤ := by
  have hn : ∀ x : EReal, 0 ≤ x * x := fun x => by
    induction x with
    | bot => simp
    | top => simp
    | coe r => rw [← EReal.coe_mul]; exact_mod_cast mul_self_nonneg r
  have ht : o k * o k = ⊤ := by
    cases h : o k with
    | bot => simp
    | top => simp
    | coe r => exact absurd ⟨r, h⟩ hk
  have hs : ∑ k, o k * o k = ⊤ :=
    top_unique (ht ▸ Finset.single_le_sum (f := fun k => o k * o k) (fun k _ => hn (o k)) (Finset.mem_univ k))
  rw [hs, width_eq, eps_eq, Ideal.div_coe (by norm_num), EReal.top_mul_coe_of_pos (by norm_num), EReal.top_add_coe]

/-- A real number that is not negative passes through a sum. -/
theorem mul_sum_real {ρ : ℝ} (hρ : 0 ≤ ρ) (f : Fin 4096 → EReal) : ∑ k, f k * (ρ : EReal) = (∑ k, f k) * ρ := by
  induction (Finset.univ : Finset (Fin 4096)) using Finset.induction_on with
  | empty => simp
  | insert a t ha ih =>
    rw [Finset.sum_insert ha, Finset.sum_insert ha, ih,
      EReal.right_distrib_of_nonneg_of_ne_top (by exact_mod_cast hρ) (EReal.coe_ne_top ρ)]

/-- A number added to itself is its double. -/
theorem add_self (x : EReal) : x + x = x * ((2 : ℝ) : EReal) := by
  induction x with
  | bot => rw [EReal.bot_mul_coe_of_pos (by norm_num)]; rfl
  | top => rw [EReal.top_mul_coe_of_pos (by norm_num)]; rfl
  | coe r => rw [← EReal.coe_mul, ← EReal.coe_add, mul_two]

/-- The reference's form of the rows' gradient is the kernel's, on a row of real numbers, whatever the gradient behind it. -/
theorem dout_real (O : Fin 4096 → ℝ) (d : Fin 4096 → EReal) (e : Fin 4096) :
    d e * (((√(ms O))⁻¹ : ℝ) : EReal)
      + (O e : EReal) * Ideal.div ((∑ k, (O k : EReal) * d k) * (((-(1 / 2) : ℝ) : EReal) * Ideal.div (((√(ms O))⁻¹ : ℝ) : EReal) (ms O : EReal))) ((4096 : ℝ) : EReal)
      + Ideal.div ((∑ k, (O k : EReal) * d k) * (((-(1 / 2) : ℝ) : EReal) * Ideal.div (((√(ms O))⁻¹ : ℝ) : EReal) (ms O : EReal))) ((4096 : ℝ) : EReal) * (O e : EReal)
    = (((√(ms O))⁻¹ : ℝ) : EReal) * (d e - (O e : EReal) * (((√(ms O))⁻¹ : ℝ) : EReal)
        * Ideal.div (∑ k, d k * ((O k : EReal) * (((√(ms O))⁻¹ : ℝ) : EReal))) ((4096 : ℝ) : EReal)) := by
  have hp := ms_pos O
  have hd : (√(ms O))⁻¹ / ms O = (√(ms O))⁻¹ * ((√(ms O))⁻¹ * (√(ms O))⁻¹) := by
    rw [← mul_inv, Real.mul_self_sqrt hp.le, div_eq_mul_inv]
  have hρ : 0 ≤ (√(ms O))⁻¹ := inv_nonneg.mpr (Real.sqrt_nonneg _)
  rw [Cert.Att.div_real _ _ hp.ne', hd]
  generalize (√(ms O))⁻¹ = ρ at hρ ⊢
  have hs : ∑ k, d k * ((O k : EReal) * (ρ : EReal)) = (∑ k, (O k : EReal) * d k) * ρ := by
    rw [← mul_sum_real hρ]
    exact Finset.sum_congr rfl fun k _ => by rw [← mul_assoc, mul_comm (d k)]
  rw [hs]
  generalize (∑ k, (O k : EReal) * d k) = z
  rw [EReal.mul_sub_of_nonneg_of_ne_top (by exact_mod_cast hρ) (EReal.coe_ne_top ρ), add_assoc, mul_comm _ (O e : EReal), add_self,
    mul_comm (ρ : EReal) (d e), sub_eq_add_neg]
  congr 1
  rw [Ideal.div_coe (by norm_num), Ideal.div_coe (by norm_num)]
  have l : (O e : EReal) * (z * (((-(1 / 2) : ℝ) : EReal) * ((ρ * (ρ * ρ) : ℝ) : EReal)) * ((1 / 4096 : ℝ) : EReal)) * ((2 : ℝ) : EReal)
      = z * ((-(O e * ρ * ρ * ρ * (1 / 4096)) : ℝ) : EReal) := by
    rw [show (-(O e * ρ * ρ * ρ * (1 / 4096)) : ℝ) = O e * (-(1 / 2)) * (ρ * (ρ * ρ)) * (1 / 4096) * 2 by ring]
    simp only [EReal.coe_mul]
    ac_rfl
  have r : (ρ : EReal) * ((O e : EReal) * ρ * (z * ρ * ((1 / 4096 : ℝ) : EReal))) = z * ((O e * ρ * ρ * ρ * (1 / 4096) : ℝ) : EReal) := by
    simp only [EReal.coe_mul]
    ac_rfl
  rw [l, r, EReal.coe_neg, mul_neg]

/-- The rows' gradient. -/
theorem ref_dout (q e : Fin 4096) :
    val_main_v57 (F := Ideal) x0 x1 x2 x3 x4 (ix2 q e) = dout (rowOf x0 q) (rowOf x1 q) (rowOf x2 q) (only x3) (only x4) e := by
  unfold val_main_v57 val_main_v56 val_main_v55 val_main_v54 val_main_v53 val_main_v52 val_main_v51 val_main_v50 val_main_v49 val_main_v48 val_main_v47 val_main_v46 val_main_v45 val_main_v44 val_main_v43 val_main_v10 val_main_v9 val_main_v8 val_main_cst_2 val_main_cst_13 val_main_cst_14 val_main_cst_15
  pointwise
  simp only [ref_dover, Fin.sum_univ_one, ref_rinv, ref_msq]
  unfold dout over
  generalize dover (rowOf x0 q) (rowOf x1 q) (rowOf x2 q) (only x3) (only x4) = d
  by_cases hR : ∀ k, ∃ a : ℝ, x0 (ix2 q k) = a
  · choose O hO using hR
    have ho : rowOf x0 q = fun k => (O k : EReal) := funext hO
    simp only [ho, hO, rinv_real, ms_eq]
    rw [width_eq, neg_half_eq]
    exact dout_real O d e
  · obtain ⟨k, hk⟩ := not_forall.mp hR
    have hm := ms_top (o := rowOf x0 q) hk
    have hr : rinv (rowOf x0 q) = 0 := by
      unfold rinv
      rw [hm, Ideal.rsqrt_top]
    rw [hr, hm]
    have hz : Ideal.div 0 ⊤ = 0 := by simp [Ideal.div]
    have h4 : Ideal.div 0 (Ideal.ofBits .f32 1166016512#32) = 0 := by
      rw [width_eq, Ideal.div_coe (by norm_num), zero_mul]
    simp only [hz, h4, mul_zero, zero_mul, add_zero]

end Cert.Post
-- ==== Proof.Post.lean ====
module

public import proofs.«01_k».proof.Proof.RefPost
public import proofs.«01_k».proof.Proof.Gen.Kernel16Ideal.Value
public import proofs.«01_k».proof.Proof.Gen.Reference16Ideal.Run
public import proofs.«01_k».proof.Defs
public import Idealize.ShloMosaic.Lib.Claim
public import Idealize.ShloMosaic.Lib.Pipeline.ValueKit
public import Idealize.ShloMosaic.Lib.Tactic

/-!
  The call behind the output projection: the loss, and the gradients of the residual, of the projection's rows, of the gate and
  of the gain. Sixteen blocks of 256 rows; the loss and the last two gradients are added up.
-/

@[expose] public section
noncomputable section
open Idealize.ShloMosaic Idealize.ShloMosaic.TcCoe Idealize.SL.Sem
open Cert.Kernel16Ideal Cert.Kernel16Ideal.Gen

namespace Cert.Post

/-- The blocks at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

theorem points (t : Fin cfg0.N) : t.val < 16 := t.isLt

/-- A function of the rows, continued by zero. -/
def ext (f : Fin 4096 → EReal) (i : ℕ) : EReal := if h : i < 4096 then f ⟨i, h⟩ else 0

/-- The sixteen blocks' rows are all the rows. -/
theorem sum_blocks (f : Fin 4096 → EReal) : ∑ n ∈ Finset.range 16, ∑ r : Fin 256, ext f (n * 256 + r.val) = ∑ i, f i := by
  have h : ∀ N : ℕ, ∑ n ∈ Finset.range N, ∑ r : Fin 256, ext f (n * 256 + r.val) = ∑ i ∈ Finset.range (N * 256), ext f i := by
    intro N
    induction N with
    | zero => simp
    | succ N ih =>
      rw [Finset.sum_range_succ, ih, show (N + 1) * 256 = N * 256 + 256 by ring, Finset.sum_range_add,
        Fin.sum_univ_eq_sum_range (fun r => ext f (N * 256 + r)) 256]
  rw [h 16, ← Fin.sum_univ_eq_sum_range (fun r => ext f r) (16 * 256)]
  exact Finset.sum_congr rfl fun i _ => dif_pos i.isLt

section
variable (m : (ℓ : Loc nD τ sig) → Buf (Elt Ideal) ℓ) (c : Dev nD)

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)

/-- A row of the block at point `t`. -/
abbrev at_ (t : Fin cfg0.N) (q : Fin 256) : Fin 4096 := ⟨t.val * 256 + q.val, by have := points t; omega⟩

/-- The normed rows, the error and the two gradients, of the arguments' rows. -/
abbrev Over (q e : Fin 4096) : EReal := over (rowOf (a0 m c) q) e
abbrev Err (q e : Fin 4096) : EReal := err (rowOf (a0 m c) q) (rowOf (a1 m c) q) (rowOf (a2 m c) q) (only (a3 m c)) (only (a4 m c)) e
abbrev Dres (q e : Fin 4096) : EReal := dres (rowOf (a0 m c) q) (rowOf (a1 m c) q) (rowOf (a2 m c) q) (only (a3 m c)) (only (a4 m c)) e
abbrev Dout (q e : Fin 4096) : EReal := dout (rowOf (a0 m c) q) (rowOf (a1 m c) q) (rowOf (a2 m c) q) (only (a3 m c)) (only (a4 m c)) e

theorem b0 (t : Fin cfg0.N) (q : Fin 256) : (fun k => iblk m c 0 t (ix2 q k)) = rowOf (a0 m c) (at_ t q) := by
  obtain ⟨e0, e1, e2, e3, e4, e5, e6, e7, e8, e9⟩ := idx t
  funext k
  blk_ext [iblk, e0]
theorem b1 (t : Fin cfg0.N) (q : Fin 256) : (fun k => iblk m c 1 t (ix2 q k)) = rowOf (a1 m c) (at_ t q) := by
  obtain ⟨e0, e1, e2, e3, e4, e5, e6, e7, e8, e9⟩ := idx t
  funext k
  blk_ext [iblk, e1]
theorem b2 (t : Fin cfg0.N) (q : Fin 256) : (fun k => iblk m c 2 t (ix2 q k)) = rowOf (a2 m c) (at_ t q) := by
  obtain ⟨e0, e1, e2, e3, e4, e5, e6, e7, e8, e9⟩ := idx t
  funext k
  blk_ext [iblk, e2]
theorem b3 (t : Fin cfg0.N) : (fun k => iblk m c 3 t (ix2 0 k)) = only (a3 m c) := by
  obtain ⟨e0, e1, e2, e3, e4, e5, e6, e7, e8, e9⟩ := idx t
  funext k
  blk_ext [iblk, e3]
theorem b3' (t : Fin cfg0.N) (k : Fin 4096) : iblk m c 3 t (ix2 0 k) = a3 m c (ix2 0 k) := congrFun (b3 m c t) k
theorem b4 (t : Fin cfg0.N) : (fun k => iblk m c 4 t (ix2 0 k)) = only (a4 m c) := by
  obtain ⟨e0, e1, e2, e3, e4, e5, e6, e7, e8, e9⟩ := idx t
  funext k
  blk_ext [iblk, e4]
theorem b4' (t : Fin cfg0.N) (k : Fin 4096) : iblk m c 4 t (ix2 0 k) = a4 m c (ix2 0 k) := congrFun (b4 m c t) k

/-- The gradient of the residual. -/
theorem arr5 : (dats m 0 c).arrAt 5 cfg0.N = Cert.Reference16Ideal.Read.val_main_v32 (F := Ideal) (a0 m c) (a1 m c) (a2 m c) (a3 m c) (a4 m c) := by
  refine (dats m 0 c).arrAt_eq_of_covers 5 _ (by decide +kernel) fun t hf y => ?_
  obtain ⟨q, e, rfl⟩ : ∃ (q : Fin 256) (e : Fin 4096), y = ix2 q e := ⟨y 0, y 1, eq_ix2 y⟩
  blk_simp
  obtain ⟨e0, e1, e2, e3, e4, e5, e6, e7, e8, e9⟩ := idx t
  rw [after0_5]
  have eo : (win0_5.blk t).view.emb (ix2 q e) = ix2 (at_ t q) e := by
    blk_ext [e5]
  rw [eo, ref_dres, ← b0, ← b1, ← b2, ← b3 m c t, ← b4 m c t]
  by_cases h : t.val % 16 = 0
  · rw [outsAt0_A m c t h]; dsimp only; rw [out_A_5]
  · rw [outsAt0_B m c t h]; dsimp only; rw [out_B_5]

/-- The gradient of the projection's rows. -/
theorem arr6 : (dats m 0 c).arrAt 6 cfg0.N = Cert.Reference16Ideal.Read.val_main_v57 (F := Ideal) (a0 m c) (a1 m c) (a2 m c) (a3 m c) (a4 m c) := by
  refine (dats m 0 c).arrAt_eq_of_covers 6 _ (by decide +kernel) fun t hf y => ?_
  obtain ⟨q, e, rfl⟩ : ∃ (q : Fin 256) (e : Fin 4096), y = ix2 q e := ⟨y 0, y 1, eq_ix2 y⟩
  blk_simp
  obtain ⟨e0, e1, e2, e3, e4, e5, e6, e7, e8, e9⟩ := idx t
  rw [after0_6]
  have eo : (win0_6.blk t).view.emb (ix2 q e) = ix2 (at_ t q) e := by
    blk_ext [e6]
  rw [eo, ref_dout, ← b0, ← b1, ← b2, ← b3 m c t, ← b4 m c t]
  by_cases h : t.val % 16 = 0
  · rw [outsAt0_A m c t h]; dsimp only; rw [out_A_6]
  · rw [outsAt0_B m c t h]; dsimp only; rw [out_B_6]

/-- The gradient of the gate: what a block adds. -/
theorem part7 (t : Fin cfg0.N) (e : Fin 4096) :
    ∑ q : Fin 256, dres (fun k => iblk m c 0 t (ix2 q k)) (fun k => iblk m c 1 t (ix2 q k)) (fun k => iblk m c 2 t (ix2 q k)) (fun k => iblk m c 3 t (ix2 0 k)) (fun k => iblk m c 4 t (ix2 0 k)) e * (over (fun k => iblk m c 0 t (ix2 q k)) e * iblk m c 4 t (ix2 0 e)) = ∑ q : Fin 256, ext (fun q => Dres m c q e * (Over m c q e * a4 m c (ix2 0 e))) (t.val * 256 + q.val) := by
  have ht := points t
  refine Finset.sum_congr rfl fun q _ => ?_
  rw [ext, dif_pos (by omega), b0, b1, b2, b3, b4, b4']
/-- The gradient of the gate: its row after the last point. -/
theorem run7 (t : Fin cfg0.N) (ht : t.val % 16 = 15) (e : Fin 4096) :
    (outsAt0 m c t.val t.isLt).2.2.1 (ix2 0 e) = ∑ q : Fin 4096, Dres m c q e * (Over m c q e * a4 m c (ix2 0 e)) := by
  have h := Pipeline.eq_sum_of_reset_step_of_mod (M := EReal) (fun n hn => (outsAt0 m c n hn).2.2.1 (ix2 0 e)) 16 0
    (fun n => ∑ q : Fin 256, ext (fun q => Dres m c q e * (Over m c q e * a4 m c (ix2 0 e))) (n * 256 + q.val))
    (fun t h0 => by
      rw [outsAt0_A m c t h0]; dsimp only
      rw [out_A_7, part7])
    (fun t h0 => by
      rw [outsAt0_B m c t h0]; dsimp only
      rw [out_B_7, part7])
    t ht
  have hp := points t
  refine h.trans ?_
  rw [zero_add, show t.val / 16 = 0 by omega, ← sum_blocks]
  simp only [mul_zero, zero_add]
/-- The gradient of the gate: the rows below stay zero. -/
theorem below7 (t : Fin cfg0.N) (ht : t.val % 16 = 15) (r : Fin 8) (hr : r ≠ 0) (e : Fin 4096) :
    (outsAt0 m c t.val t.isLt).2.2.1 (ix2 r e) = 0 := by
  have h := Pipeline.eq_sum_of_reset_step_of_mod (M := EReal) (fun n hn => (outsAt0 m c n hn).2.2.1 (ix2 r e)) 16 0
    (fun _ => 0)
    (fun t h0 => by
      rw [outsAt0_A m c t h0]; dsimp only
      rw [out_A_7_below (r := r) (h := hr), zero_add])
    (fun t h0 => by
      rw [outsAt0_B m c t h0]; dsimp only
      rw [out_B_7_below (r := r) (h := hr), add_zero])
    t ht
  refine h.trans ?_
  simp
/-- The gradient of the gate. -/
theorem arr7 : (dats m 0 c).arrAt 7 cfg0.N = Cert.Reference16Ideal.Read.val_main_v58 (F := Ideal) (a0 m c) (a1 m c) (a2 m c) (a3 m c) (a4 m c) := by
  refine (dats m 0 c).arrAt_eq_of_covers 7 _ (by decide +kernel) fun t hf y => ?_
  obtain ⟨r, e, rfl⟩ : ∃ (r : Fin 8) (e : Fin 4096), y = ix2 r e := ⟨y 0, y 1, eq_ix2 y⟩
  blk_simp
  obtain ⟨e0, e1, e2, e3, e4, e5, e6, e7, e8, e9⟩ := idx t
  rw [after0_7]
  have hl : t.val % 16 = 15 := (flush0_7 t).mp hf
  have eo : (win0_7.blk t).view.emb (ix2 r e) = ix2 r e := by
    blk_ext [e7]
  rw [eo]
  by_cases hr : r = 0
  · subst hr
    rw [run7 m c t hl, ref_dgate]
  · rw [below7 m c t hl r hr, ref_dgate_below _ _ _ _ _ r hr]

/-- The gradient of the gain: what a block adds. -/
theorem part8 (t : Fin cfg0.N) (e : Fin 4096) :
    ∑ q : Fin 256, dres (fun k => iblk m c 0 t (ix2 q k)) (fun k => iblk m c 1 t (ix2 q k)) (fun k => iblk m c 2 t (ix2 q k)) (fun k => iblk m c 3 t (ix2 0 k)) (fun k => iblk m c 4 t (ix2 0 k)) e * iblk m c 3 t (ix2 0 e) * over (fun k => iblk m c 0 t (ix2 q k)) e = ∑ q : Fin 256, ext (fun q => Dres m c q e * a3 m c (ix2 0 e) * Over m c q e) (t.val * 256 + q.val) := by
  have ht := points t
  refine Finset.sum_congr rfl fun q _ => ?_
  rw [ext, dif_pos (by omega), b0, b1, b2, b3, b4, b3']
/-- The gradient of the gain: its row after the last point. -/
theorem run8 (t : Fin cfg0.N) (ht : t.val % 16 = 15) (e : Fin 4096) :
    (outsAt0 m c t.val t.isLt).2.2.2.1 (ix2 0 e) = ∑ q : Fin 4096, Dres m c q e * a3 m c (ix2 0 e) * Over m c q e := by
  have h := Pipeline.eq_sum_of_reset_step_of_mod (M := EReal) (fun n hn => (outsAt0 m c n hn).2.2.2.1 (ix2 0 e)) 16 0
    (fun n => ∑ q : Fin 256, ext (fun q => Dres m c q e * a3 m c (ix2 0 e) * Over m c q e) (n * 256 + q.val))
    (fun t h0 => by
      rw [outsAt0_A m c t h0]; dsimp only
      rw [out_A_8, part8])
    (fun t h0 => by
      rw [outsAt0_B m c t h0]; dsimp only
      rw [out_B_8, part8])
    t ht
  have hp := points t
  refine h.trans ?_
  rw [zero_add, show t.val / 16 = 0 by omega, ← sum_blocks]
  simp only [mul_zero, zero_add]
/-- The gradient of the gain: the rows below stay zero. -/
theorem below8 (t : Fin cfg0.N) (ht : t.val % 16 = 15) (r : Fin 8) (hr : r ≠ 0) (e : Fin 4096) :
    (outsAt0 m c t.val t.isLt).2.2.2.1 (ix2 r e) = 0 := by
  have h := Pipeline.eq_sum_of_reset_step_of_mod (M := EReal) (fun n hn => (outsAt0 m c n hn).2.2.2.1 (ix2 r e)) 16 0
    (fun _ => 0)
    (fun t h0 => by
      rw [outsAt0_A m c t h0]; dsimp only
      rw [out_A_8_below (r := r) (h := hr), zero_add])
    (fun t h0 => by
      rw [outsAt0_B m c t h0]; dsimp only
      rw [out_B_8_below (r := r) (h := hr), add_zero])
    t ht
  refine h.trans ?_
  simp
/-- The gradient of the gain. -/
theorem arr8 : (dats m 0 c).arrAt 8 cfg0.N = Cert.Reference16Ideal.Read.val_main_v59 (F := Ideal) (a0 m c) (a1 m c) (a2 m c) (a3 m c) (a4 m c) := by
  refine (dats m 0 c).arrAt_eq_of_covers 8 _ (by decide +kernel) fun t hf y => ?_
  obtain ⟨r, e, rfl⟩ : ∃ (r : Fin 8) (e : Fin 4096), y = ix2 r e := ⟨y 0, y 1, eq_ix2 y⟩
  blk_simp
  obtain ⟨e0, e1, e2, e3, e4, e5, e6, e7, e8, e9⟩ := idx t
  rw [after0_8]
  have hl : t.val % 16 = 15 := (flush0_8 t).mp hf
  have eo : (win0_8.blk t).view.emb (ix2 r e) = ix2 r e := by
    blk_ext [e8]
  rw [eo]
  by_cases hr : r = 0
  · subst hr
    rw [run8 m c t hl, ref_dgain]
  · rw [below8 m c t hl r hr, ref_dgain_below _ _ _ _ _ r hr]

/-- The loss: what a block adds. -/
theorem part9 (t : Fin cfg0.N) :
    ∑ q : Fin 256, ∑ k : Fin 4096, err (fun k => iblk m c 0 t (ix2 q k)) (fun k => iblk m c 1 t (ix2 q k)) (fun k => iblk m c 2 t (ix2 q k)) (fun k => iblk m c 3 t (ix2 0 k)) (fun k => iblk m c 4 t (ix2 0 k)) k * err (fun k => iblk m c 0 t (ix2 q k)) (fun k => iblk m c 1 t (ix2 q k)) (fun k => iblk m c 2 t (ix2 q k)) (fun k => iblk m c 3 t (ix2 0 k)) (fun k => iblk m c 4 t (ix2 0 k)) k = ∑ q : Fin 256, ext (fun q => ∑ k : Fin 4096, Err m c q k * Err m c q k) (t.val * 256 + q.val) := by
  have ht := points t
  refine Finset.sum_congr rfl fun q _ => ?_
  rw [ext, dif_pos (by omega), b0, b1, b2, b3, b4]
/-- The loss after the last point. -/
theorem run9 (t : Fin cfg0.N) (ht : t.val % 16 = 15) (r : Fin 8) (l : Fin 128) :
    (outsAt0 m c t.val t.isLt).2.2.2.2 (ix2 r l) = ∑ q : Fin 4096, ∑ k : Fin 4096, Err m c q k * Err m c q k := by
  have h := Pipeline.eq_sum_of_reset_step_of_mod (M := EReal) (fun n hn => (outsAt0 m c n hn).2.2.2.2 (ix2 r l)) 16 0
    (fun n => ∑ q : Fin 256, ext (fun q => ∑ k : Fin 4096, Err m c q k * Err m c q k) (n * 256 + q.val))
    (fun t h0 => by
      rw [outsAt0_A m c t h0]; dsimp only
      rw [out_A_9, part9])
    (fun t h0 => by
      rw [outsAt0_B m c t h0]; dsimp only
      rw [out_B_9, part9])
    t ht
  have hp := points t
  refine h.trans ?_
  rw [zero_add, show t.val / 16 = 0 by omega, ← sum_blocks]
  simp only [mul_zero, zero_add]
/-- The loss. -/
theorem arr9 : (dats m 0 c).arrAt 9 cfg0.N = Cert.Reference16Ideal.Read.val_main_v63 (F := Ideal) (a0 m c) (a1 m c) (a2 m c) (a3 m c) (a4 m c) := by
  refine (dats m 0 c).arrAt_eq_of_covers 9 _ (by decide +kernel) fun t hf y => ?_
  obtain ⟨r, l, rfl⟩ : ∃ (r : Fin 8) (l : Fin 128), y = ix2 r l := ⟨y 0, y 1, eq_ix2 y⟩
  blk_simp
  obtain ⟨e0, e1, e2, e3, e4, e5, e6, e7, e8, e9⟩ := idx t
  rw [after0_9]
  have hl : t.val % 16 = 15 := (flush0_9 t).mp hf
  have eo : (win0_9.blk t).view.emb (ix2 r l) = ix2 r l := by
    blk_ext [e9]
  rw [eo, run9 m c t hl, ref_loss]
end

/-- The call and the plain formulas end with the same arrays. -/
theorem algebraic : Cert.algebraic_Kernel16Ideal_Reference16Ideal (hKernel16Ideal := Cert.Kernel16Ideal.Gen.facts)
      (hReference16Ideal := Cert.Reference16Ideal.Gen.facts) := by
  intro m g m' g' _ hag
  refine ⟨fun c => (dats m 0 c).arrAt 5 cfg0.N, fun c => (dats m 0 c).arrAt 6 cfg0.N, fun c => (dats m 0 c).arrAt 7 cfg0.N, fun c => (dats m 0 c).arrAt 8 cfg0.N,
    fun c => (dats m 0 c).arrAt 9 cfg0.N, Cert.Kernel16Ideal.Value.run_blocks m g, ?_⟩
  refine (θ_run _ _ _).mono (fun r h c => ?_) (Cert.Reference16Ideal.Value.run (F := Ideal) m' g')
  obtain ⟨h0, h1, h2, h3, h4, ha⟩ := h c
  obtain ⟨e0, e1, e2, e3, e4⟩ := hag c
  refine ⟨h0.trans ?_, h1.trans ?_, h2.trans ?_, h3.trans ?_, h4.trans ?_, ha⟩
  · refine (Cert.Reference16Ideal.Read.val_main_v32_eq _ _ _ _ _).trans ?_
    rw [e0, e1, e2, e3, e4]
    exact (arr5 m c).symm
  · refine (Cert.Reference16Ideal.Read.val_main_v57_eq _ _).trans ?_
    rw [e0, e1, e2, e3, e4]
    exact (arr6 m c).symm
  · refine (Cert.Reference16Ideal.Read.val_main_v58_eq _ _ _ _ _).trans ?_
    rw [e0, e1, e2, e3, e4]
    exact (arr7 m c).symm
  · refine (Cert.Reference16Ideal.Read.val_main_v59_eq _ _ _ _ _).trans ?_
    rw [e0, e1, e2, e3, e4]
    exact (arr8 m c).symm
  · refine (Cert.Reference16Ideal.Read.val_main_v63_eq _ _ _ _ _).trans ?_
    rw [e0, e1, e2, e3, e4]
    exact (arr9 m c).symm

end Cert.Post
-- ==== Proof.Adam.lean ====
module

public import Idealize.ShloMosaic.Lib.Pointwise

/-!
  One step of AdamW on one number, with the words that the program's constants have: the new moments and the change of the weight.
-/

@[expose] public section
noncomputable section
open Idealize.ShloMosaic
namespace Cert.Adam

/-- The gate `g · σ(g)`. -/
def silu (g : EReal) : EReal := g * Ideal.logistic g

/-- The new first moment: 0.9 of the old one and 0.1 of the gradient. -/
def newM (g m : EReal) : EReal := Ideal.ofBits .f32 0x3F666666#32 * m + Ideal.ofBits .f32 0x3DCCCCCD#32 * g

/-- The new second moment: 0.999 of the old one and 0.001 of the gradient's square. -/
def newV (g v : EReal) : EReal := Ideal.ofBits .f32 0x3F7FBE77#32 * v + Ideal.ofBits .f32 0x3A83126F#32 * (g * g)

/-- The change of the weight: minus the rate times the first moment over the root of the second, both without their bias, and the decay. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

end Cert.Adam
-- ==== Proof.AdaBackward.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Defs
public import proofs.«01_k».proof.Proof.Products
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Lib.Tactic

/-!
  The backward call of the modulations' weights: their gradient, one AdamW step on them, and the gradient of the context's activation,
  added up over the eight devices' rows. Sixteen blocks of 256 weight rows.
-/

@[expose] public section
noncomputable section
open Idealize.ShloMosaic Idealize.ShloMosaic.TcCoe Idealize.SL.Sem
open Cert.Kernel17Ideal Cert.Kernel17Ideal.Gen

namespace Cert.AdaBackward

/-- The blocks at point `t`. -/
theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, t.val] :=
  (by decide +kernel : ∀ t : Fin grid0.N, _)

/-- The number of grid points. -/
theorem points (t : Fin cfg0.N) : t.val < 16 := t.isLt

/-- The gradient of the weights: the activations' column against the rows' column. -/
def grad (c d : Fin 16 → EReal) : EReal := ∑ k, Adam.silu (c k) * d k

/-- The gradient of the context's activation: the last eight rows, each against the weights' row, added up. -/
def dctx (d : Fin 16 → Fin 1536 → EReal) (w : Fin 1536 → EReal) : EReal := ∑ q : Fin 8, ∑ k, d ⟨8 + q.val, by omega⟩ k * w k

/-- The gradient, before it is stored. -/
theorem pay3 (x0 : Vec Ideal S16x256 .f32) (x1 : Vec Ideal S16x1536 .f32) (r : Fin 256) (e : Fin 1536) :
    k0_pay3 (F := Ideal) x0 x1 (ix2 r e) = grad (fun k => x0 (ix2 k r)) (fun k => x1 (ix2 k e)) := by
  unfold k0_pay3 k0_pay2 grad Adam.silu
  pointwise

/-- The first moment, before it is stored. -/
theorem pay4 (x0 : Vec Ideal S16x256 .f32) (x1 : Vec Ideal S16x1536 .f32) (x3 : Vec Ideal S256x1536 .f32) (r : Fin 256) (e : Fin 1536) :
    k0_pay4 (F := Ideal) x0 x1 x3 (ix2 r e) = Adam.newM (grad (fun k => x0 (ix2 k r)) (fun k => x1 (ix2 k e))) (x3 (ix2 r e)) := by
  rw [← pay3]
  unfold k0_pay4 Adam.newM
  pointwise

/-- The second moment, before it is stored. -/
theorem pay5 (x0 : Vec Ideal S16x256 .f32) (x1 : Vec Ideal S16x1536 .f32) (x4 : Vec Ideal S256x1536 .f32) (r : Fin 256) (e : Fin 1536) :
    k0_pay5 (F := Ideal) x0 x1 x4 (ix2 r e) = Adam.newV (grad (fun k => x0 (ix2 k r)) (fun k => x1 (ix2 k e))) (x4 (ix2 r e)) := by
  rw [← pay3]
  unfold k0_pay5 Adam.newV
  pointwise

/-- The change of the weights, before it is stored. -/
theorem pay6 (x0 : Vec Ideal S16x256 .f32) (x1 : Vec Ideal S16x1536 .f32) (x2 x3 x4 : Vec Ideal S256x1536 .f32) (r : Fin 256) (e : Fin 1536) :
    k0_pay6 (F := Ideal) x0 x1 x2 x3 x4 (ix2 r e)
      = Adam.delta (x2 (ix2 r e)) (grad (fun k => x0 (ix2 k r)) (fun k => x1 (ix2 k e))) (x3 (ix2 r e)) (x4 (ix2 r e)) := by
  unfold Adam.delta
  rw [← pay4, ← pay5]
  unfold k0_pay6
  pointwise

/-- The activation's gradient, before it is stored. -/
theorem pay1 (x1 : Vec Ideal S16x1536 .f32) (x2 : Vec Ideal S256x1536 .f32) (p : Fin 8) (r : Fin 256) :
    k0_pay1 (F := Ideal) (k0_pay2 x1) x2 (ix2 p r) = dctx (fun k e => x1 (ix2 k e)) (fun e => x2 (ix2 r e)) := by
  unfold k0_pay1 k0_pay2 dctx
  pointwise

section
variable (m : (ℓ : Loc nD τ sig) → Buf (Elt Ideal) ℓ) (c : Dev nD)

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)

/-- A row of the block at point `t`. -/
abbrev at_ (t : Fin cfg0.N) (r : Fin 256) : Fin 4096 := ⟨t.val * 256 + r.val, by have := points t; omega⟩

/-- The block of the activation. -/
theorem b0 (t : Fin cfg0.N) (r : Fin 256) (k : Fin 16) : iblk m c 0 t (ix2 k r) = a0 m c (ix2 k (at_ t r)) := by
  obtain ⟨e0, e1, e2, e3, e4, e5, e6, e7, e8, e9⟩ := idx t
  blk_ext [iblk, e0]

/-- The block of the modulation's gradient. -/
theorem b1 (t : Fin cfg0.N) (k : Fin 16) (e : Fin 1536) : iblk m c 1 t (ix2 k e) = a1 m c (ix2 k e) := by
  obtain ⟨e0, e1, e2, e3, e4, e5, e6, e7, e8, e9⟩ := idx t
  blk_ext [iblk, e1]

/-- The block of the weights. -/
theorem b2 (t : Fin cfg0.N) (r : Fin 256) (e : Fin 1536) : iblk m c 2 t (ix2 r e) = a2 m c (ix2 (at_ t r) e) := by
  obtain ⟨e0, e1, e2, e3, e4, e5, e6, e7, e8, e9⟩ := idx t
  blk_ext [iblk, e2]

/-- The block of the old first moment. -/
theorem b3 (t : Fin cfg0.N) (r : Fin 256) (e : Fin 1536) : iblk m c 3 t (ix2 r e) = a3 m c (ix2 (at_ t r) e) := by
  obtain ⟨e0, e1, e2, e3, e4, e5, e6, e7, e8, e9⟩ := idx t
  blk_ext [iblk, e3]

/-- The block of the old second moment. -/
theorem b4 (t : Fin cfg0.N) (r : Fin 256) (e : Fin 1536) : iblk m c 4 t (ix2 r e) = a4 m c (ix2 (at_ t r) e) := by
  obtain ⟨e0, e1, e2, e3, e4, e5, e6, e7, e8, e9⟩ := idx t
  blk_ext [iblk, e4]

/-- The gradient of the weights. -/
def G (x0 : Products.Mat 16 4096) (x1 : Products.Mat 16 1536) (r : Fin 4096) (e : Fin 1536) : EReal := grad (fun k => x0 (ix2 k r)) (fun k => x1 (ix2 k e))

/-- The call's gradient. -/
theorem arr5 : (dats m 0 c).arrAt 5 cfg0.N = fun i : S4096x1536.Idx => G (a0 m c) (a1 m c) (i 0) (i 1) := by
  refine (dats m 0 c).arrAt_eq_of_covers 5 _ (by decide +kernel) fun t hf y => ?_
  obtain ⟨r, e, rfl⟩ : ∃ (r : Fin 256) (e : Fin 1536), y = ix2 r e := ⟨y 0, y 1, eq_ix2 y⟩
  blk_simp
  obtain ⟨e0, e1, e2, e3, e4, e5, e6, e7, e8, e9⟩ := idx t
  rw [after0_5]
  have eo : (win0_5.blk t).view.emb (ix2 r e) = ix2 (at_ t r) e := by
    blk_ext [e5]
  rw [eo]
  unfold out0_5
  rw [View.canon_unit_zero (by funext a; fin_cases a <;> rfl), View.ld_unit_zero (by funext a; fin_cases a <;> rfl), View.ld_unit_zero (by funext a; fin_cases a <;> rfl), pay3]
  simp only [b0, b1]
  rfl
/-- The call's change of the weights. -/
theorem arr6 : (dats m 0 c).arrAt 6 cfg0.N = fun i : S4096x1536.Idx => Adam.delta (a2 m c i) (G (a0 m c) (a1 m c) (i 0) (i 1)) (a3 m c i) (a4 m c i) := by
  refine (dats m 0 c).arrAt_eq_of_covers 6 _ (by decide +kernel) fun t hf y => ?_
  obtain ⟨r, e, rfl⟩ : ∃ (r : Fin 256) (e : Fin 1536), y = ix2 r e := ⟨y 0, y 1, eq_ix2 y⟩
  blk_simp
  obtain ⟨e0, e1, e2, e3, e4, e5, e6, e7, e8, e9⟩ := idx t
  rw [after0_6]
  have eo : (win0_6.blk t).view.emb (ix2 r e) = ix2 (at_ t r) e := by
    blk_ext [e6]
  rw [eo]
  unfold out0_6
  rw [View.canon_unit_zero (by funext a; fin_cases a <;> rfl)]
  repeat rw [View.ld_unit_zero (by funext a; fin_cases a <;> rfl)]
  rw [pay6]
  simp only [b0, b1, b2, b3, b4]
  rfl

/-- The call's first moment. -/
theorem arr7 : (dats m 0 c).arrAt 7 cfg0.N = fun i : S4096x1536.Idx => Adam.newM (G (a0 m c) (a1 m c) (i 0) (i 1)) (a3 m c i) := by
  refine (dats m 0 c).arrAt_eq_of_covers 7 _ (by decide +kernel) fun t hf y => ?_
  obtain ⟨r, e, rfl⟩ : ∃ (r : Fin 256) (e : Fin 1536), y = ix2 r e := ⟨y 0, y 1, eq_ix2 y⟩
  blk_simp
  obtain ⟨e0, e1, e2, e3, e4, e5, e6, e7, e8, e9⟩ := idx t
  rw [after0_7]
  have eo : (win0_7.blk t).view.emb (ix2 r e) = ix2 (at_ t r) e := by
    blk_ext [e7]
  rw [eo]
  unfold out0_7
  rw [View.canon_unit_zero (by funext a; fin_cases a <;> rfl)]
  repeat rw [View.ld_unit_zero (by funext a; fin_cases a <;> rfl)]
  rw [pay4]
  simp only [b0, b1, b3]
  rfl

/-- The call's second moment. -/
theorem arr8 : (dats m 0 c).arrAt 8 cfg0.N = fun i : S4096x1536.Idx => Adam.newV (G (a0 m c) (a1 m c) (i 0) (i 1)) (a4 m c i) := by
  refine (dats m 0 c).arrAt_eq_of_covers 8 _ (by decide +kernel) fun t hf y => ?_
  obtain ⟨r, e, rfl⟩ : ∃ (r : Fin 256) (e : Fin 1536), y = ix2 r e := ⟨y 0, y 1, eq_ix2 y⟩
  blk_simp
  obtain ⟨e0, e1, e2, e3, e4, e5, e6, e7, e8, e9⟩ := idx t
  rw [after0_8]
  have eo : (win0_8.blk t).view.emb (ix2 r e) = ix2 (at_ t r) e := by
    blk_ext [e8]
  rw [eo]
  unfold out0_8
  rw [View.canon_unit_zero (by funext a; fin_cases a <;> rfl)]
  repeat rw [View.ld_unit_zero (by funext a; fin_cases a <;> rfl)]
  rw [pay5]
  simp only [b0, b1, b4]
  rfl

/-- The gradient of the context's activation, one number for each of its entries. -/
def D (x1 : Products.Mat 16 1536) (x2 : Products.Mat 4096 1536) (r : Fin 4096) : EReal := dctx (fun k e => x1 (ix2 k e)) (fun e => x2 (ix2 r e))

/-- The call's gradient of the context's activation: eight equal rows. -/
theorem arr9 : (dats m 0 c).arrAt 9 cfg0.N = fun i : S8x4096.Idx => D (a1 m c) (a2 m c) (i 1) := by
  refine (dats m 0 c).arrAt_eq_of_covers 9 _ (by decide +kernel) fun t hf y => ?_
  obtain ⟨p, r, rfl⟩ : ∃ (p : Fin 8) (r : Fin 256), y = ix2 p r := ⟨y 0, y 1, eq_ix2 y⟩
  blk_simp
  obtain ⟨e0, e1, e2, e3, e4, e5, e6, e7, e8, e9⟩ := idx t
  rw [after0_9]
  have eo : (win0_9.blk t).view.emb (ix2 p r) = ix2 p (at_ t r) := by
    blk_ext [e9]
  rw [eo]
  unfold out0_9
  rw [View.canon_unit_zero (by funext a; fin_cases a <;> rfl)]
  repeat rw [View.ld_unit_zero (by funext a; fin_cases a <;> rfl)]
  rw [pay1]
  simp only [b1, b2]
  rfl
end

section
open Cert.Reference17Ideal.Read

/-- The reference's gradient of the weights. -/
theorem ref_grad (x0 x1) (r : Fin 4096) (e : Fin 1536) : val_main_v3 (F := Ideal) x0 x1 (ix2 r e) = G x0 x1 r e := by
  unfold val_main_v3 val_main_v2 val_main_v0 val_main_call0_v5 val_main_call0_v4 val_main_call0_v3 val_main_call0_v2 val_main_call0_v1 val_main_call0_v0 val_main_call0_cst val_main_call0_cst_0 G grad Adam.silu Ideal.logistic
  pointwise
  exact Products.sum_comm _ _

/-- The reference's first moment. -/
theorem ref_m (x0 x1 x3) (r : Fin 4096) (e : Fin 1536) : val_main_v12 (F := Ideal) x0 x1 x3 (ix2 r e) = Adam.newM (G x0 x1 r e) (x3 (ix2 r e)) := by
  rw [← ref_grad]
  unfold val_main_v12 val_main_v11 val_main_v10 val_main_v9 val_main_v8 val_main_cst_0 val_main_cst_1 Adam.newM
  pointwise

/-- The reference's second moment. -/
theorem ref_v (x0 x1 x4) (r : Fin 4096) (e : Fin 1536) : val_main_v18 (F := Ideal) x0 x1 x4 (ix2 r e) = Adam.newV (G x0 x1 r e) (x4 (ix2 r e)) := by
  rw [← ref_grad]
  unfold val_main_v18 val_main_v17 val_main_v16 val_main_v15 val_main_v14 val_main_v13 val_main_cst_2 val_main_cst_3 Adam.newV
  pointwise

/-- The reference's change of the weights. -/
theorem ref_delta (x0 x1 x2 x3 x4) (r : Fin 4096) (e : Fin 1536) :
    val_main_v31 (F := Ideal) x0 x1 x2 x3 x4 (ix2 r e) = Adam.delta (x2 (ix2 r e)) (G x0 x1 r e) (x3 (ix2 r e)) (x4 (ix2 r e)) := by
  unfold Adam.delta
  rw [← ref_m, ← ref_v]
  unfold val_main_v31 val_main_v30 val_main_v29 val_main_v28 val_main_v27 val_main_v26 val_main_v25 val_main_v24 val_main_v23 val_main_v22 val_main_v21 val_main_v20 val_main_v19 val_main_cst_4 val_main_cst_5 val_main_cst_6 val_main_cst_7 val_main_cst_8
  pointwise

/-- The reference's gradient of the context's activation. -/
theorem ref_dc (x1 x2) (p : Fin 8) (r : Fin 4096) : val_main_v32 (F := Ideal) x1 x2 (ix2 p r) = D x1 x2 r := by
  unfold val_main_v32 val_main_v7 val_main_v6 val_main_v5 val_main_v4 val_main_cst D dctx
  pointwise

end

/-- The call and the reference end with the same arrays. -/
theorem algebraic : Cert.algebraic_Kernel17Ideal_Reference17Ideal (hKernel17Ideal := Cert.Kernel17Ideal.Gen.facts)
      (hReference17Ideal := Cert.Reference17Ideal.Gen.facts) := by
  intro m g m' g' _ hag
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, Cert.Kernel17Ideal.Value.run_blocks m g, ?_⟩
  refine (θ_run _ _ _).mono (fun r h c => ?_) (Cert.Reference17Ideal.Value.run (F := Ideal) m' g')
  obtain ⟨h0, h1, h2, h3, h4, ha⟩ := h c
  obtain ⟨e0, e1, e2, e3, e4⟩ := hag c
  refine ⟨h0.trans ?_, h1.trans ?_, h2.trans ?_, h3.trans ?_, h4.trans ?_, ha⟩
  · rw [Cert.Reference17Ideal.Read.val_main_v3_eq, e0, e1]
    refine Eq.trans (funext fun i => ?_) (arr5 m c).symm
    obtain ⟨r, e, rfl⟩ := Products.idx2 (a := 4096) (b := 1536) i
    exact ref_grad _ _ r e
  · rw [Cert.Reference17Ideal.Read.val_main_v31_eq, e0, e1, e2, e3, e4]
    refine Eq.trans (funext fun i => ?_) (arr6 m c).symm
    obtain ⟨r, e, rfl⟩ := Products.idx2 (a := 4096) (b := 1536) i
    exact ref_delta _ _ _ _ _ r e
  · rw [Cert.Reference17Ideal.Read.val_main_v12_eq, e0, e1, e3]
    refine Eq.trans (funext fun i => ?_) (arr7 m c).symm
    obtain ⟨r, e, rfl⟩ := Products.idx2 (a := 4096) (b := 1536) i
    exact ref_m _ _ _ r e
  · rw [Cert.Reference17Ideal.Read.val_main_v18_eq, e0, e1, e4]
    refine Eq.trans (funext fun i => ?_) (arr8 m c).symm
    obtain ⟨r, e, rfl⟩ := Products.idx2 (a := 4096) (b := 1536) i
    exact ref_v _ _ _ r e
  · rw [Cert.Reference17Ideal.Read.val_main_v32_eq, e1, e2]
    refine Eq.trans (funext fun i => ?_) (arr9 m c).symm
    obtain ⟨p, r, rfl⟩ := Products.idx2 (a := 8) (b := 4096) i
    exact ref_dc _ _ p r

end Cert.AdaBackward
-- ==== Proof.AdaForward.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import proofs.«01_k».proof.Proof.Products
public import proofs.«01_k».proof.Proof.Adam
public import Idealize.ShloMosaic.Lib.Pipeline.ValueKit
public import Idealize.ShloMosaic.Lib.Pipeline.ReadBack
public import Idealize.ShloMosaic.Lib.Pipeline.Covers
public import Idealize.ShloMosaic.Lib.Pointwise
public import Idealize.ShloMosaic.Lib.Tactic

/-!
  The forward call of the modulations: the product of the gated context rows with a chip's columns of the weights, added up
  over eight blocks of 512 weight rows.
-/

@[expose] public section
noncomputable section
open Idealize.ShloMosaic Idealize.ShloMosaic.TcCoe Idealize.SL.Sem
open Cert.Kernel18Ideal Cert.Kernel18Ideal.Gen

namespace Cert.AdaForward

/-- The blocks at point `t`. -/
theorem idx : ∀ t : Fin cfg0.N, win0_0.index t = ![0, t.val] ∧ win0_1.index t = ![t.val, 0] ∧ win0_2.index t = ![0, 0] :=
  (by decide +kernel : ∀ t : Fin grid0.N, _)

/-- The number of grid points. -/
theorem points (t : Fin cfg0.N) : t.val < 8 := t.isLt

/-- A function of the weight rows, continued by zero. -/
def ext (f : Fin 4096 → EReal) (i : ℕ) : EReal := if h : i < 4096 then f ⟨i, h⟩ else 0

/-- The eight blocks' rows are all the rows. -/
theorem sum_blocks (f : Fin 4096 → EReal) : ∑ n ∈ Finset.range 8, ∑ r : Fin 512, ext f (n * 512 + r.val) = ∑ i, f i := by
  have h : ∀ N : ℕ, ∑ n ∈ Finset.range N, ∑ r : Fin 512, ext f (n * 512 + r.val) = ∑ i ∈ Finset.range (N * 512), ext f i := by
    intro N
    induction N with
    | zero => simp
    | succ N ih =>
      rw [Finset.sum_range_succ, ih, show (N + 1) * 512 = N * 512 + 512 by ring, Finset.sum_range_add,
        Fin.sum_univ_eq_sum_range (fun r => ext f (N * 512 + r)) 512]
  rw [h 8, ← Fin.sum_univ_eq_sum_range (fun r => ext f r) (8 * 512)]
  exact Finset.sum_congr rfl fun i _ => dif_pos i.isLt

/-- What a block adds. -/
theorem step (acc : Vec Ideal S16x1536 .f32) (x0 : Vec Ideal S16x512 .f32) (x1 : Vec Ideal S512x1536 .f32) (p : Fin 16) (e : Fin 1536) :
    k0_pay2 (F := Ideal) acc x0 x1 (ix2 p e) = acc (ix2 p e) + ∑ k : Fin 512, Adam.silu (x0 (ix2 p k)) * x1 (ix2 k e) := by
  unfold k0_pay2 Adam.silu
  pointwise

/-- The first block adds to zero. -/
theorem reset (p : Fin 16) (e : Fin 1536) : k0_pay1 (F := Ideal) (ix2 p e) = 0 := by
  unfold k0_pay1
  pointwise

/-- The product of the gated rows with the weights. -/
def prod (x0 : Products.Mat 16 4096) (x1 : Products.Mat 4096 1536) (p : Fin 16) (e : Fin 1536) : EReal := ∑ k : Fin 4096, Adam.silu (x0 (ix2 p k)) * x1 (ix2 k e)

section
variable (m : (ℓ : Loc nD τ sig) → Buf (Elt Ideal) ℓ) (c : Dev nD)

/-- The arguments. -/
abbrev a0 := m ((c.tc : Thread nD τ).loc main_arg0)
abbrev a1 := m ((c.tc : Thread nD τ).loc main_arg1)

/-- A weight row of the block at point `t`. -/
abbrev at_ (t : Fin cfg0.N) (r : Fin 512) : Fin 4096 := ⟨t.val * 512 + r.val, by have := points t; omega⟩

/-- The block of the activation. -/
theorem b0 (t : Fin cfg0.N) (p : Fin 16) (k : Fin 512) : iblk m c 0 t (ix2 p k) = a0 m c (ix2 p (at_ t k)) := by
  obtain ⟨e0, e1, e2⟩ := idx t
  blk_ext [iblk, e0]

/-- The block of the weights. -/
theorem b1 (t : Fin cfg0.N) (k : Fin 512) (e : Fin 1536) : iblk m c 1 t (ix2 k e) = a1 m c (ix2 (at_ t k) e) := by
  obtain ⟨e0, e1, e2⟩ := idx t
  blk_ext [iblk, e1]

/-- A block's products are the rows' at the block's place. -/
theorem part (t : Fin cfg0.N) (p : Fin 16) (e : Fin 1536) :
    ∑ k : Fin 512, Adam.silu (iblk m c 0 t (ix2 p k)) * iblk m c 1 t (ix2 k e)
      = ∑ k : Fin 512, ext (fun k => Adam.silu (a0 m c (ix2 p k)) * a1 m c (ix2 k e)) (t.val * 512 + k.val) := by
  have ht := points t
  refine Finset.sum_congr rfl fun k _ => ?_
  rw [ext, dif_pos (by omega), b0, b1]

/-- After the last point the block is the whole product. -/
theorem run (t : Fin cfg0.N) (ht : t.val % 8 = 7) (p : Fin 16) (e : Fin 1536) :
    outsAt0 m c t.val t.isLt (ix2 p e) = prod (a0 m c) (a1 m c) p e := by
  have h := Pipeline.eq_sum_of_reset_step_of_mod (M := EReal) (fun n hn => outsAt0 m c n hn (ix2 p e)) 8 0
    (fun n => ∑ k : Fin 512, ext (fun k => Adam.silu (a0 m c (ix2 p k)) * a1 m c (ix2 k e)) (n * 512 + k.val))
    (fun t h0 => by
      rw [outsAt0_A m c t h0, Cert.Kernel18Ideal.Value.out_A_2_eq, step, reset, part])
    (fun t h0 => by
      rw [outsAt0_B m c t h0, Cert.Kernel18Ideal.Value.out_B_2_eq, step, part])
    t ht
  have hp := points t
  refine h.trans ?_
  unfold prod
  rw [zero_add, show t.val / 8 = 0 by omega, ← sum_blocks]
  simp only [mul_zero, zero_add]

/-- The call's array. -/
theorem array : (dats m 0 c).arrAt 2 cfg0.N = fun i : S16x1536.Idx => prod (a0 m c) (a1 m c) (i 0) (i 1) := by
  refine (dats m 0 c).arrAt_eq_of_covers 2 _ (by decide +kernel) fun t hf y => ?_
  obtain ⟨p, e, rfl⟩ : ∃ (p : Fin 16) (e : Fin 1536), y = ix2 p e := ⟨y 0, y 1, eq_ix2 y⟩
  have ht : t.val % 8 = 7 := (by decide +kernel : ∀ t : Fin cfg0.N, (cfg0.win 2).flush t = true → t.val % 8 = 7) t hf
  blk_simp
  obtain ⟨e0, e1, e2⟩ := idx t
  rw [after0_2]
  have eo : (win0_2.blk t).view.emb (ix2 p e) = ix2 p e := by
    blk_ext [e2]
  rw [eo, run m c t ht]
  rfl
end

section
open Cert.Reference18Ideal.Read
/-- The reference's product. -/
theorem ref (x0 x1) (p : Fin 16) (e : Fin 1536) : val_main_v1 (F := Ideal) x0 x1 (ix2 p e) = prod x0 x1 p e := by
  unfold val_main_v1 val_main_v0 val_main_call0_v5 val_main_call0_v4 val_main_call0_v3 val_main_call0_v2 val_main_call0_v1 val_main_call0_v0 val_main_call0_cst val_main_call0_cst_0 prod Adam.silu Ideal.logistic
  pointwise
end

/-- The call and the reference end with the same array. -/
theorem algebraic : Cert.algebraic_Kernel18Ideal_Reference18Ideal (hKernel18Ideal := Cert.Kernel18Ideal.Gen.facts)
      (hReference18Ideal := Cert.Reference18Ideal.Gen.facts) := by
  intro m g m' g' _ hag
  refine ⟨fun c => (dats m 0 c).arrAt 2 cfg0.N, Cert.Kernel18Ideal.Value.run_blocks m g, ?_⟩
  refine (θ_run _ _ _).mono (fun r h c => ?_) (Cert.Reference18Ideal.Value.run (F := Ideal) m' g')
  obtain ⟨h0, ha⟩ := h c
  obtain ⟨e0, e1⟩ := hag c
  refine ⟨h0.trans ?_, ha⟩
  rw [Cert.Reference18Ideal.Read.val_main_v1_eq, e0, e1]
  refine Eq.trans (funext fun i => ?_) (array m c).symm
  obtain ⟨p, e, rfl⟩ := Products.idx2 (a := 16) (b := 1536) i
  exact ref _ _ p e

end Cert.AdaForward
-- ==== Proof.AdamReplicated.lean ====
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Pre_finite22
public import proofs.«01_k».proof.Defs
public import proofs.«01_k».proof.Proof.Products
public import proofs.«01_k».proof.Proof.Finite
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Lib.Tactic

/-!
  The optimiser step of the parameters that every device keeps whole: the gradient is the sum of two contributions of each of eight
  devices, at the marked entries taken on through the derivative of `g · σ(g)`; then one AdamW step. One block.
-/

@[expose] public section
set_option maxRecDepth 16384
noncomputable section
open Idealize.ShloMosaic Idealize.ShloMosaic.TcCoe Idealize.SL.Sem
open Cert.Kernel22Ideal Cert.Kernel22Ideal.Gen

namespace Cert.AdamReplicated

/-- The blocks: each array is one. -/
theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The eight devices' contributions, added up pair by pair. -/
def total (p q : Fin 8 → EReal) : EReal :=
  p 0 + q 0 + (p 1 + q 1) + (p 2 + q 2) + (p 3 + q 3) + (p 4 + q 4) + (p 5 + q 5) + (p 6 + q 6) + (p 7 + q 7)

/-- The same sum with each kind of contribution added up on its own. -/
theorem total_eq (p q : Fin 8 → EReal) : ∑ k, p k + ∑ k, q k = total p q := by
  rw [← Finset.sum_add_distrib, Fin.sum_univ_eight]
  rfl

/-- A contribution `a` taken on through the derivative of `g · σ(g)` at `w`. -/
def through (w a : EReal) : EReal := a * (Ideal.logistic w * (1 + w * (1 - Ideal.logistic w)))

/-- The gradient of an entry: taken on through the derivative where the mark is above one half. -/
def marked (t w a : EReal) : EReal := Scalar.select (BitVec.ofBool (decide (Ideal.ofBits .f32 0x3F000000#32 < t))) (through w a) a

/-- The derivative by the product rule, of a real contribution. -/
theorem through_real (w : EReal) (a : ℝ) : (a : EReal) * Ideal.logistic w + w * a * (Ideal.logistic w * (1 - Ideal.logistic w)) = through w a := by
  unfold through
  have h1 : (1 : EReal) - 1 = 0 := by rw [← EReal.coe_one, ← EReal.coe_sub, sub_self, EReal.coe_zero]
  induction w with
  | bot =>
    have ht : (1 : EReal) + ⊤ = ⊤ := by rw [← EReal.coe_one, EReal.coe_add_top]
    have h : Ideal.logistic ⊥ = 0 := by simp [Ideal.logistic, Ideal.div, ht]
    simp only [h, zero_mul, mul_zero, add_zero]
  | top =>
    have h : Ideal.logistic ⊤ = 1 := by simp [Ideal.logistic, Ideal.div]
    simp only [h, h1, mul_zero, add_zero, mul_one]
  | coe w =>
    rw [Ideal.logistic_coe]
    simp only [← EReal.coe_mul, ← EReal.coe_add, ← EReal.coe_sub, ← EReal.coe_one]
    congr 1
    ring

/-- The sum of real contributions is real. -/
theorem total_real (p q : Fin 8 → EReal) (hp : ∀ k, ∃ a : ℝ, p k = a) (hq : ∀ k, ∃ a : ℝ, q k = a) : ∃ a : ℝ, total p q = a := by
  choose a ha using hp
  choose b hb using hq
  refine ⟨a 0 + b 0 + (a 1 + b 1) + (a 2 + b 2) + (a 3 + b 3) + (a 4 + b 4) + (a 5 + b 5) + (a 6 + b 6) + (a 7 + b 7), ?_⟩
  unfold total
  simp only [ha, hb, EReal.coe_add]

/-- The gradient from the sixteen parts. -/
theorem pay5 (v0 v2 v5 v7 v11 v13 v17 v19 v23 v25 v29 v31 v35 v37 v41 v43 : Vec Ideal S1x216x128 .f32) (v47 v50 : Vec Ideal S216x128 .f32) (r : Fin 216) (e : Fin 128) :
    k0_pay5 (F := Ideal) (k0_pay4 v0 v2 v5 v7 v11 v13 v17 v19 v23 v25) v29 v31 v35 v37 v41 v43 v47 v50 (ix2 r e)
      = marked (v47 (ix2 r e)) (v50 (ix2 r e)) (total ![v0 (ix3 0 r e), v5 (ix3 0 r e), v11 (ix3 0 r e), v17 (ix3 0 r e), v23 (ix3 0 r e), v29 (ix3 0 r e), v35 (ix3 0 r e), v41 (ix3 0 r e)]
        ![v2 (ix3 0 r e), v7 (ix3 0 r e), v13 (ix3 0 r e), v19 (ix3 0 r e), v25 (ix3 0 r e), v31 (ix3 0 r e), v37 (ix3 0 r e), v43 (ix3 0 r e)]) := by
  unfold k0_pay5 k0_pay4 marked through total
  pointwise

/-- One of eight loaded slabs. -/
theorem part (x : Vec Ideal S8x216x128 .f32) (off : Fin 3 → ℕ) (k : Fin 8) (h0 : off 0 = k.val) (h1 : off 1 = 0) (h2 : off 2 = 0) (inb) (r : Fin 216) (e : Fin 128) :
    View.ld (Val := Elt Ideal) (e' := .f32) x (Rect.unit (s := S8x216x128) off S1x216x128.size inb) (ix3 0 r e) = x (ix3 k r e) := by
  refine View.ld_unit_apply_of x off _ inb (ix3 0 r e) (ix3 k r e) fun a => ?_
  fin_cases a
  · exact h0.symm
  · exact (Nat.zero_add _).symm.trans (congrArg (· + r.val) h1.symm)
  · exact (Nat.zero_add _).symm.trans (congrArg (· + e.val) h2.symm)

/-- The gradient at a row and a column. -/
def G (x0 x1 : S8x216x128.Idx → EReal) (x2 x3 : S216x128.Idx → EReal) (r : Fin 216) (e : Fin 128) : EReal :=
  marked (x2 (ix2 r e)) (x3 (ix2 r e)) (total (fun k => x0 (ix3 k r e)) (fun k => x1 (ix3 k r e)))

/-- The gradient from the whole arrays. -/
theorem pay6 (x0 x1 : Vec Ideal S8x216x128 .f32) (x2 x3 x4 x5 : Vec Ideal S216x128 .f32) (r : Fin 216) (e : Fin 128) :
    k0_pay6 (F := Ideal) x0 x1 x2 x3 x4 x5 (ix2 r e) = G x0 x1 x2 x3 r e := by
  unfold k0_pay6 G
  rw [pay5]
  have p0 : ∀ x : Vec Ideal S8x216x128 .f32, View.ld (Val := Elt Ideal) (e' := .f32) x r0_0 (ix3 0 r e) = x (ix3 0 r e) := fun x => part x ![0, 0, 0] 0 rfl rfl rfl _ r e
  have p1 : ∀ x : Vec Ideal S8x216x128 .f32, View.ld (Val := Elt Ideal) (e' := .f32) x r0_1 (ix3 0 r e) = x (ix3 1 r e) := fun x => part x ![1, 0, 0] 1 rfl rfl rfl _ r e
  have p2 : ∀ x : Vec Ideal S8x216x128 .f32, View.ld (Val := Elt Ideal) (e' := .f32) x r0_2 (ix3 0 r e) = x (ix3 2 r e) := fun x => part x ![2, 0, 0] 2 rfl rfl rfl _ r e
  have p3 : ∀ x : Vec Ideal S8x216x128 .f32, View.ld (Val := Elt Ideal) (e' := .f32) x r0_3 (ix3 0 r e) = x (ix3 3 r e) := fun x => part x ![3, 0, 0] 3 rfl rfl rfl _ r e
  have p4 : ∀ x : Vec Ideal S8x216x128 .f32, View.ld (Val := Elt Ideal) (e' := .f32) x r0_4 (ix3 0 r e) = x (ix3 4 r e) := fun x => part x ![4, 0, 0] 4 rfl rfl rfl _ r e
  have p5 : ∀ x : Vec Ideal S8x216x128 .f32, View.ld (Val := Elt Ideal) (e' := .f32) x r0_5 (ix3 0 r e) = x (ix3 5 r e) := fun x => part x ![5, 0, 0] 5 rfl rfl rfl _ r e
  have p6 : ∀ x : Vec Ideal S8x216x128 .f32, View.ld (Val := Elt Ideal) (e' := .f32) x r0_6 (ix3 0 r e) = x (ix3 6 r e) := fun x => part x ![6, 0, 0] 6 rfl rfl rfl _ r e
  have p7 : ∀ x : Vec Ideal S8x216x128 .f32, View.ld (Val := Elt Ideal) (e' := .f32) x r0_7 (ix3 0 r e) = x (ix3 7 r e) := fun x => part x ![7, 0, 0] 7 rfl rfl rfl _ r e
  have p8 : ∀ x : Vec Ideal S216x128 .f32, View.ld (Val := Elt Ideal) (e' := .f32) x r0_8 = x := fun x => View.ld_unit_zero (by funext a; fin_cases a <;> rfl) _ x
  rw [p8, p8]
  unfold total
  rw [p0, p0, p1, p1, p2, p2, p3, p3, p4, p4, p5, p5, p6, p6, p7, p7]
  rfl

/-- The first moment from the gradient. -/
theorem pay1 (v59 v61 : Vec Ideal S216x128 .f32) (r : Fin 216) (e : Fin 128) :
    k0_pay1 (F := Ideal) v59 v61 (ix2 r e) = Adam.newM (v59 (ix2 r e)) (v61 (ix2 r e)) := by
  unfold k0_pay1 Adam.newM
  pointwise

/-- The second moment from the gradient. -/
theorem pay2 (v59 v62 : Vec Ideal S216x128 .f32) (r : Fin 216) (e : Fin 128) :
    k0_pay2 (F := Ideal) v59 v62 (ix2 r e) = Adam.newV (v59 (ix2 r e)) (v62 (ix2 r e)) := by
  unfold k0_pay2 Adam.newV
  pointwise

/-- The change of the weights from the gradient. -/
theorem pay3 (v59 v60 v61 v62 : Vec Ideal S216x128 .f32) (r : Fin 216) (e : Fin 128) :
    k0_pay3 (F := Ideal) v59 v60 v61 v62 (ix2 r e) = Adam.delta (v60 (ix2 r e)) (v59 (ix2 r e)) (v61 (ix2 r e)) (v62 (ix2 r e)) := by
  unfold Adam.delta
  rw [← pay1, ← pay2]
  unfold k0_pay3
  pointwise

section
variable (m : (ℓ : Loc nD τ sig) → Buf (Elt Ideal) ℓ) (c : Dev nD)

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-- The block of the parts. -/
theorem b0 (t : Fin cfg0.N) (k : Fin 8) (r : Fin 216) (e : Fin 128) : iblk m c 0 t (ix3 k r e) = a0 m c (ix3 k r e) := by
  obtain ⟨e0, e1, e2, e3, e4, e5, e6, e7, e8, e9⟩ := idx t
  blk_ext [iblk, e0]

/-- The block of the extra parts. -/
theorem b1 (t : Fin cfg0.N) (k : Fin 8) (r : Fin 216) (e : Fin 128) : iblk m c 1 t (ix3 k r e) = a1 m c (ix3 k r e) := by
  obtain ⟨e0, e1, e2, e3, e4, e5, e6, e7, e8, e9⟩ := idx t
  blk_ext [iblk, e1]

/-- The block of the marks. -/
theorem b2 (t : Fin cfg0.N) (r : Fin 216) (e : Fin 128) : iblk m c 2 t (ix2 r e) = a2 m c (ix2 r e) := by
  obtain ⟨e0, e1, e2, e3, e4, e5, e6, e7, e8, e9⟩ := idx t
  blk_ext [iblk, e2]

/-- The block of the weights. -/
theorem b3 (t : Fin cfg0.N) (r : Fin 216) (e : Fin 128) : iblk m c 3 t (ix2 r e) = a3 m c (ix2 r e) := by
  obtain ⟨e0, e1, e2, e3, e4, e5, e6, e7, e8, e9⟩ := idx t
  blk_ext [iblk, e3]

/-- The block of the old first moment. -/
theorem b4 (t : Fin cfg0.N) (r : Fin 216) (e : Fin 128) : iblk m c 4 t (ix2 r e) = a4 m c (ix2 r e) := by
  obtain ⟨e0, e1, e2, e3, e4, e5, e6, e7, e8, e9⟩ := idx t
  blk_ext [iblk, e4]

/-- The block of the old second moment. -/
theorem b5 (t : Fin cfg0.N) (r : Fin 216) (e : Fin 128) : iblk m c 5 t (ix2 r e) = a5 m c (ix2 r e) := by
  obtain ⟨e0, e1, e2, e3, e4, e5, e6, e7, e8, e9⟩ := idx t
  blk_ext [iblk, e5]

/-- The gradient from the blocks is that from the arrays. -/
theorem grad (t : Fin cfg0.N) (r : Fin 216) (e : Fin 128) :
    G (iblk m c 0 t) (iblk m c 1 t) (iblk m c 2 t) (iblk m c 3 t) r e = G (a0 m c) (a1 m c) (a2 m c) (a3 m c) r e := by
  unfold G
  exact congr (congrArg₂ marked (b2 m c t r e) (b3 m c t r e)) (congrArg₂ total (funext fun k => b0 m c t k r e) (funext fun k => b1 m c t k r e))

/-- The call's gradient. -/
theorem arr6 : (dats m 0 c).arrAt 6 cfg0.N = fun i : S216x128.Idx => G (a0 m c) (a1 m c) (a2 m c) (a3 m c) (i 0) (i 1) := by
  refine (dats m 0 c).arrAt_eq_of_covers 6 _ (by decide +kernel) fun t hf y => ?_
  obtain ⟨r, e, rfl⟩ : ∃ (r : Fin 216) (e : Fin 128), y = ix2 r e := ⟨y 0, y 1, eq_ix2 y⟩
  blk_simp
  obtain ⟨e0, e1, e2, e3, e4, e5, e6, e7, e8, e9⟩ := idx t
  rw [after0_6]
  have eo : (win0_6.blk t).view.emb (ix2 r e) = ix2 r e := by
    blk_ext [e6]
  rw [eo]
  unfold out0_6
  rw [View.canon_unit_zero (by funext a; fin_cases a <;> rfl)]
  refine (pay6 _ _ _ _ _ _ r e).trans ?_
  exact grad m c t r e

/-- The call's change of the weights. -/
theorem arr7 : (dats m 0 c).arrAt 7 cfg0.N = fun i : S216x128.Idx => Adam.delta (a3 m c i) (G (a0 m c) (a1 m c) (a2 m c) (a3 m c) (i 0) (i 1)) (a4 m c i) (a5 m c i) := by
  refine (dats m 0 c).arrAt_eq_of_covers 7 _ (by decide +kernel) fun t hf y => ?_
  obtain ⟨r, e, rfl⟩ : ∃ (r : Fin 216) (e : Fin 128), y = ix2 r e := ⟨y 0, y 1, eq_ix2 y⟩
  blk_simp
  obtain ⟨e0, e1, e2, e3, e4, e5, e6, e7, e8, e9⟩ := idx t
  rw [after0_7]
  have eo : (win0_7.blk t).view.emb (ix2 r e) = ix2 r e := by
    blk_ext [e7]
  rw [eo]
  unfold out0_7
  rw [View.canon_unit_zero (by funext a; fin_cases a <;> rfl)]
  repeat rw [View.ld_unit_zero (by funext a; fin_cases a <;> rfl)]
  exact (pay3 _ _ _ _ r e).trans (congr (congr (congrArg₂ Adam.delta (b3 m c t r e) ((pay6 _ _ _ _ _ _ r e).trans (grad m c t r e))) (b4 m c t r e)) (b5 m c t r e))

/-- The call's first moment. -/
theorem arr8 : (dats m 0 c).arrAt 8 cfg0.N = fun i : S216x128.Idx => Adam.newM (G (a0 m c) (a1 m c) (a2 m c) (a3 m c) (i 0) (i 1)) (a4 m c i) := by
  refine (dats m 0 c).arrAt_eq_of_covers 8 _ (by decide +kernel) fun t hf y => ?_
  obtain ⟨r, e, rfl⟩ : ∃ (r : Fin 216) (e : Fin 128), y = ix2 r e := ⟨y 0, y 1, eq_ix2 y⟩
  blk_simp
  obtain ⟨e0, e1, e2, e3, e4, e5, e6, e7, e8, e9⟩ := idx t
  rw [after0_8]
  have eo : (win0_8.blk t).view.emb (ix2 r e) = ix2 r e := by
    blk_ext [e8]
  rw [eo]
  unfold out0_8
  rw [View.canon_unit_zero (by funext a; fin_cases a <;> rfl)]
  repeat rw [View.ld_unit_zero (by funext a; fin_cases a <;> rfl)]
  exact (pay1 _ _ r e).trans (congrArg₂ Adam.newM ((pay6 _ _ _ _ _ _ r e).trans (grad m c t r e)) (b4 m c t r e))

/-- The call's second moment. -/
theorem arr9 : (dats m 0 c).arrAt 9 cfg0.N = fun i : S216x128.Idx => Adam.newV (G (a0 m c) (a1 m c) (a2 m c) (a3 m c) (i 0) (i 1)) (a5 m c i) := by
  refine (dats m 0 c).arrAt_eq_of_covers 9 _ (by decide +kernel) fun t hf y => ?_
  obtain ⟨r, e, rfl⟩ : ∃ (r : Fin 216) (e : Fin 128), y = ix2 r e := ⟨y 0, y 1, eq_ix2 y⟩
  blk_simp
  obtain ⟨e0, e1, e2, e3, e4, e5, e6, e7, e8, e9⟩ := idx t
  rw [after0_9]
  have eo : (win0_9.blk t).view.emb (ix2 r e) = ix2 r e := by
    blk_ext [e9]
  rw [eo]
  unfold out0_9
  rw [View.canon_unit_zero (by funext a; fin_cases a <;> rfl)]
  repeat rw [View.ld_unit_zero (by funext a; fin_cases a <;> rfl)]
  exact (pay2 _ _ r e).trans (congrArg₂ Adam.newV ((pay6 _ _ _ _ _ _ r e).trans (grad m c t r e)) (b5 m c t r e))
end

/-- The contributions are real numbers. -/
structure Real (x0 x1 : S8x216x128.Idx → EReal) : Prop where
  p : ∀ (k : Fin 8) (r : Fin 216) (e : Fin 128), ∃ a : ℝ, x0 (ix3 k r e) = a
  q : ∀ (k : Fin 8) (r : Fin 216) (e : Fin 128), ∃ a : ℝ, x1 (ix3 k r e) = a

/-- The precondition says so. -/
theorem real_of_finite [Cert.Pre_finite22.Facts] (x0 x1 : S8x216x128.Idx → EReal) (x2 x3 : S216x128.Idx → EReal) (x4 x5 : S216x128.Idx → EReal)
    (h : (Cert.Pre_finite22.fn (F := Ideal) x0 x1 x2 x3 x4 x5).1 = (fun _ => 1#1) ∧ (Cert.Pre_finite22.fn (F := Ideal) x0 x1 x2 x3 x4 x5).2 = (fun _ => 1#1)) : Real x0 x1 := by
  obtain ⟨hp, hq⟩ := h
  constructor
  · intro k r e
    have p := congrFun hp (ix3 k r e)
    unfold Cert.Pre_finite22.fn at p
    dsimp only at p
    pointwise at p
    exact real_of p
  · intro k r e
    have p := congrFun hq (ix3 k r e)
    unfold Cert.Pre_finite22.fn at p
    dsimp only at p
    pointwise at p
    exact real_of p

section
open Cert.Reference22Ideal.Read

/-- The reference's sum of the contributions. -/
theorem ref_total (x0 x1 : S8x216x128.Idx → EReal) (r : Fin 216) (e : Fin 128) :
    val_main_v2 (F := Ideal) x0 x1 (ix2 r e) = total (fun k => x0 (ix3 k r e)) (fun k => x1 (ix3 k r e)) := by
  rw [← total_eq]
  unfold val_main_v2 val_main_v1 val_main_v0 val_main_cst val_main_cst_0
  pointwise

/-- The reference's gradient. -/
theorem ref_grad (x0 x1 : S8x216x128.Idx → EReal) (x2 x3 : S216x128.Idx → EReal) (h : Real x0 x1) (r : Fin 216) (e : Fin 128) : val_main_v7 (F := Ideal) x0 x1 x2 x3 (ix2 r e) = G x0 x1 x2 x3 r e := by
  obtain ⟨a, ha⟩ := total_real (fun k => x0 (ix3 k r e)) (fun k => x1 (ix3 k r e)) (fun k => h.p k r e) (fun k => h.q k r e)
  have h6 : val_main_v6 (F := Ideal) x0 x1 x3 (ix2 r e) = through (x3 (ix2 r e)) (total (fun k => x0 (ix3 k r e)) (fun k => x1 (ix3 k r e))) := by
    rw [ha, ← through_real, ← ha, ← ref_total]
    unfold val_main_v6 val_main_call1_v2 val_main_call1_v1 val_main_call1_v0 val_main_v5_1 val_main_call0_v7 val_main_call0_v6 val_main_v5_2 val_main_call0_v4 val_main_call0_v3 val_main_call0_v2 val_main_call0_v1 val_main_call0_v0 val_main_call0_cst val_main_call0_cst_0 val_main_call0_cst_1 Ideal.logistic
    pointwise
  unfold G marked
  rw [← h6, ← ref_total]
  unfold val_main_v7 val_main_v4 val_main_v3 val_main_cst_1
  pointwise

/-- The reference's first moment. -/
theorem ref_m (x0 x1 : S8x216x128.Idx → EReal) (x2 x3 : S216x128.Idx → EReal) (h : Real x0 x1) (x4 : S216x128.Idx → EReal) (r : Fin 216) (e : Fin 128) :
    val_main_v12 (F := Ideal) x0 x1 x2 x3 x4 (ix2 r e) = Adam.newM (G x0 x1 x2 x3 r e) (x4 (ix2 r e)) := by
  rw [← ref_grad _ _ _ _ h]
  unfold val_main_v12 val_main_v11 val_main_v10 val_main_v9 val_main_v8 val_main_cst_2 val_main_cst_3 Adam.newM
  pointwise

/-- The reference's second moment. -/
theorem ref_v (x0 x1 : S8x216x128.Idx → EReal) (x2 x3 : S216x128.Idx → EReal) (h : Real x0 x1) (x5 : S216x128.Idx → EReal) (r : Fin 216) (e : Fin 128) :
    val_main_v18 (F := Ideal) x0 x1 x2 x3 x5 (ix2 r e) = Adam.newV (G x0 x1 x2 x3 r e) (x5 (ix2 r e)) := by
  rw [← ref_grad _ _ _ _ h]
  unfold val_main_v18 val_main_v17 val_main_v16 val_main_v15 val_main_v14 val_main_v13 val_main_cst_4 val_main_cst_5 Adam.newV
  pointwise

/-- The reference's change of the weights. -/
theorem ref_delta (x0 x1 : S8x216x128.Idx → EReal) (x2 x3 : S216x128.Idx → EReal) (h : Real x0 x1) (x4 x5 : S216x128.Idx → EReal) (r : Fin 216) (e : Fin 128) :
    val_main_v31 (F := Ideal) x0 x1 x2 x3 x4 x5 (ix2 r e) = Adam.delta (x3 (ix2 r e)) (G x0 x1 x2 x3 r e) (x4 (ix2 r e)) (x5 (ix2 r e)) := by
  unfold Adam.delta
  rw [← ref_m _ _ _ _ h, ← ref_v _ _ _ _ h]
  unfold val_main_v31 val_main_v30 val_main_v29 val_main_v28 val_main_v27 val_main_v26 val_main_v25 val_main_v24 val_main_v23 val_main_v22 val_main_v21 val_main_v20 val_main_v19 val_main_cst_6 val_main_cst_7 val_main_cst_8 val_main_cst_9 val_main_cst_10
  pointwise

end

/-- The call and the reference end with the same arrays. -/
theorem algebraic : Cert.algebraic_Kernel22Ideal_Reference22Ideal_pre_finite22 (hKernel22Ideal := Cert.Kernel22Ideal.Gen.facts)
      (hReference22Ideal := Cert.Reference22Ideal.Gen.facts) (hPre_finite22 := Cert.Pre_finite22.Gen.facts) := by
  intro m g m' g' hpre hag
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel22Ideal.Value.run_blocks m g, ?_⟩
  refine (θ_run _ _ _).mono (fun r hr c => ?_) (Cert.Reference22Ideal.Value.run (F := Ideal) m' g')
  obtain ⟨h0, h1, h2, h3, ha⟩ := hr c
  obtain ⟨e0, e1, e2, e3, e4, e5⟩ := hag c
  letI := Cert.Pre_finite22.Gen.facts
  have h : Real (a0 m c) (a1 m c) := real_of_finite _ _ _ _ _ _ (hpre c)
  refine ⟨h0.trans ?_, h1.trans ?_, h2.trans ?_, h3.trans ?_, ha⟩
  · rw [Cert.Reference22Ideal.Read.val_main_v7_eq, e0, e1, e2, e3]
    refine Eq.trans (funext fun i => ?_) (arr6 m c).symm
    obtain ⟨r, e, rfl⟩ := Products.idx2 (a := 216) (b := 128) i
    exact ref_grad _ _ _ _ h r e
  · rw [Cert.Reference22Ideal.Read.val_main_v31_eq, e0, e1, e2, e3, e4, e5]
    refine Eq.trans (funext fun i => ?_) (arr7 m c).symm
    obtain ⟨r, e, rfl⟩ := Products.idx2 (a := 216) (b := 128) i
    exact ref_delta _ _ _ _ h _ _ r e
  · rw [Cert.Reference22Ideal.Read.val_main_v12_eq, e0, e1, e2, e3, e4]
    refine Eq.trans (funext fun i => ?_) (arr8 m c).symm
    obtain ⟨r, e, rfl⟩ := Products.idx2 (a := 216) (b := 128) i
    exact ref_m _ _ _ _ h _ r e
  · rw [Cert.Reference22Ideal.Read.val_main_v18_eq, e0, e1, e2, e3, e5]
    refine Eq.trans (funext fun i => ?_) (arr9 m c).symm
    obtain ⟨r, e, rfl⟩ := Products.idx2 (a := 216) (b := 128) i
    exact ref_v _ _ _ _ h _ r e

end Cert.AdamReplicated
-- ==== Proof.OwnSlab.lean ====
module

public import proofs.«01_k».proof.Proof.Gen.Pre_own_exists19
public import proofs.«01_k».proof.Proof.Gen.Pre_own_exists20
public import proofs.«01_k».proof.Proof.Gen.Pre_own_exists21
public import proofs.«01_k».proof.Proof.Gen.Pre_others_exist23
public import proofs.«01_k».proof.Proof.Gen.Pre_others_exist24
public import proofs.«01_k».proof.Proof.Gen.Pre_others_exist25
public import proofs.«01_k».proof.Proof.Slabs
public import Idealize.ShloMosaic.Lib.Pointwise
public import Idealize.ShloMosaic.Lib.ValueIdx

/-!
  Slab numbers of a stack: what the preconditions of the optimiser steps and of the sums sent ahead of them say, and the gather that
  takes the named slabs of a stack.
-/

@[expose] public section
noncomputable section
open Idealize.ShloMosaic
namespace Cert.OwnSlab

/-- A word that is at least 0 and below `n`, compared signed, is one of 0, …, `n - 1`. -/
theorem in_range (w : BitVec 32) (n : ℕ) (hn : n < 2 ^ 31) (h : IntOp.andi (IntOp.cmpi .sge w 0#32) (IntOp.cmpi .slt w (BitVec.ofNat 32 n)) = 1#1) :
    w.toNat < n := by
  obtain ⟨h0, h1⟩ := (Slabs.and_one _ _).mp h
  have h0 : (0#32).sle w = true := Slabs.ofBool_one _ h0
  have h1 : w.slt (BitVec.ofNat 32 n) = true := Slabs.ofBool_one _ h1
  have e0 : (0#32).toInt = 0 := rfl
  have e8 : (BitVec.ofNat 32 n).toInt = n := by
    rw [BitVec.toInt_eq_toNat_cond, BitVec.toNat_ofNat, if_pos (by omega)]
    omega
  rw [BitVec.sle, decide_eq_true_eq, e0] at h0
  rw [BitVec.slt, decide_eq_true_eq, e8] at h1
  rw [BitVec.toInt_eq_toNat_cond] at h0 h1
  split at h0 <;> split at h1 <;> omega

section
variable {F : FTy → Type} [FloatOps F]

/-- The precondition on the own slab's number in the step of the input weights holds of it. -/
theorem below19 (ids : IVec ⟨1, ![4]⟩ 32) (g : FVec F ⟨3, ![4, 4096, 1152]⟩ .f32) (p : FVec F ⟨3, ![4, 4096, 1152]⟩ .f32) (q : FVec F ⟨3, ![3, 4096, 1152]⟩ .bf16) (x y z : FVec F ⟨2, ![4096, 1152]⟩ .f32)
    (h : Cert.Pre_own_exists19.fn ids g p q x y z = fun _ => 1#1) : (ids (ix1 0)).toNat < 4 := by
  have e := in_range _ 4 (by decide) (congrFun h (ix1 0))
  exact lt_of_eq_of_lt (congrArg BitVec.toNat (extractStridedSlice_apply ![0] ids Cert.Pre_own_exists19.Facts.slices_S4_S1_0 (ix1 0) (ix1 0) (fun a => match a with | ⟨0, _⟩ => rfl)).symm) e

/-- The precondition on the other slabs' numbers in the sums of the input weights holds of them one by one. -/
theorem below23 (ids : IVec ⟨1, ![4]⟩ 32) (g : FVec F ⟨3, ![4, 4096, 1152]⟩ .f32) (p : FVec F ⟨3, ![4, 4096, 1152]⟩ .f32)
    (h : Cert.Pre_others_exist23.fn ids g p = fun _ => 1#1) (j : Fin 3) : (ids (ix1 ⟨1 + j.val, by omega⟩)).toNat < 4 := by
  have e := in_range _ 4 (by decide) (congrFun h (ix1 j))
  exact lt_of_eq_of_lt (congrArg BitVec.toNat (extractStridedSlice_apply ![1] ids Cert.Pre_others_exist23.Facts.slices_S4_S3_1 (ix1 j) (ix1 ⟨1 + j.val, by omega⟩) (fun a => match a with | ⟨0, _⟩ => rfl)).symm) e

/-- The precondition on the own slab's number in the step of the output weights holds of it. -/
theorem below20 (ids : IVec ⟨1, ![4]⟩ 32) (g : FVec F ⟨3, ![8, 512, 4096]⟩ .f32) (p : FVec F ⟨3, ![4, 512, 4096]⟩ .f32) (q : FVec F ⟨3, ![3, 512, 4096]⟩ .bf16) (x y z : FVec F ⟨2, ![512, 4096]⟩ .f32)
    (h : Cert.Pre_own_exists20.fn ids g p q x y z = fun _ => 1#1) : (ids (ix1 0)).toNat < 8 := by
  have e := in_range _ 8 (by decide) (congrFun h (ix1 0))
  exact lt_of_eq_of_lt (congrArg BitVec.toNat (extractStridedSlice_apply ![0] ids Cert.Pre_own_exists20.Facts.slices_S4_S1_0 (ix1 0) (ix1 0) (fun a => match a with | ⟨0, _⟩ => rfl)).symm) e

/-- The precondition on the other slabs' numbers in the sums of the output weights holds of them one by one. -/
theorem below24 (ids : IVec ⟨1, ![4]⟩ 32) (g : FVec F ⟨3, ![8, 512, 4096]⟩ .f32) (p : FVec F ⟨3, ![4, 512, 4096]⟩ .f32)
    (h : Cert.Pre_others_exist24.fn ids g p = fun _ => 1#1) (j : Fin 3) : (ids (ix1 ⟨1 + j.val, by omega⟩)).toNat < 8 := by
  have e := in_range _ 8 (by decide) (congrFun h (ix1 j))
  exact lt_of_eq_of_lt (congrArg BitVec.toNat (extractStridedSlice_apply ![1] ids Cert.Pre_others_exist24.Facts.slices_S4_S3_1 (ix1 j) (ix1 ⟨1 + j.val, by omega⟩) (fun a => match a with | ⟨0, _⟩ => rfl)).symm) e

/-- The precondition on the own slab's number in the step of the pooling weights holds of it. -/
theorem below21 (ids : IVec ⟨1, ![4]⟩ 32) (g : FVec F ⟨3, ![4, 256, 512]⟩ .f32) (p : FVec F ⟨3, ![4, 256, 512]⟩ .f32) (q : FVec F ⟨3, ![3, 256, 512]⟩ .bf16) (x y z : FVec F ⟨2, ![256, 512]⟩ .f32)
    (h : Cert.Pre_own_exists21.fn ids g p q x y z = fun _ => 1#1) : (ids (ix1 0)).toNat < 4 := by
  have e := in_range _ 4 (by decide) (congrFun h (ix1 0))
  exact lt_of_eq_of_lt (congrArg BitVec.toNat (extractStridedSlice_apply ![0] ids Cert.Pre_own_exists21.Facts.slices_S4_S1_0 (ix1 0) (ix1 0) (fun a => match a with | ⟨0, _⟩ => rfl)).symm) e

/-- The precondition on the other slabs' numbers in the sums of the pooling weights holds of them one by one. -/
theorem below25 (ids : IVec ⟨1, ![4]⟩ 32) (g : FVec F ⟨3, ![4, 256, 512]⟩ .f32) (p : FVec F ⟨3, ![4, 256, 512]⟩ .f32)
    (h : Cert.Pre_others_exist25.fn ids g p = fun _ => 1#1) (j : Fin 3) : (ids (ix1 ⟨1 + j.val, by omega⟩)).toNat < 4 := by
  have e := in_range _ 4 (by decide) (congrFun h (ix1 j))
  exact lt_of_eq_of_lt (congrArg BitVec.toNat (extractStridedSlice_apply ![1] ids Cert.Pre_others_exist25.Facts.slices_S4_S3_1 (ix1 j) (ix1 ⟨1 + j.val, by omega⟩) (fun a => match a with | ⟨0, _⟩ => rfl)).symm) e
end

/-- A word below a number of slabs, read as a signed integer. -/
theorem toInt_of_lt (w : BitVec 32) (n : ℕ) (hn : n < 2 ^ 31) (h : w.toNat < n) : w.toInt.toNat = w.toNat := by
  rw [BitVec.toInt_eq_toNat_cond, if_pos (by omega)]
  rfl

/-- An index of a block by its row and column. -/
theorem idx3 {a b : ℕ} (y : (⟨3, ![1, a, b]⟩ : Shape).Idx) : ∃ (r : Fin a) (e : Fin b), y = ix3 0 r e :=
  ⟨y 1, y 2, by funext x; fin_cases x <;> [exact Subsingleton.elim (α := Fin 1) _ _; rfl; rfl]⟩

section
variable {α : Type}

/-- The dimension numbers of the gather that takes slabs of a stack, for an operand `[N, A, B]` and `C` slab numbers. -/
abbrev dims (N A B C : Nat)
    (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- The gather at an index: the operand at the slab whose number the index's slab has, read signed and clamped. -/
theorem gather_apply {N A B C : Nat} (hN : 0 < N)
    (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (ids : IVec ⟨2, ![C, 1]⟩ 32) (j : Fin C) (r : Fin A) (e : Fin B) :
    Host.gather (dims N A B C wf) x ids (ix3 j r e) = x (ix3 ⟨min (ids (ix2 j 0)).toInt.toNat (N - 1), by omega⟩ r e) := by
  unfold Host.gather
  congr 1
  funext a
  refine Fin.ext ?_
  show (dims N A B C wf).start (ix3 j r e) ids a + (dims N A B C wf).batchCoord (ix3 j r e) a + (dims N A B C wf).offCoord (ix3 j r e) a = _
  have hb : ∀ a, (dims N A B C wf).batchCoord (ix3 j r e) a = 0 := fun a => GatherDims.batchCoord_eq_zero _ _ _ List.not_mem_nil
  rw [hb]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims N A B C wf).startIndexMap from List.mem_singleton.mpr rfl)]
    have hsi : (dims N A B C wf).siIdx (ix3 j r e) ⟨List.idxOf (0 : Fin 3) (dims N A B C wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · unfold GatherDims.start GatherDims.offCoord
    rw [dif_neg (show (1 : Fin 3) ∉ ([0] : List (Fin 3)) by decide),
      dif_pos ((GatherDims.mem_sKept _ _).mpr ⟨(by decide : (1 : Fin 3) ∉ ([0] : List (Fin 3))), List.not_mem_nil⟩)]
    simp only [Nat.zero_add]
    rfl
  · unfold GatherDims.start GatherDims.offCoord
    rw [dif_neg (show (2 : Fin 3) ∉ ([0] : List (Fin 3)) by decide),
      dif_pos ((GatherDims.mem_sKept _ _).mpr ⟨(by decide : (2 : Fin 3) ∉ ([0] : List (Fin 3))), List.not_mem_nil⟩)]
    simp only [Nat.zero_add]
    rfl

/-- The gather at an index whose slab has the number `v`. -/
theorem gather_eq {N A B C : Nat} (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (ids : IVec ⟨2, ![C, 1]⟩ 32) (j : Fin C) (r : Fin A) (e : Fin B) (v : Fin N)
    (hv : (ids (ix2 j 0)).toInt.toNat = v.val) : Host.gather (dims N A B C wf) x ids (ix3 j r e) = x (ix3 v r e) := by
  have := v.isLt
  refine (gather_apply (by omega) wf x ids j r e).trans (congrArg (fun w => x (ix3 w r e)) (Fin.ext ?_))
  show min _ _ = _
  rw [hv]
  omega
end

/-- The sum of a number of one's own, one that came from next door and three that came from afar. -/
def total (o g : EReal) (f : Fin 3 → EReal) : EReal := o + g + f 0 + f 1 + f 2

/-- The same sum with the three added up first. -/
theorem total_eq (o g : EReal) (f : Fin 3 → EReal) : o + g + ∑ k, f k = total o g f := by
  rw [Fin.sum_univ_three, ← add_assoc, ← add_assoc]
  rfl

end Cert.OwnSlab
-- ==== Proof.AdamWIn.lean ====
module

public import proofs.«01_k».proof.Proof.Gen.Kernel19Ideal.Frame
public import proofs.«01_k».proof.Proof.Gen.Reference19Ideal.Run
public import proofs.«01_k».proof.Proof.Gen.Reference19Ideal.Read
public import proofs.«01_k».proof.Defs
public import proofs.«01_k».proof.Proof.Products
public import proofs.«01_k».proof.Proof.OwnSlab
public import proofs.«01_k».proof.Proof.Adam
public import Idealize.ShloMosaic.Lib.Pipeline.ValueKit
public import Idealize.ShloMosaic.Lib.Pipeline.ReadBack
public import Idealize.ShloMosaic.Lib.Pipeline.Covers
public import Idealize.ShloMosaic.Lib.Pointwise

/-!
  The optimiser step of the input weights: the gradient is the own slab, the slab that came from next door and the three that came from afar,
  added up; then one AdamW step on the device's own rows. Thirty-two blocks of 128 rows.
-/

@[expose] public section
set_option maxRecDepth 16384
noncomputable section
open Idealize.ShloMosaic Idealize.ShloMosaic.TcCoe Idealize.SL.Sem
open Cert.Kernel19Ideal Cert.Kernel19Ideal.Gen

namespace Cert.AdamWIn

section
variable {F : FTy → Type} [FloatOps F] (m : (ℓ : Loc nD τ sig) → Buf (Elt F) ℓ)

/-- The number of the own slab. -/
def slab : ℕ := BitVec.toNat (m (((0 : Dev nD) : Thread nD τ).loc main_arg0) (ix1 0))

/-- The block of the stack that a grid point reads: its rows of the own slab. -/
theorem column (i : grid0.Coords) : cc0_transform_0 Facts₀.inb_S4_S1_0 Facts₀.numel1_S1 (tbl m) i = ![slab m, (i 0).val, 0] := by
  unfold cc0_transform_0 slab
  funext a
  fin_cases a
  · show BitVec.toNat (m (((0 : Dev nD) : Thread nD τ).loc main_arg0) _) = BitVec.toNat (m (((0 : Dev nD) : Thread nD τ).loc main_arg0) (ix1 0))
    congr 2
    funext b
    fin_cases b
    rfl
  · have h : (i 0).val < 32 := (i 0).isLt
    show (BitVec.ofNat 32 (i 0).val).toNat = (i 0).val
    rw [BitVec.toNat_ofNat]
    omega
  · rfl

/-- Every block lies in its array when the slab number is below 4. -/
theorem ok (h : slab m < 4) : Ok m := by
  intro i
  rw [column m i]
  generalize slab m = v at h
  have hi : (i 0).val < 32 := (i 0).isLt
  refine ⟨fun a => ?_, ?_⟩
  · fin_cases a
    · show (v + 1) * 1 ≤ 4
      omega
    · show ((i 0).val + 1) * 128 ≤ 4096
      omega
    · show (0 + 1) * 1152 ≤ 1152
      omega
  · exact Or.inl rfl

/-- The blocks at point `t`. -/
theorem idx (hO : Ok m) (t : Fin (cfgM m hO).N) : ((cfgM m hO).win 0).index t = ![slab m, t.val, 0] ∧ ((cfgM m hO).win 1).index t = ![0, t.val, 0]
    ∧ ((cfgM m hO).win 2).index t = ![0, t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] ∧ ((cfgM m hO).win 9).index t = ![t.val, 0] := by
  have h : ∀ t : Fin grid0.N, (grid0.coords t 0).val = t.val ∧ cc0_transform_1 (grid0.coords t) = ![0, t.val, 0] ∧ cc0_transform_2 (grid0.coords t) = ![0, t.val, 0]
      ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0]
      ∧ cc0_transform_9 (grid0.coords t) = ![t.val, 0] := by decide +kernel
  obtain ⟨h0, h1, h2, h3, h4, h5, h6, h7, h8, h9⟩ := h t
  refine ⟨(column m (grid0.coords t)).trans ?_, h1, h2, h3, h4, h5, h6, h7, h8, h9⟩
  rw [h0]
end

/-- The sum of the five slabs. -/
theorem pay2 (v0 v2 : Vec Ideal S1x128x1152 .f32) (v5 v9 v13 : Vec Ideal S1x128x1152 .bf16) (r : Fin 128) (e : Fin 1152) :
    k0_pay2 (F := Ideal) v0 v2 v5 v9 v13 (ix2 r e) = OwnSlab.total (v0 (ix3 0 r e)) (v2 (ix3 0 r e)) ![v5 (ix3 0 r e), v9 (ix3 0 r e), v13 (ix3 0 r e)] := by
  unfold k0_pay2 OwnSlab.total
  pointwise

/-- The first moment from the sum. -/
theorem pay3 (v0 v2 : Vec Ideal S1x128x1152 .f32) (v5 v9 v13 : Vec Ideal S1x128x1152 .bf16) (v18 : Vec Ideal S128x1152 .f32) (r : Fin 128) (e : Fin 1152) :
    k0_pay3 (F := Ideal) v0 v2 v5 v9 v13 v18 (ix2 r e) = Adam.newM (k0_pay2 (F := Ideal) v0 v2 v5 v9 v13 (ix2 r e)) (v18 (ix2 r e)) := by
  unfold k0_pay3 Adam.newM
  pointwise

/-- The second moment from the sum. -/
theorem pay4 (v0 v2 : Vec Ideal S1x128x1152 .f32) (v5 v9 v13 : Vec Ideal S1x128x1152 .bf16) (v19 : Vec Ideal S128x1152 .f32) (r : Fin 128) (e : Fin 1152) :
    k0_pay4 (F := Ideal) v0 v2 v5 v9 v13 v19 (ix2 r e) = Adam.newV (k0_pay2 (F := Ideal) v0 v2 v5 v9 v13 (ix2 r e)) (v19 (ix2 r e)) := by
  unfold k0_pay4 Adam.newV
  pointwise

/-- The change of the weights from the sum and the moments. -/
theorem pay1 (v0 v2 : Vec Ideal S1x128x1152 .f32) (v5 v9 v13 : Vec Ideal S1x128x1152 .bf16) (v17 v18 v19 : Vec Ideal S128x1152 .f32) (r : Fin 128) (e : Fin 1152) :
    k0_pay1 (F := Ideal) v17 (k0_pay4 v0 v2 v5 v9 v13 v19) (k0_pay5 v0 v2 v5 v9 v13 v18) (ix2 r e)
      = Adam.delta (v17 (ix2 r e)) (k0_pay2 (F := Ideal) v0 v2 v5 v9 v13 (ix2 r e)) (v18 (ix2 r e)) (v19 (ix2 r e)) := by
  unfold Adam.delta
  rw [← pay3, ← pay4]
  unfold k0_pay1 k0_pay5
  pointwise

/-- The `k`th slab of three. -/
theorem part (x2 : Vec Ideal S3x128x1152 .bf16) (off : Fin 3 → ℕ) (k : Fin 3) (h0 : off 0 = k.val) (h1 : off 1 = 0) (h2 : off 2 = 0) (inb) (r : Fin 128) (e : Fin 1152) :
    View.ld (Val := Elt Ideal) (e' := .bf16) x2 (Rect.unit (s := S3x128x1152) off S1x128x1152.size inb) (ix3 0 r e) = x2 (ix3 k r e) := by
  refine View.ld_unit_apply_of x2 off _ inb (ix3 0 r e) (ix3 k r e) fun a => ?_
  fin_cases a
  · exact h0.symm
  · exact (Nat.zero_add _).symm.trans (congrArg (· + r.val) h1.symm)
  · exact (Nat.zero_add _).symm.trans (congrArg (· + e.val) h2.symm)

/-- The gradient that a block adds up, its three far slabs loaded one by one. -/
theorem sum (x0 x1 : Vec Ideal S1x128x1152 .f32) (x2 : Vec Ideal S3x128x1152 .bf16) (i0 i1 i2) (r : Fin 128) (e : Fin 1152) :
    k0_pay2 (F := Ideal) x0 x1 (View.ld (Val := Elt Ideal) (e' := .bf16) x2 (Rect.unit (s := S3x128x1152) ![0, 0, 0] S1x128x1152.size i0))
      (View.ld (Val := Elt Ideal) (e' := .bf16) x2 (Rect.unit (s := S3x128x1152) ![1, 0, 0] S1x128x1152.size i1)) (View.ld (Val := Elt Ideal) (e' := .bf16) x2 (Rect.unit (s := S3x128x1152) ![2, 0, 0] S1x128x1152.size i2)) (ix2 r e)
      = OwnSlab.total (x0 (ix3 0 r e)) (x1 (ix3 0 r e)) (fun k => x2 (ix3 k r e)) := by
  rw [pay2, part x2 ![0, 0, 0] 0 rfl rfl rfl, part x2 ![1, 0, 0] 1 rfl rfl rfl, part x2 ![2, 0, 0] 2 rfl rfl rfl]
  rfl

/-- One block's gradient. -/
theorem block6 (c : Dev nD) (i : grid0.Coords) (arg2 : Memref sig .tc .vmem S1x128x1152 .f32) (harg2 : arg2.IsWhole) (arg3 : Memref sig .tc .vmem S1x128x1152 .f32) (harg3 : arg3.IsWhole) (arg4 : Memref sig .tc .vmem S3x128x1152 .bf16) (harg4 : arg4.IsWhole) (arg5 : Memref sig .tc .vmem S128x1152 .f32) (harg5 : arg5.IsWhole) (arg6 : Memref sig .tc .vmem S128x1152 .f32) (harg6 : arg6.IsWhole) (arg7 : Memref sig .tc .vmem S128x1152 .f32) (harg7 : arg7.IsWhole) (arg8 : Memref sig .tc .vmem S128x1152 .f32) (harg8 : arg8.IsWhole) (arg9 : Memref sig .tc .vmem S128x1152 .f32) (harg9 : arg9.IsWhole) (arg10 : Memref sig .tc .vmem S128x1152 .f32) (harg10 : arg10.IsWhole) (arg11 : Memref sig .tc .vmem S128x1152 .f32) (harg11 : arg11.IsWhole)
    (x0 : Vec Ideal S1x128x1152 .f32) (x1 : Vec Ideal S1x128x1152 .f32) (x2 : Vec Ideal S3x128x1152 .bf16) (x3 x4 x5 : Vec Ideal S128x1152 .f32) (xt0 : TbBuf0 (F := Ideal) c tbM0_0)
    (r : Fin 128) (e : Fin 1152) :
    out0_A_6 c i arg2 harg2 arg3 harg3 arg4 harg4 arg5 harg5 arg6 harg6 arg7 harg7 arg8 harg8 arg9 harg9 arg10 harg10 arg11 harg11 x0 x1 x2 x3 x4 x5 xt0 (ix2 r e) = OwnSlab.total (x0 (ix3 0 r e)) (x1 (ix3 0 r e)) (fun k => x2 (ix3 k r e)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  exact sum _ _ _ _ _ _ r e

/-- One block's change of the weights. -/
theorem block7 (c : Dev nD) (i : grid0.Coords) (arg2 : Memref sig .tc .vmem S1x128x1152 .f32) (harg2 : arg2.IsWhole) (arg3 : Memref sig .tc .vmem S1x128x1152 .f32) (harg3 : arg3.IsWhole) (arg4 : Memref sig .tc .vmem S3x128x1152 .bf16) (harg4 : arg4.IsWhole) (arg5 : Memref sig .tc .vmem S128x1152 .f32) (harg5 : arg5.IsWhole) (arg6 : Memref sig .tc .vmem S128x1152 .f32) (harg6 : arg6.IsWhole) (arg7 : Memref sig .tc .vmem S128x1152 .f32) (harg7 : arg7.IsWhole) (arg8 : Memref sig .tc .vmem S128x1152 .f32) (harg8 : arg8.IsWhole) (arg9 : Memref sig .tc .vmem S128x1152 .f32) (harg9 : arg9.IsWhole) (arg10 : Memref sig .tc .vmem S128x1152 .f32) (harg10 : arg10.IsWhole) (arg11 : Memref sig .tc .vmem S128x1152 .f32) (harg11 : arg11.IsWhole)
    (x0 : Vec Ideal S1x128x1152 .f32) (x1 : Vec Ideal S1x128x1152 .f32) (x2 : Vec Ideal S3x128x1152 .bf16) (x3 x4 x5 : Vec Ideal S128x1152 .f32) (xt0 : TbBuf0 (F := Ideal) c tbM0_0)
    (r : Fin 128) (e : Fin 1152) :
    out0_A_7 c i arg2 harg2 arg3 harg3 arg4 harg4 arg5 harg5 arg6 harg6 arg7 harg7 arg8 harg8 arg9 harg9 arg10 harg10 arg11 harg11 x0 x1 x2 x3 x4 x5 xt0 (ix2 r e) = Adam.delta (x3 (ix2 r e)) (OwnSlab.total (x0 (ix3 0 r e)) (x1 (ix3 0 r e)) (fun k => x2 (ix3 k r e))) (x4 (ix2 r e)) (x5 (ix2 r e)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay1 _ _ _ _ _ _ _ _ r e).trans ?_
  rw [sum]

/-- One block's first moment. -/
theorem block8 (c : Dev nD) (i : grid0.Coords) (arg2 : Memref sig .tc .vmem S1x128x1152 .f32) (harg2 : arg2.IsWhole) (arg3 : Memref sig .tc .vmem S1x128x1152 .f32) (harg3 : arg3.IsWhole) (arg4 : Memref sig .tc .vmem S3x128x1152 .bf16) (harg4 : arg4.IsWhole) (arg5 : Memref sig .tc .vmem S128x1152 .f32) (harg5 : arg5.IsWhole) (arg6 : Memref sig .tc .vmem S128x1152 .f32) (harg6 : arg6.IsWhole) (arg7 : Memref sig .tc .vmem S128x1152 .f32) (harg7 : arg7.IsWhole) (arg8 : Memref sig .tc .vmem S128x1152 .f32) (harg8 : arg8.IsWhole) (arg9 : Memref sig .tc .vmem S128x1152 .f32) (harg9 : arg9.IsWhole) (arg10 : Memref sig .tc .vmem S128x1152 .f32) (harg10 : arg10.IsWhole) (arg11 : Memref sig .tc .vmem S128x1152 .f32) (harg11 : arg11.IsWhole)
    (x0 : Vec Ideal S1x128x1152 .f32) (x1 : Vec Ideal S1x128x1152 .f32) (x2 : Vec Ideal S3x128x1152 .bf16) (x3 x4 x5 : Vec Ideal S128x1152 .f32) (xt0 : TbBuf0 (F := Ideal) c tbM0_0)
    (r : Fin 128) (e : Fin 1152) :
    out0_A_8 c i arg2 harg2 arg3 harg3 arg4 harg4 arg5 harg5 arg6 harg6 arg7 harg7 arg8 harg8 arg9 harg9 arg10 harg10 arg11 harg11 x0 x1 x2 x3 x4 x5 xt0 (ix2 r e) = Adam.newM (OwnSlab.total (x0 (ix3 0 r e)) (x1 (ix3 0 r e)) (fun k => x2 (ix3 k r e))) (x4 (ix2 r e)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay3 _ _ _ _ _ _ r e).trans ?_
  rw [sum]

/-- One block's second moment. -/
theorem block9 (c : Dev nD) (i : grid0.Coords) (arg2 : Memref sig .tc .vmem S1x128x1152 .f32) (harg2 : arg2.IsWhole) (arg3 : Memref sig .tc .vmem S1x128x1152 .f32) (harg3 : arg3.IsWhole) (arg4 : Memref sig .tc .vmem S3x128x1152 .bf16) (harg4 : arg4.IsWhole) (arg5 : Memref sig .tc .vmem S128x1152 .f32) (harg5 : arg5.IsWhole) (arg6 : Memref sig .tc .vmem S128x1152 .f32) (harg6 : arg6.IsWhole) (arg7 : Memref sig .tc .vmem S128x1152 .f32) (harg7 : arg7.IsWhole) (arg8 : Memref sig .tc .vmem S128x1152 .f32) (harg8 : arg8.IsWhole) (arg9 : Memref sig .tc .vmem S128x1152 .f32) (harg9 : arg9.IsWhole) (arg10 : Memref sig .tc .vmem S128x1152 .f32) (harg10 : arg10.IsWhole) (arg11 : Memref sig .tc .vmem S128x1152 .f32) (harg11 : arg11.IsWhole)
    (x0 : Vec Ideal S1x128x1152 .f32) (x1 : Vec Ideal S1x128x1152 .f32) (x2 : Vec Ideal S3x128x1152 .bf16) (x3 x4 x5 : Vec Ideal S128x1152 .f32) (xt0 : TbBuf0 (F := Ideal) c tbM0_0)
    (r : Fin 128) (e : Fin 1152) :
    out0_A_9 c i arg2 harg2 arg3 harg3 arg4 harg4 arg5 harg5 arg6 harg6 arg7 harg7 arg8 harg8 arg9 harg9 arg10 harg10 arg11 harg11 x0 x1 x2 x3 x4 x5 xt0 (ix2 r e) = Adam.newV (OwnSlab.total (x0 (ix3 0 r e)) (x1 (ix3 0 r e)) (fun k => x2 (ix3 k r e))) (x5 (ix2 r e)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay4 _ _ _ _ _ _ r e).trans ?_
  rw [sum]

section
variable (m : (ℓ : Loc nD τ sig) → Buf (Elt Ideal) ℓ)

/-- A row of the block at point `t`. -/
abbrev at_ {m : (ℓ : Loc nD τ sig) → Buf (Elt Ideal) ℓ} {hO : Ok m} (t : Fin (cfgM m hO).N) (r : Fin 128) : Fin 4096 := ⟨t.val * 128 + r.val, by have : t.val < 32 := t.isLt; omega⟩

/-- The arguments. -/
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-- The block of one's own slab. -/
theorem b0 (h : slab m < 4) (c : Dev nD) (t : Fin (cfgM m (ok m h)).N) (r : Fin 128) (e : Fin 1152) : iblk m (ok m h) c 0 t (ix3 0 r e) = a1 m c (ix3 ⟨slab m, h⟩ (at_ t r) e) := by
  obtain ⟨e0, e1, e2, e3, e4, e5, e6, e7, e8, e9⟩ := idx m (ok m h) t
  blk_ext [iblk, e0]

/-- The block of the slab from next door. -/
theorem b1 (h : slab m < 4) (c : Dev nD) (t : Fin (cfgM m (ok m h)).N) (r : Fin 128) (e : Fin 1152) : iblk m (ok m h) c 1 t (ix3 0 r e) = a2 m c (ix3 0 (at_ t r) e) := by
  obtain ⟨e0, e1, e2, e3, e4, e5, e6, e7, e8, e9⟩ := idx m (ok m h) t
  blk_ext [iblk, e1]

/-- The block of the slabs from afar. -/
theorem b2 (h : slab m < 4) (c : Dev nD) (t : Fin (cfgM m (ok m h)).N) (k : Fin 3) (r : Fin 128) (e : Fin 1152) : iblk m (ok m h) c 2 t (ix3 k r e) = a3 m c (ix3 k (at_ t r) e) := by
  obtain ⟨e0, e1, e2, e3, e4, e5, e6, e7, e8, e9⟩ := idx m (ok m h) t
  blk_ext [iblk, e2]

/-- The block of the weights. -/
theorem b3 (h : slab m < 4) (c : Dev nD) (t : Fin (cfgM m (ok m h)).N) (r : Fin 128) (e : Fin 1152) : iblk m (ok m h) c 3 t (ix2 r e) = a4 m c (ix2 (at_ t r) e) := by
  obtain ⟨e0, e1, e2, e3, e4, e5, e6, e7, e8, e9⟩ := idx m (ok m h) t
  blk_ext [iblk, e3]

/-- The block of the old first moment. -/
theorem b4 (h : slab m < 4) (c : Dev nD) (t : Fin (cfgM m (ok m h)).N) (r : Fin 128) (e : Fin 1152) : iblk m (ok m h) c 4 t (ix2 r e) = a5 m c (ix2 (at_ t r) e) := by
  obtain ⟨e0, e1, e2, e3, e4, e5, e6, e7, e8, e9⟩ := idx m (ok m h) t
  blk_ext [iblk, e4]

/-- The block of the old second moment. -/
theorem b5 (h : slab m < 4) (c : Dev nD) (t : Fin (cfgM m (ok m h)).N) (r : Fin 128) (e : Fin 1152) : iblk m (ok m h) c 5 t (ix2 r e) = a6 m c (ix2 (at_ t r) e) := by
  obtain ⟨e0, e1, e2, e3, e4, e5, e6, e7, e8, e9⟩ := idx m (ok m h) t
  blk_ext [iblk, e5]

/-- The gradient at a row and a column: the slab `v` of one's own, the one from next door and the three from afar. -/
def G (v : Fin 4) (x1 : S4x4096x1152.Idx → EReal) (x2 : S4x4096x1152.Idx → EReal) (x3 : S3x4096x1152.Idx → EReal) (r : Fin 4096) (e : Fin 1152) : EReal :=
  OwnSlab.total (x1 (ix3 v r e)) (x2 (ix3 0 r e)) (fun k => x3 (ix3 k r e))

/-- The gradient that the block at point `t` adds up. -/
theorem sums (h : slab m < 4) (c : Dev nD) (t : Fin (cfgM m (ok m h)).N) (r : Fin 128) (e : Fin 1152) :
    OwnSlab.total (iblk m (ok m h) c 0 t (ix3 0 r e)) (iblk m (ok m h) c 1 t (ix3 0 r e)) (fun k => iblk m (ok m h) c 2 t (ix3 k r e)) = G ⟨slab m, h⟩ (a1 m c) (a2 m c) (a3 m c) (at_ t r) e :=
  congr (congrArg₂ OwnSlab.total (b0 m h c t r e) (b1 m h c t r e)) (funext fun k => b2 m h c t k r e)

/-- Every tile of the results is written at some point. -/
theorem tile (hO : Ok m) (β : (a : Fin 2) → Fin ((S4096x1152.size a + S128x1152.size a - 1) / S128x1152.size a)) : ∃ t : Fin (cfgM m hO).N, t.val = (β 0).val ∧ 0 = (β 1).val := by
  have b0 : (β (0 : Fin 2)).val < 32 := lt_of_lt_of_eq (β (0 : Fin 2)).isLt (by decide : (S4096x1152.size 0 + S128x1152.size 0 - 1) / S128x1152.size 0 = 32)
  have b1 : (β (1 : Fin 2)).val < 1 := lt_of_lt_of_eq (β (1 : Fin 2)).isLt (by decide : (S4096x1152.size 1 + S128x1152.size 1 - 1) / S128x1152.size 1 = 1)
  exact ⟨⟨(β (0 : Fin 2)).val, by show _ < 32; exact b0⟩, rfl, by omega⟩

/-- The call's gradient. -/
theorem arr6 (h : slab m < 4) (c : Dev nD) : (dats m (ok m h) 0 c).arrAt 6 (cfgM m (ok m h)).N = fun i : S4096x1152.Idx => G ⟨slab m, h⟩ (a1 m c) (a2 m c) (a3 m c) (i 0) (i 1) := by
  refine (dats m (ok m h) 0 c).arrAt_eq_of_covers 6 _ ?_ fun t hf y => ?_
  · refine Pipeline.Window.covers_of_index_surj _ rfl (by decide : ∀ a : Fin 2, 0 < S128x1152.size a) fun β => ?_
    obtain ⟨t, h0, h1⟩ := tile m (ok m h) β
    obtain ⟨-, -, -, -, -, -, e6, e7, e8, e9⟩ := idx m (ok m h) t
    exact ⟨t, fun a => by rw [e6]; fin_cases a; exacts [h0, h1]⟩
  · obtain ⟨e0, e1, e2, e3, e4, e5, e6, e7, e8, e9⟩ := idx m (ok m h) t
    obtain ⟨r, e, rfl⟩ := Products.idx2 (a := 128) (b := 1152) y
    blk_simp
    rw [after0_6]
    unfold outsAt0
    dsimp only
    refine (block6 _ _ _ _ _ _ _ _ _ _ _ _ _ _ _ _ _ _ _ _ _ _ _ _ _ _ _ _ _ r e).trans ?_
    have he : (((cfgM m (ok m h)).win 6).blk t).view.emb (ix2 r e) = ix2 (at_ t r) e := by
      blk_ext [e6]
    rw [he]
    exact sums m h c t r e

/-- The call's change of the weights. -/
theorem arr7 (h : slab m < 4) (c : Dev nD) : (dats m (ok m h) 0 c).arrAt 7 (cfgM m (ok m h)).N = fun i : S4096x1152.Idx => Adam.delta (a4 m c i) (G ⟨slab m, h⟩ (a1 m c) (a2 m c) (a3 m c) (i 0) (i 1)) (a5 m c i) (a6 m c i) := by
  refine (dats m (ok m h) 0 c).arrAt_eq_of_covers 7 _ ?_ fun t hf y => ?_
  · refine Pipeline.Window.covers_of_index_surj _ rfl (by decide : ∀ a : Fin 2, 0 < S128x1152.size a) fun β => ?_
    obtain ⟨t, h0, h1⟩ := tile m (ok m h) β
    obtain ⟨-, -, -, -, -, -, e6, e7, e8, e9⟩ := idx m (ok m h) t
    exact ⟨t, fun a => by rw [e7]; fin_cases a; exacts [h0, h1]⟩
  · obtain ⟨e0, e1, e2, e3, e4, e5, e6, e7, e8, e9⟩ := idx m (ok m h) t
    obtain ⟨r, e, rfl⟩ := Products.idx2 (a := 128) (b := 1152) y
    blk_simp
    rw [after0_7]
    unfold outsAt0
    dsimp only
    refine (block7 _ _ _ _ _ _ _ _ _ _ _ _ _ _ _ _ _ _ _ _ _ _ _ _ _ _ _ _ _ r e).trans ?_
    have he : (((cfgM m (ok m h)).win 7).blk t).view.emb (ix2 r e) = ix2 (at_ t r) e := by
      blk_ext [e7]
    rw [he]
    exact congr (congr (congrArg₂ Adam.delta (b3 m h c t r e) (sums m h c t r e)) (b4 m h c t r e)) (b5 m h c t r e)

/-- The call's first moment. -/
theorem arr8 (h : slab m < 4) (c : Dev nD) : (dats m (ok m h) 0 c).arrAt 8 (cfgM m (ok m h)).N = fun i : S4096x1152.Idx => Adam.newM (G ⟨slab m, h⟩ (a1 m c) (a2 m c) (a3 m c) (i 0) (i 1)) (a5 m c i) := by
  refine (dats m (ok m h) 0 c).arrAt_eq_of_covers 8 _ ?_ fun t hf y => ?_
  · refine Pipeline.Window.covers_of_index_surj _ rfl (by decide : ∀ a : Fin 2, 0 < S128x1152.size a) fun β => ?_
    obtain ⟨t, h0, h1⟩ := tile m (ok m h) β
    obtain ⟨-, -, -, -, -, -, e6, e7, e8, e9⟩ := idx m (ok m h) t
    exact ⟨t, fun a => by rw [e8]; fin_cases a; exacts [h0, h1]⟩
  · obtain ⟨e0, e1, e2, e3, e4, e5, e6, e7, e8, e9⟩ := idx m (ok m h) t
    obtain ⟨r, e, rfl⟩ := Products.idx2 (a := 128) (b := 1152) y
    blk_simp
    rw [after0_8]
    unfold outsAt0
    dsimp only
    refine (block8 _ _ _ _ _ _ _ _ _ _ _ _ _ _ _ _ _ _ _ _ _ _ _ _ _ _ _ _ _ r e).trans ?_
    have he : (((cfgM m (ok m h)).win 8).blk t).view.emb (ix2 r e) = ix2 (at_ t r) e := by
      blk_ext [e8]
    rw [he]
    exact congrArg₂ Adam.newM (sums m h c t r e) (b4 m h c t r e)

/-- The call's second moment. -/
theorem arr9 (h : slab m < 4) (c : Dev nD) : (dats m (ok m h) 0 c).arrAt 9 (cfgM m (ok m h)).N = fun i : S4096x1152.Idx => Adam.newV (G ⟨slab m, h⟩ (a1 m c) (a2 m c) (a3 m c) (i 0) (i 1)) (a6 m c i) := by
  refine (dats m (ok m h) 0 c).arrAt_eq_of_covers 9 _ ?_ fun t hf y => ?_
  · refine Pipeline.Window.covers_of_index_surj _ rfl (by decide : ∀ a : Fin 2, 0 < S128x1152.size a) fun β => ?_
    obtain ⟨t, h0, h1⟩ := tile m (ok m h) β
    obtain ⟨-, -, -, -, -, -, e6, e7, e8, e9⟩ := idx m (ok m h) t
    exact ⟨t, fun a => by rw [e9]; fin_cases a; exacts [h0, h1]⟩
  · obtain ⟨e0, e1, e2, e3, e4, e5, e6, e7, e8, e9⟩ := idx m (ok m h) t
    obtain ⟨r, e, rfl⟩ := Products.idx2 (a := 128) (b := 1152) y
    blk_simp
    rw [after0_9]
    unfold outsAt0
    dsimp only
    refine (block9 _ _ _ _ _ _ _ _ _ _ _ _ _ _ _ _ _ _ _ _ _ _ _ _ _ _ _ _ _ r e).trans ?_
    have he : (((cfgM m (ok m h)).win 9).blk t).view.emb (ix2 r e) = ix2 (at_ t r) e := by
      blk_ext [e9]
    rw [he]
    exact congrArg₂ Adam.newV (sums m h c t r e) (b5 m h c t r e)
end

section
open Cert.Reference19Ideal.Read

/-- The reference's own slab. -/
theorem ref_own (x0 : IVec ⟨1, ![4]⟩ 32) (h : (x0 (ix1 0)).toNat < 4) (x1 : S4x4096x1152.Idx → EReal) (r : Fin 4096) (e : Fin 1152) :
    val_main_v2 (F := Ideal) x0 x1 (ix2 r e) = x1 (ix3 ⟨(x0 (ix1 0)).toNat, h⟩ r e) := by
  have hr := r.isLt
  have he := e.isLt
  rw [val_main_v2_apply]
  rw [show idx_main_v2 (ix2 r e) = ix3 0 r e from by
    funext a
    fin_cases a
    · rfl
    · refine Fin.ext ?_
      show (r.val * 1152 + e.val) / 1152 % 4096 = r.val
      omega
    · refine Fin.ext ?_
      show (r.val * 1152 + e.val) % 1152 = e.val
      omega]
  refine OwnSlab.gather_eq _ _ _ 0 r e ⟨(x0 (ix1 0)).toNat, h⟩ ?_
  rw [val_main_call0_v0_apply]
  rw [val_main_v0_apply]
  rw [show idx_main_v0 (idx_main_call0_v0 (ix2 0 0)) = ix1 0 from by funext a; fin_cases a; rfl]
  exact OwnSlab.toInt_of_lt _ 4 (by decide) h

/-- The reference's slab from next door. -/
theorem ref_got (x2 : S4x4096x1152.Idx → EReal) (r : Fin 4096) (e : Fin 1152) : val_main_v4 (F := Ideal) x2 (ix2 r e) = x2 (ix3 0 r e) := by
  unfold val_main_v4 val_main_v3
  pointwise

/-- The reference's gradient. -/
theorem ref_grad (x0 : IVec ⟨1, ![4]⟩ 32) (h : (x0 (ix1 0)).toNat < 4) (x1 : S4x4096x1152.Idx → EReal) (x2 : S4x4096x1152.Idx → EReal) (x3 : S3x4096x1152.Idx → EReal) (r : Fin 4096) (e : Fin 1152) :
    val_main_v8 (F := Ideal) x0 x1 x2 x3 (ix2 r e) = G ⟨(x0 (ix1 0)).toNat, h⟩ x1 x2 x3 r e := by
  have h7 : val_main_v7 (F := Ideal) x3 (ix2 r e) = ∑ k, x3 (ix3 k r e) := by
    unfold val_main_v7 val_main_v6 val_main_cst
    pointwise
  rw [val_main_v8_apply, val_main_v5_apply, ref_own x0 h, ref_got, h7]
  exact OwnSlab.total_eq _ _ _

/-- The reference's first moment. -/
theorem ref_m (x0 : IVec ⟨1, ![4]⟩ 32) (h : (x0 (ix1 0)).toNat < 4) (x1 : S4x4096x1152.Idx → EReal) (x2 : S4x4096x1152.Idx → EReal) (x3 : S3x4096x1152.Idx → EReal) (x5 : S4096x1152.Idx → EReal) (r : Fin 4096) (e : Fin 1152) :
    val_main_v13 (F := Ideal) x0 x1 x2 x3 x5 (ix2 r e) = Adam.newM (G ⟨(x0 (ix1 0)).toNat, h⟩ x1 x2 x3 r e) (x5 (ix2 r e)) := by
  rw [← ref_grad]
  unfold val_main_v13 val_main_v12 val_main_v11 val_main_v10 val_main_v9 val_main_cst_0 val_main_cst_1 Adam.newM
  pointwise

/-- The reference's second moment. -/
theorem ref_v (x0 : IVec ⟨1, ![4]⟩ 32) (h : (x0 (ix1 0)).toNat < 4) (x1 : S4x4096x1152.Idx → EReal) (x2 : S4x4096x1152.Idx → EReal) (x3 : S3x4096x1152.Idx → EReal) (x6 : S4096x1152.Idx → EReal) (r : Fin 4096) (e : Fin 1152) :
    val_main_v19 (F := Ideal) x0 x1 x2 x3 x6 (ix2 r e) = Adam.newV (G ⟨(x0 (ix1 0)).toNat, h⟩ x1 x2 x3 r e) (x6 (ix2 r e)) := by
  rw [← ref_grad]
  unfold val_main_v19 val_main_v18 val_main_v17 val_main_v16 val_main_v15 val_main_v14 val_main_cst_2 val_main_cst_3 Adam.newV
  pointwise

/-- The reference's change of the weights. -/
theorem ref_delta (x0 : IVec ⟨1, ![4]⟩ 32) (h : (x0 (ix1 0)).toNat < 4) (x1 : S4x4096x1152.Idx → EReal) (x2 : S4x4096x1152.Idx → EReal) (x3 : S3x4096x1152.Idx → EReal) (x4 x5 x6 : S4096x1152.Idx → EReal) (r : Fin 4096) (e : Fin 1152) :
    val_main_v32 (F := Ideal) x0 x1 x2 x3 x4 x5 x6 (ix2 r e) = Adam.delta (x4 (ix2 r e)) (G ⟨(x0 (ix1 0)).toNat, h⟩ x1 x2 x3 r e) (x5 (ix2 r e)) (x6 (ix2 r e)) := by
  unfold Adam.delta
  rw [← ref_m, ← ref_v]
  unfold val_main_v32 val_main_v31 val_main_v30 val_main_v29 val_main_v28 val_main_v27 val_main_v26 val_main_v25 val_main_v24 val_main_v23 val_main_v22 val_main_v21 val_main_v20 val_main_cst_4 val_main_cst_5 val_main_cst_6 val_main_cst_7 val_main_cst_8
  pointwise

end

/-- The call and the reference end with the same arrays. -/
theorem algebraic : Cert.algebraic_Kernel19Ideal_Reference19Ideal (hKernel19Ideal := Cert.Kernel19Ideal.Gen.facts)
      (hReference19Ideal := Cert.Reference19Ideal.Gen.facts) (hPre_own_exists19 := Cert.Pre_own_exists19.Gen.facts) := by
  intro m g m' g' hpre hag
  have h : slab m < 4 := OwnSlab.below19 _ _ _ _ _ _ _ (hpre 0)
  refine ⟨fun c => (dats m (ok m h) 0 c).arrAt 6 (cfgM m (ok m h)).N, fun c => (dats m (ok m h) 0 c).arrAt 7 (cfgM m (ok m h)).N,
    fun c => (dats m (ok m h) 0 c).arrAt 8 (cfgM m (ok m h)).N, fun c => (dats m (ok m h) 0 c).arrAt 9 (cfgM m (ok m h)).N, ?_, ?_⟩
  · refine (θ_run _ _ _).mono (fun r hr c => ⟨(hr c).1 6, (hr c).1 7, (hr c).1 8, (hr c).1 9, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c))),
      ((hr c).1 2).trans (((dats m (ok m h) 0 c).arrAt_in 2 rfl _).trans ((A_eq m (ok m h) c 2).trans (V_main_arg3 m c))),
      ((hr c).1 3).trans (((dats m (ok m h) 0 c).arrAt_in 3 rfl _).trans ((A_eq m (ok m h) c 3).trans (V_main_arg4 m c))),
      ((hr c).1 4).trans (((dats m (ok m h) 0 c).arrAt_in 4 rfl _).trans ((A_eq m (ok m h) c 4).trans (V_main_arg5 m c))),
      ((hr c).1 5).trans (((dats m (ok m h) 0 c).arrAt_in 5 rfl _).trans ((A_eq m (ok m h) c 5).trans (V_main_arg6 m c)))⟩
  · refine (θ_run _ _ _).mono (fun r hr c => ?_) (Cert.Reference19Ideal.Value.run (F := Ideal) m' g')
    obtain ⟨h0, h1, h2, h3, ha⟩ := hr c
    obtain ⟨e0, e1, e2, e3, e4, e5, e6⟩ := hag c
    obtain rfl : c = 0 := Subsingleton.elim _ _
    refine ⟨h0.trans ?_, h1.trans ?_, h2.trans ?_, h3.trans ?_, ha⟩
    · rw [Cert.Reference19Ideal.Read.val_main_v8_eq, e0, e1, e2, e3]
      refine Eq.trans (funext fun i => ?_) (arr6 m h 0).symm
      obtain ⟨r, e, rfl⟩ := Products.idx2 (a := 4096) (b := 1152) i
      exact ref_grad _ h _ _ _ r e
    · rw [Cert.Reference19Ideal.Read.val_main_v32_eq, e0, e1, e2, e3, e4, e5, e6]
      refine Eq.trans (funext fun i => ?_) (arr7 m h 0).symm
      obtain ⟨r, e, rfl⟩ := Products.idx2 (a := 4096) (b := 1152) i
      exact ref_delta _ h _ _ _ _ _ _ r e
    · rw [Cert.Reference19Ideal.Read.val_main_v13_eq, e0, e1, e2, e3, e5]
      refine Eq.trans (funext fun i => ?_) (arr8 m h 0).symm
      obtain ⟨r, e, rfl⟩ := Products.idx2 (a := 4096) (b := 1152) i
      exact ref_m _ h _ _ _ _ r e
    · rw [Cert.Reference19Ideal.Read.val_main_v19_eq, e0, e1, e2, e3, e6]
      refine Eq.trans (funext fun i => ?_) (arr9 m h 0).symm
      obtain ⟨r, e, rfl⟩ := Products.idx2 (a := 4096) (b := 1152) i
      exact ref_v _ h _ _ _ _ r e

end Cert.AdamWIn
-- ==== Proof.AdamWOut.lean ====
module

public import proofs.«01_k».proof.Proof.Gen.Kernel20Ideal.Frame
public import proofs.«01_k».proof.Proof.Gen.Reference20Ideal.Run
public import proofs.«01_k».proof.Proof.Gen.Reference20Ideal.Read
public import proofs.«01_k».proof.Defs
public import proofs.«01_k».proof.Proof.Products
public import proofs.«01_k».proof.Proof.OwnSlab
public import proofs.«01_k».proof.Proof.Adam
public import Idealize.ShloMosaic.Lib.Pipeline.ValueKit
public import Idealize.ShloMosaic.Lib.Pipeline.ReadBack
public import Idealize.ShloMosaic.Lib.Pipeline.Covers
public import Idealize.ShloMosaic.Lib.Pointwise

/-!
  The optimiser step of the output weights: the gradient is the own slab, the slab that came from next door and the three that came from afar,
  added up; then one AdamW step on the device's own rows. Eight blocks of 64 rows.
-/

@[expose] public section
set_option maxRecDepth 16384
noncomputable section
open Idealize.ShloMosaic Idealize.ShloMosaic.TcCoe Idealize.SL.Sem
open Cert.Kernel20Ideal Cert.Kernel20Ideal.Gen

namespace Cert.AdamWOut

section
variable {F : FTy → Type} [FloatOps F] (m : (ℓ : Loc nD τ sig) → Buf (Elt F) ℓ)

/-- The number of the own slab. -/
def slab : ℕ := BitVec.toNat (m (((0 : Dev nD) : Thread nD τ).loc main_arg0) (ix1 0))

/-- The block of the stack that a grid point reads: its rows of the own slab. -/
theorem column (i : grid0.Coords) : cc0_transform_0 Facts₀.inb_S4_S1_0 Facts₀.numel1_S1 (tbl m) i = ![slab m, (i 0).val, 0] := by
  unfold cc0_transform_0 slab
  funext a
  fin_cases a
  · show BitVec.toNat (m (((0 : Dev nD) : Thread nD τ).loc main_arg0) _) = BitVec.toNat (m (((0 : Dev nD) : Thread nD τ).loc main_arg0) (ix1 0))
    congr 2
    funext b
    fin_cases b
    rfl
  · have h : (i 0).val < 8 := (i 0).isLt
    show (BitVec.ofNat 32 (i 0).val).toNat = (i 0).val
    rw [BitVec.toNat_ofNat]
    omega
  · rfl

/-- Every block lies in its array when the slab number is below 8. -/
theorem ok (h : slab m < 8) : Ok m := by
  intro i
  rw [column m i]
  generalize slab m = v at h
  have hi : (i 0).val < 8 := (i 0).isLt
  refine ⟨fun a => ?_, ?_⟩
  · fin_cases a
    · show (v + 1) * 1 ≤ 8
      omega
    · show ((i 0).val + 1) * 64 ≤ 512
      omega
    · show (0 + 1) * 4096 ≤ 4096
      omega
  · exact Or.inl rfl

/-- The blocks at point `t`. -/
theorem idx (hO : Ok m) (t : Fin (cfgM m hO).N) : ((cfgM m hO).win 0).index t = ![slab m, t.val, 0] ∧ ((cfgM m hO).win 1).index t = ![0, t.val, 0]
    ∧ ((cfgM m hO).win 2).index t = ![0, t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] ∧ ((cfgM m hO).win 9).index t = ![t.val, 0] := by
  have h : ∀ t : Fin grid0.N, (grid0.coords t 0).val = t.val ∧ cc0_transform_1 (grid0.coords t) = ![0, t.val, 0] ∧ cc0_transform_2 (grid0.coords t) = ![0, t.val, 0]
      ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0]
      ∧ cc0_transform_9 (grid0.coords t) = ![t.val, 0] := by decide +kernel
  obtain ⟨h0, h1, h2, h3, h4, h5, h6, h7, h8, h9⟩ := h t
  refine ⟨(column m (grid0.coords t)).trans ?_, h1, h2, h3, h4, h5, h6, h7, h8, h9⟩
  rw [h0]
end

/-- The sum of the five slabs. -/
theorem pay2 (v0 v2 : Vec Ideal S1x64x4096 .f32) (v5 v9 v13 : Vec Ideal S1x64x4096 .bf16) (r : Fin 64) (e : Fin 4096) :
    k0_pay2 (F := Ideal) v0 v2 v5 v9 v13 (ix2 r e) = OwnSlab.total (v0 (ix3 0 r e)) (v2 (ix3 0 r e)) ![v5 (ix3 0 r e), v9 (ix3 0 r e), v13 (ix3 0 r e)] := by
  unfold k0_pay2 OwnSlab.total
  pointwise

/-- The first moment from the sum. -/
theorem pay3 (v0 v2 : Vec Ideal S1x64x4096 .f32) (v5 v9 v13 : Vec Ideal S1x64x4096 .bf16) (v18 : Vec Ideal S64x4096 .f32) (r : Fin 64) (e : Fin 4096) :
    k0_pay3 (F := Ideal) v0 v2 v5 v9 v13 v18 (ix2 r e) = Adam.newM (k0_pay2 (F := Ideal) v0 v2 v5 v9 v13 (ix2 r e)) (v18 (ix2 r e)) := by
  unfold k0_pay3 Adam.newM
  pointwise

/-- The second moment from the sum. -/
theorem pay4 (v0 v2 : Vec Ideal S1x64x4096 .f32) (v5 v9 v13 : Vec Ideal S1x64x4096 .bf16) (v19 : Vec Ideal S64x4096 .f32) (r : Fin 64) (e : Fin 4096) :
    k0_pay4 (F := Ideal) v0 v2 v5 v9 v13 v19 (ix2 r e) = Adam.newV (k0_pay2 (F := Ideal) v0 v2 v5 v9 v13 (ix2 r e)) (v19 (ix2 r e)) := by
  unfold k0_pay4 Adam.newV
  pointwise

/-- The change of the weights from the sum and the moments. -/
theorem pay1 (v0 v2 : Vec Ideal S1x64x4096 .f32) (v5 v9 v13 : Vec Ideal S1x64x4096 .bf16) (v17 v18 v19 : Vec Ideal S64x4096 .f32) (r : Fin 64) (e : Fin 4096) :
    k0_pay1 (F := Ideal) v17 (k0_pay4 v0 v2 v5 v9 v13 v19) (k0_pay5 v0 v2 v5 v9 v13 v18) (ix2 r e)
      = Adam.delta (v17 (ix2 r e)) (k0_pay2 (F := Ideal) v0 v2 v5 v9 v13 (ix2 r e)) (v18 (ix2 r e)) (v19 (ix2 r e)) := by
  unfold Adam.delta
  rw [← pay3, ← pay4]
  unfold k0_pay1 k0_pay5
  pointwise

/-- The `k`th slab of three. -/
theorem part (x2 : Vec Ideal S3x64x4096 .bf16) (off : Fin 3 → ℕ) (k : Fin 3) (h0 : off 0 = k.val) (h1 : off 1 = 0) (h2 : off 2 = 0) (inb) (r : Fin 64) (e : Fin 4096) :
    View.ld (Val := Elt Ideal) (e' := .bf16) x2 (Rect.unit (s := S3x64x4096) off S1x64x4096.size inb) (ix3 0 r e) = x2 (ix3 k r e) := by
  refine View.ld_unit_apply_of x2 off _ inb (ix3 0 r e) (ix3 k r e) fun a => ?_
  fin_cases a
  · exact h0.symm
  · exact (Nat.zero_add _).symm.trans (congrArg (· + r.val) h1.symm)
  · exact (Nat.zero_add _).symm.trans (congrArg (· + e.val) h2.symm)

/-- The gradient that a block adds up, its three far slabs loaded one by one. -/
theorem sum (x0 x1 : Vec Ideal S1x64x4096 .f32) (x2 : Vec Ideal S3x64x4096 .bf16) (i0 i1 i2) (r : Fin 64) (e : Fin 4096) :
    k0_pay2 (F := Ideal) x0 x1 (View.ld (Val := Elt Ideal) (e' := .bf16) x2 (Rect.unit (s := S3x64x4096) ![0, 0, 0] S1x64x4096.size i0))
      (View.ld (Val := Elt Ideal) (e' := .bf16) x2 (Rect.unit (s := S3x64x4096) ![1, 0, 0] S1x64x4096.size i1)) (View.ld (Val := Elt Ideal) (e' := .bf16) x2 (Rect.unit (s := S3x64x4096) ![2, 0, 0] S1x64x4096.size i2)) (ix2 r e)
      = OwnSlab.total (x0 (ix3 0 r e)) (x1 (ix3 0 r e)) (fun k => x2 (ix3 k r e)) := by
  rw [pay2, part x2 ![0, 0, 0] 0 rfl rfl rfl, part x2 ![1, 0, 0] 1 rfl rfl rfl, part x2 ![2, 0, 0] 2 rfl rfl rfl]
  rfl

/-- One block's gradient. -/
theorem block6 (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S3x64x4096 .bf16) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole) (arg11 : Memref sig .tc .vmem S64x4096 .f32) (harg11 : arg11.IsWhole)
    (x0 : Vec Ideal S1x64x4096 .f32) (x1 : Vec Ideal S1x64x4096 .f32) (x2 : Vec Ideal S3x64x4096 .bf16) (x3 x4 x5 : Vec Ideal S64x4096 .f32) (xt0 : TbBuf0 (F := Ideal) c tbM0_0)
    (r : Fin 64) (e : Fin 4096) :
    out0_A_6 c i arg2 harg2 arg3 harg3 arg4 harg4 arg5 harg5 arg6 harg6 arg7 harg7 arg8 harg8 arg9 harg9 arg10 harg10 arg11 harg11 x0 x1 x2 x3 x4 x5 xt0 (ix2 r e) = OwnSlab.total (x0 (ix3 0 r e)) (x1 (ix3 0 r e)) (fun k => x2 (ix3 k r e)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  exact sum _ _ _ _ _ _ r e

/-- One block's change of the weights. -/
theorem block7 (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S3x64x4096 .bf16) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole) (arg11 : Memref sig .tc .vmem S64x4096 .f32) (harg11 : arg11.IsWhole)
    (x0 : Vec Ideal S1x64x4096 .f32) (x1 : Vec Ideal S1x64x4096 .f32) (x2 : Vec Ideal S3x64x4096 .bf16) (x3 x4 x5 : Vec Ideal S64x4096 .f32) (xt0 : TbBuf0 (F := Ideal) c tbM0_0)
    (r : Fin 64) (e : Fin 4096) :
    out0_A_7 c i arg2 harg2 arg3 harg3 arg4 harg4 arg5 harg5 arg6 harg6 arg7 harg7 arg8 harg8 arg9 harg9 arg10 harg10 arg11 harg11 x0 x1 x2 x3 x4 x5 xt0 (ix2 r e) = Adam.delta (x3 (ix2 r e)) (OwnSlab.total (x0 (ix3 0 r e)) (x1 (ix3 0 r e)) (fun k => x2 (ix3 k r e))) (x4 (ix2 r e)) (x5 (ix2 r e)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay1 _ _ _ _ _ _ _ _ r e).trans ?_
  rw [sum]

/-- One block's first moment. -/
theorem block8 (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S3x64x4096 .bf16) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole) (arg11 : Memref sig .tc .vmem S64x4096 .f32) (harg11 : arg11.IsWhole)
    (x0 : Vec Ideal S1x64x4096 .f32) (x1 : Vec Ideal S1x64x4096 .f32) (x2 : Vec Ideal S3x64x4096 .bf16) (x3 x4 x5 : Vec Ideal S64x4096 .f32) (xt0 : TbBuf0 (F := Ideal) c tbM0_0)
    (r : Fin 64) (e : Fin 4096) :
    out0_A_8 c i arg2 harg2 arg3 harg3 arg4 harg4 arg5 harg5 arg6 harg6 arg7 harg7 arg8 harg8 arg9 harg9 arg10 harg10 arg11 harg11 x0 x1 x2 x3 x4 x5 xt0 (ix2 r e) = Adam.newM (OwnSlab.total (x0 (ix3 0 r e)) (x1 (ix3 0 r e)) (fun k => x2 (ix3 k r e))) (x4 (ix2 r e)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay3 _ _ _ _ _ _ r e).trans ?_
  rw [sum]

/-- One block's second moment. -/
theorem block9 (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S3x64x4096 .bf16) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole) (arg11 : Memref sig .tc .vmem S64x4096 .f32) (harg11 : arg11.IsWhole)
    (x0 : Vec Ideal S1x64x4096 .f32) (x1 : Vec Ideal S1x64x4096 .f32) (x2 : Vec Ideal S3x64x4096 .bf16) (x3 x4 x5 : Vec Ideal S64x4096 .f32) (xt0 : TbBuf0 (F := Ideal) c tbM0_0)
    (r : Fin 64) (e : Fin 4096) :
    out0_A_9 c i arg2 harg2 arg3 harg3 arg4 harg4 arg5 harg5 arg6 harg6 arg7 harg7 arg8 harg8 arg9 harg9 arg10 harg10 arg11 harg11 x0 x1 x2 x3 x4 x5 xt0 (ix2 r e) = Adam.newV (OwnSlab.total (x0 (ix3 0 r e)) (x1 (ix3 0 r e)) (fun k => x2 (ix3 k r e))) (x5 (ix2 r e)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay4 _ _ _ _ _ _ r e).trans ?_
  rw [sum]

section
variable (m : (ℓ : Loc nD τ sig) → Buf (Elt Ideal) ℓ)

/-- A row of the block at point `t`. -/
abbrev at_ {m : (ℓ : Loc nD τ sig) → Buf (Elt Ideal) ℓ} {hO : Ok m} (t : Fin (cfgM m hO).N) (r : Fin 64) : Fin 512 := ⟨t.val * 64 + r.val, by have : t.val < 8 := t.isLt; omega⟩

/-- The arguments. -/
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-- The block of one's own slab. -/
theorem b0 (h : slab m < 8) (c : Dev nD) (t : Fin (cfgM m (ok m h)).N) (r : Fin 64) (e : Fin 4096) : iblk m (ok m h) c 0 t (ix3 0 r e) = a1 m c (ix3 ⟨slab m, h⟩ (at_ t r) e) := by
  obtain ⟨e0, e1, e2, e3, e4, e5, e6, e7, e8, e9⟩ := idx m (ok m h) t
  blk_ext [iblk, e0]

/-- The block of the slab from next door. -/
theorem b1 (h : slab m < 8) (c : Dev nD) (t : Fin (cfgM m (ok m h)).N) (r : Fin 64) (e : Fin 4096) : iblk m (ok m h) c 1 t (ix3 0 r e) = a2 m c (ix3 0 (at_ t r) e) := by
  obtain ⟨e0, e1, e2, e3, e4, e5, e6, e7, e8, e9⟩ := idx m (ok m h) t
  blk_ext [iblk, e1]

/-- The block of the slabs from afar. -/
theorem b2 (h : slab m < 8) (c : Dev nD) (t : Fin (cfgM m (ok m h)).N) (k : Fin 3) (r : Fin 64) (e : Fin 4096) : iblk m (ok m h) c 2 t (ix3 k r e) = a3 m c (ix3 k (at_ t r) e) := by
  obtain ⟨e0, e1, e2, e3, e4, e5, e6, e7, e8, e9⟩ := idx m (ok m h) t
  blk_ext [iblk, e2]

/-- The block of the weights. -/
theorem b3 (h : slab m < 8) (c : Dev nD) (t : Fin (cfgM m (ok m h)).N) (r : Fin 64) (e : Fin 4096) : iblk m (ok m h) c 3 t (ix2 r e) = a4 m c (ix2 (at_ t r) e) := by
  obtain ⟨e0, e1, e2, e3, e4, e5, e6, e7, e8, e9⟩ := idx m (ok m h) t
  blk_ext [iblk, e3]

/-- The block of the old first moment. -/
theorem b4 (h : slab m < 8) (c : Dev nD) (t : Fin (cfgM m (ok m h)).N) (r : Fin 64) (e : Fin 4096) : iblk m (ok m h) c 4 t (ix2 r e) = a5 m c (ix2 (at_ t r) e) := by
  obtain ⟨e0, e1, e2, e3, e4, e5, e6, e7, e8, e9⟩ := idx m (ok m h) t
  blk_ext [iblk, e4]

/-- The block of the old second moment. -/
theorem b5 (h : slab m < 8) (c : Dev nD) (t : Fin (cfgM m (ok m h)).N) (r : Fin 64) (e : Fin 4096) : iblk m (ok m h) c 5 t (ix2 r e) = a6 m c (ix2 (at_ t r) e) := by
  obtain ⟨e0, e1, e2, e3, e4, e5, e6, e7, e8, e9⟩ := idx m (ok m h) t
  blk_ext [iblk, e5]

/-- The gradient at a row and a column: the slab `v` of one's own, the one from next door and the three from afar. -/
def G (v : Fin 8) (x1 : S8x512x4096.Idx → EReal) (x2 : S4x512x4096.Idx → EReal) (x3 : S3x512x4096.Idx → EReal) (r : Fin 512) (e : Fin 4096) : EReal :=
  OwnSlab.total (x1 (ix3 v r e)) (x2 (ix3 0 r e)) (fun k => x3 (ix3 k r e))

/-- The gradient that the block at point `t` adds up. -/
theorem sums (h : slab m < 8) (c : Dev nD) (t : Fin (cfgM m (ok m h)).N) (r : Fin 64) (e : Fin 4096) :
    OwnSlab.total (iblk m (ok m h) c 0 t (ix3 0 r e)) (iblk m (ok m h) c 1 t (ix3 0 r e)) (fun k => iblk m (ok m h) c 2 t (ix3 k r e)) = G ⟨slab m, h⟩ (a1 m c) (a2 m c) (a3 m c) (at_ t r) e :=
  congr (congrArg₂ OwnSlab.total (b0 m h c t r e) (b1 m h c t r e)) (funext fun k => b2 m h c t k r e)

/-- Every tile of the results is written at some point. -/
theorem tile (hO : Ok m) (β : (a : Fin 2) → Fin ((S512x4096.size a + S64x4096.size a - 1) / S64x4096.size a)) : ∃ t : Fin (cfgM m hO).N, t.val = (β 0).val ∧ 0 = (β 1).val := by
  have b0 : (β (0 : Fin 2)).val < 8 := lt_of_lt_of_eq (β (0 : Fin 2)).isLt (by decide : (S512x4096.size 0 + S64x4096.size 0 - 1) / S64x4096.size 0 = 8)
  have b1 : (β (1 : Fin 2)).val < 1 := lt_of_lt_of_eq (β (1 : Fin 2)).isLt (by decide : (S512x4096.size 1 + S64x4096.size 1 - 1) / S64x4096.size 1 = 1)
  exact ⟨⟨(β (0 : Fin 2)).val, by show _ < 8; exact b0⟩, rfl, by omega⟩

/-- The call's gradient. -/
theorem arr6 (h : slab m < 8) (c : Dev nD) : (dats m (ok m h) 0 c).arrAt 6 (cfgM m (ok m h)).N = fun i : S512x4096.Idx => G ⟨slab m, h⟩ (a1 m c) (a2 m c) (a3 m c) (i 0) (i 1) := by
  refine (dats m (ok m h) 0 c).arrAt_eq_of_covers 6 _ ?_ fun t hf y => ?_
  · refine Pipeline.Window.covers_of_index_surj _ rfl (by decide : ∀ a : Fin 2, 0 < S64x4096.size a) fun β => ?_
    obtain ⟨t, h0, h1⟩ := tile m (ok m h) β
    obtain ⟨-, -, -, -, -, -, e6, e7, e8, e9⟩ := idx m (ok m h) t
    exact ⟨t, fun a => by rw [e6]; fin_cases a; exacts [h0, h1]⟩
  · obtain ⟨e0, e1, e2, e3, e4, e5, e6, e7, e8, e9⟩ := idx m (ok m h) t
    obtain ⟨r, e, rfl⟩ := Products.idx2 (a := 64) (b := 4096) y
    blk_simp
    rw [after0_6]
    unfold outsAt0
    dsimp only
    refine (block6 _ _ _ _ _ _ _ _ _ _ _ _ _ _ _ _ _ _ _ _ _ _ _ _ _ _ _ _ _ r e).trans ?_
    have he : (((cfgM m (ok m h)).win 6).blk t).view.emb (ix2 r e) = ix2 (at_ t r) e := by
      blk_ext [e6]
    rw [he]
    exact sums m h c t r e

/-- The call's change of the weights. -/
theorem arr7 (h : slab m < 8) (c : Dev nD) : (dats m (ok m h) 0 c).arrAt 7 (cfgM m (ok m h)).N = fun i : S512x4096.Idx => Adam.delta (a4 m c i) (G ⟨slab m, h⟩ (a1 m c) (a2 m c) (a3 m c) (i 0) (i 1)) (a5 m c i) (a6 m c i) := by
  refine (dats m (ok m h) 0 c).arrAt_eq_of_covers 7 _ ?_ fun t hf y => ?_
  · refine Pipeline.Window.covers_of_index_surj _ rfl (by decide : ∀ a : Fin 2, 0 < S64x4096.size a) fun β => ?_
    obtain ⟨t, h0, h1⟩ := tile m (ok m h) β
    obtain ⟨-, -, -, -, -, -, e6, e7, e8, e9⟩ := idx m (ok m h) t
    exact ⟨t, fun a => by rw [e7]; fin_cases a; exacts [h0, h1]⟩
  · obtain ⟨e0, e1, e2, e3, e4, e5, e6, e7, e8, e9⟩ := idx m (ok m h) t
    obtain ⟨r, e, rfl⟩ := Products.idx2 (a := 64) (b := 4096) y
    blk_simp
    rw [after0_7]
    unfold outsAt0
    dsimp only
    refine (block7 _ _ _ _ _ _ _ _ _ _ _ _ _ _ _ _ _ _ _ _ _ _ _ _ _ _ _ _ _ r e).trans ?_
    have he : (((cfgM m (ok m h)).win 7).blk t).view.emb (ix2 r e) = ix2 (at_ t r) e := by
      blk_ext [e7]
    rw [he]
    exact congr (congr (congrArg₂ Adam.delta (b3 m h c t r e) (sums m h c t r e)) (b4 m h c t r e)) (b5 m h c t r e)

/-- The call's first moment. -/
theorem arr8 (h : slab m < 8) (c : Dev nD) : (dats m (ok m h) 0 c).arrAt 8 (cfgM m (ok m h)).N = fun i : S512x4096.Idx => Adam.newM (G ⟨slab m, h⟩ (a1 m c) (a2 m c) (a3 m c) (i 0) (i 1)) (a5 m c i) := by
  refine (dats m (ok m h) 0 c).arrAt_eq_of_covers 8 _ ?_ fun t hf y => ?_
  · refine Pipeline.Window.covers_of_index_surj _ rfl (by decide : ∀ a : Fin 2, 0 < S64x4096.size a) fun β => ?_
    obtain ⟨t, h0, h1⟩ := tile m (ok m h) β
    obtain ⟨-, -, -, -, -, -, e6, e7, e8, e9⟩ := idx m (ok m h) t
    exact ⟨t, fun a => by rw [e8]; fin_cases a; exacts [h0, h1]⟩
  · obtain ⟨e0, e1, e2, e3, e4, e5, e6, e7, e8, e9⟩ := idx m (ok m h) t
    obtain ⟨r, e, rfl⟩ := Products.idx2 (a := 64) (b := 4096) y
    blk_simp
    rw [after0_8]
    unfold outsAt0
    dsimp only
    refine (block8 _ _ _ _ _ _ _ _ _ _ _ _ _ _ _ _ _ _ _ _ _ _ _ _ _ _ _ _ _ r e).trans ?_
    have he : (((cfgM m (ok m h)).win 8).blk t).view.emb (ix2 r e) = ix2 (at_ t r) e := by
      blk_ext [e8]
    rw [he]
    exact congrArg₂ Adam.newM (sums m h c t r e) (b4 m h c t r e)

/-- The call's second moment. -/
theorem arr9 (h : slab m < 8) (c : Dev nD) : (dats m (ok m h) 0 c).arrAt 9 (cfgM m (ok m h)).N = fun i : S512x4096.Idx => Adam.newV (G ⟨slab m, h⟩ (a1 m c) (a2 m c) (a3 m c) (i 0) (i 1)) (a6 m c i) := by
  refine (dats m (ok m h) 0 c).arrAt_eq_of_covers 9 _ ?_ fun t hf y => ?_
  · refine Pipeline.Window.covers_of_index_surj _ rfl (by decide : ∀ a : Fin 2, 0 < S64x4096.size a) fun β => ?_
    obtain ⟨t, h0, h1⟩ := tile m (ok m h) β
    obtain ⟨-, -, -, -, -, -, e6, e7, e8, e9⟩ := idx m (ok m h) t
    exact ⟨t, fun a => by rw [e9]; fin_cases a; exacts [h0, h1]⟩
  · obtain ⟨e0, e1, e2, e3, e4, e5, e6, e7, e8, e9⟩ := idx m (ok m h) t
    obtain ⟨r, e, rfl⟩ := Products.idx2 (a := 64) (b := 4096) y
    blk_simp
    rw [after0_9]
    unfold outsAt0
    dsimp only
    refine (block9 _ _ _ _ _ _ _ _ _ _ _ _ _ _ _ _ _ _ _ _ _ _ _ _ _ _ _ _ _ r e).trans ?_
    have he : (((cfgM m (ok m h)).win 9).blk t).view.emb (ix2 r e) = ix2 (at_ t r) e := by
      blk_ext [e9]
    rw [he]
    exact congrArg₂ Adam.newV (sums m h c t r e) (b5 m h c t r e)
end

section
open Cert.Reference20Ideal.Read

/-- The reference's own slab. -/
theorem ref_own (x0 : IVec ⟨1, ![4]⟩ 32) (h : (x0 (ix1 0)).toNat < 8) (x1 : S8x512x4096.Idx → EReal) (r : Fin 512) (e : Fin 4096) :
    val_main_v2 (F := Ideal) x0 x1 (ix2 r e) = x1 (ix3 ⟨(x0 (ix1 0)).toNat, h⟩ r e) := by
  have hr := r.isLt
  have he := e.isLt
  rw [val_main_v2_apply]
  rw [show idx_main_v2 (ix2 r e) = ix3 0 r e from by
    funext a
    fin_cases a
    · rfl
    · refine Fin.ext ?_
      show (r.val * 4096 + e.val) / 4096 % 512 = r.val
      omega
    · refine Fin.ext ?_
      show (r.val * 4096 + e.val) % 4096 = e.val
      omega]
  refine OwnSlab.gather_eq _ _ _ 0 r e ⟨(x0 (ix1 0)).toNat, h⟩ ?_
  rw [val_main_call0_v0_apply]
  rw [val_main_v0_apply]
  rw [show idx_main_v0 (idx_main_call0_v0 (ix2 0 0)) = ix1 0 from by funext a; fin_cases a; rfl]
  exact OwnSlab.toInt_of_lt _ 8 (by decide) h

/-- The reference's slab from next door. -/
theorem ref_got (x2 : S4x512x4096.Idx → EReal) (r : Fin 512) (e : Fin 4096) : val_main_v4 (F := Ideal) x2 (ix2 r e) = x2 (ix3 0 r e) := by
  unfold val_main_v4 val_main_v3
  pointwise

/-- The reference's gradient. -/
theorem ref_grad (x0 : IVec ⟨1, ![4]⟩ 32) (h : (x0 (ix1 0)).toNat < 8) (x1 : S8x512x4096.Idx → EReal) (x2 : S4x512x4096.Idx → EReal) (x3 : S3x512x4096.Idx → EReal) (r : Fin 512) (e : Fin 4096) :
    val_main_v8 (F := Ideal) x0 x1 x2 x3 (ix2 r e) = G ⟨(x0 (ix1 0)).toNat, h⟩ x1 x2 x3 r e := by
  have h7 : val_main_v7 (F := Ideal) x3 (ix2 r e) = ∑ k, x3 (ix3 k r e) := by
    unfold val_main_v7 val_main_v6 val_main_cst
    pointwise
  rw [val_main_v8_apply, val_main_v5_apply, ref_own x0 h, ref_got, h7]
  exact OwnSlab.total_eq _ _ _

/-- The reference's first moment. -/
theorem ref_m (x0 : IVec ⟨1, ![4]⟩ 32) (h : (x0 (ix1 0)).toNat < 8) (x1 : S8x512x4096.Idx → EReal) (x2 : S4x512x4096.Idx → EReal) (x3 : S3x512x4096.Idx → EReal) (x5 : S512x4096.Idx → EReal) (r : Fin 512) (e : Fin 4096) :
    val_main_v13 (F := Ideal) x0 x1 x2 x3 x5 (ix2 r e) = Adam.newM (G ⟨(x0 (ix1 0)).toNat, h⟩ x1 x2 x3 r e) (x5 (ix2 r e)) := by
  rw [← ref_grad]
  unfold val_main_v13 val_main_v12 val_main_v11 val_main_v10 val_main_v9 val_main_cst_0 val_main_cst_1 Adam.newM
  pointwise

/-- The reference's second moment. -/
theorem ref_v (x0 : IVec ⟨1, ![4]⟩ 32) (h : (x0 (ix1 0)).toNat < 8) (x1 : S8x512x4096.Idx → EReal) (x2 : S4x512x4096.Idx → EReal) (x3 : S3x512x4096.Idx → EReal) (x6 : S512x4096.Idx → EReal) (r : Fin 512) (e : Fin 4096) :
    val_main_v19 (F := Ideal) x0 x1 x2 x3 x6 (ix2 r e) = Adam.newV (G ⟨(x0 (ix1 0)).toNat, h⟩ x1 x2 x3 r e) (x6 (ix2 r e)) := by
  rw [← ref_grad]
  unfold val_main_v19 val_main_v18 val_main_v17 val_main_v16 val_main_v15 val_main_v14 val_main_cst_2 val_main_cst_3 Adam.newV
  pointwise

/-- The reference's change of the weights. -/
theorem ref_delta (x0 : IVec ⟨1, ![4]⟩ 32) (h : (x0 (ix1 0)).toNat < 8) (x1 : S8x512x4096.Idx → EReal) (x2 : S4x512x4096.Idx → EReal) (x3 : S3x512x4096.Idx → EReal) (x4 x5 x6 : S512x4096.Idx → EReal) (r : Fin 512) (e : Fin 4096) :
    val_main_v32 (F := Ideal) x0 x1 x2 x3 x4 x5 x6 (ix2 r e) = Adam.delta (x4 (ix2 r e)) (G ⟨(x0 (ix1 0)).toNat, h⟩ x1 x2 x3 r e) (x5 (ix2 r e)) (x6 (ix2 r e)) := by
  unfold Adam.delta
  rw [← ref_m, ← ref_v]
  unfold val_main_v32 val_main_v31 val_main_v30 val_main_v29 val_main_v28 val_main_v27 val_main_v26 val_main_v25 val_main_v24 val_main_v23 val_main_v22 val_main_v21 val_main_v20 val_main_cst_4 val_main_cst_5 val_main_cst_6 val_main_cst_7 val_main_cst_8
  pointwise

end

/-- The call and the reference end with the same arrays. -/
theorem algebraic : Cert.algebraic_Kernel20Ideal_Reference20Ideal (hKernel20Ideal := Cert.Kernel20Ideal.Gen.facts)
      (hReference20Ideal := Cert.Reference20Ideal.Gen.facts) (hPre_own_exists20 := Cert.Pre_own_exists20.Gen.facts) := by
  intro m g m' g' hpre hag
  have h : slab m < 8 := OwnSlab.below20 _ _ _ _ _ _ _ (hpre 0)
  refine ⟨fun c => (dats m (ok m h) 0 c).arrAt 6 (cfgM m (ok m h)).N, fun c => (dats m (ok m h) 0 c).arrAt 7 (cfgM m (ok m h)).N,
    fun c => (dats m (ok m h) 0 c).arrAt 8 (cfgM m (ok m h)).N, fun c => (dats m (ok m h) 0 c).arrAt 9 (cfgM m (ok m h)).N, ?_, ?_⟩
  · refine (θ_run _ _ _).mono (fun r hr c => ⟨(hr c).1 6, (hr c).1 7, (hr c).1 8, (hr c).1 9, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c))),
      ((hr c).1 2).trans (((dats m (ok m h) 0 c).arrAt_in 2 rfl _).trans ((A_eq m (ok m h) c 2).trans (V_main_arg3 m c))),
      ((hr c).1 3).trans (((dats m (ok m h) 0 c).arrAt_in 3 rfl _).trans ((A_eq m (ok m h) c 3).trans (V_main_arg4 m c))),
      ((hr c).1 4).trans (((dats m (ok m h) 0 c).arrAt_in 4 rfl _).trans ((A_eq m (ok m h) c 4).trans (V_main_arg5 m c))),
      ((hr c).1 5).trans (((dats m (ok m h) 0 c).arrAt_in 5 rfl _).trans ((A_eq m (ok m h) c 5).trans (V_main_arg6 m c)))⟩
  · refine (θ_run _ _ _).mono (fun r hr c => ?_) (Cert.Reference20Ideal.Value.run (F := Ideal) m' g')
    obtain ⟨h0, h1, h2, h3, ha⟩ := hr c
    obtain ⟨e0, e1, e2, e3, e4, e5, e6⟩ := hag c
    obtain rfl : c = 0 := Subsingleton.elim _ _
    refine ⟨h0.trans ?_, h1.trans ?_, h2.trans ?_, h3.trans ?_, ha⟩
    · rw [Cert.Reference20Ideal.Read.val_main_v8_eq, e0, e1, e2, e3]
      refine Eq.trans (funext fun i => ?_) (arr6 m h 0).symm
      obtain ⟨r, e, rfl⟩ := Products.idx2 (a := 512) (b := 4096) i
      exact ref_grad _ h _ _ _ r e
    · rw [Cert.Reference20Ideal.Read.val_main_v32_eq, e0, e1, e2, e3, e4, e5, e6]
      refine Eq.trans (funext fun i => ?_) (arr7 m h 0).symm
      obtain ⟨r, e, rfl⟩ := Products.idx2 (a := 512) (b := 4096) i
      exact ref_delta _ h _ _ _ _ _ _ r e
    · rw [Cert.Reference20Ideal.Read.val_main_v13_eq, e0, e1, e2, e3, e5]
      refine Eq.trans (funext fun i => ?_) (arr8 m h 0).symm
      obtain ⟨r, e, rfl⟩ := Products.idx2 (a := 512) (b := 4096) i
      exact ref_m _ h _ _ _ _ r e
    · rw [Cert.Reference20Ideal.Read.val_main_v19_eq, e0, e1, e2, e3, e6]
      refine Eq.trans (funext fun i => ?_) (arr9 m h 0).symm
      obtain ⟨r, e, rfl⟩ := Products.idx2 (a := 512) (b := 4096) i
      exact ref_v _ h _ _ _ _ r e

end Cert.AdamWOut
-- ==== Proof.AdamPoolW.lean ====
module

public import proofs.«01_k».proof.Proof.Gen.Kernel21Ideal.Frame
public import proofs.«01_k».proof.Proof.Gen.Reference21Ideal.Run
public import proofs.«01_k».proof.Proof.Gen.Reference21Ideal.Read
public import proofs.«01_k».proof.Defs
public import proofs.«01_k».proof.Proof.Products
public import proofs.«01_k».proof.Proof.OwnSlab
public import proofs.«01_k».proof.Proof.Adam
public import Idealize.ShloMosaic.Lib.Pipeline.ValueKit
public import Idealize.ShloMosaic.Lib.Pipeline.ReadBack
public import Idealize.ShloMosaic.Lib.Pipeline.Covers
public import Idealize.ShloMosaic.Lib.Pointwise

/-!
  The optimiser step of the pooling weights: the gradient is the own slab, the slab that came from next door and the three that came from afar,
  added up; then one AdamW step on the device's own rows. One block.
-/

@[expose] public section
set_option maxRecDepth 16384
noncomputable section
open Idealize.ShloMosaic Idealize.ShloMosaic.TcCoe Idealize.SL.Sem
open Cert.Kernel21Ideal Cert.Kernel21Ideal.Gen

namespace Cert.AdamPoolW

section
variable {F : FTy → Type} [FloatOps F] (m : (ℓ : Loc nD τ sig) → Buf (Elt F) ℓ)

/-- The number of the own slab. -/
def slab : ℕ := BitVec.toNat (m (((0 : Dev nD) : Thread nD τ).loc main_arg0) (ix1 0))

/-- The block of the stack that a grid point reads: its rows of the own slab. -/
theorem column (i : grid0.Coords) : cc0_transform_0 Facts₀.inb_S4_S1_0 Facts₀.numel1_S1 (tbl m) i = ![slab m, (i 0).val, 0] := by
  unfold cc0_transform_0 slab
  funext a
  fin_cases a
  · show BitVec.toNat (m (((0 : Dev nD) : Thread nD τ).loc main_arg0) _) = BitVec.toNat (m (((0 : Dev nD) : Thread nD τ).loc main_arg0) (ix1 0))
    congr 2
    funext b
    fin_cases b
    rfl
  · have h : (i 0).val < 1 := (i 0).isLt
    show (BitVec.ofNat 32 (i 0).val).toNat = (i 0).val
    rw [BitVec.toNat_ofNat]
    omega
  · rfl

/-- Every block lies in its array when the slab number is below 4. -/
theorem ok (h : slab m < 4) : Ok m := by
  intro i
  rw [column m i]
  generalize slab m = v at h
  have hi : (i 0).val < 1 := (i 0).isLt
  refine ⟨fun a => ?_, ?_⟩
  · fin_cases a
    · show (v + 1) * 1 ≤ 4
      omega
    · show ((i 0).val + 1) * 256 ≤ 256
      omega
    · show (0 + 1) * 512 ≤ 512
      omega
  · exact Or.inl rfl

/-- The blocks at point `t`. -/
theorem idx (hO : Ok m) (t : Fin (cfgM m hO).N) : ((cfgM m hO).win 0).index t = ![slab m, t.val, 0] ∧ ((cfgM m hO).win 1).index t = ![0, t.val, 0]
    ∧ ((cfgM m hO).win 2).index t = ![0, t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] ∧ ((cfgM m hO).win 9).index t = ![t.val, 0] := by
  have h : ∀ t : Fin grid0.N, (grid0.coords t 0).val = t.val ∧ cc0_transform_1 (grid0.coords t) = ![0, t.val, 0] ∧ cc0_transform_2 (grid0.coords t) = ![0, t.val, 0]
      ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0]
      ∧ cc0_transform_9 (grid0.coords t) = ![t.val, 0] := by decide +kernel
  obtain ⟨h0, h1, h2, h3, h4, h5, h6, h7, h8, h9⟩ := h t
  refine ⟨(column m (grid0.coords t)).trans ?_, h1, h2, h3, h4, h5, h6, h7, h8, h9⟩
  rw [h0]
end

/-- The sum of the five slabs. -/
theorem pay2 (v0 v2 : Vec Ideal S1x256x512 .f32) (v5 v9 v13 : Vec Ideal S1x256x512 .bf16) (r : Fin 256) (e : Fin 512) :
    k0_pay2 (F := Ideal) v0 v2 v5 v9 v13 (ix2 r e) = OwnSlab.total (v0 (ix3 0 r e)) (v2 (ix3 0 r e)) ![v5 (ix3 0 r e), v9 (ix3 0 r e), v13 (ix3 0 r e)] := by
  unfold k0_pay2 OwnSlab.total
  pointwise

/-- The first moment from the sum. -/
theorem pay3 (v0 v2 : Vec Ideal S1x256x512 .f32) (v5 v9 v13 : Vec Ideal S1x256x512 .bf16) (v18 : Vec Ideal S256x512 .f32) (r : Fin 256) (e : Fin 512) :
    k0_pay3 (F := Ideal) v0 v2 v5 v9 v13 v18 (ix2 r e) = Adam.newM (k0_pay2 (F := Ideal) v0 v2 v5 v9 v13 (ix2 r e)) (v18 (ix2 r e)) := by
  unfold k0_pay3 Adam.newM
  pointwise

/-- The second moment from the sum. -/
theorem pay4 (v0 v2 : Vec Ideal S1x256x512 .f32) (v5 v9 v13 : Vec Ideal S1x256x512 .bf16) (v19 : Vec Ideal S256x512 .f32) (r : Fin 256) (e : Fin 512) :
    k0_pay4 (F := Ideal) v0 v2 v5 v9 v13 v19 (ix2 r e) = Adam.newV (k0_pay2 (F := Ideal) v0 v2 v5 v9 v13 (ix2 r e)) (v19 (ix2 r e)) := by
  unfold k0_pay4 Adam.newV
  pointwise

/-- The change of the weights from the sum and the moments. -/
theorem pay1 (v0 v2 : Vec Ideal S1x256x512 .f32) (v5 v9 v13 : Vec Ideal S1x256x512 .bf16) (v17 v18 v19 : Vec Ideal S256x512 .f32) (r : Fin 256) (e : Fin 512) :
    k0_pay1 (F := Ideal) v17 (k0_pay4 v0 v2 v5 v9 v13 v19) (k0_pay5 v0 v2 v5 v9 v13 v18) (ix2 r e)
      = Adam.delta (v17 (ix2 r e)) (k0_pay2 (F := Ideal) v0 v2 v5 v9 v13 (ix2 r e)) (v18 (ix2 r e)) (v19 (ix2 r e)) := by
  unfold Adam.delta
  rw [← pay3, ← pay4]
  unfold k0_pay1 k0_pay5
  pointwise

/-- The `k`th slab of three. -/
theorem part (x2 : Vec Ideal S3x256x512 .bf16) (off : Fin 3 → ℕ) (k : Fin 3) (h0 : off 0 = k.val) (h1 : off 1 = 0) (h2 : off 2 = 0) (inb) (r : Fin 256) (e : Fin 512) :
    View.ld (Val := Elt Ideal) (e' := .bf16) x2 (Rect.unit (s := S3x256x512) off S1x256x512.size inb) (ix3 0 r e) = x2 (ix3 k r e) := by
  refine View.ld_unit_apply_of x2 off _ inb (ix3 0 r e) (ix3 k r e) fun a => ?_
  fin_cases a
  · exact h0.symm
  · exact (Nat.zero_add _).symm.trans (congrArg (· + r.val) h1.symm)
  · exact (Nat.zero_add _).symm.trans (congrArg (· + e.val) h2.symm)

/-- The gradient that a block adds up, its three far slabs loaded one by one. -/
theorem sum (x0 x1 : Vec Ideal S1x256x512 .f32) (x2 : Vec Ideal S3x256x512 .bf16) (i0 i1 i2) (r : Fin 256) (e : Fin 512) :
    k0_pay2 (F := Ideal) x0 x1 (View.ld (Val := Elt Ideal) (e' := .bf16) x2 (Rect.unit (s := S3x256x512) ![0, 0, 0] S1x256x512.size i0))
      (View.ld (Val := Elt Ideal) (e' := .bf16) x2 (Rect.unit (s := S3x256x512) ![1, 0, 0] S1x256x512.size i1)) (View.ld (Val := Elt Ideal) (e' := .bf16) x2 (Rect.unit (s := S3x256x512) ![2, 0, 0] S1x256x512.size i2)) (ix2 r e)
      = OwnSlab.total (x0 (ix3 0 r e)) (x1 (ix3 0 r e)) (fun k => x2 (ix3 k r e)) := by
  rw [pay2, part x2 ![0, 0, 0] 0 rfl rfl rfl, part x2 ![1, 0, 0] 1 rfl rfl rfl, part x2 ![2, 0, 0] 2 rfl rfl rfl]
  rfl

/-- One block's gradient. -/
theorem block6 (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S3x256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole)
    (x0 : Vec Ideal S1x256x512 .f32) (x1 : Vec Ideal S1x256x512 .f32) (x2 : Vec Ideal S3x256x512 .bf16) (x3 x4 x5 : Vec Ideal S256x512 .f32) (xt0 : TbBuf0 (F := Ideal) c tbM0_0)
    (r : Fin 256) (e : Fin 512) :
    out0_A_6 c i arg2 harg2 arg3 harg3 arg4 harg4 arg5 harg5 arg6 harg6 arg7 harg7 arg8 harg8 arg9 harg9 arg10 harg10 arg11 harg11 x0 x1 x2 x3 x4 x5 xt0 (ix2 r e) = OwnSlab.total (x0 (ix3 0 r e)) (x1 (ix3 0 r e)) (fun k => x2 (ix3 k r e)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  exact sum _ _ _ _ _ _ r e

/-- One block's change of the weights. -/
theorem block7 (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S3x256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole)
    (x0 : Vec Ideal S1x256x512 .f32) (x1 : Vec Ideal S1x256x512 .f32) (x2 : Vec Ideal S3x256x512 .bf16) (x3 x4 x5 : Vec Ideal S256x512 .f32) (xt0 : TbBuf0 (F := Ideal) c tbM0_0)
    (r : Fin 256) (e : Fin 512) :
    out0_A_7 c i arg2 harg2 arg3 harg3 arg4 harg4 arg5 harg5 arg6 harg6 arg7 harg7 arg8 harg8 arg9 harg9 arg10 harg10 arg11 harg11 x0 x1 x2 x3 x4 x5 xt0 (ix2 r e) = Adam.delta (x3 (ix2 r e)) (OwnSlab.total (x0 (ix3 0 r e)) (x1 (ix3 0 r e)) (fun k => x2 (ix3 k r e))) (x4 (ix2 r e)) (x5 (ix2 r e)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay1 _ _ _ _ _ _ _ _ r e).trans ?_
  rw [sum]

/-- One block's first moment. -/
theorem block8 (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S3x256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole)
    (x0 : Vec Ideal S1x256x512 .f32) (x1 : Vec Ideal S1x256x512 .f32) (x2 : Vec Ideal S3x256x512 .bf16) (x3 x4 x5 : Vec Ideal S256x512 .f32) (xt0 : TbBuf0 (F := Ideal) c tbM0_0)
    (r : Fin 256) (e : Fin 512) :
    out0_A_8 c i arg2 harg2 arg3 harg3 arg4 harg4 arg5 harg5 arg6 harg6 arg7 harg7 arg8 harg8 arg9 harg9 arg10 harg10 arg11 harg11 x0 x1 x2 x3 x4 x5 xt0 (ix2 r e) = Adam.newM (OwnSlab.total (x0 (ix3 0 r e)) (x1 (ix3 0 r e)) (fun k => x2 (ix3 k r e))) (x4 (ix2 r e)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay3 _ _ _ _ _ _ r e).trans ?_
  rw [sum]

/-- One block's second moment. -/
theorem block9 (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S3x256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole)
    (x0 : Vec Ideal S1x256x512 .f32) (x1 : Vec Ideal S1x256x512 .f32) (x2 : Vec Ideal S3x256x512 .bf16) (x3 x4 x5 : Vec Ideal S256x512 .f32) (xt0 : TbBuf0 (F := Ideal) c tbM0_0)
    (r : Fin 256) (e : Fin 512) :
    out0_A_9 c i arg2 harg2 arg3 harg3 arg4 harg4 arg5 harg5 arg6 harg6 arg7 harg7 arg8 harg8 arg9 harg9 arg10 harg10 arg11 harg11 x0 x1 x2 x3 x4 x5 xt0 (ix2 r e) = Adam.newV (OwnSlab.total (x0 (ix3 0 r e)) (x1 (ix3 0 r e)) (fun k => x2 (ix3 k r e))) (x5 (ix2 r e)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread]
  repeat rw [View.ld_unit_zero (by funext a; fin_cases a <;> rfl)]
  refine (pay4 _ _ _ _ _ _ r e).trans ?_
  rw [sum]

section
variable (m : (ℓ : Loc nD τ sig) → Buf (Elt Ideal) ℓ)

/-- A row of the block at point `t`. -/
abbrev at_ {m : (ℓ : Loc nD τ sig) → Buf (Elt Ideal) ℓ} {hO : Ok m} (t : Fin (cfgM m hO).N) (r : Fin 256) : Fin 256 := ⟨t.val * 256 + r.val, by have : t.val < 1 := t.isLt; omega⟩

/-- The arguments. -/
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-- The block of one's own slab. -/
theorem b0 (h : slab m < 4) (c : Dev nD) (t : Fin (cfgM m (ok m h)).N) (r : Fin 256) (e : Fin 512) : iblk m (ok m h) c 0 t (ix3 0 r e) = a1 m c (ix3 ⟨slab m, h⟩ (at_ t r) e) := by
  obtain ⟨e0, e1, e2, e3, e4, e5, e6, e7, e8, e9⟩ := idx m (ok m h) t
  blk_ext [iblk, e0]

/-- The block of the slab from next door. -/
theorem b1 (h : slab m < 4) (c : Dev nD) (t : Fin (cfgM m (ok m h)).N) (r : Fin 256) (e : Fin 512) : iblk m (ok m h) c 1 t (ix3 0 r e) = a2 m c (ix3 0 (at_ t r) e) := by
  obtain ⟨e0, e1, e2, e3, e4, e5, e6, e7, e8, e9⟩ := idx m (ok m h) t
  blk_ext [iblk, e1]

/-- The block of the slabs from afar. -/
theorem b2 (h : slab m < 4) (c : Dev nD) (t : Fin (cfgM m (ok m h)).N) (k : Fin 3) (r : Fin 256) (e : Fin 512) : iblk m (ok m h) c 2 t (ix3 k r e) = a3 m c (ix3 k (at_ t r) e) := by
  obtain ⟨e0, e1, e2, e3, e4, e5, e6, e7, e8, e9⟩ := idx m (ok m h) t
  blk_ext [iblk, e2]

/-- The block of the weights. -/
theorem b3 (h : slab m < 4) (c : Dev nD) (t : Fin (cfgM m (ok m h)).N) (r : Fin 256) (e : Fin 512) : iblk m (ok m h) c 3 t (ix2 r e) = a4 m c (ix2 (at_ t r) e) := by
  obtain ⟨e0, e1, e2, e3, e4, e5, e6, e7, e8, e9⟩ := idx m (ok m h) t
  blk_ext [iblk, e3]

/-- The block of the old first moment. -/
theorem b4 (h : slab m < 4) (c : Dev nD) (t : Fin (cfgM m (ok m h)).N) (r : Fin 256) (e : Fin 512) : iblk m (ok m h) c 4 t (ix2 r e) = a5 m c (ix2 (at_ t r) e) := by
  obtain ⟨e0, e1, e2, e3, e4, e5, e6, e7, e8, e9⟩ := idx m (ok m h) t
  blk_ext [iblk, e4]

/-- The block of the old second moment. -/
theorem b5 (h : slab m < 4) (c : Dev nD) (t : Fin (cfgM m (ok m h)).N) (r : Fin 256) (e : Fin 512) : iblk m (ok m h) c 5 t (ix2 r e) = a6 m c (ix2 (at_ t r) e) := by
  obtain ⟨e0, e1, e2, e3, e4, e5, e6, e7, e8, e9⟩ := idx m (ok m h) t
  blk_ext [iblk, e5]

/-- The gradient at a row and a column: the slab `v` of one's own, the one from next door and the three from afar. -/
def G (v : Fin 4) (x1 : S4x256x512.Idx → EReal) (x2 : S4x256x512.Idx → EReal) (x3 : S3x256x512.Idx → EReal) (r : Fin 256) (e : Fin 512) : EReal :=
  OwnSlab.total (x1 (ix3 v r e)) (x2 (ix3 0 r e)) (fun k => x3 (ix3 k r e))

/-- The gradient that the block at point `t` adds up. -/
theorem sums (h : slab m < 4) (c : Dev nD) (t : Fin (cfgM m (ok m h)).N) (r : Fin 256) (e : Fin 512) :
    OwnSlab.total (iblk m (ok m h) c 0 t (ix3 0 r e)) (iblk m (ok m h) c 1 t (ix3 0 r e)) (fun k => iblk m (ok m h) c 2 t (ix3 k r e)) = G ⟨slab m, h⟩ (a1 m c) (a2 m c) (a3 m c) (at_ t r) e :=
  congr (congrArg₂ OwnSlab.total (b0 m h c t r e) (b1 m h c t r e)) (funext fun k => b2 m h c t k r e)

/-- Every tile of the results is written at some point. -/
theorem tile (hO : Ok m) (β : (a : Fin 2) → Fin ((S256x512.size a + S256x512.size a - 1) / S256x512.size a)) : ∃ t : Fin (cfgM m hO).N, t.val = (β 0).val ∧ 0 = (β 1).val := by
  have b0 : (β (0 : Fin 2)).val < 1 := lt_of_lt_of_eq (β (0 : Fin 2)).isLt (by decide : (S256x512.size 0 + S256x512.size 0 - 1) / S256x512.size 0 = 1)
  have b1 : (β (1 : Fin 2)).val < 1 := lt_of_lt_of_eq (β (1 : Fin 2)).isLt (by decide : (S256x512.size 1 + S256x512.size 1 - 1) / S256x512.size 1 = 1)
  exact ⟨⟨(β (0 : Fin 2)).val, by show _ < 1; exact b0⟩, rfl, by omega⟩

/-- The call's gradient. -/
theorem arr6 (h : slab m < 4) (c : Dev nD) : (dats m (ok m h) 0 c).arrAt 6 (cfgM m (ok m h)).N = fun i : S256x512.Idx => G ⟨slab m, h⟩ (a1 m c) (a2 m c) (a3 m c) (i 0) (i 1) := by
  refine (dats m (ok m h) 0 c).arrAt_eq_of_covers 6 _ ?_ fun t hf y => ?_
  · refine Pipeline.Window.covers_of_index_surj _ rfl (by decide : ∀ a : Fin 2, 0 < S256x512.size a) fun β => ?_
    obtain ⟨t, h0, h1⟩ := tile m (ok m h) β
    obtain ⟨-, -, -, -, -, -, e6, e7, e8, e9⟩ := idx m (ok m h) t
    exact ⟨t, fun a => by rw [e6]; fin_cases a; exacts [h0, h1]⟩
  · obtain ⟨e0, e1, e2, e3, e4, e5, e6, e7, e8, e9⟩ := idx m (ok m h) t
    obtain ⟨r, e, rfl⟩ := Products.idx2 (a := 256) (b := 512) y
    blk_simp
    rw [after0_6]
    unfold outsAt0
    dsimp only
    refine (block6 _ _ _ _ _ _ _ _ _ _ _ _ _ _ _ _ _ _ _ _ _ _ _ _ _ _ _ _ _ r e).trans ?_
    have he : (((cfgM m (ok m h)).win 6).blk t).view.emb (ix2 r e) = ix2 (at_ t r) e := by
      blk_ext [e6]
    rw [he]
    exact sums m h c t r e

/-- The call's change of the weights. -/
theorem arr7 (h : slab m < 4) (c : Dev nD) : (dats m (ok m h) 0 c).arrAt 7 (cfgM m (ok m h)).N = fun i : S256x512.Idx => Adam.delta (a4 m c i) (G ⟨slab m, h⟩ (a1 m c) (a2 m c) (a3 m c) (i 0) (i 1)) (a5 m c i) (a6 m c i) := by
  refine (dats m (ok m h) 0 c).arrAt_eq_of_covers 7 _ ?_ fun t hf y => ?_
  · refine Pipeline.Window.covers_of_index_surj _ rfl (by decide : ∀ a : Fin 2, 0 < S256x512.size a) fun β => ?_
    obtain ⟨t, h0, h1⟩ := tile m (ok m h) β
    obtain ⟨-, -, -, -, -, -, e6, e7, e8, e9⟩ := idx m (ok m h) t
    exact ⟨t, fun a => by rw [e7]; fin_cases a; exacts [h0, h1]⟩
  · obtain ⟨e0, e1, e2, e3, e4, e5, e6, e7, e8, e9⟩ := idx m (ok m h) t
    obtain ⟨r, e, rfl⟩ := Products.idx2 (a := 256) (b := 512) y
    blk_simp
    rw [after0_7]
    unfold outsAt0
    dsimp only
    refine (block7 _ _ _ _ _ _ _ _ _ _ _ _ _ _ _ _ _ _ _ _ _ _ _ _ _ _ _ _ _ r e).trans ?_
    have he : (((cfgM m (ok m h)).win 7).blk t).view.emb (ix2 r e) = ix2 (at_ t r) e := by
      blk_ext [e7]
    rw [he]
    exact congr (congr (congrArg₂ Adam.delta (b3 m h c t r e) (sums m h c t r e)) (b4 m h c t r e)) (b5 m h c t r e)

/-- The call's first moment. -/
theorem arr8 (h : slab m < 4) (c : Dev nD) : (dats m (ok m h) 0 c).arrAt 8 (cfgM m (ok m h)).N = fun i : S256x512.Idx => Adam.newM (G ⟨slab m, h⟩ (a1 m c) (a2 m c) (a3 m c) (i 0) (i 1)) (a5 m c i) := by
  refine (dats m (ok m h) 0 c).arrAt_eq_of_covers 8 _ ?_ fun t hf y => ?_
  · refine Pipeline.Window.covers_of_index_surj _ rfl (by decide : ∀ a : Fin 2, 0 < S256x512.size a) fun β => ?_
    obtain ⟨t, h0, h1⟩ := tile m (ok m h) β
    obtain ⟨-, -, -, -, -, -, e6, e7, e8, e9⟩ := idx m (ok m h) t
    exact ⟨t, fun a => by rw [e8]; fin_cases a; exacts [h0, h1]⟩
  · obtain ⟨e0, e1, e2, e3, e4, e5, e6, e7, e8, e9⟩ := idx m (ok m h) t
    obtain ⟨r, e, rfl⟩ := Products.idx2 (a := 256) (b := 512) y
    blk_simp
    rw [after0_8]
    unfold outsAt0
    dsimp only
    refine (block8 _ _ _ _ _ _ _ _ _ _ _ _ _ _ _ _ _ _ _ _ _ _ _ _ _ _ _ _ _ r e).trans ?_
    have he : (((cfgM m (ok m h)).win 8).blk t).view.emb (ix2 r e) = ix2 (at_ t r) e := by
      blk_ext [e8]
    rw [he]
    exact congrArg₂ Adam.newM (sums m h c t r e) (b4 m h c t r e)

/-- The call's second moment. -/
theorem arr9 (h : slab m < 4) (c : Dev nD) : (dats m (ok m h) 0 c).arrAt 9 (cfgM m (ok m h)).N = fun i : S256x512.Idx => Adam.newV (G ⟨slab m, h⟩ (a1 m c) (a2 m c) (a3 m c) (i 0) (i 1)) (a6 m c i) := by
  refine (dats m (ok m h) 0 c).arrAt_eq_of_covers 9 _ ?_ fun t hf y => ?_
  · refine Pipeline.Window.covers_of_index_surj _ rfl (by decide : ∀ a : Fin 2, 0 < S256x512.size a) fun β => ?_
    obtain ⟨t, h0, h1⟩ := tile m (ok m h) β
    obtain ⟨-, -, -, -, -, -, e6, e7, e8, e9⟩ := idx m (ok m h) t
    exact ⟨t, fun a => by rw [e9]; fin_cases a; exacts [h0, h1]⟩
  · obtain ⟨e0, e1, e2, e3, e4, e5, e6, e7, e8, e9⟩ := idx m (ok m h) t
    obtain ⟨r, e, rfl⟩ := Products.idx2 (a := 256) (b := 512) y
    blk_simp
    rw [after0_9]
    unfold outsAt0
    dsimp only
    refine (block9 _ _ _ _ _ _ _ _ _ _ _ _ _ _ _ _ _ _ _ _ _ _ _ _ _ _ _ _ _ r e).trans ?_
    have he : (((cfgM m (ok m h)).win 9).blk t).view.emb (ix2 r e) = ix2 (at_ t r) e := by
      blk_ext [e9]
    rw [he]
    exact congrArg₂ Adam.newV (sums m h c t r e) (b5 m h c t r e)
end

section
open Cert.Reference21Ideal.Read

/-- The reference's own slab. -/
theorem ref_own (x0 : IVec ⟨1, ![4]⟩ 32) (h : (x0 (ix1 0)).toNat < 4) (x1 : S4x256x512.Idx → EReal) (r : Fin 256) (e : Fin 512) :
    val_main_v2 (F := Ideal) x0 x1 (ix2 r e) = x1 (ix3 ⟨(x0 (ix1 0)).toNat, h⟩ r e) := by
  have hr := r.isLt
  have he := e.isLt
  rw [val_main_v2_apply]
  rw [show idx_main_v2 (ix2 r e) = ix3 0 r e from by
    funext a
    fin_cases a
    · rfl
    · refine Fin.ext ?_
      show (r.val * 512 + e.val) / 512 % 256 = r.val
      omega
    · refine Fin.ext ?_
      show (r.val * 512 + e.val) % 512 = e.val
      omega]
  refine OwnSlab.gather_eq _ _ _ 0 r e ⟨(x0 (ix1 0)).toNat, h⟩ ?_
  rw [val_main_call0_v0_apply]
  rw [val_main_v0_apply]
  rw [show idx_main_v0 (idx_main_call0_v0 (ix2 0 0)) = ix1 0 from by funext a; fin_cases a; rfl]
  exact OwnSlab.toInt_of_lt _ 4 (by decide) h

/-- The reference's slab from next door. -/
theorem ref_got (x2 : S4x256x512.Idx → EReal) (r : Fin 256) (e : Fin 512) : val_main_v4 (F := Ideal) x2 (ix2 r e) = x2 (ix3 0 r e) := by
  unfold val_main_v4 val_main_v3
  pointwise

/-- The reference's gradient. -/
theorem ref_grad (x0 : IVec ⟨1, ![4]⟩ 32) (h : (x0 (ix1 0)).toNat < 4) (x1 : S4x256x512.Idx → EReal) (x2 : S4x256x512.Idx → EReal) (x3 : S3x256x512.Idx → EReal) (r : Fin 256) (e : Fin 512) :
    val_main_v8 (F := Ideal) x0 x1 x2 x3 (ix2 r e) = G ⟨(x0 (ix1 0)).toNat, h⟩ x1 x2 x3 r e := by
  have h7 : val_main_v7 (F := Ideal) x3 (ix2 r e) = ∑ k, x3 (ix3 k r e) := by
    unfold val_main_v7 val_main_v6 val_main_cst
    pointwise
  rw [val_main_v8_apply, val_main_v5_apply, ref_own x0 h, ref_got, h7]
  exact OwnSlab.total_eq _ _ _

/-- The reference's first moment. -/
theorem ref_m (x0 : IVec ⟨1, ![4]⟩ 32) (h : (x0 (ix1 0)).toNat < 4) (x1 : S4x256x512.Idx → EReal) (x2 : S4x256x512.Idx → EReal) (x3 : S3x256x512.Idx → EReal) (x5 : S256x512.Idx → EReal) (r : Fin 256) (e : Fin 512) :
    val_main_v13 (F := Ideal) x0 x1 x2 x3 x5 (ix2 r e) = Adam.newM (G ⟨(x0 (ix1 0)).toNat, h⟩ x1 x2 x3 r e) (x5 (ix2 r e)) := by
  rw [← ref_grad]
  unfold val_main_v13 val_main_v12 val_main_v11 val_main_v10 val_main_v9 val_main_cst_0 val_main_cst_1 Adam.newM
  pointwise

/-- The reference's second moment. -/
theorem ref_v (x0 : IVec ⟨1, ![4]⟩ 32) (h : (x0 (ix1 0)).toNat < 4) (x1 : S4x256x512.Idx → EReal) (x2 : S4x256x512.Idx → EReal) (x3 : S3x256x512.Idx → EReal) (x6 : S256x512.Idx → EReal) (r : Fin 256) (e : Fin 512) :
    val_main_v19 (F := Ideal) x0 x1 x2 x3 x6 (ix2 r e) = Adam.newV (G ⟨(x0 (ix1 0)).toNat, h⟩ x1 x2 x3 r e) (x6 (ix2 r e)) := by
  rw [← ref_grad]
  unfold val_main_v19 val_main_v18 val_main_v17 val_main_v16 val_main_v15 val_main_v14 val_main_cst_2 val_main_cst_3 Adam.newV
  pointwise

/-- The reference's change of the weights. -/
theorem ref_delta (x0 : IVec ⟨1, ![4]⟩ 32) (h : (x0 (ix1 0)).toNat < 4) (x1 : S4x256x512.Idx → EReal) (x2 : S4x256x512.Idx → EReal) (x3 : S3x256x512.Idx → EReal) (x4 x5 x6 : S256x512.Idx → EReal) (r : Fin 256) (e : Fin 512) :
    val_main_v32 (F := Ideal) x0 x1 x2 x3 x4 x5 x6 (ix2 r e) = Adam.delta (x4 (ix2 r e)) (G ⟨(x0 (ix1 0)).toNat, h⟩ x1 x2 x3 r e) (x5 (ix2 r e)) (x6 (ix2 r e)) := by
  unfold Adam.delta
  rw [← ref_m, ← ref_v]
  unfold val_main_v32 val_main_v31 val_main_v30 val_main_v29 val_main_v28 val_main_v27 val_main_v26 val_main_v25 val_main_v24 val_main_v23 val_main_v22 val_main_v21 val_main_v20 val_main_cst_4 val_main_cst_5 val_main_cst_6 val_main_cst_7 val_main_cst_8
  pointwise

end

/-- The call and the reference end with the same arrays. -/
theorem algebraic : Cert.algebraic_Kernel21Ideal_Reference21Ideal (hKernel21Ideal := Cert.Kernel21Ideal.Gen.facts)
      (hReference21Ideal := Cert.Reference21Ideal.Gen.facts) (hPre_own_exists21 := Cert.Pre_own_exists21.Gen.facts) := by
  intro m g m' g' hpre hag
  have h : slab m < 4 := OwnSlab.below21 _ _ _ _ _ _ _ (hpre 0)
  refine ⟨fun c => (dats m (ok m h) 0 c).arrAt 6 (cfgM m (ok m h)).N, fun c => (dats m (ok m h) 0 c).arrAt 7 (cfgM m (ok m h)).N,
    fun c => (dats m (ok m h) 0 c).arrAt 8 (cfgM m (ok m h)).N, fun c => (dats m (ok m h) 0 c).arrAt 9 (cfgM m (ok m h)).N, ?_, ?_⟩
  · refine (θ_run _ _ _).mono (fun r hr c => ⟨(hr c).1 6, (hr c).1 7, (hr c).1 8, (hr c).1 9, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c))),
      ((hr c).1 2).trans (((dats m (ok m h) 0 c).arrAt_in 2 rfl _).trans ((A_eq m (ok m h) c 2).trans (V_main_arg3 m c))),
      ((hr c).1 3).trans (((dats m (ok m h) 0 c).arrAt_in 3 rfl _).trans ((A_eq m (ok m h) c 3).trans (V_main_arg4 m c))),
      ((hr c).1 4).trans (((dats m (ok m h) 0 c).arrAt_in 4 rfl _).trans ((A_eq m (ok m h) c 4).trans (V_main_arg5 m c))),
      ((hr c).1 5).trans (((dats m (ok m h) 0 c).arrAt_in 5 rfl _).trans ((A_eq m (ok m h) c 5).trans (V_main_arg6 m c)))⟩
  · refine (θ_run _ _ _).mono (fun r hr c => ?_) (Cert.Reference21Ideal.Value.run (F := Ideal) m' g')
    obtain ⟨h0, h1, h2, h3, ha⟩ := hr c
    obtain ⟨e0, e1, e2, e3, e4, e5, e6⟩ := hag c
    obtain rfl : c = 0 := Subsingleton.elim _ _
    refine ⟨h0.trans ?_, h1.trans ?_, h2.trans ?_, h3.trans ?_, ha⟩
    · rw [Cert.Reference21Ideal.Read.val_main_v8_eq, e0, e1, e2, e3]
      refine Eq.trans (funext fun i => ?_) (arr6 m h 0).symm
      obtain ⟨r, e, rfl⟩ := Products.idx2 (a := 256) (b := 512) i
      exact ref_grad _ h _ _ _ r e
    · rw [Cert.Reference21Ideal.Read.val_main_v32_eq, e0, e1, e2, e3, e4, e5, e6]
      refine Eq.trans (funext fun i => ?_) (arr7 m h 0).symm
      obtain ⟨r, e, rfl⟩ := Products.idx2 (a := 256) (b := 512) i
      exact ref_delta _ h _ _ _ _ _ _ r e
    · rw [Cert.Reference21Ideal.Read.val_main_v13_eq, e0, e1, e2, e3, e5]
      refine Eq.trans (funext fun i => ?_) (arr8 m h 0).symm
      obtain ⟨r, e, rfl⟩ := Products.idx2 (a := 256) (b := 512) i
      exact ref_m _ h _ _ _ _ r e
    · rw [Cert.Reference21Ideal.Read.val_main_v19_eq, e0, e1, e2, e3, e6]
      refine Eq.trans (funext fun i => ?_) (arr9 m h 0).symm
      obtain ⟨r, e, rfl⟩ := Products.idx2 (a := 256) (b := 512) i
      exact ref_v _ h _ _ _ _ r e

end Cert.AdamPoolW
-- ==== Proof.PreAddWIn.lean ====
module

public import proofs.«01_k».proof.Proof.Gen.Kernel23Ideal.Frame
public import proofs.«01_k».proof.Proof.Gen.Reference23Ideal.Run
public import proofs.«01_k».proof.Proof.Gen.Reference23Ideal.Read
public import proofs.«01_k».proof.Defs
public import proofs.«01_k».proof.Proof.Products
public import proofs.«01_k».proof.Proof.OwnSlab
public import Idealize.ShloMosaic.Lib.Pipeline.ValueKit
public import Idealize.ShloMosaic.Lib.Pipeline.ReadBack
public import Idealize.ShloMosaic.Lib.Pipeline.Covers
public import Idealize.ShloMosaic.Lib.Pointwise

/-!
  The sums of the input weights' gradient that are sent on to the other chips: three named slabs of the own stack, each added to
  the slab for it that came from next door.
-/

@[expose] public section
set_option maxRecDepth 16384
noncomputable section
open Idealize.ShloMosaic Idealize.ShloMosaic.TcCoe Idealize.SL.Sem
open Cert.Kernel23Ideal Cert.Kernel23Ideal.Gen

namespace Cert.PreAddWIn

section
variable {F : FTy → Type} [FloatOps F] (m : (ℓ : Loc nD τ sig) → Buf (Elt F) ℓ)

/-- The number of the `j`th of the other chips' slabs. -/
def slab (j : Fin 3) : ℕ := BitVec.toNat (m (((0 : Dev nD) : Thread nD τ).loc main_arg0) (ix1 ⟨1 + j.val, by omega⟩))

/-- The block of the stack that a grid point reads: its rows of the slab that the table names. -/
theorem column (i : grid0.Coords) : cc0_transform_0 Facts₀.k0_off1_inb Facts₀.numel1_S1 (tbl m) i = ![slab m (i 0), (i 1).val, 0] := by
  unfold cc0_transform_0 slab
  have h0 : (i 0).val < 3 := (i 0).isLt
  funext a
  fin_cases a
  · show BitVec.toNat (m (((0 : Dev nD) : Thread nD τ).loc main_arg0) _) = BitVec.toNat (m (((0 : Dev nD) : Thread nD τ).loc main_arg0) (ix1 ⟨1 + (i 0).val, by omega⟩))
    congr 2
    funext b
    fin_cases b
    apply Fin.ext
    show (BitVec.ofNat 32 (i 0).val + 1#32).toNat + 1 * 0 = 1 + (i 0).val
    rw [BitVec.toNat_add, BitVec.toNat_ofNat, BitVec.toNat_ofNat]
    omega
  · have h : (i 1).val < 16 := (i 1).isLt
    show (BitVec.ofNat 32 (i 1).val).toNat = (i 1).val
    rw [BitVec.toNat_ofNat]
    omega
  · rfl

/-- Every block lies in its array when every slab number is below 4. -/
theorem ok (h : ∀ j, slab m j < 4) : Ok m := by
  intro i
  rw [column m i]
  have h := h (i 0)
  generalize slab m (i 0) = v at h
  have hi : (i 1).val < 16 := (i 1).isLt
  refine ⟨fun a => ?_, ?_⟩
  · fin_cases a
    · show (v + 1) * 1 ≤ 4
      omega
    · show ((i 1).val + 1) * 256 ≤ 4096
      omega
    · show (0 + 1) * 1152 ≤ 1152
      omega
  · exact Or.inl rfl

/-- The number of grid points. -/
theorem points (hO : Ok m) (t : Fin (cfgM m hO).N) : t.val < 48 := t.isLt

/-- The blocks at point `t`: row tile `t % 16` of slab `t / 16`. -/
theorem idx (hO : Ok m) (t : Fin (cfgM m hO).N) :
    ((cfgM m hO).win 0).index t = ![slab m ⟨t.val / 16, by have := points m hO t; omega⟩, t.val % 16, 0]
    ∧ ((cfgM m hO).win 1).index t = ![1 + t.val / 16, t.val % 16, 0] ∧ ((cfgM m hO).win 2).index t = ![t.val / 16, t.val % 16, 0] := by
  have h : ∀ t : Fin grid0.N, (grid0.coords t 0).val = t.val / 16 ∧ (grid0.coords t 1).val = t.val % 16
      ∧ cc0_transform_1 (grid0.coords t) = ![1 + t.val / 16, t.val % 16, 0] ∧ cc0_transform_2 (grid0.coords t) = ![t.val / 16, t.val % 16, 0] := by decide +kernel
  have ht := points m hO t
  obtain ⟨h0, h0', h1, h2⟩ := h t
  refine ⟨(column m (grid0.coords t)).trans ?_, h1, h2⟩
  rw [h0', show grid0.coords t 0 = (⟨t.val / 16, by omega⟩ : Fin 3) from Fin.ext h0]
end

/-- One block's sum. -/
theorem block (c : Dev nD) (i : grid0.Coords) (arg3 : Memref sig .tc .vmem S1x256x1152 .f32) (harg3 : arg3.IsWhole) (arg4 : Memref sig .tc .vmem S1x256x1152 .f32) (harg4 : arg4.IsWhole)
    (arg5 : Memref sig .tc .vmem S1x256x1152 .bf16) (harg5 : arg5.IsWhole) (x0 x1 : Vec Ideal S1x256x1152 .f32) (xt0 : TbBuf0 (F := Ideal) c tbM0_0)
    (r : Fin 256) (e : Fin 1152) : out0_A_2 c i arg3 harg3 arg4 harg4 arg5 harg5 x0 x1 xt0 (ix3 0 r e) = x0 (ix3 0 r e) + x1 (ix3 0 r e) := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero (by funext a; fin_cases a <;> rfl)]
  simp only [View.readAt_eq_ld, harg3.read_unread, harg4.read_unread]
  repeat rw [View.ld_unit_zero (by funext a; fin_cases a <;> rfl)]
  unfold k0_pay1
  pointwise

section
variable (m : (ℓ : Loc nD τ sig) → Buf (Elt Ideal) ℓ)

/-- The sums: three named slabs of one's own and three of the four that came from next door. -/
def G (v : Fin 3 → Fin 4) (x1 : S4x4096x1152.Idx → EReal) (x2 : S4x4096x1152.Idx → EReal) (j : Fin 3) (r : Fin 4096) (e : Fin 1152) : EReal :=
  x1 (ix3 (v j) r e) + x2 (ix3 ⟨1 + j.val, by omega⟩ r e)

/-- The call's array. -/
theorem array (h : ∀ j, slab m j < 4) (c : Dev nD) : (dats m (ok m h) 0 c).arrAt 2 (cfgM m (ok m h)).N
    = fun i : S3x4096x1152.Idx => G (fun j => ⟨slab m j, h j⟩) (m ((c.tc : Thread nD τ).loc main_arg1)) (m ((c.tc : Thread nD τ).loc main_arg2)) (i 0) (i 1) (i 2) := by
  refine (dats m (ok m h) 0 c).arrAt_eq_of_covers 2 _ ?_ fun t hf y => ?_
  · refine Pipeline.Window.covers_of_index_surj _ rfl (by decide : ∀ a : Fin 3, 0 < S1x256x1152.size a) fun β => ?_
    have b0 : (β (0 : Fin 3)).val < 3 := lt_of_lt_of_eq (β (0 : Fin 3)).isLt (by decide : (S3x4096x1152.size 0 + S1x256x1152.size 0 - 1) / S1x256x1152.size 0 = 3)
    have b1 : (β (1 : Fin 3)).val < 16 := lt_of_lt_of_eq (β (1 : Fin 3)).isLt (by decide : (S3x4096x1152.size 1 + S1x256x1152.size 1 - 1) / S1x256x1152.size 1 = 16)
    have b2 : (β (2 : Fin 3)).val < 1 := lt_of_lt_of_eq (β (2 : Fin 3)).isLt (by decide : (S3x4096x1152.size 2 + S1x256x1152.size 2 - 1) / S1x256x1152.size 2 = 1)
    refine ⟨⟨(β (0 : Fin 3)).val * 16 + (β (1 : Fin 3)).val, ?_⟩, fun a => ?_⟩
    · show _ < 48
      omega
    · rw [(idx m (ok m h) _).2.2]
      fin_cases a
      · show ((β (0 : Fin 3)).val * 16 + (β (1 : Fin 3)).val) / 16 = (β (0 : Fin 3)).val
        omega
      · show ((β (0 : Fin 3)).val * 16 + (β (1 : Fin 3)).val) % 16 = (β (1 : Fin 3)).val
        omega
      · show 0 = (β (2 : Fin 3)).val
        omega
  · obtain ⟨e0, e1, e2⟩ := idx m (ok m h) t
    have ht := points m (ok m h) t
    obtain ⟨r, e, rfl⟩ := OwnSlab.idx3 y
    blk_simp
    rw [after0_2]
    unfold outsAt0
    refine (block _ _ _ _ _ _ _ _ _ _ _ r e).trans ?_
    have he : (((cfgM m (ok m h)).win 2).blk t).view.emb (ix3 0 r e) = ix3 ⟨t.val / 16, by omega⟩ ⟨t.val % 16 * 256 + r.val, by omega⟩ e := by
      blk_ext [e2]
    rw [he]
    unfold G
    refine congrArg₂ (· + ·) ?_ ?_
    · blk_ext [iblk, e0]
      rfl
    · blk_ext [iblk, e1]
end

section
open Cert.Reference23Ideal.Read

/-- The reference's sums. -/
theorem ref (x0 : IVec ⟨1, ![4]⟩ 32) (h : ∀ j : Fin 3, (x0 (ix1 ⟨1 + j.val, by omega⟩)).toNat < 4) (x1 : S4x4096x1152.Idx → EReal) (x2 : S4x4096x1152.Idx → EReal)
    (j : Fin 3) (r : Fin 4096) (e : Fin 1152) :
    val_main_v4 (F := Ideal) x0 x1 x2 (ix3 j r e) = G (fun j => ⟨(x0 (ix1 ⟨1 + j.val, by omega⟩)).toNat, h j⟩) x1 x2 j r e := by
  have h1 : val_main_v1 (F := Ideal) x0 x1 (ix3 j r e) = x1 (ix3 ⟨(x0 (ix1 ⟨1 + j.val, by omega⟩)).toNat, h j⟩ r e) := by
    refine OwnSlab.gather_eq _ _ _ j r e ⟨(x0 (ix1 ⟨1 + j.val, by omega⟩)).toNat, h j⟩ ?_
    rw [val_main_call0_v0_apply, val_main_v0_apply]
    rw [show idx_main_v0 (idx_main_call0_v0 (ix2 j 0)) = ix1 ⟨1 + j.val, by omega⟩ from by funext a; fin_cases a; rfl]
    exact OwnSlab.toInt_of_lt _ 4 (by decide) (h j)
  have h2 : val_main_v2 (F := Ideal) x2 (ix3 j r e) = x2 (ix3 ⟨1 + j.val, by omega⟩ r e) := by
    unfold val_main_v2
    refine extractStridedSlice_apply ![1, 0, 0] x2 _ (ix3 j r e) (ix3 ⟨1 + j.val, by omega⟩ r e) fun a => ?_
    match a with
    | ⟨0, _⟩ => rfl
    | ⟨1, _⟩ => exact (Nat.zero_add _).symm
    | ⟨2, _⟩ => exact (Nat.zero_add _).symm
  unfold G
  rw [← h1, ← h2]
  unfold val_main_v4 val_main_v3
  pointwise
end

/-- The call and the reference end with the same array. -/
theorem algebraic : Cert.algebraic_Kernel23Ideal_Reference23Ideal (hKernel23Ideal := Cert.Kernel23Ideal.Gen.facts)
      (hReference23Ideal := Cert.Reference23Ideal.Gen.facts) (hPre_others_exist23 := Cert.Pre_others_exist23.Gen.facts) := by
  intro m g m' g' hpre hag
  have h : ∀ j, slab m j < 4 := OwnSlab.below23 _ _ _ (hpre 0)
  refine ⟨fun c => (dats m (ok m h) 0 c).arrAt 2 (cfgM m (ok m h)).N, ?_, ?_⟩
  · refine (θ_run _ _ _).mono (fun r hr c => ⟨(hr c).1 2, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c)))⟩
  · refine (θ_run _ _ _).mono (fun r hr c => ?_) (Cert.Reference23Ideal.Value.run (F := Ideal) m' g')
    obtain ⟨h0, ha⟩ := hr c
    obtain ⟨e0, e1, e2⟩ := hag c
    obtain rfl : c = 0 := Subsingleton.elim _ _
    refine ⟨h0.trans ?_, ha⟩
    rw [Cert.Reference23Ideal.Read.val_main_v4_eq, e0, e1, e2]
    refine Eq.trans (funext fun i => ?_) (array m h 0).symm
    obtain ⟨j, r, e, rfl⟩ : ∃ (j : Fin 3) (r : Fin 4096) (e : Fin 1152), i = ix3 j r e := ⟨i 0, i 1, i 2, by funext x; fin_cases x <;> rfl⟩
    exact ref _ h _ _ j r e

end Cert.PreAddWIn
-- ==== Proof.PreAddWOut.lean ====
module

public import proofs.«01_k».proof.Proof.Gen.Kernel24Ideal.Frame
public import proofs.«01_k».proof.Proof.Gen.Reference24Ideal.Run
public import proofs.«01_k».proof.Proof.Gen.Reference24Ideal.Read
public import proofs.«01_k».proof.Defs
public import proofs.«01_k».proof.Proof.Products
public import proofs.«01_k».proof.Proof.OwnSlab
public import Idealize.ShloMosaic.Lib.Pipeline.ValueKit
public import Idealize.ShloMosaic.Lib.Pipeline.ReadBack
public import Idealize.ShloMosaic.Lib.Pipeline.Covers
public import Idealize.ShloMosaic.Lib.Pointwise

/-!
  The sums of the output weights' gradient that are sent on to the other chips: three named slabs of the own stack, each added to
  the slab for it that came from next door.
-/

@[expose] public section
set_option maxRecDepth 16384
noncomputable section
open Idealize.ShloMosaic Idealize.ShloMosaic.TcCoe Idealize.SL.Sem
open Cert.Kernel24Ideal Cert.Kernel24Ideal.Gen

namespace Cert.PreAddWOut

section
variable {F : FTy → Type} [FloatOps F] (m : (ℓ : Loc nD τ sig) → Buf (Elt F) ℓ)

/-- The number of the `j`th of the other chips' slabs. -/
def slab (j : Fin 3) : ℕ := BitVec.toNat (m (((0 : Dev nD) : Thread nD τ).loc main_arg0) (ix1 ⟨1 + j.val, by omega⟩))

/-- The block of the stack that a grid point reads: its rows of the slab that the table names. -/
theorem column (i : grid0.Coords) : cc0_transform_0 Facts₀.k0_off1_inb Facts₀.numel1_S1 (tbl m) i = ![slab m (i 0), (i 1).val, 0] := by
  unfold cc0_transform_0 slab
  have h0 : (i 0).val < 3 := (i 0).isLt
  funext a
  fin_cases a
  · show BitVec.toNat (m (((0 : Dev nD) : Thread nD τ).loc main_arg0) _) = BitVec.toNat (m (((0 : Dev nD) : Thread nD τ).loc main_arg0) (ix1 ⟨1 + (i 0).val, by omega⟩))
    congr 2
    funext b
    fin_cases b
    apply Fin.ext
    show (BitVec.ofNat 32 (i 0).val + 1#32).toNat + 1 * 0 = 1 + (i 0).val
    rw [BitVec.toNat_add, BitVec.toNat_ofNat, BitVec.toNat_ofNat]
    omega
  · have h : (i 1).val < 4 := (i 1).isLt
    show (BitVec.ofNat 32 (i 1).val).toNat = (i 1).val
    rw [BitVec.toNat_ofNat]
    omega
  · rfl

/-- Every block lies in its array when every slab number is below 8. -/
theorem ok (h : ∀ j, slab m j < 8) : Ok m := by
  intro i
  rw [column m i]
  have h := h (i 0)
  generalize slab m (i 0) = v at h
  have hi : (i 1).val < 4 := (i 1).isLt
  refine ⟨fun a => ?_, ?_⟩
  · fin_cases a
    · show (v + 1) * 1 ≤ 8
      omega
    · show ((i 1).val + 1) * 128 ≤ 512
      omega
    · show (0 + 1) * 4096 ≤ 4096
      omega
  · exact Or.inl rfl

/-- The number of grid points. -/
theorem points (hO : Ok m) (t : Fin (cfgM m hO).N) : t.val < 12 := t.isLt

/-- The blocks at point `t`: row tile `t % 4` of slab `t / 4`. -/
theorem idx (hO : Ok m) (t : Fin (cfgM m hO).N) :
    ((cfgM m hO).win 0).index t = ![slab m ⟨t.val / 4, by have := points m hO t; omega⟩, t.val % 4, 0]
    ∧ ((cfgM m hO).win 1).index t = ![1 + t.val / 4, t.val % 4, 0] ∧ ((cfgM m hO).win 2).index t = ![t.val / 4, t.val % 4, 0] := by
  have h : ∀ t : Fin grid0.N, (grid0.coords t 0).val = t.val / 4 ∧ (grid0.coords t 1).val = t.val % 4
      ∧ cc0_transform_1 (grid0.coords t) = ![1 + t.val / 4, t.val % 4, 0] ∧ cc0_transform_2 (grid0.coords t) = ![t.val / 4, t.val % 4, 0] := by decide +kernel
  have ht := points m hO t
  obtain ⟨h0, h0', h1, h2⟩ := h t
  refine ⟨(column m (grid0.coords t)).trans ?_, h1, h2⟩
  rw [h0', show grid0.coords t 0 = (⟨t.val / 4, by omega⟩ : Fin 3) from Fin.ext h0]
end

/-- One block's sum. -/
theorem block (c : Dev nD) (i : grid0.Coords) (arg3 : Memref sig .tc .vmem S1x128x4096 .f32) (harg3 : arg3.IsWhole) (arg4 : Memref sig .tc .vmem S1x128x4096 .f32) (harg4 : arg4.IsWhole)
    (arg5 : Memref sig .tc .vmem S1x128x4096 .bf16) (harg5 : arg5.IsWhole) (x0 x1 : Vec Ideal S1x128x4096 .f32) (xt0 : TbBuf0 (F := Ideal) c tbM0_0)
    (r : Fin 128) (e : Fin 4096) : out0_A_2 c i arg3 harg3 arg4 harg4 arg5 harg5 x0 x1 xt0 (ix3 0 r e) = x0 (ix3 0 r e) + x1 (ix3 0 r e) := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero (by funext a; fin_cases a <;> rfl)]
  simp only [View.readAt_eq_ld, harg3.read_unread, harg4.read_unread]
  repeat rw [View.ld_unit_zero (by funext a; fin_cases a <;> rfl)]
  unfold k0_pay1
  pointwise

section
variable (m : (ℓ : Loc nD τ sig) → Buf (Elt Ideal) ℓ)

/-- The sums: three named slabs of one's own and three of the four that came from next door. -/
def G (v : Fin 3 → Fin 8) (x1 : S8x512x4096.Idx → EReal) (x2 : S4x512x4096.Idx → EReal) (j : Fin 3) (r : Fin 512) (e : Fin 4096) : EReal :=
  x1 (ix3 (v j) r e) + x2 (ix3 ⟨1 + j.val, by omega⟩ r e)

/-- The call's array. -/
theorem array (h : ∀ j, slab m j < 8) (c : Dev nD) : (dats m (ok m h) 0 c).arrAt 2 (cfgM m (ok m h)).N
    = fun i : S3x512x4096.Idx => G (fun j => ⟨slab m j, h j⟩) (m ((c.tc : Thread nD τ).loc main_arg1)) (m ((c.tc : Thread nD τ).loc main_arg2)) (i 0) (i 1) (i 2) := by
  refine (dats m (ok m h) 0 c).arrAt_eq_of_covers 2 _ ?_ fun t hf y => ?_
  · refine Pipeline.Window.covers_of_index_surj _ rfl (by decide : ∀ a : Fin 3, 0 < S1x128x4096.size a) fun β => ?_
    have b0 : (β (0 : Fin 3)).val < 3 := lt_of_lt_of_eq (β (0 : Fin 3)).isLt (by decide : (S3x512x4096.size 0 + S1x128x4096.size 0 - 1) / S1x128x4096.size 0 = 3)
    have b1 : (β (1 : Fin 3)).val < 4 := lt_of_lt_of_eq (β (1 : Fin 3)).isLt (by decide : (S3x512x4096.size 1 + S1x128x4096.size 1 - 1) / S1x128x4096.size 1 = 4)
    have b2 : (β (2 : Fin 3)).val < 1 := lt_of_lt_of_eq (β (2 : Fin 3)).isLt (by decide : (S3x512x4096.size 2 + S1x128x4096.size 2 - 1) / S1x128x4096.size 2 = 1)
    refine ⟨⟨(β (0 : Fin 3)).val * 4 + (β (1 : Fin 3)).val, ?_⟩, fun a => ?_⟩
    · show _ < 12
      omega
    · rw [(idx m (ok m h) _).2.2]
      fin_cases a
      · show ((β (0 : Fin 3)).val * 4 + (β (1 : Fin 3)).val) / 4 = (β (0 : Fin 3)).val
        omega
      · show ((β (0 : Fin 3)).val * 4 + (β (1 : Fin 3)).val) % 4 = (β (1 : Fin 3)).val
        omega
      · show 0 = (β (2 : Fin 3)).val
        omega
  · obtain ⟨e0, e1, e2⟩ := idx m (ok m h) t
    have ht := points m (ok m h) t
    obtain ⟨r, e, rfl⟩ := OwnSlab.idx3 y
    blk_simp
    rw [after0_2]
    unfold outsAt0
    refine (block _ _ _ _ _ _ _ _ _ _ _ r e).trans ?_
    have he : (((cfgM m (ok m h)).win 2).blk t).view.emb (ix3 0 r e) = ix3 ⟨t.val / 4, by omega⟩ ⟨t.val % 4 * 128 + r.val, by omega⟩ e := by
      blk_ext [e2]
    rw [he]
    unfold G
    refine congrArg₂ (· + ·) ?_ ?_
    · blk_ext [iblk, e0]
      rfl
    · blk_ext [iblk, e1]
end

section
open Cert.Reference24Ideal.Read

/-- The reference's sums. -/
theorem ref (x0 : IVec ⟨1, ![4]⟩ 32) (h : ∀ j : Fin 3, (x0 (ix1 ⟨1 + j.val, by omega⟩)).toNat < 8) (x1 : S8x512x4096.Idx → EReal) (x2 : S4x512x4096.Idx → EReal)
    (j : Fin 3) (r : Fin 512) (e : Fin 4096) :
    val_main_v4 (F := Ideal) x0 x1 x2 (ix3 j r e) = G (fun j => ⟨(x0 (ix1 ⟨1 + j.val, by omega⟩)).toNat, h j⟩) x1 x2 j r e := by
  have h1 : val_main_v1 (F := Ideal) x0 x1 (ix3 j r e) = x1 (ix3 ⟨(x0 (ix1 ⟨1 + j.val, by omega⟩)).toNat, h j⟩ r e) := by
    refine OwnSlab.gather_eq _ _ _ j r e ⟨(x0 (ix1 ⟨1 + j.val, by omega⟩)).toNat, h j⟩ ?_
    rw [val_main_call0_v0_apply, val_main_v0_apply]
    rw [show idx_main_v0 (idx_main_call0_v0 (ix2 j 0)) = ix1 ⟨1 + j.val, by omega⟩ from by funext a; fin_cases a; rfl]
    exact OwnSlab.toInt_of_lt _ 8 (by decide) (h j)
  have h2 : val_main_v2 (F := Ideal) x2 (ix3 j r e) = x2 (ix3 ⟨1 + j.val, by omega⟩ r e) := by
    unfold val_main_v2
    refine extractStridedSlice_apply ![1, 0, 0] x2 _ (ix3 j r e) (ix3 ⟨1 + j.val, by omega⟩ r e) fun a => ?_
    match a with
    | ⟨0, _⟩ => rfl
    | ⟨1, _⟩ => exact (Nat.zero_add _).symm
    | ⟨2, _⟩ => exact (Nat.zero_add _).symm
  unfold G
  rw [← h1, ← h2]
  unfold val_main_v4 val_main_v3
  pointwise
end

/-- The call and the reference end with the same array. -/
theorem algebraic : Cert.algebraic_Kernel24Ideal_Reference24Ideal (hKernel24Ideal := Cert.Kernel24Ideal.Gen.facts)
      (hReference24Ideal := Cert.Reference24Ideal.Gen.facts) (hPre_others_exist24 := Cert.Pre_others_exist24.Gen.facts) := by
  intro m g m' g' hpre hag
  have h : ∀ j, slab m j < 8 := OwnSlab.below24 _ _ _ (hpre 0)
  refine ⟨fun c => (dats m (ok m h) 0 c).arrAt 2 (cfgM m (ok m h)).N, ?_, ?_⟩
  · refine (θ_run _ _ _).mono (fun r hr c => ⟨(hr c).1 2, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c)))⟩
  · refine (θ_run _ _ _).mono (fun r hr c => ?_) (Cert.Reference24Ideal.Value.run (F := Ideal) m' g')
    obtain ⟨h0, ha⟩ := hr c
    obtain ⟨e0, e1, e2⟩ := hag c
    obtain rfl : c = 0 := Subsingleton.elim _ _
    refine ⟨h0.trans ?_, ha⟩
    rw [Cert.Reference24Ideal.Read.val_main_v4_eq, e0, e1, e2]
    refine Eq.trans (funext fun i => ?_) (array m h 0).symm
    obtain ⟨j, r, e, rfl⟩ : ∃ (j : Fin 3) (r : Fin 512) (e : Fin 4096), i = ix3 j r e := ⟨i 0, i 1, i 2, by funext x; fin_cases x <;> rfl⟩
    exact ref _ h _ _ j r e

end Cert.PreAddWOut
-- ==== Proof.PreAddPoolW.lean ====
module

public import proofs.«01_k».proof.Proof.Gen.Kernel25Ideal.Frame
public import proofs.«01_k».proof.Proof.Gen.Reference25Ideal.Run
public import proofs.«01_k».proof.Proof.Gen.Reference25Ideal.Read
public import proofs.«01_k».proof.Defs
public import proofs.«01_k».proof.Proof.Products
public import proofs.«01_k».proof.Proof.OwnSlab
public import Idealize.ShloMosaic.Lib.Pipeline.ValueKit
public import Idealize.ShloMosaic.Lib.Pipeline.ReadBack
public import Idealize.ShloMosaic.Lib.Pipeline.Covers
public import Idealize.ShloMosaic.Lib.Pointwise

/-!
  The sums of the pooling weights' gradient that are sent on to the other chips: three named slabs of the own stack, each added to
  the slab for it that came from next door.
-/

@[expose] public section
set_option maxRecDepth 16384
noncomputable section
open Idealize.ShloMosaic Idealize.ShloMosaic.TcCoe Idealize.SL.Sem
open Cert.Kernel25Ideal Cert.Kernel25Ideal.Gen

namespace Cert.PreAddPoolW

section
variable {F : FTy → Type} [FloatOps F] (m : (ℓ : Loc nD τ sig) → Buf (Elt F) ℓ)

/-- The number of the `j`th of the other chips' slabs. -/
def slab (j : Fin 3) : ℕ := BitVec.toNat (m (((0 : Dev nD) : Thread nD τ).loc main_arg0) (ix1 ⟨1 + j.val, by omega⟩))

/-- The block of the stack that a grid point reads: its rows of the slab that the table names. -/
theorem column (i : grid0.Coords) : cc0_transform_0 Facts₀.k0_off1_inb Facts₀.numel1_S1 (tbl m) i = ![slab m (i 0), (i 1).val, 0] := by
  unfold cc0_transform_0 slab
  have h0 : (i 0).val < 3 := (i 0).isLt
  funext a
  fin_cases a
  · show BitVec.toNat (m (((0 : Dev nD) : Thread nD τ).loc main_arg0) _) = BitVec.toNat (m (((0 : Dev nD) : Thread nD τ).loc main_arg0) (ix1 ⟨1 + (i 0).val, by omega⟩))
    congr 2
    funext b
    fin_cases b
    apply Fin.ext
    show (BitVec.ofNat 32 (i 0).val + 1#32).toNat + 1 * 0 = 1 + (i 0).val
    rw [BitVec.toNat_add, BitVec.toNat_ofNat, BitVec.toNat_ofNat]
    omega
  · have h : (i 1).val < 1 := (i 1).isLt
    show (BitVec.ofNat 32 (i 1).val).toNat = (i 1).val
    rw [BitVec.toNat_ofNat]
    omega
  · rfl

/-- Every block lies in its array when every slab number is below 4. -/
theorem ok (h : ∀ j, slab m j < 4) : Ok m := by
  intro i
  rw [column m i]
  have h := h (i 0)
  generalize slab m (i 0) = v at h
  have hi : (i 1).val < 1 := (i 1).isLt
  refine ⟨fun a => ?_, ?_⟩
  · fin_cases a
    · show (v + 1) * 1 ≤ 4
      omega
    · show ((i 1).val + 1) * 256 ≤ 256
      omega
    · show (0 + 1) * 512 ≤ 512
      omega
  · exact Or.inl rfl

/-- The number of grid points. -/
theorem points (hO : Ok m) (t : Fin (cfgM m hO).N) : t.val < 3 := t.isLt

/-- The blocks at point `t`: row tile `t % 1` of slab `t / 1`. -/
theorem idx (hO : Ok m) (t : Fin (cfgM m hO).N) :
    ((cfgM m hO).win 0).index t = ![slab m ⟨t.val / 1, by have := points m hO t; omega⟩, t.val % 1, 0]
    ∧ ((cfgM m hO).win 1).index t = ![1 + t.val / 1, t.val % 1, 0] ∧ ((cfgM m hO).win 2).index t = ![t.val / 1, t.val % 1, 0] := by
  have h : ∀ t : Fin grid0.N, (grid0.coords t 0).val = t.val / 1 ∧ (grid0.coords t 1).val = t.val % 1
      ∧ cc0_transform_1 (grid0.coords t) = ![1 + t.val / 1, t.val % 1, 0] ∧ cc0_transform_2 (grid0.coords t) = ![t.val / 1, t.val % 1, 0] := by decide +kernel
  have ht := points m hO t
  obtain ⟨h0, h0', h1, h2⟩ := h t
  refine ⟨(column m (grid0.coords t)).trans ?_, h1, h2⟩
  rw [h0', show grid0.coords t 0 = (⟨t.val / 1, by omega⟩ : Fin 3) from Fin.ext h0]
end

/-- One block's sum. -/
theorem block (c : Dev nD) (i : grid0.Coords) (arg3 : Memref sig .tc .vmem S1x256x512 .f32) (harg3 : arg3.IsWhole) (arg4 : Memref sig .tc .vmem S1x256x512 .f32) (harg4 : arg4.IsWhole)
    (arg5 : Memref sig .tc .vmem S1x256x512 .bf16) (harg5 : arg5.IsWhole) (x0 x1 : Vec Ideal S1x256x512 .f32) (xt0 : TbBuf0 (F := Ideal) c tbM0_0)
    (r : Fin 256) (e : Fin 512) : out0_A_2 c i arg3 harg3 arg4 harg4 arg5 harg5 x0 x1 xt0 (ix3 0 r e) = x0 (ix3 0 r e) + x1 (ix3 0 r e) := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero (by funext a; fin_cases a <;> rfl)]
  simp only [View.readAt_eq_ld, harg3.read_unread, harg4.read_unread]
  repeat rw [View.ld_unit_zero (by funext a; fin_cases a <;> rfl)]
  unfold k0_pay1
  pointwise

section
variable (m : (ℓ : Loc nD τ sig) → Buf (Elt Ideal) ℓ)

/-- The sums: three named slabs of one's own and three of the four that came from next door. -/
def G (v : Fin 3 → Fin 4) (x1 : S4x256x512.Idx → EReal) (x2 : S4x256x512.Idx → EReal) (j : Fin 3) (r : Fin 256) (e : Fin 512) : EReal :=
  x1 (ix3 (v j) r e) + x2 (ix3 ⟨1 + j.val, by omega⟩ r e)

/-- The call's array. -/
theorem array (h : ∀ j, slab m j < 4) (c : Dev nD) : (dats m (ok m h) 0 c).arrAt 2 (cfgM m (ok m h)).N
    = fun i : S3x256x512.Idx => G (fun j => ⟨slab m j, h j⟩) (m ((c.tc : Thread nD τ).loc main_arg1)) (m ((c.tc : Thread nD τ).loc main_arg2)) (i 0) (i 1) (i 2) := by
  refine (dats m (ok m h) 0 c).arrAt_eq_of_covers 2 _ ?_ fun t hf y => ?_
  · refine Pipeline.Window.covers_of_index_surj _ rfl (by decide : ∀ a : Fin 3, 0 < S1x256x512.size a) fun β => ?_
    have b0 : (β (0 : Fin 3)).val < 3 := lt_of_lt_of_eq (β (0 : Fin 3)).isLt (by decide : (S3x256x512.size 0 + S1x256x512.size 0 - 1) / S1x256x512.size 0 = 3)
    have b1 : (β (1 : Fin 3)).val < 1 := lt_of_lt_of_eq (β (1 : Fin 3)).isLt (by decide : (S3x256x512.size 1 + S1x256x512.size 1 - 1) / S1x256x512.size 1 = 1)
    have b2 : (β (2 : Fin 3)).val < 1 := lt_of_lt_of_eq (β (2 : Fin 3)).isLt (by decide : (S3x256x512.size 2 + S1x256x512.size 2 - 1) / S1x256x512.size 2 = 1)
    refine ⟨⟨(β (0 : Fin 3)).val * 1 + (β (1 : Fin 3)).val, ?_⟩, fun a => ?_⟩
    · show _ < 3
      omega
    · rw [(idx m (ok m h) _).2.2]
      fin_cases a
      · show ((β (0 : Fin 3)).val * 1 + (β (1 : Fin 3)).val) / 1 = (β (0 : Fin 3)).val
        omega
      · show ((β (0 : Fin 3)).val * 1 + (β (1 : Fin 3)).val) % 1 = (β (1 : Fin 3)).val
        omega
      · show 0 = (β (2 : Fin 3)).val
        omega
  · obtain ⟨e0, e1, e2⟩ := idx m (ok m h) t
    have ht := points m (ok m h) t
    obtain ⟨r, e, rfl⟩ := OwnSlab.idx3 y
    blk_simp
    rw [after0_2]
    unfold outsAt0
    refine (block _ _ _ _ _ _ _ _ _ _ _ r e).trans ?_
    have he : (((cfgM m (ok m h)).win 2).blk t).view.emb (ix3 0 r e) = ix3 ⟨t.val / 1, by omega⟩ ⟨t.val % 1 * 256 + r.val, by omega⟩ e := by
      blk_ext [e2]
    rw [he]
    unfold G
    refine congrArg₂ (· + ·) ?_ ?_
    · blk_ext [iblk, e0]
      rfl
    · blk_ext [iblk, e1]
end

section
open Cert.Reference25Ideal.Read

/-- The reference's sums. -/
theorem ref (x0 : IVec ⟨1, ![4]⟩ 32) (h : ∀ j : Fin 3, (x0 (ix1 ⟨1 + j.val, by omega⟩)).toNat < 4) (x1 : S4x256x512.Idx → EReal) (x2 : S4x256x512.Idx → EReal)
    (j : Fin 3) (r : Fin 256) (e : Fin 512) :
    val_main_v4 (F := Ideal) x0 x1 x2 (ix3 j r e) = G (fun j => ⟨(x0 (ix1 ⟨1 + j.val, by omega⟩)).toNat, h j⟩) x1 x2 j r e := by
  have h1 : val_main_v1 (F := Ideal) x0 x1 (ix3 j r e) = x1 (ix3 ⟨(x0 (ix1 ⟨1 + j.val, by omega⟩)).toNat, h j⟩ r e) := by
    refine OwnSlab.gather_eq _ _ _ j r e ⟨(x0 (ix1 ⟨1 + j.val, by omega⟩)).toNat, h j⟩ ?_
    rw [val_main_call0_v0_apply, val_main_v0_apply]
    rw [show idx_main_v0 (idx_main_call0_v0 (ix2 j 0)) = ix1 ⟨1 + j.val, by omega⟩ from by funext a; fin_cases a; rfl]
    exact OwnSlab.toInt_of_lt _ 4 (by decide) (h j)
  have h2 : val_main_v2 (F := Ideal) x2 (ix3 j r e) = x2 (ix3 ⟨1 + j.val, by omega⟩ r e) := by
    unfold val_main_v2
    refine extractStridedSlice_apply ![1, 0, 0] x2 _ (ix3 j r e) (ix3 ⟨1 + j.val, by omega⟩ r e) fun a => ?_
    match a with
    | ⟨0, _⟩ => rfl
    | ⟨1, _⟩ => exact (Nat.zero_add _).symm
    | ⟨2, _⟩ => exact (Nat.zero_add _).symm
  unfold G
  rw [← h1, ← h2]
  unfold val_main_v4 val_main_v3
  pointwise
end

/-- The call and the reference end with the same array. -/
theorem algebraic : Cert.algebraic_Kernel25Ideal_Reference25Ideal (hKernel25Ideal := Cert.Kernel25Ideal.Gen.facts)
      (hReference25Ideal := Cert.Reference25Ideal.Gen.facts) (hPre_others_exist25 := Cert.Pre_others_exist25.Gen.facts) := by
  intro m g m' g' hpre hag
  have h : ∀ j, slab m j < 4 := OwnSlab.below25 _ _ _ (hpre 0)
  refine ⟨fun c => (dats m (ok m h) 0 c).arrAt 2 (cfgM m (ok m h)).N, ?_, ?_⟩
  · refine (θ_run _ _ _).mono (fun r hr c => ⟨(hr c).1 2, ?_⟩) (run_main m g (ok m h))
    exact ⟨((hr c).2 main_arg0 (by decide : main_arg0 ∈ Pipeline.restRefs sig spec0)).trans (V_main_arg0 m c),
      ((hr c).1 0).trans (((dats m (ok m h) 0 c).arrAt_in 0 rfl _).trans ((A_eq m (ok m h) c 0).trans (V_main_arg1 m c))),
      ((hr c).1 1).trans (((dats m (ok m h) 0 c).arrAt_in 1 rfl _).trans ((A_eq m (ok m h) c 1).trans (V_main_arg2 m c)))⟩
  · refine (θ_run _ _ _).mono (fun r hr c => ?_) (Cert.Reference25Ideal.Value.run (F := Ideal) m' g')
    obtain ⟨h0, ha⟩ := hr c
    obtain ⟨e0, e1, e2⟩ := hag c
    obtain rfl : c = 0 := Subsingleton.elim _ _
    refine ⟨h0.trans ?_, ha⟩
    rw [Cert.Reference25Ideal.Read.val_main_v4_eq, e0, e1, e2]
    refine Eq.trans (funext fun i => ?_) (array m h 0).symm
    obtain ⟨j, r, e, rfl⟩ : ∃ (j : Fin 3) (r : Fin 256) (e : Fin 512), i = ix3 j r e := ⟨i 0, i 1, i 2, by funext x; fin_cases x <;> rfl⟩
    exact ref _ h _ _ j r e

end Cert.PreAddPoolW
-- ==== Proof.FramesStep.lean ====
module

public import proofs.«01_k».proof.Defs
public import proofs.«01_k».proof.Proof.Gen.Kernel17
public import proofs.«01_k».proof.Proof.Gen.Kernel18
public import proofs.«01_k».proof.Proof.Gen.Kernel19
public import proofs.«01_k».proof.Proof.Gen.Kernel20
public import proofs.«01_k».proof.Proof.Gen.Kernel21
public import proofs.«01_k».proof.Proof.Gen.Kernel22
public import proofs.«01_k».proof.Proof.Gen.Kernel23
public import proofs.«01_k».proof.Proof.Gen.Kernel24
public import proofs.«01_k».proof.Proof.Gen.Kernel25
public import proofs.«01_k».proof.Proof.Gen.Kernel17Ideal.Frame
public import proofs.«01_k».proof.Proof.Gen.Reference17Ideal.Run
public import proofs.«01_k».proof.Proof.Gen.Kernel18Ideal.Frame
public import proofs.«01_k».proof.Proof.Gen.Reference18Ideal.Run
public import proofs.«01_k».proof.Proof.Gen.Kernel22Ideal.Frame
public import proofs.«01_k».proof.Proof.Gen.Reference22Ideal.Run
public import proofs.«01_k».proof.Proof.Gen.Pre_finite22
public import proofs.«01_k».proof.Proof.AdamWIn
public import proofs.«01_k».proof.Proof.AdamWOut
public import proofs.«01_k».proof.Proof.AdamPoolW
public import proofs.«01_k».proof.Proof.PreAddWIn
public import proofs.«01_k».proof.Proof.PreAddWOut
public import proofs.«01_k».proof.Proof.PreAddPoolW
public import Idealize.ShloMosaic.Lib.Quiescent
public import Idealize.ShloMosaic.Adequacy
public import Idealize.ShloMosaic.Init

/-!
  The frames of the modulation's calls and of the optimiser's: over machine floats, over the ideal ones, and of their references.
  Each program over machine floats has the text of its ideal form, so the frame proved over any float values holds for it; the tables
  of kernel bodies are equal label by label. Where a call takes slab numbers, the precondition bounds them, so that every block lies
  in its array.
-/

@[expose] public section
noncomputable section
open Idealize.ShloMosaic Idealize.ShloMosaic.TcCoe Idealize.SL.Sem
namespace Cert.FramesStep

/-- The bodies of the modulation's backward call are those of its ideal form. -/
theorem bodies17 : (Cert.Kernel17.defs₀ : Defs _ _ _ (Elt Bits) _) = (Cert.Kernel17Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the modulation's backward call. -/
theorem frame17 : Cert.quiescent_Kernel17 (hKernel17 := Cert.Kernel17.Gen.facts) := fun m ρ _ => by
  have h := Cert.Kernel17Ideal.Gen.frame (F := Bits) m ρ
  rw [show (Cert.Kernel17Ideal.defs : Defs _ _ _ (Elt Bits) _) = Cert.Kernel17.defs from congrArg (Pipeline.defs Cert.Kernel17Ideal.pcfgs) bodies17.symm] at h
  exact h

/-- The frame of its reference. -/
theorem reference17 : Cert.quiescent_Reference17Ideal (hReference17Ideal := Cert.Reference17Ideal.Gen.facts) := fun m g _ =>
  (θ_run (Cert.Reference17Ideal.defs (F := Ideal)) _ _).mono (fun r h => ⟨fun c => (h c).2.2.2.2.2, sem_eq_zero_of_no_sems rfl r.2⟩)
    (Cert.Reference17Ideal.Value.run (F := Ideal) m g)

/-- The bodies of the modulation's forward call are those of its ideal form. -/
theorem bodies18 : (Cert.Kernel18.defs₀ : Defs _ _ _ (Elt Bits) _) = (Cert.Kernel18Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the modulation's forward call. -/
theorem frame18 : Cert.quiescent_Kernel18 (hKernel18 := Cert.Kernel18.Gen.facts) := fun m ρ _ => by
  have h := Cert.Kernel18Ideal.Gen.frame (F := Bits) m ρ
  rw [show (Cert.Kernel18Ideal.defs : Defs _ _ _ (Elt Bits) _) = Cert.Kernel18.defs from congrArg (Pipeline.defs Cert.Kernel18Ideal.pcfgs) bodies18.symm] at h
  exact h

/-- The frame of its reference. -/
theorem reference18 : Cert.quiescent_Reference18Ideal (hReference18Ideal := Cert.Reference18Ideal.Gen.facts) := fun m g _ =>
  (θ_run (Cert.Reference18Ideal.defs (F := Ideal)) _ _).mono (fun r h => ⟨fun c => (h c).2, sem_eq_zero_of_no_sems rfl r.2⟩)
    (Cert.Reference18Ideal.Value.run (F := Ideal) m g)

/-- The bodies of the optimiser step of the input weights are those of its ideal form. -/
theorem bodies19 : (Cert.Kernel19.defs₀ : Defs _ _ _ (Elt Bits) _) = (Cert.Kernel19Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the optimiser step of the input weights, over machine floats. -/
theorem frame19 : Cert.quiescent_Kernel19 (hKernel19 := Cert.Kernel19.Gen.facts) (hPre_own_exists19 := Cert.Pre_own_exists19.Gen.facts) := fun m ρ hpre => by
  have h := Cert.Kernel19Ideal.Gen.frame (F := Bits) m ρ (Cert.AdamWIn.ok m (Cert.OwnSlab.below19 _ _ _ _ _ _ _ (hpre 0)))
  rw [show (Cert.Kernel19Ideal.defs : Defs _ _ _ (Elt Bits) _) = Cert.Kernel19.defs from congrArg (Pipeline.defs Cert.Kernel19Ideal.pcfgs) bodies19.symm] at h
  exact h

/-- The frame over the ideal floats. -/
theorem ideal19 : Cert.quiescent_Kernel19Ideal (hKernel19Ideal := Cert.Kernel19Ideal.Gen.facts) (hPre_own_exists19 := Cert.Pre_own_exists19.Gen.facts) := fun m ρ hpre =>
  Cert.Kernel19Ideal.Gen.frame m ρ (Cert.AdamWIn.ok m (Cert.OwnSlab.below19 _ _ _ _ _ _ _ (hpre 0)))

/-- The frame of its reference. -/
theorem reference19 : Cert.quiescent_Reference19Ideal (hReference19Ideal := Cert.Reference19Ideal.Gen.facts) (hPre_own_exists19 := Cert.Pre_own_exists19.Gen.facts) := fun m g _ =>
  (θ_run (Cert.Reference19Ideal.defs (F := Ideal)) _ _).mono (fun r h => ⟨fun c => (h c).2.2.2.2, sem_eq_zero_of_no_sems rfl r.2⟩)
    (Cert.Reference19Ideal.Value.run (F := Ideal) m g)

/-- The bodies of the optimiser step of the output weights are those of its ideal form. -/
theorem bodies20 : (Cert.Kernel20.defs₀ : Defs _ _ _ (Elt Bits) _) = (Cert.Kernel20Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the optimiser step of the output weights, over machine floats. -/
theorem frame20 : Cert.quiescent_Kernel20 (hKernel20 := Cert.Kernel20.Gen.facts) (hPre_own_exists20 := Cert.Pre_own_exists20.Gen.facts) := fun m ρ hpre => by
  have h := Cert.Kernel20Ideal.Gen.frame (F := Bits) m ρ (Cert.AdamWOut.ok m (Cert.OwnSlab.below20 _ _ _ _ _ _ _ (hpre 0)))
  rw [show (Cert.Kernel20Ideal.defs : Defs _ _ _ (Elt Bits) _) = Cert.Kernel20.defs from congrArg (Pipeline.defs Cert.Kernel20Ideal.pcfgs) bodies20.symm] at h
  exact h

/-- The frame over the ideal floats. -/
theorem ideal20 : Cert.quiescent_Kernel20Ideal (hKernel20Ideal := Cert.Kernel20Ideal.Gen.facts) (hPre_own_exists20 := Cert.Pre_own_exists20.Gen.facts) := fun m ρ hpre =>
  Cert.Kernel20Ideal.Gen.frame m ρ (Cert.AdamWOut.ok m (Cert.OwnSlab.below20 _ _ _ _ _ _ _ (hpre 0)))

/-- The frame of its reference. -/
theorem reference20 : Cert.quiescent_Reference20Ideal (hReference20Ideal := Cert.Reference20Ideal.Gen.facts) (hPre_own_exists20 := Cert.Pre_own_exists20.Gen.facts) := fun m g _ =>
  (θ_run (Cert.Reference20Ideal.defs (F := Ideal)) _ _).mono (fun r h => ⟨fun c => (h c).2.2.2.2, sem_eq_zero_of_no_sems rfl r.2⟩)
    (Cert.Reference20Ideal.Value.run (F := Ideal) m g)

/-- The bodies of the optimiser step of the pooling weights are those of its ideal form. -/
theorem bodies21 : (Cert.Kernel21.defs₀ : Defs _ _ _ (Elt Bits) _) = (Cert.Kernel21Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the optimiser step of the pooling weights, over machine floats. -/
theorem frame21 : Cert.quiescent_Kernel21 (hKernel21 := Cert.Kernel21.Gen.facts) (hPre_own_exists21 := Cert.Pre_own_exists21.Gen.facts) := fun m ρ hpre => by
  have h := Cert.Kernel21Ideal.Gen.frame (F := Bits) m ρ (Cert.AdamPoolW.ok m (Cert.OwnSlab.below21 _ _ _ _ _ _ _ (hpre 0)))
  rw [show (Cert.Kernel21Ideal.defs : Defs _ _ _ (Elt Bits) _) = Cert.Kernel21.defs from congrArg (Pipeline.defs Cert.Kernel21Ideal.pcfgs) bodies21.symm] at h
  exact h

/-- The frame over the ideal floats. -/
theorem ideal21 : Cert.quiescent_Kernel21Ideal (hKernel21Ideal := Cert.Kernel21Ideal.Gen.facts) (hPre_own_exists21 := Cert.Pre_own_exists21.Gen.facts) := fun m ρ hpre =>
  Cert.Kernel21Ideal.Gen.frame m ρ (Cert.AdamPoolW.ok m (Cert.OwnSlab.below21 _ _ _ _ _ _ _ (hpre 0)))

/-- The frame of its reference. -/
theorem reference21 : Cert.quiescent_Reference21Ideal (hReference21Ideal := Cert.Reference21Ideal.Gen.facts) (hPre_own_exists21 := Cert.Pre_own_exists21.Gen.facts) := fun m g _ =>
  (θ_run (Cert.Reference21Ideal.defs (F := Ideal)) _ _).mono (fun r h => ⟨fun c => (h c).2.2.2.2, sem_eq_zero_of_no_sems rfl r.2⟩)
    (Cert.Reference21Ideal.Value.run (F := Ideal) m g)

/-- The bodies of the sums of the input weights' gradient are those of its ideal form. -/
theorem bodies23 : (Cert.Kernel23.defs₀ : Defs _ _ _ (Elt Bits) _) = (Cert.Kernel23Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the sums of the input weights' gradient, over machine floats. -/
theorem frame23 : Cert.quiescent_Kernel23 (hKernel23 := Cert.Kernel23.Gen.facts) (hPre_others_exist23 := Cert.Pre_others_exist23.Gen.facts) := fun m ρ hpre => by
  have h := Cert.Kernel23Ideal.Gen.frame (F := Bits) m ρ (Cert.PreAddWIn.ok m (Cert.OwnSlab.below23 _ _ _ (hpre 0)))
  rw [show (Cert.Kernel23Ideal.defs : Defs _ _ _ (Elt Bits) _) = Cert.Kernel23.defs from congrArg (Pipeline.defs Cert.Kernel23Ideal.pcfgs) bodies23.symm] at h
  exact h

/-- The frame over the ideal floats. -/
theorem ideal23 : Cert.quiescent_Kernel23Ideal (hKernel23Ideal := Cert.Kernel23Ideal.Gen.facts) (hPre_others_exist23 := Cert.Pre_others_exist23.Gen.facts) := fun m ρ hpre =>
  Cert.Kernel23Ideal.Gen.frame m ρ (Cert.PreAddWIn.ok m (Cert.OwnSlab.below23 _ _ _ (hpre 0)))

/-- The frame of its reference. -/
theorem reference23 : Cert.quiescent_Reference23Ideal (hReference23Ideal := Cert.Reference23Ideal.Gen.facts) (hPre_others_exist23 := Cert.Pre_others_exist23.Gen.facts) := fun m g _ =>
  (θ_run (Cert.Reference23Ideal.defs (F := Ideal)) _ _).mono (fun r h => ⟨fun c => (h c).2, sem_eq_zero_of_no_sems rfl r.2⟩)
    (Cert.Reference23Ideal.Value.run (F := Ideal) m g)

/-- The bodies of the sums of the output weights' gradient are those of its ideal form. -/
theorem bodies24 : (Cert.Kernel24.defs₀ : Defs _ _ _ (Elt Bits) _) = (Cert.Kernel24Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the sums of the output weights' gradient, over machine floats. -/
theorem frame24 : Cert.quiescent_Kernel24 (hKernel24 := Cert.Kernel24.Gen.facts) (hPre_others_exist24 := Cert.Pre_others_exist24.Gen.facts) := fun m ρ hpre => by
  have h := Cert.Kernel24Ideal.Gen.frame (F := Bits) m ρ (Cert.PreAddWOut.ok m (Cert.OwnSlab.below24 _ _ _ (hpre 0)))
  rw [show (Cert.Kernel24Ideal.defs : Defs _ _ _ (Elt Bits) _) = Cert.Kernel24.defs from congrArg (Pipeline.defs Cert.Kernel24Ideal.pcfgs) bodies24.symm] at h
  exact h

/-- The frame over the ideal floats. -/
theorem ideal24 : Cert.quiescent_Kernel24Ideal (hKernel24Ideal := Cert.Kernel24Ideal.Gen.facts) (hPre_others_exist24 := Cert.Pre_others_exist24.Gen.facts) := fun m ρ hpre =>
  Cert.Kernel24Ideal.Gen.frame m ρ (Cert.PreAddWOut.ok m (Cert.OwnSlab.below24 _ _ _ (hpre 0)))

/-- The frame of its reference. -/
theorem reference24 : Cert.quiescent_Reference24Ideal (hReference24Ideal := Cert.Reference24Ideal.Gen.facts) (hPre_others_exist24 := Cert.Pre_others_exist24.Gen.facts) := fun m g _ =>
  (θ_run (Cert.Reference24Ideal.defs (F := Ideal)) _ _).mono (fun r h => ⟨fun c => (h c).2, sem_eq_zero_of_no_sems rfl r.2⟩)
    (Cert.Reference24Ideal.Value.run (F := Ideal) m g)

/-- The bodies of the sums of the pooling weights' gradient are those of its ideal form. -/
theorem bodies25 : (Cert.Kernel25.defs₀ : Defs _ _ _ (Elt Bits) _) = (Cert.Kernel25Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the sums of the pooling weights' gradient, over machine floats. -/
theorem frame25 : Cert.quiescent_Kernel25 (hKernel25 := Cert.Kernel25.Gen.facts) (hPre_others_exist25 := Cert.Pre_others_exist25.Gen.facts) := fun m ρ hpre => by
  have h := Cert.Kernel25Ideal.Gen.frame (F := Bits) m ρ (Cert.PreAddPoolW.ok m (Cert.OwnSlab.below25 _ _ _ (hpre 0)))
  rw [show (Cert.Kernel25Ideal.defs : Defs _ _ _ (Elt Bits) _) = Cert.Kernel25.defs from congrArg (Pipeline.defs Cert.Kernel25Ideal.pcfgs) bodies25.symm] at h
  exact h

/-- The frame over the ideal floats. -/
theorem ideal25 : Cert.quiescent_Kernel25Ideal (hKernel25Ideal := Cert.Kernel25Ideal.Gen.facts) (hPre_others_exist25 := Cert.Pre_others_exist25.Gen.facts) := fun m ρ hpre =>
  Cert.Kernel25Ideal.Gen.frame m ρ (Cert.PreAddPoolW.ok m (Cert.OwnSlab.below25 _ _ _ (hpre 0)))

/-- The frame of its reference. -/
theorem reference25 : Cert.quiescent_Reference25Ideal (hReference25Ideal := Cert.Reference25Ideal.Gen.facts) (hPre_others_exist25 := Cert.Pre_others_exist25.Gen.facts) := fun m g _ =>
  (θ_run (Cert.Reference25Ideal.defs (F := Ideal)) _ _).mono (fun r h => ⟨fun c => (h c).2, sem_eq_zero_of_no_sems rfl r.2⟩)
    (Cert.Reference25Ideal.Value.run (F := Ideal) m g)

/-- The bodies of the optimiser step of the replicated parameters are those of its ideal form. -/
theorem bodies22 : (Cert.Kernel22.defs₀ : Defs _ _ _ (Elt Bits) _) = (Cert.Kernel22Ideal.defs₀ : Defs _ _ _ (Elt Bits) _) := by
  refine congrArg Defs.onTc (funext fun l => funext fun a => ?_)
  obtain ⟨l, hl⟩ := l
  cases l with
  | zero => obtain ⟨t, s⟩ := a; rfl
  | succ n => exact absurd hl (by omega)

/-- The frame of the optimiser step of the replicated parameters. -/
theorem frame22 : Cert.quiescent_Kernel22 (hKernel22 := Cert.Kernel22.Gen.facts) := fun m ρ _ => by
  have h := Cert.Kernel22Ideal.Gen.frame (F := Bits) m ρ
  rw [show (Cert.Kernel22Ideal.defs : Defs _ _ _ (Elt Bits) _) = Cert.Kernel22.defs from congrArg (Pipeline.defs Cert.Kernel22Ideal.pcfgs) bodies22.symm] at h
  exact h

/-- The frame of its reference. -/
theorem reference22 : Cert.quiescent_Reference22Ideal (hReference22Ideal := Cert.Reference22Ideal.Gen.facts) := fun m g _ =>
  (θ_run (Cert.Reference22Ideal.defs (F := Ideal)) _ _).mono (fun r h => ⟨fun c => (h c).2.2.2.2, sem_eq_zero_of_no_sems rfl r.2⟩)
    (Cert.Reference22Ideal.Value.run (F := Ideal) m g)

end Cert.FramesStep
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.Gen.Kernel2Ideal.Frame
public import proofs.«01_k».proof.Proof.Gen.Kernel2Ideal.Value
public import proofs.«01_k».proof.Proof.Gen.Kernel2
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal.Frame
public import proofs.«01_k».proof.Proof.Gen.Kernel3Ideal.Value
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel4Ideal.Value
public import proofs.«01_k».proof.Proof.Gen.Kernel4
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5Ideal.Frame
public import proofs.«01_k».proof.Proof.Gen.Kernel5Ideal.Value
public import proofs.«01_k».proof.Proof.Gen.Kernel5
public import proofs.«01_k».proof.Proof.Gen.Reference5Ideal
public import proofs.«01_k».proof.Proof.Gen.Reference5Ideal.Run
public import proofs.«01_k».proof.Proof.Gen.Reference5Ideal.Read
public import proofs.«01_k».proof.Proof.OutProj
public import proofs.«01_k».proof.Proof.Frames
public import proofs.«01_k».proof.Proof.GradWOut
public import proofs.«01_k».proof.Proof.DY
public import proofs.«01_k».proof.Proof.DH
public import proofs.«01_k».proof.Proof.Gen.Pre_slabs_exist6
public import proofs.«01_k».proof.Proof.Gen.Pre_slabs_exist7
public import proofs.«01_k».proof.Proof.Gen.Pre_slabs_exist8
public import proofs.«01_k».proof.Proof.Gen.Pre_slabs_exist9
public import proofs.«01_k».proof.Proof.Gen.Pre_slabs_exist10
public import proofs.«01_k».proof.Proof.Gen.Pre_slabs_exist11
public import proofs.«01_k».proof.Proof.Gen.Pre_slabs_exist12
public import Idealize.ShloMosaic.Lib.Quiescent
public import Idealize.ShloMosaic.Adequacy
public import Idealize.ShloMosaic.Init
public import proofs.«01_k».proof.Proof.FramesSlabs
public import proofs.«01_k».proof.Proof.FramesRest
public import proofs.«01_k».proof.Proof.GradPoolW
public import proofs.«01_k».proof.Proof.Prenorm
public import proofs.«01_k».proof.Proof.PoolGate
public import proofs.«01_k».proof.Proof.Post
public import proofs.«01_k».proof.Proof.Gen.Pre_finite15
public import proofs.«01_k».proof.Proof.AdaBackward
public import proofs.«01_k».proof.Proof.AdaForward
public import proofs.«01_k».proof.Proof.AdamReplicated
public import proofs.«01_k».proof.Proof.FramesStep

@[expose] public section

noncomputable section

namespace Cert.Proof

open Idealize.ShloMosaic Idealize.SL.Sem

/-- The side conditions the precondition's printed text states: its slices, broadcasts and widths fit. -/
theorem preFacts : Cert.Pre_finite.Facts := ⟨by decide, by decide, by decide, by decide, by decide, by decide, by decide⟩

/-- The side conditions the mask's printed text states. -/
theorem onFacts : Cert.On_written.Facts := ⟨by decide, by decide, by decide, by decide⟩

/-- The reference runs, leaves its arguments alone and leaves no semaphore counter set (it has none). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run (Cert.ReferenceIdeal.defs (F := Ideal)) _ _).mono
    (fun r h => ⟨fun c => (h c).2.2.2.2.2, sem_eq_zero_of_no_sems rfl r.2⟩)
    (Cert.ReferenceIdeal.Value.run (F := Ideal) m g)

/-- Each rounded constant that carries a name is the nearest 32-bit float of the real number it names. -/
theorem preserves : Cert.preserves_Kernel_KernelIdeal :=
  ⟨IdealRules.named_const.statement Cert.KernelIdeal.κ "scale_log2_e" .f32 0x3E0293EE#32 (((11863283 / 134217728) * (Real.log 2)⁻¹ : ℝ) : EReal) rfl,
    IdealRules.named_const.statement Cert.KernelIdeal.κ "log2_e" .f32 0x3FB8AA3B#32 (((Real.log 2)⁻¹ : ℝ) : EReal) rfl⟩

/-- The reference of program 2 runs, leaves its arguments alone and leaves no semaphore counter set (it has none). -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
        ∧ r.2.sem = fun _ => 0) :=
  (θ_run (Cert.Reference2Ideal.defs (F := Ideal)) _ _).mono
    (fun r h => ⟨fun c => (h c).2, sem_eq_zero_of_no_sems rfl r.2⟩)
    (Cert.Reference2Ideal.Value.run (F := Ideal) m g)

/-- The reference of program 3 runs, leaves its arguments alone and leaves no semaphore counter set (it has none). -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run (Cert.Reference3Ideal.defs (F := Ideal)) _ _).mono
    (fun r h => ⟨fun c => (h c).2, sem_eq_zero_of_no_sems rfl r.2⟩)
    (Cert.Reference3Ideal.Value.run (F := Ideal) m g)

/-- The reference of program 4 runs, leaves its arguments alone and leaves no semaphore counter set (it has none). -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run (Cert.Reference4Ideal.defs (F := Ideal)) _ _).mono
    (fun r h => ⟨fun c => (h c).2, sem_eq_zero_of_no_sems rfl r.2⟩)
    (Cert.Reference4Ideal.Value.run (F := Ideal) m g)

/-- The reference of program 5 runs, leaves its arguments alone and leaves no semaphore counter set (it has none). -/
theorem reference5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) :=
  (θ_run (Cert.Reference5Ideal.defs (F := Ideal)) _ _).mono
    (fun r h => ⟨fun c => (h c).2, sem_eq_zero_of_no_sems rfl r.2⟩)
    (Cert.Reference5Ideal.Value.run (F := Ideal) m g)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel22.Gen.facts, Cert.Kernel22Ideal.Gen.facts, Cert.Reference22Ideal.Gen.facts,
    preFacts, Cert.Pre_slabs_exist6.Gen.facts, Cert.Pre_slabs_exist7.Gen.facts, Cert.Pre_slabs_exist8.Gen.facts,
    Cert.Pre_slabs_exist9.Gen.facts, Cert.Pre_slabs_exist10.Gen.facts, Cert.Pre_slabs_exist11.Gen.facts, Cert.Pre_slabs_exist12.Gen.facts,
    Cert.Pre_finite15.Gen.facts, Cert.Pre_own_exists19.Gen.facts, Cert.Pre_own_exists20.Gen.facts, Cert.Pre_own_exists21.Gen.facts,
    Cert.Pre_others_exist23.Gen.facts, Cert.Pre_others_exist24.Gen.facts, Cert.Pre_others_exist25.Gen.facts, Cert.Pre_finite22.Gen.facts, onFacts,
    fun m ρ _ => Cert.Kernel.Gen.frame m ρ, fun m ρ _ => Cert.KernelIdeal.Gen.frame m ρ, fun m ρ _ => Cert.KernelIdeal.Gen.frame m ρ,
    fun m g _ => reference_frame m g, fun m g _ => reference_frame m g,
    Cert.Frames.frame2, fun m ρ _ => Cert.Kernel2Ideal.Gen.frame m ρ, fun m g _ => reference2_frame m g,
    Cert.Frames.frame3, fun m ρ _ => Cert.Kernel3Ideal.Gen.frame m ρ, fun m g _ => reference3_frame m g,
    Cert.Frames.frame4, fun m ρ _ => Cert.Kernel4Ideal.Gen.frame m ρ, fun m g _ => reference4_frame m g,
    Cert.Frames.frame5, fun m ρ _ => Cert.Kernel5Ideal.Gen.frame m ρ, fun m g _ => reference5_frame m g,
    Cert.FramesSlabs.frame6, Cert.FramesSlabs.ideal6, Cert.FramesSlabs.reference6,
    Cert.FramesSlabs.frame7, Cert.FramesSlabs.ideal7, Cert.FramesSlabs.reference7,
    Cert.FramesSlabs.frame8, Cert.FramesSlabs.ideal8, Cert.FramesSlabs.reference8,
    Cert.FramesSlabs.frame9, Cert.FramesSlabs.ideal9, Cert.FramesSlabs.reference9,
    Cert.FramesSlabs.frame10, Cert.FramesSlabs.ideal10, Cert.FramesSlabs.reference10,
    Cert.FramesSlabs.frame11, Cert.FramesSlabs.ideal11, Cert.FramesSlabs.reference11,
    Cert.FramesSlabs.frame12, Cert.FramesSlabs.ideal12, Cert.FramesSlabs.reference12,
    Cert.FramesRest.frame13, fun m ρ _ => Cert.Kernel13Ideal.Gen.frame m ρ, fun m g _ => Cert.FramesRest.reference13 m g,
    Cert.FramesRest.frame14, fun m ρ _ => Cert.Kernel14Ideal.Gen.frame m ρ, fun m g _ => Cert.FramesRest.reference14 m g,
    Cert.FramesRest.frame15, fun m ρ _ => Cert.Kernel15Ideal.Gen.frame m ρ, fun m ρ _ => Cert.Kernel15Ideal.Gen.frame m ρ,
    fun m g _ => Cert.FramesRest.reference15 m g, fun m g _ => Cert.FramesRest.reference15 m g,
    Cert.FramesRest.frame16, fun m ρ _ => Cert.Kernel16Ideal.Gen.frame m ρ, fun m g _ => Cert.FramesRest.reference16 m g,
    Cert.FramesStep.frame17, fun m ρ _ => Cert.Kernel17Ideal.Gen.frame m ρ, Cert.FramesStep.reference17,
    Cert.FramesStep.frame18, fun m ρ _ => Cert.Kernel18Ideal.Gen.frame m ρ, Cert.FramesStep.reference18,
    Cert.FramesStep.frame19, Cert.FramesStep.ideal19, Cert.FramesStep.reference19,
    Cert.FramesStep.frame20, Cert.FramesStep.ideal20, Cert.FramesStep.reference20,
    Cert.FramesStep.frame21, Cert.FramesStep.ideal21, Cert.FramesStep.reference21,
    Cert.FramesStep.frame23, Cert.FramesStep.ideal23, Cert.FramesStep.reference23,
    Cert.FramesStep.frame24, Cert.FramesStep.ideal24, Cert.FramesStep.reference24,
    Cert.FramesStep.frame25, Cert.FramesStep.ideal25, Cert.FramesStep.reference25,
    Cert.FramesStep.frame22, fun m ρ _ => Cert.Kernel22Ideal.Gen.frame m ρ, fun m ρ _ => Cert.Kernel22Ideal.Gen.frame m ρ,
    Cert.FramesStep.reference22, fun m g _ => Cert.FramesStep.reference22 m g trivial,
    preserves, @Cert.Att.algebraic preFacts onFacts,
    trivial, Cert.OutProj.algebraic,
    trivial, Cert.GradWOut.algebraic,
    trivial, Cert.DY.algebraic,
    trivial, Cert.DH.algebraic,
    trivial, Cert.GradWInSibling.algebraic,
    trivial, Cert.GradWInOwn.algebraic,
    trivial, Cert.Proj0.algebraic,
    trivial, Cert.Proj1.algebraic,
    trivial, Cert.Proj2.algebraic,
    trivial, Cert.Proj3.algebraic,
    trivial, Cert.Proj4.algebraic,
    trivial, Cert.GradPoolW.algebraic,
    trivial, Cert.Prenorm.algebraic,
    trivial, @Cert.PoolGate.algebraic Cert.Pre_finite15.Gen.facts,
    trivial, Cert.Post.algebraic,
    trivial, Cert.AdaBackward.algebraic,
    trivial, Cert.AdaForward.algebraic,
    trivial, Cert.AdamWIn.algebraic,
    trivial, Cert.AdamWOut.algebraic,
    trivial, Cert.AdamPoolW.algebraic,
    trivial, Cert.PreAddWIn.algebraic,
    trivial, Cert.PreAddWOut.algebraic,
    trivial, Cert.PreAddPoolW.algebraic,
    trivial, Cert.AdamReplicated.algebraic⟩

end Cert.Proof

end
